-- ==== Defs.lean ====
def Pre_Kernel [hPre_perm_is_permutation : Cert.Pre_perm_is_permutation.Facts] (m : (ℓ : Loc Cert.Kernel.nD Cert.Kernel.τ Cert.Kernel.sig) → Buf (Elt Bits) ℓ) : Prop :=
  ∀ c : Dev Cert.Kernel.nD,
    (Cert.Pre_perm_is_permutation.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_perm_is_permutation : Cert.Pre_perm_is_permutation.Facts] (m : (ℓ : Loc Cert.KernelIdeal.nD Cert.KernelIdeal.τ Cert.KernelIdeal.sig) → Buf (Elt Ideal) ℓ) : Prop :=
  ∀ c : Dev Cert.KernelIdeal.nD,
    (Cert.Pre_perm_is_permutation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_perm_is_permutation [hPre_perm_is_permutation : Cert.Pre_perm_is_permutation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_is_permutation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_perm_is_permutation : Cert.Pre_perm_is_permutation.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_perm_is_permutation : Cert.Pre_perm_is_permutation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_perm_is_permutation [hReferenceIdeal : Cert.ReferenceIdeal.Facts] [hPre_perm_is_permutation : Cert.Pre_perm_is_permutation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_is_permutation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_perm_is_permutation : Cert.Pre_perm_is_permutation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_perm_is_permutation : Cert.Pre_perm_is_permutation.Facts),
    quiescent_Kernel (hKernel := hKernel) (hPre_perm_is_permutation := hPre_perm_is_permutation)
    ∧ quiescent_KernelIdeal (hKernelIdeal := hKernelIdeal) (hPre_perm_is_permutation := hPre_perm_is_permutation)
    ∧ quiescent_ReferenceIdeal (hReferenceIdeal := hReferenceIdeal)
    ∧ quiescent_ReferenceIdeal_pre_perm_is_permutation (hReferenceIdeal := hReferenceIdeal) (hPre_perm_is_permutation := hPre_perm_is_permutation)
    ∧ preserves_Kernel_KernelIdeal
    ∧ algebraic_KernelIdeal_ReferenceIdeal (hKernelIdeal := hKernelIdeal) (hReferenceIdeal := hReferenceIdeal) (hPre_perm_is_permutation := hPre_perm_is_permutation)
-- ==== Pre_perm_is_permutation.lean ====
abbrev S4x2048x4096 : Shape := ⟨3, ![4, 2048, 4096]⟩
abbrev S4096 : Shape := ⟨1, ![4096]⟩
abbrev S545x11008 : Shape := ⟨2, ![545, 11008]⟩
abbrev S128x11008 : Shape := ⟨2, ![128, 11008]⟩

class Facts : Prop where

variable [Facts]

def comparator_i32_d0 : BitVec 32 → BitVec 32 → BitVec 1 :=
  fun l r =>
    let v1 := IntOp.cmpi .slt l r
    v1
def fn_sort {F : FTy → Type} [FloatOps F] (arg0 : IVec S4096 32) : IVec S4096 32 :=
  let v0 : IVec S4096 32 := (fun x => Host.sort S4096 0 comparator_i32_d0 x) arg0
  v0

def fn {F : FTy → Type} [FloatOps F] (main_arg0 : FVec F S4x2048x4096 .bf16) (main_arg1 : FVec F S4x2048x4096 .bf16) (main_arg2 : FVec F S4096 .f32) (main_arg3 : IVec S4096 32) (main_arg4 : IVec S545x11008 32) (main_arg5 : FVec F S128x11008 .bf16) : IVec S4096 1 :=
  let main_v0 : IVec S4096 32 := fn_sort (F := F) main_arg3
  let main_v1 : IVec S4096 32 := iotaInDim S4096 32 0
  let main_v2 : IVec S4096 1 := cmpi .eq main_v0 main_v1
  main_v2
-- ==== Kernel.lean ====
abbrev S4x2048x4096 : Shape := ⟨3, ![4, 2048, 4096]⟩
abbrev S4096 : Shape := ⟨1, ![4096]⟩
abbrev S545x11008 : Shape := ⟨2, ![545, 11008]⟩
abbrev S128x11008 : Shape := ⟨2, ![128, 11008]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S1x11008 : Shape := ⟨2, ![1, 11008]⟩
abbrev S_ : Shape := ⟨0, ![]⟩
abbrev S8x11008 : Shape := ⟨2, ![8, 11008]⟩
abbrev S4096x11008 : Shape := ⟨2, ![4096, 11008]⟩
abbrev S4096x1024 : Shape := ⟨2, ![4096, 1024]⟩
abbrev S4416x128 : Shape := ⟨2, ![4416, 128]⟩
abbrev S8x128x128 : Shape := ⟨3, ![8, 128, 128]⟩
abbrev S1024x128 : Shape := ⟨2, ![1024, 128]⟩
abbrev S136x128 : Shape := ⟨2, ![136, 128]⟩
abbrev S1 : Shape := ⟨1, ![1]⟩
abbrev S544x128 : Shape := ⟨2, ![544, 128]⟩
abbrev S8x128 : Shape := ⟨2, ![8, 128]⟩
abbrev S1x128x128 : Shape := ⟨3, ![1, 128, 128]⟩
abbrev S128x128 : Shape := ⟨2, ![128, 128]⟩
abbrev S16x128 : Shape := ⟨2, ![16, 128]⟩
abbrev S8192x11008 : Shape := ⟨2, ![8192, 11008]⟩
abbrev S1024x4096 : Shape := ⟨2, ![1024, 4096]⟩
abbrev S1024x1024 : Shape := ⟨2, ![1024, 1024]⟩
abbrev S4x2048x11008 : Shape := ⟨3, ![4, 2048, 11008]⟩

abbrev nBuf : Space → Nat
  | .hbm => 19
  | .vmem => 21
  | .smem => 2
  | _ => 0

abbrev bufTy : (tb : Table) → Fin (tcTables nBuf tb) → BufTy
  | .hbm, ⟨0, _⟩ => ⟨S4x2048x4096, .bf16⟩
  | .hbm, ⟨1, _⟩ => ⟨S4x2048x4096, .bf16⟩
  | .hbm, ⟨2, _⟩ => ⟨S4096, .f32⟩
  | .hbm, ⟨3, _⟩ => ⟨S4096, .i32⟩
  | .hbm, ⟨4, _⟩ => ⟨S545x11008, .i32⟩
  | .hbm, ⟨5, _⟩ => ⟨S128x11008, .bf16⟩
  | .hbm, ⟨6, _⟩ => ⟨S8192x4096, .bf16⟩
  | .hbm, ⟨7, _⟩ => ⟨S8192x4096, .bf16⟩
  | .hbm, ⟨8, _⟩ => ⟨S1x4096, .f32⟩
  | .hbm, ⟨9, _⟩ => ⟨S8192x4096, .bf16⟩
  | .hbm, ⟨10, _⟩ => ⟨S8192x4096, .bf16⟩
  | .hbm, ⟨11, _⟩ => ⟨S1x11008, .i32⟩
  | .hbm, ⟨12, _⟩ => ⟨S_, .i32⟩
  | .hbm, ⟨13, _⟩ => ⟨S_, .i32⟩
  | .hbm, ⟨14, _⟩ => ⟨S8x11008, .i32⟩
  | .hbm, ⟨15, _⟩ => ⟨S4096x11008, .bf16⟩
  | .hbm, ⟨16, _⟩ => ⟨S8192x11008, .bf16⟩
  | .hbm, ⟨17, _⟩ => ⟨S4x2048x11008, .bf16⟩
  | .hbm, ⟨18, _⟩ => ⟨S4x2048x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S4096x1024, .bf16⟩
  | .local _ .vmem, ⟨10, _⟩ => ⟨S4096x1024, .bf16⟩
  | .local _ .vmem, ⟨11, _⟩ => ⟨S4416x128, .i32⟩
  | .local _ .vmem, ⟨12, _⟩ => ⟨S8x128x128, .bf16⟩
  | .local _ .vmem, ⟨13, _⟩ => ⟨S1024x128, .f32⟩
  | .local _ .vmem, ⟨14, _⟩ => ⟨S136x128, .f32⟩
  | .local _ .vmem, ⟨15, _⟩ => ⟨S1024x4096, .bf16⟩
  | .local _ .vmem, ⟨16, _⟩ => ⟨S1024x4096, .bf16⟩
  | .local _ .vmem, ⟨17, _⟩ => ⟨S4096x1024, .bf16⟩
  | .local _ .vmem, ⟨18, _⟩ => ⟨S4096x1024, .bf16⟩
  | .local _ .vmem, ⟨19, _⟩ => ⟨S1024x1024, .bf16⟩
  | .local _ .vmem, ⟨20, _⟩ => ⟨S1024x1024, .bf16⟩
  | .local _ .smem, ⟨0, _⟩ => ⟨S4096, .i32⟩
  | .local _ .smem, ⟨1, _⟩ => ⟨S4096, .i32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_scratch1 : Ref sig .tc := ⟨.vmem, 11, rfl⟩
abbrev cc1_scratch2 : Ref sig .tc := ⟨.vmem, 12, rfl⟩
abbrev cc1_scratch3 : Ref sig .tc := ⟨.vmem, 13, rfl⟩
abbrev cc1_scratch4 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc1_stg0_0 : Ref sig .tc := ⟨.smem, 0, rfl⟩
abbrev cc1_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![11], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_46 : BitVec 32 := 0#32
  let c5_i32 : BitVec 32 := 5#32
  let v65 : BitVec 32 := Scalar.addi c0_i32_46 c5_i32
  let c1_i32_47 : BitVec 32 := 1#32
  ⟨c0_i32_46, v65, c1_i32_47⟩
def k1_off1 (k1_t1 : Fin k1_t1_loop.trips) : Fin 1 → Nat :=
  let c0_i32_67 : BitVec 32 := 0#32
  let c0_i32_46 : BitVec 32 := 0#32
  let c1_i32_47 : BitVec 32 := 1#32
  let arg12 : BitVec 32 := Scf.iv c0_i32_46 c1_i32_47 k1_t1
  let c32_i32 : BitVec 32 := 32#32
  let v77 : BitVec 32 := Scalar.muli arg12 c32_i32
  let v78 : BitVec 32 := Scalar.addi c0_i32_67 v77
  let c0_i32_68 : BitVec 32 := 0#32
  let v79 : BitVec 32 := Scalar.addi v78 c0_i32_68
  let v80 : Index := Scalar.indexCast v79
  ![v80.toNat]
def k1_off2 (v81 : BitVec 32) : Fin 1 → Nat :=
  let v82 : Index := Scalar.indexCast v81
  ![v82.toNat]

def k1_chk1 (i : grid1.Coords) (v81 : BitVec 32) : Prop :=
  (∀ (k1_h1 : k1_cond1 i = 1#1), ∀ a, (k1_off2 v81) a + S1.size a ≤ S4096.size a)
theorem k1_off2_inb : ∀ (i : grid1.Coords) (v81 : BitVec 32) (k1_hw1 : k1_chk1 i v81), ∀ (k1_h1 : k1_cond1 i = 1#1), ∀ a, (k1_off2 v81) a + S1.size a ≤ S4096.size a := fun i v81 k1_hw1 k1_h1 => k1_hw1 k1_h1

def k1_off3 (k1_t1 : Fin k1_t1_loop.trips) : Fin 1 → Nat :=
  let c0_i32_70 : BitVec 32 := 0#32
  let c0_i32_46 : BitVec 32 := 0#32
  let c1_i32_47 : BitVec 32 := 1#32
  let arg12 : BitVec 32 := Scf.iv c0_i32_46 c1_i32_47 k1_t1
  let c32_i32_69 : BitVec 32 := 32#32
  let v85 : BitVec 32 := Scalar.muli arg12 c32_i32_69
  let v86 : BitVec 32 := Scalar.addi c0_i32_70 v85
  let c1_i32_71 : BitVec 32 := 1#32
  let v87 : BitVec 32 := Scalar.addi v86 c1_i32_71
  let v88 : Index := Scalar.indexCast v87
  ![v88.toNat]
def k1_off4 (v89 : BitVec 32) : Fin 1 → Nat :=
  let v90 : Index := Scalar.indexCast v89
  ![v90.toNat]

def k1_chk2 (i : grid1.Coords) (v89 : BitVec 32) : Prop :=
  (∀ (k1_h1 : k1_cond1 i = 1#1), ∀ a, (k1_off4 v89) a + S1.size a ≤ S4096.size a)
theorem k1_off4_inb : ∀ (i : grid1.Coords) (v89 : BitVec 32) (k1_hw2 : k1_chk2 i v89), ∀ (k1_h1 : k1_cond1 i = 1#1), ∀ a, (k1_off4 v89) a + S1.size a ≤ S4096.size a := fun i v89 k1_hw2 k1_h1 => k1_hw2 k1_h1

def k1_off5 (k1_t1 : Fin k1_t1_loop.trips) : Fin 1 → Nat :=
  let c0_i32_73 : BitVec 32 := 0#32
  let c0_i32_46 : BitVec 32 := 0#32
  let c1_i32_47 : BitVec 32 := 1#32
  let arg12 : BitVec 32 := Scf.iv c0_i32_46 c1_i32_47 k1_t1
  let c32_i32_72 : BitVec 32 := 32#32
  let v93 : BitVec 32 := Scalar.muli arg12 c32_i32_72
  let v94 : BitVec 32 := Scalar.addi c0_i32_73 v93
  let c2_i32 : BitVec 32 := 2#32
  let v95 : BitVec 32 := Scalar.addi v94 c2_i32
  let v96 : Index := Scalar.indexCast v95
  ![v96.toNat]
def k1_off6 (v97 : BitVec 32) : Fin 1 → Nat :=
  let v98 : Index := Scalar.indexCast v97
  ![v98.toNat]

def k1_chk3 (i : grid1.Coords) (v97 : BitVec 32) : Prop :=
  (∀ (k1_h1 : k1_cond1 i = 1#1), ∀ a, (k1_off6 v97) a + S1.size a ≤ S4096.size a)
theorem k1_off6_inb : ∀ (i : grid1.Coords) (v97 : BitVec 32) (k1_hw3 : k1_chk3 i v97), ∀ (k1_h1 : k1_cond1 i = 1#1), ∀ a, (k1_off6 v97) a + S1.size a ≤ S4096.size a := fun i v97 k1_hw3 k1_h1 => k1_hw3 k1_h1

def k1_off7 (k1_t1 : Fin k1_t1_loop.trips) : Fin 1 → Nat :=
  let c0_i32_75 : BitVec 32 := 0#32
  let c0_i32_46 : BitVec 32 := 0#32
  let c1_i32_47 : BitVec 32 := 1#32
  let arg12 : BitVec 32 := Scf.iv c0_i32_46 c1_i32_47 k1_t1
  let c32_i32_74 : BitVec 32 := 32#32
  let v101 : BitVec 32 := Scalar.muli arg12 c32_i32_74
  let v102 : BitVec 32 := Scalar.addi c0_i32_75 v101
  let c3_i32 : BitVec 32 := 3#32
  let v103 : BitVec 32 := Scalar.addi v102 c3_i32
  let v104 : Index := Scalar.indexCast v103
  ![v104.toNat]
def k1_off8 (v105 : BitVec 32) : Fin 1 → Nat :=
  let v106 : Index := Scalar.indexCast v105
  ![v106.toNat]

def k1_chk4 (i : grid1.Coords) (v105 : BitVec 32) : Prop :=
  (∀ (k1_h1 : k1_cond1 i = 1#1), ∀ a, (k1_off8 v105) a + S1.size a ≤ S4096.size a)
theorem k1_off8_inb : ∀ (i : grid1.Coords) (v105 : BitVec 32) (k1_hw4 : k1_chk4 i v105), ∀ (k1_h1 : k1_cond1 i = 1#1), ∀ a, (k1_off8 v105) a + S1.size a ≤ S4096.size a := fun i v105 k1_hw4 k1_h1 => k1_hw4 k1_h1

def k1_off9 (k1_t1 : Fin k1_t1_loop.trips) : Fin 1 → Nat :=
  let c0_i32_77 : BitVec 32 := 0#32
  let c0_i32_46 : BitVec 32 := 0#32
  let c1_i32_47 : BitVec 32 := 1#32
  let arg12 : BitVec 32 := Scf.iv c0_i32_46 c1_i32_47 k1_t1
  let c32_i32_76 : BitVec 32 := 32#32
  let v109 : BitVec 32 := Scalar.muli arg12 c32_i32_76
  let v110 : BitVec 32 := Scalar.addi c0_i32_77 v109
  let c4_i32 : BitVec 32 := 4#32
  let v111 : BitVec 32 := Scalar.addi v110 c4_i32
  let v112 : Index := Scalar.indexCast v111
  ![v112.toNat]
def k1_off10 (v113 : BitVec 32) : Fin 1 → Nat :=
  let v114 : Index := Scalar.indexCast v113
  ![v114.toNat]

def k1_chk5 (i : grid1.Coords) (v113 : BitVec 32) : Prop :=
  (∀ (k1_h1 : k1_cond1 i = 1#1), ∀ a, (k1_off10 v113) a + S1.size a ≤ S4096.size a)
theorem k1_off10_inb : ∀ (i : grid1.Coords) (v113 : BitVec 32) (k1_hw5 : k1_chk5 i v113), ∀ (k1_h1 : k1_cond1 i = 1#1), ∀ a, (k1_off10 v113) a + S1.size a ≤ S4096.size a := fun i v113 k1_hw5 k1_h1 => k1_hw5 k1_h1

def k1_off11 (k1_t1 : Fin k1_t1_loop.trips) : Fin 1 → Nat :=
  let c0_i32_79 : BitVec 32 := 0#32
  let c0_i32_46 : BitVec 32 := 0#32
  let c1_i32_47 : BitVec 32 := 1#32
  let arg12 : BitVec 32 := Scf.iv c0_i32_46 c1_i32_47 k1_t1
  let c32_i32_78 : BitVec 32 := 32#32
  let v117 : BitVec 32 := Scalar.muli arg12 c32_i32_78
  let v118 : BitVec 32 := Scalar.addi c0_i32_79 v117
  let c5_i32_80 : BitVec 32 := 5#32
  let v119 : BitVec 32 := Scalar.addi v118 c5_i32_80
  let v120 : Index := Scalar.indexCast v119
  ![v120.toNat]
def k1_off12 (v121 : BitVec 32) : Fin 1 → Nat :=
  let v122 : Index := Scalar.indexCast v121
  ![v122.toNat]

def k1_chk6 (i : grid1.Coords) (v121 : BitVec 32) : Prop :=
  (∀ (k1_h1 : k1_cond1 i = 1#1), ∀ a, (k1_off12 v121) a + S1.size a ≤ S4096.size a)
theorem k1_off12_inb : ∀ (i : grid1.Coords) (v121 : BitVec 32) (k1_hw6 : k1_chk6 i v121), ∀ (k1_h1 : k1_cond1 i = 1#1), ∀ a, (k1_off12 v121) a + S1.size a ≤ S4096.size a := fun i v121 k1_hw6 k1_h1 => k1_hw6 k1_h1

def k1_off13 (k1_t1 : Fin k1_t1_loop.trips) : Fin 1 → Nat :=
  let c0_i32_82 : BitVec 32 := 0#32
  let c0_i32_46 : BitVec 32 := 0#32
  let c1_i32_47 : BitVec 32 := 1#32
  let arg12 : BitVec 32 := Scf.iv c0_i32_46 c1_i32_47 k1_t1
  let c32_i32_81 : BitVec 32 := 32#32
  let v125 : BitVec 32 := Scalar.muli arg12 c32_i32_81
  let v126 : BitVec 32 := Scalar.addi c0_i32_82 v125
  let c6_i32 : BitVec 32 := 6#32
  let v127 : BitVec 32 := Scalar.addi v126 c6_i32
  let v128 : Index := Scalar.indexCast v127
  ![v128.toNat]
def k1_off14 (v129 : BitVec 32) : Fin 1 → Nat :=
  let v130 : Index := Scalar.indexCast v129
  ![v130.toNat]

def k1_chk7 (i : grid1.Coords) (v129 : BitVec 32) : Prop :=
  (∀ (k1_h1 : k1_cond1 i = 1#1), ∀ a, (k1_off14 v129) a + S1.size a ≤ S4096.size a)
theorem k1_off14_inb : ∀ (i : grid1.Coords) (v129 : BitVec 32) (k1_hw7 : k1_chk7 i v129), ∀ (k1_h1 : k1_cond1 i = 1#1), ∀ a, (k1_off14 v129) a + S1.size a ≤ S4096.size a := fun i v129 k1_hw7 k1_h1 => k1_hw7 k1_h1

def k1_off15 (k1_t1 : Fin k1_t1_loop.trips) : Fin 1 → Nat :=
  let c0_i32_84 : BitVec 32 := 0#32
  let c0_i32_46 : BitVec 32 := 0#32
  let c1_i32_47 : BitVec 32 := 1#32
  let arg12 : BitVec 32 := Scf.iv c0_i32_46 c1_i32_47 k1_t1
  let c32_i32_83 : BitVec 32 := 32#32
  let v133 : BitVec 32 := Scalar.muli arg12 c32_i32_83
  let v134 : BitVec 32 := Scalar.addi c0_i32_84 v133
  let c7_i32 : BitVec 32 := 7#32
  let v135 : BitVec 32 := Scalar.addi v134 c7_i32
  let v136 : Index := Scalar.indexCast v135
  ![v136.toNat]
def k1_off16 (v137 : BitVec 32) : Fin 1 → Nat :=
  let v138 : Index := Scalar.indexCast v137
  ![v138.toNat]

def k1_chk8 (i : grid1.Coords) (v137 : BitVec 32) : Prop :=
  (∀ (k1_h1 : k1_cond1 i = 1#1), ∀ a, (k1_off16 v137) a + S1.size a ≤ S4096.size a)
theorem k1_off16_inb : ∀ (i : grid1.Coords) (v137 : BitVec 32) (k1_hw8 : k1_chk8 i v137), ∀ (k1_h1 : k1_cond1 i = 1#1), ∀ a, (k1_off16 v137) a + S1.size a ≤ S4096.size a := fun i v137 k1_hw8 k1_h1 => k1_hw8 k1_h1

def k1_off17 (k1_t1 : Fin k1_t1_loop.trips) : Fin 1 → Nat :=
  let c0_i32_86 : BitVec 32 := 0#32
  let c0_i32_46 : BitVec 32 := 0#32
  let c1_i32_47 : BitVec 32 := 1#32
  let arg12 : BitVec 32 := Scf.iv c0_i32_46 c1_i32_47 k1_t1
  let c32_i32_85 : BitVec 32 := 32#32
  let v141 : BitVec 32 := Scalar.muli arg12 c32_i32_85
  let v142 : BitVec 32 := Scalar.addi c0_i32_86 v141
  let c8_i32_87 : BitVec 32 := 8#32
  let v143 : BitVec 32 := Scalar.addi v142 c8_i32_87
  let v144 : Index := Scalar.indexCast v143
  ![v144.toNat]
def k1_off18 (v145 : BitVec 32) : Fin 1 → Nat :=
  let v146 : Index := Scalar.indexCast v145
  ![v146.toNat]

def k1_chk9 (i : grid1.Coords) (v145 : BitVec 32) : Prop :=
  (∀ (k1_h1 : k1_cond1 i = 1#1), ∀ a, (k1_off18 v145) a + S1.size a ≤ S4096.size a)
theorem k1_off18_inb : ∀ (i : grid1.Coords) (v145 : BitVec 32) (k1_hw9 : k1_chk9 i v145), ∀ (k1_h1 : k1_cond1 i = 1#1), ∀ a, (k1_off18 v145) a + S1.size a ≤ S4096.size a := fun i v145 k1_hw9 k1_h1 => k1_hw9 k1_h1

def k1_off19 (k1_t1 : Fin k1_t1_loop.trips) : Fin 1 → Nat :=
  let c0_i32_89 : BitVec 32 := 0#32
  let c0_i32_46 : BitVec 32 := 0#32
  let c1_i32_47 : BitVec 32 := 1#32
  let arg12 : BitVec 32 := Scf.iv c0_i32_46 c1_i32_47 k1_t1
  let c32_i32_88 : BitVec 32 := 32#32
  let v149 : BitVec 32 := Scalar.muli arg12 c32_i32_88
  let v150 : BitVec 32 := Scalar.addi c0_i32_89 v149
  let c9_i32_90 : BitVec 32 := 9#32
  let v151 : BitVec 32 := Scalar.addi v150 c9_i32_90
  let v152 : Index := Scalar.indexCast v151
  ![v152.toNat]
def k1_off20 (v153 : BitVec 32) : Fin 1 → Nat :=
  let v154 : Index := Scalar.indexCast v153
  ![v154.toNat]

def k1_chk10 (i : grid1.Coords) (v153 : BitVec 32) : Prop :=
  (∀ (k1_h1 : k1_cond1 i = 1#1), ∀ a, (k1_off20 v153) a + S1.size a ≤ S4096.size a)
theorem k1_off20_inb : ∀ (i : grid1.Coords) (v153 : BitVec 32) (k1_hw10 : k1_chk10 i v153), ∀ (k1_h1 : k1_cond1 i = 1#1), ∀ a, (k1_off20 v153) a + S1.size a ≤ S4096.size a := fun i v153 k1_hw10 k1_h1 => k1_hw10 k1_h1

def k1_off21 (k1_t1 : Fin k1_t1_loop.trips) : Fin 1 → Nat :=
  let c0_i32_92 : BitVec 32 := 0#32
  let c0_i32_46 : BitVec 32 := 0#32
  let c1_i32_47 : BitVec 32 := 1#32
  let arg12 : BitVec 32 := Scf.iv c0_i32_46 c1_i32_47 k1_t1
  let c32_i32_91 : BitVec 32 := 32#32
  let v157 : BitVec 32 := Scalar.muli arg12 c32_i32_91
  let v158 : BitVec 32 := Scalar.addi c0_i32_92 v157
  let c10_i32 : BitVec 32 := 10#32
  let v159 : BitVec 32 := Scalar.addi v158 c10_i32
  let v160 : Index := Scalar.indexCast v159
  ![v160.toNat]
def k1_off22 (v161 : BitVec 32) : Fin 1 → Nat :=
  let v162 : Index := Scalar.indexCast v161
  ![v162.toNat]

def k1_chk11 (i : grid1.Coords) (v161 : BitVec 32) : Prop :=
  (∀ (k1_h1 : k1_cond1 i = 1#1), ∀ a, (k1_off22 v161) a + S1.size a ≤ S4096.size a)
theorem k1_off22_inb : ∀ (i : grid1.Coords) (v161 : BitVec 32) (k1_hw11 : k1_chk11 i v161), ∀ (k1_h1 : k1_cond1 i = 1#1), ∀ a, (k1_off22 v161) a + S1.size a ≤ S4096.size a := fun i v161 k1_hw11 k1_h1 => k1_hw11 k1_h1

def k1_off23 (k1_t1 : Fin k1_t1_loop.trips) : Fin 1 → Nat :=
  let c0_i32_94 : BitVec 32 := 0#32
  let c0_i32_46 : BitVec 32 := 0#32
  let c1_i32_47 : BitVec 32 := 1#32
  let arg12 : BitVec 32 := Scf.iv c0_i32_46 c1_i32_47 k1_t1
  let c32_i32_93 : BitVec 32 := 32#32
  let v165 : BitVec 32 := Scalar.muli arg12 c32_i32_93
  let v166 : BitVec 32 := Scalar.addi c0_i32_94 v165
  let c11_i32 : BitVec 32 := 11#32
  let v167 : BitVec 32 := Scalar.addi v166 c11_i32
  let v168 : Index := Scalar.indexCast v167
  ![v168.toNat]
def k1_off24 (v169 : BitVec 32) : Fin 1 → Nat :=
  let v170 : Index := Scalar.indexCast v169
  ![v170.toNat]

def k1_chk12 (i : grid1.Coords) (v169 : BitVec 32) : Prop :=
  (∀ (k1_h1 : k1_cond1 i = 1#1), ∀ a, (k1_off24 v169) a + S1.size a ≤ S4096.size a)
theorem k1_off24_inb : ∀ (i : grid1.Coords) (v169 : BitVec 32) (k1_hw12 : k1_chk12 i v169), ∀ (k1_h1 : k1_cond1 i = 1#1), ∀ a, (k1_off24 v169) a + S1.size a ≤ S4096.size a := fun i v169 k1_hw12 k1_h1 => k1_hw12 k1_h1

def k1_off25 (k1_t1 : Fin k1_t1_loop.trips) : Fin 1 → Nat :=
  let c0_i32_96 : BitVec 32 := 0#32
  let c0_i32_46 : BitVec 32 := 0#32
  let c1_i32_47 : BitVec 32 := 1#32
  let arg12 : BitVec 32 := Scf.iv c0_i32_46 c1_i32_47 k1_t1
  let c32_i32_95 : BitVec 32 := 32#32
  let v173 : BitVec 32 := Scalar.muli arg12 c32_i32_95
  let v174 : BitVec 32 := Scalar.addi c0_i32_96 v173
  let c12_i32 : BitVec 32 := 12#32
  let v175 : BitVec 32 := Scalar.addi v174 c12_i32
  let v176 : Index := Scalar.indexCast v175
  ![v176.toNat]
def k1_off26 (v177 : BitVec 32) : Fin 1 → Nat :=
  let v178 : Index := Scalar.indexCast v177
  ![v178.toNat]

def k1_chk13 (i : grid1.Coords) (v177 : BitVec 32) : Prop :=
  (∀ (k1_h1 : k1_cond1 i = 1#1), ∀ a, (k1_off26 v177) a + S1.size a ≤ S4096.size a)
theorem k1_off26_inb : ∀ (i : grid1.Coords) (v177 : BitVec 32) (k1_hw13 : k1_chk13 i v177), ∀ (k1_h1 : k1_cond1 i = 1#1), ∀ a, (k1_off26 v177) a + S1.size a ≤ S4096.size a := fun i v177 k1_hw13 k1_h1 => k1_hw13 k1_h1

def k1_off27 (k1_t1 : Fin k1_t1_loop.trips) : Fin 1 → Nat :=
  let c0_i32_98 : BitVec 32 := 0#32
  let c0_i32_46 : BitVec 32 := 0#32
  let c1_i32_47 : BitVec 32 := 1#32
  let arg12 : BitVec 32 := Scf.iv c0_i32_46 c1_i32_47 k1_t1
  let c32_i32_97 : BitVec 32 := 32#32
  let v181 : BitVec 32 := Scalar.muli arg12 c32_i32_97
  let v182 : BitVec 32 := Scalar.addi c0_i32_98 v181
  let c13_i32 : BitVec 32 := 13#32
  let v183 : BitVec 32 := Scalar.addi v182 c13_i32
  let v184 : Index := Scalar.indexCast v183
  ![v184.toNat]
def k1_off28 (v185 : BitVec 32) : Fin 1 → Nat :=
  let v186 : Index := Scalar.indexCast v185
  ![v186.toNat]

def k1_chk14 (i : grid1.Coords) (v185 : BitVec 32) : Prop :=
  (∀ (k1_h1 : k1_cond1 i = 1#1), ∀ a, (k1_off28 v185) a + S1.size a ≤ S4096.size a)
theorem k1_off28_inb : ∀ (i : grid1.Coords) (v185 : BitVec 32) (k1_hw14 : k1_chk14 i v185), ∀ (k1_h1 : k1_cond1 i = 1#1), ∀ a, (k1_off28 v185) a + S1.size a ≤ S4096.size a := fun i v185 k1_hw14 k1_h1 => k1_hw14 k1_h1

def k1_off29 (k1_t1 : Fin k1_t1_loop.trips) : Fin 1 → Nat :=
  let c0_i32_100 : BitVec 32 := 0#32
  let c0_i32_46 : BitVec 32 := 0#32
  let c1_i32_47 : BitVec 32 := 1#32
  let arg12 : BitVec 32 := Scf.iv c0_i32_46 c1_i32_47 k1_t1
  let c32_i32_99 : BitVec 32 := 32#32
  let v189 : BitVec 32 := Scalar.muli arg12 c32_i32_99
  let v190 : BitVec 32 := Scalar.addi c0_i32_100 v189
  let c14_i32 : BitVec 32 := 14#32
  let v191 : BitVec 32 := Scalar.addi v190 c14_i32
  let v192 : Index := Scalar.indexCast v191
  ![v192.toNat]
def k1_off30 (v193 : BitVec 32) : Fin 1 → Nat :=
  let v194 : Index := Scalar.indexCast v193
  ![v194.toNat]

def k1_chk15 (i : grid1.Coords) (v193 : BitVec 32) : Prop :=
  (∀ (k1_h1 : k1_cond1 i = 1#1), ∀ a, (k1_off30 v193) a + S1.size a ≤ S4096.size a)
theorem k1_off30_inb : ∀ (i : grid1.Coords) (v193 : BitVec 32) (k1_hw15 : k1_chk15 i v193), ∀ (k1_h1 : k1_cond1 i = 1#1), ∀ a, (k1_off30 v193) a + S1.size a ≤ S4096.size a := fun i v193 k1_hw15 k1_h1 => k1_hw15 k1_h1

def k1_off31 (k1_t1 : Fin k1_t1_loop.trips) : Fin 1 → Nat :=
  let c0_i32_102 : BitVec 32 := 0#32
  let c0_i32_46 : BitVec 32 := 0#32
  let c1_i32_47 : BitVec 32 := 1#32
  let arg12 : BitVec 32 := Scf.iv c0_i32_46 c1_i32_47 k1_t1
  let c32_i32_101 : BitVec 32 := 32#32
  let v197 : BitVec 32 := Scalar.muli arg12 c32_i32_101
  let v198 : BitVec 32 := Scalar.addi c0_i32_102 v197
  let c15_i32_103 : BitVec 32 := 15#32
  let v199 : BitVec 32 := Scalar.addi v198 c15_i32_103
  let v200 : Index := Scalar.indexCast v199
  ![v200.toNat]
def k1_off32 (v201 : BitVec 32) : Fin 1 → Nat :=
  let v202 : Index := Scalar.indexCast v201
  ![v202.toNat]

def k1_chk16 (i : grid1.Coords) (v201 : BitVec 32) : Prop :=
  (∀ (k1_h1 : k1_cond1 i = 1#1), ∀ a, (k1_off32 v201) a + S1.size a ≤ S4096.size a)
theorem k1_off32_inb : ∀ (i : grid1.Coords) (v201 : BitVec 32) (k1_hw16 : k1_chk16 i v201), ∀ (k1_h1 : k1_cond1 i = 1#1), ∀ a, (k1_off32 v201) a + S1.size a ≤ S4096.size a := fun i v201 k1_hw16 k1_h1 => k1_hw16 k1_h1

def k1_off33 (k1_t1 : Fin k1_t1_loop.trips) : Fin 1 → Nat :=
  let c0_i32_105 : BitVec 32 := 0#32
  let c0_i32_46 : BitVec 32 := 0#32
  let c1_i32_47 : BitVec 32 := 1#32
  let arg12 : BitVec 32 := Scf.iv c0_i32_46 c1_i32_47 k1_t1
  let c32_i32_104 : BitVec 32 := 32#32
  let v205 : BitVec 32 := Scalar.muli arg12 c32_i32_104
  let v206 : BitVec 32 := Scalar.addi c0_i32_105 v205
  let c16_i32 : BitVec 32 := 16#32
  let v207 : BitVec 32 := Scalar.addi v206 c16_i32
  let v208 : Index := Scalar.indexCast v207
  ![v208.toNat]
def k1_off34 (v209 : BitVec 32) : Fin 1 → Nat :=
  let v210 : Index := Scalar.indexCast v209
  ![v210.toNat]

def k1_chk17 (i : grid1.Coords) (v209 : BitVec 32) : Prop :=
  (∀ (k1_h1 : k1_cond1 i = 1#1), ∀ a, (k1_off34 v209) a + S1.size a ≤ S4096.size a)
theorem k1_off34_inb : ∀ (i : grid1.Coords) (v209 : BitVec 32) (k1_hw17 : k1_chk17 i v209), ∀ (k1_h1 : k1_cond1 i = 1#1), ∀ a, (k1_off34 v209) a + S1.size a ≤ S4096.size a := fun i v209 k1_hw17 k1_h1 => k1_hw17 k1_h1

def k1_off35 (k1_t1 : Fin k1_t1_loop.trips) : Fin 1 → Nat :=
  let c0_i32_107 : BitVec 32 := 0#32
  let c0_i32_46 : BitVec 32 := 0#32
  let c1_i32_47 : BitVec 32 := 1#32
  let arg12 : BitVec 32 := Scf.iv c0_i32_46 c1_i32_47 k1_t1
  let c32_i32_106 : BitVec 32 := 32#32
  let v213 : BitVec 32 := Scalar.muli arg12 c32_i32_106
  let v214 : BitVec 32 := Scalar.addi c0_i32_107 v213
  let c17_i32 : BitVec 32 := 17#32
  let v215 : BitVec 32 := Scalar.addi v214 c17_i32
  let v216 : Index := Scalar.indexCast v215
  ![v216.toNat]
def k1_off36 (v217 : BitVec 32) : Fin 1 → Nat :=
  let v218 : Index := Scalar.indexCast v217
  ![v218.toNat]

def k1_chk18 (i : grid1.Coords) (v217 : BitVec 32) : Prop :=
  (∀ (k1_h1 : k1_cond1 i = 1#1), ∀ a, (k1_off36 v217) a + S1.size a ≤ S4096.size a)
theorem k1_off36_inb : ∀ (i : grid1.Coords) (v217 : BitVec 32) (k1_hw18 : k1_chk18 i v217), ∀ (k1_h1 : k1_cond1 i = 1#1), ∀ a, (k1_off36 v217) a + S1.size a ≤ S4096.size a := fun i v217 k1_hw18 k1_h1 => k1_hw18 k1_h1

def k1_off37 (k1_t1 : Fin k1_t1_loop.trips) : Fin 1 → Nat :=
  let c0_i32_109 : BitVec 32 := 0#32
  let c0_i32_46 : BitVec 32 := 0#32
  let c1_i32_47 : BitVec 32 := 1#32
  let arg12 : BitVec 32 := Scf.iv c0_i32_46 c1_i32_47 k1_t1
  let c32_i32_108 : BitVec 32 := 32#32
  let v221 : BitVec 32 := Scalar.muli arg12 c32_i32_108
  let v222 : BitVec 32 := Scalar.addi c0_i32_109 v221
  let c18_i32 : BitVec 32 := 18#32
  let v223 : BitVec 32 := Scalar.addi v222 c18_i32
  let v224 : Index := Scalar.indexCast v223
  ![v224.toNat]
def k1_off38 (v225 : BitVec 32) : Fin 1 → Nat :=
  let v226 : Index := Scalar.indexCast v225
  ![v226.toNat]

def k1_chk19 (i : grid1.Coords) (v225 : BitVec 32) : Prop :=
  (∀ (k1_h1 : k1_cond1 i = 1#1), ∀ a, (k1_off38 v225) a + S1.size a ≤ S4096.size a)
theorem k1_off38_inb : ∀ (i : grid1.Coords) (v225 : BitVec 32) (k1_hw19 : k1_chk19 i v225), ∀ (k1_h1 : k1_cond1 i = 1#1), ∀ a, (k1_off38 v225) a + S1.size a ≤ S4096.size a := fun i v225 k1_hw19 k1_h1 => k1_hw19 k1_h1

def k1_off39 (k1_t1 : Fin k1_t1_loop.trips) : Fin 1 → Nat :=
  let c0_i32_111 : BitVec 32 := 0#32
  let c0_i32_46 : BitVec 32 := 0#32
  let c1_i32_47 : BitVec 32 := 1#32
  let arg12 : BitVec 32 := Scf.iv c0_i32_46 c1_i32_47 k1_t1
  let c32_i32_110 : BitVec 32 := 32#32
  let v229 : BitVec 32 := Scalar.muli arg12 c32_i32_110
  let v230 : BitVec 32 := Scalar.addi c0_i32_111 v229
  let c19_i32 : BitVec 32 := 19#32
  let v231 : BitVec 32 := Scalar.addi v230 c19_i32
  let v232 : Index := Scalar.indexCast v231
  ![v232.toNat]
def k1_off40 (v233 : BitVec 32) : Fin 1 → Nat :=
  let v234 : Index := Scalar.indexCast v233
  ![v234.toNat]

def k1_chk20 (i : grid1.Coords) (v233 : BitVec 32) : Prop :=
  (∀ (k1_h1 : k1_cond1 i = 1#1), ∀ a, (k1_off40 v233) a + S1.size a ≤ S4096.size a)
theorem k1_off40_inb : ∀ (i : grid1.Coords) (v233 : BitVec 32) (k1_hw20 : k1_chk20 i v233), ∀ (k1_h1 : k1_cond1 i = 1#1), ∀ a, (k1_off40 v233) a + S1.size a ≤ S4096.size a := fun i v233 k1_hw20 k1_h1 => k1_hw20 k1_h1

def k1_off41 (k1_t1 : Fin k1_t1_loop.trips) : Fin 1 → Nat :=
  let c0_i32_113 : BitVec 32 := 0#32
  let c0_i32_46 : BitVec 32 := 0#32
  let c1_i32_47 : BitVec 32 := 1#32
  let arg12 : BitVec 32 := Scf.iv c0_i32_46 c1_i32_47 k1_t1
  let c32_i32_112 : BitVec 32 := 32#32
  let v237 : BitVec 32 := Scalar.muli arg12 c32_i32_112
  let v238 : BitVec 32 := Scalar.addi c0_i32_113 v237
  let c20_i32_114 : BitVec 32 := 20#32
  let v239 : BitVec 32 := Scalar.addi v238 c20_i32_114
  let v240 : Index := Scalar.indexCast v239
  ![v240.toNat]
def k1_off42 (v241 : BitVec 32) : Fin 1 → Nat :=
  let v242 : Index := Scalar.indexCast v241
  ![v242.toNat]

def k1_chk21 (i : grid1.Coords) (v241 : BitVec 32) : Prop :=
  (∀ (k1_h1 : k1_cond1 i = 1#1), ∀ a, (k1_off42 v241) a + S1.size a ≤ S4096.size a)
theorem k1_off42_inb : ∀ (i : grid1.Coords) (v241 : BitVec 32) (k1_hw21 : k1_chk21 i v241), ∀ (k1_h1 : k1_cond1 i = 1#1), ∀ a, (k1_off42 v241) a + S1.size a ≤ S4096.size a := fun i v241 k1_hw21 k1_h1 => k1_hw21 k1_h1

def k1_off43 (k1_t1 : Fin k1_t1_loop.trips) : Fin 1 → Nat :=
  let c0_i32_116 : BitVec 32 := 0#32
  let c0_i32_46 : BitVec 32 := 0#32
  let c1_i32_47 : BitVec 32 := 1#32
  let arg12 : BitVec 32 := Scf.iv c0_i32_46 c1_i32_47 k1_t1
  let c32_i32_115 : BitVec 32 := 32#32
  let v245 : BitVec 32 := Scalar.muli arg12 c32_i32_115
  let v246 : BitVec 32 := Scalar.addi c0_i32_116 v245
  let c21_i32 : BitVec 32 := 21#32
  let v247 : BitVec 32 := Scalar.addi v246 c21_i32
  let v248 : Index := Scalar.indexCast v247
  ![v248.toNat]
def k1_off44 (v249 : BitVec 32) : Fin 1 → Nat :=
  let v250 : Index := Scalar.indexCast v249
  ![v250.toNat]

def k1_chk22 (i : grid1.Coords) (v249 : BitVec 32) : Prop :=
  (∀ (k1_h1 : k1_cond1 i = 1#1), ∀ a, (k1_off44 v249) a + S1.size a ≤ S4096.size a)
theorem k1_off44_inb : ∀ (i : grid1.Coords) (v249 : BitVec 32) (k1_hw22 : k1_chk22 i v249), ∀ (k1_h1 : k1_cond1 i = 1#1), ∀ a, (k1_off44 v249) a + S1.size a ≤ S4096.size a := fun i v249 k1_hw22 k1_h1 => k1_hw22 k1_h1

def k1_off45 (k1_t1 : Fin k1_t1_loop.trips) : Fin 1 → Nat :=
  let c0_i32_118 : BitVec 32 := 0#32
  let c0_i32_46 : BitVec 32 := 0#32
  let c1_i32_47 : BitVec 32 := 1#32
  let arg12 : BitVec 32 := Scf.iv c0_i32_46 c1_i32_47 k1_t1
  let c32_i32_117 : BitVec 32 := 32#32
  let v253 : BitVec 32 := Scalar.muli arg12 c32_i32_117
  let v254 : BitVec 32 := Scalar.addi c0_i32_118 v253
  let c22_i32 : BitVec 32 := 22#32
  let v255 : BitVec 32 := Scalar.addi v254 c22_i32
  let v256 : Index := Scalar.indexCast v255
  ![v256.toNat]
def k1_off46 (v257 : BitVec 32) : Fin 1 → Nat :=
  let v258 : Index := Scalar.indexCast v257
  ![v258.toNat]

def k1_chk23 (i : grid1.Coords) (v257 : BitVec 32) : Prop :=
  (∀ (k1_h1 : k1_cond1 i = 1#1), ∀ a, (k1_off46 v257) a + S1.size a ≤ S4096.size a)
theorem k1_off46_inb : ∀ (i : grid1.Coords) (v257 : BitVec 32) (k1_hw23 : k1_chk23 i v257), ∀ (k1_h1 : k1_cond1 i = 1#1), ∀ a, (k1_off46 v257) a + S1.size a ≤ S4096.size a := fun i v257 k1_hw23 k1_h1 => k1_hw23 k1_h1

def k1_off47 (k1_t1 : Fin k1_t1_loop.trips) : Fin 1 → Nat :=
  let c0_i32_120 : BitVec 32 := 0#32
  let c0_i32_46 : BitVec 32 := 0#32
  let c1_i32_47 : BitVec 32 := 1#32
  let arg12 : BitVec 32 := Scf.iv c0_i32_46 c1_i32_47 k1_t1
  let c32_i32_119 : BitVec 32 := 32#32
  let v261 : BitVec 32 := Scalar.muli arg12 c32_i32_119
  let v262 : BitVec 32 := Scalar.addi c0_i32_120 v261
  let c23_i32 : BitVec 32 := 23#32
  let v263 : BitVec 32 := Scalar.addi v262 c23_i32
  let v264 : Index := Scalar.indexCast v263
  ![v264.toNat]
def k1_off48 (v265 : BitVec 32) : Fin 1 → Nat :=
  let v266 : Index := Scalar.indexCast v265
  ![v266.toNat]

def k1_chk24 (i : grid1.Coords) (v265 : BitVec 32) : Prop :=
  (∀ (k1_h1 : k1_cond1 i = 1#1), ∀ a, (k1_off48 v265) a + S1.size a ≤ S4096.size a)
theorem k1_off48_inb : ∀ (i : grid1.Coords) (v265 : BitVec 32) (k1_hw24 : k1_chk24 i v265), ∀ (k1_h1 : k1_cond1 i = 1#1), ∀ a, (k1_off48 v265) a + S1.size a ≤ S4096.size a := fun i v265 k1_hw24 k1_h1 => k1_hw24 k1_h1

def k1_off49 (k1_t1 : Fin k1_t1_loop.trips) : Fin 1 → Nat :=
  let c0_i32_122 : BitVec 32 := 0#32
  let c0_i32_46 : BitVec 32 := 0#32
  let c1_i32_47 : BitVec 32 := 1#32
  let arg12 : BitVec 32 := Scf.iv c0_i32_46 c1_i32_47 k1_t1
  let c32_i32_121 : BitVec 32 := 32#32
  let v269 : BitVec 32 := Scalar.muli arg12 c32_i32_121
  let v270 : BitVec 32 := Scalar.addi c0_i32_122 v269
  let c24_i32 : BitVec 32 := 24#32
  let v271 : BitVec 32 := Scalar.addi v270 c24_i32
  let v272 : Index := Scalar.indexCast v271
  ![v272.toNat]
def k1_off50 (v273 : BitVec 32) : Fin 1 → Nat :=
  let v274 : Index := Scalar.indexCast v273
  ![v274.toNat]

def k1_chk25 (i : grid1.Coords) (v273 : BitVec 32) : Prop :=
  (∀ (k1_h1 : k1_cond1 i = 1#1), ∀ a, (k1_off50 v273) a + S1.size a ≤ S4096.size a)
theorem k1_off50_inb : ∀ (i : grid1.Coords) (v273 : BitVec 32) (k1_hw25 : k1_chk25 i v273), ∀ (k1_h1 : k1_cond1 i = 1#1), ∀ a, (k1_off50 v273) a + S1.size a ≤ S4096.size a := fun i v273 k1_hw25 k1_h1 => k1_hw25 k1_h1

def k1_off51 (k1_t1 : Fin k1_t1_loop.trips) : Fin 1 → Nat :=
  let c0_i32_124 : BitVec 32 := 0#32
  let c0_i32_46 : BitVec 32 := 0#32
  let c1_i32_47 : BitVec 32 := 1#32
  let arg12 : BitVec 32 := Scf.iv c0_i32_46 c1_i32_47 k1_t1
  let c32_i32_123 : BitVec 32 := 32#32
  let v277 : BitVec 32 := Scalar.muli arg12 c32_i32_123
  let v278 : BitVec 32 := Scalar.addi c0_i32_124 v277
  let c25_i32 : BitVec 32 := 25#32
  let v279 : BitVec 32 := Scalar.addi v278 c25_i32
  let v280 : Index := Scalar.indexCast v279
  ![v280.toNat]
def k1_off52 (v281 : BitVec 32) : Fin 1 → Nat :=
  let v282 : Index := Scalar.indexCast v281
  ![v282.toNat]

def k1_chk26 (i : grid1.Coords) (v281 : BitVec 32) : Prop :=
  (∀ (k1_h1 : k1_cond1 i = 1#1), ∀ a, (k1_off52 v281) a + S1.size a ≤ S4096.size a)
theorem k1_off52_inb : ∀ (i : grid1.Coords) (v281 : BitVec 32) (k1_hw26 : k1_chk26 i v281), ∀ (k1_h1 : k1_cond1 i = 1#1), ∀ a, (k1_off52 v281) a + S1.size a ≤ S4096.size a := fun i v281 k1_hw26 k1_h1 => k1_hw26 k1_h1

def k1_off53 (k1_t1 : Fin k1_t1_loop.trips) : Fin 1 → Nat :=
  let c0_i32_126 : BitVec 32 := 0#32
  let c0_i32_46 : BitVec 32 := 0#32
  let c1_i32_47 : BitVec 32 := 1#32
  let arg12 : BitVec 32 := Scf.iv c0_i32_46 c1_i32_47 k1_t1
  let c32_i32_125 : BitVec 32 := 32#32
  let v285 : BitVec 32 := Scalar.muli arg12 c32_i32_125
  let v286 : BitVec 32 := Scalar.addi c0_i32_126 v285
  let c26_i32_127 : BitVec 32 := 26#32
  let v287 : BitVec 32 := Scalar.addi v286 c26_i32_127
  let v288 : Index := Scalar.indexCast v287
  ![v288.toNat]
def k1_off54 (v289 : BitVec 32) : Fin 1 → Nat :=
  let v290 : Index := Scalar.indexCast v289
  ![v290.toNat]

def k1_chk27 (i : grid1.Coords) (v289 : BitVec 32) : Prop :=
  (∀ (k1_h1 : k1_cond1 i = 1#1), ∀ a, (k1_off54 v289) a + S1.size a ≤ S4096.size a)
theorem k1_off54_inb : ∀ (i : grid1.Coords) (v289 : BitVec 32) (k1_hw27 : k1_chk27 i v289), ∀ (k1_h1 : k1_cond1 i = 1#1), ∀ a, (k1_off54 v289) a + S1.size a ≤ S4096.size a := fun i v289 k1_hw27 k1_h1 => k1_hw27 k1_h1

def k1_off55 (k1_t1 : Fin k1_t1_loop.trips) : Fin 1 → Nat :=
  let c0_i32_129 : BitVec 32 := 0#32
  let c0_i32_46 : BitVec 32 := 0#32
  let c1_i32_47 : BitVec 32 := 1#32
  let arg12 : BitVec 32 := Scf.iv c0_i32_46 c1_i32_47 k1_t1
  let c32_i32_128 : BitVec 32 := 32#32
  let v293 : BitVec 32 := Scalar.muli arg12 c32_i32_128
  let v294 : BitVec 32 := Scalar.addi c0_i32_129 v293
  let c27_i32_130 : BitVec 32 := 27#32
  let v295 : BitVec 32 := Scalar.addi v294 c27_i32_130
  let v296 : Index := Scalar.indexCast v295
  ![v296.toNat]
def k1_off56 (v297 : BitVec 32) : Fin 1 → Nat :=
  let v298 : Index := Scalar.indexCast v297
  ![v298.toNat]

def k1_chk28 (i : grid1.Coords) (v297 : BitVec 32) : Prop :=
  (∀ (k1_h1 : k1_cond1 i = 1#1), ∀ a, (k1_off56 v297) a + S1.size a ≤ S4096.size a)
theorem k1_off56_inb : ∀ (i : grid1.Coords) (v297 : BitVec 32) (k1_hw28 : k1_chk28 i v297), ∀ (k1_h1 : k1_cond1 i = 1#1), ∀ a, (k1_off56 v297) a + S1.size a ≤ S4096.size a := fun i v297 k1_hw28 k1_h1 => k1_hw28 k1_h1

def k1_off57 (k1_t1 : Fin k1_t1_loop.trips) : Fin 1 → Nat :=
  let c0_i32_132 : BitVec 32 := 0#32
  let c0_i32_46 : BitVec 32 := 0#32
  let c1_i32_47 : BitVec 32 := 1#32
  let arg12 : BitVec 32 := Scf.iv c0_i32_46 c1_i32_47 k1_t1
  let c32_i32_131 : BitVec 32 := 32#32
  let v301 : BitVec 32 := Scalar.muli arg12 c32_i32_131
  let v302 : BitVec 32 := Scalar.addi c0_i32_132 v301
  let c28_i32 : BitVec 32 := 28#32
  let v303 : BitVec 32 := Scalar.addi v302 c28_i32
  let v304 : Index := Scalar.indexCast v303
  ![v304.toNat]
def k1_off58 (v305 : BitVec 32) : Fin 1 → Nat :=
  let v306 : Index := Scalar.indexCast v305
  ![v306.toNat]

def k1_chk29 (i : grid1.Coords) (v305 : BitVec 32) : Prop :=
  (∀ (k1_h1 : k1_cond1 i = 1#1), ∀ a, (k1_off58 v305) a + S1.size a ≤ S4096.size a)
theorem k1_off58_inb : ∀ (i : grid1.Coords) (v305 : BitVec 32) (k1_hw29 : k1_chk29 i v305), ∀ (k1_h1 : k1_cond1 i = 1#1), ∀ a, (k1_off58 v305) a + S1.size a ≤ S4096.size a := fun i v305 k1_hw29 k1_h1 => k1_hw29 k1_h1

def k1_off59 (k1_t1 : Fin k1_t1_loop.trips) : Fin 1 → Nat :=
  let c0_i32_134 : BitVec 32 := 0#32
  let c0_i32_46 : BitVec 32 := 0#32
  let c1_i32_47 : BitVec 32 := 1#32
  let arg12 : BitVec 32 := Scf.iv c0_i32_46 c1_i32_47 k1_t1
  let c32_i32_133 : BitVec 32 := 32#32
  let v309 : BitVec 32 := Scalar.muli arg12 c32_i32_133
  let v310 : BitVec 32 := Scalar.addi c0_i32_134 v309
  let c29_i32 : BitVec 32 := 29#32
  let v311 : BitVec 32 := Scalar.addi v310 c29_i32
  let v312 : Index := Scalar.indexCast v311
  ![v312.toNat]
def k1_off60 (v313 : BitVec 32) : Fin 1 → Nat :=
  let v314 : Index := Scalar.indexCast v313
  ![v314.toNat]

def k1_chk30 (i : grid1.Coords) (v313 : BitVec 32) : Prop :=
  (∀ (k1_h1 : k1_cond1 i = 1#1), ∀ a, (k1_off60 v313) a + S1.size a ≤ S4096.size a)
theorem k1_off60_inb : ∀ (i : grid1.Coords) (v313 : BitVec 32) (k1_hw30 : k1_chk30 i v313), ∀ (k1_h1 : k1_cond1 i = 1#1), ∀ a, (k1_off60 v313) a + S1.size a ≤ S4096.size a := fun i v313 k1_hw30 k1_h1 => k1_hw30 k1_h1

def k1_off61 (k1_t1 : Fin k1_t1_loop.trips) : Fin 1 → Nat :=
  let c0_i32_136 : BitVec 32 := 0#32
  let c0_i32_46 : BitVec 32 := 0#32
  let c1_i32_47 : BitVec 32 := 1#32
  let arg12 : BitVec 32 := Scf.iv c0_i32_46 c1_i32_47 k1_t1
  let c32_i32_135 : BitVec 32 := 32#32
  let v317 : BitVec 32 := Scalar.muli arg12 c32_i32_135
  let v318 : BitVec 32 := Scalar.addi c0_i32_136 v317
  let c30_i32 : BitVec 32 := 30#32
  let v319 : BitVec 32 := Scalar.addi v318 c30_i32
  let v320 : Index := Scalar.indexCast v319
  ![v320.toNat]
def k1_off62 (v321 : BitVec 32) : Fin 1 → Nat :=
  let v322 : Index := Scalar.indexCast v321
  ![v322.toNat]

def k1_chk31 (i : grid1.Coords) (v321 : BitVec 32) : Prop :=
  (∀ (k1_h1 : k1_cond1 i = 1#1), ∀ a, (k1_off62 v321) a + S1.size a ≤ S4096.size a)
theorem k1_off62_inb : ∀ (i : grid1.Coords) (v321 : BitVec 32) (k1_hw31 : k1_chk31 i v321), ∀ (k1_h1 : k1_cond1 i = 1#1), ∀ a, (k1_off62 v321) a + S1.size a ≤ S4096.size a := fun i v321 k1_hw31 k1_h1 => k1_hw31 k1_h1

def k1_off63 (k1_t1 : Fin k1_t1_loop.trips) : Fin 1 → Nat :=
  let c0_i32_138 : BitVec 32 := 0#32
  let c0_i32_46 : BitVec 32 := 0#32
  let c1_i32_47 : BitVec 32 := 1#32
  let arg12 : BitVec 32 := Scf.iv c0_i32_46 c1_i32_47 k1_t1
  let c32_i32_137 : BitVec 32 := 32#32
  let v325 : BitVec 32 := Scalar.muli arg12 c32_i32_137
  let v326 : BitVec 32 := Scalar.addi c0_i32_138 v325
  let c31_i32 : BitVec 32 := 31#32
  let v327 : BitVec 32 := Scalar.addi v326 c31_i32
  let v328 : Index := Scalar.indexCast v327
  ![v328.toNat]
def k1_off64 (v329 : BitVec 32) : Fin 1 → Nat :=
  let v330 : Index := Scalar.indexCast v329
  ![v330.toNat]

def k1_chk32 (i : grid1.Coords) (v329 : BitVec 32) : Prop :=
  (∀ (k1_h1 : k1_cond1 i = 1#1), ∀ a, (k1_off64 v329) a + S1.size a ≤ S4096.size a)
theorem k1_off64_inb : ∀ (i : grid1.Coords) (v329 : BitVec 32) (k1_hw32 : k1_chk32 i v329), ∀ (k1_h1 : k1_cond1 i = 1#1), ∀ a, (k1_off64 v329) a + S1.size a ≤ S4096.size a := fun i v329 k1_hw32 k1_h1 => k1_hw32 k1_h1

@[reducible] def k1_t2_loop : Scf.Loop 32 :=
  let c0_i32_49 : BitVec 32 := 0#32
  let c15_i32 : BitVec 32 := 15#32
  let v66 : BitVec 32 := Scalar.addi c0_i32_49 c15_i32
  let c1_i32_50 : BitVec 32 := 1#32
  ⟨c0_i32_49, v66, c1_i32_50⟩
def k1_off65 (k1_t2 : Fin k1_t2_loop.trips) : Fin 1 → Nat :=
  let c160_i32 : BitVec 32 := 160#32
  let c0_i32_49 : BitVec 32 := 0#32
  let c1_i32_50 : BitVec 32 := 1#32
  let arg12 : BitVec 32 := Scf.iv c0_i32_49 c1_i32_50 k1_t2
  let c32_i32 : BitVec 32 := 32#32
  let v77 : BitVec 32 := Scalar.muli arg12 c32_i32
  let v78 : BitVec 32 := Scalar.addi c160_i32 v77
  let c0_i32_65 : BitVec 32 := 0#32
  let v79 : BitVec 32 := Scalar.addi v78 c0_i32_65
  let v80 : Index := Scalar.indexCast v79
  ![v80.toNat]
def k1_off66 (v81 : BitVec 32) : Fin 1 → Nat :=
  let v82 : Index := Scalar.indexCast v81
  ![v82.toNat]

def k1_chk33 (i : grid1.Coords) (v81 : BitVec 32) : Prop :=
  (∀ (k1_h1 : k1_cond1 i = 1#1), ∀ a, (k1_off66 v81) a + S1.size a ≤ S4096.size a)
theorem k1_off66_inb : ∀ (i : grid1.Coords) (v81 : BitVec 32) (k1_hw33 : k1_chk33 i v81), ∀ (k1_h1 : k1_cond1 i = 1#1), ∀ a, (k1_off66 v81) a + S1.size a ≤ S4096.size a := fun i v81 k1_hw33 k1_h1 => k1_hw33 k1_h1

def k1_off67 (k1_t2 : Fin k1_t2_loop.trips) : Fin 1 → Nat :=
  let c160_i32_67 : BitVec 32 := 160#32
  let c0_i32_49 : BitVec 32 := 0#32
  let c1_i32_50 : BitVec 32 := 1#32
  let arg12 : BitVec 32 := Scf.iv c0_i32_49 c1_i32_50 k1_t2
  let c32_i32_66 : BitVec 32 := 32#32
  let v85 : BitVec 32 := Scalar.muli arg12 c32_i32_66
  let v86 : BitVec 32 := Scalar.addi c160_i32_67 v85
  let c1_i32_68 : BitVec 32 := 1#32
  let v87 : BitVec 32 := Scalar.addi v86 c1_i32_68
  let v88 : Index := Scalar.indexCast v87
  ![v88.toNat]
def k1_off68 (v89 : BitVec 32) : Fin 1 → Nat :=
  let v90 : Index := Scalar.indexCast v89
  ![v90.toNat]

def k1_chk34 (i : grid1.Coords) (v89 : BitVec 32) : Prop :=
  (∀ (k1_h1 : k1_cond1 i = 1#1), ∀ a, (k1_off68 v89) a + S1.size a ≤ S4096.size a)
theorem k1_off68_inb : ∀ (i : grid1.Coords) (v89 : BitVec 32) (k1_hw34 : k1_chk34 i v89), ∀ (k1_h1 : k1_cond1 i = 1#1), ∀ a, (k1_off68 v89) a + S1.size a ≤ S4096.size a := fun i v89 k1_hw34 k1_h1 => k1_hw34 k1_h1

def k1_off69 (k1_t2 : Fin k1_t2_loop.trips) : Fin 1 → Nat :=
  let c160_i32_70 : BitVec 32 := 160#32
  let c0_i32_49 : BitVec 32 := 0#32
  let c1_i32_50 : BitVec 32 := 1#32
  let arg12 : BitVec 32 := Scf.iv c0_i32_49 c1_i32_50 k1_t2
  let c32_i32_69 : BitVec 32 := 32#32
  let v93 : BitVec 32 := Scalar.muli arg12 c32_i32_69
  let v94 : BitVec 32 := Scalar.addi c160_i32_70 v93
  let c2_i32 : BitVec 32 := 2#32
  let v95 : BitVec 32 := Scalar.addi v94 c2_i32
  let v96 : Index := Scalar.indexCast v95
  ![v96.toNat]
def k1_off70 (v97 : BitVec 32) : Fin 1 → Nat :=
  let v98 : Index := Scalar.indexCast v97
  ![v98.toNat]

def k1_chk35 (i : grid1.Coords) (v97 : BitVec 32) : Prop :=
  (∀ (k1_h1 : k1_cond1 i = 1#1), ∀ a, (k1_off70 v97) a + S1.size a ≤ S4096.size a)
theorem k1_off70_inb : ∀ (i : grid1.Coords) (v97 : BitVec 32) (k1_hw35 : k1_chk35 i v97), ∀ (k1_h1 : k1_cond1 i = 1#1), ∀ a, (k1_off70 v97) a + S1.size a ≤ S4096.size a := fun i v97 k1_hw35 k1_h1 => k1_hw35 k1_h1

def k1_off71 (k1_t2 : Fin k1_t2_loop.trips) : Fin 1 → Nat :=
  let c160_i32_72 : BitVec 32 := 160#32
  let c0_i32_49 : BitVec 32 := 0#32
  let c1_i32_50 : BitVec 32 := 1#32
  let arg12 : BitVec 32 := Scf.iv c0_i32_49 c1_i32_50 k1_t2
  let c32_i32_71 : BitVec 32 := 32#32
  let v101 : BitVec 32 := Scalar.muli arg12 c32_i32_71
  let v102 : BitVec 32 := Scalar.addi c160_i32_72 v101
  let c3_i32 : BitVec 32 := 3#32
  let v103 : BitVec 32 := Scalar.addi v102 c3_i32
  let v104 : Index := Scalar.indexCast v103
  ![v104.toNat]
def k1_off72 (v105 : BitVec 32) : Fin 1 → Nat :=
  let v106 : Index := Scalar.indexCast v105
  ![v106.toNat]

def k1_chk36 (i : grid1.Coords) (v105 : BitVec 32) : Prop :=
  (∀ (k1_h1 : k1_cond1 i = 1#1), ∀ a, (k1_off72 v105) a + S1.size a ≤ S4096.size a)
theorem k1_off72_inb : ∀ (i : grid1.Coords) (v105 : BitVec 32) (k1_hw36 : k1_chk36 i v105), ∀ (k1_h1 : k1_cond1 i = 1#1), ∀ a, (k1_off72 v105) a + S1.size a ≤ S4096.size a := fun i v105 k1_hw36 k1_h1 => k1_hw36 k1_h1

def k1_off73 (k1_t2 : Fin k1_t2_loop.trips) : Fin 1 → Nat :=
  let c160_i32_74 : BitVec 32 := 160#32
  let c0_i32_49 : BitVec 32 := 0#32
  let c1_i32_50 : BitVec 32 := 1#32
  let arg12 : BitVec 32 := Scf.iv c0_i32_49 c1_i32_50 k1_t2
  let c32_i32_73 : BitVec 32 := 32#32
  let v109 : BitVec 32 := Scalar.muli arg12 c32_i32_73
  let v110 : BitVec 32 := Scalar.addi c160_i32_74 v109
  let c4_i32 : BitVec 32 := 4#32
  let v111 : BitVec 32 := Scalar.addi v110 c4_i32
  let v112 : Index := Scalar.indexCast v111
  ![v112.toNat]
def k1_off74 (v113 : BitVec 32) : Fin 1 → Nat :=
  let v114 : Index := Scalar.indexCast v113
  ![v114.toNat]

def k1_chk37 (i : grid1.Coords) (v113 : BitVec 32) : Prop :=
  (∀ (k1_h1 : k1_cond1 i = 1#1), ∀ a, (k1_off74 v113) a + S1.size a ≤ S4096.size a)
theorem k1_off74_inb : ∀ (i : grid1.Coords) (v113 : BitVec 32) (k1_hw37 : k1_chk37 i v113), ∀ (k1_h1 : k1_cond1 i = 1#1), ∀ a, (k1_off74 v113) a + S1.size a ≤ S4096.size a := fun i v113 k1_hw37 k1_h1 => k1_hw37 k1_h1

def k1_off75 (k1_t2 : Fin k1_t2_loop.trips) : Fin 1 → Nat :=
  let c160_i32_76 : BitVec 32 := 160#32
  let c0_i32_49 : BitVec 32 := 0#32
  let c1_i32_50 : BitVec 32 := 1#32
  let arg12 : BitVec 32 := Scf.iv c0_i32_49 c1_i32_50 k1_t2
  let c32_i32_75 : BitVec 32 := 32#32
  let v117 : BitVec 32 := Scalar.muli arg12 c32_i32_75
  let v118 : BitVec 32 := Scalar.addi c160_i32_76 v117
  let c5_i32_77 : BitVec 32 := 5#32
  let v119 : BitVec 32 := Scalar.addi v118 c5_i32_77
  let v120 : Index := Scalar.indexCast v119
  ![v120.toNat]
def k1_off76 (v121 : BitVec 32) : Fin 1 → Nat :=
  let v122 : Index := Scalar.indexCast v121
  ![v122.toNat]

def k1_chk38 (i : grid1.Coords) (v121 : BitVec 32) : Prop :=
  (∀ (k1_h1 : k1_cond1 i = 1#1), ∀ a, (k1_off76 v121) a + S1.size a ≤ S4096.size a)
theorem k1_off76_inb : ∀ (i : grid1.Coords) (v121 : BitVec 32) (k1_hw38 : k1_chk38 i v121), ∀ (k1_h1 : k1_cond1 i = 1#1), ∀ a, (k1_off76 v121) a + S1.size a ≤ S4096.size a := fun i v121 k1_hw38 k1_h1 => k1_hw38 k1_h1

def k1_off77 (k1_t2 : Fin k1_t2_loop.trips) : Fin 1 → Nat :=
  let c160_i32_79 : BitVec 32 := 160#32
  let c0_i32_49 : BitVec 32 := 0#32
  let c1_i32_50 : BitVec 32 := 1#32
  let arg12 : BitVec 32 := Scf.iv c0_i32_49 c1_i32_50 k1_t2
  let c32_i32_78 : BitVec 32 := 32#32
  let v125 : BitVec 32 := Scalar.muli arg12 c32_i32_78
  let v126 : BitVec 32 := Scalar.addi c160_i32_79 v125
  let c6_i32_80 : BitVec 32 := 6#32
  let v127 : BitVec 32 := Scalar.addi v126 c6_i32_80
  let v128 : Index := Scalar.indexCast v127
  ![v128.toNat]
def k1_off78 (v129 : BitVec 32) : Fin 1 → Nat :=
  let v130 : Index := Scalar.indexCast v129
  ![v130.toNat]

def k1_chk39 (i : grid1.Coords) (v129 : BitVec 32) : Prop :=
  (∀ (k1_h1 : k1_cond1 i = 1#1), ∀ a, (k1_off78 v129) a + S1.size a ≤ S4096.size a)
theorem k1_off78_inb : ∀ (i : grid1.Coords) (v129 : BitVec 32) (k1_hw39 : k1_chk39 i v129), ∀ (k1_h1 : k1_cond1 i = 1#1), ∀ a, (k1_off78 v129) a + S1.size a ≤ S4096.size a := fun i v129 k1_hw39 k1_h1 => k1_hw39 k1_h1

def k1_off79 (k1_t2 : Fin k1_t2_loop.trips) : Fin 1 → Nat :=
  let c160_i32_82 : BitVec 32 := 160#32
  let c0_i32_49 : BitVec 32 := 0#32
  let c1_i32_50 : BitVec 32 := 1#32
  let arg12 : BitVec 32 := Scf.iv c0_i32_49 c1_i32_50 k1_t2
  let c32_i32_81 : BitVec 32 := 32#32
  let v133 : BitVec 32 := Scalar.muli arg12 c32_i32_81
  let v134 : BitVec 32 := Scalar.addi c160_i32_82 v133
  let c7_i32 : BitVec 32 := 7#32
  let v135 : BitVec 32 := Scalar.addi v134 c7_i32
  let v136 : Index := Scalar.indexCast v135
  ![v136.toNat]
def k1_off80 (v137 : BitVec 32) : Fin 1 → Nat :=
  let v138 : Index := Scalar.indexCast v137
  ![v138.toNat]

def k1_chk40 (i : grid1.Coords) (v137 : BitVec 32) : Prop :=
  (∀ (k1_h1 : k1_cond1 i = 1#1), ∀ a, (k1_off80 v137) a + S1.size a ≤ S4096.size a)
theorem k1_off80_inb : ∀ (i : grid1.Coords) (v137 : BitVec 32) (k1_hw40 : k1_chk40 i v137), ∀ (k1_h1 : k1_cond1 i = 1#1), ∀ a, (k1_off80 v137) a + S1.size a ≤ S4096.size a := fun i v137 k1_hw40 k1_h1 => k1_hw40 k1_h1

def k1_off81 (k1_t2 : Fin k1_t2_loop.trips) : Fin 1 → Nat :=
  let c160_i32_84 : BitVec 32 := 160#32
  let c0_i32_49 : BitVec 32 := 0#32
  let c1_i32_50 : BitVec 32 := 1#32
  let arg12 : BitVec 32 := Scf.iv c0_i32_49 c1_i32_50 k1_t2
  let c32_i32_83 : BitVec 32 := 32#32
  let v141 : BitVec 32 := Scalar.muli arg12 c32_i32_83
  let v142 : BitVec 32 := Scalar.addi c160_i32_84 v141
  let c8_i32_85 : BitVec 32 := 8#32
  let v143 : BitVec 32 := Scalar.addi v142 c8_i32_85
  let v144 : Index := Scalar.indexCast v143
  ![v144.toNat]
def k1_off82 (v145 : BitVec 32) : Fin 1 → Nat :=
  let v146 : Index := Scalar.indexCast v145
  ![v146.toNat]

def k1_chk41 (i : grid1.Coords) (v145 : BitVec 32) : Prop :=
  (∀ (k1_h1 : k1_cond1 i = 1#1), ∀ a, (k1_off82 v145) a + S1.size a ≤ S4096.size a)
theorem k1_off82_inb : ∀ (i : grid1.Coords) (v145 : BitVec 32) (k1_hw41 : k1_chk41 i v145), ∀ (k1_h1 : k1_cond1 i = 1#1), ∀ a, (k1_off82 v145) a + S1.size a ≤ S4096.size a := fun i v145 k1_hw41 k1_h1 => k1_hw41 k1_h1

def k1_off83 (k1_t2 : Fin k1_t2_loop.trips) : Fin 1 → Nat :=
  let c160_i32_87 : BitVec 32 := 160#32
  let c0_i32_49 : BitVec 32 := 0#32
  let c1_i32_50 : BitVec 32 := 1#32
  let arg12 : BitVec 32 := Scf.iv c0_i32_49 c1_i32_50 k1_t2
  let c32_i32_86 : BitVec 32 := 32#32
  let v149 : BitVec 32 := Scalar.muli arg12 c32_i32_86
  let v150 : BitVec 32 := Scalar.addi c160_i32_87 v149
  let c9_i32_88 : BitVec 32 := 9#32
  let v151 : BitVec 32 := Scalar.addi v150 c9_i32_88
  let v152 : Index := Scalar.indexCast v151
  ![v152.toNat]
def k1_off84 (v153 : BitVec 32) : Fin 1 → Nat :=
  let v154 : Index := Scalar.indexCast v153
  ![v154.toNat]

def k1_chk42 (i : grid1.Coords) (v153 : BitVec 32) : Prop :=
  (∀ (k1_h1 : k1_cond1 i = 1#1), ∀ a, (k1_off84 v153) a + S1.size a ≤ S4096.size a)
theorem k1_off84_inb : ∀ (i : grid1.Coords) (v153 : BitVec 32) (k1_hw42 : k1_chk42 i v153), ∀ (k1_h1 : k1_cond1 i = 1#1), ∀ a, (k1_off84 v153) a + S1.size a ≤ S4096.size a := fun i v153 k1_hw42 k1_h1 => k1_hw42 k1_h1

def k1_off85 (k1_t2 : Fin k1_t2_loop.trips) : Fin 1 → Nat :=
  let c160_i32_90 : BitVec 32 := 160#32
  let c0_i32_49 : BitVec 32 := 0#32
  let c1_i32_50 : BitVec 32 := 1#32
  let arg12 : BitVec 32 := Scf.iv c0_i32_49 c1_i32_50 k1_t2
  let c32_i32_89 : BitVec 32 := 32#32
  let v157 : BitVec 32 := Scalar.muli arg12 c32_i32_89
  let v158 : BitVec 32 := Scalar.addi c160_i32_90 v157
  let c10_i32 : BitVec 32 := 10#32
  let v159 : BitVec 32 := Scalar.addi v158 c10_i32
  let v160 : Index := Scalar.indexCast v159
  ![v160.toNat]
def k1_off86 (v161 : BitVec 32) : Fin 1 → Nat :=
  let v162 : Index := Scalar.indexCast v161
  ![v162.toNat]

def k1_chk43 (i : grid1.Coords) (v161 : BitVec 32) : Prop :=
  (∀ (k1_h1 : k1_cond1 i = 1#1), ∀ a, (k1_off86 v161) a + S1.size a ≤ S4096.size a)
theorem k1_off86_inb : ∀ (i : grid1.Coords) (v161 : BitVec 32) (k1_hw43 : k1_chk43 i v161), ∀ (k1_h1 : k1_cond1 i = 1#1), ∀ a, (k1_off86 v161) a + S1.size a ≤ S4096.size a := fun i v161 k1_hw43 k1_h1 => k1_hw43 k1_h1

def k1_off87 (k1_t2 : Fin k1_t2_loop.trips) : Fin 1 → Nat :=
  let c160_i32_92 : BitVec 32 := 160#32
  let c0_i32_49 : BitVec 32 := 0#32
  let c1_i32_50 : BitVec 32 := 1#32
  let arg12 : BitVec 32 := Scf.iv c0_i32_49 c1_i32_50 k1_t2
  let c32_i32_91 : BitVec 32 := 32#32
  let v165 : BitVec 32 := Scalar.muli arg12 c32_i32_91
  let v166 : BitVec 32 := Scalar.addi c160_i32_92 v165
  let c11_i32 : BitVec 32 := 11#32
  let v167 : BitVec 32 := Scalar.addi v166 c11_i32
  let v168 : Index := Scalar.indexCast v167
  ![v168.toNat]
def k1_off88 (v169 : BitVec 32) : Fin 1 → Nat :=
  let v170 : Index := Scalar.indexCast v169
  ![v170.toNat]

def k1_chk44 (i : grid1.Coords) (v169 : BitVec 32) : Prop :=
  (∀ (k1_h1 : k1_cond1 i = 1#1), ∀ a, (k1_off88 v169) a + S1.size a ≤ S4096.size a)
theorem k1_off88_inb : ∀ (i : grid1.Coords) (v169 : BitVec 32) (k1_hw44 : k1_chk44 i v169), ∀ (k1_h1 : k1_cond1 i = 1#1), ∀ a, (k1_off88 v169) a + S1.size a ≤ S4096.size a := fun i v169 k1_hw44 k1_h1 => k1_hw44 k1_h1

def k1_off89 (k1_t2 : Fin k1_t2_loop.trips) : Fin 1 → Nat :=
  let c160_i32_94 : BitVec 32 := 160#32
  let c0_i32_49 : BitVec 32 := 0#32
  let c1_i32_50 : BitVec 32 := 1#32
  let arg12 : BitVec 32 := Scf.iv c0_i32_49 c1_i32_50 k1_t2
  let c32_i32_93 : BitVec 32 := 32#32
  let v173 : BitVec 32 := Scalar.muli arg12 c32_i32_93
  let v174 : BitVec 32 := Scalar.addi c160_i32_94 v173
  let c12_i32 : BitVec 32 := 12#32
  let v175 : BitVec 32 := Scalar.addi v174 c12_i32
  let v176 : Index := Scalar.indexCast v175
  ![v176.toNat]
def k1_off90 (v177 : BitVec 32) : Fin 1 → Nat :=
  let v178 : Index := Scalar.indexCast v177
  ![v178.toNat]

def k1_chk45 (i : grid1.Coords) (v177 : BitVec 32) : Prop :=
  (∀ (k1_h1 : k1_cond1 i = 1#1), ∀ a, (k1_off90 v177) a + S1.size a ≤ S4096.size a)
theorem k1_off90_inb : ∀ (i : grid1.Coords) (v177 : BitVec 32) (k1_hw45 : k1_chk45 i v177), ∀ (k1_h1 : k1_cond1 i = 1#1), ∀ a, (k1_off90 v177) a + S1.size a ≤ S4096.size a := fun i v177 k1_hw45 k1_h1 => k1_hw45 k1_h1

def k1_off91 (k1_t2 : Fin k1_t2_loop.trips) : Fin 1 → Nat :=
  let c160_i32_96 : BitVec 32 := 160#32
  let c0_i32_49 : BitVec 32 := 0#32
  let c1_i32_50 : BitVec 32 := 1#32
  let arg12 : BitVec 32 := Scf.iv c0_i32_49 c1_i32_50 k1_t2
  let c32_i32_95 : BitVec 32 := 32#32
  let v181 : BitVec 32 := Scalar.muli arg12 c32_i32_95
  let v182 : BitVec 32 := Scalar.addi c160_i32_96 v181
  let c13_i32 : BitVec 32 := 13#32
  let v183 : BitVec 32 := Scalar.addi v182 c13_i32
  let v184 : Index := Scalar.indexCast v183
  ![v184.toNat]
def k1_off92 (v185 : BitVec 32) : Fin 1 → Nat :=
  let v186 : Index := Scalar.indexCast v185
  ![v186.toNat]

def k1_chk46 (i : grid1.Coords) (v185 : BitVec 32) : Prop :=
  (∀ (k1_h1 : k1_cond1 i = 1#1), ∀ a, (k1_off92 v185) a + S1.size a ≤ S4096.size a)
theorem k1_off92_inb : ∀ (i : grid1.Coords) (v185 : BitVec 32) (k1_hw46 : k1_chk46 i v185), ∀ (k1_h1 : k1_cond1 i = 1#1), ∀ a, (k1_off92 v185) a + S1.size a ≤ S4096.size a := fun i v185 k1_hw46 k1_h1 => k1_hw46 k1_h1

def k1_off93 (k1_t2 : Fin k1_t2_loop.trips) : Fin 1 → Nat :=
  let c160_i32_98 : BitVec 32 := 160#32
  let c0_i32_49 : BitVec 32 := 0#32
  let c1_i32_50 : BitVec 32 := 1#32
  let arg12 : BitVec 32 := Scf.iv c0_i32_49 c1_i32_50 k1_t2
  let c32_i32_97 : BitVec 32 := 32#32
  let v189 : BitVec 32 := Scalar.muli arg12 c32_i32_97
  let v190 : BitVec 32 := Scalar.addi c160_i32_98 v189
  let c14_i32 : BitVec 32 := 14#32
  let v191 : BitVec 32 := Scalar.addi v190 c14_i32
  let v192 : Index := Scalar.indexCast v191
  ![v192.toNat]
def k1_off94 (v193 : BitVec 32) : Fin 1 → Nat :=
  let v194 : Index := Scalar.indexCast v193
  ![v194.toNat]

def k1_chk47 (i : grid1.Coords) (v193 : BitVec 32) : Prop :=
  (∀ (k1_h1 : k1_cond1 i = 1#1), ∀ a, (k1_off94 v193) a + S1.size a ≤ S4096.size a)
theorem k1_off94_inb : ∀ (i : grid1.Coords) (v193 : BitVec 32) (k1_hw47 : k1_chk47 i v193), ∀ (k1_h1 : k1_cond1 i = 1#1), ∀ a, (k1_off94 v193) a + S1.size a ≤ S4096.size a := fun i v193 k1_hw47 k1_h1 => k1_hw47 k1_h1

def k1_off95 (k1_t2 : Fin k1_t2_loop.trips) : Fin 1 → Nat :=
  let c160_i32_100 : BitVec 32 := 160#32
  let c0_i32_49 : BitVec 32 := 0#32
  let c1_i32_50 : BitVec 32 := 1#32
  let arg12 : BitVec 32 := Scf.iv c0_i32_49 c1_i32_50 k1_t2
  let c32_i32_99 : BitVec 32 := 32#32
  let v197 : BitVec 32 := Scalar.muli arg12 c32_i32_99
  let v198 : BitVec 32 := Scalar.addi c160_i32_100 v197
  let c15_i32_101 : BitVec 32 := 15#32
  let v199 : BitVec 32 := Scalar.addi v198 c15_i32_101
  let v200 : Index := Scalar.indexCast v199
  ![v200.toNat]
def k1_off96 (v201 : BitVec 32) : Fin 1 → Nat :=
  let v202 : Index := Scalar.indexCast v201
  ![v202.toNat]

def k1_chk48 (i : grid1.Coords) (v201 : BitVec 32) : Prop :=
  (∀ (k1_h1 : k1_cond1 i = 1#1), ∀ a, (k1_off96 v201) a + S1.size a ≤ S4096.size a)
theorem k1_off96_inb : ∀ (i : grid1.Coords) (v201 : BitVec 32) (k1_hw48 : k1_chk48 i v201), ∀ (k1_h1 : k1_cond1 i = 1#1), ∀ a, (k1_off96 v201) a + S1.size a ≤ S4096.size a := fun i v201 k1_hw48 k1_h1 => k1_hw48 k1_h1

def k1_off97 (k1_t2 : Fin k1_t2_loop.trips) : Fin 1 → Nat :=
  let c160_i32_103 : BitVec 32 := 160#32
  let c0_i32_49 : BitVec 32 := 0#32
  let c1_i32_50 : BitVec 32 := 1#32
  let arg12 : BitVec 32 := Scf.iv c0_i32_49 c1_i32_50 k1_t2
  let c32_i32_102 : BitVec 32 := 32#32
  let v205 : BitVec 32 := Scalar.muli arg12 c32_i32_102
  let v206 : BitVec 32 := Scalar.addi c160_i32_103 v205
  let c16_i32 : BitVec 32 := 16#32
  let v207 : BitVec 32 := Scalar.addi v206 c16_i32
  let v208 : Index := Scalar.indexCast v207
  ![v208.toNat]
def k1_off98 (v209 : BitVec 32) : Fin 1 → Nat :=
  let v210 : Index := Scalar.indexCast v209
  ![v210.toNat]

def k1_chk49 (i : grid1.Coords) (v209 : BitVec 32) : Prop :=
  (∀ (k1_h1 : k1_cond1 i = 1#1), ∀ a, (k1_off98 v209) a + S1.size a ≤ S4096.size a)
theorem k1_off98_inb : ∀ (i : grid1.Coords) (v209 : BitVec 32) (k1_hw49 : k1_chk49 i v209), ∀ (k1_h1 : k1_cond1 i = 1#1), ∀ a, (k1_off98 v209) a + S1.size a ≤ S4096.size a := fun i v209 k1_hw49 k1_h1 => k1_hw49 k1_h1

def k1_off99 (k1_t2 : Fin k1_t2_loop.trips) : Fin 1 → Nat :=
  let c160_i32_105 : BitVec 32 := 160#32
  let c0_i32_49 : BitVec 32 := 0#32
  let c1_i32_50 : BitVec 32 := 1#32
  let arg12 : BitVec 32 := Scf.iv c0_i32_49 c1_i32_50 k1_t2
  let c32_i32_104 : BitVec 32 := 32#32
  let v213 : BitVec 32 := Scalar.muli arg12 c32_i32_104
  let v214 : BitVec 32 := Scalar.addi c160_i32_105 v213
  let c17_i32 : BitVec 32 := 17#32
  let v215 : BitVec 32 := Scalar.addi v214 c17_i32
  let v216 : Index := Scalar.indexCast v215
  ![v216.toNat]
def k1_off100 (v217 : BitVec 32) : Fin 1 → Nat :=
  let v218 : Index := Scalar.indexCast v217
  ![v218.toNat]

def k1_chk50 (i : grid1.Coords) (v217 : BitVec 32) : Prop :=
  (∀ (k1_h1 : k1_cond1 i = 1#1), ∀ a, (k1_off100 v217) a + S1.size a ≤ S4096.size a)
theorem k1_off100_inb : ∀ (i : grid1.Coords) (v217 : BitVec 32) (k1_hw50 : k1_chk50 i v217), ∀ (k1_h1 : k1_cond1 i = 1#1), ∀ a, (k1_off100 v217) a + S1.size a ≤ S4096.size a := fun i v217 k1_hw50 k1_h1 => k1_hw50 k1_h1

def k1_off101 (k1_t2 : Fin k1_t2_loop.trips) : Fin 1 → Nat :=
  let c160_i32_107 : BitVec 32 := 160#32
  let c0_i32_49 : BitVec 32 := 0#32
  let c1_i32_50 : BitVec 32 := 1#32
  let arg12 : BitVec 32 := Scf.iv c0_i32_49 c1_i32_50 k1_t2
  let c32_i32_106 : BitVec 32 := 32#32
  let v221 : BitVec 32 := Scalar.muli arg12 c32_i32_106
  let v222 : BitVec 32 := Scalar.addi c160_i32_107 v221
  let c18_i32 : BitVec 32 := 18#32
  let v223 : BitVec 32 := Scalar.addi v222 c18_i32
  let v224 : Index := Scalar.indexCast v223
  ![v224.toNat]
def k1_off102 (v225 : BitVec 32) : Fin 1 → Nat :=
  let v226 : Index := Scalar.indexCast v225
  ![v226.toNat]

def k1_chk51 (i : grid1.Coords) (v225 : BitVec 32) : Prop :=
  (∀ (k1_h1 : k1_cond1 i = 1#1), ∀ a, (k1_off102 v225) a + S1.size a ≤ S4096.size a)
theorem k1_off102_inb : ∀ (i : grid1.Coords) (v225 : BitVec 32) (k1_hw51 : k1_chk51 i v225), ∀ (k1_h1 : k1_cond1 i = 1#1), ∀ a, (k1_off102 v225) a + S1.size a ≤ S4096.size a := fun i v225 k1_hw51 k1_h1 => k1_hw51 k1_h1

def k1_off103 (k1_t2 : Fin k1_t2_loop.trips) : Fin 1 → Nat :=
  let c160_i32_109 : BitVec 32 := 160#32
  let c0_i32_49 : BitVec 32 := 0#32
  let c1_i32_50 : BitVec 32 := 1#32
  let arg12 : BitVec 32 := Scf.iv c0_i32_49 c1_i32_50 k1_t2
  let c32_i32_108 : BitVec 32 := 32#32
  let v229 : BitVec 32 := Scalar.muli arg12 c32_i32_108
  let v230 : BitVec 32 := Scalar.addi c160_i32_109 v229
  let c19_i32 : BitVec 32 := 19#32
  let v231 : BitVec 32 := Scalar.addi v230 c19_i32
  let v232 : Index := Scalar.indexCast v231
  ![v232.toNat]
def k1_off104 (v233 : BitVec 32) : Fin 1 → Nat :=
  let v234 : Index := Scalar.indexCast v233
  ![v234.toNat]

def k1_chk52 (i : grid1.Coords) (v233 : BitVec 32) : Prop :=
  (∀ (k1_h1 : k1_cond1 i = 1#1), ∀ a, (k1_off104 v233) a + S1.size a ≤ S4096.size a)
theorem k1_off104_inb : ∀ (i : grid1.Coords) (v233 : BitVec 32) (k1_hw52 : k1_chk52 i v233), ∀ (k1_h1 : k1_cond1 i = 1#1), ∀ a, (k1_off104 v233) a + S1.size a ≤ S4096.size a := fun i v233 k1_hw52 k1_h1 => k1_hw52 k1_h1

def k1_off105 (k1_t2 : Fin k1_t2_loop.trips) : Fin 1 → Nat :=
  let c160_i32_111 : BitVec 32 := 160#32
  let c0_i32_49 : BitVec 32 := 0#32
  let c1_i32_50 : BitVec 32 := 1#32
  let arg12 : BitVec 32 := Scf.iv c0_i32_49 c1_i32_50 k1_t2
  let c32_i32_110 : BitVec 32 := 32#32
  let v237 : BitVec 32 := Scalar.muli arg12 c32_i32_110
  let v238 : BitVec 32 := Scalar.addi c160_i32_111 v237
  let c20_i32_112 : BitVec 32 := 20#32
  let v239 : BitVec 32 := Scalar.addi v238 c20_i32_112
  let v240 : Index := Scalar.indexCast v239
  ![v240.toNat]
def k1_off106 (v241 : BitVec 32) : Fin 1 → Nat :=
  let v242 : Index := Scalar.indexCast v241
  ![v242.toNat]

def k1_chk53 (i : grid1.Coords) (v241 : BitVec 32) : Prop :=
  (∀ (k1_h1 : k1_cond1 i = 1#1), ∀ a, (k1_off106 v241) a + S1.size a ≤ S4096.size a)
theorem k1_off106_inb : ∀ (i : grid1.Coords) (v241 : BitVec 32) (k1_hw53 : k1_chk53 i v241), ∀ (k1_h1 : k1_cond1 i = 1#1), ∀ a, (k1_off106 v241) a + S1.size a ≤ S4096.size a := fun i v241 k1_hw53 k1_h1 => k1_hw53 k1_h1

def k1_off107 (k1_t2 : Fin k1_t2_loop.trips) : Fin 1 → Nat :=
  let c160_i32_114 : BitVec 32 := 160#32
  let c0_i32_49 : BitVec 32 := 0#32
  let c1_i32_50 : BitVec 32 := 1#32
  let arg12 : BitVec 32 := Scf.iv c0_i32_49 c1_i32_50 k1_t2
  let c32_i32_113 : BitVec 32 := 32#32
  let v245 : BitVec 32 := Scalar.muli arg12 c32_i32_113
  let v246 : BitVec 32 := Scalar.addi c160_i32_114 v245
  let c21_i32 : BitVec 32 := 21#32
  let v247 : BitVec 32 := Scalar.addi v246 c21_i32
  let v248 : Index := Scalar.indexCast v247
  ![v248.toNat]
def k1_off108 (v249 : BitVec 32) : Fin 1 → Nat :=
  let v250 : Index := Scalar.indexCast v249
  ![v250.toNat]

def k1_chk54 (i : grid1.Coords) (v249 : BitVec 32) : Prop :=
  (∀ (k1_h1 : k1_cond1 i = 1#1), ∀ a, (k1_off108 v249) a + S1.size a ≤ S4096.size a)
theorem k1_off108_inb : ∀ (i : grid1.Coords) (v249 : BitVec 32) (k1_hw54 : k1_chk54 i v249), ∀ (k1_h1 : k1_cond1 i = 1#1), ∀ a, (k1_off108 v249) a + S1.size a ≤ S4096.size a := fun i v249 k1_hw54 k1_h1 => k1_hw54 k1_h1

def k1_off109 (k1_t2 : Fin k1_t2_loop.trips) : Fin 1 → Nat :=
  let c160_i32_116 : BitVec 32 := 160#32
  let c0_i32_49 : BitVec 32 := 0#32
  let c1_i32_50 : BitVec 32 := 1#32
  let arg12 : BitVec 32 := Scf.iv c0_i32_49 c1_i32_50 k1_t2
  let c32_i32_115 : BitVec 32 := 32#32
  let v253 : BitVec 32 := Scalar.muli arg12 c32_i32_115
  let v254 : BitVec 32 := Scalar.addi c160_i32_116 v253
  let c22_i32 : BitVec 32 := 22#32
  let v255 : BitVec 32 := Scalar.addi v254 c22_i32
  let v256 : Index := Scalar.indexCast v255
  ![v256.toNat]
def k1_off110 (v257 : BitVec 32) : Fin 1 → Nat :=
  let v258 : Index := Scalar.indexCast v257
  ![v258.toNat]

def k1_chk55 (i : grid1.Coords) (v257 : BitVec 32) : Prop :=
  (∀ (k1_h1 : k1_cond1 i = 1#1), ∀ a, (k1_off110 v257) a + S1.size a ≤ S4096.size a)
theorem k1_off110_inb : ∀ (i : grid1.Coords) (v257 : BitVec 32) (k1_hw55 : k1_chk55 i v257), ∀ (k1_h1 : k1_cond1 i = 1#1), ∀ a, (k1_off110 v257) a + S1.size a ≤ S4096.size a := fun i v257 k1_hw55 k1_h1 => k1_hw55 k1_h1

def k1_off111 (k1_t2 : Fin k1_t2_loop.trips) : Fin 1 → Nat :=
  let c160_i32_118 : BitVec 32 := 160#32
  let c0_i32_49 : BitVec 32 := 0#32
  let c1_i32_50 : BitVec 32 := 1#32
  let arg12 : BitVec 32 := Scf.iv c0_i32_49 c1_i32_50 k1_t2
  let c32_i32_117 : BitVec 32 := 32#32
  let v261 : BitVec 32 := Scalar.muli arg12 c32_i32_117
  let v262 : BitVec 32 := Scalar.addi c160_i32_118 v261
  let c23_i32 : BitVec 32 := 23#32
  let v263 : BitVec 32 := Scalar.addi v262 c23_i32
  let v264 : Index := Scalar.indexCast v263
  ![v264.toNat]
def k1_off112 (v265 : BitVec 32) : Fin 1 → Nat :=
  let v266 : Index := Scalar.indexCast v265
  ![v266.toNat]

def k1_chk56 (i : grid1.Coords) (v265 : BitVec 32) : Prop :=
  (∀ (k1_h1 : k1_cond1 i = 1#1), ∀ a, (k1_off112 v265) a + S1.size a ≤ S4096.size a)
theorem k1_off112_inb : ∀ (i : grid1.Coords) (v265 : BitVec 32) (k1_hw56 : k1_chk56 i v265), ∀ (k1_h1 : k1_cond1 i = 1#1), ∀ a, (k1_off112 v265) a + S1.size a ≤ S4096.size a := fun i v265 k1_hw56 k1_h1 => k1_hw56 k1_h1

def k1_off113 (k1_t2 : Fin k1_t2_loop.trips) : Fin 1 → Nat :=
  let c160_i32_120 : BitVec 32 := 160#32
  let c0_i32_49 : BitVec 32 := 0#32
  let c1_i32_50 : BitVec 32 := 1#32
  let arg12 : BitVec 32 := Scf.iv c0_i32_49 c1_i32_50 k1_t2
  let c32_i32_119 : BitVec 32 := 32#32
  let v269 : BitVec 32 := Scalar.muli arg12 c32_i32_119
  let v270 : BitVec 32 := Scalar.addi c160_i32_120 v269
  let c24_i32 : BitVec 32 := 24#32
  let v271 : BitVec 32 := Scalar.addi v270 c24_i32
  let v272 : Index := Scalar.indexCast v271
  ![v272.toNat]
def k1_off114 (v273 : BitVec 32) : Fin 1 → Nat :=
  let v274 : Index := Scalar.indexCast v273
  ![v274.toNat]

def k1_chk57 (i : grid1.Coords) (v273 : BitVec 32) : Prop :=
  (∀ (k1_h1 : k1_cond1 i = 1#1), ∀ a, (k1_off114 v273) a + S1.size a ≤ S4096.size a)
theorem k1_off114_inb : ∀ (i : grid1.Coords) (v273 : BitVec 32) (k1_hw57 : k1_chk57 i v273), ∀ (k1_h1 : k1_cond1 i = 1#1), ∀ a, (k1_off114 v273) a + S1.size a ≤ S4096.size a := fun i v273 k1_hw57 k1_h1 => k1_hw57 k1_h1

def k1_off115 (k1_t2 : Fin k1_t2_loop.trips) : Fin 1 → Nat :=
  let c160_i32_122 : BitVec 32 := 160#32
  let c0_i32_49 : BitVec 32 := 0#32
  let c1_i32_50 : BitVec 32 := 1#32
  let arg12 : BitVec 32 := Scf.iv c0_i32_49 c1_i32_50 k1_t2
  let c32_i32_121 : BitVec 32 := 32#32
  let v277 : BitVec 32 := Scalar.muli arg12 c32_i32_121
  let v278 : BitVec 32 := Scalar.addi c160_i32_122 v277
  let c25_i32 : BitVec 32 := 25#32
  let v279 : BitVec 32 := Scalar.addi v278 c25_i32
  let v280 : Index := Scalar.indexCast v279
  ![v280.toNat]
def k1_off116 (v281 : BitVec 32) : Fin 1 → Nat :=
  let v282 : Index := Scalar.indexCast v281
  ![v282.toNat]

def k1_chk58 (i : grid1.Coords) (v281 : BitVec 32) : Prop :=
  (∀ (k1_h1 : k1_cond1 i = 1#1), ∀ a, (k1_off116 v281) a + S1.size a ≤ S4096.size a)
theorem k1_off116_inb : ∀ (i : grid1.Coords) (v281 : BitVec 32) (k1_hw58 : k1_chk58 i v281), ∀ (k1_h1 : k1_cond1 i = 1#1), ∀ a, (k1_off116 v281) a + S1.size a ≤ S4096.size a := fun i v281 k1_hw58 k1_h1 => k1_hw58 k1_h1

def k1_off117 (k1_t2 : Fin k1_t2_loop.trips) : Fin 1 → Nat :=
  let c160_i32_124 : BitVec 32 := 160#32
  let c0_i32_49 : BitVec 32 := 0#32
  let c1_i32_50 : BitVec 32 := 1#32
  let arg12 : BitVec 32 := Scf.iv c0_i32_49 c1_i32_50 k1_t2
  let c32_i32_123 : BitVec 32 := 32#32
  let v285 : BitVec 32 := Scalar.muli arg12 c32_i32_123
  let v286 : BitVec 32 := Scalar.addi c160_i32_124 v285
  let c26_i32_125 : BitVec 32 := 26#32
  let v287 : BitVec 32 := Scalar.addi v286 c26_i32_125
  let v288 : Index := Scalar.indexCast v287
  ![v288.toNat]
def k1_off118 (v289 : BitVec 32) : Fin 1 → Nat :=
  let v290 : Index := Scalar.indexCast v289
  ![v290.toNat]

def k1_chk59 (i : grid1.Coords) (v289 : BitVec 32) : Prop :=
  (∀ (k1_h1 : k1_cond1 i = 1#1), ∀ a, (k1_off118 v289) a + S1.size a ≤ S4096.size a)
theorem k1_off118_inb : ∀ (i : grid1.Coords) (v289 : BitVec 32) (k1_hw59 : k1_chk59 i v289), ∀ (k1_h1 : k1_cond1 i = 1#1), ∀ a, (k1_off118 v289) a + S1.size a ≤ S4096.size a := fun i v289 k1_hw59 k1_h1 => k1_hw59 k1_h1

def k1_off119 (k1_t2 : Fin k1_t2_loop.trips) : Fin 1 → Nat :=
  let c160_i32_127 : BitVec 32 := 160#32
  let c0_i32_49 : BitVec 32 := 0#32
  let c1_i32_50 : BitVec 32 := 1#32
  let arg12 : BitVec 32 := Scf.iv c0_i32_49 c1_i32_50 k1_t2
  let c32_i32_126 : BitVec 32 := 32#32
  let v293 : BitVec 32 := Scalar.muli arg12 c32_i32_126
  let v294 : BitVec 32 := Scalar.addi c160_i32_127 v293
  let c27_i32_128 : BitVec 32 := 27#32
  let v295 : BitVec 32 := Scalar.addi v294 c27_i32_128
  let v296 : Index := Scalar.indexCast v295
  ![v296.toNat]
def k1_off120 (v297 : BitVec 32) : Fin 1 → Nat :=
  let v298 : Index := Scalar.indexCast v297
  ![v298.toNat]

def k1_chk60 (i : grid1.Coords) (v297 : BitVec 32) : Prop :=
  (∀ (k1_h1 : k1_cond1 i = 1#1), ∀ a, (k1_off120 v297) a + S1.size a ≤ S4096.size a)
theorem k1_off120_inb : ∀ (i : grid1.Coords) (v297 : BitVec 32) (k1_hw60 : k1_chk60 i v297), ∀ (k1_h1 : k1_cond1 i = 1#1), ∀ a, (k1_off120 v297) a + S1.size a ≤ S4096.size a := fun i v297 k1_hw60 k1_h1 => k1_hw60 k1_h1

def k1_off121 (k1_t2 : Fin k1_t2_loop.trips) : Fin 1 → Nat :=
  let c160_i32_130 : BitVec 32 := 160#32
  let c0_i32_49 : BitVec 32 := 0#32
  let c1_i32_50 : BitVec 32 := 1#32
  let arg12 : BitVec 32 := Scf.iv c0_i32_49 c1_i32_50 k1_t2
  let c32_i32_129 : BitVec 32 := 32#32
  let v301 : BitVec 32 := Scalar.muli arg12 c32_i32_129
  let v302 : BitVec 32 := Scalar.addi c160_i32_130 v301
  let c28_i32 : BitVec 32 := 28#32
  let v303 : BitVec 32 := Scalar.addi v302 c28_i32
  let v304 : Index := Scalar.indexCast v303
  ![v304.toNat]
def k1_off122 (v305 : BitVec 32) : Fin 1 → Nat :=
  let v306 : Index := Scalar.indexCast v305
  ![v306.toNat]

def k1_chk61 (i : grid1.Coords) (v305 : BitVec 32) : Prop :=
  (∀ (k1_h1 : k1_cond1 i = 1#1), ∀ a, (k1_off122 v305) a + S1.size a ≤ S4096.size a)
theorem k1_off122_inb : ∀ (i : grid1.Coords) (v305 : BitVec 32) (k1_hw61 : k1_chk61 i v305), ∀ (k1_h1 : k1_cond1 i = 1#1), ∀ a, (k1_off122 v305) a + S1.size a ≤ S4096.size a := fun i v305 k1_hw61 k1_h1 => k1_hw61 k1_h1

def k1_off123 (k1_t2 : Fin k1_t2_loop.trips) : Fin 1 → Nat :=
  let c160_i32_132 : BitVec 32 := 160#32
  let c0_i32_49 : BitVec 32 := 0#32
  let c1_i32_50 : BitVec 32 := 1#32
  let arg12 : BitVec 32 := Scf.iv c0_i32_49 c1_i32_50 k1_t2
  let c32_i32_131 : BitVec 32 := 32#32
  let v309 : BitVec 32 := Scalar.muli arg12 c32_i32_131
  let v310 : BitVec 32 := Scalar.addi c160_i32_132 v309
  let c29_i32 : BitVec 32 := 29#32
  let v311 : BitVec 32 := Scalar.addi v310 c29_i32
  let v312 : Index := Scalar.indexCast v311
  ![v312.toNat]
def k1_off124 (v313 : BitVec 32) : Fin 1 → Nat :=
  let v314 : Index := Scalar.indexCast v313
  ![v314.toNat]

def k1_chk62 (i : grid1.Coords) (v313 : BitVec 32) : Prop :=
  (∀ (k1_h1 : k1_cond1 i = 1#1), ∀ a, (k1_off124 v313) a + S1.size a ≤ S4096.size a)
theorem k1_off124_inb : ∀ (i : grid1.Coords) (v313 : BitVec 32) (k1_hw62 : k1_chk62 i v313), ∀ (k1_h1 : k1_cond1 i = 1#1), ∀ a, (k1_off124 v313) a + S1.size a ≤ S4096.size a := fun i v313 k1_hw62 k1_h1 => k1_hw62 k1_h1

def k1_off125 (k1_t2 : Fin k1_t2_loop.trips) : Fin 1 → Nat :=
  let c160_i32_134 : BitVec 32 := 160#32
  let c0_i32_49 : BitVec 32 := 0#32
  let c1_i32_50 : BitVec 32 := 1#32
  let arg12 : BitVec 32 := Scf.iv c0_i32_49 c1_i32_50 k1_t2
  let c32_i32_133 : BitVec 32 := 32#32
  let v317 : BitVec 32 := Scalar.muli arg12 c32_i32_133
  let v318 : BitVec 32 := Scalar.addi c160_i32_134 v317
  let c30_i32 : BitVec 32 := 30#32
  let v319 : BitVec 32 := Scalar.addi v318 c30_i32
  let v320 : Index := Scalar.indexCast v319
  ![v320.toNat]
def k1_off126 (v321 : BitVec 32) : Fin 1 → Nat :=
  let v322 : Index := Scalar.indexCast v321
  ![v322.toNat]

def k1_chk63 (i : grid1.Coords) (v321 : BitVec 32) : Prop :=
  (∀ (k1_h1 : k1_cond1 i = 1#1), ∀ a, (k1_off126 v321) a + S1.size a ≤ S4096.size a)
theorem k1_off126_inb : ∀ (i : grid1.Coords) (v321 : BitVec 32) (k1_hw63 : k1_chk63 i v321), ∀ (k1_h1 : k1_cond1 i = 1#1), ∀ a, (k1_off126 v321) a + S1.size a ≤ S4096.size a := fun i v321 k1_hw63 k1_h1 => k1_hw63 k1_h1

def k1_off127 (k1_t2 : Fin k1_t2_loop.trips) : Fin 1 → Nat :=
  let c160_i32_136 : BitVec 32 := 160#32
  let c0_i32_49 : BitVec 32 := 0#32
  let c1_i32_50 : BitVec 32 := 1#32
  let arg12 : BitVec 32 := Scf.iv c0_i32_49 c1_i32_50 k1_t2
  let c32_i32_135 : BitVec 32 := 32#32
  let v325 : BitVec 32 := Scalar.muli arg12 c32_i32_135
  let v326 : BitVec 32 := Scalar.addi c160_i32_136 v325
  let c31_i32 : BitVec 32 := 31#32
  let v327 : BitVec 32 := Scalar.addi v326 c31_i32
  let v328 : Index := Scalar.indexCast v327
  ![v328.toNat]
def k1_off128 (v329 : BitVec 32) : Fin 1 → Nat :=
  let v330 : Index := Scalar.indexCast v329
  ![v330.toNat]

def k1_chk64 (i : grid1.Coords) (v329 : BitVec 32) : Prop :=
  (∀ (k1_h1 : k1_cond1 i = 1#1), ∀ a, (k1_off128 v329) a + S1.size a ≤ S4096.size a)
theorem k1_off128_inb : ∀ (i : grid1.Coords) (v329 : BitVec 32) (k1_hw64 : k1_chk64 i v329), ∀ (k1_h1 : k1_cond1 i = 1#1), ∀ a, (k1_off128 v329) a + S1.size a ≤ S4096.size a := fun i v329 k1_hw64 k1_h1 => k1_hw64 k1_h1

@[reducible] def k1_t3_loop : Scf.Loop 32 :=
  let c0_i32_52 : BitVec 32 := 0#32
  let c27_i32 : BitVec 32 := 27#32
  let v67 : BitVec 32 := Scalar.addi c0_i32_52 c27_i32
  let c1_i32_53 : BitVec 32 := 1#32
  ⟨c0_i32_52, v67, c1_i32_53⟩
def k1_off129 (k1_t3 : Fin k1_t3_loop.trips) : Fin 1 → Nat :=
  let c640_i32 : BitVec 32 := 640#32
  let c0_i32_52 : BitVec 32 := 0#32
  let c1_i32_53 : BitVec 32 := 1#32
  let arg12 : BitVec 32 := Scf.iv c0_i32_52 c1_i32_53 k1_t3
  let c32_i32 : BitVec 32 := 32#32
  let v77 : BitVec 32 := Scalar.muli arg12 c32_i32
  let v78 : BitVec 32 := Scalar.addi c640_i32 v77
  let c0_i32_66 : BitVec 32 := 0#32
  let v79 : BitVec 32 := Scalar.addi v78 c0_i32_66
  let v80 : Index := Scalar.indexCast v79
  ![v80.toNat]
def k1_off130 (v81 : BitVec 32) : Fin 1 → Nat :=
  let v82 : Index := Scalar.indexCast v81
  ![v82.toNat]

def k1_chk65 (i : grid1.Coords) (v81 : BitVec 32) : Prop :=
  (∀ (k1_h1 : k1_cond1 i = 1#1), ∀ a, (k1_off130 v81) a + S1.size a ≤ S4096.size a)
theorem k1_off130_inb : ∀ (i : grid1.Coords) (v81 : BitVec 32) (k1_hw65 : k1_chk65 i v81), ∀ (k1_h1 : k1_cond1 i = 1#1), ∀ a, (k1_off130 v81) a + S1.size a ≤ S4096.size a := fun i v81 k1_hw65 k1_h1 => k1_hw65 k1_h1

def k1_off131 (k1_t3 : Fin k1_t3_loop.trips) : Fin 1 → Nat :=
  let c640_i32_68 : BitVec 32 := 640#32
  let c0_i32_52 : BitVec 32 := 0#32
  let c1_i32_53 : BitVec 32 := 1#32
  let arg12 : BitVec 32 := Scf.iv c0_i32_52 c1_i32_53 k1_t3
  let c32_i32_67 : BitVec 32 := 32#32
  let v85 : BitVec 32 := Scalar.muli arg12 c32_i32_67
  let v86 : BitVec 32 := Scalar.addi c640_i32_68 v85
  let c1_i32_69 : BitVec 32 := 1#32
  let v87 : BitVec 32 := Scalar.addi v86 c1_i32_69
  let v88 : Index := Scalar.indexCast v87
  ![v88.toNat]
def k1_off132 (v89 : BitVec 32) : Fin 1 → Nat :=
  let v90 : Index := Scalar.indexCast v89
  ![v90.toNat]

def k1_chk66 (i : grid1.Coords) (v89 : BitVec 32) : Prop :=
  (∀ (k1_h1 : k1_cond1 i = 1#1), ∀ a, (k1_off132 v89) a + S1.size a ≤ S4096.size a)
theorem k1_off132_inb : ∀ (i : grid1.Coords) (v89 : BitVec 32) (k1_hw66 : k1_chk66 i v89), ∀ (k1_h1 : k1_cond1 i = 1#1), ∀ a, (k1_off132 v89) a + S1.size a ≤ S4096.size a := fun i v89 k1_hw66 k1_h1 => k1_hw66 k1_h1

def k1_off133 (k1_t3 : Fin k1_t3_loop.trips) : Fin 1 → Nat :=
  let c640_i32_71 : BitVec 32 := 640#32
  let c0_i32_52 : BitVec 32 := 0#32
  let c1_i32_53 : BitVec 32 := 1#32
  let arg12 : BitVec 32 := Scf.iv c0_i32_52 c1_i32_53 k1_t3
  let c32_i32_70 : BitVec 32 := 32#32
  let v93 : BitVec 32 := Scalar.muli arg12 c32_i32_70
  let v94 : BitVec 32 := Scalar.addi c640_i32_71 v93
  let c2_i32 : BitVec 32 := 2#32
  let v95 : BitVec 32 := Scalar.addi v94 c2_i32
  let v96 : Index := Scalar.indexCast v95
  ![v96.toNat]
def k1_off134 (v97 : BitVec 32) : Fin 1 → Nat :=
  let v98 : Index := Scalar.indexCast v97
  ![v98.toNat]

def k1_chk67 (i : grid1.Coords) (v97 : BitVec 32) : Prop :=
  (∀ (k1_h1 : k1_cond1 i = 1#1), ∀ a, (k1_off134 v97) a + S1.size a ≤ S4096.size a)
theorem k1_off134_inb : ∀ (i : grid1.Coords) (v97 : BitVec 32) (k1_hw67 : k1_chk67 i v97), ∀ (k1_h1 : k1_cond1 i = 1#1), ∀ a, (k1_off134 v97) a + S1.size a ≤ S4096.size a := fun i v97 k1_hw67 k1_h1 => k1_hw67 k1_h1

def k1_off135 (k1_t3 : Fin k1_t3_loop.trips) : Fin 1 → Nat :=
  let c640_i32_73 : BitVec 32 := 640#32
  let c0_i32_52 : BitVec 32 := 0#32
  let c1_i32_53 : BitVec 32 := 1#32
  let arg12 : BitVec 32 := Scf.iv c0_i32_52 c1_i32_53 k1_t3
  let c32_i32_72 : BitVec 32 := 32#32
  let v101 : BitVec 32 := Scalar.muli arg12 c32_i32_72
  let v102 : BitVec 32 := Scalar.addi c640_i32_73 v101
  let c3_i32 : BitVec 32 := 3#32
  let v103 : BitVec 32 := Scalar.addi v102 c3_i32
  let v104 : Index := Scalar.indexCast v103
  ![v104.toNat]
def k1_off136 (v105 : BitVec 32) : Fin 1 → Nat :=
  let v106 : Index := Scalar.indexCast v105
  ![v106.toNat]

def k1_chk68 (i : grid1.Coords) (v105 : BitVec 32) : Prop :=
  (∀ (k1_h1 : k1_cond1 i = 1#1), ∀ a, (k1_off136 v105) a + S1.size a ≤ S4096.size a)
theorem k1_off136_inb : ∀ (i : grid1.Coords) (v105 : BitVec 32) (k1_hw68 : k1_chk68 i v105), ∀ (k1_h1 : k1_cond1 i = 1#1), ∀ a, (k1_off136 v105) a + S1.size a ≤ S4096.size a := fun i v105 k1_hw68 k1_h1 => k1_hw68 k1_h1

def k1_off137 (k1_t3 : Fin k1_t3_loop.trips) : Fin 1 → Nat :=
  let c640_i32_75 : BitVec 32 := 640#32
  let c0_i32_52 : BitVec 32 := 0#32
  let c1_i32_53 : BitVec 32 := 1#32
  let arg12 : BitVec 32 := Scf.iv c0_i32_52 c1_i32_53 k1_t3
  let c32_i32_74 : BitVec 32 := 32#32
  let v109 : BitVec 32 := Scalar.muli arg12 c32_i32_74
  let v110 : BitVec 32 := Scalar.addi c640_i32_75 v109
  let c4_i32 : BitVec 32 := 4#32
  let v111 : BitVec 32 := Scalar.addi v110 c4_i32
  let v112 : Index := Scalar.indexCast v111
  ![v112.toNat]
def k1_off138 (v113 : BitVec 32) : Fin 1 → Nat :=
  let v114 : Index := Scalar.indexCast v113
  ![v114.toNat]

def k1_chk69 (i : grid1.Coords) (v113 : BitVec 32) : Prop :=
  (∀ (k1_h1 : k1_cond1 i = 1#1), ∀ a, (k1_off138 v113) a + S1.size a ≤ S4096.size a)
theorem k1_off138_inb : ∀ (i : grid1.Coords) (v113 : BitVec 32) (k1_hw69 : k1_chk69 i v113), ∀ (k1_h1 : k1_cond1 i = 1#1), ∀ a, (k1_off138 v113) a + S1.size a ≤ S4096.size a := fun i v113 k1_hw69 k1_h1 => k1_hw69 k1_h1

def k1_off139 (k1_t3 : Fin k1_t3_loop.trips) : Fin 1 → Nat :=
  let c640_i32_77 : BitVec 32 := 640#32
  let c0_i32_52 : BitVec 32 := 0#32
  let c1_i32_53 : BitVec 32 := 1#32
  let arg12 : BitVec 32 := Scf.iv c0_i32_52 c1_i32_53 k1_t3
  let c32_i32_76 : BitVec 32 := 32#32
  let v117 : BitVec 32 := Scalar.muli arg12 c32_i32_76
  let v118 : BitVec 32 := Scalar.addi c640_i32_77 v117
  let c5_i32_78 : BitVec 32 := 5#32
  let v119 : BitVec 32 := Scalar.addi v118 c5_i32_78
  let v120 : Index := Scalar.indexCast v119
  ![v120.toNat]
def k1_off140 (v121 : BitVec 32) : Fin 1 → Nat :=
  let v122 : Index := Scalar.indexCast v121
  ![v122.toNat]

def k1_chk70 (i : grid1.Coords) (v121 : BitVec 32) : Prop :=
  (∀ (k1_h1 : k1_cond1 i = 1#1), ∀ a, (k1_off140 v121) a + S1.size a ≤ S4096.size a)
theorem k1_off140_inb : ∀ (i : grid1.Coords) (v121 : BitVec 32) (k1_hw70 : k1_chk70 i v121), ∀ (k1_h1 : k1_cond1 i = 1#1), ∀ a, (k1_off140 v121) a + S1.size a ≤ S4096.size a := fun i v121 k1_hw70 k1_h1 => k1_hw70 k1_h1

def k1_off141 (k1_t3 : Fin k1_t3_loop.trips) : Fin 1 → Nat :=
  let c640_i32_80 : BitVec 32 := 640#32
  let c0_i32_52 : BitVec 32 := 0#32
  let c1_i32_53 : BitVec 32 := 1#32
  let arg12 : BitVec 32 := Scf.iv c0_i32_52 c1_i32_53 k1_t3
  let c32_i32_79 : BitVec 32 := 32#32
  let v125 : BitVec 32 := Scalar.muli arg12 c32_i32_79
  let v126 : BitVec 32 := Scalar.addi c640_i32_80 v125
  let c6_i32 : BitVec 32 := 6#32
  let v127 : BitVec 32 := Scalar.addi v126 c6_i32
  let v128 : Index := Scalar.indexCast v127
  ![v128.toNat]
def k1_off142 (v129 : BitVec 32) : Fin 1 → Nat :=
  let v130 : Index := Scalar.indexCast v129
  ![v130.toNat]

def k1_chk71 (i : grid1.Coords) (v129 : BitVec 32) : Prop :=
  (∀ (k1_h1 : k1_cond1 i = 1#1), ∀ a, (k1_off142 v129) a + S1.size a ≤ S4096.size a)
theorem k1_off142_inb : ∀ (i : grid1.Coords) (v129 : BitVec 32) (k1_hw71 : k1_chk71 i v129), ∀ (k1_h1 : k1_cond1 i = 1#1), ∀ a, (k1_off142 v129) a + S1.size a ≤ S4096.size a := fun i v129 k1_hw71 k1_h1 => k1_hw71 k1_h1

def k1_off143 (k1_t3 : Fin k1_t3_loop.trips) : Fin 1 → Nat :=
  let c640_i32_82 : BitVec 32 := 640#32
  let c0_i32_52 : BitVec 32 := 0#32
  let c1_i32_53 : BitVec 32 := 1#32
  let arg12 : BitVec 32 := Scf.iv c0_i32_52 c1_i32_53 k1_t3
  let c32_i32_81 : BitVec 32 := 32#32
  let v133 : BitVec 32 := Scalar.muli arg12 c32_i32_81
  let v134 : BitVec 32 := Scalar.addi c640_i32_82 v133
  let c7_i32 : BitVec 32 := 7#32
  let v135 : BitVec 32 := Scalar.addi v134 c7_i32
  let v136 : Index := Scalar.indexCast v135
  ![v136.toNat]
def k1_off144 (v137 : BitVec 32) : Fin 1 → Nat :=
  let v138 : Index := Scalar.indexCast v137
  ![v138.toNat]

def k1_chk72 (i : grid1.Coords) (v137 : BitVec 32) : Prop :=
  (∀ (k1_h1 : k1_cond1 i = 1#1), ∀ a, (k1_off144 v137) a + S1.size a ≤ S4096.size a)
theorem k1_off144_inb : ∀ (i : grid1.Coords) (v137 : BitVec 32) (k1_hw72 : k1_chk72 i v137), ∀ (k1_h1 : k1_cond1 i = 1#1), ∀ a, (k1_off144 v137) a + S1.size a ≤ S4096.size a := fun i v137 k1_hw72 k1_h1 => k1_hw72 k1_h1

def k1_off145 (k1_t3 : Fin k1_t3_loop.trips) : Fin 1 → Nat :=
  let c640_i32_84 : BitVec 32 := 640#32
  let c0_i32_52 : BitVec 32 := 0#32
  let c1_i32_53 : BitVec 32 := 1#32
  let arg12 : BitVec 32 := Scf.iv c0_i32_52 c1_i32_53 k1_t3
  let c32_i32_83 : BitVec 32 := 32#32
  let v141 : BitVec 32 := Scalar.muli arg12 c32_i32_83
  let v142 : BitVec 32 := Scalar.addi c640_i32_84 v141
  let c8_i32_85 : BitVec 32 := 8#32
  let v143 : BitVec 32 := Scalar.addi v142 c8_i32_85
  let v144 : Index := Scalar.indexCast v143
  ![v144.toNat]
def k1_off146 (v145 : BitVec 32) : Fin 1 → Nat :=
  let v146 : Index := Scalar.indexCast v145
  ![v146.toNat]

def k1_chk73 (i : grid1.Coords) (v145 : BitVec 32) : Prop :=
  (∀ (k1_h1 : k1_cond1 i = 1#1), ∀ a, (k1_off146 v145) a + S1.size a ≤ S4096.size a)
theorem k1_off146_inb : ∀ (i : grid1.Coords) (v145 : BitVec 32) (k1_hw73 : k1_chk73 i v145), ∀ (k1_h1 : k1_cond1 i = 1#1), ∀ a, (k1_off146 v145) a + S1.size a ≤ S4096.size a := fun i v145 k1_hw73 k1_h1 => k1_hw73 k1_h1

def k1_off147 (k1_t3 : Fin k1_t3_loop.trips) : Fin 1 → Nat :=
  let c640_i32_87 : BitVec 32 := 640#32
  let c0_i32_52 : BitVec 32 := 0#32
  let c1_i32_53 : BitVec 32 := 1#32
  let arg12 : BitVec 32 := Scf.iv c0_i32_52 c1_i32_53 k1_t3
  let c32_i32_86 : BitVec 32 := 32#32
  let v149 : BitVec 32 := Scalar.muli arg12 c32_i32_86
  let v150 : BitVec 32 := Scalar.addi c640_i32_87 v149
  let c9_i32_88 : BitVec 32 := 9#32
  let v151 : BitVec 32 := Scalar.addi v150 c9_i32_88
  let v152 : Index := Scalar.indexCast v151
  ![v152.toNat]
def k1_off148 (v153 : BitVec 32) : Fin 1 → Nat :=
  let v154 : Index := Scalar.indexCast v153
  ![v154.toNat]

def k1_chk74 (i : grid1.Coords) (v153 : BitVec 32) : Prop :=
  (∀ (k1_h1 : k1_cond1 i = 1#1), ∀ a, (k1_off148 v153) a + S1.size a ≤ S4096.size a)
theorem k1_off148_inb : ∀ (i : grid1.Coords) (v153 : BitVec 32) (k1_hw74 : k1_chk74 i v153), ∀ (k1_h1 : k1_cond1 i = 1#1), ∀ a, (k1_off148 v153) a + S1.size a ≤ S4096.size a := fun i v153 k1_hw74 k1_h1 => k1_hw74 k1_h1

def k1_off149 (k1_t3 : Fin k1_t3_loop.trips) : Fin 1 → Nat :=
  let c640_i32_90 : BitVec 32 := 640#32
  let c0_i32_52 : BitVec 32 := 0#32
  let c1_i32_53 : BitVec 32 := 1#32
  let arg12 : BitVec 32 := Scf.iv c0_i32_52 c1_i32_53 k1_t3
  let c32_i32_89 : BitVec 32 := 32#32
  let v157 : BitVec 32 := Scalar.muli arg12 c32_i32_89
  let v158 : BitVec 32 := Scalar.addi c640_i32_90 v157
  let c10_i32 : BitVec 32 := 10#32
  let v159 : BitVec 32 := Scalar.addi v158 c10_i32
  let v160 : Index := Scalar.indexCast v159
  ![v160.toNat]
def k1_off150 (v161 : BitVec 32) : Fin 1 → Nat :=
  let v162 : Index := Scalar.indexCast v161
  ![v162.toNat]

def k1_chk75 (i : grid1.Coords) (v161 : BitVec 32) : Prop :=
  (∀ (k1_h1 : k1_cond1 i = 1#1), ∀ a, (k1_off150 v161) a + S1.size a ≤ S4096.size a)
theorem k1_off150_inb : ∀ (i : grid1.Coords) (v161 : BitVec 32) (k1_hw75 : k1_chk75 i v161), ∀ (k1_h1 : k1_cond1 i = 1#1), ∀ a, (k1_off150 v161) a + S1.size a ≤ S4096.size a := fun i v161 k1_hw75 k1_h1 => k1_hw75 k1_h1

def k1_off151 (k1_t3 : Fin k1_t3_loop.trips) : Fin 1 → Nat :=
  let c640_i32_92 : BitVec 32 := 640#32
  let c0_i32_52 : BitVec 32 := 0#32
  let c1_i32_53 : BitVec 32 := 1#32
  let arg12 : BitVec 32 := Scf.iv c0_i32_52 c1_i32_53 k1_t3
  let c32_i32_91 : BitVec 32 := 32#32
  let v165 : BitVec 32 := Scalar.muli arg12 c32_i32_91
  let v166 : BitVec 32 := Scalar.addi c640_i32_92 v165
  let c11_i32 : BitVec 32 := 11#32
  let v167 : BitVec 32 := Scalar.addi v166 c11_i32
  let v168 : Index := Scalar.indexCast v167
  ![v168.toNat]
def k1_off152 (v169 : BitVec 32) : Fin 1 → Nat :=
  let v170 : Index := Scalar.indexCast v169
  ![v170.toNat]

def k1_chk76 (i : grid1.Coords) (v169 : BitVec 32) : Prop :=
  (∀ (k1_h1 : k1_cond1 i = 1#1), ∀ a, (k1_off152 v169) a + S1.size a ≤ S4096.size a)
theorem k1_off152_inb : ∀ (i : grid1.Coords) (v169 : BitVec 32) (k1_hw76 : k1_chk76 i v169), ∀ (k1_h1 : k1_cond1 i = 1#1), ∀ a, (k1_off152 v169) a + S1.size a ≤ S4096.size a := fun i v169 k1_hw76 k1_h1 => k1_hw76 k1_h1

def k1_off153 (k1_t3 : Fin k1_t3_loop.trips) : Fin 1 → Nat :=
  let c640_i32_94 : BitVec 32 := 640#32
  let c0_i32_52 : BitVec 32 := 0#32
  let c1_i32_53 : BitVec 32 := 1#32
  let arg12 : BitVec 32 := Scf.iv c0_i32_52 c1_i32_53 k1_t3
  let c32_i32_93 : BitVec 32 := 32#32
  let v173 : BitVec 32 := Scalar.muli arg12 c32_i32_93
  let v174 : BitVec 32 := Scalar.addi c640_i32_94 v173
  let c12_i32 : BitVec 32 := 12#32
  let v175 : BitVec 32 := Scalar.addi v174 c12_i32
  let v176 : Index := Scalar.indexCast v175
  ![v176.toNat]
def k1_off154 (v177 : BitVec 32) : Fin 1 → Nat :=
  let v178 : Index := Scalar.indexCast v177
  ![v178.toNat]

def k1_chk77 (i : grid1.Coords) (v177 : BitVec 32) : Prop :=
  (∀ (k1_h1 : k1_cond1 i = 1#1), ∀ a, (k1_off154 v177) a + S1.size a ≤ S4096.size a)
theorem k1_off154_inb : ∀ (i : grid1.Coords) (v177 : BitVec 32) (k1_hw77 : k1_chk77 i v177), ∀ (k1_h1 : k1_cond1 i = 1#1), ∀ a, (k1_off154 v177) a + S1.size a ≤ S4096.size a := fun i v177 k1_hw77 k1_h1 => k1_hw77 k1_h1

def k1_off155 (k1_t3 : Fin k1_t3_loop.trips) : Fin 1 → Nat :=
  let c640_i32_96 : BitVec 32 := 640#32
  let c0_i32_52 : BitVec 32 := 0#32
  let c1_i32_53 : BitVec 32 := 1#32
  let arg12 : BitVec 32 := Scf.iv c0_i32_52 c1_i32_53 k1_t3
  let c32_i32_95 : BitVec 32 := 32#32
  let v181 : BitVec 32 := Scalar.muli arg12 c32_i32_95
  let v182 : BitVec 32 := Scalar.addi c640_i32_96 v181
  let c13_i32 : BitVec 32 := 13#32
  let v183 : BitVec 32 := Scalar.addi v182 c13_i32
  let v184 : Index := Scalar.indexCast v183
  ![v184.toNat]
def k1_off156 (v185 : BitVec 32) : Fin 1 → Nat :=
  let v186 : Index := Scalar.indexCast v185
  ![v186.toNat]

def k1_chk78 (i : grid1.Coords) (v185 : BitVec 32) : Prop :=
  (∀ (k1_h1 : k1_cond1 i = 1#1), ∀ a, (k1_off156 v185) a + S1.size a ≤ S4096.size a)
theorem k1_off156_inb : ∀ (i : grid1.Coords) (v185 : BitVec 32) (k1_hw78 : k1_chk78 i v185), ∀ (k1_h1 : k1_cond1 i = 1#1), ∀ a, (k1_off156 v185) a + S1.size a ≤ S4096.size a := fun i v185 k1_hw78 k1_h1 => k1_hw78 k1_h1

def k1_off157 (k1_t3 : Fin k1_t3_loop.trips) : Fin 1 → Nat :=
  let c640_i32_98 : BitVec 32 := 640#32
  let c0_i32_52 : BitVec 32 := 0#32
  let c1_i32_53 : BitVec 32 := 1#32
  let arg12 : BitVec 32 := Scf.iv c0_i32_52 c1_i32_53 k1_t3
  let c32_i32_97 : BitVec 32 := 32#32
  let v189 : BitVec 32 := Scalar.muli arg12 c32_i32_97
  let v190 : BitVec 32 := Scalar.addi c640_i32_98 v189
  let c14_i32 : BitVec 32 := 14#32
  let v191 : BitVec 32 := Scalar.addi v190 c14_i32
  let v192 : Index := Scalar.indexCast v191
  ![v192.toNat]
def k1_off158 (v193 : BitVec 32) : Fin 1 → Nat :=
  let v194 : Index := Scalar.indexCast v193
  ![v194.toNat]

def k1_chk79 (i : grid1.Coords) (v193 : BitVec 32) : Prop :=
  (∀ (k1_h1 : k1_cond1 i = 1#1), ∀ a, (k1_off158 v193) a + S1.size a ≤ S4096.size a)
theorem k1_off158_inb : ∀ (i : grid1.Coords) (v193 : BitVec 32) (k1_hw79 : k1_chk79 i v193), ∀ (k1_h1 : k1_cond1 i = 1#1), ∀ a, (k1_off158 v193) a + S1.size a ≤ S4096.size a := fun i v193 k1_hw79 k1_h1 => k1_hw79 k1_h1

def k1_off159 (k1_t3 : Fin k1_t3_loop.trips) : Fin 1 → Nat :=
  let c640_i32_100 : BitVec 32 := 640#32
  let c0_i32_52 : BitVec 32 := 0#32
  let c1_i32_53 : BitVec 32 := 1#32
  let arg12 : BitVec 32 := Scf.iv c0_i32_52 c1_i32_53 k1_t3
  let c32_i32_99 : BitVec 32 := 32#32
  let v197 : BitVec 32 := Scalar.muli arg12 c32_i32_99
  let v198 : BitVec 32 := Scalar.addi c640_i32_100 v197
  let c15_i32_101 : BitVec 32 := 15#32
  let v199 : BitVec 32 := Scalar.addi v198 c15_i32_101
  let v200 : Index := Scalar.indexCast v199
  ![v200.toNat]
def k1_off160 (v201 : BitVec 32) : Fin 1 → Nat :=
  let v202 : Index := Scalar.indexCast v201
  ![v202.toNat]

def k1_chk80 (i : grid1.Coords) (v201 : BitVec 32) : Prop :=
  (∀ (k1_h1 : k1_cond1 i = 1#1), ∀ a, (k1_off160 v201) a + S1.size a ≤ S4096.size a)
theorem k1_off160_inb : ∀ (i : grid1.Coords) (v201 : BitVec 32) (k1_hw80 : k1_chk80 i v201), ∀ (k1_h1 : k1_cond1 i = 1#1), ∀ a, (k1_off160 v201) a + S1.size a ≤ S4096.size a := fun i v201 k1_hw80 k1_h1 => k1_hw80 k1_h1

def k1_off161 (k1_t3 : Fin k1_t3_loop.trips) : Fin 1 → Nat :=
  let c640_i32_103 : BitVec 32 := 640#32
  let c0_i32_52 : BitVec 32 := 0#32
  let c1_i32_53 : BitVec 32 := 1#32
  let arg12 : BitVec 32 := Scf.iv c0_i32_52 c1_i32_53 k1_t3
  let c32_i32_102 : BitVec 32 := 32#32
  let v205 : BitVec 32 := Scalar.muli arg12 c32_i32_102
  let v206 : BitVec 32 := Scalar.addi c640_i32_103 v205
  let c16_i32 : BitVec 32 := 16#32
  let v207 : BitVec 32 := Scalar.addi v206 c16_i32
  let v208 : Index := Scalar.indexCast v207
  ![v208.toNat]
def k1_off162 (v209 : BitVec 32) : Fin 1 → Nat :=
  let v210 : Index := Scalar.indexCast v209
  ![v210.toNat]

def k1_chk81 (i : grid1.Coords) (v209 : BitVec 32) : Prop :=
  (∀ (k1_h1 : k1_cond1 i = 1#1), ∀ a, (k1_off162 v209) a + S1.size a ≤ S4096.size a)
theorem k1_off162_inb : ∀ (i : grid1.Coords) (v209 : BitVec 32) (k1_hw81 : k1_chk81 i v209), ∀ (k1_h1 : k1_cond1 i = 1#1), ∀ a, (k1_off162 v209) a + S1.size a ≤ S4096.size a := fun i v209 k1_hw81 k1_h1 => k1_hw81 k1_h1

def k1_off163 (k1_t3 : Fin k1_t3_loop.trips) : Fin 1 → Nat :=
  let c640_i32_105 : BitVec 32 := 640#32
  let c0_i32_52 : BitVec 32 := 0#32
  let c1_i32_53 : BitVec 32 := 1#32
  let arg12 : BitVec 32 := Scf.iv c0_i32_52 c1_i32_53 k1_t3
  let c32_i32_104 : BitVec 32 := 32#32
  let v213 : BitVec 32 := Scalar.muli arg12 c32_i32_104
  let v214 : BitVec 32 := Scalar.addi c640_i32_105 v213
  let c17_i32 : BitVec 32 := 17#32
  let v215 : BitVec 32 := Scalar.addi v214 c17_i32
  let v216 : Index := Scalar.indexCast v215
  ![v216.toNat]
def k1_off164 (v217 : BitVec 32) : Fin 1 → Nat :=
  let v218 : Index := Scalar.indexCast v217
  ![v218.toNat]

def k1_chk82 (i : grid1.Coords) (v217 : BitVec 32) : Prop :=
  (∀ (k1_h1 : k1_cond1 i = 1#1), ∀ a, (k1_off164 v217) a + S1.size a ≤ S4096.size a)
theorem k1_off164_inb : ∀ (i : grid1.Coords) (v217 : BitVec 32) (k1_hw82 : k1_chk82 i v217), ∀ (k1_h1 : k1_cond1 i = 1#1), ∀ a, (k1_off164 v217) a + S1.size a ≤ S4096.size a := fun i v217 k1_hw82 k1_h1 => k1_hw82 k1_h1

def k1_off165 (k1_t3 : Fin k1_t3_loop.trips) : Fin 1 → Nat :=
  let c640_i32_107 : BitVec 32 := 640#32
  let c0_i32_52 : BitVec 32 := 0#32
  let c1_i32_53 : BitVec 32 := 1#32
  let arg12 : BitVec 32 := Scf.iv c0_i32_52 c1_i32_53 k1_t3
  let c32_i32_106 : BitVec 32 := 32#32
  let v221 : BitVec 32 := Scalar.muli arg12 c32_i32_106
  let v222 : BitVec 32 := Scalar.addi c640_i32_107 v221
  let c18_i32 : BitVec 32 := 18#32
  let v223 : BitVec 32 := Scalar.addi v222 c18_i32
  let v224 : Index := Scalar.indexCast v223
  ![v224.toNat]
def k1_off166 (v225 : BitVec 32) : Fin 1 → Nat :=
  let v226 : Index := Scalar.indexCast v225
  ![v226.toNat]

def k1_chk83 (i : grid1.Coords) (v225 : BitVec 32) : Prop :=
  (∀ (k1_h1 : k1_cond1 i = 1#1), ∀ a, (k1_off166 v225) a + S1.size a ≤ S4096.size a)
theorem k1_off166_inb : ∀ (i : grid1.Coords) (v225 : BitVec 32) (k1_hw83 : k1_chk83 i v225), ∀ (k1_h1 : k1_cond1 i = 1#1), ∀ a, (k1_off166 v225) a + S1.size a ≤ S4096.size a := fun i v225 k1_hw83 k1_h1 => k1_hw83 k1_h1

def k1_off167 (k1_t3 : Fin k1_t3_loop.trips) : Fin 1 → Nat :=
  let c640_i32_109 : BitVec 32 := 640#32
  let c0_i32_52 : BitVec 32 := 0#32
  let c1_i32_53 : BitVec 32 := 1#32
  let arg12 : BitVec 32 := Scf.iv c0_i32_52 c1_i32_53 k1_t3
  let c32_i32_108 : BitVec 32 := 32#32
  let v229 : BitVec 32 := Scalar.muli arg12 c32_i32_108
  let v230 : BitVec 32 := Scalar.addi c640_i32_109 v229
  let c19_i32 : BitVec 32 := 19#32
  let v231 : BitVec 32 := Scalar.addi v230 c19_i32
  let v232 : Index := Scalar.indexCast v231
  ![v232.toNat]
def k1_off168 (v233 : BitVec 32) : Fin 1 → Nat :=
  let v234 : Index := Scalar.indexCast v233
  ![v234.toNat]

def k1_chk84 (i : grid1.Coords) (v233 : BitVec 32) : Prop :=
  (∀ (k1_h1 : k1_cond1 i = 1#1), ∀ a, (k1_off168 v233) a + S1.size a ≤ S4096.size a)
theorem k1_off168_inb : ∀ (i : grid1.Coords) (v233 : BitVec 32) (k1_hw84 : k1_chk84 i v233), ∀ (k1_h1 : k1_cond1 i = 1#1), ∀ a, (k1_off168 v233) a + S1.size a ≤ S4096.size a := fun i v233 k1_hw84 k1_h1 => k1_hw84 k1_h1

def k1_off169 (k1_t3 : Fin k1_t3_loop.trips) : Fin 1 → Nat :=
  let c640_i32_111 : BitVec 32 := 640#32
  let c0_i32_52 : BitVec 32 := 0#32
  let c1_i32_53 : BitVec 32 := 1#32
  let arg12 : BitVec 32 := Scf.iv c0_i32_52 c1_i32_53 k1_t3
  let c32_i32_110 : BitVec 32 := 32#32
  let v237 : BitVec 32 := Scalar.muli arg12 c32_i32_110
  let v238 : BitVec 32 := Scalar.addi c640_i32_111 v237
  let c20_i32_112 : BitVec 32 := 20#32
  let v239 : BitVec 32 := Scalar.addi v238 c20_i32_112
  let v240 : Index := Scalar.indexCast v239
  ![v240.toNat]
def k1_off170 (v241 : BitVec 32) : Fin 1 → Nat :=
  let v242 : Index := Scalar.indexCast v241
  ![v242.toNat]

def k1_chk85 (i : grid1.Coords) (v241 : BitVec 32) : Prop :=
  (∀ (k1_h1 : k1_cond1 i = 1#1), ∀ a, (k1_off170 v241) a + S1.size a ≤ S4096.size a)
theorem k1_off170_inb : ∀ (i : grid1.Coords) (v241 : BitVec 32) (k1_hw85 : k1_chk85 i v241), ∀ (k1_h1 : k1_cond1 i = 1#1), ∀ a, (k1_off170 v241) a + S1.size a ≤ S4096.size a := fun i v241 k1_hw85 k1_h1 => k1_hw85 k1_h1

def k1_off171 (k1_t3 : Fin k1_t3_loop.trips) : Fin 1 → Nat :=
  let c640_i32_114 : BitVec 32 := 640#32
  let c0_i32_52 : BitVec 32 := 0#32
  let c1_i32_53 : BitVec 32 := 1#32
  let arg12 : BitVec 32 := Scf.iv c0_i32_52 c1_i32_53 k1_t3
  let c32_i32_113 : BitVec 32 := 32#32
  let v245 : BitVec 32 := Scalar.muli arg12 c32_i32_113
  let v246 : BitVec 32 := Scalar.addi c640_i32_114 v245
  let c21_i32 : BitVec 32 := 21#32
  let v247 : BitVec 32 := Scalar.addi v246 c21_i32
  let v248 : Index := Scalar.indexCast v247
  ![v248.toNat]
def k1_off172 (v249 : BitVec 32) : Fin 1 → Nat :=
  let v250 : Index := Scalar.indexCast v249
  ![v250.toNat]

def k1_chk86 (i : grid1.Coords) (v249 : BitVec 32) : Prop :=
  (∀ (k1_h1 : k1_cond1 i = 1#1), ∀ a, (k1_off172 v249) a + S1.size a ≤ S4096.size a)
theorem k1_off172_inb : ∀ (i : grid1.Coords) (v249 : BitVec 32) (k1_hw86 : k1_chk86 i v249), ∀ (k1_h1 : k1_cond1 i = 1#1), ∀ a, (k1_off172 v249) a + S1.size a ≤ S4096.size a := fun i v249 k1_hw86 k1_h1 => k1_hw86 k1_h1

def k1_off173 (k1_t3 : Fin k1_t3_loop.trips) : Fin 1 → Nat :=
  let c640_i32_116 : BitVec 32 := 640#32
  let c0_i32_52 : BitVec 32 := 0#32
  let c1_i32_53 : BitVec 32 := 1#32
  let arg12 : BitVec 32 := Scf.iv c0_i32_52 c1_i32_53 k1_t3
  let c32_i32_115 : BitVec 32 := 32#32
  let v253 : BitVec 32 := Scalar.muli arg12 c32_i32_115
  let v254 : BitVec 32 := Scalar.addi c640_i32_116 v253
  let c22_i32 : BitVec 32 := 22#32
  let v255 : BitVec 32 := Scalar.addi v254 c22_i32
  let v256 : Index := Scalar.indexCast v255
  ![v256.toNat]
def k1_off174 (v257 : BitVec 32) : Fin 1 → Nat :=
  let v258 : Index := Scalar.indexCast v257
  ![v258.toNat]

def k1_chk87 (i : grid1.Coords) (v257 : BitVec 32) : Prop :=
  (∀ (k1_h1 : k1_cond1 i = 1#1), ∀ a, (k1_off174 v257) a + S1.size a ≤ S4096.size a)
theorem k1_off174_inb : ∀ (i : grid1.Coords) (v257 : BitVec 32) (k1_hw87 : k1_chk87 i v257), ∀ (k1_h1 : k1_cond1 i = 1#1), ∀ a, (k1_off174 v257) a + S1.size a ≤ S4096.size a := fun i v257 k1_hw87 k1_h1 => k1_hw87 k1_h1

def k1_off175 (k1_t3 : Fin k1_t3_loop.trips) : Fin 1 → Nat :=
  let c640_i32_118 : BitVec 32 := 640#32
  let c0_i32_52 : BitVec 32 := 0#32
  let c1_i32_53 : BitVec 32 := 1#32
  let arg12 : BitVec 32 := Scf.iv c0_i32_52 c1_i32_53 k1_t3
  let c32_i32_117 : BitVec 32 := 32#32
  let v261 : BitVec 32 := Scalar.muli arg12 c32_i32_117
  let v262 : BitVec 32 := Scalar.addi c640_i32_118 v261
  let c23_i32 : BitVec 32 := 23#32
  let v263 : BitVec 32 := Scalar.addi v262 c23_i32
  let v264 : Index := Scalar.indexCast v263
  ![v264.toNat]
def k1_off176 (v265 : BitVec 32) : Fin 1 → Nat :=
  let v266 : Index := Scalar.indexCast v265
  ![v266.toNat]

def k1_chk88 (i : grid1.Coords) (v265 : BitVec 32) : Prop :=
  (∀ (k1_h1 : k1_cond1 i = 1#1), ∀ a, (k1_off176 v265) a + S1.size a ≤ S4096.size a)
theorem k1_off176_inb : ∀ (i : grid1.Coords) (v265 : BitVec 32) (k1_hw88 : k1_chk88 i v265), ∀ (k1_h1 : k1_cond1 i = 1#1), ∀ a, (k1_off176 v265) a + S1.size a ≤ S4096.size a := fun i v265 k1_hw88 k1_h1 => k1_hw88 k1_h1

def k1_off177 (k1_t3 : Fin k1_t3_loop.trips) : Fin 1 → Nat :=
  let c640_i32_120 : BitVec 32 := 640#32
  let c0_i32_52 : BitVec 32 := 0#32
  let c1_i32_53 : BitVec 32 := 1#32
  let arg12 : BitVec 32 := Scf.iv c0_i32_52 c1_i32_53 k1_t3
  let c32_i32_119 : BitVec 32 := 32#32
  let v269 : BitVec 32 := Scalar.muli arg12 c32_i32_119
  let v270 : BitVec 32 := Scalar.addi c640_i32_120 v269
  let c24_i32 : BitVec 32 := 24#32
  let v271 : BitVec 32 := Scalar.addi v270 c24_i32
  let v272 : Index := Scalar.indexCast v271
  ![v272.toNat]
def k1_off178 (v273 : BitVec 32) : Fin 1 → Nat :=
  let v274 : Index := Scalar.indexCast v273
  ![v274.toNat]

def k1_chk89 (i : grid1.Coords) (v273 : BitVec 32) : Prop :=
  (∀ (k1_h1 : k1_cond1 i = 1#1), ∀ a, (k1_off178 v273) a + S1.size a ≤ S4096.size a)
theorem k1_off178_inb : ∀ (i : grid1.Coords) (v273 : BitVec 32) (k1_hw89 : k1_chk89 i v273), ∀ (k1_h1 : k1_cond1 i = 1#1), ∀ a, (k1_off178 v273) a + S1.size a ≤ S4096.size a := fun i v273 k1_hw89 k1_h1 => k1_hw89 k1_h1

def k1_off179 (k1_t3 : Fin k1_t3_loop.trips) : Fin 1 → Nat :=
  let c640_i32_122 : BitVec 32 := 640#32
  let c0_i32_52 : BitVec 32 := 0#32
  let c1_i32_53 : BitVec 32 := 1#32
  let arg12 : BitVec 32 := Scf.iv c0_i32_52 c1_i32_53 k1_t3
  let c32_i32_121 : BitVec 32 := 32#32
  let v277 : BitVec 32 := Scalar.muli arg12 c32_i32_121
  let v278 : BitVec 32 := Scalar.addi c640_i32_122 v277
  let c25_i32 : BitVec 32 := 25#32
  let v279 : BitVec 32 := Scalar.addi v278 c25_i32
  let v280 : Index := Scalar.indexCast v279
  ![v280.toNat]
def k1_off180 (v281 : BitVec 32) : Fin 1 → Nat :=
  let v282 : Index := Scalar.indexCast v281
  ![v282.toNat]

def k1_chk90 (i : grid1.Coords) (v281 : BitVec 32) : Prop :=
  (∀ (k1_h1 : k1_cond1 i = 1#1), ∀ a, (k1_off180 v281) a + S1.size a ≤ S4096.size a)
theorem k1_off180_inb : ∀ (i : grid1.Coords) (v281 : BitVec 32) (k1_hw90 : k1_chk90 i v281), ∀ (k1_h1 : k1_cond1 i = 1#1), ∀ a, (k1_off180 v281) a + S1.size a ≤ S4096.size a := fun i v281 k1_hw90 k1_h1 => k1_hw90 k1_h1

def k1_off181 (k1_t3 : Fin k1_t3_loop.trips) : Fin 1 → Nat :=
  let c640_i32_124 : BitVec 32 := 640#32
  let c0_i32_52 : BitVec 32 := 0#32
  let c1_i32_53 : BitVec 32 := 1#32
  let arg12 : BitVec 32 := Scf.iv c0_i32_52 c1_i32_53 k1_t3
  let c32_i32_123 : BitVec 32 := 32#32
  let v285 : BitVec 32 := Scalar.muli arg12 c32_i32_123
  let v286 : BitVec 32 := Scalar.addi c640_i32_124 v285
  let c26_i32_125 : BitVec 32 := 26#32
  let v287 : BitVec 32 := Scalar.addi v286 c26_i32_125
  let v288 : Index := Scalar.indexCast v287
  ![v288.toNat]
def k1_off182 (v289 : BitVec 32) : Fin 1 → Nat :=
  let v290 : Index := Scalar.indexCast v289
  ![v290.toNat]

def k1_chk91 (i : grid1.Coords) (v289 : BitVec 32) : Prop :=
  (∀ (k1_h1 : k1_cond1 i = 1#1), ∀ a, (k1_off182 v289) a + S1.size a ≤ S4096.size a)
theorem k1_off182_inb : ∀ (i : grid1.Coords) (v289 : BitVec 32) (k1_hw91 : k1_chk91 i v289), ∀ (k1_h1 : k1_cond1 i = 1#1), ∀ a, (k1_off182 v289) a + S1.size a ≤ S4096.size a := fun i v289 k1_hw91 k1_h1 => k1_hw91 k1_h1

def k1_off183 (k1_t3 : Fin k1_t3_loop.trips) : Fin 1 → Nat :=
  let c640_i32_127 : BitVec 32 := 640#32
  let c0_i32_52 : BitVec 32 := 0#32
  let c1_i32_53 : BitVec 32 := 1#32
  let arg12 : BitVec 32 := Scf.iv c0_i32_52 c1_i32_53 k1_t3
  let c32_i32_126 : BitVec 32 := 32#32
  let v293 : BitVec 32 := Scalar.muli arg12 c32_i32_126
  let v294 : BitVec 32 := Scalar.addi c640_i32_127 v293
  let c27_i32_128 : BitVec 32 := 27#32
  let v295 : BitVec 32 := Scalar.addi v294 c27_i32_128
  let v296 : Index := Scalar.indexCast v295
  ![v296.toNat]
def k1_off184 (v297 : BitVec 32) : Fin 1 → Nat :=
  let v298 : Index := Scalar.indexCast v297
  ![v298.toNat]

def k1_chk92 (i : grid1.Coords) (v297 : BitVec 32) : Prop :=
  (∀ (k1_h1 : k1_cond1 i = 1#1), ∀ a, (k1_off184 v297) a + S1.size a ≤ S4096.size a)
theorem k1_off184_inb : ∀ (i : grid1.Coords) (v297 : BitVec 32) (k1_hw92 : k1_chk92 i v297), ∀ (k1_h1 : k1_cond1 i = 1#1), ∀ a, (k1_off184 v297) a + S1.size a ≤ S4096.size a := fun i v297 k1_hw92 k1_h1 => k1_hw92 k1_h1

def k1_off185 (k1_t3 : Fin k1_t3_loop.trips) : Fin 1 → Nat :=
  let c640_i32_130 : BitVec 32 := 640#32
  let c0_i32_52 : BitVec 32 := 0#32
  let c1_i32_53 : BitVec 32 := 1#32
  let arg12 : BitVec 32 := Scf.iv c0_i32_52 c1_i32_53 k1_t3
  let c32_i32_129 : BitVec 32 := 32#32
  let v301 : BitVec 32 := Scalar.muli arg12 c32_i32_129
  let v302 : BitVec 32 := Scalar.addi c640_i32_130 v301
  let c28_i32 : BitVec 32 := 28#32
  let v303 : BitVec 32 := Scalar.addi v302 c28_i32
  let v304 : Index := Scalar.indexCast v303
  ![v304.toNat]
def k1_off186 (v305 : BitVec 32) : Fin 1 → Nat :=
  let v306 : Index := Scalar.indexCast v305
  ![v306.toNat]

def k1_chk93 (i : grid1.Coords) (v305 : BitVec 32) : Prop :=
  (∀ (k1_h1 : k1_cond1 i = 1#1), ∀ a, (k1_off186 v305) a + S1.size a ≤ S4096.size a)
theorem k1_off186_inb : ∀ (i : grid1.Coords) (v305 : BitVec 32) (k1_hw93 : k1_chk93 i v305), ∀ (k1_h1 : k1_cond1 i = 1#1), ∀ a, (k1_off186 v305) a + S1.size a ≤ S4096.size a := fun i v305 k1_hw93 k1_h1 => k1_hw93 k1_h1

def k1_off187 (k1_t3 : Fin k1_t3_loop.trips) : Fin 1 → Nat :=
  let c640_i32_132 : BitVec 32 := 640#32
  let c0_i32_52 : BitVec 32 := 0#32
  let c1_i32_53 : BitVec 32 := 1#32
  let arg12 : BitVec 32 := Scf.iv c0_i32_52 c1_i32_53 k1_t3
  let c32_i32_131 : BitVec 32 := 32#32
  let v309 : BitVec 32 := Scalar.muli arg12 c32_i32_131
  let v310 : BitVec 32 := Scalar.addi c640_i32_132 v309
  let c29_i32 : BitVec 32 := 29#32
  let v311 : BitVec 32 := Scalar.addi v310 c29_i32
  let v312 : Index := Scalar.indexCast v311
  ![v312.toNat]
def k1_off188 (v313 : BitVec 32) : Fin 1 → Nat :=
  let v314 : Index := Scalar.indexCast v313
  ![v314.toNat]

def k1_chk94 (i : grid1.Coords) (v313 : BitVec 32) : Prop :=
  (∀ (k1_h1 : k1_cond1 i = 1#1), ∀ a, (k1_off188 v313) a + S1.size a ≤ S4096.size a)
theorem k1_off188_inb : ∀ (i : grid1.Coords) (v313 : BitVec 32) (k1_hw94 : k1_chk94 i v313), ∀ (k1_h1 : k1_cond1 i = 1#1), ∀ a, (k1_off188 v313) a + S1.size a ≤ S4096.size a := fun i v313 k1_hw94 k1_h1 => k1_hw94 k1_h1

def k1_off189 (k1_t3 : Fin k1_t3_loop.trips) : Fin 1 → Nat :=
  let c640_i32_134 : BitVec 32 := 640#32
  let c0_i32_52 : BitVec 32 := 0#32
  let c1_i32_53 : BitVec 32 := 1#32
  let arg12 : BitVec 32 := Scf.iv c0_i32_52 c1_i32_53 k1_t3
  let c32_i32_133 : BitVec 32 := 32#32
  let v317 : BitVec 32 := Scalar.muli arg12 c32_i32_133
  let v318 : BitVec 32 := Scalar.addi c640_i32_134 v317
  let c30_i32 : BitVec 32 := 30#32
  let v319 : BitVec 32 := Scalar.addi v318 c30_i32
  let v320 : Index := Scalar.indexCast v319
  ![v320.toNat]
def k1_off190 (v321 : BitVec 32) : Fin 1 → Nat :=
  let v322 : Index := Scalar.indexCast v321
  ![v322.toNat]

def k1_chk95 (i : grid1.Coords) (v321 : BitVec 32) : Prop :=
  (∀ (k1_h1 : k1_cond1 i = 1#1), ∀ a, (k1_off190 v321) a + S1.size a ≤ S4096.size a)
theorem k1_off190_inb : ∀ (i : grid1.Coords) (v321 : BitVec 32) (k1_hw95 : k1_chk95 i v321), ∀ (k1_h1 : k1_cond1 i = 1#1), ∀ a, (k1_off190 v321) a + S1.size a ≤ S4096.size a := fun i v321 k1_hw95 k1_h1 => k1_hw95 k1_h1

def k1_off191 (k1_t3 : Fin k1_t3_loop.trips) : Fin 1 → Nat :=
  let c640_i32_136 : BitVec 32 := 640#32
  let c0_i32_52 : BitVec 32 := 0#32
  let c1_i32_53 : BitVec 32 := 1#32
  let arg12 : BitVec 32 := Scf.iv c0_i32_52 c1_i32_53 k1_t3
  let c32_i32_135 : BitVec 32 := 32#32
  let v325 : BitVec 32 := Scalar.muli arg12 c32_i32_135
  let v326 : BitVec 32 := Scalar.addi c640_i32_136 v325
  let c31_i32 : BitVec 32 := 31#32
  let v327 : BitVec 32 := Scalar.addi v326 c31_i32
  let v328 : Index := Scalar.indexCast v327
  ![v328.toNat]
def k1_off192 (v329 : BitVec 32) : Fin 1 → Nat :=
  let v330 : Index := Scalar.indexCast v329
  ![v330.toNat]

def k1_chk96 (i : grid1.Coords) (v329 : BitVec 32) : Prop :=
  (∀ (k1_h1 : k1_cond1 i = 1#1), ∀ a, (k1_off192 v329) a + S1.size a ≤ S4096.size a)
theorem k1_off192_inb : ∀ (i : grid1.Coords) (v329 : BitVec 32) (k1_hw96 : k1_chk96 i v329), ∀ (k1_h1 : k1_cond1 i = 1#1), ∀ a, (k1_off192 v329) a + S1.size a ≤ S4096.size a := fun i v329 k1_hw96 k1_h1 => k1_hw96 k1_h1

@[reducible] def k1_t4_loop : Scf.Loop 32 :=
  let c0_i32_55 : BitVec 32 := 0#32
  let c46_i32 : BitVec 32 := 46#32
  let v68 : BitVec 32 := Scalar.addi c0_i32_55 c46_i32
  let c1_i32_56 : BitVec 32 := 1#32
  ⟨c0_i32_55, v68, c1_i32_56⟩
def k1_off193 (k1_t4 : Fin k1_t4_loop.trips) : Fin 1 → Nat :=
  let c1504_i32 : BitVec 32 := 1504#32
  let c0_i32_55 : BitVec 32 := 0#32
  let c1_i32_56 : BitVec 32 := 1#32
  let arg12 : BitVec 32 := Scf.iv c0_i32_55 c1_i32_56 k1_t4
  let c32_i32 : BitVec 32 := 32#32
  let v77 : BitVec 32 := Scalar.muli arg12 c32_i32
  let v78 : BitVec 32 := Scalar.addi c1504_i32 v77
  let c0_i32_64 : BitVec 32 := 0#32
  let v79 : BitVec 32 := Scalar.addi v78 c0_i32_64
  let v80 : Index := Scalar.indexCast v79
  ![v80.toNat]
def k1_off194 (v81 : BitVec 32) : Fin 1 → Nat :=
  let v82 : Index := Scalar.indexCast v81
  ![v82.toNat]

def k1_chk97 (i : grid1.Coords) (v81 : BitVec 32) : Prop :=
  (∀ (k1_h1 : k1_cond1 i = 1#1), ∀ a, (k1_off194 v81) a + S1.size a ≤ S4096.size a)
theorem k1_off194_inb : ∀ (i : grid1.Coords) (v81 : BitVec 32) (k1_hw97 : k1_chk97 i v81), ∀ (k1_h1 : k1_cond1 i = 1#1), ∀ a, (k1_off194 v81) a + S1.size a ≤ S4096.size a := fun i v81 k1_hw97 k1_h1 => k1_hw97 k1_h1

def k1_off195 (k1_t4 : Fin k1_t4_loop.trips) : Fin 1 → Nat :=
  let c1504_i32_66 : BitVec 32 := 1504#32
  let c0_i32_55 : BitVec 32 := 0#32
  let c1_i32_56 : BitVec 32 := 1#32
  let arg12 : BitVec 32 := Scf.iv c0_i32_55 c1_i32_56 k1_t4
  let c32_i32_65 : BitVec 32 := 32#32
  let v85 : BitVec 32 := Scalar.muli arg12 c32_i32_65
  let v86 : BitVec 32 := Scalar.addi c1504_i32_66 v85
  let c1_i32_67 : BitVec 32 := 1#32
  let v87 : BitVec 32 := Scalar.addi v86 c1_i32_67
  let v88 : Index := Scalar.indexCast v87
  ![v88.toNat]
def k1_off196 (v89 : BitVec 32) : Fin 1 → Nat :=
  let v90 : Index := Scalar.indexCast v89
  ![v90.toNat]

def k1_chk98 (i : grid1.Coords) (v89 : BitVec 32) : Prop :=
  (∀ (k1_h1 : k1_cond1 i = 1#1), ∀ a, (k1_off196 v89) a + S1.size a ≤ S4096.size a)
theorem k1_off196_inb : ∀ (i : grid1.Coords) (v89 : BitVec 32) (k1_hw98 : k1_chk98 i v89), ∀ (k1_h1 : k1_cond1 i = 1#1), ∀ a, (k1_off196 v89) a + S1.size a ≤ S4096.size a := fun i v89 k1_hw98 k1_h1 => k1_hw98 k1_h1

def k1_off197 (k1_t4 : Fin k1_t4_loop.trips) : Fin 1 → Nat :=
  let c1504_i32_69 : BitVec 32 := 1504#32
  let c0_i32_55 : BitVec 32 := 0#32
  let c1_i32_56 : BitVec 32 := 1#32
  let arg12 : BitVec 32 := Scf.iv c0_i32_55 c1_i32_56 k1_t4
  let c32_i32_68 : BitVec 32 := 32#32
  let v93 : BitVec 32 := Scalar.muli arg12 c32_i32_68
  let v94 : BitVec 32 := Scalar.addi c1504_i32_69 v93
  let c2_i32 : BitVec 32 := 2#32
  let v95 : BitVec 32 := Scalar.addi v94 c2_i32
  let v96 : Index := Scalar.indexCast v95
  ![v96.toNat]
def k1_off198 (v97 : BitVec 32) : Fin 1 → Nat :=
  let v98 : Index := Scalar.indexCast v97
  ![v98.toNat]

def k1_chk99 (i : grid1.Coords) (v97 : BitVec 32) : Prop :=
  (∀ (k1_h1 : k1_cond1 i = 1#1), ∀ a, (k1_off198 v97) a + S1.size a ≤ S4096.size a)
theorem k1_off198_inb : ∀ (i : grid1.Coords) (v97 : BitVec 32) (k1_hw99 : k1_chk99 i v97), ∀ (k1_h1 : k1_cond1 i = 1#1), ∀ a, (k1_off198 v97) a + S1.size a ≤ S4096.size a := fun i v97 k1_hw99 k1_h1 => k1_hw99 k1_h1

def k1_off199 (k1_t4 : Fin k1_t4_loop.trips) : Fin 1 → Nat :=
  let c1504_i32_71 : BitVec 32 := 1504#32
  let c0_i32_55 : BitVec 32 := 0#32
  let c1_i32_56 : BitVec 32 := 1#32
  let arg12 : BitVec 32 := Scf.iv c0_i32_55 c1_i32_56 k1_t4
  let c32_i32_70 : BitVec 32 := 32#32
  let v101 : BitVec 32 := Scalar.muli arg12 c32_i32_70
  let v102 : BitVec 32 := Scalar.addi c1504_i32_71 v101
  let c3_i32 : BitVec 32 := 3#32
  let v103 : BitVec 32 := Scalar.addi v102 c3_i32
  let v104 : Index := Scalar.indexCast v103
  ![v104.toNat]
def k1_off200 (v105 : BitVec 32) : Fin 1 → Nat :=
  let v106 : Index := Scalar.indexCast v105
  ![v106.toNat]

def k1_chk100 (i : grid1.Coords) (v105 : BitVec 32) : Prop :=
  (∀ (k1_h1 : k1_cond1 i = 1#1), ∀ a, (k1_off200 v105) a + S1.size a ≤ S4096.size a)
theorem k1_off200_inb : ∀ (i : grid1.Coords) (v105 : BitVec 32) (k1_hw100 : k1_chk100 i v105), ∀ (k1_h1 : k1_cond1 i = 1#1), ∀ a, (k1_off200 v105) a + S1.size a ≤ S4096.size a := fun i v105 k1_hw100 k1_h1 => k1_hw100 k1_h1

def k1_off201 (k1_t4 : Fin k1_t4_loop.trips) : Fin 1 → Nat :=
  let c1504_i32_73 : BitVec 32 := 1504#32
  let c0_i32_55 : BitVec 32 := 0#32
  let c1_i32_56 : BitVec 32 := 1#32
  let arg12 : BitVec 32 := Scf.iv c0_i32_55 c1_i32_56 k1_t4
  let c32_i32_72 : BitVec 32 := 32#32
  let v109 : BitVec 32 := Scalar.muli arg12 c32_i32_72
  let v110 : BitVec 32 := Scalar.addi c1504_i32_73 v109
  let c4_i32_74 : BitVec 32 := 4#32
  let v111 : BitVec 32 := Scalar.addi v110 c4_i32_74
  let v112 : Index := Scalar.indexCast v111
  ![v112.toNat]
def k1_off202 (v113 : BitVec 32) : Fin 1 → Nat :=
  let v114 : Index := Scalar.indexCast v113
  ![v114.toNat]

def k1_chk101 (i : grid1.Coords) (v113 : BitVec 32) : Prop :=
  (∀ (k1_h1 : k1_cond1 i = 1#1), ∀ a, (k1_off202 v113) a + S1.size a ≤ S4096.size a)
theorem k1_off202_inb : ∀ (i : grid1.Coords) (v113 : BitVec 32) (k1_hw101 : k1_chk101 i v113), ∀ (k1_h1 : k1_cond1 i = 1#1), ∀ a, (k1_off202 v113) a + S1.size a ≤ S4096.size a := fun i v113 k1_hw101 k1_h1 => k1_hw101 k1_h1

def k1_off203 (k1_t4 : Fin k1_t4_loop.trips) : Fin 1 → Nat :=
  let c1504_i32_76 : BitVec 32 := 1504#32
  let c0_i32_55 : BitVec 32 := 0#32
  let c1_i32_56 : BitVec 32 := 1#32
  let arg12 : BitVec 32 := Scf.iv c0_i32_55 c1_i32_56 k1_t4
  let c32_i32_75 : BitVec 32 := 32#32
  let v117 : BitVec 32 := Scalar.muli arg12 c32_i32_75
  let v118 : BitVec 32 := Scalar.addi c1504_i32_76 v117
  let c5_i32_77 : BitVec 32 := 5#32
  let v119 : BitVec 32 := Scalar.addi v118 c5_i32_77
  let v120 : Index := Scalar.indexCast v119
  ![v120.toNat]
def k1_off204 (v121 : BitVec 32) : Fin 1 → Nat :=
  let v122 : Index := Scalar.indexCast v121
  ![v122.toNat]

def k1_chk102 (i : grid1.Coords) (v121 : BitVec 32) : Prop :=
  (∀ (k1_h1 : k1_cond1 i = 1#1), ∀ a, (k1_off204 v121) a + S1.size a ≤ S4096.size a)
theorem k1_off204_inb : ∀ (i : grid1.Coords) (v121 : BitVec 32) (k1_hw102 : k1_chk102 i v121), ∀ (k1_h1 : k1_cond1 i = 1#1), ∀ a, (k1_off204 v121) a + S1.size a ≤ S4096.size a := fun i v121 k1_hw102 k1_h1 => k1_hw102 k1_h1

def k1_off205 (k1_t4 : Fin k1_t4_loop.trips) : Fin 1 → Nat :=
  let c1504_i32_79 : BitVec 32 := 1504#32
  let c0_i32_55 : BitVec 32 := 0#32
  let c1_i32_56 : BitVec 32 := 1#32
  let arg12 : BitVec 32 := Scf.iv c0_i32_55 c1_i32_56 k1_t4
  let c32_i32_78 : BitVec 32 := 32#32
  let v125 : BitVec 32 := Scalar.muli arg12 c32_i32_78
  let v126 : BitVec 32 := Scalar.addi c1504_i32_79 v125
  let c6_i32 : BitVec 32 := 6#32
  let v127 : BitVec 32 := Scalar.addi v126 c6_i32
  let v128 : Index := Scalar.indexCast v127
  ![v128.toNat]
def k1_off206 (v129 : BitVec 32) : Fin 1 → Nat :=
  let v130 : Index := Scalar.indexCast v129
  ![v130.toNat]

def k1_chk103 (i : grid1.Coords) (v129 : BitVec 32) : Prop :=
  (∀ (k1_h1 : k1_cond1 i = 1#1), ∀ a, (k1_off206 v129) a + S1.size a ≤ S4096.size a)
theorem k1_off206_inb : ∀ (i : grid1.Coords) (v129 : BitVec 32) (k1_hw103 : k1_chk103 i v129), ∀ (k1_h1 : k1_cond1 i = 1#1), ∀ a, (k1_off206 v129) a + S1.size a ≤ S4096.size a := fun i v129 k1_hw103 k1_h1 => k1_hw103 k1_h1

def k1_off207 (k1_t4 : Fin k1_t4_loop.trips) : Fin 1 → Nat :=
  let c1504_i32_81 : BitVec 32 := 1504#32
  let c0_i32_55 : BitVec 32 := 0#32
  let c1_i32_56 : BitVec 32 := 1#32
  let arg12 : BitVec 32 := Scf.iv c0_i32_55 c1_i32_56 k1_t4
  let c32_i32_80 : BitVec 32 := 32#32
  let v133 : BitVec 32 := Scalar.muli arg12 c32_i32_80
  let v134 : BitVec 32 := Scalar.addi c1504_i32_81 v133
  let c7_i32 : BitVec 32 := 7#32
  let v135 : BitVec 32 := Scalar.addi v134 c7_i32
  let v136 : Index := Scalar.indexCast v135
  ![v136.toNat]
def k1_off208 (v137 : BitVec 32) : Fin 1 → Nat :=
  let v138 : Index := Scalar.indexCast v137
  ![v138.toNat]

def k1_chk104 (i : grid1.Coords) (v137 : BitVec 32) : Prop :=
  (∀ (k1_h1 : k1_cond1 i = 1#1), ∀ a, (k1_off208 v137) a + S1.size a ≤ S4096.size a)
theorem k1_off208_inb : ∀ (i : grid1.Coords) (v137 : BitVec 32) (k1_hw104 : k1_chk104 i v137), ∀ (k1_h1 : k1_cond1 i = 1#1), ∀ a, (k1_off208 v137) a + S1.size a ≤ S4096.size a := fun i v137 k1_hw104 k1_h1 => k1_hw104 k1_h1

def k1_off209 (k1_t4 : Fin k1_t4_loop.trips) : Fin 1 → Nat :=
  let c1504_i32_83 : BitVec 32 := 1504#32
  let c0_i32_55 : BitVec 32 := 0#32
  let c1_i32_56 : BitVec 32 := 1#32
  let arg12 : BitVec 32 := Scf.iv c0_i32_55 c1_i32_56 k1_t4
  let c32_i32_82 : BitVec 32 := 32#32
  let v141 : BitVec 32 := Scalar.muli arg12 c32_i32_82
  let v142 : BitVec 32 := Scalar.addi c1504_i32_83 v141
  let c8_i32_84 : BitVec 32 := 8#32
  let v143 : BitVec 32 := Scalar.addi v142 c8_i32_84
  let v144 : Index := Scalar.indexCast v143
  ![v144.toNat]
def k1_off210 (v145 : BitVec 32) : Fin 1 → Nat :=
  let v146 : Index := Scalar.indexCast v145
  ![v146.toNat]

def k1_chk105 (i : grid1.Coords) (v145 : BitVec 32) : Prop :=
  (∀ (k1_h1 : k1_cond1 i = 1#1), ∀ a, (k1_off210 v145) a + S1.size a ≤ S4096.size a)
theorem k1_off210_inb : ∀ (i : grid1.Coords) (v145 : BitVec 32) (k1_hw105 : k1_chk105 i v145), ∀ (k1_h1 : k1_cond1 i = 1#1), ∀ a, (k1_off210 v145) a + S1.size a ≤ S4096.size a := fun i v145 k1_hw105 k1_h1 => k1_hw105 k1_h1

def k1_off211 (k1_t4 : Fin k1_t4_loop.trips) : Fin 1 → Nat :=
  let c1504_i32_86 : BitVec 32 := 1504#32
  let c0_i32_55 : BitVec 32 := 0#32
  let c1_i32_56 : BitVec 32 := 1#32
  let arg12 : BitVec 32 := Scf.iv c0_i32_55 c1_i32_56 k1_t4
  let c32_i32_85 : BitVec 32 := 32#32
  let v149 : BitVec 32 := Scalar.muli arg12 c32_i32_85
  let v150 : BitVec 32 := Scalar.addi c1504_i32_86 v149
  let c9_i32_87 : BitVec 32 := 9#32
  let v151 : BitVec 32 := Scalar.addi v150 c9_i32_87
  let v152 : Index := Scalar.indexCast v151
  ![v152.toNat]
def k1_off212 (v153 : BitVec 32) : Fin 1 → Nat :=
  let v154 : Index := Scalar.indexCast v153
  ![v154.toNat]

def k1_chk106 (i : grid1.Coords) (v153 : BitVec 32) : Prop :=
  (∀ (k1_h1 : k1_cond1 i = 1#1), ∀ a, (k1_off212 v153) a + S1.size a ≤ S4096.size a)
theorem k1_off212_inb : ∀ (i : grid1.Coords) (v153 : BitVec 32) (k1_hw106 : k1_chk106 i v153), ∀ (k1_h1 : k1_cond1 i = 1#1), ∀ a, (k1_off212 v153) a + S1.size a ≤ S4096.size a := fun i v153 k1_hw106 k1_h1 => k1_hw106 k1_h1

def k1_off213 (k1_t4 : Fin k1_t4_loop.trips) : Fin 1 → Nat :=
  let c1504_i32_89 : BitVec 32 := 1504#32
  let c0_i32_55 : BitVec 32 := 0#32
  let c1_i32_56 : BitVec 32 := 1#32
  let arg12 : BitVec 32 := Scf.iv c0_i32_55 c1_i32_56 k1_t4
  let c32_i32_88 : BitVec 32 := 32#32
  let v157 : BitVec 32 := Scalar.muli arg12 c32_i32_88
  let v158 : BitVec 32 := Scalar.addi c1504_i32_89 v157
  let c10_i32 : BitVec 32 := 10#32
  let v159 : BitVec 32 := Scalar.addi v158 c10_i32
  let v160 : Index := Scalar.indexCast v159
  ![v160.toNat]
def k1_off214 (v161 : BitVec 32) : Fin 1 → Nat :=
  let v162 : Index := Scalar.indexCast v161
  ![v162.toNat]

def k1_chk107 (i : grid1.Coords) (v161 : BitVec 32) : Prop :=
  (∀ (k1_h1 : k1_cond1 i = 1#1), ∀ a, (k1_off214 v161) a + S1.size a ≤ S4096.size a)
theorem k1_off214_inb : ∀ (i : grid1.Coords) (v161 : BitVec 32) (k1_hw107 : k1_chk107 i v161), ∀ (k1_h1 : k1_cond1 i = 1#1), ∀ a, (k1_off214 v161) a + S1.size a ≤ S4096.size a := fun i v161 k1_hw107 k1_h1 => k1_hw107 k1_h1

def k1_off215 (k1_t4 : Fin k1_t4_loop.trips) : Fin 1 → Nat :=
  let c1504_i32_91 : BitVec 32 := 1504#32
  let c0_i32_55 : BitVec 32 := 0#32
  let c1_i32_56 : BitVec 32 := 1#32
  let arg12 : BitVec 32 := Scf.iv c0_i32_55 c1_i32_56 k1_t4
  let c32_i32_90 : BitVec 32 := 32#32
  let v165 : BitVec 32 := Scalar.muli arg12 c32_i32_90
  let v166 : BitVec 32 := Scalar.addi c1504_i32_91 v165
  let c11_i32 : BitVec 32 := 11#32
  let v167 : BitVec 32 := Scalar.addi v166 c11_i32
  let v168 : Index := Scalar.indexCast v167
  ![v168.toNat]
def k1_off216 (v169 : BitVec 32) : Fin 1 → Nat :=
  let v170 : Index := Scalar.indexCast v169
  ![v170.toNat]

def k1_chk108 (i : grid1.Coords) (v169 : BitVec 32) : Prop :=
  (∀ (k1_h1 : k1_cond1 i = 1#1), ∀ a, (k1_off216 v169) a + S1.size a ≤ S4096.size a)
theorem k1_off216_inb : ∀ (i : grid1.Coords) (v169 : BitVec 32) (k1_hw108 : k1_chk108 i v169), ∀ (k1_h1 : k1_cond1 i = 1#1), ∀ a, (k1_off216 v169) a + S1.size a ≤ S4096.size a := fun i v169 k1_hw108 k1_h1 => k1_hw108 k1_h1

def k1_off217 (k1_t4 : Fin k1_t4_loop.trips) : Fin 1 → Nat :=
  let c1504_i32_93 : BitVec 32 := 1504#32
  let c0_i32_55 : BitVec 32 := 0#32
  let c1_i32_56 : BitVec 32 := 1#32
  let arg12 : BitVec 32 := Scf.iv c0_i32_55 c1_i32_56 k1_t4
  let c32_i32_92 : BitVec 32 := 32#32
  let v173 : BitVec 32 := Scalar.muli arg12 c32_i32_92
  let v174 : BitVec 32 := Scalar.addi c1504_i32_93 v173
  let c12_i32 : BitVec 32 := 12#32
  let v175 : BitVec 32 := Scalar.addi v174 c12_i32
  let v176 : Index := Scalar.indexCast v175
  ![v176.toNat]
def k1_off218 (v177 : BitVec 32) : Fin 1 → Nat :=
  let v178 : Index := Scalar.indexCast v177
  ![v178.toNat]

def k1_chk109 (i : grid1.Coords) (v177 : BitVec 32) : Prop :=
  (∀ (k1_h1 : k1_cond1 i = 1#1), ∀ a, (k1_off218 v177) a + S1.size a ≤ S4096.size a)
theorem k1_off218_inb : ∀ (i : grid1.Coords) (v177 : BitVec 32) (k1_hw109 : k1_chk109 i v177), ∀ (k1_h1 : k1_cond1 i = 1#1), ∀ a, (k1_off218 v177) a + S1.size a ≤ S4096.size a := fun i v177 k1_hw109 k1_h1 => k1_hw109 k1_h1

def k1_off219 (k1_t4 : Fin k1_t4_loop.trips) : Fin 1 → Nat :=
  let c1504_i32_95 : BitVec 32 := 1504#32
  let c0_i32_55 : BitVec 32 := 0#32
  let c1_i32_56 : BitVec 32 := 1#32
  let arg12 : BitVec 32 := Scf.iv c0_i32_55 c1_i32_56 k1_t4
  let c32_i32_94 : BitVec 32 := 32#32
  let v181 : BitVec 32 := Scalar.muli arg12 c32_i32_94
  let v182 : BitVec 32 := Scalar.addi c1504_i32_95 v181
  let c13_i32 : BitVec 32 := 13#32
  let v183 : BitVec 32 := Scalar.addi v182 c13_i32
  let v184 : Index := Scalar.indexCast v183
  ![v184.toNat]
def k1_off220 (v185 : BitVec 32) : Fin 1 → Nat :=
  let v186 : Index := Scalar.indexCast v185
  ![v186.toNat]

def k1_chk110 (i : grid1.Coords) (v185 : BitVec 32) : Prop :=
  (∀ (k1_h1 : k1_cond1 i = 1#1), ∀ a, (k1_off220 v185) a + S1.size a ≤ S4096.size a)
theorem k1_off220_inb : ∀ (i : grid1.Coords) (v185 : BitVec 32) (k1_hw110 : k1_chk110 i v185), ∀ (k1_h1 : k1_cond1 i = 1#1), ∀ a, (k1_off220 v185) a + S1.size a ≤ S4096.size a := fun i v185 k1_hw110 k1_h1 => k1_hw110 k1_h1

def k1_off221 (k1_t4 : Fin k1_t4_loop.trips) : Fin 1 → Nat :=
  let c1504_i32_97 : BitVec 32 := 1504#32
  let c0_i32_55 : BitVec 32 := 0#32
  let c1_i32_56 : BitVec 32 := 1#32
  let arg12 : BitVec 32 := Scf.iv c0_i32_55 c1_i32_56 k1_t4
  let c32_i32_96 : BitVec 32 := 32#32
  let v189 : BitVec 32 := Scalar.muli arg12 c32_i32_96
  let v190 : BitVec 32 := Scalar.addi c1504_i32_97 v189
  let c14_i32 : BitVec 32 := 14#32
  let v191 : BitVec 32 := Scalar.addi v190 c14_i32
  let v192 : Index := Scalar.indexCast v191
  ![v192.toNat]
def k1_off222 (v193 : BitVec 32) : Fin 1 → Nat :=
  let v194 : Index := Scalar.indexCast v193
  ![v194.toNat]

def k1_chk111 (i : grid1.Coords) (v193 : BitVec 32) : Prop :=
  (∀ (k1_h1 : k1_cond1 i = 1#1), ∀ a, (k1_off222 v193) a + S1.size a ≤ S4096.size a)
theorem k1_off222_inb : ∀ (i : grid1.Coords) (v193 : BitVec 32) (k1_hw111 : k1_chk111 i v193), ∀ (k1_h1 : k1_cond1 i = 1#1), ∀ a, (k1_off222 v193) a + S1.size a ≤ S4096.size a := fun i v193 k1_hw111 k1_h1 => k1_hw111 k1_h1

def k1_off223 (k1_t4 : Fin k1_t4_loop.trips) : Fin 1 → Nat :=
  let c1504_i32_99 : BitVec 32 := 1504#32
  let c0_i32_55 : BitVec 32 := 0#32
  let c1_i32_56 : BitVec 32 := 1#32
  let arg12 : BitVec 32 := Scf.iv c0_i32_55 c1_i32_56 k1_t4
  let c32_i32_98 : BitVec 32 := 32#32
  let v197 : BitVec 32 := Scalar.muli arg12 c32_i32_98
  let v198 : BitVec 32 := Scalar.addi c1504_i32_99 v197
  let c15_i32_100 : BitVec 32 := 15#32
  let v199 : BitVec 32 := Scalar.addi v198 c15_i32_100
  let v200 : Index := Scalar.indexCast v199
  ![v200.toNat]
def k1_off224 (v201 : BitVec 32) : Fin 1 → Nat :=
  let v202 : Index := Scalar.indexCast v201
  ![v202.toNat]

def k1_chk112 (i : grid1.Coords) (v201 : BitVec 32) : Prop :=
  (∀ (k1_h1 : k1_cond1 i = 1#1), ∀ a, (k1_off224 v201) a + S1.size a ≤ S4096.size a)
theorem k1_off224_inb : ∀ (i : grid1.Coords) (v201 : BitVec 32) (k1_hw112 : k1_chk112 i v201), ∀ (k1_h1 : k1_cond1 i = 1#1), ∀ a, (k1_off224 v201) a + S1.size a ≤ S4096.size a := fun i v201 k1_hw112 k1_h1 => k1_hw112 k1_h1

def k1_off225 (k1_t4 : Fin k1_t4_loop.trips) : Fin 1 → Nat :=
  let c1504_i32_102 : BitVec 32 := 1504#32
  let c0_i32_55 : BitVec 32 := 0#32
  let c1_i32_56 : BitVec 32 := 1#32
  let arg12 : BitVec 32 := Scf.iv c0_i32_55 c1_i32_56 k1_t4
  let c32_i32_101 : BitVec 32 := 32#32
  let v205 : BitVec 32 := Scalar.muli arg12 c32_i32_101
  let v206 : BitVec 32 := Scalar.addi c1504_i32_102 v205
  let c16_i32 : BitVec 32 := 16#32
  let v207 : BitVec 32 := Scalar.addi v206 c16_i32
  let v208 : Index := Scalar.indexCast v207
  ![v208.toNat]
def k1_off226 (v209 : BitVec 32) : Fin 1 → Nat :=
  let v210 : Index := Scalar.indexCast v209
  ![v210.toNat]

def k1_chk113 (i : grid1.Coords) (v209 : BitVec 32) : Prop :=
  (∀ (k1_h1 : k1_cond1 i = 1#1), ∀ a, (k1_off226 v209) a + S1.size a ≤ S4096.size a)
theorem k1_off226_inb : ∀ (i : grid1.Coords) (v209 : BitVec 32) (k1_hw113 : k1_chk113 i v209), ∀ (k1_h1 : k1_cond1 i = 1#1), ∀ a, (k1_off226 v209) a + S1.size a ≤ S4096.size a := fun i v209 k1_hw113 k1_h1 => k1_hw113 k1_h1

def k1_off227 (k1_t4 : Fin k1_t4_loop.trips) : Fin 1 → Nat :=
  let c1504_i32_104 : BitVec 32 := 1504#32
  let c0_i32_55 : BitVec 32 := 0#32
  let c1_i32_56 : BitVec 32 := 1#32
  let arg12 : BitVec 32 := Scf.iv c0_i32_55 c1_i32_56 k1_t4
  let c32_i32_103 : BitVec 32 := 32#32
  let v213 : BitVec 32 := Scalar.muli arg12 c32_i32_103
  let v214 : BitVec 32 := Scalar.addi c1504_i32_104 v213
  let c17_i32 : BitVec 32 := 17#32
  let v215 : BitVec 32 := Scalar.addi v214 c17_i32
  let v216 : Index := Scalar.indexCast v215
  ![v216.toNat]
def k1_off228 (v217 : BitVec 32) : Fin 1 → Nat :=
  let v218 : Index := Scalar.indexCast v217
  ![v218.toNat]

def k1_chk114 (i : grid1.Coords) (v217 : BitVec 32) : Prop :=
  (∀ (k1_h1 : k1_cond1 i = 1#1), ∀ a, (k1_off228 v217) a + S1.size a ≤ S4096.size a)
theorem k1_off228_inb : ∀ (i : grid1.Coords) (v217 : BitVec 32) (k1_hw114 : k1_chk114 i v217), ∀ (k1_h1 : k1_cond1 i = 1#1), ∀ a, (k1_off228 v217) a + S1.size a ≤ S4096.size a := fun i v217 k1_hw114 k1_h1 => k1_hw114 k1_h1

def k1_off229 (k1_t4 : Fin k1_t4_loop.trips) : Fin 1 → Nat :=
  let c1504_i32_106 : BitVec 32 := 1504#32
  let c0_i32_55 : BitVec 32 := 0#32
  let c1_i32_56 : BitVec 32 := 1#32
  let arg12 : BitVec 32 := Scf.iv c0_i32_55 c1_i32_56 k1_t4
  let c32_i32_105 : BitVec 32 := 32#32
  let v221 : BitVec 32 := Scalar.muli arg12 c32_i32_105
  let v222 : BitVec 32 := Scalar.addi c1504_i32_106 v221
  let c18_i32 : BitVec 32 := 18#32
  let v223 : BitVec 32 := Scalar.addi v222 c18_i32
  let v224 : Index := Scalar.indexCast v223
  ![v224.toNat]
def k1_off230 (v225 : BitVec 32) : Fin 1 → Nat :=
  let v226 : Index := Scalar.indexCast v225
  ![v226.toNat]

def k1_chk115 (i : grid1.Coords) (v225 : BitVec 32) : Prop :=
  (∀ (k1_h1 : k1_cond1 i = 1#1), ∀ a, (k1_off230 v225) a + S1.size a ≤ S4096.size a)
theorem k1_off230_inb : ∀ (i : grid1.Coords) (v225 : BitVec 32) (k1_hw115 : k1_chk115 i v225), ∀ (k1_h1 : k1_cond1 i = 1#1), ∀ a, (k1_off230 v225) a + S1.size a ≤ S4096.size a := fun i v225 k1_hw115 k1_h1 => k1_hw115 k1_h1

def k1_off231 (k1_t4 : Fin k1_t4_loop.trips) : Fin 1 → Nat :=
  let c1504_i32_108 : BitVec 32 := 1504#32
  let c0_i32_55 : BitVec 32 := 0#32
  let c1_i32_56 : BitVec 32 := 1#32
  let arg12 : BitVec 32 := Scf.iv c0_i32_55 c1_i32_56 k1_t4
  let c32_i32_107 : BitVec 32 := 32#32
  let v229 : BitVec 32 := Scalar.muli arg12 c32_i32_107
  let v230 : BitVec 32 := Scalar.addi c1504_i32_108 v229
  let c19_i32 : BitVec 32 := 19#32
  let v231 : BitVec 32 := Scalar.addi v230 c19_i32
  let v232 : Index := Scalar.indexCast v231
  ![v232.toNat]
def k1_off232 (v233 : BitVec 32) : Fin 1 → Nat :=
  let v234 : Index := Scalar.indexCast v233
  ![v234.toNat]

def k1_chk116 (i : grid1.Coords) (v233 : BitVec 32) : Prop :=
  (∀ (k1_h1 : k1_cond1 i = 1#1), ∀ a, (k1_off232 v233) a + S1.size a ≤ S4096.size a)
theorem k1_off232_inb : ∀ (i : grid1.Coords) (v233 : BitVec 32) (k1_hw116 : k1_chk116 i v233), ∀ (k1_h1 : k1_cond1 i = 1#1), ∀ a, (k1_off232 v233) a + S1.size a ≤ S4096.size a := fun i v233 k1_hw116 k1_h1 => k1_hw116 k1_h1

def k1_off233 (k1_t4 : Fin k1_t4_loop.trips) : Fin 1 → Nat :=
  let c1504_i32_110 : BitVec 32 := 1504#32
  let c0_i32_55 : BitVec 32 := 0#32
  let c1_i32_56 : BitVec 32 := 1#32
  let arg12 : BitVec 32 := Scf.iv c0_i32_55 c1_i32_56 k1_t4
  let c32_i32_109 : BitVec 32 := 32#32
  let v237 : BitVec 32 := Scalar.muli arg12 c32_i32_109
  let v238 : BitVec 32 := Scalar.addi c1504_i32_110 v237
  let c20_i32_111 : BitVec 32 := 20#32
  let v239 : BitVec 32 := Scalar.addi v238 c20_i32_111
  let v240 : Index := Scalar.indexCast v239
  ![v240.toNat]
def k1_off234 (v241 : BitVec 32) : Fin 1 → Nat :=
  let v242 : Index := Scalar.indexCast v241
  ![v242.toNat]

def k1_chk117 (i : grid1.Coords) (v241 : BitVec 32) : Prop :=
  (∀ (k1_h1 : k1_cond1 i = 1#1), ∀ a, (k1_off234 v241) a + S1.size a ≤ S4096.size a)
theorem k1_off234_inb : ∀ (i : grid1.Coords) (v241 : BitVec 32) (k1_hw117 : k1_chk117 i v241), ∀ (k1_h1 : k1_cond1 i = 1#1), ∀ a, (k1_off234 v241) a + S1.size a ≤ S4096.size a := fun i v241 k1_hw117 k1_h1 => k1_hw117 k1_h1

def k1_off235 (k1_t4 : Fin k1_t4_loop.trips) : Fin 1 → Nat :=
  let c1504_i32_113 : BitVec 32 := 1504#32
  let c0_i32_55 : BitVec 32 := 0#32
  let c1_i32_56 : BitVec 32 := 1#32
  let arg12 : BitVec 32 := Scf.iv c0_i32_55 c1_i32_56 k1_t4
  let c32_i32_112 : BitVec 32 := 32#32
  let v245 : BitVec 32 := Scalar.muli arg12 c32_i32_112
  let v246 : BitVec 32 := Scalar.addi c1504_i32_113 v245
  let c21_i32 : BitVec 32 := 21#32
  let v247 : BitVec 32 := Scalar.addi v246 c21_i32
  let v248 : Index := Scalar.indexCast v247
  ![v248.toNat]
def k1_off236 (v249 : BitVec 32) : Fin 1 → Nat :=
  let v250 : Index := Scalar.indexCast v249
  ![v250.toNat]

def k1_chk118 (i : grid1.Coords) (v249 : BitVec 32) : Prop :=
  (∀ (k1_h1 : k1_cond1 i = 1#1), ∀ a, (k1_off236 v249) a + S1.size a ≤ S4096.size a)
theorem k1_off236_inb : ∀ (i : grid1.Coords) (v249 : BitVec 32) (k1_hw118 : k1_chk118 i v249), ∀ (k1_h1 : k1_cond1 i = 1#1), ∀ a, (k1_off236 v249) a + S1.size a ≤ S4096.size a := fun i v249 k1_hw118 k1_h1 => k1_hw118 k1_h1

def k1_off237 (k1_t4 : Fin k1_t4_loop.trips) : Fin 1 → Nat :=
  let c1504_i32_115 : BitVec 32 := 1504#32
  let c0_i32_55 : BitVec 32 := 0#32
  let c1_i32_56 : BitVec 32 := 1#32
  let arg12 : BitVec 32 := Scf.iv c0_i32_55 c1_i32_56 k1_t4
  let c32_i32_114 : BitVec 32 := 32#32
  let v253 : BitVec 32 := Scalar.muli arg12 c32_i32_114
  let v254 : BitVec 32 := Scalar.addi c1504_i32_115 v253
  let c22_i32 : BitVec 32 := 22#32
  let v255 : BitVec 32 := Scalar.addi v254 c22_i32
  let v256 : Index := Scalar.indexCast v255
  ![v256.toNat]
def k1_off238 (v257 : BitVec 32) : Fin 1 → Nat :=
  let v258 : Index := Scalar.indexCast v257
  ![v258.toNat]

def k1_chk119 (i : grid1.Coords) (v257 : BitVec 32) : Prop :=
  (∀ (k1_h1 : k1_cond1 i = 1#1), ∀ a, (k1_off238 v257) a + S1.size a ≤ S4096.size a)
theorem k1_off238_inb : ∀ (i : grid1.Coords) (v257 : BitVec 32) (k1_hw119 : k1_chk119 i v257), ∀ (k1_h1 : k1_cond1 i = 1#1), ∀ a, (k1_off238 v257) a + S1.size a ≤ S4096.size a := fun i v257 k1_hw119 k1_h1 => k1_hw119 k1_h1

def k1_off239 (k1_t4 : Fin k1_t4_loop.trips) : Fin 1 → Nat :=
  let c1504_i32_117 : BitVec 32 := 1504#32
  let c0_i32_55 : BitVec 32 := 0#32
  let c1_i32_56 : BitVec 32 := 1#32
  let arg12 : BitVec 32 := Scf.iv c0_i32_55 c1_i32_56 k1_t4
  let c32_i32_116 : BitVec 32 := 32#32
  let v261 : BitVec 32 := Scalar.muli arg12 c32_i32_116
  let v262 : BitVec 32 := Scalar.addi c1504_i32_117 v261
  let c23_i32 : BitVec 32 := 23#32
  let v263 : BitVec 32 := Scalar.addi v262 c23_i32
  let v264 : Index := Scalar.indexCast v263
  ![v264.toNat]
def k1_off240 (v265 : BitVec 32) : Fin 1 → Nat :=
  let v266 : Index := Scalar.indexCast v265
  ![v266.toNat]

def k1_chk120 (i : grid1.Coords) (v265 : BitVec 32) : Prop :=
  (∀ (k1_h1 : k1_cond1 i = 1#1), ∀ a, (k1_off240 v265) a + S1.size a ≤ S4096.size a)
theorem k1_off240_inb : ∀ (i : grid1.Coords) (v265 : BitVec 32) (k1_hw120 : k1_chk120 i v265), ∀ (k1_h1 : k1_cond1 i = 1#1), ∀ a, (k1_off240 v265) a + S1.size a ≤ S4096.size a := fun i v265 k1_hw120 k1_h1 => k1_hw120 k1_h1

def k1_off241 (k1_t4 : Fin k1_t4_loop.trips) : Fin 1 → Nat :=
  let c1504_i32_119 : BitVec 32 := 1504#32
  let c0_i32_55 : BitVec 32 := 0#32
  let c1_i32_56 : BitVec 32 := 1#32
  let arg12 : BitVec 32 := Scf.iv c0_i32_55 c1_i32_56 k1_t4
  let c32_i32_118 : BitVec 32 := 32#32
  let v269 : BitVec 32 := Scalar.muli arg12 c32_i32_118
  let v270 : BitVec 32 := Scalar.addi c1504_i32_119 v269
  let c24_i32 : BitVec 32 := 24#32
  let v271 : BitVec 32 := Scalar.addi v270 c24_i32
  let v272 : Index := Scalar.indexCast v271
  ![v272.toNat]
def k1_off242 (v273 : BitVec 32) : Fin 1 → Nat :=
  let v274 : Index := Scalar.indexCast v273
  ![v274.toNat]

def k1_chk121 (i : grid1.Coords) (v273 : BitVec 32) : Prop :=
  (∀ (k1_h1 : k1_cond1 i = 1#1), ∀ a, (k1_off242 v273) a + S1.size a ≤ S4096.size a)
theorem k1_off242_inb : ∀ (i : grid1.Coords) (v273 : BitVec 32) (k1_hw121 : k1_chk121 i v273), ∀ (k1_h1 : k1_cond1 i = 1#1), ∀ a, (k1_off242 v273) a + S1.size a ≤ S4096.size a := fun i v273 k1_hw121 k1_h1 => k1_hw121 k1_h1

def k1_off243 (k1_t4 : Fin k1_t4_loop.trips) : Fin 1 → Nat :=
  let c1504_i32_121 : BitVec 32 := 1504#32
  let c0_i32_55 : BitVec 32 := 0#32
  let c1_i32_56 : BitVec 32 := 1#32
  let arg12 : BitVec 32 := Scf.iv c0_i32_55 c1_i32_56 k1_t4
  let c32_i32_120 : BitVec 32 := 32#32
  let v277 : BitVec 32 := Scalar.muli arg12 c32_i32_120
  let v278 : BitVec 32 := Scalar.addi c1504_i32_121 v277
  let c25_i32 : BitVec 32 := 25#32
  let v279 : BitVec 32 := Scalar.addi v278 c25_i32
  let v280 : Index := Scalar.indexCast v279
  ![v280.toNat]
def k1_off244 (v281 : BitVec 32) : Fin 1 → Nat :=
  let v282 : Index := Scalar.indexCast v281
  ![v282.toNat]

def k1_chk122 (i : grid1.Coords) (v281 : BitVec 32) : Prop :=
  (∀ (k1_h1 : k1_cond1 i = 1#1), ∀ a, (k1_off244 v281) a + S1.size a ≤ S4096.size a)
theorem k1_off244_inb : ∀ (i : grid1.Coords) (v281 : BitVec 32) (k1_hw122 : k1_chk122 i v281), ∀ (k1_h1 : k1_cond1 i = 1#1), ∀ a, (k1_off244 v281) a + S1.size a ≤ S4096.size a := fun i v281 k1_hw122 k1_h1 => k1_hw122 k1_h1

def k1_off245 (k1_t4 : Fin k1_t4_loop.trips) : Fin 1 → Nat :=
  let c1504_i32_123 : BitVec 32 := 1504#32
  let c0_i32_55 : BitVec 32 := 0#32
  let c1_i32_56 : BitVec 32 := 1#32
  let arg12 : BitVec 32 := Scf.iv c0_i32_55 c1_i32_56 k1_t4
  let c32_i32_122 : BitVec 32 := 32#32
  let v285 : BitVec 32 := Scalar.muli arg12 c32_i32_122
  let v286 : BitVec 32 := Scalar.addi c1504_i32_123 v285
  let c26_i32_124 : BitVec 32 := 26#32
  let v287 : BitVec 32 := Scalar.addi v286 c26_i32_124
  let v288 : Index := Scalar.indexCast v287
  ![v288.toNat]
def k1_off246 (v289 : BitVec 32) : Fin 1 → Nat :=
  let v290 : Index := Scalar.indexCast v289
  ![v290.toNat]

def k1_chk123 (i : grid1.Coords) (v289 : BitVec 32) : Prop :=
  (∀ (k1_h1 : k1_cond1 i = 1#1), ∀ a, (k1_off246 v289) a + S1.size a ≤ S4096.size a)
theorem k1_off246_inb : ∀ (i : grid1.Coords) (v289 : BitVec 32) (k1_hw123 : k1_chk123 i v289), ∀ (k1_h1 : k1_cond1 i = 1#1), ∀ a, (k1_off246 v289) a + S1.size a ≤ S4096.size a := fun i v289 k1_hw123 k1_h1 => k1_hw123 k1_h1

def k1_off247 (k1_t4 : Fin k1_t4_loop.trips) : Fin 1 → Nat :=
  let c1504_i32_126 : BitVec 32 := 1504#32
  let c0_i32_55 : BitVec 32 := 0#32
  let c1_i32_56 : BitVec 32 := 1#32
  let arg12 : BitVec 32 := Scf.iv c0_i32_55 c1_i32_56 k1_t4
  let c32_i32_125 : BitVec 32 := 32#32
  let v293 : BitVec 32 := Scalar.muli arg12 c32_i32_125
  let v294 : BitVec 32 := Scalar.addi c1504_i32_126 v293
  let c27_i32_127 : BitVec 32 := 27#32
  let v295 : BitVec 32 := Scalar.addi v294 c27_i32_127
  let v296 : Index := Scalar.indexCast v295
  ![v296.toNat]
def k1_off248 (v297 : BitVec 32) : Fin 1 → Nat :=
  let v298 : Index := Scalar.indexCast v297
  ![v298.toNat]

def k1_chk124 (i : grid1.Coords) (v297 : BitVec 32) : Prop :=
  (∀ (k1_h1 : k1_cond1 i = 1#1), ∀ a, (k1_off248 v297) a + S1.size a ≤ S4096.size a)
theorem k1_off248_inb : ∀ (i : grid1.Coords) (v297 : BitVec 32) (k1_hw124 : k1_chk124 i v297), ∀ (k1_h1 : k1_cond1 i = 1#1), ∀ a, (k1_off248 v297) a + S1.size a ≤ S4096.size a := fun i v297 k1_hw124 k1_h1 => k1_hw124 k1_h1

def k1_off249 (k1_t4 : Fin k1_t4_loop.trips) : Fin 1 → Nat :=
  let c1504_i32_129 : BitVec 32 := 1504#32
  let c0_i32_55 : BitVec 32 := 0#32
  let c1_i32_56 : BitVec 32 := 1#32
  let arg12 : BitVec 32 := Scf.iv c0_i32_55 c1_i32_56 k1_t4
  let c32_i32_128 : BitVec 32 := 32#32
  let v301 : BitVec 32 := Scalar.muli arg12 c32_i32_128
  let v302 : BitVec 32 := Scalar.addi c1504_i32_129 v301
  let c28_i32 : BitVec 32 := 28#32
  let v303 : BitVec 32 := Scalar.addi v302 c28_i32
  let v304 : Index := Scalar.indexCast v303
  ![v304.toNat]
def k1_off250 (v305 : BitVec 32) : Fin 1 → Nat :=
  let v306 : Index := Scalar.indexCast v305
  ![v306.toNat]

def k1_chk125 (i : grid1.Coords) (v305 : BitVec 32) : Prop :=
  (∀ (k1_h1 : k1_cond1 i = 1#1), ∀ a, (k1_off250 v305) a + S1.size a ≤ S4096.size a)
theorem k1_off250_inb : ∀ (i : grid1.Coords) (v305 : BitVec 32) (k1_hw125 : k1_chk125 i v305), ∀ (k1_h1 : k1_cond1 i = 1#1), ∀ a, (k1_off250 v305) a + S1.size a ≤ S4096.size a := fun i v305 k1_hw125 k1_h1 => k1_hw125 k1_h1

def k1_off251 (k1_t4 : Fin k1_t4_loop.trips) : Fin 1 → Nat :=
  let c1504_i32_131 : BitVec 32 := 1504#32
  let c0_i32_55 : BitVec 32 := 0#32
  let c1_i32_56 : BitVec 32 := 1#32
  let arg12 : BitVec 32 := Scf.iv c0_i32_55 c1_i32_56 k1_t4
  let c32_i32_130 : BitVec 32 := 32#32
  let v309 : BitVec 32 := Scalar.muli arg12 c32_i32_130
  let v310 : BitVec 32 := Scalar.addi c1504_i32_131 v309
  let c29_i32 : BitVec 32 := 29#32
  let v311 : BitVec 32 := Scalar.addi v310 c29_i32
  let v312 : Index := Scalar.indexCast v311
  ![v312.toNat]
def k1_off252 (v313 : BitVec 32) : Fin 1 → Nat :=
  let v314 : Index := Scalar.indexCast v313
  ![v314.toNat]

def k1_chk126 (i : grid1.Coords) (v313 : BitVec 32) : Prop :=
  (∀ (k1_h1 : k1_cond1 i = 1#1), ∀ a, (k1_off252 v313) a + S1.size a ≤ S4096.size a)
theorem k1_off252_inb : ∀ (i : grid1.Coords) (v313 : BitVec 32) (k1_hw126 : k1_chk126 i v313), ∀ (k1_h1 : k1_cond1 i = 1#1), ∀ a, (k1_off252 v313) a + S1.size a ≤ S4096.size a := fun i v313 k1_hw126 k1_h1 => k1_hw126 k1_h1

def k1_off253 (k1_t4 : Fin k1_t4_loop.trips) : Fin 1 → Nat :=
  let c1504_i32_133 : BitVec 32 := 1504#32
  let c0_i32_55 : BitVec 32 := 0#32
  let c1_i32_56 : BitVec 32 := 1#32
  let arg12 : BitVec 32 := Scf.iv c0_i32_55 c1_i32_56 k1_t4
  let c32_i32_132 : BitVec 32 := 32#32
  let v317 : BitVec 32 := Scalar.muli arg12 c32_i32_132
  let v318 : BitVec 32 := Scalar.addi c1504_i32_133 v317
  let c30_i32 : BitVec 32 := 30#32
  let v319 : BitVec 32 := Scalar.addi v318 c30_i32
  let v320 : Index := Scalar.indexCast v319
  ![v320.toNat]
def k1_off254 (v321 : BitVec 32) : Fin 1 → Nat :=
  let v322 : Index := Scalar.indexCast v321
  ![v322.toNat]

def k1_chk127 (i : grid1.Coords) (v321 : BitVec 32) : Prop :=
  (∀ (k1_h1 : k1_cond1 i = 1#1), ∀ a, (k1_off254 v321) a + S1.size a ≤ S4096.size a)
theorem k1_off254_inb : ∀ (i : grid1.Coords) (v321 : BitVec 32) (k1_hw127 : k1_chk127 i v321), ∀ (k1_h1 : k1_cond1 i = 1#1), ∀ a, (k1_off254 v321) a + S1.size a ≤ S4096.size a := fun i v321 k1_hw127 k1_h1 => k1_hw127 k1_h1

def k1_off255 (k1_t4 : Fin k1_t4_loop.trips) : Fin 1 → Nat :=
  let c1504_i32_135 : BitVec 32 := 1504#32
  let c0_i32_55 : BitVec 32 := 0#32
  let c1_i32_56 : BitVec 32 := 1#32
  let arg12 : BitVec 32 := Scf.iv c0_i32_55 c1_i32_56 k1_t4
  let c32_i32_134 : BitVec 32 := 32#32
  let v325 : BitVec 32 := Scalar.muli arg12 c32_i32_134
  let v326 : BitVec 32 := Scalar.addi c1504_i32_135 v325
  let c31_i32 : BitVec 32 := 31#32
  let v327 : BitVec 32 := Scalar.addi v326 c31_i32
  let v328 : Index := Scalar.indexCast v327
  ![v328.toNat]
def k1_off256 (v329 : BitVec 32) : Fin 1 → Nat :=
  let v330 : Index := Scalar.indexCast v329
  ![v330.toNat]

def k1_chk128 (i : grid1.Coords) (v329 : BitVec 32) : Prop :=
  (∀ (k1_h1 : k1_cond1 i = 1#1), ∀ a, (k1_off256 v329) a + S1.size a ≤ S4096.size a)
theorem k1_off256_inb : ∀ (i : grid1.Coords) (v329 : BitVec 32) (k1_hw128 : k1_chk128 i v329), ∀ (k1_h1 : k1_cond1 i = 1#1), ∀ a, (k1_off256 v329) a + S1.size a ≤ S4096.size a := fun i v329 k1_hw128 k1_h1 => k1_hw128 k1_h1

@[reducible] def k1_t5_loop : Scf.Loop 32 :=
  let c0_i32_58 : BitVec 32 := 0#32
  let c26_i32 : BitVec 32 := 26#32
  let v69 : BitVec 32 := Scalar.addi c0_i32_58 c26_i32
  let c1_i32_59 : BitVec 32 := 1#32
  ⟨c0_i32_58, v69, c1_i32_59⟩
def k1_off257 (k1_t5 : Fin k1_t5_loop.trips) : Fin 1 → Nat :=
  let c2976_i32 : BitVec 32 := 2976#32
  let c0_i32_58 : BitVec 32 := 0#32
  let c1_i32_59 : BitVec 32 := 1#32
  let arg12 : BitVec 32 := Scf.iv c0_i32_58 c1_i32_59 k1_t5
  let c32_i32 : BitVec 32 := 32#32
  let v77 : BitVec 32 := Scalar.muli arg12 c32_i32
  let v78 : BitVec 32 := Scalar.addi c2976_i32 v77
  let c0_i32_64 : BitVec 32 := 0#32
  let v79 : BitVec 32 := Scalar.addi v78 c0_i32_64
  let v80 : Index := Scalar.indexCast v79
  ![v80.toNat]
def k1_off258 (v81 : BitVec 32) : Fin 1 → Nat :=
  let v82 : Index := Scalar.indexCast v81
  ![v82.toNat]

def k1_chk129 (i : grid1.Coords) (v81 : BitVec 32) : Prop :=
  (∀ (k1_h1 : k1_cond1 i = 1#1), ∀ a, (k1_off258 v81) a + S1.size a ≤ S4096.size a)
theorem k1_off258_inb : ∀ (i : grid1.Coords) (v81 : BitVec 32) (k1_hw129 : k1_chk129 i v81), ∀ (k1_h1 : k1_cond1 i = 1#1), ∀ a, (k1_off258 v81) a + S1.size a ≤ S4096.size a := fun i v81 k1_hw129 k1_h1 => k1_hw129 k1_h1

def k1_off259 (k1_t5 : Fin k1_t5_loop.trips) : Fin 1 → Nat :=
  let c2976_i32_66 : BitVec 32 := 2976#32
  let c0_i32_58 : BitVec 32 := 0#32
  let c1_i32_59 : BitVec 32 := 1#32
  let arg12 : BitVec 32 := Scf.iv c0_i32_58 c1_i32_59 k1_t5
  let c32_i32_65 : BitVec 32 := 32#32
  let v85 : BitVec 32 := Scalar.muli arg12 c32_i32_65
  let v86 : BitVec 32 := Scalar.addi c2976_i32_66 v85
  let c1_i32_67 : BitVec 32 := 1#32
  let v87 : BitVec 32 := Scalar.addi v86 c1_i32_67
  let v88 : Index := Scalar.indexCast v87
  ![v88.toNat]
def k1_off260 (v89 : BitVec 32) : Fin 1 → Nat :=
  let v90 : Index := Scalar.indexCast v89
  ![v90.toNat]

def k1_chk130 (i : grid1.Coords) (v89 : BitVec 32) : Prop :=
  (∀ (k1_h1 : k1_cond1 i = 1#1), ∀ a, (k1_off260 v89) a + S1.size a ≤ S4096.size a)
theorem k1_off260_inb : ∀ (i : grid1.Coords) (v89 : BitVec 32) (k1_hw130 : k1_chk130 i v89), ∀ (k1_h1 : k1_cond1 i = 1#1), ∀ a, (k1_off260 v89) a + S1.size a ≤ S4096.size a := fun i v89 k1_hw130 k1_h1 => k1_hw130 k1_h1

def k1_off261 (k1_t5 : Fin k1_t5_loop.trips) : Fin 1 → Nat :=
  let c2976_i32_69 : BitVec 32 := 2976#32
  let c0_i32_58 : BitVec 32 := 0#32
  let c1_i32_59 : BitVec 32 := 1#32
  let arg12 : BitVec 32 := Scf.iv c0_i32_58 c1_i32_59 k1_t5
  let c32_i32_68 : BitVec 32 := 32#32
  let v93 : BitVec 32 := Scalar.muli arg12 c32_i32_68
  let v94 : BitVec 32 := Scalar.addi c2976_i32_69 v93
  let c2_i32 : BitVec 32 := 2#32
  let v95 : BitVec 32 := Scalar.addi v94 c2_i32
  let v96 : Index := Scalar.indexCast v95
  ![v96.toNat]
def k1_off262 (v97 : BitVec 32) : Fin 1 → Nat :=
  let v98 : Index := Scalar.indexCast v97
  ![v98.toNat]

def k1_chk131 (i : grid1.Coords) (v97 : BitVec 32) : Prop :=
  (∀ (k1_h1 : k1_cond1 i = 1#1), ∀ a, (k1_off262 v97) a + S1.size a ≤ S4096.size a)
theorem k1_off262_inb : ∀ (i : grid1.Coords) (v97 : BitVec 32) (k1_hw131 : k1_chk131 i v97), ∀ (k1_h1 : k1_cond1 i = 1#1), ∀ a, (k1_off262 v97) a + S1.size a ≤ S4096.size a := fun i v97 k1_hw131 k1_h1 => k1_hw131 k1_h1

def k1_off263 (k1_t5 : Fin k1_t5_loop.trips) : Fin 1 → Nat :=
  let c2976_i32_71 : BitVec 32 := 2976#32
  let c0_i32_58 : BitVec 32 := 0#32
  let c1_i32_59 : BitVec 32 := 1#32
  let arg12 : BitVec 32 := Scf.iv c0_i32_58 c1_i32_59 k1_t5
  let c32_i32_70 : BitVec 32 := 32#32
  let v101 : BitVec 32 := Scalar.muli arg12 c32_i32_70
  let v102 : BitVec 32 := Scalar.addi c2976_i32_71 v101
  let c3_i32_72 : BitVec 32 := 3#32
  let v103 : BitVec 32 := Scalar.addi v102 c3_i32_72
  let v104 : Index := Scalar.indexCast v103
  ![v104.toNat]
def k1_off264 (v105 : BitVec 32) : Fin 1 → Nat :=
  let v106 : Index := Scalar.indexCast v105
  ![v106.toNat]

def k1_chk132 (i : grid1.Coords) (v105 : BitVec 32) : Prop :=
  (∀ (k1_h1 : k1_cond1 i = 1#1), ∀ a, (k1_off264 v105) a + S1.size a ≤ S4096.size a)
theorem k1_off264_inb : ∀ (i : grid1.Coords) (v105 : BitVec 32) (k1_hw132 : k1_chk132 i v105), ∀ (k1_h1 : k1_cond1 i = 1#1), ∀ a, (k1_off264 v105) a + S1.size a ≤ S4096.size a := fun i v105 k1_hw132 k1_h1 => k1_hw132 k1_h1

def k1_off265 (k1_t5 : Fin k1_t5_loop.trips) : Fin 1 → Nat :=
  let c2976_i32_74 : BitVec 32 := 2976#32
  let c0_i32_58 : BitVec 32 := 0#32
  let c1_i32_59 : BitVec 32 := 1#32
  let arg12 : BitVec 32 := Scf.iv c0_i32_58 c1_i32_59 k1_t5
  let c32_i32_73 : BitVec 32 := 32#32
  let v109 : BitVec 32 := Scalar.muli arg12 c32_i32_73
  let v110 : BitVec 32 := Scalar.addi c2976_i32_74 v109
  let c4_i32 : BitVec 32 := 4#32
  let v111 : BitVec 32 := Scalar.addi v110 c4_i32
  let v112 : Index := Scalar.indexCast v111
  ![v112.toNat]
def k1_off266 (v113 : BitVec 32) : Fin 1 → Nat :=
  let v114 : Index := Scalar.indexCast v113
  ![v114.toNat]

def k1_chk133 (i : grid1.Coords) (v113 : BitVec 32) : Prop :=
  (∀ (k1_h1 : k1_cond1 i = 1#1), ∀ a, (k1_off266 v113) a + S1.size a ≤ S4096.size a)
theorem k1_off266_inb : ∀ (i : grid1.Coords) (v113 : BitVec 32) (k1_hw133 : k1_chk133 i v113), ∀ (k1_h1 : k1_cond1 i = 1#1), ∀ a, (k1_off266 v113) a + S1.size a ≤ S4096.size a := fun i v113 k1_hw133 k1_h1 => k1_hw133 k1_h1

def k1_off267 (k1_t5 : Fin k1_t5_loop.trips) : Fin 1 → Nat :=
  let c2976_i32_76 : BitVec 32 := 2976#32
  let c0_i32_58 : BitVec 32 := 0#32
  let c1_i32_59 : BitVec 32 := 1#32
  let arg12 : BitVec 32 := Scf.iv c0_i32_58 c1_i32_59 k1_t5
  let c32_i32_75 : BitVec 32 := 32#32
  let v117 : BitVec 32 := Scalar.muli arg12 c32_i32_75
  let v118 : BitVec 32 := Scalar.addi c2976_i32_76 v117
  let c5_i32_77 : BitVec 32 := 5#32
  let v119 : BitVec 32 := Scalar.addi v118 c5_i32_77
  let v120 : Index := Scalar.indexCast v119
  ![v120.toNat]
def k1_off268 (v121 : BitVec 32) : Fin 1 → Nat :=
  let v122 : Index := Scalar.indexCast v121
  ![v122.toNat]

def k1_chk134 (i : grid1.Coords) (v121 : BitVec 32) : Prop :=
  (∀ (k1_h1 : k1_cond1 i = 1#1), ∀ a, (k1_off268 v121) a + S1.size a ≤ S4096.size a)
theorem k1_off268_inb : ∀ (i : grid1.Coords) (v121 : BitVec 32) (k1_hw134 : k1_chk134 i v121), ∀ (k1_h1 : k1_cond1 i = 1#1), ∀ a, (k1_off268 v121) a + S1.size a ≤ S4096.size a := fun i v121 k1_hw134 k1_h1 => k1_hw134 k1_h1

def k1_off269 (k1_t5 : Fin k1_t5_loop.trips) : Fin 1 → Nat :=
  let c2976_i32_79 : BitVec 32 := 2976#32
  let c0_i32_58 : BitVec 32 := 0#32
  let c1_i32_59 : BitVec 32 := 1#32
  let arg12 : BitVec 32 := Scf.iv c0_i32_58 c1_i32_59 k1_t5
  let c32_i32_78 : BitVec 32 := 32#32
  let v125 : BitVec 32 := Scalar.muli arg12 c32_i32_78
  let v126 : BitVec 32 := Scalar.addi c2976_i32_79 v125
  let c6_i32 : BitVec 32 := 6#32
  let v127 : BitVec 32 := Scalar.addi v126 c6_i32
  let v128 : Index := Scalar.indexCast v127
  ![v128.toNat]
def k1_off270 (v129 : BitVec 32) : Fin 1 → Nat :=
  let v130 : Index := Scalar.indexCast v129
  ![v130.toNat]

def k1_chk135 (i : grid1.Coords) (v129 : BitVec 32) : Prop :=
  (∀ (k1_h1 : k1_cond1 i = 1#1), ∀ a, (k1_off270 v129) a + S1.size a ≤ S4096.size a)
theorem k1_off270_inb : ∀ (i : grid1.Coords) (v129 : BitVec 32) (k1_hw135 : k1_chk135 i v129), ∀ (k1_h1 : k1_cond1 i = 1#1), ∀ a, (k1_off270 v129) a + S1.size a ≤ S4096.size a := fun i v129 k1_hw135 k1_h1 => k1_hw135 k1_h1

def k1_off271 (k1_t5 : Fin k1_t5_loop.trips) : Fin 1 → Nat :=
  let c2976_i32_81 : BitVec 32 := 2976#32
  let c0_i32_58 : BitVec 32 := 0#32
  let c1_i32_59 : BitVec 32 := 1#32
  let arg12 : BitVec 32 := Scf.iv c0_i32_58 c1_i32_59 k1_t5
  let c32_i32_80 : BitVec 32 := 32#32
  let v133 : BitVec 32 := Scalar.muli arg12 c32_i32_80
  let v134 : BitVec 32 := Scalar.addi c2976_i32_81 v133
  let c7_i32 : BitVec 32 := 7#32
  let v135 : BitVec 32 := Scalar.addi v134 c7_i32
  let v136 : Index := Scalar.indexCast v135
  ![v136.toNat]
def k1_off272 (v137 : BitVec 32) : Fin 1 → Nat :=
  let v138 : Index := Scalar.indexCast v137
  ![v138.toNat]

def k1_chk136 (i : grid1.Coords) (v137 : BitVec 32) : Prop :=
  (∀ (k1_h1 : k1_cond1 i = 1#1), ∀ a, (k1_off272 v137) a + S1.size a ≤ S4096.size a)
theorem k1_off272_inb : ∀ (i : grid1.Coords) (v137 : BitVec 32) (k1_hw136 : k1_chk136 i v137), ∀ (k1_h1 : k1_cond1 i = 1#1), ∀ a, (k1_off272 v137) a + S1.size a ≤ S4096.size a := fun i v137 k1_hw136 k1_h1 => k1_hw136 k1_h1

def k1_off273 (k1_t5 : Fin k1_t5_loop.trips) : Fin 1 → Nat :=
  let c2976_i32_83 : BitVec 32 := 2976#32
  let c0_i32_58 : BitVec 32 := 0#32
  let c1_i32_59 : BitVec 32 := 1#32
  let arg12 : BitVec 32 := Scf.iv c0_i32_58 c1_i32_59 k1_t5
  let c32_i32_82 : BitVec 32 := 32#32
  let v141 : BitVec 32 := Scalar.muli arg12 c32_i32_82
  let v142 : BitVec 32 := Scalar.addi c2976_i32_83 v141
  let c8_i32_84 : BitVec 32 := 8#32
  let v143 : BitVec 32 := Scalar.addi v142 c8_i32_84
  let v144 : Index := Scalar.indexCast v143
  ![v144.toNat]
def k1_off274 (v145 : BitVec 32) : Fin 1 → Nat :=
  let v146 : Index := Scalar.indexCast v145
  ![v146.toNat]

def k1_chk137 (i : grid1.Coords) (v145 : BitVec 32) : Prop :=
  (∀ (k1_h1 : k1_cond1 i = 1#1), ∀ a, (k1_off274 v145) a + S1.size a ≤ S4096.size a)
theorem k1_off274_inb : ∀ (i : grid1.Coords) (v145 : BitVec 32) (k1_hw137 : k1_chk137 i v145), ∀ (k1_h1 : k1_cond1 i = 1#1), ∀ a, (k1_off274 v145) a + S1.size a ≤ S4096.size a := fun i v145 k1_hw137 k1_h1 => k1_hw137 k1_h1

def k1_off275 (k1_t5 : Fin k1_t5_loop.trips) : Fin 1 → Nat :=
  let c2976_i32_86 : BitVec 32 := 2976#32
  let c0_i32_58 : BitVec 32 := 0#32
  let c1_i32_59 : BitVec 32 := 1#32
  let arg12 : BitVec 32 := Scf.iv c0_i32_58 c1_i32_59 k1_t5
  let c32_i32_85 : BitVec 32 := 32#32
  let v149 : BitVec 32 := Scalar.muli arg12 c32_i32_85
  let v150 : BitVec 32 := Scalar.addi c2976_i32_86 v149
  let c9_i32_87 : BitVec 32 := 9#32
  let v151 : BitVec 32 := Scalar.addi v150 c9_i32_87
  let v152 : Index := Scalar.indexCast v151
  ![v152.toNat]
def k1_off276 (v153 : BitVec 32) : Fin 1 → Nat :=
  let v154 : Index := Scalar.indexCast v153
  ![v154.toNat]

def k1_chk138 (i : grid1.Coords) (v153 : BitVec 32) : Prop :=
  (∀ (k1_h1 : k1_cond1 i = 1#1), ∀ a, (k1_off276 v153) a + S1.size a ≤ S4096.size a)
theorem k1_off276_inb : ∀ (i : grid1.Coords) (v153 : BitVec 32) (k1_hw138 : k1_chk138 i v153), ∀ (k1_h1 : k1_cond1 i = 1#1), ∀ a, (k1_off276 v153) a + S1.size a ≤ S4096.size a := fun i v153 k1_hw138 k1_h1 => k1_hw138 k1_h1

def k1_off277 (k1_t5 : Fin k1_t5_loop.trips) : Fin 1 → Nat :=
  let c2976_i32_89 : BitVec 32 := 2976#32
  let c0_i32_58 : BitVec 32 := 0#32
  let c1_i32_59 : BitVec 32 := 1#32
  let arg12 : BitVec 32 := Scf.iv c0_i32_58 c1_i32_59 k1_t5
  let c32_i32_88 : BitVec 32 := 32#32
  let v157 : BitVec 32 := Scalar.muli arg12 c32_i32_88
  let v158 : BitVec 32 := Scalar.addi c2976_i32_89 v157
  let c10_i32 : BitVec 32 := 10#32
  let v159 : BitVec 32 := Scalar.addi v158 c10_i32
  let v160 : Index := Scalar.indexCast v159
  ![v160.toNat]
def k1_off278 (v161 : BitVec 32) : Fin 1 → Nat :=
  let v162 : Index := Scalar.indexCast v161
  ![v162.toNat]

def k1_chk139 (i : grid1.Coords) (v161 : BitVec 32) : Prop :=
  (∀ (k1_h1 : k1_cond1 i = 1#1), ∀ a, (k1_off278 v161) a + S1.size a ≤ S4096.size a)
theorem k1_off278_inb : ∀ (i : grid1.Coords) (v161 : BitVec 32) (k1_hw139 : k1_chk139 i v161), ∀ (k1_h1 : k1_cond1 i = 1#1), ∀ a, (k1_off278 v161) a + S1.size a ≤ S4096.size a := fun i v161 k1_hw139 k1_h1 => k1_hw139 k1_h1

def k1_off279 (k1_t5 : Fin k1_t5_loop.trips) : Fin 1 → Nat :=
  let c2976_i32_91 : BitVec 32 := 2976#32
  let c0_i32_58 : BitVec 32 := 0#32
  let c1_i32_59 : BitVec 32 := 1#32
  let arg12 : BitVec 32 := Scf.iv c0_i32_58 c1_i32_59 k1_t5
  let c32_i32_90 : BitVec 32 := 32#32
  let v165 : BitVec 32 := Scalar.muli arg12 c32_i32_90
  let v166 : BitVec 32 := Scalar.addi c2976_i32_91 v165
  let c11_i32 : BitVec 32 := 11#32
  let v167 : BitVec 32 := Scalar.addi v166 c11_i32
  let v168 : Index := Scalar.indexCast v167
  ![v168.toNat]
def k1_off280 (v169 : BitVec 32) : Fin 1 → Nat :=
  let v170 : Index := Scalar.indexCast v169
  ![v170.toNat]

def k1_chk140 (i : grid1.Coords) (v169 : BitVec 32) : Prop :=
  (∀ (k1_h1 : k1_cond1 i = 1#1), ∀ a, (k1_off280 v169) a + S1.size a ≤ S4096.size a)
theorem k1_off280_inb : ∀ (i : grid1.Coords) (v169 : BitVec 32) (k1_hw140 : k1_chk140 i v169), ∀ (k1_h1 : k1_cond1 i = 1#1), ∀ a, (k1_off280 v169) a + S1.size a ≤ S4096.size a := fun i v169 k1_hw140 k1_h1 => k1_hw140 k1_h1

def k1_off281 (k1_t5 : Fin k1_t5_loop.trips) : Fin 1 → Nat :=
  let c2976_i32_93 : BitVec 32 := 2976#32
  let c0_i32_58 : BitVec 32 := 0#32
  let c1_i32_59 : BitVec 32 := 1#32
  let arg12 : BitVec 32 := Scf.iv c0_i32_58 c1_i32_59 k1_t5
  let c32_i32_92 : BitVec 32 := 32#32
  let v173 : BitVec 32 := Scalar.muli arg12 c32_i32_92
  let v174 : BitVec 32 := Scalar.addi c2976_i32_93 v173
  let c12_i32 : BitVec 32 := 12#32
  let v175 : BitVec 32 := Scalar.addi v174 c12_i32
  let v176 : Index := Scalar.indexCast v175
  ![v176.toNat]
def k1_off282 (v177 : BitVec 32) : Fin 1 → Nat :=
  let v178 : Index := Scalar.indexCast v177
  ![v178.toNat]

def k1_chk141 (i : grid1.Coords) (v177 : BitVec 32) : Prop :=
  (∀ (k1_h1 : k1_cond1 i = 1#1), ∀ a, (k1_off282 v177) a + S1.size a ≤ S4096.size a)
theorem k1_off282_inb : ∀ (i : grid1.Coords) (v177 : BitVec 32) (k1_hw141 : k1_chk141 i v177), ∀ (k1_h1 : k1_cond1 i = 1#1), ∀ a, (k1_off282 v177) a + S1.size a ≤ S4096.size a := fun i v177 k1_hw141 k1_h1 => k1_hw141 k1_h1

def k1_off283 (k1_t5 : Fin k1_t5_loop.trips) : Fin 1 → Nat :=
  let c2976_i32_95 : BitVec 32 := 2976#32
  let c0_i32_58 : BitVec 32 := 0#32
  let c1_i32_59 : BitVec 32 := 1#32
  let arg12 : BitVec 32 := Scf.iv c0_i32_58 c1_i32_59 k1_t5
  let c32_i32_94 : BitVec 32 := 32#32
  let v181 : BitVec 32 := Scalar.muli arg12 c32_i32_94
  let v182 : BitVec 32 := Scalar.addi c2976_i32_95 v181
  let c13_i32 : BitVec 32 := 13#32
  let v183 : BitVec 32 := Scalar.addi v182 c13_i32
  let v184 : Index := Scalar.indexCast v183
  ![v184.toNat]
def k1_off284 (v185 : BitVec 32) : Fin 1 → Nat :=
  let v186 : Index := Scalar.indexCast v185
  ![v186.toNat]

def k1_chk142 (i : grid1.Coords) (v185 : BitVec 32) : Prop :=
  (∀ (k1_h1 : k1_cond1 i = 1#1), ∀ a, (k1_off284 v185) a + S1.size a ≤ S4096.size a)
theorem k1_off284_inb : ∀ (i : grid1.Coords) (v185 : BitVec 32) (k1_hw142 : k1_chk142 i v185), ∀ (k1_h1 : k1_cond1 i = 1#1), ∀ a, (k1_off284 v185) a + S1.size a ≤ S4096.size a := fun i v185 k1_hw142 k1_h1 => k1_hw142 k1_h1

def k1_off285 (k1_t5 : Fin k1_t5_loop.trips) : Fin 1 → Nat :=
  let c2976_i32_97 : BitVec 32 := 2976#32
  let c0_i32_58 : BitVec 32 := 0#32
  let c1_i32_59 : BitVec 32 := 1#32
  let arg12 : BitVec 32 := Scf.iv c0_i32_58 c1_i32_59 k1_t5
  let c32_i32_96 : BitVec 32 := 32#32
  let v189 : BitVec 32 := Scalar.muli arg12 c32_i32_96
  let v190 : BitVec 32 := Scalar.addi c2976_i32_97 v189
  let c14_i32 : BitVec 32 := 14#32
  let v191 : BitVec 32 := Scalar.addi v190 c14_i32
  let v192 : Index := Scalar.indexCast v191
  ![v192.toNat]
def k1_off286 (v193 : BitVec 32) : Fin 1 → Nat :=
  let v194 : Index := Scalar.indexCast v193
  ![v194.toNat]

def k1_chk143 (i : grid1.Coords) (v193 : BitVec 32) : Prop :=
  (∀ (k1_h1 : k1_cond1 i = 1#1), ∀ a, (k1_off286 v193) a + S1.size a ≤ S4096.size a)
theorem k1_off286_inb : ∀ (i : grid1.Coords) (v193 : BitVec 32) (k1_hw143 : k1_chk143 i v193), ∀ (k1_h1 : k1_cond1 i = 1#1), ∀ a, (k1_off286 v193) a + S1.size a ≤ S4096.size a := fun i v193 k1_hw143 k1_h1 => k1_hw143 k1_h1

def k1_off287 (k1_t5 : Fin k1_t5_loop.trips) : Fin 1 → Nat :=
  let c2976_i32_99 : BitVec 32 := 2976#32
  let c0_i32_58 : BitVec 32 := 0#32
  let c1_i32_59 : BitVec 32 := 1#32
  let arg12 : BitVec 32 := Scf.iv c0_i32_58 c1_i32_59 k1_t5
  let c32_i32_98 : BitVec 32 := 32#32
  let v197 : BitVec 32 := Scalar.muli arg12 c32_i32_98
  let v198 : BitVec 32 := Scalar.addi c2976_i32_99 v197
  let c15_i32_100 : BitVec 32 := 15#32
  let v199 : BitVec 32 := Scalar.addi v198 c15_i32_100
  let v200 : Index := Scalar.indexCast v199
  ![v200.toNat]
def k1_off288 (v201 : BitVec 32) : Fin 1 → Nat :=
  let v202 : Index := Scalar.indexCast v201
  ![v202.toNat]

def k1_chk144 (i : grid1.Coords) (v201 : BitVec 32) : Prop :=
  (∀ (k1_h1 : k1_cond1 i = 1#1), ∀ a, (k1_off288 v201) a + S1.size a ≤ S4096.size a)
theorem k1_off288_inb : ∀ (i : grid1.Coords) (v201 : BitVec 32) (k1_hw144 : k1_chk144 i v201), ∀ (k1_h1 : k1_cond1 i = 1#1), ∀ a, (k1_off288 v201) a + S1.size a ≤ S4096.size a := fun i v201 k1_hw144 k1_h1 => k1_hw144 k1_h1

def k1_off289 (k1_t5 : Fin k1_t5_loop.trips) : Fin 1 → Nat :=
  let c2976_i32_102 : BitVec 32 := 2976#32
  let c0_i32_58 : BitVec 32 := 0#32
  let c1_i32_59 : BitVec 32 := 1#32
  let arg12 : BitVec 32 := Scf.iv c0_i32_58 c1_i32_59 k1_t5
  let c32_i32_101 : BitVec 32 := 32#32
  let v205 : BitVec 32 := Scalar.muli arg12 c32_i32_101
  let v206 : BitVec 32 := Scalar.addi c2976_i32_102 v205
  let c16_i32 : BitVec 32 := 16#32
  let v207 : BitVec 32 := Scalar.addi v206 c16_i32
  let v208 : Index := Scalar.indexCast v207
  ![v208.toNat]
def k1_off290 (v209 : BitVec 32) : Fin 1 → Nat :=
  let v210 : Index := Scalar.indexCast v209
  ![v210.toNat]

def k1_chk145 (i : grid1.Coords) (v209 : BitVec 32) : Prop :=
  (∀ (k1_h1 : k1_cond1 i = 1#1), ∀ a, (k1_off290 v209) a + S1.size a ≤ S4096.size a)
theorem k1_off290_inb : ∀ (i : grid1.Coords) (v209 : BitVec 32) (k1_hw145 : k1_chk145 i v209), ∀ (k1_h1 : k1_cond1 i = 1#1), ∀ a, (k1_off290 v209) a + S1.size a ≤ S4096.size a := fun i v209 k1_hw145 k1_h1 => k1_hw145 k1_h1

def k1_off291 (k1_t5 : Fin k1_t5_loop.trips) : Fin 1 → Nat :=
  let c2976_i32_104 : BitVec 32 := 2976#32
  let c0_i32_58 : BitVec 32 := 0#32
  let c1_i32_59 : BitVec 32 := 1#32
  let arg12 : BitVec 32 := Scf.iv c0_i32_58 c1_i32_59 k1_t5
  let c32_i32_103 : BitVec 32 := 32#32
  let v213 : BitVec 32 := Scalar.muli arg12 c32_i32_103
  let v214 : BitVec 32 := Scalar.addi c2976_i32_104 v213
  let c17_i32 : BitVec 32 := 17#32
  let v215 : BitVec 32 := Scalar.addi v214 c17_i32
  let v216 : Index := Scalar.indexCast v215
  ![v216.toNat]
def k1_off292 (v217 : BitVec 32) : Fin 1 → Nat :=
  let v218 : Index := Scalar.indexCast v217
  ![v218.toNat]

def k1_chk146 (i : grid1.Coords) (v217 : BitVec 32) : Prop :=
  (∀ (k1_h1 : k1_cond1 i = 1#1), ∀ a, (k1_off292 v217) a + S1.size a ≤ S4096.size a)
theorem k1_off292_inb : ∀ (i : grid1.Coords) (v217 : BitVec 32) (k1_hw146 : k1_chk146 i v217), ∀ (k1_h1 : k1_cond1 i = 1#1), ∀ a, (k1_off292 v217) a + S1.size a ≤ S4096.size a := fun i v217 k1_hw146 k1_h1 => k1_hw146 k1_h1

def k1_off293 (k1_t5 : Fin k1_t5_loop.trips) : Fin 1 → Nat :=
  let c2976_i32_106 : BitVec 32 := 2976#32
  let c0_i32_58 : BitVec 32 := 0#32
  let c1_i32_59 : BitVec 32 := 1#32
  let arg12 : BitVec 32 := Scf.iv c0_i32_58 c1_i32_59 k1_t5
  let c32_i32_105 : BitVec 32 := 32#32
  let v221 : BitVec 32 := Scalar.muli arg12 c32_i32_105
  let v222 : BitVec 32 := Scalar.addi c2976_i32_106 v221
  let c18_i32 : BitVec 32 := 18#32
  let v223 : BitVec 32 := Scalar.addi v222 c18_i32
  let v224 : Index := Scalar.indexCast v223
  ![v224.toNat]
def k1_off294 (v225 : BitVec 32) : Fin 1 → Nat :=
  let v226 : Index := Scalar.indexCast v225
  ![v226.toNat]

def k1_chk147 (i : grid1.Coords) (v225 : BitVec 32) : Prop :=
  (∀ (k1_h1 : k1_cond1 i = 1#1), ∀ a, (k1_off294 v225) a + S1.size a ≤ S4096.size a)
theorem k1_off294_inb : ∀ (i : grid1.Coords) (v225 : BitVec 32) (k1_hw147 : k1_chk147 i v225), ∀ (k1_h1 : k1_cond1 i = 1#1), ∀ a, (k1_off294 v225) a + S1.size a ≤ S4096.size a := fun i v225 k1_hw147 k1_h1 => k1_hw147 k1_h1

def k1_off295 (k1_t5 : Fin k1_t5_loop.trips) : Fin 1 → Nat :=
  let c2976_i32_108 : BitVec 32 := 2976#32
  let c0_i32_58 : BitVec 32 := 0#32
  let c1_i32_59 : BitVec 32 := 1#32
  let arg12 : BitVec 32 := Scf.iv c0_i32_58 c1_i32_59 k1_t5
  let c32_i32_107 : BitVec 32 := 32#32
  let v229 : BitVec 32 := Scalar.muli arg12 c32_i32_107
  let v230 : BitVec 32 := Scalar.addi c2976_i32_108 v229
  let c19_i32 : BitVec 32 := 19#32
  let v231 : BitVec 32 := Scalar.addi v230 c19_i32
  let v232 : Index := Scalar.indexCast v231
  ![v232.toNat]
def k1_off296 (v233 : BitVec 32) : Fin 1 → Nat :=
  let v234 : Index := Scalar.indexCast v233
  ![v234.toNat]

def k1_chk148 (i : grid1.Coords) (v233 : BitVec 32) : Prop :=
  (∀ (k1_h1 : k1_cond1 i = 1#1), ∀ a, (k1_off296 v233) a + S1.size a ≤ S4096.size a)
theorem k1_off296_inb : ∀ (i : grid1.Coords) (v233 : BitVec 32) (k1_hw148 : k1_chk148 i v233), ∀ (k1_h1 : k1_cond1 i = 1#1), ∀ a, (k1_off296 v233) a + S1.size a ≤ S4096.size a := fun i v233 k1_hw148 k1_h1 => k1_hw148 k1_h1

def k1_off297 (k1_t5 : Fin k1_t5_loop.trips) : Fin 1 → Nat :=
  let c2976_i32_110 : BitVec 32 := 2976#32
  let c0_i32_58 : BitVec 32 := 0#32
  let c1_i32_59 : BitVec 32 := 1#32
  let arg12 : BitVec 32 := Scf.iv c0_i32_58 c1_i32_59 k1_t5
  let c32_i32_109 : BitVec 32 := 32#32
  let v237 : BitVec 32 := Scalar.muli arg12 c32_i32_109
  let v238 : BitVec 32 := Scalar.addi c2976_i32_110 v237
  let c20_i32_111 : BitVec 32 := 20#32
  let v239 : BitVec 32 := Scalar.addi v238 c20_i32_111
  let v240 : Index := Scalar.indexCast v239
  ![v240.toNat]
def k1_off298 (v241 : BitVec 32) : Fin 1 → Nat :=
  let v242 : Index := Scalar.indexCast v241
  ![v242.toNat]

def k1_chk149 (i : grid1.Coords) (v241 : BitVec 32) : Prop :=
  (∀ (k1_h1 : k1_cond1 i = 1#1), ∀ a, (k1_off298 v241) a + S1.size a ≤ S4096.size a)
theorem k1_off298_inb : ∀ (i : grid1.Coords) (v241 : BitVec 32) (k1_hw149 : k1_chk149 i v241), ∀ (k1_h1 : k1_cond1 i = 1#1), ∀ a, (k1_off298 v241) a + S1.size a ≤ S4096.size a := fun i v241 k1_hw149 k1_h1 => k1_hw149 k1_h1

def k1_off299 (k1_t5 : Fin k1_t5_loop.trips) : Fin 1 → Nat :=
  let c2976_i32_113 : BitVec 32 := 2976#32
  let c0_i32_58 : BitVec 32 := 0#32
  let c1_i32_59 : BitVec 32 := 1#32
  let arg12 : BitVec 32 := Scf.iv c0_i32_58 c1_i32_59 k1_t5
  let c32_i32_112 : BitVec 32 := 32#32
  let v245 : BitVec 32 := Scalar.muli arg12 c32_i32_112
  let v246 : BitVec 32 := Scalar.addi c2976_i32_113 v245
  let c21_i32 : BitVec 32 := 21#32
  let v247 : BitVec 32 := Scalar.addi v246 c21_i32
  let v248 : Index := Scalar.indexCast v247
  ![v248.toNat]
def k1_off300 (v249 : BitVec 32) : Fin 1 → Nat :=
  let v250 : Index := Scalar.indexCast v249
  ![v250.toNat]

def k1_chk150 (i : grid1.Coords) (v249 : BitVec 32) : Prop :=
  (∀ (k1_h1 : k1_cond1 i = 1#1), ∀ a, (k1_off300 v249) a + S1.size a ≤ S4096.size a)
theorem k1_off300_inb : ∀ (i : grid1.Coords) (v249 : BitVec 32) (k1_hw150 : k1_chk150 i v249), ∀ (k1_h1 : k1_cond1 i = 1#1), ∀ a, (k1_off300 v249) a + S1.size a ≤ S4096.size a := fun i v249 k1_hw150 k1_h1 => k1_hw150 k1_h1

def k1_off301 (k1_t5 : Fin k1_t5_loop.trips) : Fin 1 → Nat :=
  let c2976_i32_115 : BitVec 32 := 2976#32
  let c0_i32_58 : BitVec 32 := 0#32
  let c1_i32_59 : BitVec 32 := 1#32
  let arg12 : BitVec 32 := Scf.iv c0_i32_58 c1_i32_59 k1_t5
  let c32_i32_114 : BitVec 32 := 32#32
  let v253 : BitVec 32 := Scalar.muli arg12 c32_i32_114
  let v254 : BitVec 32 := Scalar.addi c2976_i32_115 v253
  let c22_i32 : BitVec 32 := 22#32
  let v255 : BitVec 32 := Scalar.addi v254 c22_i32
  let v256 : Index := Scalar.indexCast v255
  ![v256.toNat]
def k1_off302 (v257 : BitVec 32) : Fin 1 → Nat :=
  let v258 : Index := Scalar.indexCast v257
  ![v258.toNat]

def k1_chk151 (i : grid1.Coords) (v257 : BitVec 32) : Prop :=
  (∀ (k1_h1 : k1_cond1 i = 1#1), ∀ a, (k1_off302 v257) a + S1.size a ≤ S4096.size a)
theorem k1_off302_inb : ∀ (i : grid1.Coords) (v257 : BitVec 32) (k1_hw151 : k1_chk151 i v257), ∀ (k1_h1 : k1_cond1 i = 1#1), ∀ a, (k1_off302 v257) a + S1.size a ≤ S4096.size a := fun i v257 k1_hw151 k1_h1 => k1_hw151 k1_h1

def k1_off303 (k1_t5 : Fin k1_t5_loop.trips) : Fin 1 → Nat :=
  let c2976_i32_117 : BitVec 32 := 2976#32
  let c0_i32_58 : BitVec 32 := 0#32
  let c1_i32_59 : BitVec 32 := 1#32
  let arg12 : BitVec 32 := Scf.iv c0_i32_58 c1_i32_59 k1_t5
  let c32_i32_116 : BitVec 32 := 32#32
  let v261 : BitVec 32 := Scalar.muli arg12 c32_i32_116
  let v262 : BitVec 32 := Scalar.addi c2976_i32_117 v261
  let c23_i32 : BitVec 32 := 23#32
  let v263 : BitVec 32 := Scalar.addi v262 c23_i32
  let v264 : Index := Scalar.indexCast v263
  ![v264.toNat]
def k1_off304 (v265 : BitVec 32) : Fin 1 → Nat :=
  let v266 : Index := Scalar.indexCast v265
  ![v266.toNat]

def k1_chk152 (i : grid1.Coords) (v265 : BitVec 32) : Prop :=
  (∀ (k1_h1 : k1_cond1 i = 1#1), ∀ a, (k1_off304 v265) a + S1.size a ≤ S4096.size a)
theorem k1_off304_inb : ∀ (i : grid1.Coords) (v265 : BitVec 32) (k1_hw152 : k1_chk152 i v265), ∀ (k1_h1 : k1_cond1 i = 1#1), ∀ a, (k1_off304 v265) a + S1.size a ≤ S4096.size a := fun i v265 k1_hw152 k1_h1 => k1_hw152 k1_h1

def k1_off305 (k1_t5 : Fin k1_t5_loop.trips) : Fin 1 → Nat :=
  let c2976_i32_119 : BitVec 32 := 2976#32
  let c0_i32_58 : BitVec 32 := 0#32
  let c1_i32_59 : BitVec 32 := 1#32
  let arg12 : BitVec 32 := Scf.iv c0_i32_58 c1_i32_59 k1_t5
  let c32_i32_118 : BitVec 32 := 32#32
  let v269 : BitVec 32 := Scalar.muli arg12 c32_i32_118
  let v270 : BitVec 32 := Scalar.addi c2976_i32_119 v269
  let c24_i32 : BitVec 32 := 24#32
  let v271 : BitVec 32 := Scalar.addi v270 c24_i32
  let v272 : Index := Scalar.indexCast v271
  ![v272.toNat]
def k1_off306 (v273 : BitVec 32) : Fin 1 → Nat :=
  let v274 : Index := Scalar.indexCast v273
  ![v274.toNat]

def k1_chk153 (i : grid1.Coords) (v273 : BitVec 32) : Prop :=
  (∀ (k1_h1 : k1_cond1 i = 1#1), ∀ a, (k1_off306 v273) a + S1.size a ≤ S4096.size a)
theorem k1_off306_inb : ∀ (i : grid1.Coords) (v273 : BitVec 32) (k1_hw153 : k1_chk153 i v273), ∀ (k1_h1 : k1_cond1 i = 1#1), ∀ a, (k1_off306 v273) a + S1.size a ≤ S4096.size a := fun i v273 k1_hw153 k1_h1 => k1_hw153 k1_h1

def k1_off307 (k1_t5 : Fin k1_t5_loop.trips) : Fin 1 → Nat :=
  let c2976_i32_121 : BitVec 32 := 2976#32
  let c0_i32_58 : BitVec 32 := 0#32
  let c1_i32_59 : BitVec 32 := 1#32
  let arg12 : BitVec 32 := Scf.iv c0_i32_58 c1_i32_59 k1_t5
  let c32_i32_120 : BitVec 32 := 32#32
  let v277 : BitVec 32 := Scalar.muli arg12 c32_i32_120
  let v278 : BitVec 32 := Scalar.addi c2976_i32_121 v277
  let c25_i32 : BitVec 32 := 25#32
  let v279 : BitVec 32 := Scalar.addi v278 c25_i32
  let v280 : Index := Scalar.indexCast v279
  ![v280.toNat]
def k1_off308 (v281 : BitVec 32) : Fin 1 → Nat :=
  let v282 : Index := Scalar.indexCast v281
  ![v282.toNat]

def k1_chk154 (i : grid1.Coords) (v281 : BitVec 32) : Prop :=
  (∀ (k1_h1 : k1_cond1 i = 1#1), ∀ a, (k1_off308 v281) a + S1.size a ≤ S4096.size a)
theorem k1_off308_inb : ∀ (i : grid1.Coords) (v281 : BitVec 32) (k1_hw154 : k1_chk154 i v281), ∀ (k1_h1 : k1_cond1 i = 1#1), ∀ a, (k1_off308 v281) a + S1.size a ≤ S4096.size a := fun i v281 k1_hw154 k1_h1 => k1_hw154 k1_h1

def k1_off309 (k1_t5 : Fin k1_t5_loop.trips) : Fin 1 → Nat :=
  let c2976_i32_123 : BitVec 32 := 2976#32
  let c0_i32_58 : BitVec 32 := 0#32
  let c1_i32_59 : BitVec 32 := 1#32
  let arg12 : BitVec 32 := Scf.iv c0_i32_58 c1_i32_59 k1_t5
  let c32_i32_122 : BitVec 32 := 32#32
  let v285 : BitVec 32 := Scalar.muli arg12 c32_i32_122
  let v286 : BitVec 32 := Scalar.addi c2976_i32_123 v285
  let c26_i32_124 : BitVec 32 := 26#32
  let v287 : BitVec 32 := Scalar.addi v286 c26_i32_124
  let v288 : Index := Scalar.indexCast v287
  ![v288.toNat]
def k1_off310 (v289 : BitVec 32) : Fin 1 → Nat :=
  let v290 : Index := Scalar.indexCast v289
  ![v290.toNat]

def k1_chk155 (i : grid1.Coords) (v289 : BitVec 32) : Prop :=
  (∀ (k1_h1 : k1_cond1 i = 1#1), ∀ a, (k1_off310 v289) a + S1.size a ≤ S4096.size a)
theorem k1_off310_inb : ∀ (i : grid1.Coords) (v289 : BitVec 32) (k1_hw155 : k1_chk155 i v289), ∀ (k1_h1 : k1_cond1 i = 1#1), ∀ a, (k1_off310 v289) a + S1.size a ≤ S4096.size a := fun i v289 k1_hw155 k1_h1 => k1_hw155 k1_h1

def k1_off311 (k1_t5 : Fin k1_t5_loop.trips) : Fin 1 → Nat :=
  let c2976_i32_126 : BitVec 32 := 2976#32
  let c0_i32_58 : BitVec 32 := 0#32
  let c1_i32_59 : BitVec 32 := 1#32
  let arg12 : BitVec 32 := Scf.iv c0_i32_58 c1_i32_59 k1_t5
  let c32_i32_125 : BitVec 32 := 32#32
  let v293 : BitVec 32 := Scalar.muli arg12 c32_i32_125
  let v294 : BitVec 32 := Scalar.addi c2976_i32_126 v293
  let c27_i32_127 : BitVec 32 := 27#32
  let v295 : BitVec 32 := Scalar.addi v294 c27_i32_127
  let v296 : Index := Scalar.indexCast v295
  ![v296.toNat]
def k1_off312 (v297 : BitVec 32) : Fin 1 → Nat :=
  let v298 : Index := Scalar.indexCast v297
  ![v298.toNat]

def k1_chk156 (i : grid1.Coords) (v297 : BitVec 32) : Prop :=
  (∀ (k1_h1 : k1_cond1 i = 1#1), ∀ a, (k1_off312 v297) a + S1.size a ≤ S4096.size a)
theorem k1_off312_inb : ∀ (i : grid1.Coords) (v297 : BitVec 32) (k1_hw156 : k1_chk156 i v297), ∀ (k1_h1 : k1_cond1 i = 1#1), ∀ a, (k1_off312 v297) a + S1.size a ≤ S4096.size a := fun i v297 k1_hw156 k1_h1 => k1_hw156 k1_h1

def k1_off313 (k1_t5 : Fin k1_t5_loop.trips) : Fin 1 → Nat :=
  let c2976_i32_129 : BitVec 32 := 2976#32
  let c0_i32_58 : BitVec 32 := 0#32
  let c1_i32_59 : BitVec 32 := 1#32
  let arg12 : BitVec 32 := Scf.iv c0_i32_58 c1_i32_59 k1_t5
  let c32_i32_128 : BitVec 32 := 32#32
  let v301 : BitVec 32 := Scalar.muli arg12 c32_i32_128
  let v302 : BitVec 32 := Scalar.addi c2976_i32_129 v301
  let c28_i32 : BitVec 32 := 28#32
  let v303 : BitVec 32 := Scalar.addi v302 c28_i32
  let v304 : Index := Scalar.indexCast v303
  ![v304.toNat]
def k1_off314 (v305 : BitVec 32) : Fin 1 → Nat :=
  let v306 : Index := Scalar.indexCast v305
  ![v306.toNat]

def k1_chk157 (i : grid1.Coords) (v305 : BitVec 32) : Prop :=
  (∀ (k1_h1 : k1_cond1 i = 1#1), ∀ a, (k1_off314 v305) a + S1.size a ≤ S4096.size a)
theorem k1_off314_inb : ∀ (i : grid1.Coords) (v305 : BitVec 32) (k1_hw157 : k1_chk157 i v305), ∀ (k1_h1 : k1_cond1 i = 1#1), ∀ a, (k1_off314 v305) a + S1.size a ≤ S4096.size a := fun i v305 k1_hw157 k1_h1 => k1_hw157 k1_h1

def k1_off315 (k1_t5 : Fin k1_t5_loop.trips) : Fin 1 → Nat :=
  let c2976_i32_131 : BitVec 32 := 2976#32
  let c0_i32_58 : BitVec 32 := 0#32
  let c1_i32_59 : BitVec 32 := 1#32
  let arg12 : BitVec 32 := Scf.iv c0_i32_58 c1_i32_59 k1_t5
  let c32_i32_130 : BitVec 32 := 32#32
  let v309 : BitVec 32 := Scalar.muli arg12 c32_i32_130
  let v310 : BitVec 32 := Scalar.addi c2976_i32_131 v309
  let c29_i32 : BitVec 32 := 29#32
  let v311 : BitVec 32 := Scalar.addi v310 c29_i32
  let v312 : Index := Scalar.indexCast v311
  ![v312.toNat]
def k1_off316 (v313 : BitVec 32) : Fin 1 → Nat :=
  let v314 : Index := Scalar.indexCast v313
  ![v314.toNat]

def k1_chk158 (i : grid1.Coords) (v313 : BitVec 32) : Prop :=
  (∀ (k1_h1 : k1_cond1 i = 1#1), ∀ a, (k1_off316 v313) a + S1.size a ≤ S4096.size a)
theorem k1_off316_inb : ∀ (i : grid1.Coords) (v313 : BitVec 32) (k1_hw158 : k1_chk158 i v313), ∀ (k1_h1 : k1_cond1 i = 1#1), ∀ a, (k1_off316 v313) a + S1.size a ≤ S4096.size a := fun i v313 k1_hw158 k1_h1 => k1_hw158 k1_h1

def k1_off317 (k1_t5 : Fin k1_t5_loop.trips) : Fin 1 → Nat :=
  let c2976_i32_133 : BitVec 32 := 2976#32
  let c0_i32_58 : BitVec 32 := 0#32
  let c1_i32_59 : BitVec 32 := 1#32
  let arg12 : BitVec 32 := Scf.iv c0_i32_58 c1_i32_59 k1_t5
  let c32_i32_132 : BitVec 32 := 32#32
  let v317 : BitVec 32 := Scalar.muli arg12 c32_i32_132
  let v318 : BitVec 32 := Scalar.addi c2976_i32_133 v317
  let c30_i32 : BitVec 32 := 30#32
  let v319 : BitVec 32 := Scalar.addi v318 c30_i32
  let v320 : Index := Scalar.indexCast v319
  ![v320.toNat]
def k1_off318 (v321 : BitVec 32) : Fin 1 → Nat :=
  let v322 : Index := Scalar.indexCast v321
  ![v322.toNat]

def k1_chk159 (i : grid1.Coords) (v321 : BitVec 32) : Prop :=
  (∀ (k1_h1 : k1_cond1 i = 1#1), ∀ a, (k1_off318 v321) a + S1.size a ≤ S4096.size a)
theorem k1_off318_inb : ∀ (i : grid1.Coords) (v321 : BitVec 32) (k1_hw159 : k1_chk159 i v321), ∀ (k1_h1 : k1_cond1 i = 1#1), ∀ a, (k1_off318 v321) a + S1.size a ≤ S4096.size a := fun i v321 k1_hw159 k1_h1 => k1_hw159 k1_h1

def k1_off319 (k1_t5 : Fin k1_t5_loop.trips) : Fin 1 → Nat :=
  let c2976_i32_135 : BitVec 32 := 2976#32
  let c0_i32_58 : BitVec 32 := 0#32
  let c1_i32_59 : BitVec 32 := 1#32
  let arg12 : BitVec 32 := Scf.iv c0_i32_58 c1_i32_59 k1_t5
  let c32_i32_134 : BitVec 32 := 32#32
  let v325 : BitVec 32 := Scalar.muli arg12 c32_i32_134
  let v326 : BitVec 32 := Scalar.addi c2976_i32_135 v325
  let c31_i32 : BitVec 32 := 31#32
  let v327 : BitVec 32 := Scalar.addi v326 c31_i32
  let v328 : Index := Scalar.indexCast v327
  ![v328.toNat]
def k1_off320 (v329 : BitVec 32) : Fin 1 → Nat :=
  let v330 : Index := Scalar.indexCast v329
  ![v330.toNat]

def k1_chk160 (i : grid1.Coords) (v329 : BitVec 32) : Prop :=
  (∀ (k1_h1 : k1_cond1 i = 1#1), ∀ a, (k1_off320 v329) a + S1.size a ≤ S4096.size a)
theorem k1_off320_inb : ∀ (i : grid1.Coords) (v329 : BitVec 32) (k1_hw160 : k1_chk160 i v329), ∀ (k1_h1 : k1_cond1 i = 1#1), ∀ a, (k1_off320 v329) a + S1.size a ≤ S4096.size a := fun i v329 k1_hw160 k1_h1 => k1_hw160 k1_h1

@[reducible] def k1_t6_loop : Scf.Loop 32 :=
  let c0_i32_61 : BitVec 32 := 0#32
  let c9_i32 : BitVec 32 := 9#32
  let v70 : BitVec 32 := Scalar.addi c0_i32_61 c9_i32
  let c1_i32_62 : BitVec 32 := 1#32
  ⟨c0_i32_61, v70, c1_i32_62⟩
def k1_off321 (k1_t6 : Fin k1_t6_loop.trips) : Fin 1 → Nat :=
  let c3808_i32 : BitVec 32 := 3808#32
  let c0_i32_61 : BitVec 32 := 0#32
  let c1_i32_62 : BitVec 32 := 1#32
  let arg12 : BitVec 32 := Scf.iv c0_i32_61 c1_i32_62 k1_t6
  let c32_i32 : BitVec 32 := 32#32
  let v77 : BitVec 32 := Scalar.muli arg12 c32_i32
  let v78 : BitVec 32 := Scalar.addi c3808_i32 v77
  let c0_i32_64 : BitVec 32 := 0#32
  let v79 : BitVec 32 := Scalar.addi v78 c0_i32_64
  let v80 : Index := Scalar.indexCast v79
  ![v80.toNat]
def k1_off322 (v81 : BitVec 32) : Fin 1 → Nat :=
  let v82 : Index := Scalar.indexCast v81
  ![v82.toNat]

def k1_chk161 (i : grid1.Coords) (v81 : BitVec 32) : Prop :=
  (∀ (k1_h1 : k1_cond1 i = 1#1), ∀ a, (k1_off322 v81) a + S1.size a ≤ S4096.size a)
theorem k1_off322_inb : ∀ (i : grid1.Coords) (v81 : BitVec 32) (k1_hw161 : k1_chk161 i v81), ∀ (k1_h1 : k1_cond1 i = 1#1), ∀ a, (k1_off322 v81) a + S1.size a ≤ S4096.size a := fun i v81 k1_hw161 k1_h1 => k1_hw161 k1_h1

def k1_off323 (k1_t6 : Fin k1_t6_loop.trips) : Fin 1 → Nat :=
  let c3808_i32_66 : BitVec 32 := 3808#32
  let c0_i32_61 : BitVec 32 := 0#32
  let c1_i32_62 : BitVec 32 := 1#32
  let arg12 : BitVec 32 := Scf.iv c0_i32_61 c1_i32_62 k1_t6
  let c32_i32_65 : BitVec 32 := 32#32
  let v85 : BitVec 32 := Scalar.muli arg12 c32_i32_65
  let v86 : BitVec 32 := Scalar.addi c3808_i32_66 v85
  let c1_i32_67 : BitVec 32 := 1#32
  let v87 : BitVec 32 := Scalar.addi v86 c1_i32_67
  let v88 : Index := Scalar.indexCast v87
  ![v88.toNat]
def k1_off324 (v89 : BitVec 32) : Fin 1 → Nat :=
  let v90 : Index := Scalar.indexCast v89
  ![v90.toNat]

def k1_chk162 (i : grid1.Coords) (v89 : BitVec 32) : Prop :=
  (∀ (k1_h1 : k1_cond1 i = 1#1), ∀ a, (k1_off324 v89) a + S1.size a ≤ S4096.size a)
theorem k1_off324_inb : ∀ (i : grid1.Coords) (v89 : BitVec 32) (k1_hw162 : k1_chk162 i v89), ∀ (k1_h1 : k1_cond1 i = 1#1), ∀ a, (k1_off324 v89) a + S1.size a ≤ S4096.size a := fun i v89 k1_hw162 k1_h1 => k1_hw162 k1_h1

def k1_off325 (k1_t6 : Fin k1_t6_loop.trips) : Fin 1 → Nat :=
  let c3808_i32_69 : BitVec 32 := 3808#32
  let c0_i32_61 : BitVec 32 := 0#32
  let c1_i32_62 : BitVec 32 := 1#32
  let arg12 : BitVec 32 := Scf.iv c0_i32_61 c1_i32_62 k1_t6
  let c32_i32_68 : BitVec 32 := 32#32
  let v93 : BitVec 32 := Scalar.muli arg12 c32_i32_68
  let v94 : BitVec 32 := Scalar.addi c3808_i32_69 v93
  let c2_i32_70 : BitVec 32 := 2#32
  let v95 : BitVec 32 := Scalar.addi v94 c2_i32_70
  let v96 : Index := Scalar.indexCast v95
  ![v96.toNat]
def k1_off326 (v97 : BitVec 32) : Fin 1 → Nat :=
  let v98 : Index := Scalar.indexCast v97
  ![v98.toNat]

def k1_chk163 (i : grid1.Coords) (v97 : BitVec 32) : Prop :=
  (∀ (k1_h1 : k1_cond1 i = 1#1), ∀ a, (k1_off326 v97) a + S1.size a ≤ S4096.size a)
theorem k1_off326_inb : ∀ (i : grid1.Coords) (v97 : BitVec 32) (k1_hw163 : k1_chk163 i v97), ∀ (k1_h1 : k1_cond1 i = 1#1), ∀ a, (k1_off326 v97) a + S1.size a ≤ S4096.size a := fun i v97 k1_hw163 k1_h1 => k1_hw163 k1_h1

def k1_off327 (k1_t6 : Fin k1_t6_loop.trips) : Fin 1 → Nat :=
  let c3808_i32_72 : BitVec 32 := 3808#32
  let c0_i32_61 : BitVec 32 := 0#32
  let c1_i32_62 : BitVec 32 := 1#32
  let arg12 : BitVec 32 := Scf.iv c0_i32_61 c1_i32_62 k1_t6
  let c32_i32_71 : BitVec 32 := 32#32
  let v101 : BitVec 32 := Scalar.muli arg12 c32_i32_71
  let v102 : BitVec 32 := Scalar.addi c3808_i32_72 v101
  let c3_i32 : BitVec 32 := 3#32
  let v103 : BitVec 32 := Scalar.addi v102 c3_i32
  let v104 : Index := Scalar.indexCast v103
  ![v104.toNat]
def k1_off328 (v105 : BitVec 32) : Fin 1 → Nat :=
  let v106 : Index := Scalar.indexCast v105
  ![v106.toNat]

def k1_chk164 (i : grid1.Coords) (v105 : BitVec 32) : Prop :=
  (∀ (k1_h1 : k1_cond1 i = 1#1), ∀ a, (k1_off328 v105) a + S1.size a ≤ S4096.size a)
theorem k1_off328_inb : ∀ (i : grid1.Coords) (v105 : BitVec 32) (k1_hw164 : k1_chk164 i v105), ∀ (k1_h1 : k1_cond1 i = 1#1), ∀ a, (k1_off328 v105) a + S1.size a ≤ S4096.size a := fun i v105 k1_hw164 k1_h1 => k1_hw164 k1_h1

def k1_off329 (k1_t6 : Fin k1_t6_loop.trips) : Fin 1 → Nat :=
  let c3808_i32_74 : BitVec 32 := 3808#32
  let c0_i32_61 : BitVec 32 := 0#32
  let c1_i32_62 : BitVec 32 := 1#32
  let arg12 : BitVec 32 := Scf.iv c0_i32_61 c1_i32_62 k1_t6
  let c32_i32_73 : BitVec 32 := 32#32
  let v109 : BitVec 32 := Scalar.muli arg12 c32_i32_73
  let v110 : BitVec 32 := Scalar.addi c3808_i32_74 v109
  let c4_i32 : BitVec 32 := 4#32
  let v111 : BitVec 32 := Scalar.addi v110 c4_i32
  let v112 : Index := Scalar.indexCast v111
  ![v112.toNat]
def k1_off330 (v113 : BitVec 32) : Fin 1 → Nat :=
  let v114 : Index := Scalar.indexCast v113
  ![v114.toNat]

def k1_chk165 (i : grid1.Coords) (v113 : BitVec 32) : Prop :=
  (∀ (k1_h1 : k1_cond1 i = 1#1), ∀ a, (k1_off330 v113) a + S1.size a ≤ S4096.size a)
theorem k1_off330_inb : ∀ (i : grid1.Coords) (v113 : BitVec 32) (k1_hw165 : k1_chk165 i v113), ∀ (k1_h1 : k1_cond1 i = 1#1), ∀ a, (k1_off330 v113) a + S1.size a ≤ S4096.size a := fun i v113 k1_hw165 k1_h1 => k1_hw165 k1_h1

def k1_off331 (k1_t6 : Fin k1_t6_loop.trips) : Fin 1 → Nat :=
  let c3808_i32_76 : BitVec 32 := 3808#32
  let c0_i32_61 : BitVec 32 := 0#32
  let c1_i32_62 : BitVec 32 := 1#32
  let arg12 : BitVec 32 := Scf.iv c0_i32_61 c1_i32_62 k1_t6
  let c32_i32_75 : BitVec 32 := 32#32
  let v117 : BitVec 32 := Scalar.muli arg12 c32_i32_75
  let v118 : BitVec 32 := Scalar.addi c3808_i32_76 v117
  let c5_i32_77 : BitVec 32 := 5#32
  let v119 : BitVec 32 := Scalar.addi v118 c5_i32_77
  let v120 : Index := Scalar.indexCast v119
  ![v120.toNat]
def k1_off332 (v121 : BitVec 32) : Fin 1 → Nat :=
  let v122 : Index := Scalar.indexCast v121
  ![v122.toNat]

def k1_chk166 (i : grid1.Coords) (v121 : BitVec 32) : Prop :=
  (∀ (k1_h1 : k1_cond1 i = 1#1), ∀ a, (k1_off332 v121) a + S1.size a ≤ S4096.size a)
theorem k1_off332_inb : ∀ (i : grid1.Coords) (v121 : BitVec 32) (k1_hw166 : k1_chk166 i v121), ∀ (k1_h1 : k1_cond1 i = 1#1), ∀ a, (k1_off332 v121) a + S1.size a ≤ S4096.size a := fun i v121 k1_hw166 k1_h1 => k1_hw166 k1_h1

def k1_off333 (k1_t6 : Fin k1_t6_loop.trips) : Fin 1 → Nat :=
  let c3808_i32_79 : BitVec 32 := 3808#32
  let c0_i32_61 : BitVec 32 := 0#32
  let c1_i32_62 : BitVec 32 := 1#32
  let arg12 : BitVec 32 := Scf.iv c0_i32_61 c1_i32_62 k1_t6
  let c32_i32_78 : BitVec 32 := 32#32
  let v125 : BitVec 32 := Scalar.muli arg12 c32_i32_78
  let v126 : BitVec 32 := Scalar.addi c3808_i32_79 v125
  let c6_i32 : BitVec 32 := 6#32
  let v127 : BitVec 32 := Scalar.addi v126 c6_i32
  let v128 : Index := Scalar.indexCast v127
  ![v128.toNat]
def k1_off334 (v129 : BitVec 32) : Fin 1 → Nat :=
  let v130 : Index := Scalar.indexCast v129
  ![v130.toNat]

def k1_chk167 (i : grid1.Coords) (v129 : BitVec 32) : Prop :=
  (∀ (k1_h1 : k1_cond1 i = 1#1), ∀ a, (k1_off334 v129) a + S1.size a ≤ S4096.size a)
theorem k1_off334_inb : ∀ (i : grid1.Coords) (v129 : BitVec 32) (k1_hw167 : k1_chk167 i v129), ∀ (k1_h1 : k1_cond1 i = 1#1), ∀ a, (k1_off334 v129) a + S1.size a ≤ S4096.size a := fun i v129 k1_hw167 k1_h1 => k1_hw167 k1_h1

def k1_off335 (k1_t6 : Fin k1_t6_loop.trips) : Fin 1 → Nat :=
  let c3808_i32_81 : BitVec 32 := 3808#32
  let c0_i32_61 : BitVec 32 := 0#32
  let c1_i32_62 : BitVec 32 := 1#32
  let arg12 : BitVec 32 := Scf.iv c0_i32_61 c1_i32_62 k1_t6
  let c32_i32_80 : BitVec 32 := 32#32
  let v133 : BitVec 32 := Scalar.muli arg12 c32_i32_80
  let v134 : BitVec 32 := Scalar.addi c3808_i32_81 v133
  let c7_i32 : BitVec 32 := 7#32
  let v135 : BitVec 32 := Scalar.addi v134 c7_i32
  let v136 : Index := Scalar.indexCast v135
  ![v136.toNat]
def k1_off336 (v137 : BitVec 32) : Fin 1 → Nat :=
  let v138 : Index := Scalar.indexCast v137
  ![v138.toNat]

def k1_chk168 (i : grid1.Coords) (v137 : BitVec 32) : Prop :=
  (∀ (k1_h1 : k1_cond1 i = 1#1), ∀ a, (k1_off336 v137) a + S1.size a ≤ S4096.size a)
theorem k1_off336_inb : ∀ (i : grid1.Coords) (v137 : BitVec 32) (k1_hw168 : k1_chk168 i v137), ∀ (k1_h1 : k1_cond1 i = 1#1), ∀ a, (k1_off336 v137) a + S1.size a ≤ S4096.size a := fun i v137 k1_hw168 k1_h1 => k1_hw168 k1_h1

def k1_off337 (k1_t6 : Fin k1_t6_loop.trips) : Fin 1 → Nat :=
  let c3808_i32_83 : BitVec 32 := 3808#32
  let c0_i32_61 : BitVec 32 := 0#32
  let c1_i32_62 : BitVec 32 := 1#32
  let arg12 : BitVec 32 := Scf.iv c0_i32_61 c1_i32_62 k1_t6
  let c32_i32_82 : BitVec 32 := 32#32
  let v141 : BitVec 32 := Scalar.muli arg12 c32_i32_82
  let v142 : BitVec 32 := Scalar.addi c3808_i32_83 v141
  let c8_i32_84 : BitVec 32 := 8#32
  let v143 : BitVec 32 := Scalar.addi v142 c8_i32_84
  let v144 : Index := Scalar.indexCast v143
  ![v144.toNat]
def k1_off338 (v145 : BitVec 32) : Fin 1 → Nat :=
  let v146 : Index := Scalar.indexCast v145
  ![v146.toNat]

def k1_chk169 (i : grid1.Coords) (v145 : BitVec 32) : Prop :=
  (∀ (k1_h1 : k1_cond1 i = 1#1), ∀ a, (k1_off338 v145) a + S1.size a ≤ S4096.size a)
theorem k1_off338_inb : ∀ (i : grid1.Coords) (v145 : BitVec 32) (k1_hw169 : k1_chk169 i v145), ∀ (k1_h1 : k1_cond1 i = 1#1), ∀ a, (k1_off338 v145) a + S1.size a ≤ S4096.size a := fun i v145 k1_hw169 k1_h1 => k1_hw169 k1_h1

def k1_off339 (k1_t6 : Fin k1_t6_loop.trips) : Fin 1 → Nat :=
  let c3808_i32_86 : BitVec 32 := 3808#32
  let c0_i32_61 : BitVec 32 := 0#32
  let c1_i32_62 : BitVec 32 := 1#32
  let arg12 : BitVec 32 := Scf.iv c0_i32_61 c1_i32_62 k1_t6
  let c32_i32_85 : BitVec 32 := 32#32
  let v149 : BitVec 32 := Scalar.muli arg12 c32_i32_85
  let v150 : BitVec 32 := Scalar.addi c3808_i32_86 v149
  let c9_i32_87 : BitVec 32 := 9#32
  let v151 : BitVec 32 := Scalar.addi v150 c9_i32_87
  let v152 : Index := Scalar.indexCast v151
  ![v152.toNat]
def k1_off340 (v153 : BitVec 32) : Fin 1 → Nat :=
  let v154 : Index := Scalar.indexCast v153
  ![v154.toNat]

def k1_chk170 (i : grid1.Coords) (v153 : BitVec 32) : Prop :=
  (∀ (k1_h1 : k1_cond1 i = 1#1), ∀ a, (k1_off340 v153) a + S1.size a ≤ S4096.size a)
theorem k1_off340_inb : ∀ (i : grid1.Coords) (v153 : BitVec 32) (k1_hw170 : k1_chk170 i v153), ∀ (k1_h1 : k1_cond1 i = 1#1), ∀ a, (k1_off340 v153) a + S1.size a ≤ S4096.size a := fun i v153 k1_hw170 k1_h1 => k1_hw170 k1_h1

def k1_off341 (k1_t6 : Fin k1_t6_loop.trips) : Fin 1 → Nat :=
  let c3808_i32_89 : BitVec 32 := 3808#32
  let c0_i32_61 : BitVec 32 := 0#32
  let c1_i32_62 : BitVec 32 := 1#32
  let arg12 : BitVec 32 := Scf.iv c0_i32_61 c1_i32_62 k1_t6
  let c32_i32_88 : BitVec 32 := 32#32
  let v157 : BitVec 32 := Scalar.muli arg12 c32_i32_88
  let v158 : BitVec 32 := Scalar.addi c3808_i32_89 v157
  let c10_i32 : BitVec 32 := 10#32
  let v159 : BitVec 32 := Scalar.addi v158 c10_i32
  let v160 : Index := Scalar.indexCast v159
  ![v160.toNat]
def k1_off342 (v161 : BitVec 32) : Fin 1 → Nat :=
  let v162 : Index := Scalar.indexCast v161
  ![v162.toNat]

def k1_chk171 (i : grid1.Coords) (v161 : BitVec 32) : Prop :=
  (∀ (k1_h1 : k1_cond1 i = 1#1), ∀ a, (k1_off342 v161) a + S1.size a ≤ S4096.size a)
theorem k1_off342_inb : ∀ (i : grid1.Coords) (v161 : BitVec 32) (k1_hw171 : k1_chk171 i v161), ∀ (k1_h1 : k1_cond1 i = 1#1), ∀ a, (k1_off342 v161) a + S1.size a ≤ S4096.size a := fun i v161 k1_hw171 k1_h1 => k1_hw171 k1_h1

def k1_off343 (k1_t6 : Fin k1_t6_loop.trips) : Fin 1 → Nat :=
  let c3808_i32_91 : BitVec 32 := 3808#32
  let c0_i32_61 : BitVec 32 := 0#32
  let c1_i32_62 : BitVec 32 := 1#32
  let arg12 : BitVec 32 := Scf.iv c0_i32_61 c1_i32_62 k1_t6
  let c32_i32_90 : BitVec 32 := 32#32
  let v165 : BitVec 32 := Scalar.muli arg12 c32_i32_90
  let v166 : BitVec 32 := Scalar.addi c3808_i32_91 v165
  let c11_i32 : BitVec 32 := 11#32
  let v167 : BitVec 32 := Scalar.addi v166 c11_i32
  let v168 : Index := Scalar.indexCast v167
  ![v168.toNat]
def k1_off344 (v169 : BitVec 32) : Fin 1 → Nat :=
  let v170 : Index := Scalar.indexCast v169
  ![v170.toNat]

def k1_chk172 (i : grid1.Coords) (v169 : BitVec 32) : Prop :=
  (∀ (k1_h1 : k1_cond1 i = 1#1), ∀ a, (k1_off344 v169) a + S1.size a ≤ S4096.size a)
theorem k1_off344_inb : ∀ (i : grid1.Coords) (v169 : BitVec 32) (k1_hw172 : k1_chk172 i v169), ∀ (k1_h1 : k1_cond1 i = 1#1), ∀ a, (k1_off344 v169) a + S1.size a ≤ S4096.size a := fun i v169 k1_hw172 k1_h1 => k1_hw172 k1_h1

def k1_off345 (k1_t6 : Fin k1_t6_loop.trips) : Fin 1 → Nat :=
  let c3808_i32_93 : BitVec 32 := 3808#32
  let c0_i32_61 : BitVec 32 := 0#32
  let c1_i32_62 : BitVec 32 := 1#32
  let arg12 : BitVec 32 := Scf.iv c0_i32_61 c1_i32_62 k1_t6
  let c32_i32_92 : BitVec 32 := 32#32
  let v173 : BitVec 32 := Scalar.muli arg12 c32_i32_92
  let v174 : BitVec 32 := Scalar.addi c3808_i32_93 v173
  let c12_i32 : BitVec 32 := 12#32
  let v175 : BitVec 32 := Scalar.addi v174 c12_i32
  let v176 : Index := Scalar.indexCast v175
  ![v176.toNat]
def k1_off346 (v177 : BitVec 32) : Fin 1 → Nat :=
  let v178 : Index := Scalar.indexCast v177
  ![v178.toNat]

def k1_chk173 (i : grid1.Coords) (v177 : BitVec 32) : Prop :=
  (∀ (k1_h1 : k1_cond1 i = 1#1), ∀ a, (k1_off346 v177) a + S1.size a ≤ S4096.size a)
theorem k1_off346_inb : ∀ (i : grid1.Coords) (v177 : BitVec 32) (k1_hw173 : k1_chk173 i v177), ∀ (k1_h1 : k1_cond1 i = 1#1), ∀ a, (k1_off346 v177) a + S1.size a ≤ S4096.size a := fun i v177 k1_hw173 k1_h1 => k1_hw173 k1_h1

def k1_off347 (k1_t6 : Fin k1_t6_loop.trips) : Fin 1 → Nat :=
  let c3808_i32_95 : BitVec 32 := 3808#32
  let c0_i32_61 : BitVec 32 := 0#32
  let c1_i32_62 : BitVec 32 := 1#32
  let arg12 : BitVec 32 := Scf.iv c0_i32_61 c1_i32_62 k1_t6
  let c32_i32_94 : BitVec 32 := 32#32
  let v181 : BitVec 32 := Scalar.muli arg12 c32_i32_94
  let v182 : BitVec 32 := Scalar.addi c3808_i32_95 v181
  let c13_i32 : BitVec 32 := 13#32
  let v183 : BitVec 32 := Scalar.addi v182 c13_i32
  let v184 : Index := Scalar.indexCast v183
  ![v184.toNat]
def k1_off348 (v185 : BitVec 32) : Fin 1 → Nat :=
  let v186 : Index := Scalar.indexCast v185
  ![v186.toNat]

def k1_chk174 (i : grid1.Coords) (v185 : BitVec 32) : Prop :=
  (∀ (k1_h1 : k1_cond1 i = 1#1), ∀ a, (k1_off348 v185) a + S1.size a ≤ S4096.size a)
theorem k1_off348_inb : ∀ (i : grid1.Coords) (v185 : BitVec 32) (k1_hw174 : k1_chk174 i v185), ∀ (k1_h1 : k1_cond1 i = 1#1), ∀ a, (k1_off348 v185) a + S1.size a ≤ S4096.size a := fun i v185 k1_hw174 k1_h1 => k1_hw174 k1_h1

def k1_off349 (k1_t6 : Fin k1_t6_loop.trips) : Fin 1 → Nat :=
  let c3808_i32_97 : BitVec 32 := 3808#32
  let c0_i32_61 : BitVec 32 := 0#32
  let c1_i32_62 : BitVec 32 := 1#32
  let arg12 : BitVec 32 := Scf.iv c0_i32_61 c1_i32_62 k1_t6
  let c32_i32_96 : BitVec 32 := 32#32
  let v189 : BitVec 32 := Scalar.muli arg12 c32_i32_96
  let v190 : BitVec 32 := Scalar.addi c3808_i32_97 v189
  let c14_i32 : BitVec 32 := 14#32
  let v191 : BitVec 32 := Scalar.addi v190 c14_i32
  let v192 : Index := Scalar.indexCast v191
  ![v192.toNat]
def k1_off350 (v193 : BitVec 32) : Fin 1 → Nat :=
  let v194 : Index := Scalar.indexCast v193
  ![v194.toNat]

def k1_chk175 (i : grid1.Coords) (v193 : BitVec 32) : Prop :=
  (∀ (k1_h1 : k1_cond1 i = 1#1), ∀ a, (k1_off350 v193) a + S1.size a ≤ S4096.size a)
theorem k1_off350_inb : ∀ (i : grid1.Coords) (v193 : BitVec 32) (k1_hw175 : k1_chk175 i v193), ∀ (k1_h1 : k1_cond1 i = 1#1), ∀ a, (k1_off350 v193) a + S1.size a ≤ S4096.size a := fun i v193 k1_hw175 k1_h1 => k1_hw175 k1_h1

def k1_off351 (k1_t6 : Fin k1_t6_loop.trips) : Fin 1 → Nat :=
  let c3808_i32_99 : BitVec 32 := 3808#32
  let c0_i32_61 : BitVec 32 := 0#32
  let c1_i32_62 : BitVec 32 := 1#32
  let arg12 : BitVec 32 := Scf.iv c0_i32_61 c1_i32_62 k1_t6
  let c32_i32_98 : BitVec 32 := 32#32
  let v197 : BitVec 32 := Scalar.muli arg12 c32_i32_98
  let v198 : BitVec 32 := Scalar.addi c3808_i32_99 v197
  let c15_i32_100 : BitVec 32 := 15#32
  let v199 : BitVec 32 := Scalar.addi v198 c15_i32_100
  let v200 : Index := Scalar.indexCast v199
  ![v200.toNat]
def k1_off352 (v201 : BitVec 32) : Fin 1 → Nat :=
  let v202 : Index := Scalar.indexCast v201
  ![v202.toNat]

def k1_chk176 (i : grid1.Coords) (v201 : BitVec 32) : Prop :=
  (∀ (k1_h1 : k1_cond1 i = 1#1), ∀ a, (k1_off352 v201) a + S1.size a ≤ S4096.size a)
theorem k1_off352_inb : ∀ (i : grid1.Coords) (v201 : BitVec 32) (k1_hw176 : k1_chk176 i v201), ∀ (k1_h1 : k1_cond1 i = 1#1), ∀ a, (k1_off352 v201) a + S1.size a ≤ S4096.size a := fun i v201 k1_hw176 k1_h1 => k1_hw176 k1_h1

def k1_off353 (k1_t6 : Fin k1_t6_loop.trips) : Fin 1 → Nat :=
  let c3808_i32_102 : BitVec 32 := 3808#32
  let c0_i32_61 : BitVec 32 := 0#32
  let c1_i32_62 : BitVec 32 := 1#32
  let arg12 : BitVec 32 := Scf.iv c0_i32_61 c1_i32_62 k1_t6
  let c32_i32_101 : BitVec 32 := 32#32
  let v205 : BitVec 32 := Scalar.muli arg12 c32_i32_101
  let v206 : BitVec 32 := Scalar.addi c3808_i32_102 v205
  let c16_i32 : BitVec 32 := 16#32
  let v207 : BitVec 32 := Scalar.addi v206 c16_i32
  let v208 : Index := Scalar.indexCast v207
  ![v208.toNat]
def k1_off354 (v209 : BitVec 32) : Fin 1 → Nat :=
  let v210 : Index := Scalar.indexCast v209
  ![v210.toNat]

def k1_chk177 (i : grid1.Coords) (v209 : BitVec 32) : Prop :=
  (∀ (k1_h1 : k1_cond1 i = 1#1), ∀ a, (k1_off354 v209) a + S1.size a ≤ S4096.size a)
theorem k1_off354_inb : ∀ (i : grid1.Coords) (v209 : BitVec 32) (k1_hw177 : k1_chk177 i v209), ∀ (k1_h1 : k1_cond1 i = 1#1), ∀ a, (k1_off354 v209) a + S1.size a ≤ S4096.size a := fun i v209 k1_hw177 k1_h1 => k1_hw177 k1_h1

def k1_off355 (k1_t6 : Fin k1_t6_loop.trips) : Fin 1 → Nat :=
  let c3808_i32_104 : BitVec 32 := 3808#32
  let c0_i32_61 : BitVec 32 := 0#32
  let c1_i32_62 : BitVec 32 := 1#32
  let arg12 : BitVec 32 := Scf.iv c0_i32_61 c1_i32_62 k1_t6
  let c32_i32_103 : BitVec 32 := 32#32
  let v213 : BitVec 32 := Scalar.muli arg12 c32_i32_103
  let v214 : BitVec 32 := Scalar.addi c3808_i32_104 v213
  let c17_i32 : BitVec 32 := 17#32
  let v215 : BitVec 32 := Scalar.addi v214 c17_i32
  let v216 : Index := Scalar.indexCast v215
  ![v216.toNat]
def k1_off356 (v217 : BitVec 32) : Fin 1 → Nat :=
  let v218 : Index := Scalar.indexCast v217
  ![v218.toNat]

def k1_chk178 (i : grid1.Coords) (v217 : BitVec 32) : Prop :=
  (∀ (k1_h1 : k1_cond1 i = 1#1), ∀ a, (k1_off356 v217) a + S1.size a ≤ S4096.size a)
theorem k1_off356_inb : ∀ (i : grid1.Coords) (v217 : BitVec 32) (k1_hw178 : k1_chk178 i v217), ∀ (k1_h1 : k1_cond1 i = 1#1), ∀ a, (k1_off356 v217) a + S1.size a ≤ S4096.size a := fun i v217 k1_hw178 k1_h1 => k1_hw178 k1_h1

def k1_off357 (k1_t6 : Fin k1_t6_loop.trips) : Fin 1 → Nat :=
  let c3808_i32_106 : BitVec 32 := 3808#32
  let c0_i32_61 : BitVec 32 := 0#32
  let c1_i32_62 : BitVec 32 := 1#32
  let arg12 : BitVec 32 := Scf.iv c0_i32_61 c1_i32_62 k1_t6
  let c32_i32_105 : BitVec 32 := 32#32
  let v221 : BitVec 32 := Scalar.muli arg12 c32_i32_105
  let v222 : BitVec 32 := Scalar.addi c3808_i32_106 v221
  let c18_i32 : BitVec 32 := 18#32
  let v223 : BitVec 32 := Scalar.addi v222 c18_i32
  let v224 : Index := Scalar.indexCast v223
  ![v224.toNat]
def k1_off358 (v225 : BitVec 32) : Fin 1 → Nat :=
  let v226 : Index := Scalar.indexCast v225
  ![v226.toNat]

def k1_chk179 (i : grid1.Coords) (v225 : BitVec 32) : Prop :=
  (∀ (k1_h1 : k1_cond1 i = 1#1), ∀ a, (k1_off358 v225) a + S1.size a ≤ S4096.size a)
theorem k1_off358_inb : ∀ (i : grid1.Coords) (v225 : BitVec 32) (k1_hw179 : k1_chk179 i v225), ∀ (k1_h1 : k1_cond1 i = 1#1), ∀ a, (k1_off358 v225) a + S1.size a ≤ S4096.size a := fun i v225 k1_hw179 k1_h1 => k1_hw179 k1_h1

def k1_off359 (k1_t6 : Fin k1_t6_loop.trips) : Fin 1 → Nat :=
  let c3808_i32_108 : BitVec 32 := 3808#32
  let c0_i32_61 : BitVec 32 := 0#32
  let c1_i32_62 : BitVec 32 := 1#32
  let arg12 : BitVec 32 := Scf.iv c0_i32_61 c1_i32_62 k1_t6
  let c32_i32_107 : BitVec 32 := 32#32
  let v229 : BitVec 32 := Scalar.muli arg12 c32_i32_107
  let v230 : BitVec 32 := Scalar.addi c3808_i32_108 v229
  let c19_i32 : BitVec 32 := 19#32
  let v231 : BitVec 32 := Scalar.addi v230 c19_i32
  let v232 : Index := Scalar.indexCast v231
  ![v232.toNat]
def k1_off360 (v233 : BitVec 32) : Fin 1 → Nat :=
  let v234 : Index := Scalar.indexCast v233
  ![v234.toNat]

def k1_chk180 (i : grid1.Coords) (v233 : BitVec 32) : Prop :=
  (∀ (k1_h1 : k1_cond1 i = 1#1), ∀ a, (k1_off360 v233) a + S1.size a ≤ S4096.size a)
theorem k1_off360_inb : ∀ (i : grid1.Coords) (v233 : BitVec 32) (k1_hw180 : k1_chk180 i v233), ∀ (k1_h1 : k1_cond1 i = 1#1), ∀ a, (k1_off360 v233) a + S1.size a ≤ S4096.size a := fun i v233 k1_hw180 k1_h1 => k1_hw180 k1_h1

def k1_off361 (k1_t6 : Fin k1_t6_loop.trips) : Fin 1 → Nat :=
  let c3808_i32_110 : BitVec 32 := 3808#32
  let c0_i32_61 : BitVec 32 := 0#32
  let c1_i32_62 : BitVec 32 := 1#32
  let arg12 : BitVec 32 := Scf.iv c0_i32_61 c1_i32_62 k1_t6
  let c32_i32_109 : BitVec 32 := 32#32
  let v237 : BitVec 32 := Scalar.muli arg12 c32_i32_109
  let v238 : BitVec 32 := Scalar.addi c3808_i32_110 v237
  let c20_i32_111 : BitVec 32 := 20#32
  let v239 : BitVec 32 := Scalar.addi v238 c20_i32_111
  let v240 : Index := Scalar.indexCast v239
  ![v240.toNat]
def k1_off362 (v241 : BitVec 32) : Fin 1 → Nat :=
  let v242 : Index := Scalar.indexCast v241
  ![v242.toNat]

def k1_chk181 (i : grid1.Coords) (v241 : BitVec 32) : Prop :=
  (∀ (k1_h1 : k1_cond1 i = 1#1), ∀ a, (k1_off362 v241) a + S1.size a ≤ S4096.size a)
theorem k1_off362_inb : ∀ (i : grid1.Coords) (v241 : BitVec 32) (k1_hw181 : k1_chk181 i v241), ∀ (k1_h1 : k1_cond1 i = 1#1), ∀ a, (k1_off362 v241) a + S1.size a ≤ S4096.size a := fun i v241 k1_hw181 k1_h1 => k1_hw181 k1_h1

def k1_off363 (k1_t6 : Fin k1_t6_loop.trips) : Fin 1 → Nat :=
  let c3808_i32_113 : BitVec 32 := 3808#32
  let c0_i32_61 : BitVec 32 := 0#32
  let c1_i32_62 : BitVec 32 := 1#32
  let arg12 : BitVec 32 := Scf.iv c0_i32_61 c1_i32_62 k1_t6
  let c32_i32_112 : BitVec 32 := 32#32
  let v245 : BitVec 32 := Scalar.muli arg12 c32_i32_112
  let v246 : BitVec 32 := Scalar.addi c3808_i32_113 v245
  let c21_i32 : BitVec 32 := 21#32
  let v247 : BitVec 32 := Scalar.addi v246 c21_i32
  let v248 : Index := Scalar.indexCast v247
  ![v248.toNat]
def k1_off364 (v249 : BitVec 32) : Fin 1 → Nat :=
  let v250 : Index := Scalar.indexCast v249
  ![v250.toNat]

def k1_chk182 (i : grid1.Coords) (v249 : BitVec 32) : Prop :=
  (∀ (k1_h1 : k1_cond1 i = 1#1), ∀ a, (k1_off364 v249) a + S1.size a ≤ S4096.size a)
theorem k1_off364_inb : ∀ (i : grid1.Coords) (v249 : BitVec 32) (k1_hw182 : k1_chk182 i v249), ∀ (k1_h1 : k1_cond1 i = 1#1), ∀ a, (k1_off364 v249) a + S1.size a ≤ S4096.size a := fun i v249 k1_hw182 k1_h1 => k1_hw182 k1_h1

def k1_off365 (k1_t6 : Fin k1_t6_loop.trips) : Fin 1 → Nat :=
  let c3808_i32_115 : BitVec 32 := 3808#32
  let c0_i32_61 : BitVec 32 := 0#32
  let c1_i32_62 : BitVec 32 := 1#32
  let arg12 : BitVec 32 := Scf.iv c0_i32_61 c1_i32_62 k1_t6
  let c32_i32_114 : BitVec 32 := 32#32
  let v253 : BitVec 32 := Scalar.muli arg12 c32_i32_114
  let v254 : BitVec 32 := Scalar.addi c3808_i32_115 v253
  let c22_i32 : BitVec 32 := 22#32
  let v255 : BitVec 32 := Scalar.addi v254 c22_i32
  let v256 : Index := Scalar.indexCast v255
  ![v256.toNat]
def k1_off366 (v257 : BitVec 32) : Fin 1 → Nat :=
  let v258 : Index := Scalar.indexCast v257
  ![v258.toNat]

def k1_chk183 (i : grid1.Coords) (v257 : BitVec 32) : Prop :=
  (∀ (k1_h1 : k1_cond1 i = 1#1), ∀ a, (k1_off366 v257) a + S1.size a ≤ S4096.size a)
theorem k1_off366_inb : ∀ (i : grid1.Coords) (v257 : BitVec 32) (k1_hw183 : k1_chk183 i v257), ∀ (k1_h1 : k1_cond1 i = 1#1), ∀ a, (k1_off366 v257) a + S1.size a ≤ S4096.size a := fun i v257 k1_hw183 k1_h1 => k1_hw183 k1_h1

def k1_off367 (k1_t6 : Fin k1_t6_loop.trips) : Fin 1 → Nat :=
  let c3808_i32_117 : BitVec 32 := 3808#32
  let c0_i32_61 : BitVec 32 := 0#32
  let c1_i32_62 : BitVec 32 := 1#32
  let arg12 : BitVec 32 := Scf.iv c0_i32_61 c1_i32_62 k1_t6
  let c32_i32_116 : BitVec 32 := 32#32
  let v261 : BitVec 32 := Scalar.muli arg12 c32_i32_116
  let v262 : BitVec 32 := Scalar.addi c3808_i32_117 v261
  let c23_i32 : BitVec 32 := 23#32
  let v263 : BitVec 32 := Scalar.addi v262 c23_i32
  let v264 : Index := Scalar.indexCast v263
  ![v264.toNat]
def k1_off368 (v265 : BitVec 32) : Fin 1 → Nat :=
  let v266 : Index := Scalar.indexCast v265
  ![v266.toNat]

def k1_chk184 (i : grid1.Coords) (v265 : BitVec 32) : Prop :=
  (∀ (k1_h1 : k1_cond1 i = 1#1), ∀ a, (k1_off368 v265) a + S1.size a ≤ S4096.size a)
theorem k1_off368_inb : ∀ (i : grid1.Coords) (v265 : BitVec 32) (k1_hw184 : k1_chk184 i v265), ∀ (k1_h1 : k1_cond1 i = 1#1), ∀ a, (k1_off368 v265) a + S1.size a ≤ S4096.size a := fun i v265 k1_hw184 k1_h1 => k1_hw184 k1_h1

def k1_off369 (k1_t6 : Fin k1_t6_loop.trips) : Fin 1 → Nat :=
  let c3808_i32_119 : BitVec 32 := 3808#32
  let c0_i32_61 : BitVec 32 := 0#32
  let c1_i32_62 : BitVec 32 := 1#32
  let arg12 : BitVec 32 := Scf.iv c0_i32_61 c1_i32_62 k1_t6
  let c32_i32_118 : BitVec 32 := 32#32
  let v269 : BitVec 32 := Scalar.muli arg12 c32_i32_118
  let v270 : BitVec 32 := Scalar.addi c3808_i32_119 v269
  let c24_i32 : BitVec 32 := 24#32
  let v271 : BitVec 32 := Scalar.addi v270 c24_i32
  let v272 : Index := Scalar.indexCast v271
  ![v272.toNat]
def k1_off370 (v273 : BitVec 32) : Fin 1 → Nat :=
  let v274 : Index := Scalar.indexCast v273
  ![v274.toNat]

def k1_chk185 (i : grid1.Coords) (v273 : BitVec 32) : Prop :=
  (∀ (k1_h1 : k1_cond1 i = 1#1), ∀ a, (k1_off370 v273) a + S1.size a ≤ S4096.size a)
theorem k1_off370_inb : ∀ (i : grid1.Coords) (v273 : BitVec 32) (k1_hw185 : k1_chk185 i v273), ∀ (k1_h1 : k1_cond1 i = 1#1), ∀ a, (k1_off370 v273) a + S1.size a ≤ S4096.size a := fun i v273 k1_hw185 k1_h1 => k1_hw185 k1_h1

def k1_off371 (k1_t6 : Fin k1_t6_loop.trips) : Fin 1 → Nat :=
  let c3808_i32_121 : BitVec 32 := 3808#32
  let c0_i32_61 : BitVec 32 := 0#32
  let c1_i32_62 : BitVec 32 := 1#32
  let arg12 : BitVec 32 := Scf.iv c0_i32_61 c1_i32_62 k1_t6
  let c32_i32_120 : BitVec 32 := 32#32
  let v277 : BitVec 32 := Scalar.muli arg12 c32_i32_120
  let v278 : BitVec 32 := Scalar.addi c3808_i32_121 v277
  let c25_i32 : BitVec 32 := 25#32
  let v279 : BitVec 32 := Scalar.addi v278 c25_i32
  let v280 : Index := Scalar.indexCast v279
  ![v280.toNat]
def k1_off372 (v281 : BitVec 32) : Fin 1 → Nat :=
  let v282 : Index := Scalar.indexCast v281
  ![v282.toNat]

def k1_chk186 (i : grid1.Coords) (v281 : BitVec 32) : Prop :=
  (∀ (k1_h1 : k1_cond1 i = 1#1), ∀ a, (k1_off372 v281) a + S1.size a ≤ S4096.size a)
theorem k1_off372_inb : ∀ (i : grid1.Coords) (v281 : BitVec 32) (k1_hw186 : k1_chk186 i v281), ∀ (k1_h1 : k1_cond1 i = 1#1), ∀ a, (k1_off372 v281) a + S1.size a ≤ S4096.size a := fun i v281 k1_hw186 k1_h1 => k1_hw186 k1_h1

def k1_off373 (k1_t6 : Fin k1_t6_loop.trips) : Fin 1 → Nat :=
  let c3808_i32_123 : BitVec 32 := 3808#32
  let c0_i32_61 : BitVec 32 := 0#32
  let c1_i32_62 : BitVec 32 := 1#32
  let arg12 : BitVec 32 := Scf.iv c0_i32_61 c1_i32_62 k1_t6
  let c32_i32_122 : BitVec 32 := 32#32
  let v285 : BitVec 32 := Scalar.muli arg12 c32_i32_122
  let v286 : BitVec 32 := Scalar.addi c3808_i32_123 v285
  let c26_i32_124 : BitVec 32 := 26#32
  let v287 : BitVec 32 := Scalar.addi v286 c26_i32_124
  let v288 : Index := Scalar.indexCast v287
  ![v288.toNat]
def k1_off374 (v289 : BitVec 32) : Fin 1 → Nat :=
  let v290 : Index := Scalar.indexCast v289
  ![v290.toNat]

def k1_chk187 (i : grid1.Coords) (v289 : BitVec 32) : Prop :=
  (∀ (k1_h1 : k1_cond1 i = 1#1), ∀ a, (k1_off374 v289) a + S1.size a ≤ S4096.size a)
theorem k1_off374_inb : ∀ (i : grid1.Coords) (v289 : BitVec 32) (k1_hw187 : k1_chk187 i v289), ∀ (k1_h1 : k1_cond1 i = 1#1), ∀ a, (k1_off374 v289) a + S1.size a ≤ S4096.size a := fun i v289 k1_hw187 k1_h1 => k1_hw187 k1_h1

def k1_off375 (k1_t6 : Fin k1_t6_loop.trips) : Fin 1 → Nat :=
  let c3808_i32_126 : BitVec 32 := 3808#32
  let c0_i32_61 : BitVec 32 := 0#32
  let c1_i32_62 : BitVec 32 := 1#32
  let arg12 : BitVec 32 := Scf.iv c0_i32_61 c1_i32_62 k1_t6
  let c32_i32_125 : BitVec 32 := 32#32
  let v293 : BitVec 32 := Scalar.muli arg12 c32_i32_125
  let v294 : BitVec 32 := Scalar.addi c3808_i32_126 v293
  let c27_i32_127 : BitVec 32 := 27#32
  let v295 : BitVec 32 := Scalar.addi v294 c27_i32_127
  let v296 : Index := Scalar.indexCast v295
  ![v296.toNat]
def k1_off376 (v297 : BitVec 32) : Fin 1 → Nat :=
  let v298 : Index := Scalar.indexCast v297
  ![v298.toNat]

def k1_chk188 (i : grid1.Coords) (v297 : BitVec 32) : Prop :=
  (∀ (k1_h1 : k1_cond1 i = 1#1), ∀ a, (k1_off376 v297) a + S1.size a ≤ S4096.size a)
theorem k1_off376_inb : ∀ (i : grid1.Coords) (v297 : BitVec 32) (k1_hw188 : k1_chk188 i v297), ∀ (k1_h1 : k1_cond1 i = 1#1), ∀ a, (k1_off376 v297) a + S1.size a ≤ S4096.size a := fun i v297 k1_hw188 k1_h1 => k1_hw188 k1_h1

def k1_off377 (k1_t6 : Fin k1_t6_loop.trips) : Fin 1 → Nat :=
  let c3808_i32_129 : BitVec 32 := 3808#32
  let c0_i32_61 : BitVec 32 := 0#32
  let c1_i32_62 : BitVec 32 := 1#32
  let arg12 : BitVec 32 := Scf.iv c0_i32_61 c1_i32_62 k1_t6
  let c32_i32_128 : BitVec 32 := 32#32
  let v301 : BitVec 32 := Scalar.muli arg12 c32_i32_128
  let v302 : BitVec 32 := Scalar.addi c3808_i32_129 v301
  let c28_i32 : BitVec 32 := 28#32
  let v303 : BitVec 32 := Scalar.addi v302 c28_i32
  let v304 : Index := Scalar.indexCast v303
  ![v304.toNat]
def k1_off378 (v305 : BitVec 32) : Fin 1 → Nat :=
  let v306 : Index := Scalar.indexCast v305
  ![v306.toNat]

def k1_chk189 (i : grid1.Coords) (v305 : BitVec 32) : Prop :=
  (∀ (k1_h1 : k1_cond1 i = 1#1), ∀ a, (k1_off378 v305) a + S1.size a ≤ S4096.size a)
theorem k1_off378_inb : ∀ (i : grid1.Coords) (v305 : BitVec 32) (k1_hw189 : k1_chk189 i v305), ∀ (k1_h1 : k1_cond1 i = 1#1), ∀ a, (k1_off378 v305) a + S1.size a ≤ S4096.size a := fun i v305 k1_hw189 k1_h1 => k1_hw189 k1_h1

def k1_off379 (k1_t6 : Fin k1_t6_loop.trips) : Fin 1 → Nat :=
  let c3808_i32_131 : BitVec 32 := 3808#32
  let c0_i32_61 : BitVec 32 := 0#32
  let c1_i32_62 : BitVec 32 := 1#32
  let arg12 : BitVec 32 := Scf.iv c0_i32_61 c1_i32_62 k1_t6
  let c32_i32_130 : BitVec 32 := 32#32
  let v309 : BitVec 32 := Scalar.muli arg12 c32_i32_130
  let v310 : BitVec 32 := Scalar.addi c3808_i32_131 v309
  let c29_i32 : BitVec 32 := 29#32
  let v311 : BitVec 32 := Scalar.addi v310 c29_i32
  let v312 : Index := Scalar.indexCast v311
  ![v312.toNat]
def k1_off380 (v313 : BitVec 32) : Fin 1 → Nat :=
  let v314 : Index := Scalar.indexCast v313
  ![v314.toNat]

def k1_chk190 (i : grid1.Coords) (v313 : BitVec 32) : Prop :=
  (∀ (k1_h1 : k1_cond1 i = 1#1), ∀ a, (k1_off380 v313) a + S1.size a ≤ S4096.size a)
theorem k1_off380_inb : ∀ (i : grid1.Coords) (v313 : BitVec 32) (k1_hw190 : k1_chk190 i v313), ∀ (k1_h1 : k1_cond1 i = 1#1), ∀ a, (k1_off380 v313) a + S1.size a ≤ S4096.size a := fun i v313 k1_hw190 k1_h1 => k1_hw190 k1_h1

def k1_off381 (k1_t6 : Fin k1_t6_loop.trips) : Fin 1 → Nat :=
  let c3808_i32_133 : BitVec 32 := 3808#32
  let c0_i32_61 : BitVec 32 := 0#32
  let c1_i32_62 : BitVec 32 := 1#32
  let arg12 : BitVec 32 := Scf.iv c0_i32_61 c1_i32_62 k1_t6
  let c32_i32_132 : BitVec 32 := 32#32
  let v317 : BitVec 32 := Scalar.muli arg12 c32_i32_132
  let v318 : BitVec 32 := Scalar.addi c3808_i32_133 v317
  let c30_i32 : BitVec 32 := 30#32
  let v319 : BitVec 32 := Scalar.addi v318 c30_i32
  let v320 : Index := Scalar.indexCast v319
  ![v320.toNat]
def k1_off382 (v321 : BitVec 32) : Fin 1 → Nat :=
  let v322 : Index := Scalar.indexCast v321
  ![v322.toNat]

def k1_chk191 (i : grid1.Coords) (v321 : BitVec 32) : Prop :=
  (∀ (k1_h1 : k1_cond1 i = 1#1), ∀ a, (k1_off382 v321) a + S1.size a ≤ S4096.size a)
theorem k1_off382_inb : ∀ (i : grid1.Coords) (v321 : BitVec 32) (k1_hw191 : k1_chk191 i v321), ∀ (k1_h1 : k1_cond1 i = 1#1), ∀ a, (k1_off382 v321) a + S1.size a ≤ S4096.size a := fun i v321 k1_hw191 k1_h1 => k1_hw191 k1_h1

def k1_off383 (k1_t6 : Fin k1_t6_loop.trips) : Fin 1 → Nat :=
  let c3808_i32_135 : BitVec 32 := 3808#32
  let c0_i32_61 : BitVec 32 := 0#32
  let c1_i32_62 : BitVec 32 := 1#32
  let arg12 : BitVec 32 := Scf.iv c0_i32_61 c1_i32_62 k1_t6
  let c32_i32_134 : BitVec 32 := 32#32
  let v325 : BitVec 32 := Scalar.muli arg12 c32_i32_134
  let v326 : BitVec 32 := Scalar.addi c3808_i32_135 v325
  let c31_i32 : BitVec 32 := 31#32
  let v327 : BitVec 32 := Scalar.addi v326 c31_i32
  let v328 : Index := Scalar.indexCast v327
  ![v328.toNat]
def k1_off384 (v329 : BitVec 32) : Fin 1 → Nat :=
  let v330 : Index := Scalar.indexCast v329
  ![v330.toNat]

def k1_chk192 (i : grid1.Coords) (v329 : BitVec 32) : Prop :=
  (∀ (k1_h1 : k1_cond1 i = 1#1), ∀ a, (k1_off384 v329) a + S1.size a ≤ S4096.size a)
theorem k1_off384_inb : ∀ (i : grid1.Coords) (v329 : BitVec 32) (k1_hw192 : k1_chk192 i v329), ∀ (k1_h1 : k1_cond1 i = 1#1), ∀ a, (k1_off384 v329) a + S1.size a ≤ S4096.size a := fun i v329 k1_hw192 k1_h1 => k1_hw192 k1_h1

@[reducible] def k1_t7_loop (i : grid1.Coords) : Scf.Loop 32 :=
  let c0_i32_3 : BitVec 32 := 0#32
  let c8_i32_1 : BitVec 32 := 8#32
  let c86_i32 : BitVec 32 := 86#32
  let arg0 : BitVec 32 := BitVec.ofNat 32 (i 0).val
  let c8_i32 : BitVec 32 := 8#32
  let v3 : BitVec 32 := Scalar.muli arg0 c8_i32
  let v4 : BitVec 32 := Scalar.subi c86_i32 v3
  let v5 : BitVec 32 := Scalar.minsi c8_i32_1 v4
  let v6 : BitVec 32 := Scalar.subi v5 c0_i32_3
  let c1_i32 : BitVec 32 := 1#32
  let v8 : BitVec 32 := Scalar.divsi v6 c1_i32
  let v9 : BitVec 32 := Scalar.muli v8 c1_i32
  let v10 : BitVec 32 := Scalar.addi c0_i32_3 v9
  let c1_i32_4 : BitVec 32 := 1#32
  ⟨c0_i32_3, v10, c1_i32_4⟩
def k1_mult1 (i : grid1.Coords) (k1_t7 : Fin (k1_t7_loop i).trips) : BitVec 32 :=
  let arg0 : BitVec 32 := BitVec.ofNat 32 (i 0).val
  let c8_i32_46 : BitVec 32 := 8#32
  let v65 : BitVec 32 := Scalar.muli arg0 c8_i32_46
  let c0_i32_3 : BitVec 32 := 0#32
  let c1_i32_4 : BitVec 32 := 1#32
  let arg12 : BitVec 32 := Scf.iv c0_i32_3 c1_i32_4 k1_t7
  let v66 : BitVec 32 := Scalar.addi v65 arg12
  let c128_i32 : BitVec 32 := 128#32
  let v67 : BitVec 32 := Scalar.muli v66 c128_i32
  v67
def k1_mult2 (i : grid1.Coords) (k1_t7 : Fin (k1_t7_loop i).trips) : BitVec 32 :=
  let c0_i32_3 : BitVec 32 := 0#32
  let c1_i32_4 : BitVec 32 := 1#32
  let arg12 : BitVec 32 := Scf.iv c0_i32_3 c1_i32_4 k1_t7
  let c552_i32 : BitVec 32 := 552#32
  let v69 : BitVec 32 := Scalar.muli arg12 c552_i32
  v69
def k1_mult3 (i : grid1.Coords) (k1_t7 : Fin (k1_t7_loop i).trips) : BitVec 32 :=
  let c0_i32_3 : BitVec 32 := 0#32
  let c1_i32_4 : BitVec 32 := 1#32
  let arg12 : BitVec 32 := Scf.iv c0_i32_3 c1_i32_4 k1_t7
  let c552_i32 : BitVec 32 := 552#32
  let v69 : BitVec 32 := Scalar.muli arg12 c552_i32
  let v70 : BitVec 32 := v69
  let c544_i32 : BitVec 32 := 544#32
  let v71 : BitVec 32 := Scalar.addi v70 c544_i32
  v71
def k1_off385 (i : grid1.Coords) (k1_t7 : Fin (k1_t7_loop i).trips) : Fin 2 → Nat :=
  let c0_i32_3 : BitVec 32 := 0#32
  let c1_i32_4 : BitVec 32 := 1#32
  let arg12 : BitVec 32 := Scf.iv c0_i32_3 c1_i32_4 k1_t7
  let c552_i32 : BitVec 32 := 552#32
  let v69 : BitVec 32 := Scalar.muli arg12 c552_i32
  let v70 : BitVec 32 := v69
  let c0_i32_47 : BitVec 32 := 0#32
  ![v70.toNat, 0]
def k1_off386 (i : grid1.Coords) (k1_t7 : Fin (k1_t7_loop i).trips) : Fin 2 → Nat :=
  let c0_i32_48 : BitVec 32 := 0#32
  let arg0 : BitVec 32 := BitVec.ofNat 32 (i 0).val
  let c8_i32_46 : BitVec 32 := 8#32
  let v65 : BitVec 32 := Scalar.muli arg0 c8_i32_46
  let c0_i32_3 : BitVec 32 := 0#32
  let c1_i32_4 : BitVec 32 := 1#32
  let arg12 : BitVec 32 := Scf.iv c0_i32_3 c1_i32_4 k1_t7
  let v66 : BitVec 32 := Scalar.addi v65 arg12
  let c128_i32 : BitVec 32 := 128#32
  let v67 : BitVec 32 := Scalar.muli v66 c128_i32
  let v68 : BitVec 32 := v67
  ![0, v68.toNat]
def k1_off387 (i : grid1.Coords) (k1_t7 : Fin (k1_t7_loop i).trips) : Fin 2 → Nat :=
  let c0_i32_3 : BitVec 32 := 0#32
  let c1_i32_4 : BitVec 32 := 1#32
  let arg12 : BitVec 32 := Scf.iv c0_i32_3 c1_i32_4 k1_t7
  let c552_i32 : BitVec 32 := 552#32
  let v69 : BitVec 32 := Scalar.muli arg12 c552_i32
  let v70 : BitVec 32 := v69
  let c544_i32 : BitVec 32 := 544#32
  let v71 : BitVec 32 := Scalar.addi v70 c544_i32
  let v72 : BitVec 32 := v71
  let c0_i32_49 : BitVec 32 := 0#32
  ![v72.toNat, 0]
def k1_off388 (i : grid1.Coords) (k1_t7 : Fin (k1_t7_loop i).trips) : Fin 2 → Nat :=
  let c0_i32_50 : BitVec 32 := 0#32
  let arg0 : BitVec 32 := BitVec.ofNat 32 (i 0).val
  let c8_i32_46 : BitVec 32 := 8#32
  let v65 : BitVec 32 := Scalar.muli arg0 c8_i32_46
  let c0_i32_3 : BitVec 32 := 0#32
  let c1_i32_4 : BitVec 32 := 1#32
  let arg12 : BitVec 32 := Scf.iv c0_i32_3 c1_i32_4 k1_t7
  let v66 : BitVec 32 := Scalar.addi v65 arg12
  let c128_i32 : BitVec 32 := 128#32
  let v67 : BitVec 32 := Scalar.muli v66 c128_i32
  let v68 : BitVec 32 := v67
  ![0, v68.toNat]
def k1_off389 (i : grid1.Coords) (k1_t7 : Fin (k1_t7_loop i).trips) : Fin 3 → Nat :=
  let c0_i32_3 : BitVec 32 := 0#32
  let c1_i32_4 : BitVec 32 := 1#32
  let arg12 : BitVec 32 := Scf.iv c0_i32_3 c1_i32_4 k1_t7
  let c0_i32_51 : BitVec 32 := 0#32
  let c0_i32_52 : BitVec 32 := 0#32
  ![arg12.toNat, 0, 0]
def k1_off390 (i : grid1.Coords) (k1_t7 : Fin (k1_t7_loop i).trips) : Fin 2 → Nat :=
  let c0_i32_53 : BitVec 32 := 0#32
  let arg0 : BitVec 32 := BitVec.ofNat 32 (i 0).val
  let c8_i32_46 : BitVec 32 := 8#32
  let v65 : BitVec 32 := Scalar.muli arg0 c8_i32_46
  let c0_i32_3 : BitVec 32 := 0#32
  let c1_i32_4 : BitVec 32 := 1#32
  let arg12 : BitVec 32 := Scf.iv c0_i32_3 c1_i32_4 k1_t7
  let v66 : BitVec 32 := Scalar.addi v65 arg12
  let c128_i32 : BitVec 32 := 128#32
  let v67 : BitVec 32 := Scalar.muli v66 c128_i32
  let v68 : BitVec 32 := v67
  ![0, v68.toNat]
@[reducible] def k1_t8_loop (i : grid1.Coords) : Scf.Loop 32 :=
  let c0_i32_3 : BitVec 32 := 0#32
  let c8_i32_1 : BitVec 32 := 8#32
  let c86_i32 : BitVec 32 := 86#32
  let arg0 : BitVec 32 := BitVec.ofNat 32 (i 0).val
  let c8_i32 : BitVec 32 := 8#32
  let v3 : BitVec 32 := Scalar.muli arg0 c8_i32
  let v4 : BitVec 32 := Scalar.subi c86_i32 v3
  let v5 : BitVec 32 := Scalar.minsi c8_i32_1 v4
  let v6 : BitVec 32 := Scalar.subi v5 c0_i32_3
  let c1_i32 : BitVec 32 := 1#32
  let v8 : BitVec 32 := Scalar.divsi v6 c1_i32
  let v9 : BitVec 32 := Scalar.muli v8 c1_i32
  let v10 : BitVec 32 := Scalar.addi c0_i32_3 v9
  let v7 : BitVec 32 := Scalar.addi c0_i32_3 v6
  let c1_i32_5 : BitVec 32 := 1#32
  ⟨v10, v7, c1_i32_5⟩
def k1_mult4 (i : grid1.Coords) (k1_t8 : Fin (k1_t8_loop i).trips) : BitVec 32 :=
  let arg0 : BitVec 32 := BitVec.ofNat 32 (i 0).val
  let c8_i32_46 : BitVec 32 := 8#32
  let v65 : BitVec 32 := Scalar.muli arg0 c8_i32_46
  let c0_i32_3 : BitVec 32 := 0#32
  let c8_i32_1 : BitVec 32 := 8#32
  let c86_i32 : BitVec 32 := 86#32
  let c8_i32 : BitVec 32 := 8#32
  let v3 : BitVec 32 := Scalar.muli arg0 c8_i32
  let v4 : BitVec 32 := Scalar.subi c86_i32 v3
  let v5 : BitVec 32 := Scalar.minsi c8_i32_1 v4
  let v6 : BitVec 32 := Scalar.subi v5 c0_i32_3
  let c1_i32 : BitVec 32 := 1#32
  let v8 : BitVec 32 := Scalar.divsi v6 c1_i32
  let v9 : BitVec 32 := Scalar.muli v8 c1_i32
  let v10 : BitVec 32 := Scalar.addi c0_i32_3 v9
  let c1_i32_5 : BitVec 32 := 1#32
  let arg12 : BitVec 32 := Scf.iv v10 c1_i32_5 k1_t8
  let v66 : BitVec 32 := Scalar.addi v65 arg12
  let c128_i32 : BitVec 32 := 128#32
  let v67 : BitVec 32 := Scalar.muli v66 c128_i32
  v67
def k1_mult5 (i : grid1.Coords) (k1_t8 : Fin (k1_t8_loop i).trips) : BitVec 32 :=
  let c0_i32_3 : BitVec 32 := 0#32
  let c8_i32_1 : BitVec 32 := 8#32
  let c86_i32 : BitVec 32 := 86#32
  let arg0 : BitVec 32 := BitVec.ofNat 32 (i 0).val
  let c8_i32 : BitVec 32 := 8#32
  let v3 : BitVec 32 := Scalar.muli arg0 c8_i32
  let v4 : BitVec 32 := Scalar.subi c86_i32 v3
  let v5 : BitVec 32 := Scalar.minsi c8_i32_1 v4
  let v6 : BitVec 32 := Scalar.subi v5 c0_i32_3
  let c1_i32 : BitVec 32 := 1#32
  let v8 : BitVec 32 := Scalar.divsi v6 c1_i32
  let v9 : BitVec 32 := Scalar.muli v8 c1_i32
  let v10 : BitVec 32 := Scalar.addi c0_i32_3 v9
  let c1_i32_5 : BitVec 32 := 1#32
  let arg12 : BitVec 32 := Scf.iv v10 c1_i32_5 k1_t8
  let c552_i32 : BitVec 32 := 552#32
  let v69 : BitVec 32 := Scalar.muli arg12 c552_i32
  v69
def k1_mult6 (i : grid1.Coords) (k1_t8 : Fin (k1_t8_loop i).trips) : BitVec 32 :=
  let c0_i32_3 : BitVec 32 := 0#32
  let c8_i32_1 : BitVec 32 := 8#32
  let c86_i32 : BitVec 32 := 86#32
  let arg0 : BitVec 32 := BitVec.ofNat 32 (i 0).val
  let c8_i32 : BitVec 32 := 8#32
  let v3 : BitVec 32 := Scalar.muli arg0 c8_i32
  let v4 : BitVec 32 := Scalar.subi c86_i32 v3
  let v5 : BitVec 32 := Scalar.minsi c8_i32_1 v4
  let v6 : BitVec 32 := Scalar.subi v5 c0_i32_3
  let c1_i32 : BitVec 32 := 1#32
  let v8 : BitVec 32 := Scalar.divsi v6 c1_i32
  let v9 : BitVec 32 := Scalar.muli v8 c1_i32
  let v10 : BitVec 32 := Scalar.addi c0_i32_3 v9
  let c1_i32_5 : BitVec 32 := 1#32
  let arg12 : BitVec 32 := Scf.iv v10 c1_i32_5 k1_t8
  let c552_i32 : BitVec 32 := 552#32
  let v69 : BitVec 32 := Scalar.muli arg12 c552_i32
  let v70 : BitVec 32 := v69
  let c544_i32 : BitVec 32 := 544#32
  let v71 : BitVec 32 := Scalar.addi v70 c544_i32
  v71
def k1_off391 (i : grid1.Coords) (k1_t8 : Fin (k1_t8_loop i).trips) : Fin 2 → Nat :=
  let c0_i32_3 : BitVec 32 := 0#32
  let c8_i32_1 : BitVec 32 := 8#32
  let c86_i32 : BitVec 32 := 86#32
  let arg0 : BitVec 32 := BitVec.ofNat 32 (i 0).val
  let c8_i32 : BitVec 32 := 8#32
  let v3 : BitVec 32 := Scalar.muli arg0 c8_i32
  let v4 : BitVec 32 := Scalar.subi c86_i32 v3
  let v5 : BitVec 32 := Scalar.minsi c8_i32_1 v4
  let v6 : BitVec 32 := Scalar.subi v5 c0_i32_3
  let c1_i32 : BitVec 32 := 1#32
  let v8 : BitVec 32 := Scalar.divsi v6 c1_i32
  let v9 : BitVec 32 := Scalar.muli v8 c1_i32
  let v10 : BitVec 32 := Scalar.addi c0_i32_3 v9
  let c1_i32_5 : BitVec 32 := 1#32
  let arg12 : BitVec 32 := Scf.iv v10 c1_i32_5 k1_t8
  let c552_i32 : BitVec 32 := 552#32
  let v69 : BitVec 32 := Scalar.muli arg12 c552_i32
  let v70 : BitVec 32 := v69
  let c0_i32_47 : BitVec 32 := 0#32
  ![v70.toNat, 0]
def k1_off392 (i : grid1.Coords) (k1_t8 : Fin (k1_t8_loop i).trips) : Fin 2 → Nat :=
  let c0_i32_48 : BitVec 32 := 0#32
  let arg0 : BitVec 32 := BitVec.ofNat 32 (i 0).val
  let c8_i32_46 : BitVec 32 := 8#32
  let v65 : BitVec 32 := Scalar.muli arg0 c8_i32_46
  let c0_i32_3 : BitVec 32 := 0#32
  let c8_i32_1 : BitVec 32 := 8#32
  let c86_i32 : BitVec 32 := 86#32
  let c8_i32 : BitVec 32 := 8#32
  let v3 : BitVec 32 := Scalar.muli arg0 c8_i32
  let v4 : BitVec 32 := Scalar.subi c86_i32 v3
  let v5 : BitVec 32 := Scalar.minsi c8_i32_1 v4
  let v6 : BitVec 32 := Scalar.subi v5 c0_i32_3
  let c1_i32 : BitVec 32 := 1#32
  let v8 : BitVec 32 := Scalar.divsi v6 c1_i32
  let v9 : BitVec 32 := Scalar.muli v8 c1_i32
  let v10 : BitVec 32 := Scalar.addi c0_i32_3 v9
  let c1_i32_5 : BitVec 32 := 1#32
  let arg12 : BitVec 32 := Scf.iv v10 c1_i32_5 k1_t8
  let v66 : BitVec 32 := Scalar.addi v65 arg12
  let c128_i32 : BitVec 32 := 128#32
  let v67 : BitVec 32 := Scalar.muli v66 c128_i32
  let v68 : BitVec 32 := v67
  ![0, v68.toNat]
def k1_off393 (i : grid1.Coords) (k1_t8 : Fin (k1_t8_loop i).trips) : Fin 2 → Nat :=
  let c0_i32_3 : BitVec 32 := 0#32
  let c8_i32_1 : BitVec 32 := 8#32
  let c86_i32 : BitVec 32 := 86#32
  let arg0 : BitVec 32 := BitVec.ofNat 32 (i 0).val
  let c8_i32 : BitVec 32 := 8#32
  let v3 : BitVec 32 := Scalar.muli arg0 c8_i32
  let v4 : BitVec 32 := Scalar.subi c86_i32 v3
  let v5 : BitVec 32 := Scalar.minsi c8_i32_1 v4
  let v6 : BitVec 32 := Scalar.subi v5 c0_i32_3
  let c1_i32 : BitVec 32 := 1#32
  let v8 : BitVec 32 := Scalar.divsi v6 c1_i32
  let v9 : BitVec 32 := Scalar.muli v8 c1_i32
  let v10 : BitVec 32 := Scalar.addi c0_i32_3 v9
  let c1_i32_5 : BitVec 32 := 1#32
  let arg12 : BitVec 32 := Scf.iv v10 c1_i32_5 k1_t8
  let c552_i32 : BitVec 32 := 552#32
  let v69 : BitVec 32 := Scalar.muli arg12 c552_i32
  let v70 : BitVec 32 := v69
  let c544_i32 : BitVec 32 := 544#32
  let v71 : BitVec 32 := Scalar.addi v70 c544_i32
  let v72 : BitVec 32 := v71
  let c0_i32_49 : BitVec 32 := 0#32
  ![v72.toNat, 0]
def k1_off394 (i : grid1.Coords) (k1_t8 : Fin (k1_t8_loop i).trips) : Fin 2 → Nat :=
  let c0_i32_50 : BitVec 32 := 0#32
  let arg0 : BitVec 32 := BitVec.ofNat 32 (i 0).val
  let c8_i32_46 : BitVec 32 := 8#32
  let v65 : BitVec 32 := Scalar.muli arg0 c8_i32_46
  let c0_i32_3 : BitVec 32 := 0#32
  let c8_i32_1 : BitVec 32 := 8#32
  let c86_i32 : BitVec 32 := 86#32
  let c8_i32 : BitVec 32 := 8#32
  let v3 : BitVec 32 := Scalar.muli arg0 c8_i32
  let v4 : BitVec 32 := Scalar.subi c86_i32 v3
  let v5 : BitVec 32 := Scalar.minsi c8_i32_1 v4
  let v6 : BitVec 32 := Scalar.subi v5 c0_i32_3
  let c1_i32 : BitVec 32 := 1#32
  let v8 : BitVec 32 := Scalar.divsi v6 c1_i32
  let v9 : BitVec 32 := Scalar.muli v8 c1_i32
  let v10 : BitVec 32 := Scalar.addi c0_i32_3 v9
  let c1_i32_5 : BitVec 32 := 1#32
  let arg12 : BitVec 32 := Scf.iv v10 c1_i32_5 k1_t8
  let v66 : BitVec 32 := Scalar.addi v65 arg12
  let c128_i32 : BitVec 32 := 128#32
  let v67 : BitVec 32 := Scalar.muli v66 c128_i32
  let v68 : BitVec 32 := v67
  ![0, v68.toNat]
def k1_off395 (i : grid1.Coords) (k1_t8 : Fin (k1_t8_loop i).trips) : Fin 3 → Nat :=
  let c0_i32_3 : BitVec 32 := 0#32
  let c8_i32_1 : BitVec 32 := 8#32
  let c86_i32 : BitVec 32 := 86#32
  let arg0 : BitVec 32 := BitVec.ofNat 32 (i 0).val
  let c8_i32 : BitVec 32 := 8#32
  let v3 : BitVec 32 := Scalar.muli arg0 c8_i32
  let v4 : BitVec 32 := Scalar.subi c86_i32 v3
  let v5 : BitVec 32 := Scalar.minsi c8_i32_1 v4
  let v6 : BitVec 32 := Scalar.subi v5 c0_i32_3
  let c1_i32 : BitVec 32 := 1#32
  let v8 : BitVec 32 := Scalar.divsi v6 c1_i32
  let v9 : BitVec 32 := Scalar.muli v8 c1_i32
  let v10 : BitVec 32 := Scalar.addi c0_i32_3 v9
  let c1_i32_5 : BitVec 32 := 1#32
  let arg12 : BitVec 32 := Scf.iv v10 c1_i32_5 k1_t8
  let c0_i32_51 : BitVec 32 := 0#32
  let c0_i32_52 : BitVec 32 := 0#32
  ![arg12.toNat, 0, 0]
def k1_off396 (i : grid1.Coords) (k1_t8 : Fin (k1_t8_loop i).trips) : Fin 2 → Nat :=
  let c0_i32_53 : BitVec 32 := 0#32
  let arg0 : BitVec 32 := BitVec.ofNat 32 (i 0).val
  let c8_i32_46 : BitVec 32 := 8#32
  let v65 : BitVec 32 := Scalar.muli arg0 c8_i32_46
  let c0_i32_3 : BitVec 32 := 0#32
  let c8_i32_1 : BitVec 32 := 8#32
  let c86_i32 : BitVec 32 := 86#32
  let c8_i32 : BitVec 32 := 8#32
  let v3 : BitVec 32 := Scalar.muli arg0 c8_i32
  let v4 : BitVec 32 := Scalar.subi c86_i32 v3
  let v5 : BitVec 32 := Scalar.minsi c8_i32_1 v4
  let v6 : BitVec 32 := Scalar.subi v5 c0_i32_3
  let c1_i32 : BitVec 32 := 1#32
  let v8 : BitVec 32 := Scalar.divsi v6 c1_i32
  let v9 : BitVec 32 := Scalar.muli v8 c1_i32
  let v10 : BitVec 32 := Scalar.addi c0_i32_3 v9
  let c1_i32_5 : BitVec 32 := 1#32
  let arg12 : BitVec 32 := Scf.iv v10 c1_i32_5 k1_t8
  let v66 : BitVec 32 := Scalar.addi v65 arg12
  let c128_i32 : BitVec 32 := 128#32
  let v67 : BitVec 32 := Scalar.muli v66 c128_i32
  let v68 : BitVec 32 := v67
  ![0, v68.toNat]
@[reducible] def k1_t9_loop (i : grid1.Coords) : Scf.Loop 32 :=
  let c0_i32_7 : BitVec 32 := 0#32
  let c8_i32_1 : BitVec 32 := 8#32
  let c86_i32 : BitVec 32 := 86#32
  let arg0 : BitVec 32 := BitVec.ofNat 32 (i 0).val
  let c8_i32 : BitVec 32 := 8#32
  let v3 : BitVec 32 := Scalar.muli arg0 c8_i32
  let v4 : BitVec 32 := Scalar.subi c86_i32 v3
  let v5 : BitVec 32 := Scalar.minsi c8_i32_1 v4
  let v11 : BitVec 32 := Scalar.subi v5 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_9 : BitVec 32 := 1#32
  ⟨c0_i32_7, v15, c1_i32_9⟩
def k1_mult7 (i : grid1.Coords) (k1_t9 : Fin (k1_t9_loop i).trips) : BitVec 32 :=
  let arg0 : BitVec 32 := BitVec.ofNat 32 (i 0).val
  let c8_i32_46 : BitVec 32 := 8#32
  let v65 : BitVec 32 := Scalar.muli arg0 c8_i32_46
  let c0_i32_7 : BitVec 32 := 0#32
  let c1_i32_9 : BitVec 32 := 1#32
  let arg12 : BitVec 32 := Scf.iv c0_i32_7 c1_i32_9 k1_t9
  let v66 : BitVec 32 := Scalar.addi v65 arg12
  let c128_i32 : BitVec 32 := 128#32
  let v67 : BitVec 32 := Scalar.muli v66 c128_i32
  v67
def k1_mult8 (i : grid1.Coords) (k1_t9 : Fin (k1_t9_loop i).trips) : BitVec 32 :=
  let c0_i32_7 : BitVec 32 := 0#32
  let c1_i32_9 : BitVec 32 := 1#32
  let arg12 : BitVec 32 := Scf.iv c0_i32_7 c1_i32_9 k1_t9
  let c552_i32 : BitVec 32 := 552#32
  let v69 : BitVec 32 := Scalar.muli arg12 c552_i32
  v69
def k1_mult9 (i : grid1.Coords) (k1_t9 : Fin (k1_t9_loop i).trips) : BitVec 32 :=
  let c0_i32_7 : BitVec 32 := 0#32
  let c1_i32_9 : BitVec 32 := 1#32
  let arg12 : BitVec 32 := Scf.iv c0_i32_7 c1_i32_9 k1_t9
  let c552_i32 : BitVec 32 := 552#32
  let v69 : BitVec 32 := Scalar.muli arg12 c552_i32
  let v70 : BitVec 32 := v69
  let c544_i32 : BitVec 32 := 544#32
  let v71 : BitVec 32 := Scalar.addi v70 c544_i32
  v71
def k1_off397 (i : grid1.Coords) (k1_t9 : Fin (k1_t9_loop i).trips) : Fin 2 → Nat :=
  let c0_i32_7 : BitVec 32 := 0#32
  let c1_i32_9 : BitVec 32 := 1#32
  let arg12 : BitVec 32 := Scf.iv c0_i32_7 c1_i32_9 k1_t9
  let c552_i32 : BitVec 32 := 552#32
  let v69 : BitVec 32 := Scalar.muli arg12 c552_i32
  let v70 : BitVec 32 := v69
  let c0_i32_47 : BitVec 32 := 0#32
  ![v70.toNat, 0]
def k1_off398 (i : grid1.Coords) (k1_t9 : Fin (k1_t9_loop i).trips) : Fin 2 → Nat :=
  let c0_i32_48 : BitVec 32 := 0#32
  let arg0 : BitVec 32 := BitVec.ofNat 32 (i 0).val
  let c8_i32_46 : BitVec 32 := 8#32
  let v65 : BitVec 32 := Scalar.muli arg0 c8_i32_46
  let c0_i32_7 : BitVec 32 := 0#32
  let c1_i32_9 : BitVec 32 := 1#32
  let arg12 : BitVec 32 := Scf.iv c0_i32_7 c1_i32_9 k1_t9
  let v66 : BitVec 32 := Scalar.addi v65 arg12
  let c128_i32 : BitVec 32 := 128#32
  let v67 : BitVec 32 := Scalar.muli v66 c128_i32
  let v68 : BitVec 32 := v67
  ![0, v68.toNat]
def k1_off399 (i : grid1.Coords) (k1_t9 : Fin (k1_t9_loop i).trips) : Fin 2 → Nat :=
  let c0_i32_7 : BitVec 32 := 0#32
  let c1_i32_9 : BitVec 32 := 1#32
  let arg12 : BitVec 32 := Scf.iv c0_i32_7 c1_i32_9 k1_t9
  let c552_i32 : BitVec 32 := 552#32
  let v69 : BitVec 32 := Scalar.muli arg12 c552_i32
  let v70 : BitVec 32 := v69
  let c544_i32 : BitVec 32 := 544#32
  let v71 : BitVec 32 := Scalar.addi v70 c544_i32
  let v72 : BitVec 32 := v71
  let c0_i32_49 : BitVec 32 := 0#32
  ![v72.toNat, 0]
def k1_off400 (i : grid1.Coords) (k1_t9 : Fin (k1_t9_loop i).trips) : Fin 2 → Nat :=
  let c0_i32_50 : BitVec 32 := 0#32
  let arg0 : BitVec 32 := BitVec.ofNat 32 (i 0).val
  let c8_i32_46 : BitVec 32 := 8#32
  let v65 : BitVec 32 := Scalar.muli arg0 c8_i32_46
  let c0_i32_7 : BitVec 32 := 0#32
  let c1_i32_9 : BitVec 32 := 1#32
  let arg12 : BitVec 32 := Scf.iv c0_i32_7 c1_i32_9 k1_t9
  let v66 : BitVec 32 := Scalar.addi v65 arg12
  let c128_i32 : BitVec 32 := 128#32
  let v67 : BitVec 32 := Scalar.muli v66 c128_i32
  let v68 : BitVec 32 := v67
  ![0, v68.toNat]
def k1_off401 (i : grid1.Coords) (k1_t9 : Fin (k1_t9_loop i).trips) : Fin 3 → Nat :=
  let c0_i32_7 : BitVec 32 := 0#32
  let c1_i32_9 : BitVec 32 := 1#32
  let arg12 : BitVec 32 := Scf.iv c0_i32_7 c1_i32_9 k1_t9
  let c0_i32_51 : BitVec 32 := 0#32
  let c0_i32_52 : BitVec 32 := 0#32
  ![arg12.toNat, 0, 0]
def k1_off402 (i : grid1.Coords) (k1_t9 : Fin (k1_t9_loop i).trips) : Fin 2 → Nat :=
  let c0_i32_53 : BitVec 32 := 0#32
  let arg0 : BitVec 32 := BitVec.ofNat 32 (i 0).val
  let c8_i32_46 : BitVec 32 := 8#32
  let v65 : BitVec 32 := Scalar.muli arg0 c8_i32_46
  let c0_i32_7 : BitVec 32 := 0#32
  let c1_i32_9 : BitVec 32 := 1#32
  let arg12 : BitVec 32 := Scf.iv c0_i32_7 c1_i32_9 k1_t9
  let v66 : BitVec 32 := Scalar.addi v65 arg12
  let c128_i32 : BitVec 32 := 128#32
  let v67 : BitVec 32 := Scalar.muli v66 c128_i32
  let v68 : BitVec 32 := v67
  ![0, v68.toNat]
@[reducible] def k1_t10_loop (i : grid1.Coords) : Scf.Loop 32 :=
  let c0_i32_7 : BitVec 32 := 0#32
  let c8_i32_1 : BitVec 32 := 8#32
  let c86_i32 : BitVec 32 := 86#32
  let arg0 : BitVec 32 := BitVec.ofNat 32 (i 0).val
  let c8_i32 : BitVec 32 := 8#32
  let v3 : BitVec 32 := Scalar.muli arg0 c8_i32
  let v4 : BitVec 32 := Scalar.subi c86_i32 v3
  let v5 : BitVec 32 := Scalar.minsi c8_i32_1 v4
  let v11 : BitVec 32 := Scalar.subi v5 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let v12 : BitVec 32 := Scalar.addi c0_i32_7 v11
  let c1_i32_10 : BitVec 32 := 1#32
  ⟨v15, v12, c1_i32_10⟩
def k1_mult10 (i : grid1.Coords) (k1_t10 : Fin (k1_t10_loop i).trips) : BitVec 32 :=
  let arg0 : BitVec 32 := BitVec.ofNat 32 (i 0).val
  let c8_i32_46 : BitVec 32 := 8#32
  let v65 : BitVec 32 := Scalar.muli arg0 c8_i32_46
  let c0_i32_7 : BitVec 32 := 0#32
  let c8_i32_1 : BitVec 32 := 8#32
  let c86_i32 : BitVec 32 := 86#32
  let c8_i32 : BitVec 32 := 8#32
  let v3 : BitVec 32 := Scalar.muli arg0 c8_i32
  let v4 : BitVec 32 := Scalar.subi c86_i32 v3
  let v5 : BitVec 32 := Scalar.minsi c8_i32_1 v4
  let v11 : BitVec 32 := Scalar.subi v5 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_10 : BitVec 32 := 1#32
  let arg12 : BitVec 32 := Scf.iv v15 c1_i32_10 k1_t10
  let v66 : BitVec 32 := Scalar.addi v65 arg12
  let c128_i32 : BitVec 32 := 128#32
  let v67 : BitVec 32 := Scalar.muli v66 c128_i32
  v67
def k1_mult11 (i : grid1.Coords) (k1_t10 : Fin (k1_t10_loop i).trips) : BitVec 32 :=
  let c0_i32_7 : BitVec 32 := 0#32
  let c8_i32_1 : BitVec 32 := 8#32
  let c86_i32 : BitVec 32 := 86#32
  let arg0 : BitVec 32 := BitVec.ofNat 32 (i 0).val
  let c8_i32 : BitVec 32 := 8#32
  let v3 : BitVec 32 := Scalar.muli arg0 c8_i32
  let v4 : BitVec 32 := Scalar.subi c86_i32 v3
  let v5 : BitVec 32 := Scalar.minsi c8_i32_1 v4
  let v11 : BitVec 32 := Scalar.subi v5 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_10 : BitVec 32 := 1#32
  let arg12 : BitVec 32 := Scf.iv v15 c1_i32_10 k1_t10
  let c552_i32 : BitVec 32 := 552#32
  let v69 : BitVec 32 := Scalar.muli arg12 c552_i32
  v69
def k1_mult12 (i : grid1.Coords) (k1_t10 : Fin (k1_t10_loop i).trips) : BitVec 32 :=
  let c0_i32_7 : BitVec 32 := 0#32
  let c8_i32_1 : BitVec 32 := 8#32
  let c86_i32 : BitVec 32 := 86#32
  let arg0 : BitVec 32 := BitVec.ofNat 32 (i 0).val
  let c8_i32 : BitVec 32 := 8#32
  let v3 : BitVec 32 := Scalar.muli arg0 c8_i32
  let v4 : BitVec 32 := Scalar.subi c86_i32 v3
  let v5 : BitVec 32 := Scalar.minsi c8_i32_1 v4
  let v11 : BitVec 32 := Scalar.subi v5 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_10 : BitVec 32 := 1#32
  let arg12 : BitVec 32 := Scf.iv v15 c1_i32_10 k1_t10
  let c552_i32 : BitVec 32 := 552#32
  let v69 : BitVec 32 := Scalar.muli arg12 c552_i32
  let v70 : BitVec 32 := v69
  let c544_i32 : BitVec 32 := 544#32
  let v71 : BitVec 32 := Scalar.addi v70 c544_i32
  v71
def k1_off403 (i : grid1.Coords) (k1_t10 : Fin (k1_t10_loop i).trips) : Fin 2 → Nat :=
  let c0_i32_7 : BitVec 32 := 0#32
  let c8_i32_1 : BitVec 32 := 8#32
  let c86_i32 : BitVec 32 := 86#32
  let arg0 : BitVec 32 := BitVec.ofNat 32 (i 0).val
  let c8_i32 : BitVec 32 := 8#32
  let v3 : BitVec 32 := Scalar.muli arg0 c8_i32
  let v4 : BitVec 32 := Scalar.subi c86_i32 v3
  let v5 : BitVec 32 := Scalar.minsi c8_i32_1 v4
  let v11 : BitVec 32 := Scalar.subi v5 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_10 : BitVec 32 := 1#32
  let arg12 : BitVec 32 := Scf.iv v15 c1_i32_10 k1_t10
  let c552_i32 : BitVec 32 := 552#32
  let v69 : BitVec 32 := Scalar.muli arg12 c552_i32
  let v70 : BitVec 32 := v69
  let c0_i32_47 : BitVec 32 := 0#32
  ![v70.toNat, 0]
def k1_off404 (i : grid1.Coords) (k1_t10 : Fin (k1_t10_loop i).trips) : Fin 2 → Nat :=
  let c0_i32_48 : BitVec 32 := 0#32
  let arg0 : BitVec 32 := BitVec.ofNat 32 (i 0).val
  let c8_i32_46 : BitVec 32 := 8#32
  let v65 : BitVec 32 := Scalar.muli arg0 c8_i32_46
  let c0_i32_7 : BitVec 32 := 0#32
  let c8_i32_1 : BitVec 32 := 8#32
  let c86_i32 : BitVec 32 := 86#32
  let c8_i32 : BitVec 32 := 8#32
  let v3 : BitVec 32 := Scalar.muli arg0 c8_i32
  let v4 : BitVec 32 := Scalar.subi c86_i32 v3
  let v5 : BitVec 32 := Scalar.minsi c8_i32_1 v4
  let v11 : BitVec 32 := Scalar.subi v5 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_10 : BitVec 32 := 1#32
  let arg12 : BitVec 32 := Scf.iv v15 c1_i32_10 k1_t10
  let v66 : BitVec 32 := Scalar.addi v65 arg12
  let c128_i32 : BitVec 32 := 128#32
  let v67 : BitVec 32 := Scalar.muli v66 c128_i32
  let v68 : BitVec 32 := v67
  ![0, v68.toNat]
def k1_off405 (i : grid1.Coords) (k1_t10 : Fin (k1_t10_loop i).trips) : Fin 2 → Nat :=
  let c0_i32_7 : BitVec 32 := 0#32
  let c8_i32_1 : BitVec 32 := 8#32
  let c86_i32 : BitVec 32 := 86#32
  let arg0 : BitVec 32 := BitVec.ofNat 32 (i 0).val
  let c8_i32 : BitVec 32 := 8#32
  let v3 : BitVec 32 := Scalar.muli arg0 c8_i32
  let v4 : BitVec 32 := Scalar.subi c86_i32 v3
  let v5 : BitVec 32 := Scalar.minsi c8_i32_1 v4
  let v11 : BitVec 32 := Scalar.subi v5 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_10 : BitVec 32 := 1#32
  let arg12 : BitVec 32 := Scf.iv v15 c1_i32_10 k1_t10
  let c552_i32 : BitVec 32 := 552#32
  let v69 : BitVec 32 := Scalar.muli arg12 c552_i32
  let v70 : BitVec 32 := v69
  let c544_i32 : BitVec 32 := 544#32
  let v71 : BitVec 32 := Scalar.addi v70 c544_i32
  let v72 : BitVec 32 := v71
  let c0_i32_49 : BitVec 32 := 0#32
  ![v72.toNat, 0]
def k1_off406 (i : grid1.Coords) (k1_t10 : Fin (k1_t10_loop i).trips) : Fin 2 → Nat :=
  let c0_i32_50 : BitVec 32 := 0#32
  let arg0 : BitVec 32 := BitVec.ofNat 32 (i 0).val
  let c8_i32_46 : BitVec 32 := 8#32
  let v65 : BitVec 32 := Scalar.muli arg0 c8_i32_46
  let c0_i32_7 : BitVec 32 := 0#32
  let c8_i32_1 : BitVec 32 := 8#32
  let c86_i32 : BitVec 32 := 86#32
  let c8_i32 : BitVec 32 := 8#32
  let v3 : BitVec 32 := Scalar.muli arg0 c8_i32
  let v4 : BitVec 32 := Scalar.subi c86_i32 v3
  let v5 : BitVec 32 := Scalar.minsi c8_i32_1 v4
  let v11 : BitVec 32 := Scalar.subi v5 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_10 : BitVec 32 := 1#32
  let arg12 : BitVec 32 := Scf.iv v15 c1_i32_10 k1_t10
  let v66 : BitVec 32 := Scalar.addi v65 arg12
  let c128_i32 : BitVec 32 := 128#32
  let v67 : BitVec 32 := Scalar.muli v66 c128_i32
  let v68 : BitVec 32 := v67
  ![0, v68.toNat]
def k1_off407 (i : grid1.Coords) (k1_t10 : Fin (k1_t10_loop i).trips) : Fin 3 → Nat :=
  let c0_i32_7 : BitVec 32 := 0#32
  let c8_i32_1 : BitVec 32 := 8#32
  let c86_i32 : BitVec 32 := 86#32
  let arg0 : BitVec 32 := BitVec.ofNat 32 (i 0).val
  let c8_i32 : BitVec 32 := 8#32
  let v3 : BitVec 32 := Scalar.muli arg0 c8_i32
  let v4 : BitVec 32 := Scalar.subi c86_i32 v3
  let v5 : BitVec 32 := Scalar.minsi c8_i32_1 v4
  let v11 : BitVec 32 := Scalar.subi v5 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_10 : BitVec 32 := 1#32
  let arg12 : BitVec 32 := Scf.iv v15 c1_i32_10 k1_t10
  let c0_i32_51 : BitVec 32 := 0#32
  let c0_i32_52 : BitVec 32 := 0#32
  ![arg12.toNat, 0, 0]
def k1_off408 (i : grid1.Coords) (k1_t10 : Fin (k1_t10_loop i).trips) : Fin 2 → Nat :=
  let c0_i32_53 : BitVec 32 := 0#32
  let arg0 : BitVec 32 := BitVec.ofNat 32 (i 0).val
  let c8_i32_46 : BitVec 32 := 8#32
  let v65 : BitVec 32 := Scalar.muli arg0 c8_i32_46
  let c0_i32_7 : BitVec 32 := 0#32
  let c8_i32_1 : BitVec 32 := 8#32
  let c86_i32 : BitVec 32 := 86#32
  let c8_i32 : BitVec 32 := 8#32
  let v3 : BitVec 32 := Scalar.muli arg0 c8_i32
  let v4 : BitVec 32 := Scalar.subi c86_i32 v3
  let v5 : BitVec 32 := Scalar.minsi c8_i32_1 v4
  let v11 : BitVec 32 := Scalar.subi v5 c0_i32_7
  let c1_i32_8 : BitVec 32 := 1#32
  let v13 : BitVec 32 := Scalar.divsi v11 c1_i32_8
  let v14 : BitVec 32 := Scalar.muli v13 c1_i32_8
  let v15 : BitVec 32 := Scalar.addi c0_i32_7 v14
  let c1_i32_10 : BitVec 32 := 1#32
  let arg12 : BitVec 32 := Scf.iv v15 c1_i32_10 k1_t10
  let v66 : BitVec 32 := Scalar.addi v65 arg12
  let c128_i32 : BitVec 32 := 128#32
  let v67 : BitVec 32 := Scalar.muli v66 c128_i32
  let v68 : BitVec 32 := v67
  ![0, v68.toNat]
@[reducible] def k1_t11_loop : Scf.Loop 32 :=
  let c0_i32_43 : BitVec 32 := 0#32
  let c256_i32 : BitVec 32 := 256#32
  let v64 : BitVec 32 := Scalar.addi c0_i32_43 c256_i32
  let c1_i32_44 : BitVec 32 := 1#32
  ⟨c0_i32_43, v64, c1_i32_44⟩
def k1_mult13 (k1_t11 : Fin k1_t11_loop.trips) : BitVec 32 :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  v65
def k1_off409 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c0_i32_46 : BitVec 32 := 0#32
  let v67 : BitVec 32 := Scalar.addi v66 c0_i32_46
  let v68 : Index := Scalar.indexCast v67
  ![v68.toNat]
def k1_off410 (v69 : BitVec 32) : Fin 2 → Nat :=
  let c1023_i32 : BitVec 32 := 1023#32
  let v70 : BitVec 32 := Scalar.andi v69 c1023_i32
  let v80 : Index := Scalar.indexCast v70
  let c0_49 : Index := 0#32
  ![v80.toNat, 0]

def k1_off411 (v69 : BitVec 32) : Fin 2 → Nat :=
  let c1023_i32 : BitVec 32 := 1023#32
  let v70 : BitVec 32 := Scalar.andi v69 c1023_i32
  let c10_i32 : BitVec 32 := 10#32
  let v71 : BitVec 32 := Scalar.shrsi v69 c10_i32
  let c1_i32_47 : BitVec 32 := 1#32
  let v72 : BitVec 32 := Scalar.andi v71 c1_i32_47
  let v73 : BitVec 32 := Scalar.addi v70 v72
  let v82 : Index := Scalar.indexCast v73
  let c0_50 : Index := 0#32
  ![v82.toNat, 0]
def k1_mult14 (v69 : BitVec 32) : BitVec 32 :=
  let c20_i32 : BitVec 32 := 20#32
  let v78 : BitVec 32 := Scalar.shrsi v69 c20_i32
  let c127_i32 : BitVec 32 := 127#32
  let v79 : BitVec 32 := Scalar.andi v78 c127_i32
  let c8_i32_56 : BitVec 32 := 8#32
  let v98 : BitVec 32 := Scalar.muli v79 c8_i32_56
  v98
def k1_off412 (v69 : BitVec 32) : Fin 2 → Nat :=
  let c20_i32 : BitVec 32 := 20#32
  let v78 : BitVec 32 := Scalar.shrsi v69 c20_i32
  let c127_i32 : BitVec 32 := 127#32
  let v79 : BitVec 32 := Scalar.andi v78 c127_i32
  let c8_i32_56 : BitVec 32 := 8#32
  let v98 : BitVec 32 := Scalar.muli v79 c8_i32_56
  let v99 : BitVec 32 := v98
  let v100 : Index := Scalar.indexCast v99
  let c0_57 : Index := 0#32
  ![v100.toNat, 0]

def k1_chk193 (v69 : BitVec 32) : Prop :=
  (∀ a, S8x128.size a = 0 ∨ (k1_off410 v69) a + (![552, 1] : Fin 2 → Nat) a * (S8x128.size a - 1) < S4416x128.size a) ∧
  (∀ a, S8x128.size a = 0 ∨ (k1_off411 v69) a + (![552, 1] : Fin 2 → Nat) a * (S8x128.size a - 1) < S4416x128.size a) ∧
  (8 ∣ (k1_mult14 v69).toNat) ∧
  (∀ a, (k1_off412 v69) a + S8x128.size a ≤ S1024x128.size a)
theorem k1_off410_inb : ∀ (v69 : BitVec 32) (k1_hw193 : k1_chk193 v69), ∀ a, S8x128.size a = 0 ∨ (k1_off410 v69) a + (![552, 1] : Fin 2 → Nat) a * (S8x128.size a - 1) < S4416x128.size a := fun v69 k1_hw193 => k1_hw193.1
theorem k1_off411_inb : ∀ (v69 : BitVec 32) (k1_hw193 : k1_chk193 v69), ∀ a, S8x128.size a = 0 ∨ (k1_off411 v69) a + (![552, 1] : Fin 2 → Nat) a * (S8x128.size a - 1) < S4416x128.size a := fun v69 k1_hw193 => k1_hw193.2.1
theorem k1_mult14_dvd : ∀ (v69 : BitVec 32) (k1_hw193 : k1_chk193 v69), 8 ∣ (k1_mult14 v69).toNat := fun v69 k1_hw193 => k1_hw193.2.2.1
theorem k1_off412_inb : ∀ (v69 : BitVec 32) (k1_hw193 : k1_chk193 v69), ∀ a, (k1_off412 v69) a + S8x128.size a ≤ S1024x128.size a := fun v69 k1_hw193 => k1_hw193.2.2.2

def k1_off413 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c1_i32_60 : BitVec 32 := 1#32
  let v109 : BitVec 32 := Scalar.addi v66 c1_i32_60
  let v110 : Index := Scalar.indexCast v109
  ![v110.toNat]
def k1_off414 (v111 : BitVec 32) : Fin 2 → Nat :=
  let c1023_i32_61 : BitVec 32 := 1023#32
  let v112 : BitVec 32 := Scalar.andi v111 c1023_i32_61
  let v122 : Index := Scalar.indexCast v112
  let c0_70 : Index := 0#32
  ![v122.toNat, 0]

def k1_off415 (v111 : BitVec 32) : Fin 2 → Nat :=
  let c1023_i32_61 : BitVec 32 := 1023#32
  let v112 : BitVec 32 := Scalar.andi v111 c1023_i32_61
  let c10_i32_62 : BitVec 32 := 10#32
  let v113 : BitVec 32 := Scalar.shrsi v111 c10_i32_62
  let c1_i32_63 : BitVec 32 := 1#32
  let v114 : BitVec 32 := Scalar.andi v113 c1_i32_63
  let v115 : BitVec 32 := Scalar.addi v112 v114
  let v124 : Index := Scalar.indexCast v115
  let c0_71 : Index := 0#32
  ![v124.toNat, 0]
def k1_mult15 (v111 : BitVec 32) : BitVec 32 :=
  let c20_i32_68 : BitVec 32 := 20#32
  let v120 : BitVec 32 := Scalar.shrsi v111 c20_i32_68
  let c127_i32_69 : BitVec 32 := 127#32
  let v121 : BitVec 32 := Scalar.andi v120 c127_i32_69
  let c8_i32_77 : BitVec 32 := 8#32
  let v140 : BitVec 32 := Scalar.muli v121 c8_i32_77
  v140
def k1_off416 (v111 : BitVec 32) : Fin 2 → Nat :=
  let c20_i32_68 : BitVec 32 := 20#32
  let v120 : BitVec 32 := Scalar.shrsi v111 c20_i32_68
  let c127_i32_69 : BitVec 32 := 127#32
  let v121 : BitVec 32 := Scalar.andi v120 c127_i32_69
  let c8_i32_77 : BitVec 32 := 8#32
  let v140 : BitVec 32 := Scalar.muli v121 c8_i32_77
  let v141 : BitVec 32 := v140
  let v142 : Index := Scalar.indexCast v141
  let c0_78 : Index := 0#32
  ![v142.toNat, 0]

def k1_chk194 (v111 : BitVec 32) : Prop :=
  (∀ a, S8x128.size a = 0 ∨ (k1_off414 v111) a + (![552, 1] : Fin 2 → Nat) a * (S8x128.size a - 1) < S4416x128.size a) ∧
  (∀ a, S8x128.size a = 0 ∨ (k1_off415 v111) a + (![552, 1] : Fin 2 → Nat) a * (S8x128.size a - 1) < S4416x128.size a) ∧
  (8 ∣ (k1_mult15 v111).toNat) ∧
  (∀ a, (k1_off416 v111) a + S8x128.size a ≤ S1024x128.size a)
theorem k1_off414_inb : ∀ (v111 : BitVec 32) (k1_hw194 : k1_chk194 v111), ∀ a, S8x128.size a = 0 ∨ (k1_off414 v111) a + (![552, 1] : Fin 2 → Nat) a * (S8x128.size a - 1) < S4416x128.size a := fun v111 k1_hw194 => k1_hw194.1
theorem k1_off415_inb : ∀ (v111 : BitVec 32) (k1_hw194 : k1_chk194 v111), ∀ a, S8x128.size a = 0 ∨ (k1_off415 v111) a + (![552, 1] : Fin 2 → Nat) a * (S8x128.size a - 1) < S4416x128.size a := fun v111 k1_hw194 => k1_hw194.2.1
theorem k1_mult15_dvd : ∀ (v111 : BitVec 32) (k1_hw194 : k1_chk194 v111), 8 ∣ (k1_mult15 v111).toNat := fun v111 k1_hw194 => k1_hw194.2.2.1
theorem k1_off416_inb : ∀ (v111 : BitVec 32) (k1_hw194 : k1_chk194 v111), ∀ a, (k1_off416 v111) a + S8x128.size a ≤ S1024x128.size a := fun v111 k1_hw194 => k1_hw194.2.2.2

def k1_off417 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c2_i32 : BitVec 32 := 2#32
  let v151 : BitVec 32 := Scalar.addi v66 c2_i32
  let v152 : Index := Scalar.indexCast v151
  ![v152.toNat]
def k1_off418 (v153 : BitVec 32) : Fin 2 → Nat :=
  let c1023_i32_81 : BitVec 32 := 1023#32
  let v154 : BitVec 32 := Scalar.andi v153 c1023_i32_81
  let v164 : Index := Scalar.indexCast v154
  let c0_90 : Index := 0#32
  ![v164.toNat, 0]

def k1_off419 (v153 : BitVec 32) : Fin 2 → Nat :=
  let c1023_i32_81 : BitVec 32 := 1023#32
  let v154 : BitVec 32 := Scalar.andi v153 c1023_i32_81
  let c10_i32_82 : BitVec 32 := 10#32
  let v155 : BitVec 32 := Scalar.shrsi v153 c10_i32_82
  let c1_i32_83 : BitVec 32 := 1#32
  let v156 : BitVec 32 := Scalar.andi v155 c1_i32_83
  let v157 : BitVec 32 := Scalar.addi v154 v156
  let v166 : Index := Scalar.indexCast v157
  let c0_91 : Index := 0#32
  ![v166.toNat, 0]
def k1_mult16 (v153 : BitVec 32) : BitVec 32 :=
  let c20_i32_88 : BitVec 32 := 20#32
  let v162 : BitVec 32 := Scalar.shrsi v153 c20_i32_88
  let c127_i32_89 : BitVec 32 := 127#32
  let v163 : BitVec 32 := Scalar.andi v162 c127_i32_89
  let c8_i32_97 : BitVec 32 := 8#32
  let v182 : BitVec 32 := Scalar.muli v163 c8_i32_97
  v182
def k1_off420 (v153 : BitVec 32) : Fin 2 → Nat :=
  let c20_i32_88 : BitVec 32 := 20#32
  let v162 : BitVec 32 := Scalar.shrsi v153 c20_i32_88
  let c127_i32_89 : BitVec 32 := 127#32
  let v163 : BitVec 32 := Scalar.andi v162 c127_i32_89
  let c8_i32_97 : BitVec 32 := 8#32
  let v182 : BitVec 32 := Scalar.muli v163 c8_i32_97
  let v183 : BitVec 32 := v182
  let v184 : Index := Scalar.indexCast v183
  let c0_98 : Index := 0#32
  ![v184.toNat, 0]

def k1_chk195 (v153 : BitVec 32) : Prop :=
  (∀ a, S8x128.size a = 0 ∨ (k1_off418 v153) a + (![552, 1] : Fin 2 → Nat) a * (S8x128.size a - 1) < S4416x128.size a) ∧
  (∀ a, S8x128.size a = 0 ∨ (k1_off419 v153) a + (![552, 1] : Fin 2 → Nat) a * (S8x128.size a - 1) < S4416x128.size a) ∧
  (8 ∣ (k1_mult16 v153).toNat) ∧
  (∀ a, (k1_off420 v153) a + S8x128.size a ≤ S1024x128.size a)
theorem k1_off418_inb : ∀ (v153 : BitVec 32) (k1_hw195 : k1_chk195 v153), ∀ a, S8x128.size a = 0 ∨ (k1_off418 v153) a + (![552, 1] : Fin 2 → Nat) a * (S8x128.size a - 1) < S4416x128.size a := fun v153 k1_hw195 => k1_hw195.1
theorem k1_off419_inb : ∀ (v153 : BitVec 32) (k1_hw195 : k1_chk195 v153), ∀ a, S8x128.size a = 0 ∨ (k1_off419 v153) a + (![552, 1] : Fin 2 → Nat) a * (S8x128.size a - 1) < S4416x128.size a := fun v153 k1_hw195 => k1_hw195.2.1
theorem k1_mult16_dvd : ∀ (v153 : BitVec 32) (k1_hw195 : k1_chk195 v153), 8 ∣ (k1_mult16 v153).toNat := fun v153 k1_hw195 => k1_hw195.2.2.1
theorem k1_off420_inb : ∀ (v153 : BitVec 32) (k1_hw195 : k1_chk195 v153), ∀ a, (k1_off420 v153) a + S8x128.size a ≤ S1024x128.size a := fun v153 k1_hw195 => k1_hw195.2.2.2

def k1_off421 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c3_i32 : BitVec 32 := 3#32
  let v193 : BitVec 32 := Scalar.addi v66 c3_i32
  let v194 : Index := Scalar.indexCast v193
  ![v194.toNat]
def k1_off422 (v195 : BitVec 32) : Fin 2 → Nat :=
  let c1023_i32_101 : BitVec 32 := 1023#32
  let v196 : BitVec 32 := Scalar.andi v195 c1023_i32_101
  let v206 : Index := Scalar.indexCast v196
  let c0_110 : Index := 0#32
  ![v206.toNat, 0]

def k1_off423 (v195 : BitVec 32) : Fin 2 → Nat :=
  let c1023_i32_101 : BitVec 32 := 1023#32
  let v196 : BitVec 32 := Scalar.andi v195 c1023_i32_101
  let c10_i32_102 : BitVec 32 := 10#32
  let v197 : BitVec 32 := Scalar.shrsi v195 c10_i32_102
  let c1_i32_103 : BitVec 32 := 1#32
  let v198 : BitVec 32 := Scalar.andi v197 c1_i32_103
  let v199 : BitVec 32 := Scalar.addi v196 v198
  let v208 : Index := Scalar.indexCast v199
  let c0_111 : Index := 0#32
  ![v208.toNat, 0]
def k1_mult17 (v195 : BitVec 32) : BitVec 32 :=
  let c20_i32_108 : BitVec 32 := 20#32
  let v204 : BitVec 32 := Scalar.shrsi v195 c20_i32_108
  let c127_i32_109 : BitVec 32 := 127#32
  let v205 : BitVec 32 := Scalar.andi v204 c127_i32_109
  let c8_i32_117 : BitVec 32 := 8#32
  let v224 : BitVec 32 := Scalar.muli v205 c8_i32_117
  v224
def k1_off424 (v195 : BitVec 32) : Fin 2 → Nat :=
  let c20_i32_108 : BitVec 32 := 20#32
  let v204 : BitVec 32 := Scalar.shrsi v195 c20_i32_108
  let c127_i32_109 : BitVec 32 := 127#32
  let v205 : BitVec 32 := Scalar.andi v204 c127_i32_109
  let c8_i32_117 : BitVec 32 := 8#32
  let v224 : BitVec 32 := Scalar.muli v205 c8_i32_117
  let v225 : BitVec 32 := v224
  let v226 : Index := Scalar.indexCast v225
  let c0_118 : Index := 0#32
  ![v226.toNat, 0]

def k1_chk196 (v195 : BitVec 32) : Prop :=
  (∀ a, S8x128.size a = 0 ∨ (k1_off422 v195) a + (![552, 1] : Fin 2 → Nat) a * (S8x128.size a - 1) < S4416x128.size a) ∧
  (∀ a, S8x128.size a = 0 ∨ (k1_off423 v195) a + (![552, 1] : Fin 2 → Nat) a * (S8x128.size a - 1) < S4416x128.size a) ∧
  (8 ∣ (k1_mult17 v195).toNat) ∧
  (∀ a, (k1_off424 v195) a + S8x128.size a ≤ S1024x128.size a)
theorem k1_off422_inb : ∀ (v195 : BitVec 32) (k1_hw196 : k1_chk196 v195), ∀ a, S8x128.size a = 0 ∨ (k1_off422 v195) a + (![552, 1] : Fin 2 → Nat) a * (S8x128.size a - 1) < S4416x128.size a := fun v195 k1_hw196 => k1_hw196.1
theorem k1_off423_inb : ∀ (v195 : BitVec 32) (k1_hw196 : k1_chk196 v195), ∀ a, S8x128.size a = 0 ∨ (k1_off423 v195) a + (![552, 1] : Fin 2 → Nat) a * (S8x128.size a - 1) < S4416x128.size a := fun v195 k1_hw196 => k1_hw196.2.1
theorem k1_mult17_dvd : ∀ (v195 : BitVec 32) (k1_hw196 : k1_chk196 v195), 8 ∣ (k1_mult17 v195).toNat := fun v195 k1_hw196 => k1_hw196.2.2.1
theorem k1_off424_inb : ∀ (v195 : BitVec 32) (k1_hw196 : k1_chk196 v195), ∀ a, (k1_off424 v195) a + S8x128.size a ≤ S1024x128.size a := fun v195 k1_hw196 => k1_hw196.2.2.2

def k1_off425 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c4_i32 : BitVec 32 := 4#32
  let v235 : BitVec 32 := Scalar.addi v66 c4_i32
  let v236 : Index := Scalar.indexCast v235
  ![v236.toNat]
def k1_off426 (v237 : BitVec 32) : Fin 2 → Nat :=
  let c1023_i32_121 : BitVec 32 := 1023#32
  let v238 : BitVec 32 := Scalar.andi v237 c1023_i32_121
  let v248 : Index := Scalar.indexCast v238
  let c0_130 : Index := 0#32
  ![v248.toNat, 0]

def k1_off427 (v237 : BitVec 32) : Fin 2 → Nat :=
  let c1023_i32_121 : BitVec 32 := 1023#32
  let v238 : BitVec 32 := Scalar.andi v237 c1023_i32_121
  let c10_i32_122 : BitVec 32 := 10#32
  let v239 : BitVec 32 := Scalar.shrsi v237 c10_i32_122
  let c1_i32_123 : BitVec 32 := 1#32
  let v240 : BitVec 32 := Scalar.andi v239 c1_i32_123
  let v241 : BitVec 32 := Scalar.addi v238 v240
  let v250 : Index := Scalar.indexCast v241
  let c0_131 : Index := 0#32
  ![v250.toNat, 0]
def k1_mult18 (v237 : BitVec 32) : BitVec 32 :=
  let c20_i32_128 : BitVec 32 := 20#32
  let v246 : BitVec 32 := Scalar.shrsi v237 c20_i32_128
  let c127_i32_129 : BitVec 32 := 127#32
  let v247 : BitVec 32 := Scalar.andi v246 c127_i32_129
  let c8_i32_137 : BitVec 32 := 8#32
  let v266 : BitVec 32 := Scalar.muli v247 c8_i32_137
  v266
def k1_off428 (v237 : BitVec 32) : Fin 2 → Nat :=
  let c20_i32_128 : BitVec 32 := 20#32
  let v246 : BitVec 32 := Scalar.shrsi v237 c20_i32_128
  let c127_i32_129 : BitVec 32 := 127#32
  let v247 : BitVec 32 := Scalar.andi v246 c127_i32_129
  let c8_i32_137 : BitVec 32 := 8#32
  let v266 : BitVec 32 := Scalar.muli v247 c8_i32_137
  let v267 : BitVec 32 := v266
  let v268 : Index := Scalar.indexCast v267
  let c0_138 : Index := 0#32
  ![v268.toNat, 0]

def k1_chk197 (v237 : BitVec 32) : Prop :=
  (∀ a, S8x128.size a = 0 ∨ (k1_off426 v237) a + (![552, 1] : Fin 2 → Nat) a * (S8x128.size a - 1) < S4416x128.size a) ∧
  (∀ a, S8x128.size a = 0 ∨ (k1_off427 v237) a + (![552, 1] : Fin 2 → Nat) a * (S8x128.size a - 1) < S4416x128.size a) ∧
  (8 ∣ (k1_mult18 v237).toNat) ∧
  (∀ a, (k1_off428 v237) a + S8x128.size a ≤ S1024x128.size a)
theorem k1_off426_inb : ∀ (v237 : BitVec 32) (k1_hw197 : k1_chk197 v237), ∀ a, S8x128.size a = 0 ∨ (k1_off426 v237) a + (![552, 1] : Fin 2 → Nat) a * (S8x128.size a - 1) < S4416x128.size a := fun v237 k1_hw197 => k1_hw197.1
theorem k1_off427_inb : ∀ (v237 : BitVec 32) (k1_hw197 : k1_chk197 v237), ∀ a, S8x128.size a = 0 ∨ (k1_off427 v237) a + (![552, 1] : Fin 2 → Nat) a * (S8x128.size a - 1) < S4416x128.size a := fun v237 k1_hw197 => k1_hw197.2.1
theorem k1_mult18_dvd : ∀ (v237 : BitVec 32) (k1_hw197 : k1_chk197 v237), 8 ∣ (k1_mult18 v237).toNat := fun v237 k1_hw197 => k1_hw197.2.2.1
theorem k1_off428_inb : ∀ (v237 : BitVec 32) (k1_hw197 : k1_chk197 v237), ∀ a, (k1_off428 v237) a + S8x128.size a ≤ S1024x128.size a := fun v237 k1_hw197 => k1_hw197.2.2.2

def k1_off429 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c5_i32 : BitVec 32 := 5#32
  let v277 : BitVec 32 := Scalar.addi v66 c5_i32
  let v278 : Index := Scalar.indexCast v277
  ![v278.toNat]
def k1_off430 (v279 : BitVec 32) : Fin 2 → Nat :=
  let c1023_i32_141 : BitVec 32 := 1023#32
  let v280 : BitVec 32 := Scalar.andi v279 c1023_i32_141
  let v290 : Index := Scalar.indexCast v280
  let c0_150 : Index := 0#32
  ![v290.toNat, 0]

def k1_off431 (v279 : BitVec 32) : Fin 2 → Nat :=
  let c1023_i32_141 : BitVec 32 := 1023#32
  let v280 : BitVec 32 := Scalar.andi v279 c1023_i32_141
  let c10_i32_142 : BitVec 32 := 10#32
  let v281 : BitVec 32 := Scalar.shrsi v279 c10_i32_142
  let c1_i32_143 : BitVec 32 := 1#32
  let v282 : BitVec 32 := Scalar.andi v281 c1_i32_143
  let v283 : BitVec 32 := Scalar.addi v280 v282
  let v292 : Index := Scalar.indexCast v283
  let c0_151 : Index := 0#32
  ![v292.toNat, 0]
def k1_mult19 (v279 : BitVec 32) : BitVec 32 :=
  let c20_i32_148 : BitVec 32 := 20#32
  let v288 : BitVec 32 := Scalar.shrsi v279 c20_i32_148
  let c127_i32_149 : BitVec 32 := 127#32
  let v289 : BitVec 32 := Scalar.andi v288 c127_i32_149
  let c8_i32_157 : BitVec 32 := 8#32
  let v308 : BitVec 32 := Scalar.muli v289 c8_i32_157
  v308
def k1_off432 (v279 : BitVec 32) : Fin 2 → Nat :=
  let c20_i32_148 : BitVec 32 := 20#32
  let v288 : BitVec 32 := Scalar.shrsi v279 c20_i32_148
  let c127_i32_149 : BitVec 32 := 127#32
  let v289 : BitVec 32 := Scalar.andi v288 c127_i32_149
  let c8_i32_157 : BitVec 32 := 8#32
  let v308 : BitVec 32 := Scalar.muli v289 c8_i32_157
  let v309 : BitVec 32 := v308
  let v310 : Index := Scalar.indexCast v309
  let c0_158 : Index := 0#32
  ![v310.toNat, 0]

def k1_chk198 (v279 : BitVec 32) : Prop :=
  (∀ a, S8x128.size a = 0 ∨ (k1_off430 v279) a + (![552, 1] : Fin 2 → Nat) a * (S8x128.size a - 1) < S4416x128.size a) ∧
  (∀ a, S8x128.size a = 0 ∨ (k1_off431 v279) a + (![552, 1] : Fin 2 → Nat) a * (S8x128.size a - 1) < S4416x128.size a) ∧
  (8 ∣ (k1_mult19 v279).toNat) ∧
  (∀ a, (k1_off432 v279) a + S8x128.size a ≤ S1024x128.size a)
theorem k1_off430_inb : ∀ (v279 : BitVec 32) (k1_hw198 : k1_chk198 v279), ∀ a, S8x128.size a = 0 ∨ (k1_off430 v279) a + (![552, 1] : Fin 2 → Nat) a * (S8x128.size a - 1) < S4416x128.size a := fun v279 k1_hw198 => k1_hw198.1
theorem k1_off431_inb : ∀ (v279 : BitVec 32) (k1_hw198 : k1_chk198 v279), ∀ a, S8x128.size a = 0 ∨ (k1_off431 v279) a + (![552, 1] : Fin 2 → Nat) a * (S8x128.size a - 1) < S4416x128.size a := fun v279 k1_hw198 => k1_hw198.2.1
theorem k1_mult19_dvd : ∀ (v279 : BitVec 32) (k1_hw198 : k1_chk198 v279), 8 ∣ (k1_mult19 v279).toNat := fun v279 k1_hw198 => k1_hw198.2.2.1
theorem k1_off432_inb : ∀ (v279 : BitVec 32) (k1_hw198 : k1_chk198 v279), ∀ a, (k1_off432 v279) a + S8x128.size a ≤ S1024x128.size a := fun v279 k1_hw198 => k1_hw198.2.2.2

def k1_off433 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c6_i32 : BitVec 32 := 6#32
  let v319 : BitVec 32 := Scalar.addi v66 c6_i32
  let v320 : Index := Scalar.indexCast v319
  ![v320.toNat]
def k1_off434 (v321 : BitVec 32) : Fin 2 → Nat :=
  let c1023_i32_161 : BitVec 32 := 1023#32
  let v322 : BitVec 32 := Scalar.andi v321 c1023_i32_161
  let v332 : Index := Scalar.indexCast v322
  let c0_170 : Index := 0#32
  ![v332.toNat, 0]

def k1_off435 (v321 : BitVec 32) : Fin 2 → Nat :=
  let c1023_i32_161 : BitVec 32 := 1023#32
  let v322 : BitVec 32 := Scalar.andi v321 c1023_i32_161
  let c10_i32_162 : BitVec 32 := 10#32
  let v323 : BitVec 32 := Scalar.shrsi v321 c10_i32_162
  let c1_i32_163 : BitVec 32 := 1#32
  let v324 : BitVec 32 := Scalar.andi v323 c1_i32_163
  let v325 : BitVec 32 := Scalar.addi v322 v324
  let v334 : Index := Scalar.indexCast v325
  let c0_171 : Index := 0#32
  ![v334.toNat, 0]
def k1_mult20 (v321 : BitVec 32) : BitVec 32 :=
  let c20_i32_168 : BitVec 32 := 20#32
  let v330 : BitVec 32 := Scalar.shrsi v321 c20_i32_168
  let c127_i32_169 : BitVec 32 := 127#32
  let v331 : BitVec 32 := Scalar.andi v330 c127_i32_169
  let c8_i32_177 : BitVec 32 := 8#32
  let v350 : BitVec 32 := Scalar.muli v331 c8_i32_177
  v350
def k1_off436 (v321 : BitVec 32) : Fin 2 → Nat :=
  let c20_i32_168 : BitVec 32 := 20#32
  let v330 : BitVec 32 := Scalar.shrsi v321 c20_i32_168
  let c127_i32_169 : BitVec 32 := 127#32
  let v331 : BitVec 32 := Scalar.andi v330 c127_i32_169
  let c8_i32_177 : BitVec 32 := 8#32
  let v350 : BitVec 32 := Scalar.muli v331 c8_i32_177
  let v351 : BitVec 32 := v350
  let v352 : Index := Scalar.indexCast v351
  let c0_178 : Index := 0#32
  ![v352.toNat, 0]

def k1_chk199 (v321 : BitVec 32) : Prop :=
  (∀ a, S8x128.size a = 0 ∨ (k1_off434 v321) a + (![552, 1] : Fin 2 → Nat) a * (S8x128.size a - 1) < S4416x128.size a) ∧
  (∀ a, S8x128.size a = 0 ∨ (k1_off435 v321) a + (![552, 1] : Fin 2 → Nat) a * (S8x128.size a - 1) < S4416x128.size a) ∧
  (8 ∣ (k1_mult20 v321).toNat) ∧
  (∀ a, (k1_off436 v321) a + S8x128.size a ≤ S1024x128.size a)
theorem k1_off434_inb : ∀ (v321 : BitVec 32) (k1_hw199 : k1_chk199 v321), ∀ a, S8x128.size a = 0 ∨ (k1_off434 v321) a + (![552, 1] : Fin 2 → Nat) a * (S8x128.size a - 1) < S4416x128.size a := fun v321 k1_hw199 => k1_hw199.1
theorem k1_off435_inb : ∀ (v321 : BitVec 32) (k1_hw199 : k1_chk199 v321), ∀ a, S8x128.size a = 0 ∨ (k1_off435 v321) a + (![552, 1] : Fin 2 → Nat) a * (S8x128.size a - 1) < S4416x128.size a := fun v321 k1_hw199 => k1_hw199.2.1
theorem k1_mult20_dvd : ∀ (v321 : BitVec 32) (k1_hw199 : k1_chk199 v321), 8 ∣ (k1_mult20 v321).toNat := fun v321 k1_hw199 => k1_hw199.2.2.1
theorem k1_off436_inb : ∀ (v321 : BitVec 32) (k1_hw199 : k1_chk199 v321), ∀ a, (k1_off436 v321) a + S8x128.size a ≤ S1024x128.size a := fun v321 k1_hw199 => k1_hw199.2.2.2

def k1_off437 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c7_i32 : BitVec 32 := 7#32
  let v361 : BitVec 32 := Scalar.addi v66 c7_i32
  let v362 : Index := Scalar.indexCast v361
  ![v362.toNat]
def k1_off438 (v363 : BitVec 32) : Fin 2 → Nat :=
  let c1023_i32_181 : BitVec 32 := 1023#32
  let v364 : BitVec 32 := Scalar.andi v363 c1023_i32_181
  let v374 : Index := Scalar.indexCast v364
  let c0_190 : Index := 0#32
  ![v374.toNat, 0]

def k1_off439 (v363 : BitVec 32) : Fin 2 → Nat :=
  let c1023_i32_181 : BitVec 32 := 1023#32
  let v364 : BitVec 32 := Scalar.andi v363 c1023_i32_181
  let c10_i32_182 : BitVec 32 := 10#32
  let v365 : BitVec 32 := Scalar.shrsi v363 c10_i32_182
  let c1_i32_183 : BitVec 32 := 1#32
  let v366 : BitVec 32 := Scalar.andi v365 c1_i32_183
  let v367 : BitVec 32 := Scalar.addi v364 v366
  let v376 : Index := Scalar.indexCast v367
  let c0_191 : Index := 0#32
  ![v376.toNat, 0]
def k1_mult21 (v363 : BitVec 32) : BitVec 32 :=
  let c20_i32_188 : BitVec 32 := 20#32
  let v372 : BitVec 32 := Scalar.shrsi v363 c20_i32_188
  let c127_i32_189 : BitVec 32 := 127#32
  let v373 : BitVec 32 := Scalar.andi v372 c127_i32_189
  let c8_i32_197 : BitVec 32 := 8#32
  let v392 : BitVec 32 := Scalar.muli v373 c8_i32_197
  v392
def k1_off440 (v363 : BitVec 32) : Fin 2 → Nat :=
  let c20_i32_188 : BitVec 32 := 20#32
  let v372 : BitVec 32 := Scalar.shrsi v363 c20_i32_188
  let c127_i32_189 : BitVec 32 := 127#32
  let v373 : BitVec 32 := Scalar.andi v372 c127_i32_189
  let c8_i32_197 : BitVec 32 := 8#32
  let v392 : BitVec 32 := Scalar.muli v373 c8_i32_197
  let v393 : BitVec 32 := v392
  let v394 : Index := Scalar.indexCast v393
  let c0_198 : Index := 0#32
  ![v394.toNat, 0]

def k1_chk200 (v363 : BitVec 32) : Prop :=
  (∀ a, S8x128.size a = 0 ∨ (k1_off438 v363) a + (![552, 1] : Fin 2 → Nat) a * (S8x128.size a - 1) < S4416x128.size a) ∧
  (∀ a, S8x128.size a = 0 ∨ (k1_off439 v363) a + (![552, 1] : Fin 2 → Nat) a * (S8x128.size a - 1) < S4416x128.size a) ∧
  (8 ∣ (k1_mult21 v363).toNat) ∧
  (∀ a, (k1_off440 v363) a + S8x128.size a ≤ S1024x128.size a)
theorem k1_off438_inb : ∀ (v363 : BitVec 32) (k1_hw200 : k1_chk200 v363), ∀ a, S8x128.size a = 0 ∨ (k1_off438 v363) a + (![552, 1] : Fin 2 → Nat) a * (S8x128.size a - 1) < S4416x128.size a := fun v363 k1_hw200 => k1_hw200.1
theorem k1_off439_inb : ∀ (v363 : BitVec 32) (k1_hw200 : k1_chk200 v363), ∀ a, S8x128.size a = 0 ∨ (k1_off439 v363) a + (![552, 1] : Fin 2 → Nat) a * (S8x128.size a - 1) < S4416x128.size a := fun v363 k1_hw200 => k1_hw200.2.1
theorem k1_mult21_dvd : ∀ (v363 : BitVec 32) (k1_hw200 : k1_chk200 v363), 8 ∣ (k1_mult21 v363).toNat := fun v363 k1_hw200 => k1_hw200.2.2.1
theorem k1_off440_inb : ∀ (v363 : BitVec 32) (k1_hw200 : k1_chk200 v363), ∀ a, (k1_off440 v363) a + S8x128.size a ≤ S1024x128.size a := fun v363 k1_hw200 => k1_hw200.2.2.2

def k1_off441 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c8_i32_201 : BitVec 32 := 8#32
  let v403 : BitVec 32 := Scalar.addi v66 c8_i32_201
  let v404 : Index := Scalar.indexCast v403
  ![v404.toNat]
def k1_off442 (v405 : BitVec 32) : Fin 2 → Nat :=
  let c1023_i32_202 : BitVec 32 := 1023#32
  let v406 : BitVec 32 := Scalar.andi v405 c1023_i32_202
  let v416 : Index := Scalar.indexCast v406
  let c0_211 : Index := 0#32
  ![v416.toNat, 0]

def k1_off443 (v405 : BitVec 32) : Fin 2 → Nat :=
  let c1023_i32_202 : BitVec 32 := 1023#32
  let v406 : BitVec 32 := Scalar.andi v405 c1023_i32_202
  let c10_i32_203 : BitVec 32 := 10#32
  let v407 : BitVec 32 := Scalar.shrsi v405 c10_i32_203
  let c1_i32_204 : BitVec 32 := 1#32
  let v408 : BitVec 32 := Scalar.andi v407 c1_i32_204
  let v409 : BitVec 32 := Scalar.addi v406 v408
  let v418 : Index := Scalar.indexCast v409
  let c0_212 : Index := 0#32
  ![v418.toNat, 0]
def k1_mult22 (v405 : BitVec 32) : BitVec 32 :=
  let c20_i32_209 : BitVec 32 := 20#32
  let v414 : BitVec 32 := Scalar.shrsi v405 c20_i32_209
  let c127_i32_210 : BitVec 32 := 127#32
  let v415 : BitVec 32 := Scalar.andi v414 c127_i32_210
  let c8_i32_218 : BitVec 32 := 8#32
  let v434 : BitVec 32 := Scalar.muli v415 c8_i32_218
  v434
def k1_off444 (v405 : BitVec 32) : Fin 2 → Nat :=
  let c20_i32_209 : BitVec 32 := 20#32
  let v414 : BitVec 32 := Scalar.shrsi v405 c20_i32_209
  let c127_i32_210 : BitVec 32 := 127#32
  let v415 : BitVec 32 := Scalar.andi v414 c127_i32_210
  let c8_i32_218 : BitVec 32 := 8#32
  let v434 : BitVec 32 := Scalar.muli v415 c8_i32_218
  let v435 : BitVec 32 := v434
  let v436 : Index := Scalar.indexCast v435
  let c0_219 : Index := 0#32
  ![v436.toNat, 0]

def k1_chk201 (v405 : BitVec 32) : Prop :=
  (∀ a, S8x128.size a = 0 ∨ (k1_off442 v405) a + (![552, 1] : Fin 2 → Nat) a * (S8x128.size a - 1) < S4416x128.size a) ∧
  (∀ a, S8x128.size a = 0 ∨ (k1_off443 v405) a + (![552, 1] : Fin 2 → Nat) a * (S8x128.size a - 1) < S4416x128.size a) ∧
  (8 ∣ (k1_mult22 v405).toNat) ∧
  (∀ a, (k1_off444 v405) a + S8x128.size a ≤ S1024x128.size a)
theorem k1_off442_inb : ∀ (v405 : BitVec 32) (k1_hw201 : k1_chk201 v405), ∀ a, S8x128.size a = 0 ∨ (k1_off442 v405) a + (![552, 1] : Fin 2 → Nat) a * (S8x128.size a - 1) < S4416x128.size a := fun v405 k1_hw201 => k1_hw201.1
theorem k1_off443_inb : ∀ (v405 : BitVec 32) (k1_hw201 : k1_chk201 v405), ∀ a, S8x128.size a = 0 ∨ (k1_off443 v405) a + (![552, 1] : Fin 2 → Nat) a * (S8x128.size a - 1) < S4416x128.size a := fun v405 k1_hw201 => k1_hw201.2.1
theorem k1_mult22_dvd : ∀ (v405 : BitVec 32) (k1_hw201 : k1_chk201 v405), 8 ∣ (k1_mult22 v405).toNat := fun v405 k1_hw201 => k1_hw201.2.2.1
theorem k1_off444_inb : ∀ (v405 : BitVec 32) (k1_hw201 : k1_chk201 v405), ∀ a, (k1_off444 v405) a + S8x128.size a ≤ S1024x128.size a := fun v405 k1_hw201 => k1_hw201.2.2.2

def k1_off445 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c9_i32 : BitVec 32 := 9#32
  let v445 : BitVec 32 := Scalar.addi v66 c9_i32
  let v446 : Index := Scalar.indexCast v445
  ![v446.toNat]
def k1_off446 (v447 : BitVec 32) : Fin 2 → Nat :=
  let c1023_i32_221 : BitVec 32 := 1023#32
  let v448 : BitVec 32 := Scalar.andi v447 c1023_i32_221
  let v458 : Index := Scalar.indexCast v448
  let c0_230 : Index := 0#32
  ![v458.toNat, 0]

def k1_off447 (v447 : BitVec 32) : Fin 2 → Nat :=
  let c1023_i32_221 : BitVec 32 := 1023#32
  let v448 : BitVec 32 := Scalar.andi v447 c1023_i32_221
  let c10_i32_222 : BitVec 32 := 10#32
  let v449 : BitVec 32 := Scalar.shrsi v447 c10_i32_222
  let c1_i32_223 : BitVec 32 := 1#32
  let v450 : BitVec 32 := Scalar.andi v449 c1_i32_223
  let v451 : BitVec 32 := Scalar.addi v448 v450
  let v460 : Index := Scalar.indexCast v451
  let c0_231 : Index := 0#32
  ![v460.toNat, 0]
def k1_mult23 (v447 : BitVec 32) : BitVec 32 :=
  let c20_i32_228 : BitVec 32 := 20#32
  let v456 : BitVec 32 := Scalar.shrsi v447 c20_i32_228
  let c127_i32_229 : BitVec 32 := 127#32
  let v457 : BitVec 32 := Scalar.andi v456 c127_i32_229
  let c8_i32_237 : BitVec 32 := 8#32
  let v476 : BitVec 32 := Scalar.muli v457 c8_i32_237
  v476
def k1_off448 (v447 : BitVec 32) : Fin 2 → Nat :=
  let c20_i32_228 : BitVec 32 := 20#32
  let v456 : BitVec 32 := Scalar.shrsi v447 c20_i32_228
  let c127_i32_229 : BitVec 32 := 127#32
  let v457 : BitVec 32 := Scalar.andi v456 c127_i32_229
  let c8_i32_237 : BitVec 32 := 8#32
  let v476 : BitVec 32 := Scalar.muli v457 c8_i32_237
  let v477 : BitVec 32 := v476
  let v478 : Index := Scalar.indexCast v477
  let c0_238 : Index := 0#32
  ![v478.toNat, 0]

def k1_chk202 (v447 : BitVec 32) : Prop :=
  (∀ a, S8x128.size a = 0 ∨ (k1_off446 v447) a + (![552, 1] : Fin 2 → Nat) a * (S8x128.size a - 1) < S4416x128.size a) ∧
  (∀ a, S8x128.size a = 0 ∨ (k1_off447 v447) a + (![552, 1] : Fin 2 → Nat) a * (S8x128.size a - 1) < S4416x128.size a) ∧
  (8 ∣ (k1_mult23 v447).toNat) ∧
  (∀ a, (k1_off448 v447) a + S8x128.size a ≤ S1024x128.size a)
theorem k1_off446_inb : ∀ (v447 : BitVec 32) (k1_hw202 : k1_chk202 v447), ∀ a, S8x128.size a = 0 ∨ (k1_off446 v447) a + (![552, 1] : Fin 2 → Nat) a * (S8x128.size a - 1) < S4416x128.size a := fun v447 k1_hw202 => k1_hw202.1
theorem k1_off447_inb : ∀ (v447 : BitVec 32) (k1_hw202 : k1_chk202 v447), ∀ a, S8x128.size a = 0 ∨ (k1_off447 v447) a + (![552, 1] : Fin 2 → Nat) a * (S8x128.size a - 1) < S4416x128.size a := fun v447 k1_hw202 => k1_hw202.2.1
theorem k1_mult23_dvd : ∀ (v447 : BitVec 32) (k1_hw202 : k1_chk202 v447), 8 ∣ (k1_mult23 v447).toNat := fun v447 k1_hw202 => k1_hw202.2.2.1
theorem k1_off448_inb : ∀ (v447 : BitVec 32) (k1_hw202 : k1_chk202 v447), ∀ a, (k1_off448 v447) a + S8x128.size a ≤ S1024x128.size a := fun v447 k1_hw202 => k1_hw202.2.2.2

def k1_off449 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c10_i32_240 : BitVec 32 := 10#32
  let v487 : BitVec 32 := Scalar.addi v66 c10_i32_240
  let v488 : Index := Scalar.indexCast v487
  ![v488.toNat]
def k1_off450 (v489 : BitVec 32) : Fin 2 → Nat :=
  let c1023_i32_241 : BitVec 32 := 1023#32
  let v490 : BitVec 32 := Scalar.andi v489 c1023_i32_241
  let v500 : Index := Scalar.indexCast v490
  let c0_250 : Index := 0#32
  ![v500.toNat, 0]

def k1_off451 (v489 : BitVec 32) : Fin 2 → Nat :=
  let c1023_i32_241 : BitVec 32 := 1023#32
  let v490 : BitVec 32 := Scalar.andi v489 c1023_i32_241
  let c10_i32_242 : BitVec 32 := 10#32
  let v491 : BitVec 32 := Scalar.shrsi v489 c10_i32_242
  let c1_i32_243 : BitVec 32 := 1#32
  let v492 : BitVec 32 := Scalar.andi v491 c1_i32_243
  let v493 : BitVec 32 := Scalar.addi v490 v492
  let v502 : Index := Scalar.indexCast v493
  let c0_251 : Index := 0#32
  ![v502.toNat, 0]
def k1_mult24 (v489 : BitVec 32) : BitVec 32 :=
  let c20_i32_248 : BitVec 32 := 20#32
  let v498 : BitVec 32 := Scalar.shrsi v489 c20_i32_248
  let c127_i32_249 : BitVec 32 := 127#32
  let v499 : BitVec 32 := Scalar.andi v498 c127_i32_249
  let c8_i32_257 : BitVec 32 := 8#32
  let v518 : BitVec 32 := Scalar.muli v499 c8_i32_257
  v518
def k1_off452 (v489 : BitVec 32) : Fin 2 → Nat :=
  let c20_i32_248 : BitVec 32 := 20#32
  let v498 : BitVec 32 := Scalar.shrsi v489 c20_i32_248
  let c127_i32_249 : BitVec 32 := 127#32
  let v499 : BitVec 32 := Scalar.andi v498 c127_i32_249
  let c8_i32_257 : BitVec 32 := 8#32
  let v518 : BitVec 32 := Scalar.muli v499 c8_i32_257
  let v519 : BitVec 32 := v518
  let v520 : Index := Scalar.indexCast v519
  let c0_258 : Index := 0#32
  ![v520.toNat, 0]

def k1_chk203 (v489 : BitVec 32) : Prop :=
  (∀ a, S8x128.size a = 0 ∨ (k1_off450 v489) a + (![552, 1] : Fin 2 → Nat) a * (S8x128.size a - 1) < S4416x128.size a) ∧
  (∀ a, S8x128.size a = 0 ∨ (k1_off451 v489) a + (![552, 1] : Fin 2 → Nat) a * (S8x128.size a - 1) < S4416x128.size a) ∧
  (8 ∣ (k1_mult24 v489).toNat) ∧
  (∀ a, (k1_off452 v489) a + S8x128.size a ≤ S1024x128.size a)
theorem k1_off450_inb : ∀ (v489 : BitVec 32) (k1_hw203 : k1_chk203 v489), ∀ a, S8x128.size a = 0 ∨ (k1_off450 v489) a + (![552, 1] : Fin 2 → Nat) a * (S8x128.size a - 1) < S4416x128.size a := fun v489 k1_hw203 => k1_hw203.1
theorem k1_off451_inb : ∀ (v489 : BitVec 32) (k1_hw203 : k1_chk203 v489), ∀ a, S8x128.size a = 0 ∨ (k1_off451 v489) a + (![552, 1] : Fin 2 → Nat) a * (S8x128.size a - 1) < S4416x128.size a := fun v489 k1_hw203 => k1_hw203.2.1
theorem k1_mult24_dvd : ∀ (v489 : BitVec 32) (k1_hw203 : k1_chk203 v489), 8 ∣ (k1_mult24 v489).toNat := fun v489 k1_hw203 => k1_hw203.2.2.1
theorem k1_off452_inb : ∀ (v489 : BitVec 32) (k1_hw203 : k1_chk203 v489), ∀ a, (k1_off452 v489) a + S8x128.size a ≤ S1024x128.size a := fun v489 k1_hw203 => k1_hw203.2.2.2

def k1_off453 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c11_i32_260 : BitVec 32 := 11#32
  let v529 : BitVec 32 := Scalar.addi v66 c11_i32_260
  let v530 : Index := Scalar.indexCast v529
  ![v530.toNat]
def k1_off454 (v531 : BitVec 32) : Fin 2 → Nat :=
  let c1023_i32_261 : BitVec 32 := 1023#32
  let v532 : BitVec 32 := Scalar.andi v531 c1023_i32_261
  let v542 : Index := Scalar.indexCast v532
  let c0_270 : Index := 0#32
  ![v542.toNat, 0]

def k1_off455 (v531 : BitVec 32) : Fin 2 → Nat :=
  let c1023_i32_261 : BitVec 32 := 1023#32
  let v532 : BitVec 32 := Scalar.andi v531 c1023_i32_261
  let c10_i32_262 : BitVec 32 := 10#32
  let v533 : BitVec 32 := Scalar.shrsi v531 c10_i32_262
  let c1_i32_263 : BitVec 32 := 1#32
  let v534 : BitVec 32 := Scalar.andi v533 c1_i32_263
  let v535 : BitVec 32 := Scalar.addi v532 v534
  let v544 : Index := Scalar.indexCast v535
  let c0_271 : Index := 0#32
  ![v544.toNat, 0]
def k1_mult25 (v531 : BitVec 32) : BitVec 32 :=
  let c20_i32_268 : BitVec 32 := 20#32
  let v540 : BitVec 32 := Scalar.shrsi v531 c20_i32_268
  let c127_i32_269 : BitVec 32 := 127#32
  let v541 : BitVec 32 := Scalar.andi v540 c127_i32_269
  let c8_i32_277 : BitVec 32 := 8#32
  let v560 : BitVec 32 := Scalar.muli v541 c8_i32_277
  v560
def k1_off456 (v531 : BitVec 32) : Fin 2 → Nat :=
  let c20_i32_268 : BitVec 32 := 20#32
  let v540 : BitVec 32 := Scalar.shrsi v531 c20_i32_268
  let c127_i32_269 : BitVec 32 := 127#32
  let v541 : BitVec 32 := Scalar.andi v540 c127_i32_269
  let c8_i32_277 : BitVec 32 := 8#32
  let v560 : BitVec 32 := Scalar.muli v541 c8_i32_277
  let v561 : BitVec 32 := v560
  let v562 : Index := Scalar.indexCast v561
  let c0_278 : Index := 0#32
  ![v562.toNat, 0]

def k1_chk204 (v531 : BitVec 32) : Prop :=
  (∀ a, S8x128.size a = 0 ∨ (k1_off454 v531) a + (![552, 1] : Fin 2 → Nat) a * (S8x128.size a - 1) < S4416x128.size a) ∧
  (∀ a, S8x128.size a = 0 ∨ (k1_off455 v531) a + (![552, 1] : Fin 2 → Nat) a * (S8x128.size a - 1) < S4416x128.size a) ∧
  (8 ∣ (k1_mult25 v531).toNat) ∧
  (∀ a, (k1_off456 v531) a + S8x128.size a ≤ S1024x128.size a)
theorem k1_off454_inb : ∀ (v531 : BitVec 32) (k1_hw204 : k1_chk204 v531), ∀ a, S8x128.size a = 0 ∨ (k1_off454 v531) a + (![552, 1] : Fin 2 → Nat) a * (S8x128.size a - 1) < S4416x128.size a := fun v531 k1_hw204 => k1_hw204.1
theorem k1_off455_inb : ∀ (v531 : BitVec 32) (k1_hw204 : k1_chk204 v531), ∀ a, S8x128.size a = 0 ∨ (k1_off455 v531) a + (![552, 1] : Fin 2 → Nat) a * (S8x128.size a - 1) < S4416x128.size a := fun v531 k1_hw204 => k1_hw204.2.1
theorem k1_mult25_dvd : ∀ (v531 : BitVec 32) (k1_hw204 : k1_chk204 v531), 8 ∣ (k1_mult25 v531).toNat := fun v531 k1_hw204 => k1_hw204.2.2.1
theorem k1_off456_inb : ∀ (v531 : BitVec 32) (k1_hw204 : k1_chk204 v531), ∀ a, (k1_off456 v531) a + S8x128.size a ≤ S1024x128.size a := fun v531 k1_hw204 => k1_hw204.2.2.2

def k1_off457 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c12_i32 : BitVec 32 := 12#32
  let v571 : BitVec 32 := Scalar.addi v66 c12_i32
  let v572 : Index := Scalar.indexCast v571
  ![v572.toNat]
def k1_off458 (v573 : BitVec 32) : Fin 2 → Nat :=
  let c1023_i32_280 : BitVec 32 := 1023#32
  let v574 : BitVec 32 := Scalar.andi v573 c1023_i32_280
  let v584 : Index := Scalar.indexCast v574
  let c0_289 : Index := 0#32
  ![v584.toNat, 0]

def k1_off459 (v573 : BitVec 32) : Fin 2 → Nat :=
  let c1023_i32_280 : BitVec 32 := 1023#32
  let v574 : BitVec 32 := Scalar.andi v573 c1023_i32_280
  let c10_i32_281 : BitVec 32 := 10#32
  let v575 : BitVec 32 := Scalar.shrsi v573 c10_i32_281
  let c1_i32_282 : BitVec 32 := 1#32
  let v576 : BitVec 32 := Scalar.andi v575 c1_i32_282
  let v577 : BitVec 32 := Scalar.addi v574 v576
  let v586 : Index := Scalar.indexCast v577
  let c0_290 : Index := 0#32
  ![v586.toNat, 0]
def k1_mult26 (v573 : BitVec 32) : BitVec 32 :=
  let c20_i32_287 : BitVec 32 := 20#32
  let v582 : BitVec 32 := Scalar.shrsi v573 c20_i32_287
  let c127_i32_288 : BitVec 32 := 127#32
  let v583 : BitVec 32 := Scalar.andi v582 c127_i32_288
  let c8_i32_296 : BitVec 32 := 8#32
  let v602 : BitVec 32 := Scalar.muli v583 c8_i32_296
  v602
def k1_off460 (v573 : BitVec 32) : Fin 2 → Nat :=
  let c20_i32_287 : BitVec 32 := 20#32
  let v582 : BitVec 32 := Scalar.shrsi v573 c20_i32_287
  let c127_i32_288 : BitVec 32 := 127#32
  let v583 : BitVec 32 := Scalar.andi v582 c127_i32_288
  let c8_i32_296 : BitVec 32 := 8#32
  let v602 : BitVec 32 := Scalar.muli v583 c8_i32_296
  let v603 : BitVec 32 := v602
  let v604 : Index := Scalar.indexCast v603
  let c0_297 : Index := 0#32
  ![v604.toNat, 0]

def k1_chk205 (v573 : BitVec 32) : Prop :=
  (∀ a, S8x128.size a = 0 ∨ (k1_off458 v573) a + (![552, 1] : Fin 2 → Nat) a * (S8x128.size a - 1) < S4416x128.size a) ∧
  (∀ a, S8x128.size a = 0 ∨ (k1_off459 v573) a + (![552, 1] : Fin 2 → Nat) a * (S8x128.size a - 1) < S4416x128.size a) ∧
  (8 ∣ (k1_mult26 v573).toNat) ∧
  (∀ a, (k1_off460 v573) a + S8x128.size a ≤ S1024x128.size a)
theorem k1_off458_inb : ∀ (v573 : BitVec 32) (k1_hw205 : k1_chk205 v573), ∀ a, S8x128.size a = 0 ∨ (k1_off458 v573) a + (![552, 1] : Fin 2 → Nat) a * (S8x128.size a - 1) < S4416x128.size a := fun v573 k1_hw205 => k1_hw205.1
theorem k1_off459_inb : ∀ (v573 : BitVec 32) (k1_hw205 : k1_chk205 v573), ∀ a, S8x128.size a = 0 ∨ (k1_off459 v573) a + (![552, 1] : Fin 2 → Nat) a * (S8x128.size a - 1) < S4416x128.size a := fun v573 k1_hw205 => k1_hw205.2.1
theorem k1_mult26_dvd : ∀ (v573 : BitVec 32) (k1_hw205 : k1_chk205 v573), 8 ∣ (k1_mult26 v573).toNat := fun v573 k1_hw205 => k1_hw205.2.2.1
theorem k1_off460_inb : ∀ (v573 : BitVec 32) (k1_hw205 : k1_chk205 v573), ∀ a, (k1_off460 v573) a + S8x128.size a ≤ S1024x128.size a := fun v573 k1_hw205 => k1_hw205.2.2.2

def k1_off461 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c13_i32 : BitVec 32 := 13#32
  let v613 : BitVec 32 := Scalar.addi v66 c13_i32
  let v614 : Index := Scalar.indexCast v613
  ![v614.toNat]
def k1_off462 (v615 : BitVec 32) : Fin 2 → Nat :=
  let c1023_i32_299 : BitVec 32 := 1023#32
  let v616 : BitVec 32 := Scalar.andi v615 c1023_i32_299
  let v626 : Index := Scalar.indexCast v616
  let c0_308 : Index := 0#32
  ![v626.toNat, 0]

def k1_off463 (v615 : BitVec 32) : Fin 2 → Nat :=
  let c1023_i32_299 : BitVec 32 := 1023#32
  let v616 : BitVec 32 := Scalar.andi v615 c1023_i32_299
  let c10_i32_300 : BitVec 32 := 10#32
  let v617 : BitVec 32 := Scalar.shrsi v615 c10_i32_300
  let c1_i32_301 : BitVec 32 := 1#32
  let v618 : BitVec 32 := Scalar.andi v617 c1_i32_301
  let v619 : BitVec 32 := Scalar.addi v616 v618
  let v628 : Index := Scalar.indexCast v619
  let c0_309 : Index := 0#32
  ![v628.toNat, 0]
def k1_mult27 (v615 : BitVec 32) : BitVec 32 :=
  let c20_i32_306 : BitVec 32 := 20#32
  let v624 : BitVec 32 := Scalar.shrsi v615 c20_i32_306
  let c127_i32_307 : BitVec 32 := 127#32
  let v625 : BitVec 32 := Scalar.andi v624 c127_i32_307
  let c8_i32_315 : BitVec 32 := 8#32
  let v644 : BitVec 32 := Scalar.muli v625 c8_i32_315
  v644
def k1_off464 (v615 : BitVec 32) : Fin 2 → Nat :=
  let c20_i32_306 : BitVec 32 := 20#32
  let v624 : BitVec 32 := Scalar.shrsi v615 c20_i32_306
  let c127_i32_307 : BitVec 32 := 127#32
  let v625 : BitVec 32 := Scalar.andi v624 c127_i32_307
  let c8_i32_315 : BitVec 32 := 8#32
  let v644 : BitVec 32 := Scalar.muli v625 c8_i32_315
  let v645 : BitVec 32 := v644
  let v646 : Index := Scalar.indexCast v645
  let c0_316 : Index := 0#32
  ![v646.toNat, 0]

def k1_chk206 (v615 : BitVec 32) : Prop :=
  (∀ a, S8x128.size a = 0 ∨ (k1_off462 v615) a + (![552, 1] : Fin 2 → Nat) a * (S8x128.size a - 1) < S4416x128.size a) ∧
  (∀ a, S8x128.size a = 0 ∨ (k1_off463 v615) a + (![552, 1] : Fin 2 → Nat) a * (S8x128.size a - 1) < S4416x128.size a) ∧
  (8 ∣ (k1_mult27 v615).toNat) ∧
  (∀ a, (k1_off464 v615) a + S8x128.size a ≤ S1024x128.size a)
theorem k1_off462_inb : ∀ (v615 : BitVec 32) (k1_hw206 : k1_chk206 v615), ∀ a, S8x128.size a = 0 ∨ (k1_off462 v615) a + (![552, 1] : Fin 2 → Nat) a * (S8x128.size a - 1) < S4416x128.size a := fun v615 k1_hw206 => k1_hw206.1
theorem k1_off463_inb : ∀ (v615 : BitVec 32) (k1_hw206 : k1_chk206 v615), ∀ a, S8x128.size a = 0 ∨ (k1_off463 v615) a + (![552, 1] : Fin 2 → Nat) a * (S8x128.size a - 1) < S4416x128.size a := fun v615 k1_hw206 => k1_hw206.2.1
theorem k1_mult27_dvd : ∀ (v615 : BitVec 32) (k1_hw206 : k1_chk206 v615), 8 ∣ (k1_mult27 v615).toNat := fun v615 k1_hw206 => k1_hw206.2.2.1
theorem k1_off464_inb : ∀ (v615 : BitVec 32) (k1_hw206 : k1_chk206 v615), ∀ a, (k1_off464 v615) a + S8x128.size a ≤ S1024x128.size a := fun v615 k1_hw206 => k1_hw206.2.2.2

def k1_off465 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c14_i32 : BitVec 32 := 14#32
  let v655 : BitVec 32 := Scalar.addi v66 c14_i32
  let v656 : Index := Scalar.indexCast v655
  ![v656.toNat]
def k1_off466 (v657 : BitVec 32) : Fin 2 → Nat :=
  let c1023_i32_318 : BitVec 32 := 1023#32
  let v658 : BitVec 32 := Scalar.andi v657 c1023_i32_318
  let v668 : Index := Scalar.indexCast v658
  let c0_327 : Index := 0#32
  ![v668.toNat, 0]

def k1_off467 (v657 : BitVec 32) : Fin 2 → Nat :=
  let c1023_i32_318 : BitVec 32 := 1023#32
  let v658 : BitVec 32 := Scalar.andi v657 c1023_i32_318
  let c10_i32_319 : BitVec 32 := 10#32
  let v659 : BitVec 32 := Scalar.shrsi v657 c10_i32_319
  let c1_i32_320 : BitVec 32 := 1#32
  let v660 : BitVec 32 := Scalar.andi v659 c1_i32_320
  let v661 : BitVec 32 := Scalar.addi v658 v660
  let v670 : Index := Scalar.indexCast v661
  let c0_328 : Index := 0#32
  ![v670.toNat, 0]
def k1_mult28 (v657 : BitVec 32) : BitVec 32 :=
  let c20_i32_325 : BitVec 32 := 20#32
  let v666 : BitVec 32 := Scalar.shrsi v657 c20_i32_325
  let c127_i32_326 : BitVec 32 := 127#32
  let v667 : BitVec 32 := Scalar.andi v666 c127_i32_326
  let c8_i32_334 : BitVec 32 := 8#32
  let v686 : BitVec 32 := Scalar.muli v667 c8_i32_334
  v686
def k1_off468 (v657 : BitVec 32) : Fin 2 → Nat :=
  let c20_i32_325 : BitVec 32 := 20#32
  let v666 : BitVec 32 := Scalar.shrsi v657 c20_i32_325
  let c127_i32_326 : BitVec 32 := 127#32
  let v667 : BitVec 32 := Scalar.andi v666 c127_i32_326
  let c8_i32_334 : BitVec 32 := 8#32
  let v686 : BitVec 32 := Scalar.muli v667 c8_i32_334
  let v687 : BitVec 32 := v686
  let v688 : Index := Scalar.indexCast v687
  let c0_335 : Index := 0#32
  ![v688.toNat, 0]

def k1_chk207 (v657 : BitVec 32) : Prop :=
  (∀ a, S8x128.size a = 0 ∨ (k1_off466 v657) a + (![552, 1] : Fin 2 → Nat) a * (S8x128.size a - 1) < S4416x128.size a) ∧
  (∀ a, S8x128.size a = 0 ∨ (k1_off467 v657) a + (![552, 1] : Fin 2 → Nat) a * (S8x128.size a - 1) < S4416x128.size a) ∧
  (8 ∣ (k1_mult28 v657).toNat) ∧
  (∀ a, (k1_off468 v657) a + S8x128.size a ≤ S1024x128.size a)
theorem k1_off466_inb : ∀ (v657 : BitVec 32) (k1_hw207 : k1_chk207 v657), ∀ a, S8x128.size a = 0 ∨ (k1_off466 v657) a + (![552, 1] : Fin 2 → Nat) a * (S8x128.size a - 1) < S4416x128.size a := fun v657 k1_hw207 => k1_hw207.1
theorem k1_off467_inb : ∀ (v657 : BitVec 32) (k1_hw207 : k1_chk207 v657), ∀ a, S8x128.size a = 0 ∨ (k1_off467 v657) a + (![552, 1] : Fin 2 → Nat) a * (S8x128.size a - 1) < S4416x128.size a := fun v657 k1_hw207 => k1_hw207.2.1
theorem k1_mult28_dvd : ∀ (v657 : BitVec 32) (k1_hw207 : k1_chk207 v657), 8 ∣ (k1_mult28 v657).toNat := fun v657 k1_hw207 => k1_hw207.2.2.1
theorem k1_off468_inb : ∀ (v657 : BitVec 32) (k1_hw207 : k1_chk207 v657), ∀ a, (k1_off468 v657) a + S8x128.size a ≤ S1024x128.size a := fun v657 k1_hw207 => k1_hw207.2.2.2

def k1_off469 (k1_t11 : Fin k1_t11_loop.trips) : Fin 1 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let c15_i32_337 : BitVec 32 := 15#32
  let v697 : BitVec 32 := Scalar.addi v66 c15_i32_337
  let v698 : Index := Scalar.indexCast v697
  ![v698.toNat]
def k1_off470 (v699 : BitVec 32) : Fin 2 → Nat :=
  let c1023_i32_338 : BitVec 32 := 1023#32
  let v700 : BitVec 32 := Scalar.andi v699 c1023_i32_338
  let v710 : Index := Scalar.indexCast v700
  let c0_347 : Index := 0#32
  ![v710.toNat, 0]

def k1_off471 (v699 : BitVec 32) : Fin 2 → Nat :=
  let c1023_i32_338 : BitVec 32 := 1023#32
  let v700 : BitVec 32 := Scalar.andi v699 c1023_i32_338
  let c10_i32_339 : BitVec 32 := 10#32
  let v701 : BitVec 32 := Scalar.shrsi v699 c10_i32_339
  let c1_i32_340 : BitVec 32 := 1#32
  let v702 : BitVec 32 := Scalar.andi v701 c1_i32_340
  let v703 : BitVec 32 := Scalar.addi v700 v702
  let v712 : Index := Scalar.indexCast v703
  let c0_348 : Index := 0#32
  ![v712.toNat, 0]
def k1_mult29 (v699 : BitVec 32) : BitVec 32 :=
  let c20_i32_345 : BitVec 32 := 20#32
  let v708 : BitVec 32 := Scalar.shrsi v699 c20_i32_345
  let c127_i32_346 : BitVec 32 := 127#32
  let v709 : BitVec 32 := Scalar.andi v708 c127_i32_346
  let c8_i32_354 : BitVec 32 := 8#32
  let v728 : BitVec 32 := Scalar.muli v709 c8_i32_354
  v728
def k1_off472 (v699 : BitVec 32) : Fin 2 → Nat :=
  let c20_i32_345 : BitVec 32 := 20#32
  let v708 : BitVec 32 := Scalar.shrsi v699 c20_i32_345
  let c127_i32_346 : BitVec 32 := 127#32
  let v709 : BitVec 32 := Scalar.andi v708 c127_i32_346
  let c8_i32_354 : BitVec 32 := 8#32
  let v728 : BitVec 32 := Scalar.muli v709 c8_i32_354
  let v729 : BitVec 32 := v728
  let v730 : Index := Scalar.indexCast v729
  let c0_355 : Index := 0#32
  ![v730.toNat, 0]

def k1_chk208 (v699 : BitVec 32) : Prop :=
  (∀ a, S8x128.size a = 0 ∨ (k1_off470 v699) a + (![552, 1] : Fin 2 → Nat) a * (S8x128.size a - 1) < S4416x128.size a) ∧
  (∀ a, S8x128.size a = 0 ∨ (k1_off471 v699) a + (![552, 1] : Fin 2 → Nat) a * (S8x128.size a - 1) < S4416x128.size a) ∧
  (8 ∣ (k1_mult29 v699).toNat) ∧
  (∀ a, (k1_off472 v699) a + S8x128.size a ≤ S1024x128.size a)
theorem k1_off470_inb : ∀ (v699 : BitVec 32) (k1_hw208 : k1_chk208 v699), ∀ a, S8x128.size a = 0 ∨ (k1_off470 v699) a + (![552, 1] : Fin 2 → Nat) a * (S8x128.size a - 1) < S4416x128.size a := fun v699 k1_hw208 => k1_hw208.1
theorem k1_off471_inb : ∀ (v699 : BitVec 32) (k1_hw208 : k1_chk208 v699), ∀ a, S8x128.size a = 0 ∨ (k1_off471 v699) a + (![552, 1] : Fin 2 → Nat) a * (S8x128.size a - 1) < S4416x128.size a := fun v699 k1_hw208 => k1_hw208.2.1
theorem k1_mult29_dvd : ∀ (v699 : BitVec 32) (k1_hw208 : k1_chk208 v699), 8 ∣ (k1_mult29 v699).toNat := fun v699 k1_hw208 => k1_hw208.2.2.1
theorem k1_off472_inb : ∀ (v699 : BitVec 32) (k1_hw208 : k1_chk208 v699), ∀ a, (k1_off472 v699) a + S8x128.size a ≤ S1024x128.size a := fun v699 k1_hw208 => k1_hw208.2.2.2

def k1_off473 (k1_t11 : Fin k1_t11_loop.trips) : Fin 2 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let v741 : Index := Scalar.indexCast v66
  let c0_359 : Index := 0#32
  ![v741.toNat, 0]
def k1_off474 (k1_t11 : Fin k1_t11_loop.trips) : Fin 2 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let v745 : Index := Scalar.indexCast v66
  let c128 : Index := 128#32
  ![v745.toNat, 128]
def k1_off475 (k1_t11 : Fin k1_t11_loop.trips) : Fin 2 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let v749 : Index := Scalar.indexCast v66
  let c256 : Index := 256#32
  ![v749.toNat, 256]
def k1_off476 (k1_t11 : Fin k1_t11_loop.trips) : Fin 2 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let v753 : Index := Scalar.indexCast v66
  let c384 : Index := 384#32
  ![v753.toNat, 384]
def k1_off477 (k1_t11 : Fin k1_t11_loop.trips) : Fin 2 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let v757 : Index := Scalar.indexCast v66
  let c512 : Index := 512#32
  ![v757.toNat, 512]
def k1_off478 (k1_t11 : Fin k1_t11_loop.trips) : Fin 2 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let v761 : Index := Scalar.indexCast v66
  let c640 : Index := 640#32
  ![v761.toNat, 640]
def k1_off479 (k1_t11 : Fin k1_t11_loop.trips) : Fin 2 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let v765 : Index := Scalar.indexCast v66
  let c768 : Index := 768#32
  ![v765.toNat, 768]
def k1_off480 (k1_t11 : Fin k1_t11_loop.trips) : Fin 2 → Nat :=
  let c0_i32_43 : BitVec 32 := 0#32
  let c1_i32_44 : BitVec 32 := 1#32
  let arg12 : BitVec 32 := Scf.iv c0_i32_43 c1_i32_44 k1_t11
  let c16_i32 : BitVec 32 := 16#32
  let v65 : BitVec 32 := Scalar.muli arg12 c16_i32
  let v66 : BitVec 32 := v65
  let v769 : Index := Scalar.indexCast v66
  let c896 : Index := 896#32
  ![v769.toNat, 896]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S4096 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![11, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S4x2048x4096 : Shape := ⟨3, ![4, 2048, 4096]⟩
abbrev S4096 : Shape := ⟨1, ![4096]⟩
abbrev S545x11008 : Shape := ⟨2, ![545, 11008]⟩
abbrev S128x11008 : Shape := ⟨2, ![128, 11008]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S40x11008 : Shape := ⟨2, ![40, 11008]⟩
abbrev S40x1x11008 : Shape := ⟨3, ![40, 1, 11008]⟩
abbrev S32 : Shape := ⟨1, ![32]⟩
abbrev S1x32x1 : Shape := ⟨3, ![1, 32, 1]⟩
abbrev S40x32x11008 : Shape := ⟨3, ![40, 32, 11008]⟩
abbrev S160x8x11008 : Shape := ⟨3, ![160, 8, 11008]⟩
abbrev S160x1x11008 : Shape := ⟨3, ![160, 1, 11008]⟩
abbrev S160x11008 : Shape := ⟨2, ![160, 11008]⟩
abbrev S90x11008 : Shape := ⟨2, ![90, 11008]⟩
abbrev S90x1x11008 : Shape := ⟨3, ![90, 1, 11008]⟩
abbrev S90x32x11008 : Shape := ⟨3, ![90, 32, 11008]⟩
abbrev S480x6x11008 : Shape := ⟨3, ![480, 6, 11008]⟩
abbrev S480x1x11008 : Shape := ⟨3, ![480, 1, 11008]⟩
abbrev S480x11008 : Shape := ⟨2, ![480, 11008]⟩
abbrev S135x11008 : Shape := ⟨2, ![135, 11008]⟩
abbrev S135x1x11008 : Shape := ⟨3, ![135, 1, 11008]⟩
abbrev S135x32x11008 : Shape := ⟨3, ![135, 32, 11008]⟩
abbrev S864x5x11008 : Shape := ⟨3, ![864, 5, 11008]⟩
abbrev S864x1x11008 : Shape := ⟨3, ![864, 1, 11008]⟩
abbrev S864x11008 : Shape := ⟨2, ![864, 11008]⟩
abbrev S184x11008 : Shape := ⟨2, ![184, 11008]⟩
abbrev S184x1x11008 : Shape := ⟨3, ![184, 1, 11008]⟩
abbrev S184x32x11008 : Shape := ⟨3, ![184, 32, 11008]⟩
abbrev S1472x4x11008 : Shape := ⟨3, ![1472, 4, 11008]⟩
abbrev S1472x1x11008 : Shape := ⟨3, ![1472, 1, 11008]⟩
abbrev S1472x11008 : Shape := ⟨2, ![1472, 11008]⟩
abbrev S78x11008 : Shape := ⟨2, ![78, 11008]⟩
abbrev S78x1x11008 : Shape := ⟨3, ![78, 1, 11008]⟩
abbrev S78x32x11008 : Shape := ⟨3, ![78, 32, 11008]⟩
abbrev S832x3x11008 : Shape := ⟨3, ![832, 3, 11008]⟩
abbrev S832x1x11008 : Shape := ⟨3, ![832, 1, 11008]⟩
abbrev S832x11008 : Shape := ⟨2, ![832, 11008]⟩
abbrev S18x11008 : Shape := ⟨2, ![18, 11008]⟩
abbrev S18x1x11008 : Shape := ⟨3, ![18, 1, 11008]⟩
abbrev S18x32x11008 : Shape := ⟨3, ![18, 32, 11008]⟩
abbrev S288x2x11008 : Shape := ⟨3, ![288, 2, 11008]⟩
abbrev S288x1x11008 : Shape := ⟨3, ![288, 1, 11008]⟩
abbrev S288x11008 : Shape := ⟨2, ![288, 11008]⟩
abbrev S4096x11008 : Shape := ⟨2, ![4096, 11008]⟩
abbrev S128x32x11008 : Shape := ⟨3, ![128, 32, 11008]⟩
abbrev S4096x1 : Shape := ⟨2, ![4096, 1]⟩
abbrev S4x2048x11008 : Shape := ⟨3, ![4, 2048, 11008]⟩

abbrev nBuf : Space → Nat
  | .hbm => 270
  | .vmem => 0
  | .smem => 0
  | _ => 0

abbrev hbmTy0_0 (i : Nat) : BufTy := match i % 128 with
  | 0 => ⟨S4x2048x4096, .bf16⟩
  | 1 => ⟨S4x2048x4096, .bf16⟩
  | 2 => ⟨S4096, .f32⟩
  | 3 => ⟨S4096, .i32⟩
  | 4 => ⟨S545x11008, .i32⟩
  | 5 => ⟨S128x11008, .bf16⟩
  | 6 => ⟨S4x2048x4096, .f32⟩
  | 7 => ⟨S4x2048x4096, .f32⟩
  | 8 => ⟨S4x2048x4096, .f32⟩
  | 9 => ⟨S4x2048x4096, .bf16⟩
  | 10 => ⟨S4x2048x4096, .f32⟩
  | 11 => ⟨S4x2048x4096, .f32⟩
  | 12 => ⟨S_, .f32⟩
  | 13 => ⟨S4x2048, .f32⟩
  | 14 => ⟨S4x2048x1, .f32⟩
  | 15 => ⟨S_, .f32⟩
  | 16 => ⟨S4x2048x1, .f32⟩
  | 17 => ⟨S4x2048x1, .f32⟩
  | 18 => ⟨S_, .f32⟩
  | 19 => ⟨S4x2048x1, .f32⟩
  | 20 => ⟨S4x2048x1, .f32⟩
  | 21 => ⟨S4x2048x1, .f32⟩
  | 22 => ⟨S4x2048x4096, .f32⟩
  | 23 => ⟨S4x2048x4096, .f32⟩
  | 24 => ⟨S1x1x4096, .f32⟩
  | 25 => ⟨S4x2048x4096, .f32⟩
  | 26 => ⟨S4x2048x4096, .f32⟩
  | 27 => ⟨S4x2048x4096, .bf16⟩
  | 28 => ⟨S40x11008, .i32⟩
  | 29 => ⟨S40x1x11008, .i32⟩
  | 30 => ⟨S32, .i32⟩
  | 31 => ⟨S1x32x1, .i32⟩
  | 32 => ⟨S40x32x11008, .i32⟩
  | 33 => ⟨S40x32x11008, .i32⟩
  | 34 => ⟨S40x32x11008, .i32⟩
  | 35 => ⟨S_, .i32⟩
  | 36 => ⟨S40x32x11008, .i32⟩
  | 37 => ⟨S40x32x11008, .i32⟩
  | 38 => ⟨S160x8x11008, .i32⟩
  | 39 => ⟨S160x1x11008, .i32⟩
  | 40 => ⟨S160x11008, .i32⟩
  | 41 => ⟨S160x1x11008, .i32⟩
  | 42 => ⟨S160x11008, .i32⟩
  | 43 => ⟨S_, .i32⟩
  | 44 => ⟨S160x11008, .i32⟩
  | 45 => ⟨S160x11008, .i32⟩
  | 46 => ⟨S160x11008, .i32⟩
  | 47 => ⟨S160x1x11008, .i32⟩
  | 48 => ⟨S160x11008, .i32⟩
  | 49 => ⟨S_, .i32⟩
  | 50 => ⟨S160x11008, .i32⟩
  | 51 => ⟨S160x11008, .i32⟩
  | 52 => ⟨S160x11008, .i32⟩
  | 53 => ⟨S160x1x11008, .i32⟩
  | 54 => ⟨S160x11008, .i32⟩
  | 55 => ⟨S_, .i32⟩
  | 56 => ⟨S160x11008, .i32⟩
  | 57 => ⟨S160x11008, .i32⟩
  | 58 => ⟨S160x11008, .i32⟩
  | 59 => ⟨S160x1x11008, .i32⟩
  | 60 => ⟨S160x11008, .i32⟩
  | 61 => ⟨S_, .i32⟩
  | 62 => ⟨S160x11008, .i32⟩
  | 63 => ⟨S160x11008, .i32⟩
  | 64 => ⟨S160x11008, .i32⟩
  | 65 => ⟨S160x1x11008, .i32⟩
  | 66 => ⟨S160x11008, .i32⟩
  | 67 => ⟨S_, .i32⟩
  | 68 => ⟨S160x11008, .i32⟩
  | 69 => ⟨S160x11008, .i32⟩
  | 70 => ⟨S160x11008, .i32⟩
  | 71 => ⟨S160x1x11008, .i32⟩
  | 72 => ⟨S160x11008, .i32⟩
  | 73 => ⟨S_, .i32⟩
  | 74 => ⟨S160x11008, .i32⟩
  | 75 => ⟨S160x11008, .i32⟩
  | 76 => ⟨S160x11008, .i32⟩
  | 77 => ⟨S160x1x11008, .i32⟩
  | 78 => ⟨S160x11008, .i32⟩
  | 79 => ⟨S_, .i32⟩
  | 80 => ⟨S160x11008, .i32⟩
  | 81 => ⟨S160x11008, .i32⟩
  | 82 => ⟨S160x11008, .i32⟩
  | 83 => ⟨S160x11008, .bf16⟩
  | 84 => ⟨S_, .bf16⟩
  | 85 => ⟨S160x11008, .bf16⟩
  | 86 => ⟨S160x11008, .bf16⟩
  | 87 => ⟨S90x11008, .i32⟩
  | 88 => ⟨S90x1x11008, .i32⟩
  | 89 => ⟨S32, .i32⟩
  | 90 => ⟨S1x32x1, .i32⟩
  | 91 => ⟨S90x32x11008, .i32⟩
  | 92 => ⟨S90x32x11008, .i32⟩
  | 93 => ⟨S90x32x11008, .i32⟩
  | 94 => ⟨S_, .i32⟩
  | 95 => ⟨S90x32x11008, .i32⟩
  | 96 => ⟨S90x32x11008, .i32⟩
  | 97 => ⟨S480x6x11008, .i32⟩
  | 98 => ⟨S480x1x11008, .i32⟩
  | 99 => ⟨S480x11008, .i32⟩
  | 100 => ⟨S480x1x11008, .i32⟩
  | 101 => ⟨S480x11008, .i32⟩
  | 102 => ⟨S_, .i32⟩
  | 103 => ⟨S480x11008, .i32⟩
  | 104 => ⟨S480x11008, .i32⟩
  | 105 => ⟨S480x11008, .i32⟩
  | 106 => ⟨S480x1x11008, .i32⟩
  | 107 => ⟨S480x11008, .i32⟩
  | 108 => ⟨S_, .i32⟩
  | 109 => ⟨S480x11008, .i32⟩
  | 110 => ⟨S480x11008, .i32⟩
  | 111 => ⟨S480x11008, .i32⟩
  | 112 => ⟨S480x1x11008, .i32⟩
  | 113 => ⟨S480x11008, .i32⟩
  | 114 => ⟨S_, .i32⟩
  | 115 => ⟨S480x11008, .i32⟩
  | 116 => ⟨S480x11008, .i32⟩
  | 117 => ⟨S480x11008, .i32⟩
  | 118 => ⟨S480x1x11008, .i32⟩
  | 119 => ⟨S480x11008, .i32⟩
  | 120 => ⟨S_, .i32⟩
  | 121 => ⟨S480x11008, .i32⟩
  | 122 => ⟨S480x11008, .i32⟩
  | 123 => ⟨S480x11008, .i32⟩
  | 124 => ⟨S480x1x11008, .i32⟩
  | 125 => ⟨S480x11008, .i32⟩
  | 126 => ⟨S_, .i32⟩
  | 127 => ⟨S480x11008, .i32⟩
  | _ => ⟨S4x2048x4096, .bf16⟩

abbrev hbmTy0_1 (i : Nat) : BufTy := match i % 128 with
  | 0 => ⟨S480x11008, .i32⟩
  | 1 => ⟨S480x11008, .i32⟩
  | 2 => ⟨S480x11008, .bf16⟩
  | 3 => ⟨S_, .bf16⟩
  | 4 => ⟨S480x11008, .bf16⟩
  | 5 => ⟨S480x11008, .bf16⟩
  | 6 => ⟨S135x11008, .i32⟩
  | 7 => ⟨S135x1x11008, .i32⟩
  | 8 => ⟨S32, .i32⟩
  | 9 => ⟨S1x32x1, .i32⟩
  | 10 => ⟨S135x32x11008, .i32⟩
  | 11 => ⟨S135x32x11008, .i32⟩
  | 12 => ⟨S135x32x11008, .i32⟩
  | 13 => ⟨S_, .i32⟩
  | 14 => ⟨S135x32x11008, .i32⟩
  | 15 => ⟨S135x32x11008, .i32⟩
  | 16 => ⟨S864x5x11008, .i32⟩
  | 17 => ⟨S864x1x11008, .i32⟩
  | 18 => ⟨S864x11008, .i32⟩
  | 19 => ⟨S864x1x11008, .i32⟩
  | 20 => ⟨S864x11008, .i32⟩
  | 21 => ⟨S_, .i32⟩
  | 22 => ⟨S864x11008, .i32⟩
  | 23 => ⟨S864x11008, .i32⟩
  | 24 => ⟨S864x11008, .i32⟩
  | 25 => ⟨S864x1x11008, .i32⟩
  | 26 => ⟨S864x11008, .i32⟩
  | 27 => ⟨S_, .i32⟩
  | 28 => ⟨S864x11008, .i32⟩
  | 29 => ⟨S864x11008, .i32⟩
  | 30 => ⟨S864x11008, .i32⟩
  | 31 => ⟨S864x1x11008, .i32⟩
  | 32 => ⟨S864x11008, .i32⟩
  | 33 => ⟨S_, .i32⟩
  | 34 => ⟨S864x11008, .i32⟩
  | 35 => ⟨S864x11008, .i32⟩
  | 36 => ⟨S864x11008, .i32⟩
  | 37 => ⟨S864x1x11008, .i32⟩
  | 38 => ⟨S864x11008, .i32⟩
  | 39 => ⟨S_, .i32⟩
  | 40 => ⟨S864x11008, .i32⟩
  | 41 => ⟨S864x11008, .i32⟩
  | 42 => ⟨S864x11008, .i32⟩
  | 43 => ⟨S864x11008, .bf16⟩
  | 44 => ⟨S_, .bf16⟩
  | 45 => ⟨S864x11008, .bf16⟩
  | 46 => ⟨S864x11008, .bf16⟩
  | 47 => ⟨S184x11008, .i32⟩
  | 48 => ⟨S184x1x11008, .i32⟩
  | 49 => ⟨S32, .i32⟩
  | 50 => ⟨S1x32x1, .i32⟩
  | 51 => ⟨S184x32x11008, .i32⟩
  | 52 => ⟨S184x32x11008, .i32⟩
  | 53 => ⟨S184x32x11008, .i32⟩
  | 54 => ⟨S_, .i32⟩
  | 55 => ⟨S184x32x11008, .i32⟩
  | 56 => ⟨S184x32x11008, .i32⟩
  | 57 => ⟨S1472x4x11008, .i32⟩
  | 58 => ⟨S1472x1x11008, .i32⟩
  | 59 => ⟨S1472x11008, .i32⟩
  | 60 => ⟨S1472x1x11008, .i32⟩
  | 61 => ⟨S1472x11008, .i32⟩
  | 62 => ⟨S_, .i32⟩
  | 63 => ⟨S1472x11008, .i32⟩
  | 64 => ⟨S1472x11008, .i32⟩
  | 65 => ⟨S1472x11008, .i32⟩
  | 66 => ⟨S1472x1x11008, .i32⟩
  | 67 => ⟨S1472x11008, .i32⟩
  | 68 => ⟨S_, .i32⟩
  | 69 => ⟨S1472x11008, .i32⟩
  | 70 => ⟨S1472x11008, .i32⟩
  | 71 => ⟨S1472x11008, .i32⟩
  | 72 => ⟨S1472x1x11008, .i32⟩
  | 73 => ⟨S1472x11008, .i32⟩
  | 74 => ⟨S_, .i32⟩
  | 75 => ⟨S1472x11008, .i32⟩
  | 76 => ⟨S1472x11008, .i32⟩
  | 77 => ⟨S1472x11008, .i32⟩
  | 78 => ⟨S1472x11008, .bf16⟩
  | 79 => ⟨S_, .bf16⟩
  | 80 => ⟨S1472x11008, .bf16⟩
  | 81 => ⟨S1472x11008, .bf16⟩
  | 82 => ⟨S78x11008, .i32⟩
  | 83 => ⟨S78x1x11008, .i32⟩
  | 84 => ⟨S32, .i32⟩
  | 85 => ⟨S1x32x1, .i32⟩
  | 86 => ⟨S78x32x11008, .i32⟩
  | 87 => ⟨S78x32x11008, .i32⟩
  | 88 => ⟨S78x32x11008, .i32⟩
  | 89 => ⟨S_, .i32⟩
  | 90 => ⟨S78x32x11008, .i32⟩
  | 91 => ⟨S78x32x11008, .i32⟩
  | 92 => ⟨S832x3x11008, .i32⟩
  | 93 => ⟨S832x1x11008, .i32⟩
  | 94 => ⟨S832x11008, .i32⟩
  | 95 => ⟨S832x1x11008, .i32⟩
  | 96 => ⟨S832x11008, .i32⟩
  | 97 => ⟨S_, .i32⟩
  | 98 => ⟨S832x11008, .i32⟩
  | 99 => ⟨S832x11008, .i32⟩
  | 100 => ⟨S832x11008, .i32⟩
  | 101 => ⟨S832x1x11008, .i32⟩
  | 102 => ⟨S832x11008, .i32⟩
  | 103 => ⟨S_, .i32⟩
  | 104 => ⟨S832x11008, .i32⟩
  | 105 => ⟨S832x11008, .i32⟩
  | 106 => ⟨S832x11008, .i32⟩
  | 107 => ⟨S832x11008, .bf16⟩
  | 108 => ⟨S_, .bf16⟩
  | 109 => ⟨S832x11008, .bf16⟩
  | 110 => ⟨S832x11008, .bf16⟩
  | 111 => ⟨S18x11008, .i32⟩
  | 112 => ⟨S18x1x11008, .i32⟩
  | 113 => ⟨S32, .i32⟩
  | 114 => ⟨S1x32x1, .i32⟩
  | 115 => ⟨S18x32x11008, .i32⟩
  | 116 => ⟨S18x32x11008, .i32⟩
  | 117 => ⟨S18x32x11008, .i32⟩
  | 118 => ⟨S_, .i32⟩
  | 119 => ⟨S18x32x11008, .i32⟩
  | 120 => ⟨S18x32x11008, .i32⟩
  | 121 => ⟨S288x2x11008, .i32⟩
  | 122 => ⟨S288x1x11008, .i32⟩
  | 123 => ⟨S288x11008, .i32⟩
  | 124 => ⟨S288x1x11008, .i32⟩
  | 125 => ⟨S288x11008, .i32⟩
  | 126 => ⟨S_, .i32⟩
  | 127 => ⟨S288x11008, .i32⟩
  | _ => ⟨S4x2048x4096, .bf16⟩

abbrev hbmTy0_2 (i : Nat) : BufTy := match i % 128 with
  | 0 => ⟨S288x11008, .i32⟩
  | 1 => ⟨S288x11008, .i32⟩
  | 2 => ⟨S288x11008, .bf16⟩
  | 3 => ⟨S_, .bf16⟩
  | 4 => ⟨S288x11008, .bf16⟩
  | 5 => ⟨S288x11008, .bf16⟩
  | 6 => ⟨S4096x11008, .bf16⟩
  | 7 => ⟨S128x32x11008, .bf16⟩
  | 8 => ⟨S4096x11008, .bf16⟩
  | 9 => ⟨S4096x11008, .bf16⟩
  | 10 => ⟨S4096x1, .i32⟩
  | 11 => ⟨S4x2048x4096, .bf16⟩
  | 12 => ⟨S4x2048x11008, .f32⟩
  | 13 => ⟨S4x2048x11008, .bf16⟩
  | _ => ⟨S4x2048x4096, .bf16⟩

abbrev hbmTy (i : Nat) : BufTy := match i / 128 with
  | 0 => hbmTy0_0 i
  | 1 => hbmTy0_1 i
  | 2 => hbmTy0_2 i
  | _ => ⟨S4x2048x4096, .bf16⟩

abbrev bufTy : (tb : Table) → Fin (tcTables nBuf tb) → BufTy
  | .hbm, ⟨i, _⟩ => hbmTy i
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_8 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_c_10 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_c_11 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_c_12 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_c_13 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_c_14 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_c_15 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_16 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_c_17 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_c_18 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_c_19 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_c_20 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_c_21 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_cst_22 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_c_23 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_c_24 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_c_25 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_c_26 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_cst_27 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_c_28 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_c_29 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_c_30 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_cst_31 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_c_32 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_c_33 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_cst_34 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_call0_v0 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩

abbrev nD : Nat := 1
abbrev τ : Topo := Topo.v7x

variable {F : FTy → Type} [FloatOps F]
-- ==== Proof.Steps.lean ====
/-
  The small steps the dequantising call is made of, each with the rule that says what it leaves in memory.
-/
module

public import proofs.«01_k».proof.Proof.Gen.Kernel.Skeleton
public import proofs.«01_k».proof.Proof.Gen.Kernel.Launch
public import Idealize.ShloMosaic.Lib.Pipeline.Kit
public import Idealize.ShloMosaic.Lib.Pipeline.Frame
public import Idealize.ShloMosaic.Lib.MemrefSat
public import Idealize.ShloMosaic.Lib.Tactic
public import Idealize.ShloMosaic.Lib.Exec

@[expose] public section

noncomputable section

namespace Cert.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The kernels' variants: none. -/
abbrev 𝒱₀ : Variants := Variants.none

/-- A program of this kernel. -/
abbrev P₀ (F : FTy → Type) [FloatOps F] (α : Type) : Type _ := Prog (TpuEff nD τ sig (Elt F) Λ₀ .tc) α

/-- The index of a vector of 4096 elements. -/
def ix (n : ℕ) : S4096.Idx := fun a => ⟨n % S4096.size a, Nat.mod_lt _ (by fin_cases a; show 0 < 4096; omega)⟩

theorem ix_val (n : ℕ) (a : Fin 1) : (ix n a).val = n % 4096 := by fin_cases a; rfl

theorem ix_of (y : S4096.Idx) : ix (y 0).val = y := by
  funext a; fin_cases a
  exact Fin.ext (Nat.mod_eq_of_lt (y 0).isLt)

theorem ix_inj {m n : ℕ} (hm : m < 4096) (hn : n < 4096) (h : ix m = ix n) : m = n := by
  have := congrArg (fun y : S4096.Idx => (y 0).val) h
  simp only [ix_val] at this
  omega

section Rules

variable (c : Dev nD) {α β : Type}

/-- Running one program and then another. -/
theorem seq {A B : sProp 𝕄} {Q : β → sProp 𝕄} {p : P₀ F α} {q : P₀ F β} {E : Set ℕ}
    (h1 : A ⊢ wp frame (wpE (defs₀ (F := F)) 𝒱₀ c none) E p fun _ => B)
    (h2 : B ⊢ wp frame (wpE (defs₀ (F := F)) 𝒱₀ c none) E q Q) :
    A ⊢ wp frame (wpE (defs₀ (F := F)) 𝒱₀ c none) E (p >>= fun _ => q) Q := by
  rw [wp_bind]
  exact h1.trans (wp_mono frame _ E fun _ => h2)

variable {sp : CoreSpace} {s : Shape} {e : EltTy} {m : Memref sig .tc sp s e}

/-- A load reads the contents at the rectangle. -/
theorem load_owns {r : LoadRect s} {hl : m.view.LoadsAt r} {q : PosShare TreeShare} {X : s.Idx → Elt F e} {E : Set ℕ}
    {k : (r.shape.Idx → Elt F e) → P₀ F α} {Q : α → sProp 𝕄} (W : r.shape.Idx → Elt F e) (hW : ∀ x, X (r.idx x) = W x) :
    (owns (c : Thread nD τ) m q X : sProp 𝕄)
      ⊢ iprop((owns (c : Thread nD τ) m q X -∗ wp frame (wpE (defs₀ (F := F)) 𝒱₀ c none) E (k W) Q)
        -∗ wp frame (wpE (defs₀ (F := F)) 𝒱₀ c none) E (.op (.load m r hl) k) Q) := by
  unfold owns
  iintro ⟨%f, %hf, H⟩ Hk
  iapply (wp_load 𝒱₀ (c : Thread nD τ) none E (View.setOn_subset_set _ _)) $$ H
  iintro H
  have : W = m.view.readAt (Elt F) r f := by rw [← funext hW, ← hf]; rfl
  rw [this]
  iapply Hk
  iexists f; isplitr
  · ipureintro; exact hf
  iexact H

/-- The contents `X` with `w` stored over the rectangle. -/
def put {ι : Type} (r : Rect s) (w : r.shape.Idx → ι) (X : s.Idx → ι) : s.Idx → ι := fun y =>
  open Classical in if h : ∃ x, r.emb x = y then w h.choose else X y

theorem put_emb {ι : Type} (r : Rect s) (w : r.shape.Idx → ι) (X : s.Idx → ι) (x : r.shape.Idx) : put r w X (r.emb x) = w x := by
  have h : ∃ x', r.emb x' = r.emb x := ⟨x, rfl⟩
  unfold put
  rw [dif_pos h]
  exact congrArg w (r.emb.injective h.choose_spec)

theorem put_of_not {ι : Type} (r : Rect s) (w : r.shape.Idx → ι) (X : s.Idx → ι) {y : s.Idx} (h : ∀ x, r.emb x ≠ y) : put r w X y = X y := by
  unfold put
  rw [dif_neg (fun ⟨x, hx⟩ => h x hx)]

/-- A store leaves the contents with the payload put over the rectangle. -/
theorem store_owns {r : Rect s} {w : r.shape.Idx → Elt F e} {hx : (m.access r).Stores Finset.univ}
    {hm : (Finset.univ : Finset r.shape.Idx) = Finset.univ ∨ ∀ a, r.stride a = 1} {X : s.Idx → Elt F e} {E : Set ℕ}
    {k : PUnit → P₀ F α} {Q : α → sProp 𝕄} :
    (owns (c : Thread nD τ) m fullShare X : sProp 𝕄)
      ⊢ iprop((owns (c : Thread nD τ) m fullShare (put r w X) -∗ wp frame (wpE (defs₀ (F := F)) 𝒱₀ c none) E (k ⟨⟩) Q)
        -∗ wp frame (wpE (defs₀ (F := F)) 𝒱₀ c none) E (.op (.store m r w Finset.univ hx hm) k) Q) := by
  unfold owns
  iintro ⟨%f, %hf, H⟩ Hk
  iapply (wp_store 𝒱₀ (c : Thread nD τ) none E (m := m) (r := r) (S := m.view.set) (by rw [View.setOn_univ]; exact View.set_slice_subset _ _)) $$ H
  iintro H
  iapply Hk
  iexists _; isplitr; swap; · iexact H
  ipureintro
  funext y
  by_cases h : ∃ x, r.emb x = y
  · obtain ⟨x, rfl⟩ := h
    rw [put_emb]
    exact View.read_slice_write_emb r f w (Finset.mem_univ x)
  · rw [put_of_not r w X fun x hx => h ⟨x, hx⟩, ← hf]
    exact View.read_slice_write_of_not_mem r f w Finset.univ (by
      intro hy; obtain ⟨x, -, hx⟩ := Finset.mem_map.mp hy; exact h ⟨x, hx⟩)

end Rules

/-! ### One entry of the table -/

section Tab

/-- The statement `tab[perm[o]] = val`: read the permutation's word, check that it is a place of the table, store there. -/
def tabStep (arg1 arg6 : Memref sig .tc .smem S4096 .i32) (o : Fin 1 → ℕ) (ho : ∀ a, o a + S1.size a ≤ S4096.size a)
    (chk : BitVec 32 → Prop) (dec : ∀ v, Decidable (chk v)) (off : BitVec 32 → Fin 1 → ℕ)
    (inb : ∀ v, chk v → ∀ a, off v a + S1.size a ≤ S4096.size a) (val : BitVec 32) : P₀ F Unit := do
  let v : Elt F .i32 ← smemLoad arg1 (Rect.unit (s := S4096) o S1.size ho) numel1_S1 rfl
  have hw : chk v := (← Prog.lift (TpuEff.assume (chk v) (dec v))).down
  let _ : Elt F .i32 ← smemLoad arg6 (Rect.unit (s := S4096) (off v) S1.size (inb v hw)) numel1_S1 rfl
  Prog.lift (.store arg6 (Rect.unit (s := S4096) (off v) S1.size (inb v hw)) (fun _ => val) Finset.univ (View.stores_smem_one rfl numel1_S1) (.inl rfl))

/-- The first `R` entries are in their places. -/
def Agree (X : S4096.Idx → BitVec 32) (E : ℕ → BitVec 32) (R : ℕ) (T : S4096.Idx → BitVec 32) : Prop :=
  ∀ r < R, T (ix (X (ix r)).toNat) = E r

theorem unit_idx (o : Fin 1 → ℕ) (ho : ∀ a, o a + S1.size a ≤ S4096.size a) (x : S1.Idx) :
    (Rect.unit (s := S4096) o S1.size ho).emb x = ix (o 0) := by
  funext a; fin_cases a
  have h0 : o 0 + 1 ≤ 4096 := ho 0
  have hx : (x 0).val = 0 := by have := (x 0).isLt; have h1 : S1.size 0 = 1 := rfl; omega
  apply Fin.ext
  show o 0 + 1 * (x 0).val = o 0 % 4096
  rw [hx, Nat.mod_eq_of_lt (by omega)]; omega

/-- The rule of one entry. -/
theorem wp_tabStep (c : Dev nD) (q : PosShare TreeShare) {arg1 arg6 : Memref sig .tc .smem S4096 .i32}
    {X : S4096.Idx → BitVec 32} (hlt : ∀ r < 4096, (X (ix r)).toNat < 4096)
    (hinj : ∀ r < 4096, ∀ r' < 4096, (X (ix r)).toNat = (X (ix r')).toNat → r = r') {En : ℕ → BitVec 32} {R : ℕ} (hR : R < 4096)
    {o : Fin 1 → ℕ} {ho : ∀ a, o a + S1.size a ≤ S4096.size a}
    {chk : BitVec 32 → Prop} {dec : ∀ v, Decidable (chk v)} {off : BitVec 32 → Fin 1 → ℕ}
    {inb : ∀ v, chk v → ∀ a, off v a + S1.size a ≤ S4096.size a} {val : BitVec 32}
    (hoR : o 0 = R) (hval : val = En R)
    (hchk : ∀ v : BitVec 32, v.toNat < 4096 → chk v) (hoff : ∀ v : BitVec 32, off v 0 = v.toNat) :
    (iprop(owns (c : Thread nD τ) arg1 q X ∗ ownsSat (c : Thread nD τ) arg6 fullShare (Agree X En R)) : sProp 𝕄)
      ⊢ wp frame (wpE (defs₀ (F := F)) 𝒱₀ c none) Set.univ (tabStep arg1 arg6 o ho chk dec off inb val) fun _ =>
        iprop(owns (c : Thread nD τ) arg1 q X ∗ ownsSat (c : Thread nD τ) arg6 fullShare (Agree X En (R + 1))) := by
  unfold tabStep smemLoad smemLoadElt
  simp only [Prog.lift, Prog.bind_op, Prog.bind_ret]
  iintro ⟨H1, H6⟩
  ihave H6 := (ownsSat_elim (c : Thread nD τ) arg6 fullShare) $$ H6
  icases H6 with ⟨%T, %hT, H6⟩
  have e1 : ∀ x, X ((Rect.unit (s := S4096) o S1.size ho).toLoadRect.idx x) = X (ix R) := fun x => by
    rw [← hoR]; exact congrArg X (unit_idx o ho x)
  iapply (load_owns c (fun _ => X (ix R)) e1) $$ H1
  iintro H1
  have hw : chk (X (ix R)) := hchk _ (hlt R hR)
  iapply (wp_assume 𝒱₀ (c : Thread nD τ) none Set.univ hw)
  iapply (load_owns c _ fun _ => rfl) $$ H6
  iintro H6
  iapply (store_owns c) $$ H6
  iintro H6
  rw [wp_ret]
  imodintro
  isplitl [H1]
  · iexact H1
  iapply (ownsSat_intro (c : Thread nD τ) arg6 fullShare ?_) $$ H6
  intro r hr
  have hrl : r < 4096 := by omega
  rcases Nat.lt_succ_iff_lt_or_eq.mp hr with h | rfl
  · rw [put_of_not]
    · exact hT r h
    · intro x hx
      rw [unit_idx, hoff] at hx
      have := ix_inj (hlt _ hR) (hlt _ hrl) hx
      have := hinj _ hR _ hrl this
      omega
  · have := put_emb (Rect.unit (s := S4096) (off (X (ix r))) S1.size (inb _ hw)) (fun _ => val) T (fun a => ⟨0, by fin_cases a; exact Nat.one_pos⟩)
    rw [unit_idx, hoff] at this
    rw [this, hval]

end Tab

end Cert.Proof

end
-- ==== Proof.Bodies.lean ====
/-
  What one grid point of the first and of the last kernel body does, at any float values: the normalisation's body leaves the rounded sum of its
  first two staging buffers in the fourth and the scaled row of that in the fifth; the product's body leaves the rounded
  product of its first two staging buffers in the third.
-/
module

public import proofs.«01_k».proof.Proof.Steps
public import proofs.«01_k».proof.Proof.Gen.Kernel.Skeleton
public import proofs.«01_k».proof.Proof.Gen.Kernel.Launch
public import Idealize.ShloMosaic.Lib.Pipeline.Kit
public import Idealize.ShloMosaic.Lib.Tactic

@[expose] public section

noncomputable section

namespace Cert.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Whole

variable {sg : RefSig} {κ : Kind} {sp : Space} {s : Shape} {e : EltTy} {Val : EltTy → Type} {m : Memref sg κ sp s e}

/-- A load of a whole buffer through the rectangle of its own sizes at zero offsets reads the contents. -/
theorem whole_readAt (h : m.IsWhole) {off : Fin s.rank → Nat} (hz : off = fun _ => 0)
    (inb : ∀ a, off a + s.size a ≤ s.size a) (f : m.view.ty.Contents Val) :
    m.view.readAt Val (Rect.unit off s.size inb).toLoadRect f = m.view.read Val f := by
  obtain ⟨b, rfl, rfl, rfl, h⟩ := h; cases h
  rw [Memref.readAt_unit_zero Val b hz inb f]; rfl

/-- An unmasked store over it leaves the payload. -/
theorem whole_write (h : m.IsWhole) {off : Fin s.rank → Nat} (hz : off = fun _ => 0)
    (inb : ∀ a, off a + s.size a ≤ s.size a) (f : m.view.ty.Contents Val) (w : s.Idx → Val e) :
    m.view.read Val ((m.access (Rect.unit off s.size inb)).write Val f w Finset.univ) = w := by
  obtain ⟨b, rfl, rfl, rfl, h⟩ := h; cases h
  rw [Memref.write_access_unit_zero_univ Val b hz inb f w]; rfl

end Whole

theorem zero2 : (![0, 0] : Fin 2 → Nat) = fun _ => 0 := funext fun a => by fin_cases a <;> rfl

/-- The normalisation's body. -/
theorem norm_body (c : Dev nD) (E : Set ℕ) (i : grid0.Coords)
    (a1 : Memref sig .tc .vmem S256x4096 .bf16) (h1 : a1.IsWhole) (a2 : Memref sig .tc .vmem S256x4096 .bf16) (h2 : a2.IsWhole)
    (a3 : Memref sig .tc .vmem S1x4096 .f32) (h3 : a3.IsWhole) (a4 : Memref sig .tc .vmem S256x4096 .bf16) (h4 : a4.IsWhole)
    (a5 : Memref sig .tc .vmem S256x4096 .bf16) (h5 : a5.IsWhole)
    (X1 X2 X4 X5 : S256x4096.Idx → Elt F .bf16) (X3 : S1x4096.Idx → Elt F .f32) (K : PUnit → sProp 𝕄) :
    iprop((owns (c : Thread nD τ) a1 fullShare X1 ∗ owns (c : Thread nD τ) a2 fullShare X2 ∗ owns (c : Thread nD τ) a3 fullShare X3
            ∗ owns (c : Thread nD τ) a4 fullShare X4 ∗ owns (c : Thread nD τ) a5 fullShare X5)
          ∗ (iprop(owns (c : Thread nD τ) a1 fullShare X1 ∗ owns (c : Thread nD τ) a2 fullShare X2 ∗ owns (c : Thread nD τ) a3 fullShare X3
            ∗ owns (c : Thread nD τ) a4 fullShare (k0_pay1 X1 X2) ∗ owns (c : Thread nD τ) a5 fullShare (k0_pay2 X1 X2 X3)) -∗ K ⟨⟩))
      ⊢ wp frame (wpE (defs₀ (F := F)) 𝒱₀ c none) E (cc0_norm i a1 h1 a2 h2 a3 h3 a4 h4 a5 h5) K := by
  rw [cc0_norm_eq_skeleton]; unfold cc0_norm_skel owns
  simp only [Prog.lift, Prog.bind_op, Prog.bind_ret]
  iintro ⟨⟨⟨%f1, %hf1, H1⟩, ⟨%f2, %hf2, H2⟩, ⟨%f3, %hf3, H3⟩, ⟨%f4, %hf4, H4⟩, ⟨%f5, %hf5, H5⟩⟩, Hk⟩
  sl_steps
  iapply Hk
  rw [whole_readAt h1 zero2, whole_readAt h2 zero2, whole_readAt h3 zero2, hf1, hf2, hf3]
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists _; isplitr; swap; · iexact H4
    ipureintro; exact whole_write h4 zero2 _ _ _
  · iexists _; isplitr; swap; · iexact H5
    ipureintro; exact whole_write h5 zero2 _ _ _

/-- The product's body. -/
theorem mm_body (c : Dev nD) (E : Set ℕ) (i : grid2.Coords)
    (a1 : Memref sig .tc .vmem S1024x4096 .bf16) (h1 : a1.IsWhole) (a2 : Memref sig .tc .vmem S4096x1024 .bf16) (h2 : a2.IsWhole)
    (a3 : Memref sig .tc .vmem S1024x1024 .bf16) (h3 : a3.IsWhole)
    (X1 : S1024x4096.Idx → Elt F .bf16) (X2 : S4096x1024.Idx → Elt F .bf16) (X3 : S1024x1024.Idx → Elt F .bf16) (K : PUnit → sProp 𝕄) :
    iprop((owns (c : Thread nD τ) a1 fullShare X1 ∗ owns (c : Thread nD τ) a2 fullShare X2 ∗ owns (c : Thread nD τ) a3 fullShare X3)
          ∗ (iprop(owns (c : Thread nD τ) a1 fullShare X1 ∗ owns (c : Thread nD τ) a2 fullShare X2
            ∗ owns (c : Thread nD τ) a3 fullShare (k2_pay1 X1 X2)) -∗ K ⟨⟩))
      ⊢ wp frame (wpE (defs₀ (F := F)) 𝒱₀ c none) E (cc2_matmul i a1 h1 a2 h2 a3 h3) K := by
  rw [cc2_matmul_eq_skeleton]; unfold cc2_matmul_skel owns
  simp only [Prog.lift, Prog.bind_op, Prog.bind_ret]
  iintro ⟨⟨⟨%f1, %hf1, H1⟩, ⟨%f2, %hf2, H2⟩, ⟨%f3, %hf3, H3⟩⟩, Hk⟩
  sl_steps
  iapply Hk
  rw [whole_readAt h1 zero2, whole_readAt h2 zero2, hf1, hf2]
  isplitl [H1]
  · iexists f1; isplitr; · ipureintro; exact hf1
    iexact H1
  isplitl [H2]
  · iexists f2; isplitr; · ipureintro; exact hf2
    iexact H2
  · iexists _; isplitr; swap; · iexact H3
    ipureintro; exact whole_write h3 zero2 _ _ _

end Cert.Proof

end
-- ==== Proof.Data.lean ====
/-
  What each grid point of the first and of the last region leaves in its staging buffers, over any contents of the arrays at the region's
  entry: the inputs' blocks in place; the normalisation's two results over its input blocks; the product of a row block with a
  column block. The product's column block is cut at the array's right edge in the last column: past the edge the staging
  buffer holds words nothing names, and so does the product there.
-/
module

public import proofs.«01_k».proof.Proof.Bodies
public import proofs.«01_k».proof.Proof.Gen.Kernel.Points
public import Idealize.ShloMosaic.Lib.Pipeline.FrameBody
public import Idealize.ShloMosaic.Lib.Pipeline.Regions

@[expose] public section

noncomputable section

namespace Cert.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (Pipeline.UD sig nD τ) ℕ

/-- The arrays' contents at a region's entry, on every core. -/
abbrev Vals (F : FTy → Type) [FloatOps F] : Type := Dev nD → Valuation τ sig (Elt F)

variable (V : Vals F) (c : Dev nD)

/-! ## The normalisation -/

def xb0 (t : Fin cfg0.N) : S256x4096.Idx → Elt F .bf16 := (win0_0.blk t).view.read (Elt F) (V c main_v0)
def rb0 (t : Fin cfg0.N) : S256x4096.Idx → Elt F .bf16 := (win0_1.blk t).view.read (Elt F) (V c main_v1)
def gb0 (t : Fin cfg0.N) : S1x4096.Idx → Elt F .f32 := (win0_2.blk t).view.read (Elt F) (V c main_v2)

/-- What rides through a region beside the windows: the scoped buffers that are no staging buffer, and the generator. -/
def Phi0 : sProp 𝕄 := iprop(Pipeline.scopedRest (Ix := Unit) (Name := ℕ) (U := Pipeline.UD sig nD τ) (Lvl := ℕ) (Val := Elt F) spec0 c ∗ ∃ r, prngReg c r)
def Phi2 : sProp 𝕄 := iprop(Pipeline.scopedRest (Ix := Unit) (Name := ℕ) (U := Pipeline.UD sig nD τ) (Lvl := ℕ) (Val := Elt F) spec2 c ∗ ∃ r, prngReg c r)

/-- The proof data of the normalisation's region. -/
def dat0 : Dat τ (Elt F) Unit ℕ (Pipeline.UD sig nD τ) ℕ cfg0 c where
  A w := V c (Proc.devRef .tc (Pipeline.arrRef spec0 w))
  after w t := match w with
    | ⟨0, _⟩ => xb0 V c t
    | ⟨1, _⟩ => rb0 V c t
    | ⟨2, _⟩ => gb0 V c t
    | ⟨3, _⟩ => k0_pay1 (xb0 V c t) (rb0 V c t)
    | ⟨4, _⟩ => k0_pay2 (xb0 V c t) (rb0 V c t) (gb0 V c t)
  Φ _ := Phi0 c
  q _ := fullShare
  owed _ := 0

theorem before0_0 (t : Fin cfg0.N) (d) : (dat0 V c).before 0 t d = xb0 V c t :=
  ((dat0 V c).before_in_eq_fetched 0 rfl (fun _ => rfl) (fun _ _ _ => rfl) (fun _ => rfl) t d).trans rfl
theorem before0_1 (t : Fin cfg0.N) (d) : (dat0 V c).before 1 t d = rb0 V c t :=
  ((dat0 V c).before_in_eq_fetched 1 rfl (fun _ => rfl) (fun _ _ _ => rfl) (fun _ => rfl) t d).trans rfl
theorem before0_2 (t : Fin cfg0.N) (d) : (dat0 V c).before 2 t d = gb0 V c t :=
  ((dat0 V c).before_in_eq_fetched 2 rfl (fun _ => rfl) (fun _ _ _ => rfl) (fun _ => rfl) t d).trans rfl

theorem defs₀_row0 (t : Fin cfg0.N) : defs₀ (F := F) .tc cfg0.body (cfg0.bodyArgs t (cfg0.slots t)) = bodyAt0 t := by
  unfold defs₀; rw [Defs.onTc_tc]

theorem owes0 (t : Fin cfg0.N) : (dat0 V c).owesAt () t.castSucc = (dat0 V c).owesAt () t.succ := by
  unfold Dat.owesAt Dat.bound; dsimp only [dat0]

/-- The normalisation's body at a point of its region; -/
theorem row0 (t : Fin cfg0.N) :
    iprop(Phi0 c ∗ (dat0 V c).owesAt () t.castSucc ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d)))
      ⊢ wp frame (wpE (defs₀ (F := F)) 𝒱₀ c none) Set.univ (bodyAt0 t) fun _ =>
        iprop(Phi0 c ∗ (dat0 V c).owesAt () t.succ ∗ owns (c : Thread nD τ) (st0_0 t) fullShare (xb0 V c t)
        ∗ owns (c : Thread nD τ) (st0_1 t) fullShare (rb0 V c t) ∗ owns (c : Thread nD τ) (st0_2 t) fullShare (gb0 V c t)
        ∗ owns (c : Thread nD τ) (st0_3 t) fullShare (k0_pay1 (xb0 V c t) (rb0 V c t))
        ∗ owns (c : Thread nD τ) (st0_4 t) fullShare (k0_pay2 (xb0 V c t) (rb0 V c t) (gb0 V c t))) := by
  rw [owes0]
  simp only [before0_0, before0_1, before0_2]
  iintro ⟨HP, HO, ⟨%d0, H0⟩, ⟨%d1, H1⟩, ⟨%d2, H2⟩, ⟨%d3, H3⟩, ⟨%d4, H4⟩⟩
  iapply (norm_body c Set.univ _ _ _ _ _ _ _ _ _ _ _ _ _ _ _ _ _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HP]; · iexact HP
  isplitl [HO]; · iexact HO
  isplitl [H0]; · iexact H0
  isplitl [H1]; · iexact H1
  isplitl [H2]; · iexact H2
  isplitl [H3]; · iexact H3
  iexact H4

/-- so the region keeps its proof data. -/
theorem body0 : BodyObligationLoose (dat0 V c) (defs₀ (F := F)) 𝒱₀ () Set.univ (fun _ => false) := fun t => by
  rw [bigSep_W0, bigSep_W0, defs₀_row0]
  exact triple_restated (row0 V c t) rfl .rfl fun _ => .rfl

/-! ## The product -/

def nb2 (t : Fin cfg2.N) : S1024x4096.Idx → Elt F .bf16 := (win2_0.blk t).view.read (Elt F) (V c main_v3_1)
/-- The column block, its part inside the array; -/
def wx2 (t : Fin cfg2.N) : (win2_1.xblock (grid2.coords t)).Idx → Elt F .bf16 := (win2_1.blk t).view.read (Elt F) (V c main_v6)
/-- filled out with `d` past the array's edge. -/
def wb2 (t : Fin cfg2.N) (d : S4096x1024.Idx → Elt F .bf16) : S4096x1024.Idx → Elt F .bf16 := win2_1.fill (grid2.coords t) d (wx2 V c t)

/-- A filler: any word. -/
def junk : S4096x1024.Idx → Elt F .bf16 := fun _ => Scalar.ofBits .bf16 0#16

/-- The proof data of the product's region. -/
def dat2 : Dat τ (Elt F) Unit ℕ (Pipeline.UD sig nD τ) ℕ cfg2 c where
  A w := V c (Proc.devRef .tc (Pipeline.arrRef spec2 w))
  after w t := match w with
    | ⟨0, _⟩ => nb2 V c t
    | ⟨1, _⟩ => wb2 V c t junk
    | ⟨2, _⟩ => k2_pay1 (nb2 V c t) (wb2 V c t junk)
  Φ _ := Phi2 c
  q _ := fullShare
  owed _ := 0

theorem before2_0 (t : Fin cfg2.N) (d) : (dat2 V c).before 0 t d = nb2 V c t :=
  ((dat2 V c).before_in_eq_fetched 0 rfl (fun _ => rfl) (fun _ _ _ => rfl) (fun _ => rfl) t d).trans rfl

theorem after2_1 (t : Fin cfg2.N) : (dat2 V c).after 1 t = wb2 V c t junk := by dsimp only [dat2]

theorem cut_wb2 (t : Fin cfg2.N) (d) : win2_1.cut (grid2.coords t) (wb2 V c t d) = wx2 V c t := by
  unfold wb2; exact Window.cut_fill _ _ _ _

theorem cut2_1 (t : Fin cfg2.N) : (cfg2.win (1 : Fin 3)).cut (cfg2.grid.coords t) ((dat2 V c).after 1 t) = wx2 V c t := by
  rw [after2_1]; exact cut_wb2 V c t junk

theorem clip2_1 (t t' : Fin cfg2.N) (h : (cfg2.win (1 : Fin 3)).index t = (cfg2.win (1 : Fin 3)).index t') :
    (cfg2.win (1 : Fin 3)).clip (cfg2.grid.coords t) = (cfg2.win (1 : Fin 3)).clip (cfg2.grid.coords t') :=
  funext fun a => congrArg (fun i => Pipeline.Clip.of i (S4096x1024.size a) (S4096x11008.size a)) (congrFun h a)

theorem before2_1 (t : Fin cfg2.N) (d) : (dat2 V c).before 1 t d = wb2 V c t d := by
  have h := (dat2 V c).before_in_eq_fetched 1 rfl (fun _ => rfl) clip2_1 (fun t => cut2_1 V c t) t d
  rw [h]; unfold Dat.fetched wb2; rfl

theorem defs₀_row2 (t : Fin cfg2.N) : defs₀ (F := F) .tc cfg2.body (cfg2.bodyArgs t (cfg2.slots t)) = bodyAt2 t := by
  unfold defs₀; rw [Defs.onTc_tc]

/-- Which windows of the product's region are proved at unnamed contents: the result's, if `b`. -/
abbrev fgt2 (b : Bool) : Fin 3 → Bool := fun w => match w with | ⟨0, _⟩ => false | ⟨1, _⟩ => false | ⟨2, _⟩ => b

theorem owes2 (t : Fin cfg2.N) : (dat2 V c).owesAt () t.castSucc = (dat2 V c).owesAt () t.succ := by
  unfold Dat.owesAt Dat.bound; dsimp only [dat2]

/-- The product's body at a point of its region, what it leaves in the result's buffer unnamed; -/
theorem row2_forget (t : Fin cfg2.N) :
    iprop(Phi2 c ∗ (dat2 V c).owesAt () t.castSucc ∗ (∃ d, owns (c : Thread nD τ) (st2_0 t) fullShare ((dat2 V c).before 0 t d))
        ∗ (∃ d, owns (c : Thread nD τ) (st2_1 t) fullShare ((dat2 V c).before 1 t d))
        ∗ (∃ X, owns (c : Thread nD τ) (st2_2 t) fullShare X))
      ⊢ wp frame (wpE (defs₀ (F := F)) 𝒱₀ c none) Set.univ (bodyAt2 t) fun _ =>
        iprop(Phi2 c ∗ (dat2 V c).owesAt () t.succ ∗ owns (c : Thread nD τ) (st2_0 t) fullShare (nb2 V c t)
        ∗ (∃ d, owns (c : Thread nD τ) (st2_1 t) fullShare ((cfg2.win (1 : Fin 3)).fill (cfg2.grid.coords t) d ((cfg2.win (1 : Fin 3)).cut (cfg2.grid.coords t) ((dat2 V c).after 1 t))))
        ∗ (∃ X, owns (c : Thread nD τ) (st2_2 t) fullShare X)) := by
  rw [owes2]
  simp only [before2_0, before2_1]
  iintro ⟨HP, HO, ⟨%d0, H0⟩, ⟨%d1, H1⟩, ⟨%X, H2⟩⟩
  iapply (mm_body c Set.univ _ _ _ _ _ _ _ _ _ _ _)
  isplitl [H0 H1 H2]
  · isplitl [H0]; · iexact H0
    isplitl [H1]; · iexact H1
    iexact H2
  iintro ⟨H0, H1, H2⟩
  isplitl [HP]; · iexact HP
  isplitl [HO]; · iexact HO
  isplitl [H0]; · iexact H0
  isplitl [H1]
  · iexists d1
    rw [cut2_1]
    iexact H1
  iexists _; iexact H2

theorem body2_forget : BodyObligationLoose (dat2 V c) (defs₀ (F := F)) 𝒱₀ () Set.univ (fgt2 true) := fun t => by
  rw [bigSep_W2, bigSep_W2, defs₀_row2]
  exact triple_restated (row2_forget V c t) rfl .rfl fun _ => .rfl

/-- and named, if the product's part inside the array does not depend on what fills the column block out. -/
theorem row2_exact (hloc : ∀ t d, (cfg2.win (2 : Fin 3)).cut (cfg2.grid.coords t) (k2_pay1 (nb2 V c t) (wb2 V c t d))
      = (cfg2.win (2 : Fin 3)).cut (cfg2.grid.coords t) ((dat2 V c).after 2 t))
    (t : Fin cfg2.N) :
    iprop(Phi2 c ∗ (dat2 V c).owesAt () t.castSucc ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d)))
      ⊢ wp frame (wpE (defs₀ (F := F)) 𝒱₀ c none) Set.univ (bodyAt2 t) fun _ =>
        iprop(Phi2 c ∗ (dat2 V c).owesAt () t.succ ∗ owns (c : Thread nD τ) (st2_0 t) fullShare (nb2 V c t)
        ∗ (∃ d, owns (c : Thread nD τ) (st2_1 t) fullShare ((cfg2.win (1 : Fin 3)).fill (cfg2.grid.coords t) d ((cfg2.win (1 : Fin 3)).cut (cfg2.grid.coords t) ((dat2 V c).after 1 t))))
        ∗ (∃ d, owns (c : Thread nD τ) (st2_2 t) fullShare ((cfg2.win (2 : Fin 3)).fill (cfg2.grid.coords t) d ((cfg2.win (2 : Fin 3)).cut (cfg2.grid.coords t) ((dat2 V c).after 2 t))))) := by
  rw [owes2]
  simp only [before2_0, before2_1]
  iintro ⟨HP, HO, ⟨%d0, H0⟩, ⟨%d1, H1⟩, ⟨%X, H2⟩⟩
  iapply (mm_body c Set.univ _ _ _ _ _ _ _ _ _ _ _)
  isplitl [H0 H1 H2]
  · isplitl [H0]; · iexact H0
    isplitl [H1]; · iexact H1
    iexact H2
  iintro ⟨H0, H1, H2⟩
  isplitl [HP]; · iexact HP
  isplitl [HO]; · iexact HO
  isplitl [H0]; · iexact H0
  isplitl [H1]
  · iexists d1
    rw [cut2_1]
    iexact H1
  iexists (k2_pay1 (nb2 V c t) (wb2 V c t d1))
  rw [← hloc t d1, Window.fill_cut]
  iexact H2

theorem body2_exact (hloc : ∀ t d, (cfg2.win (2 : Fin 3)).cut (cfg2.grid.coords t) (k2_pay1 (nb2 V c t) (wb2 V c t d))
      = (cfg2.win (2 : Fin 3)).cut (cfg2.grid.coords t) ((dat2 V c).after 2 t)) :
    BodyObligationLoose (dat2 V c) (defs₀ (F := F)) 𝒱₀ () Set.univ (fgt2 false) := fun t => by
  rw [bigSep_W2, bigSep_W2, defs₀_row2]
  exact triple_restated (row2_exact V c hloc t) rfl .rfl fun _ => .rfl

end Cert.Proof

end
-- ==== Proof.Main.lean ====
/-
  The main loop of the dequantising call: from the table, the packed words, and the scales it writes the block of the weight
  matrix, sixteen rows a trip, through a staging buffer whose rows lie seventeen apart.
-/
module

public import proofs.«01_k».proof.Proof.Steps

@[expose] public section

noncomputable section

namespace Cert.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The index with the given coordinates. -/
def at2 {s : Shape} (h : ∀ a, 0 < s.size a) (v : Fin s.rank → ℕ) : s.Idx := fun a => ⟨v a % s.size a, Nat.mod_lt _ (h a)⟩

theorem at2_of {s : Shape} (h : ∀ a, 0 < s.size a) (v : Fin s.rank → ℕ) (y : s.Idx) (hv : ∀ a, (y a).val = v a) : at2 h v = y :=
  funext fun a => Fin.ext (by show v a % s.size a = _; rw [← hv a]; exact Nat.mod_eq_of_lt (y a).isLt)

theorem idx_at2 {s : Shape} (h : ∀ a, 0 < s.size a) (v : Fin s.rank → ℕ) (r : LoadRect s) (x : r.shape.Idx)
    (hv : ∀ a, r.off a + r.stride a * (x a).val = v a) : r.idx x = at2 h v :=
  (at2_of h v _ fun a => hv a).symm

theorem p8 : ∀ a, 0 < S8x128.size a := by decide
theorem p16 : ∀ a, 0 < S16x128.size a := by decide
theorem p136 : ∀ a, 0 < S136x128.size a := by decide
theorem p1024 : ∀ a, 0 < S1024x128.size a := by decide
theorem p4416 : ∀ a, 0 < S4416x128.size a := by decide

/-- The eight lane groups of one row's values: the row's table word says where its codes and its scales lie. -/
def rowPay (X7 : S4416x128.Idx → Elt F .i32) (X9 : S1024x128.Idx → Elt F .f32) (e : BitVec 32) : S8x128.Idx → Elt F .f32 :=
  k1_pay7 (F := F) (k1_pay5 (F := F) e (fun x => X7 (at2 p4416 ![k1_off410 e 0 + 552 * (x 0).val, (x 1).val]))
      (fun x => X7 (at2 p4416 ![k1_off411 e 0 + 552 * (x 0).val, (x 1).val])))
    (fun x => X9 (at2 p1024 ![k1_off412 e 0 + (x 0).val, (x 1).val])) (k1_pay6 (F := F) e)

/-- The rounding to sixteen bits of one element. -/
def tr (v : Elt F .f32) : Elt F .bf16 := k1_pay2 (F := F) (fun _ => v) (at2 p16 ![0, 0])

/-- The block of the weight matrix. -/
def wBlk (T : S4096.Idx → BitVec 32) (X7 : S4416x128.Idx → Elt F .i32) (X9 : S1024x128.Idx → Elt F .f32) : S4096x1024.Idx → Elt F .bf16 :=
  fun y => tr (rowPay X7 X9 (T (ix (y 0).val)) (at2 p8 ![(y 1).val / 128, (y 1).val % 128]))

/-- One row of the main loop. -/
def rowStep (arg6 : Memref sig .tc .smem S4096 .i32) (arg7 : Memref sig .tc .vmem S4416x128 .i32)
    (arg9 : Memref sig .tc .vmem S1024x128 .f32) (arg10 : Memref sig .tc .vmem S136x128 .f32)
    (o : Fin 1 → ℕ) (ho : ∀ a, o a + S1.size a ≤ S4096.size a) (chk : BitVec 32 → Prop) (dec : ∀ v, Decidable (chk v))
    (q0 : BitVec 32 → Fin 2 → ℕ)
    (q0i : ∀ v, chk v → ∀ a, S8x128.size a = 0 ∨ q0 v a + (![552, 1] : Fin 2 → Nat) a * (S8x128.size a - 1) < S4416x128.size a)
    (q1 : BitVec 32 → Fin 2 → ℕ)
    (q1i : ∀ v, chk v → ∀ a, S8x128.size a = 0 ∨ q1 v a + (![552, 1] : Fin 2 → Nat) a * (S8x128.size a - 1) < S4416x128.size a)
    (so : BitVec 32 → Fin 2 → ℕ) (soi : ∀ v, chk v → ∀ a, so v a + S8x128.size a ≤ S1024x128.size a)
    (j : Fin 2 → ℕ) (ji : ∀ a, S8x128.size a = 0 ∨ j a + (![17, 1] : Fin 2 → Nat) a * (S8x128.size a - 1) < S136x128.size a) : P₀ F Unit := do
  let v : Elt F .i32 ← smemLoad arg6 (Rect.unit (s := S4096) o S1.size ho) numel1_S1 rfl
  have hw : chk v := (← Prog.lift (TpuEff.assume (chk v) (dec v))).down
  let lo : Vec F S8x128 .i32 ← Prog.lift (.load arg7 (⟨q0 v, S8x128.size, ![552, 1], (q0i v hw)⟩ : LoadRect S4416x128) (View.loadsAt_vmem h_S8x128))
  let hi : Vec F S8x128 .i32 ← Prog.lift (.load arg7 (⟨q1 v, S8x128.size, ![552, 1], (q1i v hw)⟩ : LoadRect S4416x128) (View.loadsAt_vmem h_S8x128))
  let sc : Vec F S8x128 .f32 ← Prog.lift (.load arg9 (Rect.unit (s := S1024x128) (so v) S8x128.size (soi v hw)).toLoadRect (View.loadsAt_vmem h_S8x128))
  let _ : Vec F S8x128 .f32 ← Prog.lift (.load arg10 (⟨j, S8x128.size, ![17, 1], ji⟩ : LoadRect S136x128) (View.loadsAt_vmem h_S8x128))
  Prog.lift (.store arg10 ⟨(⟨j, S8x128.size, ![17, 1], ji⟩ : LoadRect S136x128), spos_17_1⟩ (k1_pay7 (k1_pay5 v lo hi) sc (k1_pay6 v)) Finset.univ (View.stores_vmem_bits_univ h_S8x128 rfl) (.inl rfl))

/-- One lane group of sixteen rows. -/
def outStep (arg5 : Memref sig .tc .vmem S4096x1024 .bf16) (arg10 : Memref sig .tc .vmem S136x128 .f32)
    (o10 : Fin 2 → ℕ) (h10 : ∀ a, o10 a + S16x128.size a ≤ S136x128.size a)
    (o : Fin 2 → ℕ) (ho : ∀ a, o a + S16x128.size a ≤ S4096x1024.size a)
    (hs : (arg5.access (Rect.unit (s := S4096x1024) o S16x128.size ho)).Stores Finset.univ) : P₀ F Unit := do
  let v : Vec F S16x128 .f32 ← Prog.lift (.load arg10 (Rect.unit (s := S136x128) o10 S16x128.size h10).toLoadRect (View.loadsAt_vmem h_S16x128))
  let _ : Vec F S16x128 .bf16 ← Prog.lift (.load arg5 (Rect.unit (s := S4096x1024) o S16x128.size ho).toLoadRect (View.loadsAt_vmem h_S16x128))
  Prog.lift (.store arg5 (Rect.unit (s := S4096x1024) o S16x128.size ho) (k1_pay2 v) Finset.univ hs (.inl rfl))

section

variable (c : Dev nD) (i : grid1.Coords) (arg1 : Memref sig .tc .smem S4096 .i32) (harg1 : arg1.IsWhole) (arg2 : Memref sig .tc .hbm S545x11008 .i32) (harg2 : arg2.IsWhole) (arg3 : Memref sig .tc .hbm S8x11008 .i32) (harg3 : arg3.IsWhole) (arg4 : Memref sig .tc .hbm S128x11008 .bf16) (harg4 : arg4.IsWhole) (arg5 : Memref sig .tc .vmem S4096x1024 .bf16) (harg5 : arg5.IsWhole) (arg6 : Memref sig .tc .smem S4096 .i32) (harg6 : arg6.IsWhole) (arg7 : Memref sig .tc .vmem S4416x128 .i32) (harg7 : arg7.IsWhole) (arg8 : Memref sig .tc .vmem S8x128x128 .bf16) (harg8 : arg8.IsWhole) (arg9 : Memref sig .tc .vmem S1024x128 .f32) (harg9 : arg9.IsWhole) (arg10 : Memref sig .tc .vmem S136x128 .f32) (harg10 : arg10.IsWhole) (arg11 : DmaSems sig S_)
  (T : S4096.Idx → BitVec 32) (X7 : S4416x128.Idx → Elt F .i32) (X9 : S1024x128.Idx → Elt F .f32)

/-- The first `R` rows of trip `k` are in the staging buffer. -/
def Staged (k R : ℕ) (X10 : S136x128.Idx → Elt F .f32) : Prop :=
  ∀ j < R, ∀ x : S8x128.Idx, X10 (at2 p136 ![j + 17 * (x 0).val, (x 1).val]) = rowPay X7 X9 (T (ix (16 * k + j))) x

/-- The rows of the trips before `k`, and the first `t` lane groups of trip `k`'s rows, are in the block. -/
def Done (k t : ℕ) (X5 : S4096x1024.Idx → Elt F .bf16) : Prop :=
  ∀ y : S4096x1024.Idx, ((y 0).val < 16 * k ∨ ((y 0).val < 16 * (k + 1) ∧ (y 1).val < 128 * t)) → X5 y = wBlk T X7 X9 y

/-- What the main loop holds. -/
def held (k R t : ℕ) : sProp 𝕄 :=
  iprop(owns (c : Thread nD τ) arg6 fullShare T ∗ owns (c : Thread nD τ) arg7 fullShare X7 ∗ owns (c : Thread nD τ) arg9 fullShare X9
    ∗ ownsSat (c : Thread nD τ) arg10 fullShare (Staged T X7 X9 k R) ∗ ownsSat (c : Thread nD τ) arg5 fullShare (Done T X7 X9 k t))

variable {arg5 arg6 arg7 arg9 arg10} in
theorem wp_rowStep (k : ℕ) (hk : k < 256) {R : ℕ} (hR : R < 16) {o ho chk dec q0 q0i q1 q1i so soi j ji}
    (ho' : o 0 = 16 * k + R) (hT : chk (T (ix (16 * k + R)))) (h0 : q0 = k1_off410) (h1 : q1 = k1_off411) (hs : so = k1_off412)
    (hj : j 0 = R) (hj1 : j 1 = 0) :
    (held c arg5 arg6 arg7 arg9 arg10 T X7 X9 k R 0 : sProp 𝕄)
      ⊢ wp frame (wpE (defs₀ (F := F)) 𝒱₀ c none) Set.univ (rowStep arg6 arg7 arg9 arg10 o ho chk dec q0 q0i q1 q1i so soi j ji) fun _ =>
        held c arg5 arg6 arg7 arg9 arg10 T X7 X9 k (R + 1) 0 := by
  subst h0 h1 hs
  unfold rowStep smemLoad smemLoadElt held
  simp only [Prog.lift, Prog.bind_op, Prog.bind_ret]
  iintro ⟨H6, H7, H9, H10, H5⟩
  ihave H10 := (ownsSat_elim (c : Thread nD τ) arg10 fullShare) $$ H10
  icases H10 with ⟨%X10, %hX, H10⟩
  have e1 : ∀ x, T ((Rect.unit (s := S4096) o S1.size ho).toLoadRect.idx x) = T (ix (16 * k + R)) := fun x => by
    rw [← ho']; exact congrArg T (unit_idx o ho x)
  iapply (load_owns c (fun _ => T (ix (16 * k + R))) e1) $$ H6
  iintro H6
  iapply (wp_assume 𝒱₀ (c : Thread nD τ) none Set.univ hT)
  iapply (load_owns c (fun x => X7 (at2 p4416 ![k1_off410 (T (ix (16 * k + R))) 0 + 552 * (x 0).val, (x 1).val])) (fun x =>
    congrArg X7 (idx_at2 p4416 _ _ x fun a => by fin_cases a; · rfl
                                                 exact (Nat.zero_add _).trans (Nat.one_mul _)))) $$ H7
  iintro H7
  iapply (load_owns c (fun x => X7 (at2 p4416 ![k1_off411 (T (ix (16 * k + R))) 0 + 552 * (x 0).val, (x 1).val])) (fun x =>
    congrArg X7 (idx_at2 p4416 _ _ x fun a => by fin_cases a; · rfl
                                                 exact (Nat.zero_add _).trans (Nat.one_mul _)))) $$ H7
  iintro H7
  iapply (load_owns c (fun x => X9 (at2 p1024 ![k1_off412 (T (ix (16 * k + R))) 0 + (x 0).val, (x 1).val])) (fun x =>
    congrArg X9 (idx_at2 p1024 _ _ x fun a => by
      fin_cases a
      · exact congrArg (k1_off412 (T (ix (16 * k + R))) 0 + ·) (Nat.one_mul _)
      exact (Nat.zero_add _).trans (Nat.one_mul _)))) $$ H9
  iintro H9
  iapply (load_owns c _ fun _ => rfl) $$ H10
  iintro H10
  iapply (store_owns c) $$ H10
  iintro H10
  rw [wp_ret]
  imodintro
  isplitl [H6]; · iexact H6
  isplitl [H7]; · iexact H7
  isplitl [H9]; · iexact H9
  isplitl [H10]; swap; · iexact H5
  iapply (ownsSat_intro (c : Thread nD τ) arg10 fullShare ?_) $$ H10
  intro r hr x
  have hx0 : (x 0).val < 8 := (x 0).isLt
  have hx1 : (x 1).val < 128 := (x 1).isLt
  rcases Nat.lt_succ_iff_lt_or_eq.mp hr with h | rfl
  · rw [put_of_not]
    · exact hX r h x
    · intro z hz
      have h0 := congrArg (fun y : S136x128.Idx => (y 0).val) hz
      have hz0 : (z 0).val < 8 := (z 0).isLt
      change j 0 + 17 * (z 0).val = (r + 17 * (x 0).val) % 136 at h0
      rw [hj, Nat.mod_eq_of_lt (by omega)] at h0
      omega
  · refine Eq.trans ?_ (put_emb (⟨(⟨j, S8x128.size, ![17, 1], ji⟩ : LoadRect S136x128), spos_17_1⟩ : Rect S136x128) _ X10 x)
    refine congrArg _ (at2_of p136 _ _ fun a => ?_)
    fin_cases a
    · show j 0 + 17 * (x 0).val = _; rw [hj]; rfl
    · show j 1 + 1 * (x 1).val = _; rw [hj1]; exact (Nat.zero_add _).trans (Nat.one_mul _)

variable {arg5 arg6 arg7 arg9 arg10} in
theorem wp_outStep (k : ℕ) (hk : k < 256) {t : ℕ} (ht : t < 8) {o10 h10 o ho hs}
    (h100 : o10 0 = 17 * t) (h101 : o10 1 = 0) (ho0 : o 0 = 16 * k) (ho1 : o 1 = 128 * t) :
    (held c arg5 arg6 arg7 arg9 arg10 T X7 X9 k 16 t : sProp 𝕄)
      ⊢ wp frame (wpE (defs₀ (F := F)) 𝒱₀ c none) Set.univ (outStep arg5 arg10 o10 h10 o ho hs) fun _ =>
        held c arg5 arg6 arg7 arg9 arg10 T X7 X9 k 16 (t + 1) := by
  unfold outStep held
  simp only [Prog.lift, Prog.bind_op, Prog.bind_ret]
  iintro ⟨H6, H7, H9, H10, H5⟩
  ihave H10 := (ownsSat_elim (c : Thread nD τ) arg10 fullShare) $$ H10
  icases H10 with ⟨%X10, %hX, H10⟩
  ihave H5 := (ownsSat_elim (c : Thread nD τ) arg5 fullShare) $$ H5
  icases H5 with ⟨%X5, %hX5, H5⟩
  iapply (load_owns c (fun x => X10 (at2 p136 ![17 * t + (x 0).val, (x 1).val])) (fun x =>
    congrArg X10 (idx_at2 p136 _ _ x fun a => by
      fin_cases a
      · show o10 0 + 1 * (x 0).val = _; rw [h100, Nat.one_mul]; rfl
      · show o10 1 + 1 * (x 1).val = _; rw [h101]; exact (Nat.zero_add _).trans (Nat.one_mul _)))) $$ H10
  iintro H10
  iapply (load_owns c _ fun _ => rfl) $$ H5
  iintro H5
  iapply (store_owns c) $$ H5
  iintro H5
  rw [wp_ret]
  imodintro
  isplitl [H6]; · iexact H6
  isplitl [H7]; · iexact H7
  isplitl [H9]; · iexact H9
  isplitl [H10]
  · iapply (ownsSat_intro (c : Thread nD τ) arg10 fullShare hX) $$ H10
  iapply (ownsSat_intro (c : Thread nD τ) arg5 fullShare ?_) $$ H5
  intro y hy
  by_cases hin : 16 * k ≤ (y 0).val ∧ 128 * t ≤ (y 1).val ∧ (y 1).val < 128 * (t + 1)
  · have hy0 : (y 0).val < 16 * (k + 1) := by omega
    let x : S16x128.Idx := at2 p16 ![(y 0).val - 16 * k, (y 1).val - 128 * t]
    have hx0 : (x 0).val = (y 0).val - 16 * k := Nat.mod_eq_of_lt (show (y 0).val - 16 * k < 16 by omega)
    have hx1 : (x 1).val = (y 1).val - 128 * t := Nat.mod_eq_of_lt (show (y 1).val - 128 * t < 128 by omega)
    have hyx : (Rect.unit (s := S4096x1024) o S16x128.size ho).emb x = y := by
      funext a; apply Fin.ext
      fin_cases a
      · show o 0 + 1 * (x 0).val = (y 0).val; rw [ho0, hx0]; omega
      · show o 1 + 1 * (x 1).val = (y 1).val; rw [ho1, hx1]; omega
    have hp := put_emb (Rect.unit (s := S4096x1024) o S16x128.size ho)
      (k1_pay2 (F := F) fun x => X10 (at2 p136 ![17 * t + (x 0).val, (x 1).val])) X5 x
    rw [hyx] at hp
    refine hp.trans ?_
    show tr (X10 (at2 p136 ![17 * t + (x 0).val, (x 1).val])) = wBlk T X7 X9 y
    unfold wBlk
    have := hX (x 0).val (by omega) (at2 p8 ![t, (x 1).val])
    have e0 : ((at2 p8 ![t, (x 1).val] : S8x128.Idx) 0).val = t := Nat.mod_eq_of_lt ht
    have e1 : ((at2 p8 ![t, (x 1).val] : S8x128.Idx) 1).val = (x 1).val := Nat.mod_eq_of_lt (show (x 1).val < 128 by omega)
    rw [e0, e1] at this
    rw [show 17 * t + (x 0).val = (x 0).val + 17 * t from Nat.add_comm _ _, this,
      show 16 * k + (x 0).val = (y 0).val by omega, show (y 1).val / 128 = t by omega, show (y 1).val % 128 = (x 1).val by omega]
  · rw [put_of_not]
    · exact hX5 y (by omega)
    · rintro x rfl
      apply hin
      have hx0 : (x 0).val < 16 := (x 0).isLt
      have hx1 : (x 1).val < 128 := (x 1).isLt
      change 16 * k ≤ o 0 + 1 * (x 0).val ∧ 128 * t ≤ o 1 + 1 * (x 1).val ∧ o 1 + 1 * (x 1).val < 128 * (t + 1)
      omega

set_option maxRecDepth 65536 in
set_option maxHeartbeats 4000000 in
theorem body11_eq (k : Fin k1_t11_loop.trips) :
    k1_t11_body (F := F) i arg1 harg1 arg2 harg2 arg3 harg3 arg4 harg4 arg5 harg5 arg6 harg6 arg7 harg7 arg8 harg8 arg9 harg9 arg10 harg10 arg11 k () =
    (rowStep arg6 arg7 arg9 arg10 (k1_off409 k) (k1_off409_inb k) k1_chk193 k1_chk193.dec k1_off410 (fun v hw => k1_off410_inb v hw) k1_off411 (fun v hw => k1_off411_inb v hw) k1_off412 (fun v hw => k1_off412_inb v hw) ![0, 0] inb_S136x128_S8x128_0_0_s_17_1 >>= fun _ =>
    rowStep arg6 arg7 arg9 arg10 (k1_off413 k) (k1_off413_inb k) k1_chk194 k1_chk194.dec k1_off414 (fun v hw => k1_off414_inb v hw) k1_off415 (fun v hw => k1_off415_inb v hw) k1_off416 (fun v hw => k1_off416_inb v hw) ![1, 0] inb_S136x128_S8x128_1_0_s_17_1 >>= fun _ =>
    rowStep arg6 arg7 arg9 arg10 (k1_off417 k) (k1_off417_inb k) k1_chk195 k1_chk195.dec k1_off418 (fun v hw => k1_off418_inb v hw) k1_off419 (fun v hw => k1_off419_inb v hw) k1_off420 (fun v hw => k1_off420_inb v hw) ![2, 0] inb_S136x128_S8x128_2_0_s_17_1 >>= fun _ =>
    rowStep arg6 arg7 arg9 arg10 (k1_off421 k) (k1_off421_inb k) k1_chk196 k1_chk196.dec k1_off422 (fun v hw => k1_off422_inb v hw) k1_off423 (fun v hw => k1_off423_inb v hw) k1_off424 (fun v hw => k1_off424_inb v hw) ![3, 0] inb_S136x128_S8x128_3_0_s_17_1 >>= fun _ =>
    rowStep arg6 arg7 arg9 arg10 (k1_off425 k) (k1_off425_inb k) k1_chk197 k1_chk197.dec k1_off426 (fun v hw => k1_off426_inb v hw) k1_off427 (fun v hw => k1_off427_inb v hw) k1_off428 (fun v hw => k1_off428_inb v hw) ![4, 0] inb_S136x128_S8x128_4_0_s_17_1 >>= fun _ =>
    rowStep arg6 arg7 arg9 arg10 (k1_off429 k) (k1_off429_inb k) k1_chk198 k1_chk198.dec k1_off430 (fun v hw => k1_off430_inb v hw) k1_off431 (fun v hw => k1_off431_inb v hw) k1_off432 (fun v hw => k1_off432_inb v hw) ![5, 0] inb_S136x128_S8x128_5_0_s_17_1 >>= fun _ =>
    rowStep arg6 arg7 arg9 arg10 (k1_off433 k) (k1_off433_inb k) k1_chk199 k1_chk199.dec k1_off434 (fun v hw => k1_off434_inb v hw) k1_off435 (fun v hw => k1_off435_inb v hw) k1_off436 (fun v hw => k1_off436_inb v hw) ![6, 0] inb_S136x128_S8x128_6_0_s_17_1 >>= fun _ =>
    rowStep arg6 arg7 arg9 arg10 (k1_off437 k) (k1_off437_inb k) k1_chk200 k1_chk200.dec k1_off438 (fun v hw => k1_off438_inb v hw) k1_off439 (fun v hw => k1_off439_inb v hw) k1_off440 (fun v hw => k1_off440_inb v hw) ![7, 0] inb_S136x128_S8x128_7_0_s_17_1 >>= fun _ =>
    rowStep arg6 arg7 arg9 arg10 (k1_off441 k) (k1_off441_inb k) k1_chk201 k1_chk201.dec k1_off442 (fun v hw => k1_off442_inb v hw) k1_off443 (fun v hw => k1_off443_inb v hw) k1_off444 (fun v hw => k1_off444_inb v hw) ![8, 0] inb_S136x128_S8x128_8_0_s_17_1 >>= fun _ =>
    rowStep arg6 arg7 arg9 arg10 (k1_off445 k) (k1_off445_inb k) k1_chk202 k1_chk202.dec k1_off446 (fun v hw => k1_off446_inb v hw) k1_off447 (fun v hw => k1_off447_inb v hw) k1_off448 (fun v hw => k1_off448_inb v hw) ![9, 0] inb_S136x128_S8x128_9_0_s_17_1 >>= fun _ =>
    rowStep arg6 arg7 arg9 arg10 (k1_off449 k) (k1_off449_inb k) k1_chk203 k1_chk203.dec k1_off450 (fun v hw => k1_off450_inb v hw) k1_off451 (fun v hw => k1_off451_inb v hw) k1_off452 (fun v hw => k1_off452_inb v hw) ![10, 0] inb_S136x128_S8x128_10_0_s_17_1 >>= fun _ =>
    rowStep arg6 arg7 arg9 arg10 (k1_off453 k) (k1_off453_inb k) k1_chk204 k1_chk204.dec k1_off454 (fun v hw => k1_off454_inb v hw) k1_off455 (fun v hw => k1_off455_inb v hw) k1_off456 (fun v hw => k1_off456_inb v hw) ![11, 0] inb_S136x128_S8x128_11_0_s_17_1 >>= fun _ =>
    rowStep arg6 arg7 arg9 arg10 (k1_off457 k) (k1_off457_inb k) k1_chk205 k1_chk205.dec k1_off458 (fun v hw => k1_off458_inb v hw) k1_off459 (fun v hw => k1_off459_inb v hw) k1_off460 (fun v hw => k1_off460_inb v hw) ![12, 0] inb_S136x128_S8x128_12_0_s_17_1 >>= fun _ =>
    rowStep arg6 arg7 arg9 arg10 (k1_off461 k) (k1_off461_inb k) k1_chk206 k1_chk206.dec k1_off462 (fun v hw => k1_off462_inb v hw) k1_off463 (fun v hw => k1_off463_inb v hw) k1_off464 (fun v hw => k1_off464_inb v hw) ![13, 0] inb_S136x128_S8x128_13_0_s_17_1 >>= fun _ =>
    rowStep arg6 arg7 arg9 arg10 (k1_off465 k) (k1_off465_inb k) k1_chk207 k1_chk207.dec k1_off466 (fun v hw => k1_off466_inb v hw) k1_off467 (fun v hw => k1_off467_inb v hw) k1_off468 (fun v hw => k1_off468_inb v hw) ![14, 0] inb_S136x128_S8x128_14_0_s_17_1 >>= fun _ =>
    rowStep arg6 arg7 arg9 arg10 (k1_off469 k) (k1_off469_inb k) k1_chk208 k1_chk208.dec k1_off470 (fun v hw => k1_off470_inb v hw) k1_off471 (fun v hw => k1_off471_inb v hw) k1_off472 (fun v hw => k1_off472_inb v hw) ![15, 0] inb_S136x128_S8x128_15_0_s_17_1 >>= fun _ =>
    outStep arg5 arg10 ![0, 0] inb_S136x128_S16x128_0_0 (k1_off473 k) (k1_off473_inb k) (View.stores_vmem h_S16x128 (harg5.storeExact_slice rfl _ (k1_off473_packedbf16 k)) (fun _ => rfl)) >>= fun _ =>
    outStep arg5 arg10 ![17, 0] inb_S136x128_S16x128_17_0 (k1_off474 k) (k1_off474_inb k) (View.stores_vmem h_S16x128 (harg5.storeExact_slice rfl _ (k1_off474_packedbf16 k)) (fun _ => rfl)) >>= fun _ =>
    outStep arg5 arg10 ![34, 0] inb_S136x128_S16x128_34_0 (k1_off475 k) (k1_off475_inb k) (View.stores_vmem h_S16x128 (harg5.storeExact_slice rfl _ (k1_off475_packedbf16 k)) (fun _ => rfl)) >>= fun _ =>
    outStep arg5 arg10 ![51, 0] inb_S136x128_S16x128_51_0 (k1_off476 k) (k1_off476_inb k) (View.stores_vmem h_S16x128 (harg5.storeExact_slice rfl _ (k1_off476_packedbf16 k)) (fun _ => rfl)) >>= fun _ =>
    outStep arg5 arg10 ![68, 0] inb_S136x128_S16x128_68_0 (k1_off477 k) (k1_off477_inb k) (View.stores_vmem h_S16x128 (harg5.storeExact_slice rfl _ (k1_off477_packedbf16 k)) (fun _ => rfl)) >>= fun _ =>
    outStep arg5 arg10 ![85, 0] inb_S136x128_S16x128_85_0 (k1_off478 k) (k1_off478_inb k) (View.stores_vmem h_S16x128 (harg5.storeExact_slice rfl _ (k1_off478_packedbf16 k)) (fun _ => rfl)) >>= fun _ =>
    outStep arg5 arg10 ![102, 0] inb_S136x128_S16x128_102_0 (k1_off479 k) (k1_off479_inb k) (View.stores_vmem h_S16x128 (harg5.storeExact_slice rfl _ (k1_off479_packedbf16 k)) (fun _ => rfl)) >>= fun _ =>
    outStep arg5 arg10 ![119, 0] inb_S136x128_S16x128_119_0 (k1_off480 k) (k1_off480_inb k) (View.stores_vmem h_S16x128 (harg5.storeExact_slice rfl _ (k1_off480_packedbf16 k)) (fun _ => rfl))) := rfl

set_option maxHeartbeats 4000000 in
theorem trip11 (hT : ∀ r < 4096, k1_chk193 (T (ix r))) (k : Fin k1_t11_loop.trips) :
    (held c arg5 arg6 arg7 arg9 arg10 T X7 X9 k.val 0 0 : sProp 𝕄)
      ⊢ wp frame (wpE (defs₀ (F := F)) 𝒱₀ c none) Set.univ (k1_t11_body i arg1 harg1 arg2 harg2 arg3 harg3 arg4 harg4 arg5 harg5 arg6 harg6 arg7 harg7 arg8 harg8 arg9 harg9 arg10 harg10 arg11 k ()) fun _ =>
        held c arg5 arg6 arg7 arg9 arg10 T X7 X9 k.val 16 8 := by
  have hk : k.val < 256 := k.isLt
  rw [body11_eq]
  refine seq c (wp_rowStep c T X7 X9 k.val (by omega) (R := 0) (by decide) (by revert k; decide +kernel) (hT _ (by omega)) rfl rfl rfl rfl rfl) ?_
  refine seq c (wp_rowStep c T X7 X9 k.val (by omega) (R := 1) (by decide) (by revert k; decide +kernel) (hT _ (by omega)) rfl rfl rfl rfl rfl) ?_
  refine seq c (wp_rowStep c T X7 X9 k.val (by omega) (R := 2) (by decide) (by revert k; decide +kernel) (hT _ (by omega)) rfl rfl rfl rfl rfl) ?_
  refine seq c (wp_rowStep c T X7 X9 k.val (by omega) (R := 3) (by decide) (by revert k; decide +kernel) (hT _ (by omega)) rfl rfl rfl rfl rfl) ?_
  refine seq c (wp_rowStep c T X7 X9 k.val (by omega) (R := 4) (by decide) (by revert k; decide +kernel) (hT _ (by omega)) rfl rfl rfl rfl rfl) ?_
  refine seq c (wp_rowStep c T X7 X9 k.val (by omega) (R := 5) (by decide) (by revert k; decide +kernel) (hT _ (by omega)) rfl rfl rfl rfl rfl) ?_
  refine seq c (wp_rowStep c T X7 X9 k.val (by omega) (R := 6) (by decide) (by revert k; decide +kernel) (hT _ (by omega)) rfl rfl rfl rfl rfl) ?_
  refine seq c (wp_rowStep c T X7 X9 k.val (by omega) (R := 7) (by decide) (by revert k; decide +kernel) (hT _ (by omega)) rfl rfl rfl rfl rfl) ?_
  refine seq c (wp_rowStep c T X7 X9 k.val (by omega) (R := 8) (by decide) (by revert k; decide +kernel) (hT _ (by omega)) rfl rfl rfl rfl rfl) ?_
  refine seq c (wp_rowStep c T X7 X9 k.val (by omega) (R := 9) (by decide) (by revert k; decide +kernel) (hT _ (by omega)) rfl rfl rfl rfl rfl) ?_
  refine seq c (wp_rowStep c T X7 X9 k.val (by omega) (R := 10) (by decide) (by revert k; decide +kernel) (hT _ (by omega)) rfl rfl rfl rfl rfl) ?_
  refine seq c (wp_rowStep c T X7 X9 k.val (by omega) (R := 11) (by decide) (by revert k; decide +kernel) (hT _ (by omega)) rfl rfl rfl rfl rfl) ?_
  refine seq c (wp_rowStep c T X7 X9 k.val (by omega) (R := 12) (by decide) (by revert k; decide +kernel) (hT _ (by omega)) rfl rfl rfl rfl rfl) ?_
  refine seq c (wp_rowStep c T X7 X9 k.val (by omega) (R := 13) (by decide) (by revert k; decide +kernel) (hT _ (by omega)) rfl rfl rfl rfl rfl) ?_
  refine seq c (wp_rowStep c T X7 X9 k.val (by omega) (R := 14) (by decide) (by revert k; decide +kernel) (hT _ (by omega)) rfl rfl rfl rfl rfl) ?_
  refine seq c (wp_rowStep c T X7 X9 k.val (by omega) (R := 15) (by decide) (by revert k; decide +kernel) (hT _ (by omega)) rfl rfl rfl rfl rfl) ?_
  refine seq c (wp_outStep c T X7 X9 k.val (by omega) (t := 0) (by decide) rfl rfl (by revert k; decide +kernel) (by revert k; decide +kernel)) ?_
  refine seq c (wp_outStep c T X7 X9 k.val (by omega) (t := 1) (by decide) rfl rfl (by revert k; decide +kernel) (by revert k; decide +kernel)) ?_
  refine seq c (wp_outStep c T X7 X9 k.val (by omega) (t := 2) (by decide) rfl rfl (by revert k; decide +kernel) (by revert k; decide +kernel)) ?_
  refine seq c (wp_outStep c T X7 X9 k.val (by omega) (t := 3) (by decide) rfl rfl (by revert k; decide +kernel) (by revert k; decide +kernel)) ?_
  refine seq c (wp_outStep c T X7 X9 k.val (by omega) (t := 4) (by decide) rfl rfl (by revert k; decide +kernel) (by revert k; decide +kernel)) ?_
  refine seq c (wp_outStep c T X7 X9 k.val (by omega) (t := 5) (by decide) rfl rfl (by revert k; decide +kernel) (by revert k; decide +kernel)) ?_
  refine seq c (wp_outStep c T X7 X9 k.val (by omega) (t := 6) (by decide) rfl rfl (by revert k; decide +kernel) (by revert k; decide +kernel)) ?_
  exact (wp_outStep c T X7 X9 k.val (by omega) (t := 7) (by decide) rfl rfl (by revert k; decide +kernel) (by revert k; decide +kernel))

variable {arg5 arg6 arg7 arg9 arg10} in
/-- Between trips. -/
theorem held_next (k : ℕ) :
    (held c arg5 arg6 arg7 arg9 arg10 T X7 X9 k 16 8 : sProp 𝕄) ⊢ held c arg5 arg6 arg7 arg9 arg10 T X7 X9 (k + 1) 0 0 := by
  unfold held
  iintro ⟨H6, H7, H9, H10, H5⟩
  isplitl [H6]; · iexact H6
  isplitl [H7]; · iexact H7
  isplitl [H9]; · iexact H9
  isplitl [H10]
  · ihave H10 := (ownsSat_elim (c : Thread nD τ) arg10 fullShare) $$ H10
    icases H10 with ⟨%X10, %hX, H10⟩
    iapply (ownsSat_intro (c : Thread nD τ) arg10 fullShare (fun j hj => absurd hj (Nat.not_lt_zero j))) $$ H10
  · ihave H5 := (ownsSat_elim (c : Thread nD τ) arg5 fullShare) $$ H5
    icases H5 with ⟨%X5, %hX5, H5⟩
    iapply (ownsSat_intro (c : Thread nD τ) arg5 fullShare ?_) $$ H5
    intro y hy
    have hy1 : (y 1).val < 1024 := (y 1).isLt
    exact hX5 y (by omega)

/-- The main loop writes the block. -/
theorem loop11 (hT : ∀ r < 4096, k1_chk193 (T (ix r))) :
    (held c arg5 arg6 arg7 arg9 arg10 T X7 X9 0 0 0 : sProp 𝕄)
      ⊢ wp frame (wpE (defs₀ (F := F)) 𝒱₀ c none) Set.univ
        (Scf.Loop.for k1_t11_loop k1_t11_ok () (k1_t11_body i arg1 harg1 arg2 harg2 arg3 harg3 arg4 harg4 arg5 harg5 arg6 harg6 arg7 harg7 arg8 harg8 arg9 harg9 arg10 harg10 arg11)) fun _ =>
        held c arg5 arg6 arg7 arg9 arg10 T X7 X9 256 0 0 := by
  iintro H
  iapply (Scf.wp_for frame (wpE (defs₀ (F := F)) 𝒱₀ c none) Set.univ _ _ _ k1_t11_ok () _
    (fun k _ => held c arg5 arg6 arg7 arg9 arg10 T X7 X9 k 0 0)
    (fun k _ => (trip11 c i arg1 harg1 arg2 harg2 arg3 harg3 arg4 harg4 arg5 harg5 arg6 harg6 arg7 harg7 arg8 harg8 arg9 harg9 arg10 harg10 arg11 T X7 X9 hT k).trans (wp_mono frame _ Set.univ fun _ => held_next c T X7 X9 k.val)))
  isplitl [H]
  · iexact H
  iintro %_ H
  iexact H

end

end Cert.Proof

end
-- ==== Proof.Copies.lean ====
/-
  The copies of the dequantising call: for every column panel of the block three transfers, all on one semaphore, bring the
  panel's packed words, their last rows, and its scales into the call's own buffers; the call waits for all of them.
-/
module

public import proofs.«01_k».proof.Proof.Main
public import Idealize.ShloMosaic.Lib.MixedBatch
public import Idealize.ShloMosaic.Lib.ReshapeSlab
public import Idealize.ShloMosaic.Lib.Ring
public import Idealize.SL.BI.BigOpNat

@[expose] public section

noncomputable section

namespace Cert.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The transfers' counters among the ghost state. -/
abbrev EC : UEmb Counters 𝕄 := countersEmb (U := Pipeline.UD sig nD τ)

section Steps

/-- One panel's three starts. -/
def startStep (s1 : Memref sig .tc .hbm S544x128 .i32) (d1 : Memref sig .tc .vmem S544x128 .i32)
    (s2 : Memref sig .tc .hbm S8x128 .i32) (d2 : Memref sig .tc .vmem S8x128 .i32)
    (s3 : Memref sig .tc .hbm S128x128 .bf16) (d3 : Memref sig .tc .vmem S128x128 .bf16) (sem : DmaSem sig)
    (h1 : s1.view.WordExact) (g1 : d1.view.WordExact) (h2 : s2.view.WordExact) (g2 : d2.view.WordExact)
    (h3 : s3.view.WordExact) (g3 : d3.view.WordExact) : P₀ F Unit := do
  Prog.lift (.enqueueDma s1 (.here d1) (.dma sem) h1 g1 ⟨Or.inl rfl, trivial⟩)
  Prog.lift (.enqueueDma s2 (.here d2) (.dma sem) h2 g2 ⟨Or.inl rfl, trivial⟩)
  Prog.lift (.enqueueDma s3 (.here d3) (.dma sem) h3 g3 ⟨Or.inl rfl, trivial⟩)
  pure ()

/-- One panel's three waits. -/
def waitStep (s1 : Memref sig .tc .hbm S544x128 .i32) (d1 : Memref sig .tc .vmem S544x128 .i32)
    (s2 : Memref sig .tc .hbm S8x128 .i32) (d2 : Memref sig .tc .vmem S8x128 .i32)
    (s3 : Memref sig .tc .hbm S128x128 .bf16) (d3 : Memref sig .tc .vmem S128x128 .bf16) (sem : DmaSem sig)
    (h1 : s1.view.WordExact) (g1 : d1.view.WordExact) (h2 : s2.view.WordExact) (g2 : d2.view.WordExact)
    (h3 : s3.view.WordExact) (g3 : d3.view.WordExact) : P₀ F Unit := do
  Prog.lift (.waitDma2 sem s1 d1 h1 g1)
  Prog.lift (.waitDma2 sem s2 d2 h2 g2)
  Prog.lift (.waitDma2 sem s3 d3 h3 g3)
  pure ()

end Steps

section Rules

variable (c : Dev nD) {sem : DmaSem sig} {N : ℕ} (A : Fin N → ℕ)
  {s1 : Memref sig .tc .hbm S544x128 .i32} {d1 : Memref sig .tc .vmem S544x128 .i32}
  {s2 : Memref sig .tc .hbm S8x128 .i32} {d2 : Memref sig .tc .vmem S8x128 .i32}
  {s3 : Memref sig .tc .hbm S128x128 .bf16} {d3 : Memref sig .tc .vmem S128x128 .bf16}
  {h1 : s1.view.WordExact} {g1 : d1.view.WordExact} {h2 : s2.view.WordExact} {g2 : d2.view.WordExact}
  {h3 : s3.view.WordExact} {g3 : d3.view.WordExact}

theorem wp_startStep (D : Fin N → sProp 𝕄) (t : ℕ) (ht : 3 * t + 2 < N)
    (hA1 : d1.view.amount (.dma sem) = A ⟨3 * t, by omega⟩) (hA2 : d2.view.amount (.dma sem) = A ⟨3 * t + 1, by omega⟩)
    (hA3 : d3.view.amount (.dma sem) = A ⟨3 * t + 2, ht⟩)
    {f1 : Buf (Elt F) (s1.view.loc (c : Thread nD τ))} {e1 : Buf (Elt F) (d1.view.loc (c : Thread nD τ))}
    {f2 : Buf (Elt F) (s2.view.loc (c : Thread nD τ))} {e2 : Buf (Elt F) (d2.view.loc (c : Thread nD τ))}
    {f3 : Buf (Elt F) (s3.view.loc (c : Thread nD τ))} {e3 : Buf (Elt F) (d3.view.loc (c : Thread nD τ))}
    (hD1 : iprop((d1.view.loc (c : Thread nD τ) ↦[d1.view.set]{fullShare} d1.view.write (Elt F) e1 (s1.view.read (Elt F) f1) Finset.univ)
      ∗ (s1.view.loc (c : Thread nD τ) ↦[s1.view.set]{fullShare} f1)) ⊢ D ⟨3 * t, by omega⟩)
    (hD2 : iprop((d2.view.loc (c : Thread nD τ) ↦[d2.view.set]{fullShare} d2.view.write (Elt F) e2 (s2.view.read (Elt F) f2) Finset.univ)
      ∗ (s2.view.loc (c : Thread nD τ) ↦[s2.view.set]{fullShare} f2)) ⊢ D ⟨3 * t + 1, by omega⟩)
    (hD3 : iprop((d3.view.loc (c : Thread nD τ) ↦[d3.view.set]{fullShare} d3.view.write (Elt F) e3 (s3.view.read (Elt F) f3) Finset.univ)
      ∗ (s3.view.loc (c : Thread nD τ) ↦[s3.view.set]{fullShare} f3)) ⊢ D ⟨3 * t + 2, ht⟩) :
    (iprop(((s1.view.loc (c : Thread nD τ) ↦[s1.view.set]{fullShare} f1) ∗ (d1.view.loc (c : Thread nD τ) ↦[d1.view.set]{fullShare} e1)
        ∗ (s2.view.loc (c : Thread nD τ) ↦[s2.view.set]{fullShare} f2) ∗ (d2.view.loc (c : Thread nD τ) ↦[d2.view.set]{fullShare} e2)
        ∗ (s3.view.loc (c : Thread nD τ) ↦[s3.view.set]{fullShare} f3) ∗ (d3.view.loc (c : Thread nD τ) ↦[d3.view.set]{fullShare} e3))
        ∗ Transfers.MixedBatch EC (c : Thread nD τ) (.dma sem) () A D (3 * t) 0) : sProp 𝕄)
      ⊢ wp frame (wpE (defs₀ (F := F)) 𝒱₀ c none) Set.univ (startStep s1 d1 s2 d2 s3 d3 sem h1 g1 h2 g2 h3 g3) fun _ =>
        Transfers.MixedBatch EC (c : Thread nD τ) (.dma sem) () A D (3 * (t + 1)) 0 := by
  unfold startStep
  simp only [Prog.lift, Prog.bind_op, Prog.bind_ret]
  iintro ⟨⟨S1, D1, S2, D2, S3, D3⟩, HB⟩
  iapply (Transfers.wp_dmaMixedBatch EC 𝒱₀ (c : Thread nD τ) none () A (D := D) (j := 3 * t) (src := s1) (dst := d1) (via := .same) (sm := .dma sem) (q := fullShare) (fs := f1) (Sd := d1.view.set) (fd := e1) (u := 0) (Finset.Subset.refl _) (by omega) hA1 (Nat.zero_le _) hD1) $$ [S1 D1 HB]
  · isplitl [S1]; · iexact S1
    isplitl [D1]; · iexact D1
    iexact HB
  iintro HB
  iapply (Transfers.wp_dmaMixedBatch EC 𝒱₀ (c : Thread nD τ) none () A (D := D) (j := 3 * t + 1) (src := s2) (dst := d2) (via := .same) (sm := .dma sem) (q := fullShare) (fs := f2) (Sd := d2.view.set) (fd := e2) (u := 0) (Finset.Subset.refl _) (by omega) hA2 (Nat.zero_le _) hD2) $$ [S2 D2 HB]
  · isplitl [S2]; · iexact S2
    isplitl [D2]; · iexact D2
    iexact HB
  iintro HB
  iapply (Transfers.wp_dmaMixedBatch EC 𝒱₀ (c : Thread nD τ) none () A (D := D) (j := 3 * t + 2) (src := s3) (dst := d3) (via := .same) (sm := .dma sem) (q := fullShare) (fs := f3) (Sd := d3.view.set) (fd := e3) (u := 0) (Finset.Subset.refl _) (by omega) hA3 (Nat.zero_le _) hD3) $$ [S3 D3 HB]
  · isplitl [S3]; · iexact S3
    isplitl [D3]; · iexact D3
    iexact HB
  iintro HB
  rw [wp_pure]
  imodintro
  iexact HB

theorem sumTo_mono {N : ℕ} (A : Fin N → ℕ) : Monotone (Transfers.sumTo A) :=
  monotone_nat_of_le_succ fun k => Nat.le_add_right _ _

theorem wp_wait (D : Fin N → sProp 𝕄) {sp sp' : Space} {s : Shape} {e : EltTy} {s' : Memref sig .tc sp s e} {d' : Memref sig .tc sp' s e} {h' : s'.view.WordExact}
    {g' : d'.view.WordExact} {k : PUnit → P₀ F Unit} {Q : Unit → sProp 𝕄} {u u' : ℕ} {W : Waits sig Unit}
    (t : Fin N) (hA : d'.view.dmaCredit = A t) (hu : Transfers.sumTo A t = u) (hu' : Transfers.sumTo A (t + 1) = u') :
    (iprop(Transfers.MixedBatch EC (c : Thread nD τ) (.dma sem) () A D N u ∗ owes (c : Thread nD τ) (0 : CellTallies nD τ sig Unit) W) : sProp 𝕄)
      ⊢ iprop((iprop(Transfers.MixedBatch EC (c : Thread nD τ) (.dma sem) () A D N u' ∗ owes (c : Thread nD τ) (0 : CellTallies nD τ sig Unit) (insert (SemLoc.dma sem, ()) W))
          -∗ wp frame (wpE (defs₀ (F := F)) 𝒱₀ c none) Set.univ (k ⟨⟩) Q)
        -∗ wp frame (wpE (defs₀ (F := F)) 𝒱₀ c none) Set.univ (.op (.waitDma2 sem s' d' h' g') k) Q) := by
  subst hu hu'
  have e1 := Transfers.sumTo_succ A t.isLt
  have m1 := sumTo_mono A (show t.val + 1 ≤ N from t.isLt)
  have e2 : A ⟨t.val, t.isLt⟩ = A t := rfl
  rw [e2] at e1
  rw [e1]
  iintro ⟨HB, HO⟩
  iapply (Transfers.wp_waitMixedBatchO EC 𝒱₀ (c : Thread nD τ) none () hA (D := D) (j := N) (O := 0) (W := W) (by omega))
  isplitl [HB]; · iexact HB
  isplitl [HO]; · iexact HO
  rw [MayWait_zero]; iempintro

theorem wp_waitStep (D : Fin N → sProp 𝕄) (t : ℕ) (ht : 3 * t + 2 < N)
    (hA1 : d1.view.dmaCredit = A ⟨3 * t, by omega⟩) (hA2 : d2.view.dmaCredit = A ⟨3 * t + 1, by omega⟩)
    (hA3 : d3.view.dmaCredit = A ⟨3 * t + 2, ht⟩) :
    (iprop(Transfers.MixedBatch EC (c : Thread nD τ) (.dma sem) () A D N (Transfers.sumTo A (3 * t))
        ∗ ∃ W, owes (c : Thread nD τ) (0 : CellTallies nD τ sig Unit) W) : sProp 𝕄)
      ⊢ wp frame (wpE (defs₀ (F := F)) 𝒱₀ c none) Set.univ (waitStep s1 d1 s2 d2 s3 d3 sem h1 g1 h2 g2 h3 g3) fun _ =>
        iprop(Transfers.MixedBatch EC (c : Thread nD τ) (.dma sem) () A D N (Transfers.sumTo A (3 * (t + 1)))
          ∗ ∃ W, owes (c : Thread nD τ) (0 : CellTallies nD τ sig Unit) W) := by
  unfold waitStep
  simp only [Prog.lift, Prog.bind_op, Prog.bind_ret]
  iintro ⟨HB, ⟨%W, HO⟩⟩
  iapply (wp_wait c A D ⟨3 * t, by omega⟩ hA1 rfl rfl) $$ [HB HO]
  · isplitl [HB]; · iexact HB
    iexact HO
  iintro ⟨HB, HO⟩
  iapply (wp_wait c A D ⟨3 * t + 1, by omega⟩ hA2 rfl rfl) $$ [HB HO]
  · isplitl [HB]; · iexact HB
    iexact HO
  iintro ⟨HB, HO⟩
  iapply (wp_wait c A D ⟨3 * t + 2, ht⟩ hA3 rfl rfl) $$ [HB HO]
  · isplitl [HB]; · iexact HB
    iexact HO
  iintro ⟨HB, HO⟩
  rw [wp_pure]
  imodintro
  isplitl [HB]; · iexact HB
  iexists _; iexact HO

end Rules

/-! ### What a transfer lands -/

section Landed

variable (c : Dev nD) {sp : Space} {s : Shape} {e : EltTy}

theorem landed (v : View sig .tc sp s e) (r : Rect s) (q : PosShare TreeShare) (fd f : Buf (Elt F) (v.loc (c : Thread nD τ)))
    (w : r.shape.Idx → Elt F e) (X : s.Idx → Elt F e) (h : ∀ x, X (r.emb x) = w x) :
    ((v.loc (c : Thread nD τ) ↦[(v.slice r).set]{q} (v.slice r).write (Elt F) fd w Finset.univ : sProp 𝕄))
      = v.loc (c : Thread nD τ) ↦[(v.slice r).set]{q} v.write (Elt F) f X Finset.univ := by
  refine pointsTo_congr fun i hi => ?_
  obtain ⟨x, -, rfl⟩ := Finset.mem_map.mp hi
  rw [View.write_emb_of_mem _ _ (Finset.mem_univ x), show (v.slice r).emb x = v.emb (r.emb x) from rfl,
    View.write_emb_of_mem _ _ (Finset.mem_univ (r.emb x)), h]

theorem landed_reshape (v : View sig .tc sp s e) (r : Rect s) {s' : Shape} (hn : s'.numel = r.shape.numel) (q : PosShare TreeShare)
    (fd f : Buf (Elt F) (v.loc (c : Thread nD τ)))
    (w : s'.Idx → Elt F e) (X : s.Idx → Elt F e) (h : ∀ x, X (r.emb (Shape.reshapeEquiv hn x)) = w x) :
    ((v.loc (c : Thread nD τ) ↦[((v.slice r).reshape s' hn).set]{q} ((v.slice r).reshape s' hn).write (Elt F) fd w Finset.univ : sProp 𝕄))
      = v.loc (c : Thread nD τ) ↦[(v.slice r).set]{q} v.write (Elt F) f X Finset.univ := by
  rw [View.set_reshape]
  refine pointsTo_congr fun i hi => ?_
  rw [← View.set_reshape (v.slice r) hn] at hi
  obtain ⟨x, -, rfl⟩ := Finset.mem_map.mp hi
  rw [View.write_emb_of_mem _ _ (Finset.mem_univ x), show ((v.slice r).reshape s' hn).emb x = v.emb (r.emb (Shape.reshapeEquiv hn x)) from rfl,
    View.write_emb_of_mem _ _ (Finset.mem_univ (r.emb (Shape.reshapeEquiv hn x))), h]

/-- Elements not in a family of parts, and the parts. -/
theorem parts {ℓ : Loc nD τ sig} {q : PosShare TreeShare} (f : Buf (Elt F) ℓ) (U : Finset (Idx ℓ)) (n : ℕ) (K : ℕ → Finset (Idx ℓ))
    (hU : ∀ t, K t ⊆ U) (hd : ∀ t < n, ∀ t' < n, t ≠ t' → Disjoint (K t) (K t')) :
    (ℓ ↦[U]{q} f : sProp 𝕄) = iprop(bigSep (Finset.range n) (fun t => ℓ ↦[K t]{q} f) ∗ ℓ ↦[U \ (Finset.range n).biUnion K]{q} f) := by
  have h := pointsTo_split_subset (Ix := Unit) (Name := ℕ) (U := Pipeline.UD sig nD τ) (Lvl := ℕ) (q := q) (f := f)
    (Finset.biUnion_subset.mpr fun t (_ : t ∈ Finset.range n) => hU t)
  rw [BI.equiv_iff.mp ⟨h.1, h.2⟩, pointsTo_biUnion (Finset.range n) K fun t ht t' ht' => hd t (Finset.mem_range.mp ht) t' (Finset.mem_range.mp ht')]

theorem thirds (n : ℕ) (D : ℕ → sProp 𝕄) :
    bigSep (Finset.range (3 * n)) D = bigSep (Finset.range n) fun t => iprop(D (3 * t) ∗ D (3 * t + 1) ∗ D (3 * t + 2)) := by
  induction n with
  | zero => rfl
  | succ n ih =>
    rw [show 3 * (n + 1) = 3 * n + 1 + 1 + 1 by omega, BI.bigSep_range_succ, BI.bigSep_range_succ, BI.bigSep_range_succ, BI.bigSep_range_succ, ih]
    refine BI.equiv_iff.mp ⟨?_, ?_⟩
    · show (_ : sProp 𝕄) ⊢ _
      iintro ⟨H2, H1, H0, H⟩
      isplitr [H]; swap; · iexact H
      isplitl [H0]; · iexact H0
      isplitl [H1]; · iexact H1
      iexact H2
    · show (_ : sProp 𝕄) ⊢ _
      iintro ⟨⟨H0, H1, H2⟩, H⟩
      isplitl [H2]; · iexact H2
      isplitl [H1]; · iexact H1
      isplitl [H0]; · iexact H0
      iexact H

end Landed

/-! ### The panels -/

section Panels

theorem p545 : ∀ a, 0 < S545x11008.size a := by decide
theorem p8w : ∀ a, 0 < S8x11008.size a := by decide
theorem p128 : ∀ a, 0 < S128x11008.size a := by decide

/-- Panel `t`'s place in the buffer of packed words, its tail's place, its place among the scales, -/
def r7a (t : ℕ) : Rect S4416x128 := Rect.unit (s := S4416x128) ![552 * (t % 8), 0] S544x128.size (by
  intro a; fin_cases a
  · show 552 * (t % 8) + 544 ≤ 4416; omega
  · show 0 + 128 ≤ 128; omega)
def r7b (t : ℕ) : Rect S4416x128 := Rect.unit (s := S4416x128) ![552 * (t % 8) + 544, 0] S8x128.size (by
  intro a; fin_cases a
  · show 552 * (t % 8) + 544 + 8 ≤ 4416; omega
  · show 0 + 128 ≤ 128; omega)
def r8 (t : ℕ) : Rect S8x128x128 := Rect.unit (s := S8x128x128) ![t % 8, 0, 0] S1x128x128.size (by
  intro a; fin_cases a
  · show t % 8 + 1 ≤ 8; omega
  · show 0 + 128 ≤ 128; omega
  · show 0 + 128 ≤ 128; omega)
/-- and where block `T`'s panel `t` lies in the three arrays. -/
def r2 (T t : ℕ) : Rect S545x11008 := Rect.unit (s := S545x11008) ![0, 128 * ((8 * T + t) % 86)] S544x128.size (by
  intro a; fin_cases a
  · show 0 + 544 ≤ 545; omega
  · show 128 * ((8 * T + t) % 86) + 128 ≤ 11008; omega)
def r3 (T t : ℕ) : Rect S8x11008 := Rect.unit (s := S8x11008) ![0, 128 * ((8 * T + t) % 86)] S8x128.size (by
  intro a; fin_cases a
  · show 0 + 8 ≤ 8; omega
  · show 128 * ((8 * T + t) % 86) + 128 ≤ 11008; omega)
def r4 (T t : ℕ) : Rect S128x11008 := Rect.unit (s := S128x11008) ![0, 128 * ((8 * T + t) % 86)] S128x128.size (by
  intro a; fin_cases a
  · show 0 + 128 ≤ 128; omega
  · show 128 * ((8 * T + t) % 86) + 128 ≤ 11008; omega)

/-- The buffer of packed words once the first `n` panels have landed; -/
def slabs (T n : ℕ) (Q : S545x11008.Idx → Elt F .i32) (Tl : S8x11008.Idx → Elt F .i32) (X : S4416x128.Idx → Elt F .i32) :
    S4416x128.Idx → Elt F .i32 := fun y =>
  if (y 0).val / 552 < n then
    if (y 0).val % 552 < 544 then Q (at2 p545 ![(y 0).val % 552, 128 * ((8 * T + (y 0).val / 552) % 86) + (y 1).val])
    else Tl (at2 p8w ![(y 0).val % 552 - 544, 128 * ((8 * T + (y 0).val / 552) % 86) + (y 1).val])
  else X y
/-- the scales. -/
def scal (T n : ℕ) (Sc : S128x11008.Idx → Elt F .bf16) (X : S8x128x128.Idx → Elt F .bf16) : S8x128x128.Idx → Elt F .bf16 := fun y =>
  if (y 0).val < n then Sc (at2 p128 ![(y 1).val, 128 * ((8 * T + (y 0).val) % 86) + (y 2).val]) else X y

variable (T n : ℕ) (Q : S545x11008.Idx → Elt F .i32) (Tl : S8x11008.Idx → Elt F .i32) (Sc : S128x11008.Idx → Elt F .bf16)
  (X7 : S4416x128.Idx → Elt F .i32) (X8 : S8x128x128.Idx → Elt F .bf16)

theorem slabs_a (hn : n ≤ 8) (t : ℕ) (ht : t < n) (x : (r7a t).shape.Idx) : slabs T n Q Tl X7 ((r7a t).emb x) = Q ((r2 T t).emb x) := by
  have hx0 : (x 0).val < 544 := (x 0).isLt
  have h0 : (((r7a t).emb x) 0).val = 552 * (t % 8) + 1 * (x 0).val := rfl
  have h1 : (((r7a t).emb x) 1).val = 0 + 1 * (x 1).val := rfl
  unfold slabs
  rw [h0, h1, if_pos (by omega), if_pos (by omega), show (552 * (t % 8) + 1 * (x 0).val) % 552 = (x 0).val by omega,
    show (552 * (t % 8) + 1 * (x 0).val) / 552 = t by omega]
  refine congrArg Q (at2_of p545 _ _ fun a => ?_)
  fin_cases a
  · show 0 + 1 * (x 0).val = (x 0).val; omega
  · show 128 * ((8 * T + t) % 86) + 1 * (x 1).val = 128 * ((8 * T + t) % 86) + (0 + 1 * (x 1).val); omega

theorem slabs_b (hn : n ≤ 8) (t : ℕ) (ht : t < n) (x : (r7b t).shape.Idx) : slabs T n Q Tl X7 ((r7b t).emb x) = Tl ((r3 T t).emb x) := by
  have hx0 : (x 0).val < 8 := (x 0).isLt
  have h0 : (((r7b t).emb x) 0).val = 552 * (t % 8) + 544 + 1 * (x 0).val := rfl
  have h1 : (((r7b t).emb x) 1).val = 0 + 1 * (x 1).val := rfl
  unfold slabs
  rw [h0, h1, if_pos (by omega), if_neg (by omega), show (552 * (t % 8) + 544 + 1 * (x 0).val) % 552 - 544 = (x 0).val by omega,
    show (552 * (t % 8) + 544 + 1 * (x 0).val) / 552 = t by omega]
  refine congrArg Tl (at2_of p8w _ _ fun a => ?_)
  fin_cases a
  · show 0 + 1 * (x 0).val = (x 0).val; omega
  · show 128 * ((8 * T + t) % 86) + 1 * (x 1).val = 128 * ((8 * T + t) % 86) + (0 + 1 * (x 1).val); omega

theorem num8 : S128x128.numel = S1x128x128.numel := by decide

theorem squeezed (x : S128x128.Idx) (hn : S128x128.numel = S1x128x128.numel) :
    (Shape.reshapeEquiv hn x 0).val = 0 ∧ (Shape.reshapeEquiv hn x 1).val = (x 0).val ∧ (Shape.reshapeEquiv hn x 2).val = (x 1).val := by
  have h : Shape.reshapeEquiv hn x = (Fin.cons ⟨0, Nat.one_pos⟩ x : S1x128x128.Idx) := Shape.reshapeEquiv_cons_one (d := ![128, 128]) hn x
  rw [h]
  exact ⟨rfl, rfl, rfl⟩

theorem scal_c (hn8 : n ≤ 8) (t : ℕ) (ht : t < n) (hn : S128x128.numel = S1x128x128.numel) (x : S128x128.Idx) :
    scal T n Sc X8 ((r8 t).emb (Shape.reshapeEquiv hn x)) = Sc ((r4 T t).emb x) := by
  obtain ⟨e0, e1, e2⟩ := squeezed x hn
  have h0 : (((r8 t).emb (Shape.reshapeEquiv hn x)) 0).val = t % 8 + 1 * (Shape.reshapeEquiv hn x 0).val := rfl
  have h1 : (((r8 t).emb (Shape.reshapeEquiv hn x)) 1).val = 0 + 1 * (Shape.reshapeEquiv hn x 1).val := rfl
  have h2 : (((r8 t).emb (Shape.reshapeEquiv hn x)) 2).val = 0 + 1 * (Shape.reshapeEquiv hn x 2).val := rfl
  unfold scal
  rw [h0, h1, h2, e0, e1, e2, if_pos (by omega), show t % 8 + 1 * 0 = t by omega]
  refine congrArg Sc (at2_of p128 _ _ fun a => ?_)
  fin_cases a
  · show 0 + 1 * (x 0).val = 0 + 1 * (x 0).val; rfl
  · show 128 * ((8 * T + t) % 86) + 1 * (x 1).val = 128 * ((8 * T + t) % 86) + (0 + 1 * (x 1).val); omega

end Panels

/-! ### The two loops of copies -/

section Loops

variable (c : Dev nD) (arg2 : Memref sig .tc .hbm S545x11008 .i32) (arg3 : Memref sig .tc .hbm S8x11008 .i32)
  (arg4 : Memref sig .tc .hbm S128x11008 .bf16) (arg7 : Memref sig .tc .vmem S4416x128 .i32) (arg8 : Memref sig .tc .vmem S8x128x128 .bf16)
  (sem : DmaSem sig)

section At

variable (o7a o2 o7b o3 : Fin 2 → ℕ) (o8 : Fin 3 → ℕ) (o4 : Fin 2 → ℕ)
  (i7a : ∀ a, o7a a + S544x128.size a ≤ S4416x128.size a) (i2 : ∀ a, o2 a + S544x128.size a ≤ S545x11008.size a)
  (i7b : ∀ a, o7b a + S8x128.size a ≤ S4416x128.size a) (i3 : ∀ a, o3 a + S8x128.size a ≤ S8x11008.size a)
  (i8 : ∀ a, o8 a + S1x128x128.size a ≤ S8x128x128.size a) (i4 : ∀ a, o4 a + S128x128.size a ≤ S128x11008.size a)
  (w4 : (arg4.slice (Rect.unit (s := S128x11008) o4 S128x128.size i4) (fun _ => rfl)).view.WordExact)
  (w8 : ((arg8.slice (Rect.unit (s := S8x128x128) o8 S1x128x128.size i8) (fun _ => rfl)).squeeze S128x128 squeezes_S1x128x128_S128x128).view.WordExact)

def startAt : P₀ F Unit :=
  startStep (arg2.slice (Rect.unit (s := S545x11008) o2 S544x128.size i2) (fun _ => rfl))
    (arg7.slice (Rect.unit (s := S4416x128) o7a S544x128.size i7a) (fun _ => rfl))
    (arg3.slice (Rect.unit (s := S8x11008) o3 S8x128.size i3) (fun _ => rfl))
    (arg7.slice (Rect.unit (s := S4416x128) o7b S8x128.size i7b) (fun _ => rfl))
    (arg4.slice (Rect.unit (s := S128x11008) o4 S128x128.size i4) (fun _ => rfl))
    ((arg8.slice (Rect.unit (s := S8x128x128) o8 S1x128x128.size i8) (fun _ => rfl)).squeeze S128x128 squeezes_S1x128x128_S128x128)
    sem (View.wordExact_bits rfl) (View.wordExact_bits rfl) (View.wordExact_bits rfl) (View.wordExact_bits rfl) w4 w8

def waitAt : P₀ F Unit :=
  waitStep (arg2.slice (Rect.unit (s := S545x11008) o2 S544x128.size i2) (fun _ => rfl))
    (arg7.slice (Rect.unit (s := S4416x128) o7a S544x128.size i7a) (fun _ => rfl))
    (arg3.slice (Rect.unit (s := S8x11008) o3 S8x128.size i3) (fun _ => rfl))
    (arg7.slice (Rect.unit (s := S4416x128) o7b S8x128.size i7b) (fun _ => rfl))
    (arg4.slice (Rect.unit (s := S128x11008) o4 S128x128.size i4) (fun _ => rfl))
    ((arg8.slice (Rect.unit (s := S8x128x128) o8 S1x128x128.size i8) (fun _ => rfl)).squeeze S128x128 squeezes_S1x128x128_S128x128)
    sem (View.wordExact_bits rfl) (View.wordExact_bits rfl) (View.wordExact_bits rfl) (View.wordExact_bits rfl) w4 w8

end At

section Fams

variable (T n : ℕ) (f2 : Buf (Elt F) (arg2.view.loc (c : Thread nD τ))) (f3 : Buf (Elt F) (arg3.view.loc (c : Thread nD τ)))
  (f4 : Buf (Elt F) (arg4.view.loc (c : Thread nD τ))) (f7 : Buf (Elt F) (arg7.view.loc (c : Thread nD τ)))
  (f8 : Buf (Elt F) (arg8.view.loc (c : Thread nD τ)))

/-- The packed words' buffer, and the scales' buffer, after the copies. -/
def new7 : Buf (Elt F) (arg7.view.loc (c : Thread nD τ)) :=
  arg7.view.write (Elt F) f7 (slabs T n (arg2.view.read (Elt F) f2) (arg3.view.read (Elt F) f3) (arg7.view.read (Elt F) f7)) Finset.univ
def new8 : Buf (Elt F) (arg8.view.loc (c : Thread nD τ)) :=
  arg8.view.write (Elt F) f8 (scal T n (arg4.view.read (Elt F) f4) (arg8.view.read (Elt F) f8)) Finset.univ

/-- What panel `t`'s three transfers take, -/
def Bef (t : ℕ) : sProp 𝕄 :=
  iprop((arg2.view.loc (c : Thread nD τ) ↦[(arg2.view.slice (r2 T t)).set]{fullShare} f2)
    ∗ (arg7.view.loc (c : Thread nD τ) ↦[(arg7.view.slice (r7a t)).set]{fullShare} f7)
    ∗ (arg3.view.loc (c : Thread nD τ) ↦[(arg3.view.slice (r3 T t)).set]{fullShare} f3)
    ∗ (arg7.view.loc (c : Thread nD τ) ↦[(arg7.view.slice (r7b t)).set]{fullShare} f7)
    ∗ (arg4.view.loc (c : Thread nD τ) ↦[(arg4.view.slice (r4 T t)).set]{fullShare} f4)
    ∗ (((arg8.slice (r8 t) (fun _ => rfl)).squeeze S128x128 squeezes_S1x128x128_S128x128).view.loc (c : Thread nD τ)
        ↦[((arg8.slice (r8 t) (fun _ => rfl)).squeeze S128x128 squeezes_S1x128x128_S128x128).view.set]{fullShare} f8))
/-- and what each gives back. -/
def DelA (t : ℕ) : sProp 𝕄 :=
  iprop((arg7.view.loc (c : Thread nD τ) ↦[(arg7.view.slice (r7a t)).set]{fullShare} new7 c arg2 arg3 arg7 T n f2 f3 f7)
    ∗ (arg2.view.loc (c : Thread nD τ) ↦[(arg2.view.slice (r2 T t)).set]{fullShare} f2))
def DelB (t : ℕ) : sProp 𝕄 :=
  iprop((arg7.view.loc (c : Thread nD τ) ↦[(arg7.view.slice (r7b t)).set]{fullShare} new7 c arg2 arg3 arg7 T n f2 f3 f7)
    ∗ (arg3.view.loc (c : Thread nD τ) ↦[(arg3.view.slice (r3 T t)).set]{fullShare} f3))
def DelC (t : ℕ) : sProp 𝕄 :=
  iprop((arg8.view.loc (c : Thread nD τ) ↦[(arg8.view.slice (r8 t)).set]{fullShare} new8 c arg4 arg8 T n f4 f8)
    ∗ (arg4.view.loc (c : Thread nD τ) ↦[(arg4.view.slice (r4 T t)).set]{fullShare} f4))
def Del (j : ℕ) : sProp 𝕄 :=
  if j % 3 = 0 then DelA c arg2 arg3 arg7 T n f2 f3 f7 (j / 3)
  else if j % 3 = 1 then DelB c arg2 arg3 arg7 T n f2 f3 f7 (j / 3)
  else DelC c arg4 arg8 T n f4 f8 (j / 3)
def DelF (τ' : Fin (3 * n)) : sProp 𝕄 := Del c arg2 arg3 arg4 arg7 arg8 T n f2 f3 f4 f7 f8 τ'.val

instance (τ' : Fin (3 * n)) : Storable upEmb (DelF c arg2 arg3 arg4 arg7 arg8 T n f2 f3 f4 f7 f8 τ') := by
  unfold DelF Del DelA DelB DelC
  split_ifs <;> infer_instance

theorem Del_a (t : ℕ) : Del c arg2 arg3 arg4 arg7 arg8 T n f2 f3 f4 f7 f8 (3 * t) = DelA c arg2 arg3 arg7 T n f2 f3 f7 t := by
  unfold Del; rw [if_pos (by omega), show 3 * t / 3 = t by omega]
theorem Del_b (t : ℕ) : Del c arg2 arg3 arg4 arg7 arg8 T n f2 f3 f4 f7 f8 (3 * t + 1) = DelB c arg2 arg3 arg7 T n f2 f3 f7 t := by
  unfold Del; rw [if_neg (by omega), if_pos (by omega), show (3 * t + 1) / 3 = t by omega]
theorem Del_c (t : ℕ) : Del c arg2 arg3 arg4 arg7 arg8 T n f2 f3 f4 f7 f8 (3 * t + 2) = DelC c arg4 arg8 T n f4 f8 t := by
  unfold Del; rw [if_neg (by omega), if_neg (by omega), show (3 * t + 2) / 3 = t by omega]

/-- The units the transfers raise the semaphore by. -/
def crd (τ' : Fin (3 * n)) : ℕ :=
  if τ'.val % 3 = 0 then (arg7.view.slice (r7a 0)).dmaCredit
  else if τ'.val % 3 = 1 then (arg7.view.slice (r7b 0)).dmaCredit
  else ((arg8.view.slice (r8 0)).reshape S128x128 (by decide)).dmaCredit

theorem crd_a (t : ℕ) (h : 3 * t < 3 * n) : crd arg7 arg8 n ⟨3 * t, h⟩ = (arg7.view.slice (r7a 0)).dmaCredit := by
  unfold crd; dsimp only; rw [if_pos (by omega)]
theorem crd_b (t : ℕ) (h : 3 * t + 1 < 3 * n) : crd arg7 arg8 n ⟨3 * t + 1, h⟩ = (arg7.view.slice (r7b 0)).dmaCredit := by
  unfold crd; dsimp only; rw [if_neg (by omega), if_pos (by omega)]
theorem crd_c (t : ℕ) (h : 3 * t + 2 < 3 * n) : crd arg7 arg8 n ⟨3 * t + 2, h⟩ = ((arg8.view.slice (r8 0)).reshape S128x128 (by decide)).dmaCredit := by
  unfold crd; dsimp only; rw [if_neg (by omega), if_neg (by omega)]
theorem crd_pos (τ' : Fin (3 * n)) : 0 < crd arg7 arg8 n τ' := by
  unfold crd
  split_ifs
  · exact View.dmaCredit_pos _ (by decide)
  · exact View.dmaCredit_pos _ (by decide)
  · exact View.dmaCredit_pos _ (by decide)

theorem wp_startAt (hn : n ≤ 8) (t : ℕ) (ht : t < n) (o7a o2 o7b o3 : Fin 2 → ℕ) (o8 : Fin 3 → ℕ) (o4 : Fin 2 → ℕ) {i7a i2 i7b i3 i8 i4 w4 w8}
    (e7a : o7a = ![552 * (t % 8), 0]) (e2 : o2 = ![0, 128 * ((8 * T + t) % 86)])
    (e7b : o7b = ![552 * (t % 8) + 544, 0]) (e3 : o3 = ![0, 128 * ((8 * T + t) % 86)])
    (e8 : o8 = ![t % 8, 0, 0]) (e4 : o4 = ![0, 128 * ((8 * T + t) % 86)]) :
    (iprop(Bef c arg2 arg3 arg4 arg7 arg8 T f2 f3 f4 f7 f8 t
      ∗ Transfers.MixedBatch EC (c : Thread nD τ) (.dma sem) () (crd arg7 arg8 n) (DelF c arg2 arg3 arg4 arg7 arg8 T n f2 f3 f4 f7 f8) (3 * t) 0) : sProp 𝕄)
      ⊢ wp frame (wpE (defs₀ (F := F)) 𝒱₀ c none) Set.univ (startAt arg2 arg3 arg4 arg7 arg8 sem o7a o2 o7b o3 o8 o4 i7a i2 i7b i3 i8 i4 w4 w8) fun _ =>
        Transfers.MixedBatch EC (c : Thread nD τ) (.dma sem) () (crd arg7 arg8 n) (DelF c arg2 arg3 arg4 arg7 arg8 T n f2 f3 f4 f7 f8) (3 * (t + 1)) 0 := by
  subst e7a e2 e7b e3 e8 e4
  unfold Bef startAt
  refine wp_startStep (s1 := arg2.slice (r2 T t) (fun _ => rfl)) (d1 := arg7.slice (r7a t) (fun _ => rfl))
    (s2 := arg3.slice (r3 T t) (fun _ => rfl)) (d2 := arg7.slice (r7b t) (fun _ => rfl))
    (s3 := arg4.slice (r4 T t) (fun _ => rfl))
    (d3 := (arg8.slice (r8 t) (fun _ => rfl)).squeeze S128x128 squeezes_S1x128x128_S128x128)
    (f1 := f2) (e1 := f7) (f2 := f3) (e2 := f7) (f3 := f4) (e3 := f8) c _ _ t (by omega) ?_ ?_ ?_ ?_ ?_ ?_
  · rw [crd_a]; rfl
  · rw [crd_b]; rfl
  · rw [crd_c]
  · show _ ⊢ Del c arg2 arg3 arg4 arg7 arg8 T n f2 f3 f4 f7 f8 (3 * t)
    rw [Del_a]
    have h := landed c arg7.view (r7a t) fullShare f7 f7 ((arg2.view.slice (r2 T t)).read (Elt F) f2)
      (slabs T n (arg2.view.read (Elt F) f2) (arg3.view.read (Elt F) f3) (arg7.view.read (Elt F) f7))
      fun x => (slabs_a T n _ _ _ hn t ht x).trans rfl
    unfold DelA new7
    rw [← h]
    exact .rfl
  · show _ ⊢ Del c arg2 arg3 arg4 arg7 arg8 T n f2 f3 f4 f7 f8 (3 * t + 1)
    rw [Del_b]
    have h := landed c arg7.view (r7b t) fullShare f7 f7 ((arg3.view.slice (r3 T t)).read (Elt F) f3)
      (slabs T n (arg2.view.read (Elt F) f2) (arg3.view.read (Elt F) f3) (arg7.view.read (Elt F) f7))
      fun x => (slabs_b T n _ _ _ hn t ht x).trans rfl
    unfold DelB new7
    rw [← h]
    exact .rfl
  · show _ ⊢ Del c arg2 arg3 arg4 arg7 arg8 T n f2 f3 f4 f7 f8 (3 * t + 2)
    rw [Del_c]
    have h := landed_reshape c arg8.view (r8 t) (s' := S128x128) num8 fullShare f8 f8 ((arg4.view.slice (r4 T t)).read (Elt F) f4)
      (scal T n (arg4.view.read (Elt F) f4) (arg8.view.read (Elt F) f8))
      fun x => (scal_c T n _ _ hn t ht num8 x).trans rfl
    unfold DelC new8
    rw [← h]
    exact .rfl

theorem wp_waitAt (t : ℕ) (ht : t < n) (o7a o2 o7b o3 : Fin 2 → ℕ) (o8 : Fin 3 → ℕ) (o4 : Fin 2 → ℕ) {i7a i2 i7b i3 i8 i4 w4 w8} :
    (iprop(Transfers.MixedBatch EC (c : Thread nD τ) (.dma sem) () (crd arg7 arg8 n) (DelF c arg2 arg3 arg4 arg7 arg8 T n f2 f3 f4 f7 f8) (3 * n)
        (Transfers.sumTo (crd arg7 arg8 n) (3 * t)) ∗ ∃ W, owes (c : Thread nD τ) (0 : CellTallies nD τ sig Unit) W) : sProp 𝕄)
      ⊢ wp frame (wpE (defs₀ (F := F)) 𝒱₀ c none) Set.univ (waitAt arg2 arg3 arg4 arg7 arg8 sem o7a o2 o7b o3 o8 o4 i7a i2 i7b i3 i8 i4 w4 w8) fun _ =>
        iprop(Transfers.MixedBatch EC (c : Thread nD τ) (.dma sem) () (crd arg7 arg8 n) (DelF c arg2 arg3 arg4 arg7 arg8 T n f2 f3 f4 f7 f8) (3 * n)
          (Transfers.sumTo (crd arg7 arg8 n) (3 * (t + 1))) ∗ ∃ W, owes (c : Thread nD τ) (0 : CellTallies nD τ sig Unit) W) := by
  refine wp_waitStep c _ _ t (by omega) ?_ ?_ ?_
  · rw [crd_a]; rfl
  · rw [crd_b]; rfl
  · rw [crd_c]

end Fams

end Loops

end Cert.Proof

end
-- ==== Proof.Panels.lean ====
/-
  The two loops of copies in full: what they take of the arrays and buffers and what they give back.
-/
module

public import proofs.«01_k».proof.Proof.Copies
public import Idealize.ShloMosaic.Lib.MixedBatch
public import Idealize.ShloMosaic.Lib.ReshapeSlab
public import Idealize.ShloMosaic.Lib.Ring
public import Idealize.SL.BI.BigOpNat

@[expose] public section

noncomputable section

namespace Cert.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ### Taking the buffers apart and putting them back together -/

section Whole

variable (c : Dev nD) (arg2 : Memref sig .tc .hbm S545x11008 .i32) (arg3 : Memref sig .tc .hbm S8x11008 .i32)
  (arg4 : Memref sig .tc .hbm S128x11008 .bf16) (arg7 : Memref sig .tc .vmem S4416x128 .i32) (arg8 : Memref sig .tc .vmem S8x128x128 .bf16)
  (sem : DmaSem sig)
  (T n : ℕ) (f2 : Buf (Elt F) (arg2.view.loc (c : Thread nD τ))) (f3 : Buf (Elt F) (arg3.view.loc (c : Thread nD τ)))
  (f4 : Buf (Elt F) (arg4.view.loc (c : Thread nD τ))) (f7 : Buf (Elt F) (arg7.view.loc (c : Thread nD τ)))
  (f8 : Buf (Elt F) (arg8.view.loc (c : Thread nD τ)))

theorem two7 (t : ℕ) (f : Buf (Elt F) (arg7.view.loc (c : Thread nD τ))) :
    (arg7.view.loc (c : Thread nD τ) ↦[(arg7.view.slice (r7a t)).set ∪ (arg7.view.slice (r7b t)).set]{fullShare} f : sProp 𝕄)
      = iprop((arg7.view.loc (c : Thread nD τ) ↦[(arg7.view.slice (r7a t)).set]{fullShare} f)
        ∗ (arg7.view.loc (c : Thread nD τ) ↦[(arg7.view.slice (r7b t)).set]{fullShare} f)) :=
  let h := pointsTo_union (Ix := Unit) (Name := ℕ) (U := Pipeline.UD sig nD τ) (Lvl := ℕ) (q := fullShare) (f := f)
    (View.disjoint_slice_of_sep arg7.view (r7a t) (r7b t) 0 rfl rfl (Or.inl (le_refl (552 * (t % 8) + 544))))
  BI.equiv_iff.mp ⟨h.1, h.2⟩

/-- The places of different panels are apart. -/
theorem apart7 (hn : n ≤ 8) (t : ℕ) (ht : t < n) (t' : ℕ) (ht' : t' < n) (h : t ≠ t') :
    Disjoint ((arg7.view.slice (r7a t)).set ∪ (arg7.view.slice (r7b t)).set) ((arg7.view.slice (r7a t')).set ∪ (arg7.view.slice (r7b t')).set) := by
  rw [Finset.disjoint_union_left, Finset.disjoint_union_right, Finset.disjoint_union_right]
  refine ⟨⟨View.disjoint_slice_of_sep _ _ _ 0 rfl rfl ?_, View.disjoint_slice_of_sep _ _ _ 0 rfl rfl ?_⟩,
    View.disjoint_slice_of_sep _ _ _ 0 rfl rfl ?_, View.disjoint_slice_of_sep _ _ _ 0 rfl rfl ?_⟩
  · show 552 * (t % 8) + 544 ≤ 552 * (t' % 8) ∨ 552 * (t' % 8) + 544 ≤ 552 * (t % 8); omega
  · show 552 * (t % 8) + 544 ≤ 552 * (t' % 8) + 544 ∨ 552 * (t' % 8) + 544 + 8 ≤ 552 * (t % 8); omega
  · show 552 * (t % 8) + 544 + 8 ≤ 552 * (t' % 8) ∨ 552 * (t' % 8) + 544 ≤ 552 * (t % 8) + 544; omega
  · show 552 * (t % 8) + 544 + 8 ≤ 552 * (t' % 8) + 544 ∨ 552 * (t' % 8) + 544 + 8 ≤ 552 * (t % 8) + 544; omega

theorem apart8 (hn : n ≤ 8) (t : ℕ) (ht : t < n) (t' : ℕ) (ht' : t' < n) (h : t ≠ t') :
    Disjoint (arg8.view.slice (r8 t)).set (arg8.view.slice (r8 t')).set :=
  View.disjoint_slice_of_sep _ _ _ 0 rfl rfl (by show t % 8 + 1 ≤ t' % 8 ∨ t' % 8 + 1 ≤ t % 8; omega)

theorem apart2 (hn : n ≤ 8) (hT : 8 * T + n ≤ 86) (t : ℕ) (ht : t < n) (t' : ℕ) (ht' : t' < n) (h : t ≠ t') :
    Disjoint (arg2.view.slice (r2 T t)).set (arg2.view.slice (r2 T t')).set :=
  View.disjoint_slice_of_sep _ _ _ 1 rfl rfl (by
    show 128 * ((8 * T + t) % 86) + 128 ≤ 128 * ((8 * T + t') % 86) ∨ 128 * ((8 * T + t') % 86) + 128 ≤ 128 * ((8 * T + t) % 86)
    omega)

theorem cut2 (hn : n ≤ 8) (hT : 8 * T + n ≤ 86) :
    (arg2.view.loc (c : Thread nD τ) ↦[arg2.view.set]{fullShare} f2 : sProp 𝕄)
      = iprop(bigSep (Finset.range n) (fun t => arg2.view.loc (c : Thread nD τ) ↦[(arg2.view.slice (r2 T t)).set]{fullShare} f2)
        ∗ arg2.view.loc (c : Thread nD τ) ↦[arg2.view.set \ (Finset.range n).biUnion fun t => (arg2.view.slice (r2 T t)).set]{fullShare} f2) :=
  parts f2 arg2.view.set n (fun t => (arg2.view.slice (r2 T t)).set) (fun t => View.set_slice_subset _ _) (apart2 arg2 T n hn hT)

theorem apart3 (hn : n ≤ 8) (hT : 8 * T + n ≤ 86) (t : ℕ) (ht : t < n) (t' : ℕ) (ht' : t' < n) (h : t ≠ t') :
    Disjoint (arg3.view.slice (r3 T t)).set (arg3.view.slice (r3 T t')).set :=
  View.disjoint_slice_of_sep _ _ _ 1 rfl rfl (by
    show 128 * ((8 * T + t) % 86) + 128 ≤ 128 * ((8 * T + t') % 86) ∨ 128 * ((8 * T + t') % 86) + 128 ≤ 128 * ((8 * T + t) % 86)
    omega)

theorem cut3 (hn : n ≤ 8) (hT : 8 * T + n ≤ 86) :
    (arg3.view.loc (c : Thread nD τ) ↦[arg3.view.set]{fullShare} f3 : sProp 𝕄)
      = iprop(bigSep (Finset.range n) (fun t => arg3.view.loc (c : Thread nD τ) ↦[(arg3.view.slice (r3 T t)).set]{fullShare} f3)
        ∗ arg3.view.loc (c : Thread nD τ) ↦[arg3.view.set \ (Finset.range n).biUnion fun t => (arg3.view.slice (r3 T t)).set]{fullShare} f3) :=
  parts f3 arg3.view.set n (fun t => (arg3.view.slice (r3 T t)).set) (fun t => View.set_slice_subset _ _) (apart3 arg3 T n hn hT)

theorem apart4 (hn : n ≤ 8) (hT : 8 * T + n ≤ 86) (t : ℕ) (ht : t < n) (t' : ℕ) (ht' : t' < n) (h : t ≠ t') :
    Disjoint (arg4.view.slice (r4 T t)).set (arg4.view.slice (r4 T t')).set :=
  View.disjoint_slice_of_sep _ _ _ 1 rfl rfl (by
    show 128 * ((8 * T + t) % 86) + 128 ≤ 128 * ((8 * T + t') % 86) ∨ 128 * ((8 * T + t') % 86) + 128 ≤ 128 * ((8 * T + t) % 86)
    omega)

theorem cut4 (hn : n ≤ 8) (hT : 8 * T + n ≤ 86) :
    (arg4.view.loc (c : Thread nD τ) ↦[arg4.view.set]{fullShare} f4 : sProp 𝕄)
      = iprop(bigSep (Finset.range n) (fun t => arg4.view.loc (c : Thread nD τ) ↦[(arg4.view.slice (r4 T t)).set]{fullShare} f4)
        ∗ arg4.view.loc (c : Thread nD τ) ↦[arg4.view.set \ (Finset.range n).biUnion fun t => (arg4.view.slice (r4 T t)).set]{fullShare} f4) :=
  parts f4 arg4.view.set n (fun t => (arg4.view.slice (r4 T t)).set) (fun t => View.set_slice_subset _ _) (apart4 arg4 T n hn hT)

theorem cut7 (hn : n ≤ 8) (f : Buf (Elt F) (arg7.view.loc (c : Thread nD τ))) :
    (arg7.view.loc (c : Thread nD τ) ↦[arg7.view.set]{fullShare} f : sProp 𝕄)
      = iprop(bigSep (Finset.range n) (fun t => iprop((arg7.view.loc (c : Thread nD τ) ↦[(arg7.view.slice (r7a t)).set]{fullShare} f)
          ∗ (arg7.view.loc (c : Thread nD τ) ↦[(arg7.view.slice (r7b t)).set]{fullShare} f)))
        ∗ arg7.view.loc (c : Thread nD τ) ↦[arg7.view.set \ (Finset.range n).biUnion fun t => (arg7.view.slice (r7a t)).set ∪ (arg7.view.slice (r7b t)).set]{fullShare} f) := by
  rw [parts f arg7.view.set n (fun t => (arg7.view.slice (r7a t)).set ∪ (arg7.view.slice (r7b t)).set)
    (fun t => Finset.union_subset (View.set_slice_subset _ _) (View.set_slice_subset _ _)) (apart7 arg7 n hn)]
  rw [BI.bigSep_congr fun t _ => two7 c arg7 t f]

theorem cut8 (hn : n ≤ 8) (f : Buf (Elt F) (arg8.view.loc (c : Thread nD τ))) :
    (arg8.view.loc (c : Thread nD τ) ↦[arg8.view.set]{fullShare} f : sProp 𝕄)
      = iprop(bigSep (Finset.range n) (fun t => arg8.view.loc (c : Thread nD τ) ↦[(arg8.view.slice (r8 t)).set]{fullShare} f)
        ∗ arg8.view.loc (c : Thread nD τ) ↦[arg8.view.set \ (Finset.range n).biUnion fun t => (arg8.view.slice (r8 t)).set]{fullShare} f) :=
  parts f arg8.view.set n (fun t => (arg8.view.slice (r8 t)).set) (fun t => View.set_slice_subset _ _) (apart8 arg8 n hn)

theorem q544 : ∀ a, 0 < S544x128.size a := by decide
theorem q8 : ∀ a, 0 < S8x128.size a := by decide
theorem q1 : ∀ a, 0 < S1x128x128.size a := by decide

/-- Off the panels the buffers keep what they had. -/
theorem rest7 (hn : n ≤ 8) :
    (arg7.view.loc (c : Thread nD τ) ↦[arg7.view.set \ (Finset.range n).biUnion fun t => (arg7.view.slice (r7a t)).set ∪ (arg7.view.slice (r7b t)).set]{fullShare} f7 : sProp 𝕄)
      = arg7.view.loc (c : Thread nD τ) ↦[arg7.view.set \ (Finset.range n).biUnion fun t => (arg7.view.slice (r7a t)).set ∪ (arg7.view.slice (r7b t)).set]{fullShare} new7 c arg2 arg3 arg7 T n f2 f3 f7 := by
  refine pointsTo_congr fun j hj => ?_
  obtain ⟨h1, h2⟩ := Finset.mem_sdiff.mp hj
  obtain ⟨y, -, rfl⟩ := Finset.mem_map.mp h1
  have hy : ¬ (y 0).val / 552 < n := by
    intro hlt
    refine h2 (Finset.mem_biUnion.mpr ⟨(y 0).val / 552, Finset.mem_range.mpr hlt, Finset.mem_union.mpr ?_⟩)
    have hy1 : (y 1).val < 128 := (y 1).isLt
    by_cases hc : (y 0).val % 552 < 544
    · left
      refine Finset.mem_map.mpr ⟨at2 q544 ![(y 0).val % 552, (y 1).val], Finset.mem_univ _, ?_⟩
      refine congrArg arg7.view.emb (funext fun a => Fin.ext ?_)
      fin_cases a
      · show 552 * ((y 0).val / 552 % 8) + 1 * ((y 0).val % 552 % 544) = (y 0).val; omega
      · show 0 + 1 * ((y 1).val % 128) = (y 1).val; omega
    · right
      refine Finset.mem_map.mpr ⟨at2 q8 ![(y 0).val % 552 - 544, (y 1).val], Finset.mem_univ _, ?_⟩
      refine congrArg arg7.view.emb (funext fun a => Fin.ext ?_)
      fin_cases a
      · show 552 * ((y 0).val / 552 % 8) + 544 + 1 * (((y 0).val % 552 - 544) % 8) = (y 0).val; omega
      · show 0 + 1 * ((y 1).val % 128) = (y 1).val; omega
  unfold new7
  rw [View.write_emb_of_mem _ _ (Finset.mem_univ y)]
  unfold slabs
  rw [if_neg hy, View.read_apply, cast_cast, cast_eq]

theorem rest8 (hn : n ≤ 8) :
    (arg8.view.loc (c : Thread nD τ) ↦[arg8.view.set \ (Finset.range n).biUnion fun t => (arg8.view.slice (r8 t)).set]{fullShare} f8 : sProp 𝕄)
      = arg8.view.loc (c : Thread nD τ) ↦[arg8.view.set \ (Finset.range n).biUnion fun t => (arg8.view.slice (r8 t)).set]{fullShare} new8 c arg4 arg8 T n f4 f8 := by
  refine pointsTo_congr fun j hj => ?_
  obtain ⟨h1, h2⟩ := Finset.mem_sdiff.mp hj
  obtain ⟨y, -, rfl⟩ := Finset.mem_map.mp h1
  have hy : ¬ (y 0).val < n := by
    intro hlt
    refine h2 (Finset.mem_biUnion.mpr ⟨(y 0).val, Finset.mem_range.mpr hlt, ?_⟩)
    have hy1 : (y 1).val < 128 := (y 1).isLt
    have hy2 : (y 2).val < 128 := (y 2).isLt
    refine Finset.mem_map.mpr ⟨at2 q1 ![0, (y 1).val, (y 2).val], Finset.mem_univ _, ?_⟩
    refine congrArg arg8.view.emb (funext fun a => Fin.ext ?_)
    fin_cases a
    · show (y 0).val % 8 + 1 * (0 % 1) = (y 0).val; omega
    · show 0 + 1 * ((y 1).val % 128) = (y 1).val; omega
    · show 0 + 1 * ((y 2).val % 128) = (y 2).val; omega
  unfold new8
  rw [View.write_emb_of_mem _ _ (Finset.mem_univ y)]
  unfold scal
  rw [if_neg hy, View.read_apply, cast_cast, cast_eq]

/-- The elements off the panels. -/
def Rst : sProp 𝕄 :=
  iprop((arg2.view.loc (c : Thread nD τ) ↦[arg2.view.set \ (Finset.range n).biUnion fun t => (arg2.view.slice (r2 T t)).set]{fullShare} f2)
    ∗ (arg3.view.loc (c : Thread nD τ) ↦[arg3.view.set \ (Finset.range n).biUnion fun t => (arg3.view.slice (r3 T t)).set]{fullShare} f3)
    ∗ (arg4.view.loc (c : Thread nD τ) ↦[arg4.view.set \ (Finset.range n).biUnion fun t => (arg4.view.slice (r4 T t)).set]{fullShare} f4)
    ∗ (arg7.view.loc (c : Thread nD τ) ↦[arg7.view.set \ (Finset.range n).biUnion fun t => (arg7.view.slice (r7a t)).set ∪ (arg7.view.slice (r7b t)).set]{fullShare} f7)
    ∗ (arg8.view.loc (c : Thread nD τ) ↦[arg8.view.set \ (Finset.range n).biUnion fun t => (arg8.view.slice (r8 t)).set]{fullShare} f8))

theorem Bef_eq (t : ℕ) : (Bef c arg2 arg3 arg4 arg7 arg8 T f2 f3 f4 f7 f8 t : sProp 𝕄)
    = iprop((arg2.view.loc (c : Thread nD τ) ↦[(arg2.view.slice (r2 T t)).set]{fullShare} f2)
      ∗ (arg3.view.loc (c : Thread nD τ) ↦[(arg3.view.slice (r3 T t)).set]{fullShare} f3)
      ∗ (arg4.view.loc (c : Thread nD τ) ↦[(arg4.view.slice (r4 T t)).set]{fullShare} f4)
      ∗ ((arg7.view.loc (c : Thread nD τ) ↦[(arg7.view.slice (r7a t)).set]{fullShare} f7)
      ∗ (arg7.view.loc (c : Thread nD τ) ↦[(arg7.view.slice (r7b t)).set]{fullShare} f7))
      ∗ (arg8.view.loc (c : Thread nD τ) ↦[(arg8.view.slice (r8 t)).set]{fullShare} f8)) := by
  have h8 : (((arg8.slice (r8 t) (fun _ => rfl)).squeeze S128x128 squeezes_S1x128x128_S128x128).view.loc (c : Thread nD τ)
        ↦[((arg8.slice (r8 t) (fun _ => rfl)).squeeze S128x128 squeezes_S1x128x128_S128x128).view.set]{fullShare} f8 : sProp 𝕄)
      = arg8.view.loc (c : Thread nD τ) ↦[(arg8.view.slice (r8 t)).set]{fullShare} f8 := by
    have e : ((arg8.slice (r8 t) (fun _ => rfl)).squeeze S128x128 squeezes_S1x128x128_S128x128).view.set = (arg8.view.slice (r8 t)).set :=
      View.set_reshape _ _
    rw [e]
  unfold Bef
  rw [h8]
  refine BI.equiv_iff.mp ⟨?_, ?_⟩
  · show (_ : sProp 𝕄) ⊢ _
    iintro ⟨H2, H7, H3, H7b, H4, H8⟩
    isplitl [H2]; · iexact H2
    isplitl [H3]; · iexact H3
    isplitl [H4]; · iexact H4
    isplitl [H7 H7b]
    · isplitl [H7]; · iexact H7
      iexact H7b
    iexact H8
  · show (_ : sProp 𝕄) ⊢ _
    iintro ⟨H2, H3, H4, ⟨H7, H7b⟩, H8⟩
    isplitl [H2]; · iexact H2
    isplitl [H7]; · iexact H7
    isplitl [H3]; · iexact H3
    isplitl [H7b]; · iexact H7b
    isplitl [H4]; · iexact H4
    iexact H8

theorem open_all (hn : n ≤ 8) (hT : 8 * T + n ≤ 86) :
    (iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4) ∗ (arg7.view.loc (c : Thread nD τ) ↦[arg7.view.set]{fullShare} f7)
      ∗ (arg8.view.loc (c : Thread nD τ) ↦[arg8.view.set]{fullShare} f8)) : sProp 𝕄)
      ⊢ iprop(bigSep (Finset.range n) (Bef c arg2 arg3 arg4 arg7 arg8 T f2 f3 f4 f7 f8) ∗ Rst c arg2 arg3 arg4 arg7 arg8 T n f2 f3 f4 f7 f8) := by
  rw [cut2 c arg2 T n f2 hn hT, cut3 c arg3 T n f3 hn hT, cut4 c arg4 T n f4 hn hT, cut7 c arg7 n hn f7, cut8 c arg8 n hn f8,
    BI.bigSep_congr fun t _ => Bef_eq c arg2 arg3 arg4 arg7 arg8 T f2 f3 f4 f7 f8 t]
  simp only [BI.bigSep_sep']
  unfold Rst
  iintro ⟨⟨B2, R2⟩, ⟨B3, R3⟩, ⟨B4, R4⟩, ⟨⟨B7, B7b⟩, R7⟩, ⟨B8, R8⟩⟩
  isplitl [B2 B3 B4 B7 B7b B8]
  · isplitl [B2]; · iexact B2
    isplitl [B3]; · iexact B3
    isplitl [B4]; · iexact B4
    isplitl [B7 B7b]
    · isplitl [B7]; · iexact B7
      iexact B7b
    iexact B8
  isplitl [R2]; · iexact R2
  isplitl [R3]; · iexact R3
  isplitl [R4]; · iexact R4
  isplitl [R7]; · iexact R7
  iexact R8

theorem close_all (hn : n ≤ 8) (hT : 8 * T + n ≤ 86) :
    (iprop(bigSep Finset.univ (DelF c arg2 arg3 arg4 arg7 arg8 T n f2 f3 f4 f7 f8) ∗ Rst c arg2 arg3 arg4 arg7 arg8 T n f2 f3 f4 f7 f8) : sProp 𝕄)
      ⊢ iprop((arg2.view.loc (c : Thread nD τ) ↦[arg2.view.set]{fullShare} f2) ∗ (arg3.view.loc (c : Thread nD τ) ↦[arg3.view.set]{fullShare} f3)
      ∗ (arg4.view.loc (c : Thread nD τ) ↦[arg4.view.set]{fullShare} f4)
      ∗ (arg7.view.loc (c : Thread nD τ) ↦[arg7.view.set]{fullShare} new7 c arg2 arg3 arg7 T n f2 f3 f7)
      ∗ (arg8.view.loc (c : Thread nD τ) ↦[arg8.view.set]{fullShare} new8 c arg4 arg8 T n f4 f8)) := by
  rw [Ring.bigSep_fin_eq_range (3 * n) (DelF c arg2 arg3 arg4 arg7 arg8 T n f2 f3 f4 f7 f8) (Del c arg2 arg3 arg4 arg7 arg8 T n f2 f3 f4 f7 f8) fun t h => rfl, thirds,
    BI.bigSep_congr fun t _ => show iprop(Del c arg2 arg3 arg4 arg7 arg8 T n f2 f3 f4 f7 f8 (3 * t) ∗ Del c arg2 arg3 arg4 arg7 arg8 T n f2 f3 f4 f7 f8 (3 * t + 1) ∗ Del c arg2 arg3 arg4 arg7 arg8 T n f2 f3 f4 f7 f8 (3 * t + 2))
      = (iprop(DelA c arg2 arg3 arg7 T n f2 f3 f7 t ∗ DelB c arg2 arg3 arg7 T n f2 f3 f7 t ∗ DelC c arg4 arg8 T n f4 f8 t) : sProp 𝕄) by
        rw [Del_a, Del_b, Del_c]]
  unfold Rst DelA DelB DelC
  rw [rest7 c arg2 arg3 arg7 T n f2 f3 f7 hn, rest8 c arg4 arg8 T n f4 f8 hn,
    cut2 c arg2 T n f2 hn hT, cut3 c arg3 T n f3 hn hT, cut4 c arg4 T n f4 hn hT, cut7 c arg7 n hn, cut8 c arg8 n hn]
  simp only [BI.bigSep_sep']
  iintro ⟨⟨⟨A7, A2⟩, ⟨B7, B3⟩, C8, C4⟩, R2, R3, R4, R7, R8⟩
  isplitl [A2 R2]; · isplitl [A2]; · iexact A2
                     iexact R2
  isplitl [B3 R3]; · isplitl [B3]; · iexact B3
                     iexact R3
  isplitl [C4 R4]; · isplitl [C4]; · iexact C4
                     iexact R4
  isplitl [A7 B7 R7]
  · isplitl [A7 B7]
    · isplitl [A7]; · iexact A7
      iexact B7
    iexact R7
  isplitl [C8]; · iexact C8
  iexact R8

end Whole

end Cert.Proof

end
-- ==== Proof.Table.lean ====
/-
  The table of the permuted columns: 4096 words, the word of column `perm[r]` saying where the codes of row `r` lie in the packed
  matrix: the word's row there, the place of the code's lowest bit in it, whether the code runs on into the next word, its
  number of bits, and the row of its scale. Six counted loops write it, one for each number of bits.
-/
module

public import proofs.«01_k».proof.Proof.Steps

@[expose] public section

noncomputable section

namespace Cert.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The number of bits of row `r`'s codes. -/
def bitsOf (r : ℕ) : ℕ := if r < 160 then 8 else if r < 640 then 6 else if r < 1504 then 5 else if r < 2976 then 4 else if r < 3808 then 3 else 2

/-- The first row with that number of bits. -/
def rowOf (r : ℕ) : ℕ := if r < 160 then 0 else if r < 640 then 160 else if r < 1504 then 640 else if r < 2976 then 1504 else if r < 3808 then 2976 else 3808

/-- The packed row where the codes of those rows begin. -/
def wordOf (r : ℕ) : ℕ := if r < 160 then 0 else if r < 640 then 40 else if r < 1504 then 130 else if r < 2976 then 265 else if r < 3808 then 449 else 527

/-- The packed row of row `r`'s lowest bit. -/
def w0Of (r : ℕ) : ℕ := wordOf r + (r - rowOf r) * bitsOf r / 32

/-- The place of that bit in its word. -/
def sOf (r : ℕ) : ℕ := (r - rowOf r) * bitsOf r % 32

/-- One if the code runs on into the next word. -/
def strOf (r : ℕ) : ℕ := if 32 < sOf r + bitsOf r then 1 else 0

/-- Row `r`'s word of the table. -/
def entry (r : ℕ) : BitVec 32 := BitVec.ofNat 32 (w0Of r + strOf r * 1024 + sOf r * 2048 + bitsOf r * 65536 + r / 32 * 1048576)

/-- What the rows of one group of 32 share. -/
def wordAt (w b u iv : BitVec 32) : BitVec 32 := Scalar.ori (Scalar.addi w (Scalar.muli iv b)) (Scalar.shli (Scalar.addi u iv) 20#32)

/-- What row `j` of a group adds. -/
def wordRow (b j : ℕ) : BitVec 32 :=
  BitVec.ofNat 32 (j * b / 32 + (if 32 < j * b % 32 + b then 1024 else 0) + j * b % 32 * 2048 + b * 65536)

section

variable (c : Dev nD) (q : PosShare TreeShare) (i : grid1.Coords) (arg1 : Memref sig .tc .smem S4096 .i32) (harg1 : arg1.IsWhole) (arg2 : Memref sig .tc .hbm S545x11008 .i32) (harg2 : arg2.IsWhole) (arg3 : Memref sig .tc .hbm S8x11008 .i32) (harg3 : arg3.IsWhole) (arg4 : Memref sig .tc .hbm S128x11008 .bf16) (harg4 : arg4.IsWhole) (arg5 : Memref sig .tc .vmem S4096x1024 .bf16) (harg5 : arg5.IsWhole) (arg6 : Memref sig .tc .smem S4096 .i32) (harg6 : arg6.IsWhole) (arg7 : Memref sig .tc .vmem S4416x128 .i32) (harg7 : arg7.IsWhole) (arg8 : Memref sig .tc .vmem S8x128x128 .bf16) (harg8 : arg8.IsWhole) (arg9 : Memref sig .tc .vmem S1024x128 .f32) (harg9 : arg9.IsWhole) (arg10 : Memref sig .tc .vmem S136x128 .f32) (harg10 : arg10.IsWhole) (arg11 : DmaSems sig S_) (k1_h1 : k1_cond1 i = 1#1)
  {X : S4096.Idx → BitVec 32} (hlt : ∀ r < 4096, (X (ix r)).toNat < 4096)
  (hinj : ∀ r < 4096, ∀ r' < 4096, (X (ix r)).toNat = (X (ix r')).toNat → r = r')

/-- Loop 1's words are the table's. -/
theorem word1 : ∀ (k : Fin k1_t1_loop.trips) (j : Fin 32),
    Scalar.addi (wordAt 0#32 8#32 0#32 (Scf.iv 0#32 1#32 k)) (wordRow 8 j.val) = entry (0 + 32 * k.val + j.val) := by
  decide +kernel

set_option maxRecDepth 65536 in
set_option maxHeartbeats 4000000 in
theorem body1_eq (k : Fin k1_t1_loop.trips) :
    k1_t1_body (F := F) i arg1 harg1 arg2 harg2 arg3 harg3 arg4 harg4 arg5 harg5 arg6 harg6 arg7 harg7 arg8 harg8 arg9 harg9 arg10 harg10 arg11 k1_h1 k () =
    (tabStep arg1 arg6 (k1_off1 k) (k1_off1_inb i k k1_h1) (k1_chk1 i) (k1_chk1.dec i) k1_off2 (fun v hw => k1_off2_inb i v hw k1_h1) (Scalar.addi (wordAt 0#32 8#32 0#32 (Scf.iv 0#32 1#32 k)) 524288#32) >>= fun _ =>
    tabStep arg1 arg6 (k1_off3 k) (k1_off3_inb i k k1_h1) (k1_chk2 i) (k1_chk2.dec i) k1_off4 (fun v hw => k1_off4_inb i v hw k1_h1) (Scalar.addi (wordAt 0#32 8#32 0#32 (Scf.iv 0#32 1#32 k)) 540672#32) >>= fun _ =>
    tabStep arg1 arg6 (k1_off5 k) (k1_off5_inb i k k1_h1) (k1_chk3 i) (k1_chk3.dec i) k1_off6 (fun v hw => k1_off6_inb i v hw k1_h1) (Scalar.addi (wordAt 0#32 8#32 0#32 (Scf.iv 0#32 1#32 k)) 557056#32) >>= fun _ =>
    tabStep arg1 arg6 (k1_off7 k) (k1_off7_inb i k k1_h1) (k1_chk4 i) (k1_chk4.dec i) k1_off8 (fun v hw => k1_off8_inb i v hw k1_h1) (Scalar.addi (wordAt 0#32 8#32 0#32 (Scf.iv 0#32 1#32 k)) 573440#32) >>= fun _ =>
    tabStep arg1 arg6 (k1_off9 k) (k1_off9_inb i k k1_h1) (k1_chk5 i) (k1_chk5.dec i) k1_off10 (fun v hw => k1_off10_inb i v hw k1_h1) (Scalar.addi (wordAt 0#32 8#32 0#32 (Scf.iv 0#32 1#32 k)) 524289#32) >>= fun _ =>
    tabStep arg1 arg6 (k1_off11 k) (k1_off11_inb i k k1_h1) (k1_chk6 i) (k1_chk6.dec i) k1_off12 (fun v hw => k1_off12_inb i v hw k1_h1) (Scalar.addi (wordAt 0#32 8#32 0#32 (Scf.iv 0#32 1#32 k)) 540673#32) >>= fun _ =>
    tabStep arg1 arg6 (k1_off13 k) (k1_off13_inb i k k1_h1) (k1_chk7 i) (k1_chk7.dec i) k1_off14 (fun v hw => k1_off14_inb i v hw k1_h1) (Scalar.addi (wordAt 0#32 8#32 0#32 (Scf.iv 0#32 1#32 k)) 557057#32) >>= fun _ =>
    tabStep arg1 arg6 (k1_off15 k) (k1_off15_inb i k k1_h1) (k1_chk8 i) (k1_chk8.dec i) k1_off16 (fun v hw => k1_off16_inb i v hw k1_h1) (Scalar.addi (wordAt 0#32 8#32 0#32 (Scf.iv 0#32 1#32 k)) 573441#32) >>= fun _ =>
    tabStep arg1 arg6 (k1_off17 k) (k1_off17_inb i k k1_h1) (k1_chk9 i) (k1_chk9.dec i) k1_off18 (fun v hw => k1_off18_inb i v hw k1_h1) (Scalar.addi (wordAt 0#32 8#32 0#32 (Scf.iv 0#32 1#32 k)) 524290#32) >>= fun _ =>
    tabStep arg1 arg6 (k1_off19 k) (k1_off19_inb i k k1_h1) (k1_chk10 i) (k1_chk10.dec i) k1_off20 (fun v hw => k1_off20_inb i v hw k1_h1) (Scalar.addi (wordAt 0#32 8#32 0#32 (Scf.iv 0#32 1#32 k)) 540674#32) >>= fun _ =>
    tabStep arg1 arg6 (k1_off21 k) (k1_off21_inb i k k1_h1) (k1_chk11 i) (k1_chk11.dec i) k1_off22 (fun v hw => k1_off22_inb i v hw k1_h1) (Scalar.addi (wordAt 0#32 8#32 0#32 (Scf.iv 0#32 1#32 k)) 557058#32) >>= fun _ =>
    tabStep arg1 arg6 (k1_off23 k) (k1_off23_inb i k k1_h1) (k1_chk12 i) (k1_chk12.dec i) k1_off24 (fun v hw => k1_off24_inb i v hw k1_h1) (Scalar.addi (wordAt 0#32 8#32 0#32 (Scf.iv 0#32 1#32 k)) 573442#32) >>= fun _ =>
    tabStep arg1 arg6 (k1_off25 k) (k1_off25_inb i k k1_h1) (k1_chk13 i) (k1_chk13.dec i) k1_off26 (fun v hw => k1_off26_inb i v hw k1_h1) (Scalar.addi (wordAt 0#32 8#32 0#32 (Scf.iv 0#32 1#32 k)) 524291#32) >>= fun _ =>
    tabStep arg1 arg6 (k1_off27 k) (k1_off27_inb i k k1_h1) (k1_chk14 i) (k1_chk14.dec i) k1_off28 (fun v hw => k1_off28_inb i v hw k1_h1) (Scalar.addi (wordAt 0#32 8#32 0#32 (Scf.iv 0#32 1#32 k)) 540675#32) >>= fun _ =>
    tabStep arg1 arg6 (k1_off29 k) (k1_off29_inb i k k1_h1) (k1_chk15 i) (k1_chk15.dec i) k1_off30 (fun v hw => k1_off30_inb i v hw k1_h1) (Scalar.addi (wordAt 0#32 8#32 0#32 (Scf.iv 0#32 1#32 k)) 557059#32) >>= fun _ =>
    tabStep arg1 arg6 (k1_off31 k) (k1_off31_inb i k k1_h1) (k1_chk16 i) (k1_chk16.dec i) k1_off32 (fun v hw => k1_off32_inb i v hw k1_h1) (Scalar.addi (wordAt 0#32 8#32 0#32 (Scf.iv 0#32 1#32 k)) 573443#32) >>= fun _ =>
    tabStep arg1 arg6 (k1_off33 k) (k1_off33_inb i k k1_h1) (k1_chk17 i) (k1_chk17.dec i) k1_off34 (fun v hw => k1_off34_inb i v hw k1_h1) (Scalar.addi (wordAt 0#32 8#32 0#32 (Scf.iv 0#32 1#32 k)) 524292#32) >>= fun _ =>
    tabStep arg1 arg6 (k1_off35 k) (k1_off35_inb i k k1_h1) (k1_chk18 i) (k1_chk18.dec i) k1_off36 (fun v hw => k1_off36_inb i v hw k1_h1) (Scalar.addi (wordAt 0#32 8#32 0#32 (Scf.iv 0#32 1#32 k)) 540676#32) >>= fun _ =>
    tabStep arg1 arg6 (k1_off37 k) (k1_off37_inb i k k1_h1) (k1_chk19 i) (k1_chk19.dec i) k1_off38 (fun v hw => k1_off38_inb i v hw k1_h1) (Scalar.addi (wordAt 0#32 8#32 0#32 (Scf.iv 0#32 1#32 k)) 557060#32) >>= fun _ =>
    tabStep arg1 arg6 (k1_off39 k) (k1_off39_inb i k k1_h1) (k1_chk20 i) (k1_chk20.dec i) k1_off40 (fun v hw => k1_off40_inb i v hw k1_h1) (Scalar.addi (wordAt 0#32 8#32 0#32 (Scf.iv 0#32 1#32 k)) 573444#32) >>= fun _ =>
    tabStep arg1 arg6 (k1_off41 k) (k1_off41_inb i k k1_h1) (k1_chk21 i) (k1_chk21.dec i) k1_off42 (fun v hw => k1_off42_inb i v hw k1_h1) (Scalar.addi (wordAt 0#32 8#32 0#32 (Scf.iv 0#32 1#32 k)) 524293#32) >>= fun _ =>
    tabStep arg1 arg6 (k1_off43 k) (k1_off43_inb i k k1_h1) (k1_chk22 i) (k1_chk22.dec i) k1_off44 (fun v hw => k1_off44_inb i v hw k1_h1) (Scalar.addi (wordAt 0#32 8#32 0#32 (Scf.iv 0#32 1#32 k)) 540677#32) >>= fun _ =>
    tabStep arg1 arg6 (k1_off45 k) (k1_off45_inb i k k1_h1) (k1_chk23 i) (k1_chk23.dec i) k1_off46 (fun v hw => k1_off46_inb i v hw k1_h1) (Scalar.addi (wordAt 0#32 8#32 0#32 (Scf.iv 0#32 1#32 k)) 557061#32) >>= fun _ =>
    tabStep arg1 arg6 (k1_off47 k) (k1_off47_inb i k k1_h1) (k1_chk24 i) (k1_chk24.dec i) k1_off48 (fun v hw => k1_off48_inb i v hw k1_h1) (Scalar.addi (wordAt 0#32 8#32 0#32 (Scf.iv 0#32 1#32 k)) 573445#32) >>= fun _ =>
    tabStep arg1 arg6 (k1_off49 k) (k1_off49_inb i k k1_h1) (k1_chk25 i) (k1_chk25.dec i) k1_off50 (fun v hw => k1_off50_inb i v hw k1_h1) (Scalar.addi (wordAt 0#32 8#32 0#32 (Scf.iv 0#32 1#32 k)) 524294#32) >>= fun _ =>
    tabStep arg1 arg6 (k1_off51 k) (k1_off51_inb i k k1_h1) (k1_chk26 i) (k1_chk26.dec i) k1_off52 (fun v hw => k1_off52_inb i v hw k1_h1) (Scalar.addi (wordAt 0#32 8#32 0#32 (Scf.iv 0#32 1#32 k)) 540678#32) >>= fun _ =>
    tabStep arg1 arg6 (k1_off53 k) (k1_off53_inb i k k1_h1) (k1_chk27 i) (k1_chk27.dec i) k1_off54 (fun v hw => k1_off54_inb i v hw k1_h1) (Scalar.addi (wordAt 0#32 8#32 0#32 (Scf.iv 0#32 1#32 k)) 557062#32) >>= fun _ =>
    tabStep arg1 arg6 (k1_off55 k) (k1_off55_inb i k k1_h1) (k1_chk28 i) (k1_chk28.dec i) k1_off56 (fun v hw => k1_off56_inb i v hw k1_h1) (Scalar.addi (wordAt 0#32 8#32 0#32 (Scf.iv 0#32 1#32 k)) 573446#32) >>= fun _ =>
    tabStep arg1 arg6 (k1_off57 k) (k1_off57_inb i k k1_h1) (k1_chk29 i) (k1_chk29.dec i) k1_off58 (fun v hw => k1_off58_inb i v hw k1_h1) (Scalar.addi (wordAt 0#32 8#32 0#32 (Scf.iv 0#32 1#32 k)) 524295#32) >>= fun _ =>
    tabStep arg1 arg6 (k1_off59 k) (k1_off59_inb i k k1_h1) (k1_chk30 i) (k1_chk30.dec i) k1_off60 (fun v hw => k1_off60_inb i v hw k1_h1) (Scalar.addi (wordAt 0#32 8#32 0#32 (Scf.iv 0#32 1#32 k)) 540679#32) >>= fun _ =>
    tabStep arg1 arg6 (k1_off61 k) (k1_off61_inb i k k1_h1) (k1_chk31 i) (k1_chk31.dec i) k1_off62 (fun v hw => k1_off62_inb i v hw k1_h1) (Scalar.addi (wordAt 0#32 8#32 0#32 (Scf.iv 0#32 1#32 k)) 557063#32) >>= fun _ =>
    tabStep arg1 arg6 (k1_off63 k) (k1_off63_inb i k k1_h1) (k1_chk32 i) (k1_chk32.dec i) k1_off64 (fun v hw => k1_off64_inb i v hw k1_h1) (Scalar.addi (wordAt 0#32 8#32 0#32 (Scf.iv 0#32 1#32 k)) 573447#32)) := rfl

include hlt hinj in
set_option maxHeartbeats 4000000 in
/-- A trip of loop 1 writes 32 entries. -/
theorem trip1 (k : Fin k1_t1_loop.trips) :
    (iprop(owns (c : Thread nD τ) arg1 q X ∗ ownsSat (c : Thread nD τ) arg6 fullShare (Agree X entry (0 + 32 * k.val))) : sProp 𝕄)
      ⊢ wp frame (wpE (defs₀ (F := F)) 𝒱₀ c none) Set.univ (k1_t1_body i arg1 harg1 arg2 harg2 arg3 harg3 arg4 harg4 arg5 harg5 arg6 harg6 arg7 harg7 arg8 harg8 arg9 harg9 arg10 harg10 arg11 k1_h1 k ()) fun _ =>
        iprop(owns (c : Thread nD τ) arg1 q X ∗ ownsSat (c : Thread nD τ) arg6 fullShare (Agree X entry (0 + 32 * (k.val + 1)))) := by
  have hk : k.val < 5 := k.isLt
  rw [body1_eq]
  refine seq c (wp_tabStep c q hlt hinj (R := 0 + 32 * k.val + 0) (by omega) (by revert k; decide +kernel) (word1 k 0) (fun v hv _ a => by fin_cases a; exact hv) fun _ => rfl) ?_
  refine seq c (wp_tabStep c q hlt hinj (R := 0 + 32 * k.val + 1) (by omega) (by revert k; decide +kernel) (word1 k 1) (fun v hv _ a => by fin_cases a; exact hv) fun _ => rfl) ?_
  refine seq c (wp_tabStep c q hlt hinj (R := 0 + 32 * k.val + 2) (by omega) (by revert k; decide +kernel) (word1 k 2) (fun v hv _ a => by fin_cases a; exact hv) fun _ => rfl) ?_
  refine seq c (wp_tabStep c q hlt hinj (R := 0 + 32 * k.val + 3) (by omega) (by revert k; decide +kernel) (word1 k 3) (fun v hv _ a => by fin_cases a; exact hv) fun _ => rfl) ?_
  refine seq c (wp_tabStep c q hlt hinj (R := 0 + 32 * k.val + 4) (by omega) (by revert k; decide +kernel) (word1 k 4) (fun v hv _ a => by fin_cases a; exact hv) fun _ => rfl) ?_
  refine seq c (wp_tabStep c q hlt hinj (R := 0 + 32 * k.val + 5) (by omega) (by revert k; decide +kernel) (word1 k 5) (fun v hv _ a => by fin_cases a; exact hv) fun _ => rfl) ?_
  refine seq c (wp_tabStep c q hlt hinj (R := 0 + 32 * k.val + 6) (by omega) (by revert k; decide +kernel) (word1 k 6) (fun v hv _ a => by fin_cases a; exact hv) fun _ => rfl) ?_
  refine seq c (wp_tabStep c q hlt hinj (R := 0 + 32 * k.val + 7) (by omega) (by revert k; decide +kernel) (word1 k 7) (fun v hv _ a => by fin_cases a; exact hv) fun _ => rfl) ?_
  refine seq c (wp_tabStep c q hlt hinj (R := 0 + 32 * k.val + 8) (by omega) (by revert k; decide +kernel) (word1 k 8) (fun v hv _ a => by fin_cases a; exact hv) fun _ => rfl) ?_
  refine seq c (wp_tabStep c q hlt hinj (R := 0 + 32 * k.val + 9) (by omega) (by revert k; decide +kernel) (word1 k 9) (fun v hv _ a => by fin_cases a; exact hv) fun _ => rfl) ?_
  refine seq c (wp_tabStep c q hlt hinj (R := 0 + 32 * k.val + 10) (by omega) (by revert k; decide +kernel) (word1 k 10) (fun v hv _ a => by fin_cases a; exact hv) fun _ => rfl) ?_
  refine seq c (wp_tabStep c q hlt hinj (R := 0 + 32 * k.val + 11) (by omega) (by revert k; decide +kernel) (word1 k 11) (fun v hv _ a => by fin_cases a; exact hv) fun _ => rfl) ?_
  refine seq c (wp_tabStep c q hlt hinj (R := 0 + 32 * k.val + 12) (by omega) (by revert k; decide +kernel) (word1 k 12) (fun v hv _ a => by fin_cases a; exact hv) fun _ => rfl) ?_
  refine seq c (wp_tabStep c q hlt hinj (R := 0 + 32 * k.val + 13) (by omega) (by revert k; decide +kernel) (word1 k 13) (fun v hv _ a => by fin_cases a; exact hv) fun _ => rfl) ?_
  refine seq c (wp_tabStep c q hlt hinj (R := 0 + 32 * k.val + 14) (by omega) (by revert k; decide +kernel) (word1 k 14) (fun v hv _ a => by fin_cases a; exact hv) fun _ => rfl) ?_
  refine seq c (wp_tabStep c q hlt hinj (R := 0 + 32 * k.val + 15) (by omega) (by revert k; decide +kernel) (word1 k 15) (fun v hv _ a => by fin_cases a; exact hv) fun _ => rfl) ?_
  refine seq c (wp_tabStep c q hlt hinj (R := 0 + 32 * k.val + 16) (by omega) (by revert k; decide +kernel) (word1 k 16) (fun v hv _ a => by fin_cases a; exact hv) fun _ => rfl) ?_
  refine seq c (wp_tabStep c q hlt hinj (R := 0 + 32 * k.val + 17) (by omega) (by revert k; decide +kernel) (word1 k 17) (fun v hv _ a => by fin_cases a; exact hv) fun _ => rfl) ?_
  refine seq c (wp_tabStep c q hlt hinj (R := 0 + 32 * k.val + 18) (by omega) (by revert k; decide +kernel) (word1 k 18) (fun v hv _ a => by fin_cases a; exact hv) fun _ => rfl) ?_
  refine seq c (wp_tabStep c q hlt hinj (R := 0 + 32 * k.val + 19) (by omega) (by revert k; decide +kernel) (word1 k 19) (fun v hv _ a => by fin_cases a; exact hv) fun _ => rfl) ?_
  refine seq c (wp_tabStep c q hlt hinj (R := 0 + 32 * k.val + 20) (by omega) (by revert k; decide +kernel) (word1 k 20) (fun v hv _ a => by fin_cases a; exact hv) fun _ => rfl) ?_
  refine seq c (wp_tabStep c q hlt hinj (R := 0 + 32 * k.val + 21) (by omega) (by revert k; decide +kernel) (word1 k 21) (fun v hv _ a => by fin_cases a; exact hv) fun _ => rfl) ?_
  refine seq c (wp_tabStep c q hlt hinj (R := 0 + 32 * k.val + 22) (by omega) (by revert k; decide +kernel) (word1 k 22) (fun v hv _ a => by fin_cases a; exact hv) fun _ => rfl) ?_
  refine seq c (wp_tabStep c q hlt hinj (R := 0 + 32 * k.val + 23) (by omega) (by revert k; decide +kernel) (word1 k 23) (fun v hv _ a => by fin_cases a; exact hv) fun _ => rfl) ?_
  refine seq c (wp_tabStep c q hlt hinj (R := 0 + 32 * k.val + 24) (by omega) (by revert k; decide +kernel) (word1 k 24) (fun v hv _ a => by fin_cases a; exact hv) fun _ => rfl) ?_
  refine seq c (wp_tabStep c q hlt hinj (R := 0 + 32 * k.val + 25) (by omega) (by revert k; decide +kernel) (word1 k 25) (fun v hv _ a => by fin_cases a; exact hv) fun _ => rfl) ?_
  refine seq c (wp_tabStep c q hlt hinj (R := 0 + 32 * k.val + 26) (by omega) (by revert k; decide +kernel) (word1 k 26) (fun v hv _ a => by fin_cases a; exact hv) fun _ => rfl) ?_
  refine seq c (wp_tabStep c q hlt hinj (R := 0 + 32 * k.val + 27) (by omega) (by revert k; decide +kernel) (word1 k 27) (fun v hv _ a => by fin_cases a; exact hv) fun _ => rfl) ?_
  refine seq c (wp_tabStep c q hlt hinj (R := 0 + 32 * k.val + 28) (by omega) (by revert k; decide +kernel) (word1 k 28) (fun v hv _ a => by fin_cases a; exact hv) fun _ => rfl) ?_
  refine seq c (wp_tabStep c q hlt hinj (R := 0 + 32 * k.val + 29) (by omega) (by revert k; decide +kernel) (word1 k 29) (fun v hv _ a => by fin_cases a; exact hv) fun _ => rfl) ?_
  refine seq c (wp_tabStep c q hlt hinj (R := 0 + 32 * k.val + 30) (by omega) (by revert k; decide +kernel) (word1 k 30) (fun v hv _ a => by fin_cases a; exact hv) fun _ => rfl) ?_
  exact (wp_tabStep c q hlt hinj (R := 0 + 32 * k.val + 31) (by omega) (by revert k; decide +kernel) (word1 k 31) (fun v hv _ a => by fin_cases a; exact hv) fun _ => rfl)

include hlt hinj in
/-- Loop 1 writes its rows' entries. -/
theorem loop1 :
    (iprop(owns (c : Thread nD τ) arg1 q X ∗ ownsSat (c : Thread nD τ) arg6 fullShare (Agree X entry 0)) : sProp 𝕄)
      ⊢ wp frame (wpE (defs₀ (F := F)) 𝒱₀ c none) Set.univ
        (Scf.Loop.for k1_t1_loop (k1_t1_ok i k1_h1) () (k1_t1_body i arg1 harg1 arg2 harg2 arg3 harg3 arg4 harg4 arg5 harg5 arg6 harg6 arg7 harg7 arg8 harg8 arg9 harg9 arg10 harg10 arg11 k1_h1)) fun _ =>
        iprop(owns (c : Thread nD τ) arg1 q X ∗ ownsSat (c : Thread nD τ) arg6 fullShare (Agree X entry 160)) := by
  iintro H
  iapply (Scf.wp_for frame (wpE (defs₀ (F := F)) 𝒱₀ c none) Set.univ _ _ _ (k1_t1_ok i k1_h1) () _
    (fun k _ => iprop(owns (c : Thread nD τ) arg1 q X ∗ ownsSat (c : Thread nD τ) arg6 fullShare (Agree X entry (0 + 32 * k))))
    (fun k _ => trip1 c q i arg1 harg1 arg2 harg2 arg3 harg3 arg4 harg4 arg5 harg5 arg6 harg6 arg7 harg7 arg8 harg8 arg9 harg9 arg10 harg10 arg11 k1_h1 hlt hinj k))
  isplitl [H]
  · iexact H
  iintro %_ H
  iexact H

/-- Loop 2's words are the table's. -/
theorem word2 : ∀ (k : Fin k1_t2_loop.trips) (j : Fin 32),
    Scalar.addi (wordAt 40#32 6#32 5#32 (Scf.iv 0#32 1#32 k)) (wordRow 6 j.val) = entry (160 + 32 * k.val + j.val) := by
  decide +kernel

set_option maxRecDepth 65536 in
set_option maxHeartbeats 4000000 in
theorem body2_eq (k : Fin k1_t2_loop.trips) :
    k1_t2_body (F := F) i arg1 harg1 arg2 harg2 arg3 harg3 arg4 harg4 arg5 harg5 arg6 harg6 arg7 harg7 arg8 harg8 arg9 harg9 arg10 harg10 arg11 k1_h1 k () =
    (tabStep arg1 arg6 (k1_off65 k) (k1_off65_inb i k k1_h1) (k1_chk33 i) (k1_chk33.dec i) k1_off66 (fun v hw => k1_off66_inb i v hw k1_h1) (Scalar.addi (wordAt 40#32 6#32 5#32 (Scf.iv 0#32 1#32 k)) 393216#32) >>= fun _ =>
    tabStep arg1 arg6 (k1_off67 k) (k1_off67_inb i k k1_h1) (k1_chk34 i) (k1_chk34.dec i) k1_off68 (fun v hw => k1_off68_inb i v hw k1_h1) (Scalar.addi (wordAt 40#32 6#32 5#32 (Scf.iv 0#32 1#32 k)) 405504#32) >>= fun _ =>
    tabStep arg1 arg6 (k1_off69 k) (k1_off69_inb i k k1_h1) (k1_chk35 i) (k1_chk35.dec i) k1_off70 (fun v hw => k1_off70_inb i v hw k1_h1) (Scalar.addi (wordAt 40#32 6#32 5#32 (Scf.iv 0#32 1#32 k)) 417792#32) >>= fun _ =>
    tabStep arg1 arg6 (k1_off71 k) (k1_off71_inb i k k1_h1) (k1_chk36 i) (k1_chk36.dec i) k1_off72 (fun v hw => k1_off72_inb i v hw k1_h1) (Scalar.addi (wordAt 40#32 6#32 5#32 (Scf.iv 0#32 1#32 k)) 430080#32) >>= fun _ =>
    tabStep arg1 arg6 (k1_off73 k) (k1_off73_inb i k k1_h1) (k1_chk37 i) (k1_chk37.dec i) k1_off74 (fun v hw => k1_off74_inb i v hw k1_h1) (Scalar.addi (wordAt 40#32 6#32 5#32 (Scf.iv 0#32 1#32 k)) 442368#32) >>= fun _ =>
    tabStep arg1 arg6 (k1_off75 k) (k1_off75_inb i k k1_h1) (k1_chk38 i) (k1_chk38.dec i) k1_off76 (fun v hw => k1_off76_inb i v hw k1_h1) (Scalar.addi (wordAt 40#32 6#32 5#32 (Scf.iv 0#32 1#32 k)) 455680#32) >>= fun _ =>
    tabStep arg1 arg6 (k1_off77 k) (k1_off77_inb i k k1_h1) (k1_chk39 i) (k1_chk39.dec i) k1_off78 (fun v hw => k1_off78_inb i v hw k1_h1) (Scalar.addi (wordAt 40#32 6#32 5#32 (Scf.iv 0#32 1#32 k)) 401409#32) >>= fun _ =>
    tabStep arg1 arg6 (k1_off79 k) (k1_off79_inb i k k1_h1) (k1_chk40 i) (k1_chk40.dec i) k1_off80 (fun v hw => k1_off80_inb i v hw k1_h1) (Scalar.addi (wordAt 40#32 6#32 5#32 (Scf.iv 0#32 1#32 k)) 413697#32) >>= fun _ =>
    tabStep arg1 arg6 (k1_off81 k) (k1_off81_inb i k k1_h1) (k1_chk41 i) (k1_chk41.dec i) k1_off82 (fun v hw => k1_off82_inb i v hw k1_h1) (Scalar.addi (wordAt 40#32 6#32 5#32 (Scf.iv 0#32 1#32 k)) 425985#32) >>= fun _ =>
    tabStep arg1 arg6 (k1_off83 k) (k1_off83_inb i k k1_h1) (k1_chk42 i) (k1_chk42.dec i) k1_off84 (fun v hw => k1_off84_inb i v hw k1_h1) (Scalar.addi (wordAt 40#32 6#32 5#32 (Scf.iv 0#32 1#32 k)) 438273#32) >>= fun _ =>
    tabStep arg1 arg6 (k1_off85 k) (k1_off85_inb i k k1_h1) (k1_chk43 i) (k1_chk43.dec i) k1_off86 (fun v hw => k1_off86_inb i v hw k1_h1) (Scalar.addi (wordAt 40#32 6#32 5#32 (Scf.iv 0#32 1#32 k)) 451585#32) >>= fun _ =>
    tabStep arg1 arg6 (k1_off87 k) (k1_off87_inb i k k1_h1) (k1_chk44 i) (k1_chk44.dec i) k1_off88 (fun v hw => k1_off88_inb i v hw k1_h1) (Scalar.addi (wordAt 40#32 6#32 5#32 (Scf.iv 0#32 1#32 k)) 397314#32) >>= fun _ =>
    tabStep arg1 arg6 (k1_off89 k) (k1_off89_inb i k k1_h1) (k1_chk45 i) (k1_chk45.dec i) k1_off90 (fun v hw => k1_off90_inb i v hw k1_h1) (Scalar.addi (wordAt 40#32 6#32 5#32 (Scf.iv 0#32 1#32 k)) 409602#32) >>= fun _ =>
    tabStep arg1 arg6 (k1_off91 k) (k1_off91_inb i k k1_h1) (k1_chk46 i) (k1_chk46.dec i) k1_off92 (fun v hw => k1_off92_inb i v hw k1_h1) (Scalar.addi (wordAt 40#32 6#32 5#32 (Scf.iv 0#32 1#32 k)) 421890#32) >>= fun _ =>
    tabStep arg1 arg6 (k1_off93 k) (k1_off93_inb i k k1_h1) (k1_chk47 i) (k1_chk47.dec i) k1_off94 (fun v hw => k1_off94_inb i v hw k1_h1) (Scalar.addi (wordAt 40#32 6#32 5#32 (Scf.iv 0#32 1#32 k)) 434178#32) >>= fun _ =>
    tabStep arg1 arg6 (k1_off95 k) (k1_off95_inb i k k1_h1) (k1_chk48 i) (k1_chk48.dec i) k1_off96 (fun v hw => k1_off96_inb i v hw k1_h1) (Scalar.addi (wordAt 40#32 6#32 5#32 (Scf.iv 0#32 1#32 k)) 446466#32) >>= fun _ =>
    tabStep arg1 arg6 (k1_off97 k) (k1_off97_inb i k k1_h1) (k1_chk49 i) (k1_chk49.dec i) k1_off98 (fun v hw => k1_off98_inb i v hw k1_h1) (Scalar.addi (wordAt 40#32 6#32 5#32 (Scf.iv 0#32 1#32 k)) 393219#32) >>= fun _ =>
    tabStep arg1 arg6 (k1_off99 k) (k1_off99_inb i k k1_h1) (k1_chk50 i) (k1_chk50.dec i) k1_off100 (fun v hw => k1_off100_inb i v hw k1_h1) (Scalar.addi (wordAt 40#32 6#32 5#32 (Scf.iv 0#32 1#32 k)) 405507#32) >>= fun _ =>
    tabStep arg1 arg6 (k1_off101 k) (k1_off101_inb i k k1_h1) (k1_chk51 i) (k1_chk51.dec i) k1_off102 (fun v hw => k1_off102_inb i v hw k1_h1) (Scalar.addi (wordAt 40#32 6#32 5#32 (Scf.iv 0#32 1#32 k)) 417795#32) >>= fun _ =>
    tabStep arg1 arg6 (k1_off103 k) (k1_off103_inb i k k1_h1) (k1_chk52 i) (k1_chk52.dec i) k1_off104 (fun v hw => k1_off104_inb i v hw k1_h1) (Scalar.addi (wordAt 40#32 6#32 5#32 (Scf.iv 0#32 1#32 k)) 430083#32) >>= fun _ =>
    tabStep arg1 arg6 (k1_off105 k) (k1_off105_inb i k k1_h1) (k1_chk53 i) (k1_chk53.dec i) k1_off106 (fun v hw => k1_off106_inb i v hw k1_h1) (Scalar.addi (wordAt 40#32 6#32 5#32 (Scf.iv 0#32 1#32 k)) 442371#32) >>= fun _ =>
    tabStep arg1 arg6 (k1_off107 k) (k1_off107_inb i k k1_h1) (k1_chk54 i) (k1_chk54.dec i) k1_off108 (fun v hw => k1_off108_inb i v hw k1_h1) (Scalar.addi (wordAt 40#32 6#32 5#32 (Scf.iv 0#32 1#32 k)) 455683#32) >>= fun _ =>
    tabStep arg1 arg6 (k1_off109 k) (k1_off109_inb i k k1_h1) (k1_chk55 i) (k1_chk55.dec i) k1_off110 (fun v hw => k1_off110_inb i v hw k1_h1) (Scalar.addi (wordAt 40#32 6#32 5#32 (Scf.iv 0#32 1#32 k)) 401412#32) >>= fun _ =>
    tabStep arg1 arg6 (k1_off111 k) (k1_off111_inb i k k1_h1) (k1_chk56 i) (k1_chk56.dec i) k1_off112 (fun v hw => k1_off112_inb i v hw k1_h1) (Scalar.addi (wordAt 40#32 6#32 5#32 (Scf.iv 0#32 1#32 k)) 413700#32) >>= fun _ =>
    tabStep arg1 arg6 (k1_off113 k) (k1_off113_inb i k k1_h1) (k1_chk57 i) (k1_chk57.dec i) k1_off114 (fun v hw => k1_off114_inb i v hw k1_h1) (Scalar.addi (wordAt 40#32 6#32 5#32 (Scf.iv 0#32 1#32 k)) 425988#32) >>= fun _ =>
    tabStep arg1 arg6 (k1_off115 k) (k1_off115_inb i k k1_h1) (k1_chk58 i) (k1_chk58.dec i) k1_off116 (fun v hw => k1_off116_inb i v hw k1_h1) (Scalar.addi (wordAt 40#32 6#32 5#32 (Scf.iv 0#32 1#32 k)) 438276#32) >>= fun _ =>
    tabStep arg1 arg6 (k1_off117 k) (k1_off117_inb i k k1_h1) (k1_chk59 i) (k1_chk59.dec i) k1_off118 (fun v hw => k1_off118_inb i v hw k1_h1) (Scalar.addi (wordAt 40#32 6#32 5#32 (Scf.iv 0#32 1#32 k)) 451588#32) >>= fun _ =>
    tabStep arg1 arg6 (k1_off119 k) (k1_off119_inb i k k1_h1) (k1_chk60 i) (k1_chk60.dec i) k1_off120 (fun v hw => k1_off120_inb i v hw k1_h1) (Scalar.addi (wordAt 40#32 6#32 5#32 (Scf.iv 0#32 1#32 k)) 397317#32) >>= fun _ =>
    tabStep arg1 arg6 (k1_off121 k) (k1_off121_inb i k k1_h1) (k1_chk61 i) (k1_chk61.dec i) k1_off122 (fun v hw => k1_off122_inb i v hw k1_h1) (Scalar.addi (wordAt 40#32 6#32 5#32 (Scf.iv 0#32 1#32 k)) 409605#32) >>= fun _ =>
    tabStep arg1 arg6 (k1_off123 k) (k1_off123_inb i k k1_h1) (k1_chk62 i) (k1_chk62.dec i) k1_off124 (fun v hw => k1_off124_inb i v hw k1_h1) (Scalar.addi (wordAt 40#32 6#32 5#32 (Scf.iv 0#32 1#32 k)) 421893#32) >>= fun _ =>
    tabStep arg1 arg6 (k1_off125 k) (k1_off125_inb i k k1_h1) (k1_chk63 i) (k1_chk63.dec i) k1_off126 (fun v hw => k1_off126_inb i v hw k1_h1) (Scalar.addi (wordAt 40#32 6#32 5#32 (Scf.iv 0#32 1#32 k)) 434181#32) >>= fun _ =>
    tabStep arg1 arg6 (k1_off127 k) (k1_off127_inb i k k1_h1) (k1_chk64 i) (k1_chk64.dec i) k1_off128 (fun v hw => k1_off128_inb i v hw k1_h1) (Scalar.addi (wordAt 40#32 6#32 5#32 (Scf.iv 0#32 1#32 k)) 446469#32)) := rfl

include hlt hinj in
set_option maxHeartbeats 4000000 in
/-- A trip of loop 2 writes 32 entries. -/
theorem trip2 (k : Fin k1_t2_loop.trips) :
    (iprop(owns (c : Thread nD τ) arg1 q X ∗ ownsSat (c : Thread nD τ) arg6 fullShare (Agree X entry (160 + 32 * k.val))) : sProp 𝕄)
      ⊢ wp frame (wpE (defs₀ (F := F)) 𝒱₀ c none) Set.univ (k1_t2_body i arg1 harg1 arg2 harg2 arg3 harg3 arg4 harg4 arg5 harg5 arg6 harg6 arg7 harg7 arg8 harg8 arg9 harg9 arg10 harg10 arg11 k1_h1 k ()) fun _ =>
        iprop(owns (c : Thread nD τ) arg1 q X ∗ ownsSat (c : Thread nD τ) arg6 fullShare (Agree X entry (160 + 32 * (k.val + 1)))) := by
  have hk : k.val < 15 := k.isLt
  rw [body2_eq]
  refine seq c (wp_tabStep c q hlt hinj (R := 160 + 32 * k.val + 0) (by omega) (by revert k; decide +kernel) (word2 k 0) (fun v hv _ a => by fin_cases a; exact hv) fun _ => rfl) ?_
  refine seq c (wp_tabStep c q hlt hinj (R := 160 + 32 * k.val + 1) (by omega) (by revert k; decide +kernel) (word2 k 1) (fun v hv _ a => by fin_cases a; exact hv) fun _ => rfl) ?_
  refine seq c (wp_tabStep c q hlt hinj (R := 160 + 32 * k.val + 2) (by omega) (by revert k; decide +kernel) (word2 k 2) (fun v hv _ a => by fin_cases a; exact hv) fun _ => rfl) ?_
  refine seq c (wp_tabStep c q hlt hinj (R := 160 + 32 * k.val + 3) (by omega) (by revert k; decide +kernel) (word2 k 3) (fun v hv _ a => by fin_cases a; exact hv) fun _ => rfl) ?_
  refine seq c (wp_tabStep c q hlt hinj (R := 160 + 32 * k.val + 4) (by omega) (by revert k; decide +kernel) (word2 k 4) (fun v hv _ a => by fin_cases a; exact hv) fun _ => rfl) ?_
  refine seq c (wp_tabStep c q hlt hinj (R := 160 + 32 * k.val + 5) (by omega) (by revert k; decide +kernel) (word2 k 5) (fun v hv _ a => by fin_cases a; exact hv) fun _ => rfl) ?_
  refine seq c (wp_tabStep c q hlt hinj (R := 160 + 32 * k.val + 6) (by omega) (by revert k; decide +kernel) (word2 k 6) (fun v hv _ a => by fin_cases a; exact hv) fun _ => rfl) ?_
  refine seq c (wp_tabStep c q hlt hinj (R := 160 + 32 * k.val + 7) (by omega) (by revert k; decide +kernel) (word2 k 7) (fun v hv _ a => by fin_cases a; exact hv) fun _ => rfl) ?_
  refine seq c (wp_tabStep c q hlt hinj (R := 160 + 32 * k.val + 8) (by omega) (by revert k; decide +kernel) (word2 k 8) (fun v hv _ a => by fin_cases a; exact hv) fun _ => rfl) ?_
  refine seq c (wp_tabStep c q hlt hinj (R := 160 + 32 * k.val + 9) (by omega) (by revert k; decide +kernel) (word2 k 9) (fun v hv _ a => by fin_cases a; exact hv) fun _ => rfl) ?_
  refine seq c (wp_tabStep c q hlt hinj (R := 160 + 32 * k.val + 10) (by omega) (by revert k; decide +kernel) (word2 k 10) (fun v hv _ a => by fin_cases a; exact hv) fun _ => rfl) ?_
  refine seq c (wp_tabStep c q hlt hinj (R := 160 + 32 * k.val + 11) (by omega) (by revert k; decide +kernel) (word2 k 11) (fun v hv _ a => by fin_cases a; exact hv) fun _ => rfl) ?_
  refine seq c (wp_tabStep c q hlt hinj (R := 160 + 32 * k.val + 12) (by omega) (by revert k; decide +kernel) (word2 k 12) (fun v hv _ a => by fin_cases a; exact hv) fun _ => rfl) ?_
  refine seq c (wp_tabStep c q hlt hinj (R := 160 + 32 * k.val + 13) (by omega) (by revert k; decide +kernel) (word2 k 13) (fun v hv _ a => by fin_cases a; exact hv) fun _ => rfl) ?_
  refine seq c (wp_tabStep c q hlt hinj (R := 160 + 32 * k.val + 14) (by omega) (by revert k; decide +kernel) (word2 k 14) (fun v hv _ a => by fin_cases a; exact hv) fun _ => rfl) ?_
  refine seq c (wp_tabStep c q hlt hinj (R := 160 + 32 * k.val + 15) (by omega) (by revert k; decide +kernel) (word2 k 15) (fun v hv _ a => by fin_cases a; exact hv) fun _ => rfl) ?_
  refine seq c (wp_tabStep c q hlt hinj (R := 160 + 32 * k.val + 16) (by omega) (by revert k; decide +kernel) (word2 k 16) (fun v hv _ a => by fin_cases a; exact hv) fun _ => rfl) ?_
  refine seq c (wp_tabStep c q hlt hinj (R := 160 + 32 * k.val + 17) (by omega) (by revert k; decide +kernel) (word2 k 17) (fun v hv _ a => by fin_cases a; exact hv) fun _ => rfl) ?_
  refine seq c (wp_tabStep c q hlt hinj (R := 160 + 32 * k.val + 18) (by omega) (by revert k; decide +kernel) (word2 k 18) (fun v hv _ a => by fin_cases a; exact hv) fun _ => rfl) ?_
  refine seq c (wp_tabStep c q hlt hinj (R := 160 + 32 * k.val + 19) (by omega) (by revert k; decide +kernel) (word2 k 19) (fun v hv _ a => by fin_cases a; exact hv) fun _ => rfl) ?_
  refine seq c (wp_tabStep c q hlt hinj (R := 160 + 32 * k.val + 20) (by omega) (by revert k; decide +kernel) (word2 k 20) (fun v hv _ a => by fin_cases a; exact hv) fun _ => rfl) ?_
  refine seq c (wp_tabStep c q hlt hinj (R := 160 + 32 * k.val + 21) (by omega) (by revert k; decide +kernel) (word2 k 21) (fun v hv _ a => by fin_cases a; exact hv) fun _ => rfl) ?_
  refine seq c (wp_tabStep c q hlt hinj (R := 160 + 32 * k.val + 22) (by omega) (by revert k; decide +kernel) (word2 k 22) (fun v hv _ a => by fin_cases a; exact hv) fun _ => rfl) ?_
  refine seq c (wp_tabStep c q hlt hinj (R := 160 + 32 * k.val + 23) (by omega) (by revert k; decide +kernel) (word2 k 23) (fun v hv _ a => by fin_cases a; exact hv) fun _ => rfl) ?_
  refine seq c (wp_tabStep c q hlt hinj (R := 160 + 32 * k.val + 24) (by omega) (by revert k; decide +kernel) (word2 k 24) (fun v hv _ a => by fin_cases a; exact hv) fun _ => rfl) ?_
  refine seq c (wp_tabStep c q hlt hinj (R := 160 + 32 * k.val + 25) (by omega) (by revert k; decide +kernel) (word2 k 25) (fun v hv _ a => by fin_cases a; exact hv) fun _ => rfl) ?_
  refine seq c (wp_tabStep c q hlt hinj (R := 160 + 32 * k.val + 26) (by omega) (by revert k; decide +kernel) (word2 k 26) (fun v hv _ a => by fin_cases a; exact hv) fun _ => rfl) ?_
  refine seq c (wp_tabStep c q hlt hinj (R := 160 + 32 * k.val + 27) (by omega) (by revert k; decide +kernel) (word2 k 27) (fun v hv _ a => by fin_cases a; exact hv) fun _ => rfl) ?_
  refine seq c (wp_tabStep c q hlt hinj (R := 160 + 32 * k.val + 28) (by omega) (by revert k; decide +kernel) (word2 k 28) (fun v hv _ a => by fin_cases a; exact hv) fun _ => rfl) ?_
  refine seq c (wp_tabStep c q hlt hinj (R := 160 + 32 * k.val + 29) (by omega) (by revert k; decide +kernel) (word2 k 29) (fun v hv _ a => by fin_cases a; exact hv) fun _ => rfl) ?_
  refine seq c (wp_tabStep c q hlt hinj (R := 160 + 32 * k.val + 30) (by omega) (by revert k; decide +kernel) (word2 k 30) (fun v hv _ a => by fin_cases a; exact hv) fun _ => rfl) ?_
  exact (wp_tabStep c q hlt hinj (R := 160 + 32 * k.val + 31) (by omega) (by revert k; decide +kernel) (word2 k 31) (fun v hv _ a => by fin_cases a; exact hv) fun _ => rfl)

include hlt hinj in
/-- Loop 2 writes its rows' entries. -/
theorem loop2 :
    (iprop(owns (c : Thread nD τ) arg1 q X ∗ ownsSat (c : Thread nD τ) arg6 fullShare (Agree X entry 160)) : sProp 𝕄)
      ⊢ wp frame (wpE (defs₀ (F := F)) 𝒱₀ c none) Set.univ
        (Scf.Loop.for k1_t2_loop (k1_t2_ok i k1_h1) () (k1_t2_body i arg1 harg1 arg2 harg2 arg3 harg3 arg4 harg4 arg5 harg5 arg6 harg6 arg7 harg7 arg8 harg8 arg9 harg9 arg10 harg10 arg11 k1_h1)) fun _ =>
        iprop(owns (c : Thread nD τ) arg1 q X ∗ ownsSat (c : Thread nD τ) arg6 fullShare (Agree X entry 640)) := by
  iintro H
  iapply (Scf.wp_for frame (wpE (defs₀ (F := F)) 𝒱₀ c none) Set.univ _ _ _ (k1_t2_ok i k1_h1) () _
    (fun k _ => iprop(owns (c : Thread nD τ) arg1 q X ∗ ownsSat (c : Thread nD τ) arg6 fullShare (Agree X entry (160 + 32 * k))))
    (fun k _ => trip2 c q i arg1 harg1 arg2 harg2 arg3 harg3 arg4 harg4 arg5 harg5 arg6 harg6 arg7 harg7 arg8 harg8 arg9 harg9 arg10 harg10 arg11 k1_h1 hlt hinj k))
  isplitl [H]
  · iexact H
  iintro %_ H
  iexact H

/-- Loop 3's words are the table's. -/
theorem word3 : ∀ (k : Fin k1_t3_loop.trips) (j : Fin 32),
    Scalar.addi (wordAt 130#32 5#32 20#32 (Scf.iv 0#32 1#32 k)) (wordRow 5 j.val) = entry (640 + 32 * k.val + j.val) := by
  decide +kernel

set_option maxRecDepth 65536 in
set_option maxHeartbeats 4000000 in
theorem body3_eq (k : Fin k1_t3_loop.trips) :
    k1_t3_body (F := F) i arg1 harg1 arg2 harg2 arg3 harg3 arg4 harg4 arg5 harg5 arg6 harg6 arg7 harg7 arg8 harg8 arg9 harg9 arg10 harg10 arg11 k1_h1 k () =
    (tabStep arg1 arg6 (k1_off129 k) (k1_off129_inb i k k1_h1) (k1_chk65 i) (k1_chk65.dec i) k1_off130 (fun v hw => k1_off130_inb i v hw k1_h1) (Scalar.addi (wordAt 130#32 5#32 20#32 (Scf.iv 0#32 1#32 k)) 327680#32) >>= fun _ =>
    tabStep arg1 arg6 (k1_off131 k) (k1_off131_inb i k k1_h1) (k1_chk66 i) (k1_chk66.dec i) k1_off132 (fun v hw => k1_off132_inb i v hw k1_h1) (Scalar.addi (wordAt 130#32 5#32 20#32 (Scf.iv 0#32 1#32 k)) 337920#32) >>= fun _ =>
    tabStep arg1 arg6 (k1_off133 k) (k1_off133_inb i k k1_h1) (k1_chk67 i) (k1_chk67.dec i) k1_off134 (fun v hw => k1_off134_inb i v hw k1_h1) (Scalar.addi (wordAt 130#32 5#32 20#32 (Scf.iv 0#32 1#32 k)) 348160#32) >>= fun _ =>
    tabStep arg1 arg6 (k1_off135 k) (k1_off135_inb i k k1_h1) (k1_chk68 i) (k1_chk68.dec i) k1_off136 (fun v hw => k1_off136_inb i v hw k1_h1) (Scalar.addi (wordAt 130#32 5#32 20#32 (Scf.iv 0#32 1#32 k)) 358400#32) >>= fun _ =>
    tabStep arg1 arg6 (k1_off137 k) (k1_off137_inb i k k1_h1) (k1_chk69 i) (k1_chk69.dec i) k1_off138 (fun v hw => k1_off138_inb i v hw k1_h1) (Scalar.addi (wordAt 130#32 5#32 20#32 (Scf.iv 0#32 1#32 k)) 368640#32) >>= fun _ =>
    tabStep arg1 arg6 (k1_off139 k) (k1_off139_inb i k k1_h1) (k1_chk70 i) (k1_chk70.dec i) k1_off140 (fun v hw => k1_off140_inb i v hw k1_h1) (Scalar.addi (wordAt 130#32 5#32 20#32 (Scf.iv 0#32 1#32 k)) 378880#32) >>= fun _ =>
    tabStep arg1 arg6 (k1_off141 k) (k1_off141_inb i k k1_h1) (k1_chk71 i) (k1_chk71.dec i) k1_off142 (fun v hw => k1_off142_inb i v hw k1_h1) (Scalar.addi (wordAt 130#32 5#32 20#32 (Scf.iv 0#32 1#32 k)) 390144#32) >>= fun _ =>
    tabStep arg1 arg6 (k1_off143 k) (k1_off143_inb i k k1_h1) (k1_chk72 i) (k1_chk72.dec i) k1_off144 (fun v hw => k1_off144_inb i v hw k1_h1) (Scalar.addi (wordAt 130#32 5#32 20#32 (Scf.iv 0#32 1#32 k)) 333825#32) >>= fun _ =>
    tabStep arg1 arg6 (k1_off145 k) (k1_off145_inb i k k1_h1) (k1_chk73 i) (k1_chk73.dec i) k1_off146 (fun v hw => k1_off146_inb i v hw k1_h1) (Scalar.addi (wordAt 130#32 5#32 20#32 (Scf.iv 0#32 1#32 k)) 344065#32) >>= fun _ =>
    tabStep arg1 arg6 (k1_off147 k) (k1_off147_inb i k k1_h1) (k1_chk74 i) (k1_chk74.dec i) k1_off148 (fun v hw => k1_off148_inb i v hw k1_h1) (Scalar.addi (wordAt 130#32 5#32 20#32 (Scf.iv 0#32 1#32 k)) 354305#32) >>= fun _ =>
    tabStep arg1 arg6 (k1_off149 k) (k1_off149_inb i k k1_h1) (k1_chk75 i) (k1_chk75.dec i) k1_off150 (fun v hw => k1_off150_inb i v hw k1_h1) (Scalar.addi (wordAt 130#32 5#32 20#32 (Scf.iv 0#32 1#32 k)) 364545#32) >>= fun _ =>
    tabStep arg1 arg6 (k1_off151 k) (k1_off151_inb i k k1_h1) (k1_chk76 i) (k1_chk76.dec i) k1_off152 (fun v hw => k1_off152_inb i v hw k1_h1) (Scalar.addi (wordAt 130#32 5#32 20#32 (Scf.iv 0#32 1#32 k)) 374785#32) >>= fun _ =>
    tabStep arg1 arg6 (k1_off153 k) (k1_off153_inb i k k1_h1) (k1_chk77 i) (k1_chk77.dec i) k1_off154 (fun v hw => k1_off154_inb i v hw k1_h1) (Scalar.addi (wordAt 130#32 5#32 20#32 (Scf.iv 0#32 1#32 k)) 386049#32) >>= fun _ =>
    tabStep arg1 arg6 (k1_off155 k) (k1_off155_inb i k k1_h1) (k1_chk78 i) (k1_chk78.dec i) k1_off156 (fun v hw => k1_off156_inb i v hw k1_h1) (Scalar.addi (wordAt 130#32 5#32 20#32 (Scf.iv 0#32 1#32 k)) 329730#32) >>= fun _ =>
    tabStep arg1 arg6 (k1_off157 k) (k1_off157_inb i k k1_h1) (k1_chk79 i) (k1_chk79.dec i) k1_off158 (fun v hw => k1_off158_inb i v hw k1_h1) (Scalar.addi (wordAt 130#32 5#32 20#32 (Scf.iv 0#32 1#32 k)) 339970#32) >>= fun _ =>
    tabStep arg1 arg6 (k1_off159 k) (k1_off159_inb i k k1_h1) (k1_chk80 i) (k1_chk80.dec i) k1_off160 (fun v hw => k1_off160_inb i v hw k1_h1) (Scalar.addi (wordAt 130#32 5#32 20#32 (Scf.iv 0#32 1#32 k)) 350210#32) >>= fun _ =>
    tabStep arg1 arg6 (k1_off161 k) (k1_off161_inb i k k1_h1) (k1_chk81 i) (k1_chk81.dec i) k1_off162 (fun v hw => k1_off162_inb i v hw k1_h1) (Scalar.addi (wordAt 130#32 5#32 20#32 (Scf.iv 0#32 1#32 k)) 360450#32) >>= fun _ =>
    tabStep arg1 arg6 (k1_off163 k) (k1_off163_inb i k k1_h1) (k1_chk82 i) (k1_chk82.dec i) k1_off164 (fun v hw => k1_off164_inb i v hw k1_h1) (Scalar.addi (wordAt 130#32 5#32 20#32 (Scf.iv 0#32 1#32 k)) 370690#32) >>= fun _ =>
    tabStep arg1 arg6 (k1_off165 k) (k1_off165_inb i k k1_h1) (k1_chk83 i) (k1_chk83.dec i) k1_off166 (fun v hw => k1_off166_inb i v hw k1_h1) (Scalar.addi (wordAt 130#32 5#32 20#32 (Scf.iv 0#32 1#32 k)) 380930#32) >>= fun _ =>
    tabStep arg1 arg6 (k1_off167 k) (k1_off167_inb i k k1_h1) (k1_chk84 i) (k1_chk84.dec i) k1_off168 (fun v hw => k1_off168_inb i v hw k1_h1) (Scalar.addi (wordAt 130#32 5#32 20#32 (Scf.iv 0#32 1#32 k)) 392194#32) >>= fun _ =>
    tabStep arg1 arg6 (k1_off169 k) (k1_off169_inb i k k1_h1) (k1_chk85 i) (k1_chk85.dec i) k1_off170 (fun v hw => k1_off170_inb i v hw k1_h1) (Scalar.addi (wordAt 130#32 5#32 20#32 (Scf.iv 0#32 1#32 k)) 335875#32) >>= fun _ =>
    tabStep arg1 arg6 (k1_off171 k) (k1_off171_inb i k k1_h1) (k1_chk86 i) (k1_chk86.dec i) k1_off172 (fun v hw => k1_off172_inb i v hw k1_h1) (Scalar.addi (wordAt 130#32 5#32 20#32 (Scf.iv 0#32 1#32 k)) 346115#32) >>= fun _ =>
    tabStep arg1 arg6 (k1_off173 k) (k1_off173_inb i k k1_h1) (k1_chk87 i) (k1_chk87.dec i) k1_off174 (fun v hw => k1_off174_inb i v hw k1_h1) (Scalar.addi (wordAt 130#32 5#32 20#32 (Scf.iv 0#32 1#32 k)) 356355#32) >>= fun _ =>
    tabStep arg1 arg6 (k1_off175 k) (k1_off175_inb i k k1_h1) (k1_chk88 i) (k1_chk88.dec i) k1_off176 (fun v hw => k1_off176_inb i v hw k1_h1) (Scalar.addi (wordAt 130#32 5#32 20#32 (Scf.iv 0#32 1#32 k)) 366595#32) >>= fun _ =>
    tabStep arg1 arg6 (k1_off177 k) (k1_off177_inb i k k1_h1) (k1_chk89 i) (k1_chk89.dec i) k1_off178 (fun v hw => k1_off178_inb i v hw k1_h1) (Scalar.addi (wordAt 130#32 5#32 20#32 (Scf.iv 0#32 1#32 k)) 376835#32) >>= fun _ =>
    tabStep arg1 arg6 (k1_off179 k) (k1_off179_inb i k k1_h1) (k1_chk90 i) (k1_chk90.dec i) k1_off180 (fun v hw => k1_off180_inb i v hw k1_h1) (Scalar.addi (wordAt 130#32 5#32 20#32 (Scf.iv 0#32 1#32 k)) 388099#32) >>= fun _ =>
    tabStep arg1 arg6 (k1_off181 k) (k1_off181_inb i k k1_h1) (k1_chk91 i) (k1_chk91.dec i) k1_off182 (fun v hw => k1_off182_inb i v hw k1_h1) (Scalar.addi (wordAt 130#32 5#32 20#32 (Scf.iv 0#32 1#32 k)) 331780#32) >>= fun _ =>
    tabStep arg1 arg6 (k1_off183 k) (k1_off183_inb i k k1_h1) (k1_chk92 i) (k1_chk92.dec i) k1_off184 (fun v hw => k1_off184_inb i v hw k1_h1) (Scalar.addi (wordAt 130#32 5#32 20#32 (Scf.iv 0#32 1#32 k)) 342020#32) >>= fun _ =>
    tabStep arg1 arg6 (k1_off185 k) (k1_off185_inb i k k1_h1) (k1_chk93 i) (k1_chk93.dec i) k1_off186 (fun v hw => k1_off186_inb i v hw k1_h1) (Scalar.addi (wordAt 130#32 5#32 20#32 (Scf.iv 0#32 1#32 k)) 352260#32) >>= fun _ =>
    tabStep arg1 arg6 (k1_off187 k) (k1_off187_inb i k k1_h1) (k1_chk94 i) (k1_chk94.dec i) k1_off188 (fun v hw => k1_off188_inb i v hw k1_h1) (Scalar.addi (wordAt 130#32 5#32 20#32 (Scf.iv 0#32 1#32 k)) 362500#32) >>= fun _ =>
    tabStep arg1 arg6 (k1_off189 k) (k1_off189_inb i k k1_h1) (k1_chk95 i) (k1_chk95.dec i) k1_off190 (fun v hw => k1_off190_inb i v hw k1_h1) (Scalar.addi (wordAt 130#32 5#32 20#32 (Scf.iv 0#32 1#32 k)) 372740#32) >>= fun _ =>
    tabStep arg1 arg6 (k1_off191 k) (k1_off191_inb i k k1_h1) (k1_chk96 i) (k1_chk96.dec i) k1_off192 (fun v hw => k1_off192_inb i v hw k1_h1) (Scalar.addi (wordAt 130#32 5#32 20#32 (Scf.iv 0#32 1#32 k)) 382980#32)) := rfl

include hlt hinj in
set_option maxHeartbeats 4000000 in
/-- A trip of loop 3 writes 32 entries. -/
theorem trip3 (k : Fin k1_t3_loop.trips) :
    (iprop(owns (c : Thread nD τ) arg1 q X ∗ ownsSat (c : Thread nD τ) arg6 fullShare (Agree X entry (640 + 32 * k.val))) : sProp 𝕄)
      ⊢ wp frame (wpE (defs₀ (F := F)) 𝒱₀ c none) Set.univ (k1_t3_body i arg1 harg1 arg2 harg2 arg3 harg3 arg4 harg4 arg5 harg5 arg6 harg6 arg7 harg7 arg8 harg8 arg9 harg9 arg10 harg10 arg11 k1_h1 k ()) fun _ =>
        iprop(owns (c : Thread nD τ) arg1 q X ∗ ownsSat (c : Thread nD τ) arg6 fullShare (Agree X entry (640 + 32 * (k.val + 1)))) := by
  have hk : k.val < 27 := k.isLt
  rw [body3_eq]
  refine seq c (wp_tabStep c q hlt hinj (R := 640 + 32 * k.val + 0) (by omega) (by revert k; decide +kernel) (word3 k 0) (fun v hv _ a => by fin_cases a; exact hv) fun _ => rfl) ?_
  refine seq c (wp_tabStep c q hlt hinj (R := 640 + 32 * k.val + 1) (by omega) (by revert k; decide +kernel) (word3 k 1) (fun v hv _ a => by fin_cases a; exact hv) fun _ => rfl) ?_
  refine seq c (wp_tabStep c q hlt hinj (R := 640 + 32 * k.val + 2) (by omega) (by revert k; decide +kernel) (word3 k 2) (fun v hv _ a => by fin_cases a; exact hv) fun _ => rfl) ?_
  refine seq c (wp_tabStep c q hlt hinj (R := 640 + 32 * k.val + 3) (by omega) (by revert k; decide +kernel) (word3 k 3) (fun v hv _ a => by fin_cases a; exact hv) fun _ => rfl) ?_
  refine seq c (wp_tabStep c q hlt hinj (R := 640 + 32 * k.val + 4) (by omega) (by revert k; decide +kernel) (word3 k 4) (fun v hv _ a => by fin_cases a; exact hv) fun _ => rfl) ?_
  refine seq c (wp_tabStep c q hlt hinj (R := 640 + 32 * k.val + 5) (by omega) (by revert k; decide +kernel) (word3 k 5) (fun v hv _ a => by fin_cases a; exact hv) fun _ => rfl) ?_
  refine seq c (wp_tabStep c q hlt hinj (R := 640 + 32 * k.val + 6) (by omega) (by revert k; decide +kernel) (word3 k 6) (fun v hv _ a => by fin_cases a; exact hv) fun _ => rfl) ?_
  refine seq c (wp_tabStep c q hlt hinj (R := 640 + 32 * k.val + 7) (by omega) (by revert k; decide +kernel) (word3 k 7) (fun v hv _ a => by fin_cases a; exact hv) fun _ => rfl) ?_
  refine seq c (wp_tabStep c q hlt hinj (R := 640 + 32 * k.val + 8) (by omega) (by revert k; decide +kernel) (word3 k 8) (fun v hv _ a => by fin_cases a; exact hv) fun _ => rfl) ?_
  refine seq c (wp_tabStep c q hlt hinj (R := 640 + 32 * k.val + 9) (by omega) (by revert k; decide +kernel) (word3 k 9) (fun v hv _ a => by fin_cases a; exact hv) fun _ => rfl) ?_
  refine seq c (wp_tabStep c q hlt hinj (R := 640 + 32 * k.val + 10) (by omega) (by revert k; decide +kernel) (word3 k 10) (fun v hv _ a => by fin_cases a; exact hv) fun _ => rfl) ?_
  refine seq c (wp_tabStep c q hlt hinj (R := 640 + 32 * k.val + 11) (by omega) (by revert k; decide +kernel) (word3 k 11) (fun v hv _ a => by fin_cases a; exact hv) fun _ => rfl) ?_
  refine seq c (wp_tabStep c q hlt hinj (R := 640 + 32 * k.val + 12) (by omega) (by revert k; decide +kernel) (word3 k 12) (fun v hv _ a => by fin_cases a; exact hv) fun _ => rfl) ?_
  refine seq c (wp_tabStep c q hlt hinj (R := 640 + 32 * k.val + 13) (by omega) (by revert k; decide +kernel) (word3 k 13) (fun v hv _ a => by fin_cases a; exact hv) fun _ => rfl) ?_
  refine seq c (wp_tabStep c q hlt hinj (R := 640 + 32 * k.val + 14) (by omega) (by revert k; decide +kernel) (word3 k 14) (fun v hv _ a => by fin_cases a; exact hv) fun _ => rfl) ?_
  refine seq c (wp_tabStep c q hlt hinj (R := 640 + 32 * k.val + 15) (by omega) (by revert k; decide +kernel) (word3 k 15) (fun v hv _ a => by fin_cases a; exact hv) fun _ => rfl) ?_
  refine seq c (wp_tabStep c q hlt hinj (R := 640 + 32 * k.val + 16) (by omega) (by revert k; decide +kernel) (word3 k 16) (fun v hv _ a => by fin_cases a; exact hv) fun _ => rfl) ?_
  refine seq c (wp_tabStep c q hlt hinj (R := 640 + 32 * k.val + 17) (by omega) (by revert k; decide +kernel) (word3 k 17) (fun v hv _ a => by fin_cases a; exact hv) fun _ => rfl) ?_
  refine seq c (wp_tabStep c q hlt hinj (R := 640 + 32 * k.val + 18) (by omega) (by revert k; decide +kernel) (word3 k 18) (fun v hv _ a => by fin_cases a; exact hv) fun _ => rfl) ?_
  refine seq c (wp_tabStep c q hlt hinj (R := 640 + 32 * k.val + 19) (by omega) (by revert k; decide +kernel) (word3 k 19) (fun v hv _ a => by fin_cases a; exact hv) fun _ => rfl) ?_
  refine seq c (wp_tabStep c q hlt hinj (R := 640 + 32 * k.val + 20) (by omega) (by revert k; decide +kernel) (word3 k 20) (fun v hv _ a => by fin_cases a; exact hv) fun _ => rfl) ?_
  refine seq c (wp_tabStep c q hlt hinj (R := 640 + 32 * k.val + 21) (by omega) (by revert k; decide +kernel) (word3 k 21) (fun v hv _ a => by fin_cases a; exact hv) fun _ => rfl) ?_
  refine seq c (wp_tabStep c q hlt hinj (R := 640 + 32 * k.val + 22) (by omega) (by revert k; decide +kernel) (word3 k 22) (fun v hv _ a => by fin_cases a; exact hv) fun _ => rfl) ?_
  refine seq c (wp_tabStep c q hlt hinj (R := 640 + 32 * k.val + 23) (by omega) (by revert k; decide +kernel) (word3 k 23) (fun v hv _ a => by fin_cases a; exact hv) fun _ => rfl) ?_
  refine seq c (wp_tabStep c q hlt hinj (R := 640 + 32 * k.val + 24) (by omega) (by revert k; decide +kernel) (word3 k 24) (fun v hv _ a => by fin_cases a; exact hv) fun _ => rfl) ?_
  refine seq c (wp_tabStep c q hlt hinj (R := 640 + 32 * k.val + 25) (by omega) (by revert k; decide +kernel) (word3 k 25) (fun v hv _ a => by fin_cases a; exact hv) fun _ => rfl) ?_
  refine seq c (wp_tabStep c q hlt hinj (R := 640 + 32 * k.val + 26) (by omega) (by revert k; decide +kernel) (word3 k 26) (fun v hv _ a => by fin_cases a; exact hv) fun _ => rfl) ?_
  refine seq c (wp_tabStep c q hlt hinj (R := 640 + 32 * k.val + 27) (by omega) (by revert k; decide +kernel) (word3 k 27) (fun v hv _ a => by fin_cases a; exact hv) fun _ => rfl) ?_
  refine seq c (wp_tabStep c q hlt hinj (R := 640 + 32 * k.val + 28) (by omega) (by revert k; decide +kernel) (word3 k 28) (fun v hv _ a => by fin_cases a; exact hv) fun _ => rfl) ?_
  refine seq c (wp_tabStep c q hlt hinj (R := 640 + 32 * k.val + 29) (by omega) (by revert k; decide +kernel) (word3 k 29) (fun v hv _ a => by fin_cases a; exact hv) fun _ => rfl) ?_
  refine seq c (wp_tabStep c q hlt hinj (R := 640 + 32 * k.val + 30) (by omega) (by revert k; decide +kernel) (word3 k 30) (fun v hv _ a => by fin_cases a; exact hv) fun _ => rfl) ?_
  exact (wp_tabStep c q hlt hinj (R := 640 + 32 * k.val + 31) (by omega) (by revert k; decide +kernel) (word3 k 31) (fun v hv _ a => by fin_cases a; exact hv) fun _ => rfl)

include hlt hinj in
/-- Loop 3 writes its rows' entries. -/
theorem loop3 :
    (iprop(owns (c : Thread nD τ) arg1 q X ∗ ownsSat (c : Thread nD τ) arg6 fullShare (Agree X entry 640)) : sProp 𝕄)
      ⊢ wp frame (wpE (defs₀ (F := F)) 𝒱₀ c none) Set.univ
        (Scf.Loop.for k1_t3_loop (k1_t3_ok i k1_h1) () (k1_t3_body i arg1 harg1 arg2 harg2 arg3 harg3 arg4 harg4 arg5 harg5 arg6 harg6 arg7 harg7 arg8 harg8 arg9 harg9 arg10 harg10 arg11 k1_h1)) fun _ =>
        iprop(owns (c : Thread nD τ) arg1 q X ∗ ownsSat (c : Thread nD τ) arg6 fullShare (Agree X entry 1504)) := by
  iintro H
  iapply (Scf.wp_for frame (wpE (defs₀ (F := F)) 𝒱₀ c none) Set.univ _ _ _ (k1_t3_ok i k1_h1) () _
    (fun k _ => iprop(owns (c : Thread nD τ) arg1 q X ∗ ownsSat (c : Thread nD τ) arg6 fullShare (Agree X entry (640 + 32 * k))))
    (fun k _ => trip3 c q i arg1 harg1 arg2 harg2 arg3 harg3 arg4 harg4 arg5 harg5 arg6 harg6 arg7 harg7 arg8 harg8 arg9 harg9 arg10 harg10 arg11 k1_h1 hlt hinj k))
  isplitl [H]
  · iexact H
  iintro %_ H
  iexact H

/-- Loop 4's words are the table's. -/
theorem word4 : ∀ (k : Fin k1_t4_loop.trips) (j : Fin 32),
    Scalar.addi (wordAt 265#32 4#32 47#32 (Scf.iv 0#32 1#32 k)) (wordRow 4 j.val) = entry (1504 + 32 * k.val + j.val) := by
  decide +kernel

set_option maxRecDepth 65536 in
set_option maxHeartbeats 4000000 in
theorem body4_eq (k : Fin k1_t4_loop.trips) :
    k1_t4_body (F := F) i arg1 harg1 arg2 harg2 arg3 harg3 arg4 harg4 arg5 harg5 arg6 harg6 arg7 harg7 arg8 harg8 arg9 harg9 arg10 harg10 arg11 k1_h1 k () =
    (tabStep arg1 arg6 (k1_off193 k) (k1_off193_inb i k k1_h1) (k1_chk97 i) (k1_chk97.dec i) k1_off194 (fun v hw => k1_off194_inb i v hw k1_h1) (Scalar.addi (wordAt 265#32 4#32 47#32 (Scf.iv 0#32 1#32 k)) 262144#32) >>= fun _ =>
    tabStep arg1 arg6 (k1_off195 k) (k1_off195_inb i k k1_h1) (k1_chk98 i) (k1_chk98.dec i) k1_off196 (fun v hw => k1_off196_inb i v hw k1_h1) (Scalar.addi (wordAt 265#32 4#32 47#32 (Scf.iv 0#32 1#32 k)) 270336#32) >>= fun _ =>
    tabStep arg1 arg6 (k1_off197 k) (k1_off197_inb i k k1_h1) (k1_chk99 i) (k1_chk99.dec i) k1_off198 (fun v hw => k1_off198_inb i v hw k1_h1) (Scalar.addi (wordAt 265#32 4#32 47#32 (Scf.iv 0#32 1#32 k)) 278528#32) >>= fun _ =>
    tabStep arg1 arg6 (k1_off199 k) (k1_off199_inb i k k1_h1) (k1_chk100 i) (k1_chk100.dec i) k1_off200 (fun v hw => k1_off200_inb i v hw k1_h1) (Scalar.addi (wordAt 265#32 4#32 47#32 (Scf.iv 0#32 1#32 k)) 286720#32) >>= fun _ =>
    tabStep arg1 arg6 (k1_off201 k) (k1_off201_inb i k k1_h1) (k1_chk101 i) (k1_chk101.dec i) k1_off202 (fun v hw => k1_off202_inb i v hw k1_h1) (Scalar.addi (wordAt 265#32 4#32 47#32 (Scf.iv 0#32 1#32 k)) 294912#32) >>= fun _ =>
    tabStep arg1 arg6 (k1_off203 k) (k1_off203_inb i k k1_h1) (k1_chk102 i) (k1_chk102.dec i) k1_off204 (fun v hw => k1_off204_inb i v hw k1_h1) (Scalar.addi (wordAt 265#32 4#32 47#32 (Scf.iv 0#32 1#32 k)) 303104#32) >>= fun _ =>
    tabStep arg1 arg6 (k1_off205 k) (k1_off205_inb i k k1_h1) (k1_chk103 i) (k1_chk103.dec i) k1_off206 (fun v hw => k1_off206_inb i v hw k1_h1) (Scalar.addi (wordAt 265#32 4#32 47#32 (Scf.iv 0#32 1#32 k)) 311296#32) >>= fun _ =>
    tabStep arg1 arg6 (k1_off207 k) (k1_off207_inb i k k1_h1) (k1_chk104 i) (k1_chk104.dec i) k1_off208 (fun v hw => k1_off208_inb i v hw k1_h1) (Scalar.addi (wordAt 265#32 4#32 47#32 (Scf.iv 0#32 1#32 k)) 319488#32) >>= fun _ =>
    tabStep arg1 arg6 (k1_off209 k) (k1_off209_inb i k k1_h1) (k1_chk105 i) (k1_chk105.dec i) k1_off210 (fun v hw => k1_off210_inb i v hw k1_h1) (Scalar.addi (wordAt 265#32 4#32 47#32 (Scf.iv 0#32 1#32 k)) 262145#32) >>= fun _ =>
    tabStep arg1 arg6 (k1_off211 k) (k1_off211_inb i k k1_h1) (k1_chk106 i) (k1_chk106.dec i) k1_off212 (fun v hw => k1_off212_inb i v hw k1_h1) (Scalar.addi (wordAt 265#32 4#32 47#32 (Scf.iv 0#32 1#32 k)) 270337#32) >>= fun _ =>
    tabStep arg1 arg6 (k1_off213 k) (k1_off213_inb i k k1_h1) (k1_chk107 i) (k1_chk107.dec i) k1_off214 (fun v hw => k1_off214_inb i v hw k1_h1) (Scalar.addi (wordAt 265#32 4#32 47#32 (Scf.iv 0#32 1#32 k)) 278529#32) >>= fun _ =>
    tabStep arg1 arg6 (k1_off215 k) (k1_off215_inb i k k1_h1) (k1_chk108 i) (k1_chk108.dec i) k1_off216 (fun v hw => k1_off216_inb i v hw k1_h1) (Scalar.addi (wordAt 265#32 4#32 47#32 (Scf.iv 0#32 1#32 k)) 286721#32) >>= fun _ =>
    tabStep arg1 arg6 (k1_off217 k) (k1_off217_inb i k k1_h1) (k1_chk109 i) (k1_chk109.dec i) k1_off218 (fun v hw => k1_off218_inb i v hw k1_h1) (Scalar.addi (wordAt 265#32 4#32 47#32 (Scf.iv 0#32 1#32 k)) 294913#32) >>= fun _ =>
    tabStep arg1 arg6 (k1_off219 k) (k1_off219_inb i k k1_h1) (k1_chk110 i) (k1_chk110.dec i) k1_off220 (fun v hw => k1_off220_inb i v hw k1_h1) (Scalar.addi (wordAt 265#32 4#32 47#32 (Scf.iv 0#32 1#32 k)) 303105#32) >>= fun _ =>
    tabStep arg1 arg6 (k1_off221 k) (k1_off221_inb i k k1_h1) (k1_chk111 i) (k1_chk111.dec i) k1_off222 (fun v hw => k1_off222_inb i v hw k1_h1) (Scalar.addi (wordAt 265#32 4#32 47#32 (Scf.iv 0#32 1#32 k)) 311297#32) >>= fun _ =>
    tabStep arg1 arg6 (k1_off223 k) (k1_off223_inb i k k1_h1) (k1_chk112 i) (k1_chk112.dec i) k1_off224 (fun v hw => k1_off224_inb i v hw k1_h1) (Scalar.addi (wordAt 265#32 4#32 47#32 (Scf.iv 0#32 1#32 k)) 319489#32) >>= fun _ =>
    tabStep arg1 arg6 (k1_off225 k) (k1_off225_inb i k k1_h1) (k1_chk113 i) (k1_chk113.dec i) k1_off226 (fun v hw => k1_off226_inb i v hw k1_h1) (Scalar.addi (wordAt 265#32 4#32 47#32 (Scf.iv 0#32 1#32 k)) 262146#32) >>= fun _ =>
    tabStep arg1 arg6 (k1_off227 k) (k1_off227_inb i k k1_h1) (k1_chk114 i) (k1_chk114.dec i) k1_off228 (fun v hw => k1_off228_inb i v hw k1_h1) (Scalar.addi (wordAt 265#32 4#32 47#32 (Scf.iv 0#32 1#32 k)) 270338#32) >>= fun _ =>
    tabStep arg1 arg6 (k1_off229 k) (k1_off229_inb i k k1_h1) (k1_chk115 i) (k1_chk115.dec i) k1_off230 (fun v hw => k1_off230_inb i v hw k1_h1) (Scalar.addi (wordAt 265#32 4#32 47#32 (Scf.iv 0#32 1#32 k)) 278530#32) >>= fun _ =>
    tabStep arg1 arg6 (k1_off231 k) (k1_off231_inb i k k1_h1) (k1_chk116 i) (k1_chk116.dec i) k1_off232 (fun v hw => k1_off232_inb i v hw k1_h1) (Scalar.addi (wordAt 265#32 4#32 47#32 (Scf.iv 0#32 1#32 k)) 286722#32) >>= fun _ =>
    tabStep arg1 arg6 (k1_off233 k) (k1_off233_inb i k k1_h1) (k1_chk117 i) (k1_chk117.dec i) k1_off234 (fun v hw => k1_off234_inb i v hw k1_h1) (Scalar.addi (wordAt 265#32 4#32 47#32 (Scf.iv 0#32 1#32 k)) 294914#32) >>= fun _ =>
    tabStep arg1 arg6 (k1_off235 k) (k1_off235_inb i k k1_h1) (k1_chk118 i) (k1_chk118.dec i) k1_off236 (fun v hw => k1_off236_inb i v hw k1_h1) (Scalar.addi (wordAt 265#32 4#32 47#32 (Scf.iv 0#32 1#32 k)) 303106#32) >>= fun _ =>
    tabStep arg1 arg6 (k1_off237 k) (k1_off237_inb i k k1_h1) (k1_chk119 i) (k1_chk119.dec i) k1_off238 (fun v hw => k1_off238_inb i v hw k1_h1) (Scalar.addi (wordAt 265#32 4#32 47#32 (Scf.iv 0#32 1#32 k)) 311298#32) >>= fun _ =>
    tabStep arg1 arg6 (k1_off239 k) (k1_off239_inb i k k1_h1) (k1_chk120 i) (k1_chk120.dec i) k1_off240 (fun v hw => k1_off240_inb i v hw k1_h1) (Scalar.addi (wordAt 265#32 4#32 47#32 (Scf.iv 0#32 1#32 k)) 319490#32) >>= fun _ =>
    tabStep arg1 arg6 (k1_off241 k) (k1_off241_inb i k k1_h1) (k1_chk121 i) (k1_chk121.dec i) k1_off242 (fun v hw => k1_off242_inb i v hw k1_h1) (Scalar.addi (wordAt 265#32 4#32 47#32 (Scf.iv 0#32 1#32 k)) 262147#32) >>= fun _ =>
    tabStep arg1 arg6 (k1_off243 k) (k1_off243_inb i k k1_h1) (k1_chk122 i) (k1_chk122.dec i) k1_off244 (fun v hw => k1_off244_inb i v hw k1_h1) (Scalar.addi (wordAt 265#32 4#32 47#32 (Scf.iv 0#32 1#32 k)) 270339#32) >>= fun _ =>
    tabStep arg1 arg6 (k1_off245 k) (k1_off245_inb i k k1_h1) (k1_chk123 i) (k1_chk123.dec i) k1_off246 (fun v hw => k1_off246_inb i v hw k1_h1) (Scalar.addi (wordAt 265#32 4#32 47#32 (Scf.iv 0#32 1#32 k)) 278531#32) >>= fun _ =>
    tabStep arg1 arg6 (k1_off247 k) (k1_off247_inb i k k1_h1) (k1_chk124 i) (k1_chk124.dec i) k1_off248 (fun v hw => k1_off248_inb i v hw k1_h1) (Scalar.addi (wordAt 265#32 4#32 47#32 (Scf.iv 0#32 1#32 k)) 286723#32) >>= fun _ =>
    tabStep arg1 arg6 (k1_off249 k) (k1_off249_inb i k k1_h1) (k1_chk125 i) (k1_chk125.dec i) k1_off250 (fun v hw => k1_off250_inb i v hw k1_h1) (Scalar.addi (wordAt 265#32 4#32 47#32 (Scf.iv 0#32 1#32 k)) 294915#32) >>= fun _ =>
    tabStep arg1 arg6 (k1_off251 k) (k1_off251_inb i k k1_h1) (k1_chk126 i) (k1_chk126.dec i) k1_off252 (fun v hw => k1_off252_inb i v hw k1_h1) (Scalar.addi (wordAt 265#32 4#32 47#32 (Scf.iv 0#32 1#32 k)) 303107#32) >>= fun _ =>
    tabStep arg1 arg6 (k1_off253 k) (k1_off253_inb i k k1_h1) (k1_chk127 i) (k1_chk127.dec i) k1_off254 (fun v hw => k1_off254_inb i v hw k1_h1) (Scalar.addi (wordAt 265#32 4#32 47#32 (Scf.iv 0#32 1#32 k)) 311299#32) >>= fun _ =>
    tabStep arg1 arg6 (k1_off255 k) (k1_off255_inb i k k1_h1) (k1_chk128 i) (k1_chk128.dec i) k1_off256 (fun v hw => k1_off256_inb i v hw k1_h1) (Scalar.addi (wordAt 265#32 4#32 47#32 (Scf.iv 0#32 1#32 k)) 319491#32)) := rfl

include hlt hinj in
set_option maxHeartbeats 4000000 in
/-- A trip of loop 4 writes 32 entries. -/
theorem trip4 (k : Fin k1_t4_loop.trips) :
    (iprop(owns (c : Thread nD τ) arg1 q X ∗ ownsSat (c : Thread nD τ) arg6 fullShare (Agree X entry (1504 + 32 * k.val))) : sProp 𝕄)
      ⊢ wp frame (wpE (defs₀ (F := F)) 𝒱₀ c none) Set.univ (k1_t4_body i arg1 harg1 arg2 harg2 arg3 harg3 arg4 harg4 arg5 harg5 arg6 harg6 arg7 harg7 arg8 harg8 arg9 harg9 arg10 harg10 arg11 k1_h1 k ()) fun _ =>
        iprop(owns (c : Thread nD τ) arg1 q X ∗ ownsSat (c : Thread nD τ) arg6 fullShare (Agree X entry (1504 + 32 * (k.val + 1)))) := by
  have hk : k.val < 46 := k.isLt
  rw [body4_eq]
  refine seq c (wp_tabStep c q hlt hinj (R := 1504 + 32 * k.val + 0) (by omega) (by revert k; decide +kernel) (word4 k 0) (fun v hv _ a => by fin_cases a; exact hv) fun _ => rfl) ?_
  refine seq c (wp_tabStep c q hlt hinj (R := 1504 + 32 * k.val + 1) (by omega) (by revert k; decide +kernel) (word4 k 1) (fun v hv _ a => by fin_cases a; exact hv) fun _ => rfl) ?_
  refine seq c (wp_tabStep c q hlt hinj (R := 1504 + 32 * k.val + 2) (by omega) (by revert k; decide +kernel) (word4 k 2) (fun v hv _ a => by fin_cases a; exact hv) fun _ => rfl) ?_
  refine seq c (wp_tabStep c q hlt hinj (R := 1504 + 32 * k.val + 3) (by omega) (by revert k; decide +kernel) (word4 k 3) (fun v hv _ a => by fin_cases a; exact hv) fun _ => rfl) ?_
  refine seq c (wp_tabStep c q hlt hinj (R := 1504 + 32 * k.val + 4) (by omega) (by revert k; decide +kernel) (word4 k 4) (fun v hv _ a => by fin_cases a; exact hv) fun _ => rfl) ?_
  refine seq c (wp_tabStep c q hlt hinj (R := 1504 + 32 * k.val + 5) (by omega) (by revert k; decide +kernel) (word4 k 5) (fun v hv _ a => by fin_cases a; exact hv) fun _ => rfl) ?_
  refine seq c (wp_tabStep c q hlt hinj (R := 1504 + 32 * k.val + 6) (by omega) (by revert k; decide +kernel) (word4 k 6) (fun v hv _ a => by fin_cases a; exact hv) fun _ => rfl) ?_
  refine seq c (wp_tabStep c q hlt hinj (R := 1504 + 32 * k.val + 7) (by omega) (by revert k; decide +kernel) (word4 k 7) (fun v hv _ a => by fin_cases a; exact hv) fun _ => rfl) ?_
  refine seq c (wp_tabStep c q hlt hinj (R := 1504 + 32 * k.val + 8) (by omega) (by revert k; decide +kernel) (word4 k 8) (fun v hv _ a => by fin_cases a; exact hv) fun _ => rfl) ?_
  refine seq c (wp_tabStep c q hlt hinj (R := 1504 + 32 * k.val + 9) (by omega) (by revert k; decide +kernel) (word4 k 9) (fun v hv _ a => by fin_cases a; exact hv) fun _ => rfl) ?_
  refine seq c (wp_tabStep c q hlt hinj (R := 1504 + 32 * k.val + 10) (by omega) (by revert k; decide +kernel) (word4 k 10) (fun v hv _ a => by fin_cases a; exact hv) fun _ => rfl) ?_
  refine seq c (wp_tabStep c q hlt hinj (R := 1504 + 32 * k.val + 11) (by omega) (by revert k; decide +kernel) (word4 k 11) (fun v hv _ a => by fin_cases a; exact hv) fun _ => rfl) ?_
  refine seq c (wp_tabStep c q hlt hinj (R := 1504 + 32 * k.val + 12) (by omega) (by revert k; decide +kernel) (word4 k 12) (fun v hv _ a => by fin_cases a; exact hv) fun _ => rfl) ?_
  refine seq c (wp_tabStep c q hlt hinj (R := 1504 + 32 * k.val + 13) (by omega) (by revert k; decide +kernel) (word4 k 13) (fun v hv _ a => by fin_cases a; exact hv) fun _ => rfl) ?_
  refine seq c (wp_tabStep c q hlt hinj (R := 1504 + 32 * k.val + 14) (by omega) (by revert k; decide +kernel) (word4 k 14) (fun v hv _ a => by fin_cases a; exact hv) fun _ => rfl) ?_
  refine seq c (wp_tabStep c q hlt hinj (R := 1504 + 32 * k.val + 15) (by omega) (by revert k; decide +kernel) (word4 k 15) (fun v hv _ a => by fin_cases a; exact hv) fun _ => rfl) ?_
  refine seq c (wp_tabStep c q hlt hinj (R := 1504 + 32 * k.val + 16) (by omega) (by revert k; decide +kernel) (word4 k 16) (fun v hv _ a => by fin_cases a; exact hv) fun _ => rfl) ?_
  refine seq c (wp_tabStep c q hlt hinj (R := 1504 + 32 * k.val + 17) (by omega) (by revert k; decide +kernel) (word4 k 17) (fun v hv _ a => by fin_cases a; exact hv) fun _ => rfl) ?_
  refine seq c (wp_tabStep c q hlt hinj (R := 1504 + 32 * k.val + 18) (by omega) (by revert k; decide +kernel) (word4 k 18) (fun v hv _ a => by fin_cases a; exact hv) fun _ => rfl) ?_
  refine seq c (wp_tabStep c q hlt hinj (R := 1504 + 32 * k.val + 19) (by omega) (by revert k; decide +kernel) (word4 k 19) (fun v hv _ a => by fin_cases a; exact hv) fun _ => rfl) ?_
  refine seq c (wp_tabStep c q hlt hinj (R := 1504 + 32 * k.val + 20) (by omega) (by revert k; decide +kernel) (word4 k 20) (fun v hv _ a => by fin_cases a; exact hv) fun _ => rfl) ?_
  refine seq c (wp_tabStep c q hlt hinj (R := 1504 + 32 * k.val + 21) (by omega) (by revert k; decide +kernel) (word4 k 21) (fun v hv _ a => by fin_cases a; exact hv) fun _ => rfl) ?_
  refine seq c (wp_tabStep c q hlt hinj (R := 1504 + 32 * k.val + 22) (by omega) (by revert k; decide +kernel) (word4 k 22) (fun v hv _ a => by fin_cases a; exact hv) fun _ => rfl) ?_
  refine seq c (wp_tabStep c q hlt hinj (R := 1504 + 32 * k.val + 23) (by omega) (by revert k; decide +kernel) (word4 k 23) (fun v hv _ a => by fin_cases a; exact hv) fun _ => rfl) ?_
  refine seq c (wp_tabStep c q hlt hinj (R := 1504 + 32 * k.val + 24) (by omega) (by revert k; decide +kernel) (word4 k 24) (fun v hv _ a => by fin_cases a; exact hv) fun _ => rfl) ?_
  refine seq c (wp_tabStep c q hlt hinj (R := 1504 + 32 * k.val + 25) (by omega) (by revert k; decide +kernel) (word4 k 25) (fun v hv _ a => by fin_cases a; exact hv) fun _ => rfl) ?_
  refine seq c (wp_tabStep c q hlt hinj (R := 1504 + 32 * k.val + 26) (by omega) (by revert k; decide +kernel) (word4 k 26) (fun v hv _ a => by fin_cases a; exact hv) fun _ => rfl) ?_
  refine seq c (wp_tabStep c q hlt hinj (R := 1504 + 32 * k.val + 27) (by omega) (by revert k; decide +kernel) (word4 k 27) (fun v hv _ a => by fin_cases a; exact hv) fun _ => rfl) ?_
  refine seq c (wp_tabStep c q hlt hinj (R := 1504 + 32 * k.val + 28) (by omega) (by revert k; decide +kernel) (word4 k 28) (fun v hv _ a => by fin_cases a; exact hv) fun _ => rfl) ?_
  refine seq c (wp_tabStep c q hlt hinj (R := 1504 + 32 * k.val + 29) (by omega) (by revert k; decide +kernel) (word4 k 29) (fun v hv _ a => by fin_cases a; exact hv) fun _ => rfl) ?_
  refine seq c (wp_tabStep c q hlt hinj (R := 1504 + 32 * k.val + 30) (by omega) (by revert k; decide +kernel) (word4 k 30) (fun v hv _ a => by fin_cases a; exact hv) fun _ => rfl) ?_
  exact (wp_tabStep c q hlt hinj (R := 1504 + 32 * k.val + 31) (by omega) (by revert k; decide +kernel) (word4 k 31) (fun v hv _ a => by fin_cases a; exact hv) fun _ => rfl)

include hlt hinj in
/-- Loop 4 writes its rows' entries. -/
theorem loop4 :
    (iprop(owns (c : Thread nD τ) arg1 q X ∗ ownsSat (c : Thread nD τ) arg6 fullShare (Agree X entry 1504)) : sProp 𝕄)
      ⊢ wp frame (wpE (defs₀ (F := F)) 𝒱₀ c none) Set.univ
        (Scf.Loop.for k1_t4_loop (k1_t4_ok i k1_h1) () (k1_t4_body i arg1 harg1 arg2 harg2 arg3 harg3 arg4 harg4 arg5 harg5 arg6 harg6 arg7 harg7 arg8 harg8 arg9 harg9 arg10 harg10 arg11 k1_h1)) fun _ =>
        iprop(owns (c : Thread nD τ) arg1 q X ∗ ownsSat (c : Thread nD τ) arg6 fullShare (Agree X entry 2976)) := by
  iintro H
  iapply (Scf.wp_for frame (wpE (defs₀ (F := F)) 𝒱₀ c none) Set.univ _ _ _ (k1_t4_ok i k1_h1) () _
    (fun k _ => iprop(owns (c : Thread nD τ) arg1 q X ∗ ownsSat (c : Thread nD τ) arg6 fullShare (Agree X entry (1504 + 32 * k))))
    (fun k _ => trip4 c q i arg1 harg1 arg2 harg2 arg3 harg3 arg4 harg4 arg5 harg5 arg6 harg6 arg7 harg7 arg8 harg8 arg9 harg9 arg10 harg10 arg11 k1_h1 hlt hinj k))
  isplitl [H]
  · iexact H
  iintro %_ H
  iexact H

/-- Loop 5's words are the table's. -/
theorem word5 : ∀ (k : Fin k1_t5_loop.trips) (j : Fin 32),
    Scalar.addi (wordAt 449#32 3#32 93#32 (Scf.iv 0#32 1#32 k)) (wordRow 3 j.val) = entry (2976 + 32 * k.val + j.val) := by
  decide +kernel

set_option maxRecDepth 65536 in
set_option maxHeartbeats 4000000 in
theorem body5_eq (k : Fin k1_t5_loop.trips) :
    k1_t5_body (F := F) i arg1 harg1 arg2 harg2 arg3 harg3 arg4 harg4 arg5 harg5 arg6 harg6 arg7 harg7 arg8 harg8 arg9 harg9 arg10 harg10 arg11 k1_h1 k () =
    (tabStep arg1 arg6 (k1_off257 k) (k1_off257_inb i k k1_h1) (k1_chk129 i) (k1_chk129.dec i) k1_off258 (fun v hw => k1_off258_inb i v hw k1_h1) (Scalar.addi (wordAt 449#32 3#32 93#32 (Scf.iv 0#32 1#32 k)) 196608#32) >>= fun _ =>
    tabStep arg1 arg6 (k1_off259 k) (k1_off259_inb i k k1_h1) (k1_chk130 i) (k1_chk130.dec i) k1_off260 (fun v hw => k1_off260_inb i v hw k1_h1) (Scalar.addi (wordAt 449#32 3#32 93#32 (Scf.iv 0#32 1#32 k)) 202752#32) >>= fun _ =>
    tabStep arg1 arg6 (k1_off261 k) (k1_off261_inb i k k1_h1) (k1_chk131 i) (k1_chk131.dec i) k1_off262 (fun v hw => k1_off262_inb i v hw k1_h1) (Scalar.addi (wordAt 449#32 3#32 93#32 (Scf.iv 0#32 1#32 k)) 208896#32) >>= fun _ =>
    tabStep arg1 arg6 (k1_off263 k) (k1_off263_inb i k k1_h1) (k1_chk132 i) (k1_chk132.dec i) k1_off264 (fun v hw => k1_off264_inb i v hw k1_h1) (Scalar.addi (wordAt 449#32 3#32 93#32 (Scf.iv 0#32 1#32 k)) 215040#32) >>= fun _ =>
    tabStep arg1 arg6 (k1_off265 k) (k1_off265_inb i k k1_h1) (k1_chk133 i) (k1_chk133.dec i) k1_off266 (fun v hw => k1_off266_inb i v hw k1_h1) (Scalar.addi (wordAt 449#32 3#32 93#32 (Scf.iv 0#32 1#32 k)) 221184#32) >>= fun _ =>
    tabStep arg1 arg6 (k1_off267 k) (k1_off267_inb i k k1_h1) (k1_chk134 i) (k1_chk134.dec i) k1_off268 (fun v hw => k1_off268_inb i v hw k1_h1) (Scalar.addi (wordAt 449#32 3#32 93#32 (Scf.iv 0#32 1#32 k)) 227328#32) >>= fun _ =>
    tabStep arg1 arg6 (k1_off269 k) (k1_off269_inb i k k1_h1) (k1_chk135 i) (k1_chk135.dec i) k1_off270 (fun v hw => k1_off270_inb i v hw k1_h1) (Scalar.addi (wordAt 449#32 3#32 93#32 (Scf.iv 0#32 1#32 k)) 233472#32) >>= fun _ =>
    tabStep arg1 arg6 (k1_off271 k) (k1_off271_inb i k k1_h1) (k1_chk136 i) (k1_chk136.dec i) k1_off272 (fun v hw => k1_off272_inb i v hw k1_h1) (Scalar.addi (wordAt 449#32 3#32 93#32 (Scf.iv 0#32 1#32 k)) 239616#32) >>= fun _ =>
    tabStep arg1 arg6 (k1_off273 k) (k1_off273_inb i k k1_h1) (k1_chk137 i) (k1_chk137.dec i) k1_off274 (fun v hw => k1_off274_inb i v hw k1_h1) (Scalar.addi (wordAt 449#32 3#32 93#32 (Scf.iv 0#32 1#32 k)) 245760#32) >>= fun _ =>
    tabStep arg1 arg6 (k1_off275 k) (k1_off275_inb i k k1_h1) (k1_chk138 i) (k1_chk138.dec i) k1_off276 (fun v hw => k1_off276_inb i v hw k1_h1) (Scalar.addi (wordAt 449#32 3#32 93#32 (Scf.iv 0#32 1#32 k)) 251904#32) >>= fun _ =>
    tabStep arg1 arg6 (k1_off277 k) (k1_off277_inb i k k1_h1) (k1_chk139 i) (k1_chk139.dec i) k1_off278 (fun v hw => k1_off278_inb i v hw k1_h1) (Scalar.addi (wordAt 449#32 3#32 93#32 (Scf.iv 0#32 1#32 k)) 259072#32) >>= fun _ =>
    tabStep arg1 arg6 (k1_off279 k) (k1_off279_inb i k k1_h1) (k1_chk140 i) (k1_chk140.dec i) k1_off280 (fun v hw => k1_off280_inb i v hw k1_h1) (Scalar.addi (wordAt 449#32 3#32 93#32 (Scf.iv 0#32 1#32 k)) 198657#32) >>= fun _ =>
    tabStep arg1 arg6 (k1_off281 k) (k1_off281_inb i k k1_h1) (k1_chk141 i) (k1_chk141.dec i) k1_off282 (fun v hw => k1_off282_inb i v hw k1_h1) (Scalar.addi (wordAt 449#32 3#32 93#32 (Scf.iv 0#32 1#32 k)) 204801#32) >>= fun _ =>
    tabStep arg1 arg6 (k1_off283 k) (k1_off283_inb i k k1_h1) (k1_chk142 i) (k1_chk142.dec i) k1_off284 (fun v hw => k1_off284_inb i v hw k1_h1) (Scalar.addi (wordAt 449#32 3#32 93#32 (Scf.iv 0#32 1#32 k)) 210945#32) >>= fun _ =>
    tabStep arg1 arg6 (k1_off285 k) (k1_off285_inb i k k1_h1) (k1_chk143 i) (k1_chk143.dec i) k1_off286 (fun v hw => k1_off286_inb i v hw k1_h1) (Scalar.addi (wordAt 449#32 3#32 93#32 (Scf.iv 0#32 1#32 k)) 217089#32) >>= fun _ =>
    tabStep arg1 arg6 (k1_off287 k) (k1_off287_inb i k k1_h1) (k1_chk144 i) (k1_chk144.dec i) k1_off288 (fun v hw => k1_off288_inb i v hw k1_h1) (Scalar.addi (wordAt 449#32 3#32 93#32 (Scf.iv 0#32 1#32 k)) 223233#32) >>= fun _ =>
    tabStep arg1 arg6 (k1_off289 k) (k1_off289_inb i k k1_h1) (k1_chk145 i) (k1_chk145.dec i) k1_off290 (fun v hw => k1_off290_inb i v hw k1_h1) (Scalar.addi (wordAt 449#32 3#32 93#32 (Scf.iv 0#32 1#32 k)) 229377#32) >>= fun _ =>
    tabStep arg1 arg6 (k1_off291 k) (k1_off291_inb i k k1_h1) (k1_chk146 i) (k1_chk146.dec i) k1_off292 (fun v hw => k1_off292_inb i v hw k1_h1) (Scalar.addi (wordAt 449#32 3#32 93#32 (Scf.iv 0#32 1#32 k)) 235521#32) >>= fun _ =>
    tabStep arg1 arg6 (k1_off293 k) (k1_off293_inb i k k1_h1) (k1_chk147 i) (k1_chk147.dec i) k1_off294 (fun v hw => k1_off294_inb i v hw k1_h1) (Scalar.addi (wordAt 449#32 3#32 93#32 (Scf.iv 0#32 1#32 k)) 241665#32) >>= fun _ =>
    tabStep arg1 arg6 (k1_off295 k) (k1_off295_inb i k k1_h1) (k1_chk148 i) (k1_chk148.dec i) k1_off296 (fun v hw => k1_off296_inb i v hw k1_h1) (Scalar.addi (wordAt 449#32 3#32 93#32 (Scf.iv 0#32 1#32 k)) 247809#32) >>= fun _ =>
    tabStep arg1 arg6 (k1_off297 k) (k1_off297_inb i k k1_h1) (k1_chk149 i) (k1_chk149.dec i) k1_off298 (fun v hw => k1_off298_inb i v hw k1_h1) (Scalar.addi (wordAt 449#32 3#32 93#32 (Scf.iv 0#32 1#32 k)) 253953#32) >>= fun _ =>
    tabStep arg1 arg6 (k1_off299 k) (k1_off299_inb i k k1_h1) (k1_chk150 i) (k1_chk150.dec i) k1_off300 (fun v hw => k1_off300_inb i v hw k1_h1) (Scalar.addi (wordAt 449#32 3#32 93#32 (Scf.iv 0#32 1#32 k)) 261121#32) >>= fun _ =>
    tabStep arg1 arg6 (k1_off301 k) (k1_off301_inb i k k1_h1) (k1_chk151 i) (k1_chk151.dec i) k1_off302 (fun v hw => k1_off302_inb i v hw k1_h1) (Scalar.addi (wordAt 449#32 3#32 93#32 (Scf.iv 0#32 1#32 k)) 200706#32) >>= fun _ =>
    tabStep arg1 arg6 (k1_off303 k) (k1_off303_inb i k k1_h1) (k1_chk152 i) (k1_chk152.dec i) k1_off304 (fun v hw => k1_off304_inb i v hw k1_h1) (Scalar.addi (wordAt 449#32 3#32 93#32 (Scf.iv 0#32 1#32 k)) 206850#32) >>= fun _ =>
    tabStep arg1 arg6 (k1_off305 k) (k1_off305_inb i k k1_h1) (k1_chk153 i) (k1_chk153.dec i) k1_off306 (fun v hw => k1_off306_inb i v hw k1_h1) (Scalar.addi (wordAt 449#32 3#32 93#32 (Scf.iv 0#32 1#32 k)) 212994#32) >>= fun _ =>
    tabStep arg1 arg6 (k1_off307 k) (k1_off307_inb i k k1_h1) (k1_chk154 i) (k1_chk154.dec i) k1_off308 (fun v hw => k1_off308_inb i v hw k1_h1) (Scalar.addi (wordAt 449#32 3#32 93#32 (Scf.iv 0#32 1#32 k)) 219138#32) >>= fun _ =>
    tabStep arg1 arg6 (k1_off309 k) (k1_off309_inb i k k1_h1) (k1_chk155 i) (k1_chk155.dec i) k1_off310 (fun v hw => k1_off310_inb i v hw k1_h1) (Scalar.addi (wordAt 449#32 3#32 93#32 (Scf.iv 0#32 1#32 k)) 225282#32) >>= fun _ =>
    tabStep arg1 arg6 (k1_off311 k) (k1_off311_inb i k k1_h1) (k1_chk156 i) (k1_chk156.dec i) k1_off312 (fun v hw => k1_off312_inb i v hw k1_h1) (Scalar.addi (wordAt 449#32 3#32 93#32 (Scf.iv 0#32 1#32 k)) 231426#32) >>= fun _ =>
    tabStep arg1 arg6 (k1_off313 k) (k1_off313_inb i k k1_h1) (k1_chk157 i) (k1_chk157.dec i) k1_off314 (fun v hw => k1_off314_inb i v hw k1_h1) (Scalar.addi (wordAt 449#32 3#32 93#32 (Scf.iv 0#32 1#32 k)) 237570#32) >>= fun _ =>
    tabStep arg1 arg6 (k1_off315 k) (k1_off315_inb i k k1_h1) (k1_chk158 i) (k1_chk158.dec i) k1_off316 (fun v hw => k1_off316_inb i v hw k1_h1) (Scalar.addi (wordAt 449#32 3#32 93#32 (Scf.iv 0#32 1#32 k)) 243714#32) >>= fun _ =>
    tabStep arg1 arg6 (k1_off317 k) (k1_off317_inb i k k1_h1) (k1_chk159 i) (k1_chk159.dec i) k1_off318 (fun v hw => k1_off318_inb i v hw k1_h1) (Scalar.addi (wordAt 449#32 3#32 93#32 (Scf.iv 0#32 1#32 k)) 249858#32) >>= fun _ =>
    tabStep arg1 arg6 (k1_off319 k) (k1_off319_inb i k k1_h1) (k1_chk160 i) (k1_chk160.dec i) k1_off320 (fun v hw => k1_off320_inb i v hw k1_h1) (Scalar.addi (wordAt 449#32 3#32 93#32 (Scf.iv 0#32 1#32 k)) 256002#32)) := rfl

include hlt hinj in
set_option maxHeartbeats 4000000 in
/-- A trip of loop 5 writes 32 entries. -/
theorem trip5 (k : Fin k1_t5_loop.trips) :
    (iprop(owns (c : Thread nD τ) arg1 q X ∗ ownsSat (c : Thread nD τ) arg6 fullShare (Agree X entry (2976 + 32 * k.val))) : sProp 𝕄)
      ⊢ wp frame (wpE (defs₀ (F := F)) 𝒱₀ c none) Set.univ (k1_t5_body i arg1 harg1 arg2 harg2 arg3 harg3 arg4 harg4 arg5 harg5 arg6 harg6 arg7 harg7 arg8 harg8 arg9 harg9 arg10 harg10 arg11 k1_h1 k ()) fun _ =>
        iprop(owns (c : Thread nD τ) arg1 q X ∗ ownsSat (c : Thread nD τ) arg6 fullShare (Agree X entry (2976 + 32 * (k.val + 1)))) := by
  have hk : k.val < 26 := k.isLt
  rw [body5_eq]
  refine seq c (wp_tabStep c q hlt hinj (R := 2976 + 32 * k.val + 0) (by omega) (by revert k; decide +kernel) (word5 k 0) (fun v hv _ a => by fin_cases a; exact hv) fun _ => rfl) ?_
  refine seq c (wp_tabStep c q hlt hinj (R := 2976 + 32 * k.val + 1) (by omega) (by revert k; decide +kernel) (word5 k 1) (fun v hv _ a => by fin_cases a; exact hv) fun _ => rfl) ?_
  refine seq c (wp_tabStep c q hlt hinj (R := 2976 + 32 * k.val + 2) (by omega) (by revert k; decide +kernel) (word5 k 2) (fun v hv _ a => by fin_cases a; exact hv) fun _ => rfl) ?_
  refine seq c (wp_tabStep c q hlt hinj (R := 2976 + 32 * k.val + 3) (by omega) (by revert k; decide +kernel) (word5 k 3) (fun v hv _ a => by fin_cases a; exact hv) fun _ => rfl) ?_
  refine seq c (wp_tabStep c q hlt hinj (R := 2976 + 32 * k.val + 4) (by omega) (by revert k; decide +kernel) (word5 k 4) (fun v hv _ a => by fin_cases a; exact hv) fun _ => rfl) ?_
  refine seq c (wp_tabStep c q hlt hinj (R := 2976 + 32 * k.val + 5) (by omega) (by revert k; decide +kernel) (word5 k 5) (fun v hv _ a => by fin_cases a; exact hv) fun _ => rfl) ?_
  refine seq c (wp_tabStep c q hlt hinj (R := 2976 + 32 * k.val + 6) (by omega) (by revert k; decide +kernel) (word5 k 6) (fun v hv _ a => by fin_cases a; exact hv) fun _ => rfl) ?_
  refine seq c (wp_tabStep c q hlt hinj (R := 2976 + 32 * k.val + 7) (by omega) (by revert k; decide +kernel) (word5 k 7) (fun v hv _ a => by fin_cases a; exact hv) fun _ => rfl) ?_
  refine seq c (wp_tabStep c q hlt hinj (R := 2976 + 32 * k.val + 8) (by omega) (by revert k; decide +kernel) (word5 k 8) (fun v hv _ a => by fin_cases a; exact hv) fun _ => rfl) ?_
  refine seq c (wp_tabStep c q hlt hinj (R := 2976 + 32 * k.val + 9) (by omega) (by revert k; decide +kernel) (word5 k 9) (fun v hv _ a => by fin_cases a; exact hv) fun _ => rfl) ?_
  refine seq c (wp_tabStep c q hlt hinj (R := 2976 + 32 * k.val + 10) (by omega) (by revert k; decide +kernel) (word5 k 10) (fun v hv _ a => by fin_cases a; exact hv) fun _ => rfl) ?_
  refine seq c (wp_tabStep c q hlt hinj (R := 2976 + 32 * k.val + 11) (by omega) (by revert k; decide +kernel) (word5 k 11) (fun v hv _ a => by fin_cases a; exact hv) fun _ => rfl) ?_
  refine seq c (wp_tabStep c q hlt hinj (R := 2976 + 32 * k.val + 12) (by omega) (by revert k; decide +kernel) (word5 k 12) (fun v hv _ a => by fin_cases a; exact hv) fun _ => rfl) ?_
  refine seq c (wp_tabStep c q hlt hinj (R := 2976 + 32 * k.val + 13) (by omega) (by revert k; decide +kernel) (word5 k 13) (fun v hv _ a => by fin_cases a; exact hv) fun _ => rfl) ?_
  refine seq c (wp_tabStep c q hlt hinj (R := 2976 + 32 * k.val + 14) (by omega) (by revert k; decide +kernel) (word5 k 14) (fun v hv _ a => by fin_cases a; exact hv) fun _ => rfl) ?_
  refine seq c (wp_tabStep c q hlt hinj (R := 2976 + 32 * k.val + 15) (by omega) (by revert k; decide +kernel) (word5 k 15) (fun v hv _ a => by fin_cases a; exact hv) fun _ => rfl) ?_
  refine seq c (wp_tabStep c q hlt hinj (R := 2976 + 32 * k.val + 16) (by omega) (by revert k; decide +kernel) (word5 k 16) (fun v hv _ a => by fin_cases a; exact hv) fun _ => rfl) ?_
  refine seq c (wp_tabStep c q hlt hinj (R := 2976 + 32 * k.val + 17) (by omega) (by revert k; decide +kernel) (word5 k 17) (fun v hv _ a => by fin_cases a; exact hv) fun _ => rfl) ?_
  refine seq c (wp_tabStep c q hlt hinj (R := 2976 + 32 * k.val + 18) (by omega) (by revert k; decide +kernel) (word5 k 18) (fun v hv _ a => by fin_cases a; exact hv) fun _ => rfl) ?_
  refine seq c (wp_tabStep c q hlt hinj (R := 2976 + 32 * k.val + 19) (by omega) (by revert k; decide +kernel) (word5 k 19) (fun v hv _ a => by fin_cases a; exact hv) fun _ => rfl) ?_
  refine seq c (wp_tabStep c q hlt hinj (R := 2976 + 32 * k.val + 20) (by omega) (by revert k; decide +kernel) (word5 k 20) (fun v hv _ a => by fin_cases a; exact hv) fun _ => rfl) ?_
  refine seq c (wp_tabStep c q hlt hinj (R := 2976 + 32 * k.val + 21) (by omega) (by revert k; decide +kernel) (word5 k 21) (fun v hv _ a => by fin_cases a; exact hv) fun _ => rfl) ?_
  refine seq c (wp_tabStep c q hlt hinj (R := 2976 + 32 * k.val + 22) (by omega) (by revert k; decide +kernel) (word5 k 22) (fun v hv _ a => by fin_cases a; exact hv) fun _ => rfl) ?_
  refine seq c (wp_tabStep c q hlt hinj (R := 2976 + 32 * k.val + 23) (by omega) (by revert k; decide +kernel) (word5 k 23) (fun v hv _ a => by fin_cases a; exact hv) fun _ => rfl) ?_
  refine seq c (wp_tabStep c q hlt hinj (R := 2976 + 32 * k.val + 24) (by omega) (by revert k; decide +kernel) (word5 k 24) (fun v hv _ a => by fin_cases a; exact hv) fun _ => rfl) ?_
  refine seq c (wp_tabStep c q hlt hinj (R := 2976 + 32 * k.val + 25) (by omega) (by revert k; decide +kernel) (word5 k 25) (fun v hv _ a => by fin_cases a; exact hv) fun _ => rfl) ?_
  refine seq c (wp_tabStep c q hlt hinj (R := 2976 + 32 * k.val + 26) (by omega) (by revert k; decide +kernel) (word5 k 26) (fun v hv _ a => by fin_cases a; exact hv) fun _ => rfl) ?_
  refine seq c (wp_tabStep c q hlt hinj (R := 2976 + 32 * k.val + 27) (by omega) (by revert k; decide +kernel) (word5 k 27) (fun v hv _ a => by fin_cases a; exact hv) fun _ => rfl) ?_
  refine seq c (wp_tabStep c q hlt hinj (R := 2976 + 32 * k.val + 28) (by omega) (by revert k; decide +kernel) (word5 k 28) (fun v hv _ a => by fin_cases a; exact hv) fun _ => rfl) ?_
  refine seq c (wp_tabStep c q hlt hinj (R := 2976 + 32 * k.val + 29) (by omega) (by revert k; decide +kernel) (word5 k 29) (fun v hv _ a => by fin_cases a; exact hv) fun _ => rfl) ?_
  refine seq c (wp_tabStep c q hlt hinj (R := 2976 + 32 * k.val + 30) (by omega) (by revert k; decide +kernel) (word5 k 30) (fun v hv _ a => by fin_cases a; exact hv) fun _ => rfl) ?_
  exact (wp_tabStep c q hlt hinj (R := 2976 + 32 * k.val + 31) (by omega) (by revert k; decide +kernel) (word5 k 31) (fun v hv _ a => by fin_cases a; exact hv) fun _ => rfl)

include hlt hinj in
/-- Loop 5 writes its rows' entries. -/
theorem loop5 :
    (iprop(owns (c : Thread nD τ) arg1 q X ∗ ownsSat (c : Thread nD τ) arg6 fullShare (Agree X entry 2976)) : sProp 𝕄)
      ⊢ wp frame (wpE (defs₀ (F := F)) 𝒱₀ c none) Set.univ
        (Scf.Loop.for k1_t5_loop (k1_t5_ok i k1_h1) () (k1_t5_body i arg1 harg1 arg2 harg2 arg3 harg3 arg4 harg4 arg5 harg5 arg6 harg6 arg7 harg7 arg8 harg8 arg9 harg9 arg10 harg10 arg11 k1_h1)) fun _ =>
        iprop(owns (c : Thread nD τ) arg1 q X ∗ ownsSat (c : Thread nD τ) arg6 fullShare (Agree X entry 3808)) := by
  iintro H
  iapply (Scf.wp_for frame (wpE (defs₀ (F := F)) 𝒱₀ c none) Set.univ _ _ _ (k1_t5_ok i k1_h1) () _
    (fun k _ => iprop(owns (c : Thread nD τ) arg1 q X ∗ ownsSat (c : Thread nD τ) arg6 fullShare (Agree X entry (2976 + 32 * k))))
    (fun k _ => trip5 c q i arg1 harg1 arg2 harg2 arg3 harg3 arg4 harg4 arg5 harg5 arg6 harg6 arg7 harg7 arg8 harg8 arg9 harg9 arg10 harg10 arg11 k1_h1 hlt hinj k))
  isplitl [H]
  · iexact H
  iintro %_ H
  iexact H

/-- Loop 6's words are the table's. -/
theorem word6 : ∀ (k : Fin k1_t6_loop.trips) (j : Fin 32),
    Scalar.addi (wordAt 527#32 2#32 119#32 (Scf.iv 0#32 1#32 k)) (wordRow 2 j.val) = entry (3808 + 32 * k.val + j.val) := by
  decide +kernel

set_option maxRecDepth 65536 in
set_option maxHeartbeats 4000000 in
theorem body6_eq (k : Fin k1_t6_loop.trips) :
    k1_t6_body (F := F) i arg1 harg1 arg2 harg2 arg3 harg3 arg4 harg4 arg5 harg5 arg6 harg6 arg7 harg7 arg8 harg8 arg9 harg9 arg10 harg10 arg11 k1_h1 k () =
    (tabStep arg1 arg6 (k1_off321 k) (k1_off321_inb i k k1_h1) (k1_chk161 i) (k1_chk161.dec i) k1_off322 (fun v hw => k1_off322_inb i v hw k1_h1) (Scalar.addi (wordAt 527#32 2#32 119#32 (Scf.iv 0#32 1#32 k)) 131072#32) >>= fun _ =>
    tabStep arg1 arg6 (k1_off323 k) (k1_off323_inb i k k1_h1) (k1_chk162 i) (k1_chk162.dec i) k1_off324 (fun v hw => k1_off324_inb i v hw k1_h1) (Scalar.addi (wordAt 527#32 2#32 119#32 (Scf.iv 0#32 1#32 k)) 135168#32) >>= fun _ =>
    tabStep arg1 arg6 (k1_off325 k) (k1_off325_inb i k k1_h1) (k1_chk163 i) (k1_chk163.dec i) k1_off326 (fun v hw => k1_off326_inb i v hw k1_h1) (Scalar.addi (wordAt 527#32 2#32 119#32 (Scf.iv 0#32 1#32 k)) 139264#32) >>= fun _ =>
    tabStep arg1 arg6 (k1_off327 k) (k1_off327_inb i k k1_h1) (k1_chk164 i) (k1_chk164.dec i) k1_off328 (fun v hw => k1_off328_inb i v hw k1_h1) (Scalar.addi (wordAt 527#32 2#32 119#32 (Scf.iv 0#32 1#32 k)) 143360#32) >>= fun _ =>
    tabStep arg1 arg6 (k1_off329 k) (k1_off329_inb i k k1_h1) (k1_chk165 i) (k1_chk165.dec i) k1_off330 (fun v hw => k1_off330_inb i v hw k1_h1) (Scalar.addi (wordAt 527#32 2#32 119#32 (Scf.iv 0#32 1#32 k)) 147456#32) >>= fun _ =>
    tabStep arg1 arg6 (k1_off331 k) (k1_off331_inb i k k1_h1) (k1_chk166 i) (k1_chk166.dec i) k1_off332 (fun v hw => k1_off332_inb i v hw k1_h1) (Scalar.addi (wordAt 527#32 2#32 119#32 (Scf.iv 0#32 1#32 k)) 151552#32) >>= fun _ =>
    tabStep arg1 arg6 (k1_off333 k) (k1_off333_inb i k k1_h1) (k1_chk167 i) (k1_chk167.dec i) k1_off334 (fun v hw => k1_off334_inb i v hw k1_h1) (Scalar.addi (wordAt 527#32 2#32 119#32 (Scf.iv 0#32 1#32 k)) 155648#32) >>= fun _ =>
    tabStep arg1 arg6 (k1_off335 k) (k1_off335_inb i k k1_h1) (k1_chk168 i) (k1_chk168.dec i) k1_off336 (fun v hw => k1_off336_inb i v hw k1_h1) (Scalar.addi (wordAt 527#32 2#32 119#32 (Scf.iv 0#32 1#32 k)) 159744#32) >>= fun _ =>
    tabStep arg1 arg6 (k1_off337 k) (k1_off337_inb i k k1_h1) (k1_chk169 i) (k1_chk169.dec i) k1_off338 (fun v hw => k1_off338_inb i v hw k1_h1) (Scalar.addi (wordAt 527#32 2#32 119#32 (Scf.iv 0#32 1#32 k)) 163840#32) >>= fun _ =>
    tabStep arg1 arg6 (k1_off339 k) (k1_off339_inb i k k1_h1) (k1_chk170 i) (k1_chk170.dec i) k1_off340 (fun v hw => k1_off340_inb i v hw k1_h1) (Scalar.addi (wordAt 527#32 2#32 119#32 (Scf.iv 0#32 1#32 k)) 167936#32) >>= fun _ =>
    tabStep arg1 arg6 (k1_off341 k) (k1_off341_inb i k k1_h1) (k1_chk171 i) (k1_chk171.dec i) k1_off342 (fun v hw => k1_off342_inb i v hw k1_h1) (Scalar.addi (wordAt 527#32 2#32 119#32 (Scf.iv 0#32 1#32 k)) 172032#32) >>= fun _ =>
    tabStep arg1 arg6 (k1_off343 k) (k1_off343_inb i k k1_h1) (k1_chk172 i) (k1_chk172.dec i) k1_off344 (fun v hw => k1_off344_inb i v hw k1_h1) (Scalar.addi (wordAt 527#32 2#32 119#32 (Scf.iv 0#32 1#32 k)) 176128#32) >>= fun _ =>
    tabStep arg1 arg6 (k1_off345 k) (k1_off345_inb i k k1_h1) (k1_chk173 i) (k1_chk173.dec i) k1_off346 (fun v hw => k1_off346_inb i v hw k1_h1) (Scalar.addi (wordAt 527#32 2#32 119#32 (Scf.iv 0#32 1#32 k)) 180224#32) >>= fun _ =>
    tabStep arg1 arg6 (k1_off347 k) (k1_off347_inb i k k1_h1) (k1_chk174 i) (k1_chk174.dec i) k1_off348 (fun v hw => k1_off348_inb i v hw k1_h1) (Scalar.addi (wordAt 527#32 2#32 119#32 (Scf.iv 0#32 1#32 k)) 184320#32) >>= fun _ =>
    tabStep arg1 arg6 (k1_off349 k) (k1_off349_inb i k k1_h1) (k1_chk175 i) (k1_chk175.dec i) k1_off350 (fun v hw => k1_off350_inb i v hw k1_h1) (Scalar.addi (wordAt 527#32 2#32 119#32 (Scf.iv 0#32 1#32 k)) 188416#32) >>= fun _ =>
    tabStep arg1 arg6 (k1_off351 k) (k1_off351_inb i k k1_h1) (k1_chk176 i) (k1_chk176.dec i) k1_off352 (fun v hw => k1_off352_inb i v hw k1_h1) (Scalar.addi (wordAt 527#32 2#32 119#32 (Scf.iv 0#32 1#32 k)) 192512#32) >>= fun _ =>
    tabStep arg1 arg6 (k1_off353 k) (k1_off353_inb i k k1_h1) (k1_chk177 i) (k1_chk177.dec i) k1_off354 (fun v hw => k1_off354_inb i v hw k1_h1) (Scalar.addi (wordAt 527#32 2#32 119#32 (Scf.iv 0#32 1#32 k)) 131073#32) >>= fun _ =>
    tabStep arg1 arg6 (k1_off355 k) (k1_off355_inb i k k1_h1) (k1_chk178 i) (k1_chk178.dec i) k1_off356 (fun v hw => k1_off356_inb i v hw k1_h1) (Scalar.addi (wordAt 527#32 2#32 119#32 (Scf.iv 0#32 1#32 k)) 135169#32) >>= fun _ =>
    tabStep arg1 arg6 (k1_off357 k) (k1_off357_inb i k k1_h1) (k1_chk179 i) (k1_chk179.dec i) k1_off358 (fun v hw => k1_off358_inb i v hw k1_h1) (Scalar.addi (wordAt 527#32 2#32 119#32 (Scf.iv 0#32 1#32 k)) 139265#32) >>= fun _ =>
    tabStep arg1 arg6 (k1_off359 k) (k1_off359_inb i k k1_h1) (k1_chk180 i) (k1_chk180.dec i) k1_off360 (fun v hw => k1_off360_inb i v hw k1_h1) (Scalar.addi (wordAt 527#32 2#32 119#32 (Scf.iv 0#32 1#32 k)) 143361#32) >>= fun _ =>
    tabStep arg1 arg6 (k1_off361 k) (k1_off361_inb i k k1_h1) (k1_chk181 i) (k1_chk181.dec i) k1_off362 (fun v hw => k1_off362_inb i v hw k1_h1) (Scalar.addi (wordAt 527#32 2#32 119#32 (Scf.iv 0#32 1#32 k)) 147457#32) >>= fun _ =>
    tabStep arg1 arg6 (k1_off363 k) (k1_off363_inb i k k1_h1) (k1_chk182 i) (k1_chk182.dec i) k1_off364 (fun v hw => k1_off364_inb i v hw k1_h1) (Scalar.addi (wordAt 527#32 2#32 119#32 (Scf.iv 0#32 1#32 k)) 151553#32) >>= fun _ =>
    tabStep arg1 arg6 (k1_off365 k) (k1_off365_inb i k k1_h1) (k1_chk183 i) (k1_chk183.dec i) k1_off366 (fun v hw => k1_off366_inb i v hw k1_h1) (Scalar.addi (wordAt 527#32 2#32 119#32 (Scf.iv 0#32 1#32 k)) 155649#32) >>= fun _ =>
    tabStep arg1 arg6 (k1_off367 k) (k1_off367_inb i k k1_h1) (k1_chk184 i) (k1_chk184.dec i) k1_off368 (fun v hw => k1_off368_inb i v hw k1_h1) (Scalar.addi (wordAt 527#32 2#32 119#32 (Scf.iv 0#32 1#32 k)) 159745#32) >>= fun _ =>
    tabStep arg1 arg6 (k1_off369 k) (k1_off369_inb i k k1_h1) (k1_chk185 i) (k1_chk185.dec i) k1_off370 (fun v hw => k1_off370_inb i v hw k1_h1) (Scalar.addi (wordAt 527#32 2#32 119#32 (Scf.iv 0#32 1#32 k)) 163841#32) >>= fun _ =>
    tabStep arg1 arg6 (k1_off371 k) (k1_off371_inb i k k1_h1) (k1_chk186 i) (k1_chk186.dec i) k1_off372 (fun v hw => k1_off372_inb i v hw k1_h1) (Scalar.addi (wordAt 527#32 2#32 119#32 (Scf.iv 0#32 1#32 k)) 167937#32) >>= fun _ =>
    tabStep arg1 arg6 (k1_off373 k) (k1_off373_inb i k k1_h1) (k1_chk187 i) (k1_chk187.dec i) k1_off374 (fun v hw => k1_off374_inb i v hw k1_h1) (Scalar.addi (wordAt 527#32 2#32 119#32 (Scf.iv 0#32 1#32 k)) 172033#32) >>= fun _ =>
    tabStep arg1 arg6 (k1_off375 k) (k1_off375_inb i k k1_h1) (k1_chk188 i) (k1_chk188.dec i) k1_off376 (fun v hw => k1_off376_inb i v hw k1_h1) (Scalar.addi (wordAt 527#32 2#32 119#32 (Scf.iv 0#32 1#32 k)) 176129#32) >>= fun _ =>
    tabStep arg1 arg6 (k1_off377 k) (k1_off377_inb i k k1_h1) (k1_chk189 i) (k1_chk189.dec i) k1_off378 (fun v hw => k1_off378_inb i v hw k1_h1) (Scalar.addi (wordAt 527#32 2#32 119#32 (Scf.iv 0#32 1#32 k)) 180225#32) >>= fun _ =>
    tabStep arg1 arg6 (k1_off379 k) (k1_off379_inb i k k1_h1) (k1_chk190 i) (k1_chk190.dec i) k1_off380 (fun v hw => k1_off380_inb i v hw k1_h1) (Scalar.addi (wordAt 527#32 2#32 119#32 (Scf.iv 0#32 1#32 k)) 184321#32) >>= fun _ =>
    tabStep arg1 arg6 (k1_off381 k) (k1_off381_inb i k k1_h1) (k1_chk191 i) (k1_chk191.dec i) k1_off382 (fun v hw => k1_off382_inb i v hw k1_h1) (Scalar.addi (wordAt 527#32 2#32 119#32 (Scf.iv 0#32 1#32 k)) 188417#32) >>= fun _ =>
    tabStep arg1 arg6 (k1_off383 k) (k1_off383_inb i k k1_h1) (k1_chk192 i) (k1_chk192.dec i) k1_off384 (fun v hw => k1_off384_inb i v hw k1_h1) (Scalar.addi (wordAt 527#32 2#32 119#32 (Scf.iv 0#32 1#32 k)) 192513#32)) := rfl

include hlt hinj in
set_option maxHeartbeats 4000000 in
/-- A trip of loop 6 writes 32 entries. -/
theorem trip6 (k : Fin k1_t6_loop.trips) :
    (iprop(owns (c : Thread nD τ) arg1 q X ∗ ownsSat (c : Thread nD τ) arg6 fullShare (Agree X entry (3808 + 32 * k.val))) : sProp 𝕄)
      ⊢ wp frame (wpE (defs₀ (F := F)) 𝒱₀ c none) Set.univ (k1_t6_body i arg1 harg1 arg2 harg2 arg3 harg3 arg4 harg4 arg5 harg5 arg6 harg6 arg7 harg7 arg8 harg8 arg9 harg9 arg10 harg10 arg11 k1_h1 k ()) fun _ =>
        iprop(owns (c : Thread nD τ) arg1 q X ∗ ownsSat (c : Thread nD τ) arg6 fullShare (Agree X entry (3808 + 32 * (k.val + 1)))) := by
  have hk : k.val < 9 := k.isLt
  rw [body6_eq]
  refine seq c (wp_tabStep c q hlt hinj (R := 3808 + 32 * k.val + 0) (by omega) (by revert k; decide +kernel) (word6 k 0) (fun v hv _ a => by fin_cases a; exact hv) fun _ => rfl) ?_
  refine seq c (wp_tabStep c q hlt hinj (R := 3808 + 32 * k.val + 1) (by omega) (by revert k; decide +kernel) (word6 k 1) (fun v hv _ a => by fin_cases a; exact hv) fun _ => rfl) ?_
  refine seq c (wp_tabStep c q hlt hinj (R := 3808 + 32 * k.val + 2) (by omega) (by revert k; decide +kernel) (word6 k 2) (fun v hv _ a => by fin_cases a; exact hv) fun _ => rfl) ?_
  refine seq c (wp_tabStep c q hlt hinj (R := 3808 + 32 * k.val + 3) (by omega) (by revert k; decide +kernel) (word6 k 3) (fun v hv _ a => by fin_cases a; exact hv) fun _ => rfl) ?_
  refine seq c (wp_tabStep c q hlt hinj (R := 3808 + 32 * k.val + 4) (by omega) (by revert k; decide +kernel) (word6 k 4) (fun v hv _ a => by fin_cases a; exact hv) fun _ => rfl) ?_
  refine seq c (wp_tabStep c q hlt hinj (R := 3808 + 32 * k.val + 5) (by omega) (by revert k; decide +kernel) (word6 k 5) (fun v hv _ a => by fin_cases a; exact hv) fun _ => rfl) ?_
  refine seq c (wp_tabStep c q hlt hinj (R := 3808 + 32 * k.val + 6) (by omega) (by revert k; decide +kernel) (word6 k 6) (fun v hv _ a => by fin_cases a; exact hv) fun _ => rfl) ?_
  refine seq c (wp_tabStep c q hlt hinj (R := 3808 + 32 * k.val + 7) (by omega) (by revert k; decide +kernel) (word6 k 7) (fun v hv _ a => by fin_cases a; exact hv) fun _ => rfl) ?_
  refine seq c (wp_tabStep c q hlt hinj (R := 3808 + 32 * k.val + 8) (by omega) (by revert k; decide +kernel) (word6 k 8) (fun v hv _ a => by fin_cases a; exact hv) fun _ => rfl) ?_
  refine seq c (wp_tabStep c q hlt hinj (R := 3808 + 32 * k.val + 9) (by omega) (by revert k; decide +kernel) (word6 k 9) (fun v hv _ a => by fin_cases a; exact hv) fun _ => rfl) ?_
  refine seq c (wp_tabStep c q hlt hinj (R := 3808 + 32 * k.val + 10) (by omega) (by revert k; decide +kernel) (word6 k 10) (fun v hv _ a => by fin_cases a; exact hv) fun _ => rfl) ?_
  refine seq c (wp_tabStep c q hlt hinj (R := 3808 + 32 * k.val + 11) (by omega) (by revert k; decide +kernel) (word6 k 11) (fun v hv _ a => by fin_cases a; exact hv) fun _ => rfl) ?_
  refine seq c (wp_tabStep c q hlt hinj (R := 3808 + 32 * k.val + 12) (by omega) (by revert k; decide +kernel) (word6 k 12) (fun v hv _ a => by fin_cases a; exact hv) fun _ => rfl) ?_
  refine seq c (wp_tabStep c q hlt hinj (R := 3808 + 32 * k.val + 13) (by omega) (by revert k; decide +kernel) (word6 k 13) (fun v hv _ a => by fin_cases a; exact hv) fun _ => rfl) ?_
  refine seq c (wp_tabStep c q hlt hinj (R := 3808 + 32 * k.val + 14) (by omega) (by revert k; decide +kernel) (word6 k 14) (fun v hv _ a => by fin_cases a; exact hv) fun _ => rfl) ?_
  refine seq c (wp_tabStep c q hlt hinj (R := 3808 + 32 * k.val + 15) (by omega) (by revert k; decide +kernel) (word6 k 15) (fun v hv _ a => by fin_cases a; exact hv) fun _ => rfl) ?_
  refine seq c (wp_tabStep c q hlt hinj (R := 3808 + 32 * k.val + 16) (by omega) (by revert k; decide +kernel) (word6 k 16) (fun v hv _ a => by fin_cases a; exact hv) fun _ => rfl) ?_
  refine seq c (wp_tabStep c q hlt hinj (R := 3808 + 32 * k.val + 17) (by omega) (by revert k; decide +kernel) (word6 k 17) (fun v hv _ a => by fin_cases a; exact hv) fun _ => rfl) ?_
  refine seq c (wp_tabStep c q hlt hinj (R := 3808 + 32 * k.val + 18) (by omega) (by revert k; decide +kernel) (word6 k 18) (fun v hv _ a => by fin_cases a; exact hv) fun _ => rfl) ?_
  refine seq c (wp_tabStep c q hlt hinj (R := 3808 + 32 * k.val + 19) (by omega) (by revert k; decide +kernel) (word6 k 19) (fun v hv _ a => by fin_cases a; exact hv) fun _ => rfl) ?_
  refine seq c (wp_tabStep c q hlt hinj (R := 3808 + 32 * k.val + 20) (by omega) (by revert k; decide +kernel) (word6 k 20) (fun v hv _ a => by fin_cases a; exact hv) fun _ => rfl) ?_
  refine seq c (wp_tabStep c q hlt hinj (R := 3808 + 32 * k.val + 21) (by omega) (by revert k; decide +kernel) (word6 k 21) (fun v hv _ a => by fin_cases a; exact hv) fun _ => rfl) ?_
  refine seq c (wp_tabStep c q hlt hinj (R := 3808 + 32 * k.val + 22) (by omega) (by revert k; decide +kernel) (word6 k 22) (fun v hv _ a => by fin_cases a; exact hv) fun _ => rfl) ?_
  refine seq c (wp_tabStep c q hlt hinj (R := 3808 + 32 * k.val + 23) (by omega) (by revert k; decide +kernel) (word6 k 23) (fun v hv _ a => by fin_cases a; exact hv) fun _ => rfl) ?_
  refine seq c (wp_tabStep c q hlt hinj (R := 3808 + 32 * k.val + 24) (by omega) (by revert k; decide +kernel) (word6 k 24) (fun v hv _ a => by fin_cases a; exact hv) fun _ => rfl) ?_
  refine seq c (wp_tabStep c q hlt hinj (R := 3808 + 32 * k.val + 25) (by omega) (by revert k; decide +kernel) (word6 k 25) (fun v hv _ a => by fin_cases a; exact hv) fun _ => rfl) ?_
  refine seq c (wp_tabStep c q hlt hinj (R := 3808 + 32 * k.val + 26) (by omega) (by revert k; decide +kernel) (word6 k 26) (fun v hv _ a => by fin_cases a; exact hv) fun _ => rfl) ?_
  refine seq c (wp_tabStep c q hlt hinj (R := 3808 + 32 * k.val + 27) (by omega) (by revert k; decide +kernel) (word6 k 27) (fun v hv _ a => by fin_cases a; exact hv) fun _ => rfl) ?_
  refine seq c (wp_tabStep c q hlt hinj (R := 3808 + 32 * k.val + 28) (by omega) (by revert k; decide +kernel) (word6 k 28) (fun v hv _ a => by fin_cases a; exact hv) fun _ => rfl) ?_
  refine seq c (wp_tabStep c q hlt hinj (R := 3808 + 32 * k.val + 29) (by omega) (by revert k; decide +kernel) (word6 k 29) (fun v hv _ a => by fin_cases a; exact hv) fun _ => rfl) ?_
  refine seq c (wp_tabStep c q hlt hinj (R := 3808 + 32 * k.val + 30) (by omega) (by revert k; decide +kernel) (word6 k 30) (fun v hv _ a => by fin_cases a; exact hv) fun _ => rfl) ?_
  exact (wp_tabStep c q hlt hinj (R := 3808 + 32 * k.val + 31) (by omega) (by revert k; decide +kernel) (word6 k 31) (fun v hv _ a => by fin_cases a; exact hv) fun _ => rfl)

include hlt hinj in
/-- Loop 6 writes its rows' entries. -/
theorem loop6 :
    (iprop(owns (c : Thread nD τ) arg1 q X ∗ ownsSat (c : Thread nD τ) arg6 fullShare (Agree X entry 3808)) : sProp 𝕄)
      ⊢ wp frame (wpE (defs₀ (F := F)) 𝒱₀ c none) Set.univ
        (Scf.Loop.for k1_t6_loop (k1_t6_ok i k1_h1) () (k1_t6_body i arg1 harg1 arg2 harg2 arg3 harg3 arg4 harg4 arg5 harg5 arg6 harg6 arg7 harg7 arg8 harg8 arg9 harg9 arg10 harg10 arg11 k1_h1)) fun _ =>
        iprop(owns (c : Thread nD τ) arg1 q X ∗ ownsSat (c : Thread nD τ) arg6 fullShare (Agree X entry 4096)) := by
  iintro H
  iapply (Scf.wp_for frame (wpE (defs₀ (F := F)) 𝒱₀ c none) Set.univ _ _ _ (k1_t6_ok i k1_h1) () _
    (fun k _ => iprop(owns (c : Thread nD τ) arg1 q X ∗ ownsSat (c : Thread nD τ) arg6 fullShare (Agree X entry (3808 + 32 * k))))
    (fun k _ => trip6 c q i arg1 harg1 arg2 harg2 arg3 harg3 arg4 harg4 arg5 harg5 arg6 harg6 arg7 harg7 arg8 harg8 arg9 harg9 arg10 harg10 arg11 k1_h1 hlt hinj k))
  isplitl [H]
  · iexact H
  iintro %_ H
  iexact H

end

end Cert.Proof

end
-- ==== Proof.Fetch.lean ====
/-
  The body of the dequantising call.
-/
module

public import proofs.«01_k».proof.Proof.Panels
public import proofs.«01_k».proof.Proof.Table
public import Idealize.ShloMosaic.Lib.MixedBatch
public import Idealize.ShloMosaic.Lib.ReshapeSlab
public import Idealize.ShloMosaic.Lib.Ring
public import Idealize.SL.BI.BigOpNat

@[expose] public section

noncomputable section

namespace Cert.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Run a program beside something it does not touch. -/
theorem beside (c : Dev nD) {α : Type} {P R : sProp 𝕄} {p : P₀ F α} {Q : α → sProp 𝕄}
    (h : P ⊢ wp frame (wpE (defs₀ (F := F)) 𝒱₀ c none) Set.univ p Q) :
    (iprop(R ∗ P) : sProp 𝕄) ⊢ wp frame (wpE (defs₀ (F := F)) 𝒱₀ c none) Set.univ p fun a => iprop(R ∗ Q a) :=
  (show _ ⊢ _ by iintro ⟨HR, HP⟩; isplitl [HR]; · iexact HR
                 iapply h; iexact HP : (iprop(R ∗ P) : sProp 𝕄) ⊢ iprop(R ∗ wp frame (wpE (defs₀ (F := F)) 𝒱₀ c none) Set.univ p Q)).trans (wp_frame_l frame _ Set.univ)

/-- The number of column panels of a block inside the array. -/
def pan (i : grid1.Coords) : ℕ := min 8 (86 - 8 * (i 0).val)

theorem tile_lt (i : grid1.Coords) : (i 0).val < 11 := (i 0).isLt
theorem trips7 : ∀ i : grid1.Coords, (k1_t7_loop i).trips = pan i := by decide +kernel
theorem trips9 : ∀ i : grid1.Coords, (k1_t9_loop i).trips = pan i := by decide +kernel
theorem trips8 : ∀ i : grid1.Coords, (k1_t8_loop i).trips = 0 := by decide +kernel
theorem trips10 : ∀ i : grid1.Coords, (k1_t10_loop i).trips = 0 := by decide +kernel
theorem off385 : ∀ (i : grid1.Coords) (k : Fin (k1_t7_loop i).trips), k1_off385 i k = ![552 * (k.val % 8), 0] := by decide +kernel
theorem off386 : ∀ (i : grid1.Coords) (k : Fin (k1_t7_loop i).trips), k1_off386 i k = ![0, 128 * ((8 * (i 0).val + k.val) % 86)] := by decide +kernel
theorem off387 : ∀ (i : grid1.Coords) (k : Fin (k1_t7_loop i).trips), k1_off387 i k = ![552 * (k.val % 8) + 544, 0] := by decide +kernel
theorem off388 : ∀ (i : grid1.Coords) (k : Fin (k1_t7_loop i).trips), k1_off388 i k = ![0, 128 * ((8 * (i 0).val + k.val) % 86)] := by decide +kernel
theorem off389 : ∀ (i : grid1.Coords) (k : Fin (k1_t7_loop i).trips), k1_off389 i k = ![k.val % 8, 0, 0] := by decide +kernel
theorem off390 : ∀ (i : grid1.Coords) (k : Fin (k1_t7_loop i).trips), k1_off390 i k = ![0, 128 * ((8 * (i 0).val + k.val) % 86)] := by decide +kernel

section

variable (c : Dev nD) (i : grid1.Coords) (arg1 : Memref sig .tc .smem S4096 .i32) (harg1 : arg1.IsWhole) (arg2 : Memref sig .tc .hbm S545x11008 .i32) (harg2 : arg2.IsWhole) (arg3 : Memref sig .tc .hbm S8x11008 .i32) (harg3 : arg3.IsWhole) (arg4 : Memref sig .tc .hbm S128x11008 .bf16) (harg4 : arg4.IsWhole) (arg5 : Memref sig .tc .vmem S4096x1024 .bf16) (harg5 : arg5.IsWhole) (arg6 : Memref sig .tc .smem S4096 .i32) (harg6 : arg6.IsWhole) (arg7 : Memref sig .tc .vmem S4416x128 .i32) (harg7 : arg7.IsWhole) (arg8 : Memref sig .tc .vmem S8x128x128 .bf16) (harg8 : arg8.IsWhole) (arg9 : Memref sig .tc .vmem S1024x128 .f32) (harg9 : arg9.IsWhole) (arg10 : Memref sig .tc .vmem S136x128 .f32) (harg10 : arg10.IsWhole) (arg11 : DmaSems sig S_)

theorem body7_eq (k : Fin (k1_t7_loop i).trips) :
    k1_t7_body (F := F) i arg1 harg1 arg2 harg2 arg3 harg3 arg4 harg4 arg5 harg5 arg6 harg6 arg7 harg7 arg8 harg8 arg9 harg9 arg10 harg10 arg11 k () =
      startAt arg2 arg3 arg4 arg7 arg8 arg11.sem (k1_off385 i k) (k1_off386 i k) (k1_off387 i k) (k1_off388 i k) (k1_off389 i k) (k1_off390 i k)
        (k1_off385_inb i k) (k1_off386_inb i k) (k1_off387_inb i k) (k1_off388_inb i k) (k1_off389_inb i k) (k1_off390_inb i k)
        (harg4.wordExact_slice rfl _ (k1_off390_wordsbf16 i k)) ((harg8.wordExact_slice rfl _ (k1_off389_wordsbf16 i k)).reshape _ _) := rfl

theorem body9_eq (k : Fin (k1_t9_loop i).trips) :
    k1_t9_body (F := F) i arg1 harg1 arg2 harg2 arg3 harg3 arg4 harg4 arg5 harg5 arg6 harg6 arg7 harg7 arg8 harg8 arg9 harg9 arg10 harg10 arg11 k () =
      waitAt arg2 arg3 arg4 arg7 arg8 arg11.sem (k1_off397 i k) (k1_off398 i k) (k1_off399 i k) (k1_off400 i k) (k1_off401 i k) (k1_off402 i k)
        (k1_off397_inb i k) (k1_off398_inb i k) (k1_off399_inb i k) (k1_off400_inb i k) (k1_off401_inb i k) (k1_off402_inb i k)
        (harg4.wordExact_slice rfl _ (k1_off402_wordsbf16 i k)) ((harg8.wordExact_slice rfl _ (k1_off401_wordsbf16 i k)).reshape _ _) := rfl

variable (f2 : Buf (Elt F) (arg2.view.loc (c : Thread nD τ))) (f3 : Buf (Elt F) (arg3.view.loc (c : Thread nD τ)))
  (f4 : Buf (Elt F) (arg4.view.loc (c : Thread nD τ))) (f7 : Buf (Elt F) (arg7.view.loc (c : Thread nD τ)))
  (f8 : Buf (Elt F) (arg8.view.loc (c : Thread nD τ)))

/-- The transfers, `a` of them started and `u` units waited for. -/
abbrev MB (a u : ℕ) : sProp 𝕄 :=
  Transfers.MixedBatch EC (c : Thread nD τ) (.dma arg11.sem) () (crd arg7 arg8 (pan i)) (DelF c arg2 arg3 arg4 arg7 arg8 (i 0).val (pan i) f2 f3 f4 f7 f8) a u

theorem pan_le : pan i ≤ 8 := Nat.min_le_left _ _
theorem pan_in : 8 * (i 0).val + pan i ≤ 86 := by
  have h := tile_lt i
  unfold pan; omega

theorem trip7 (k : Fin (k1_t7_loop i).trips) :
    (iprop(bigSep (Finset.Ico k.val (pan i)) (Bef c arg2 arg3 arg4 arg7 arg8 (i 0).val f2 f3 f4 f7 f8) ∗ MB c i arg2 arg3 arg4 arg7 arg8 arg11 f2 f3 f4 f7 f8 (3 * k.val) 0) : sProp 𝕄)
      ⊢ wp frame (wpE (defs₀ (F := F)) 𝒱₀ c none) Set.univ (k1_t7_body i arg1 harg1 arg2 harg2 arg3 harg3 arg4 harg4 arg5 harg5 arg6 harg6 arg7 harg7 arg8 harg8 arg9 harg9 arg10 harg10 arg11 k ()) fun _ =>
        iprop(bigSep (Finset.Ico (k.val + 1) (pan i)) (Bef c arg2 arg3 arg4 arg7 arg8 (i 0).val f2 f3 f4 f7 f8) ∗ MB c i arg2 arg3 arg4 arg7 arg8 arg11 f2 f3 f4 f7 f8 (3 * (k.val + 1)) 0) := by
  have hk : k.val < pan i := (trips7 i) ▸ k.isLt
  rw [body7_eq, BI.bigSep_Ico_succ_bot hk]
  iintro ⟨⟨Hb, HB⟩, HM⟩
  iapply (beside c (wp_startAt c arg2 arg3 arg4 arg7 arg8 arg11.sem (i 0).val (pan i) f2 f3 f4 f7 f8 (pan_le i) k.val hk _ _ _ _ _ _
    (off385 i k) (off386 i k) (off387 i k) (off388 i k) (off389 i k) (off390 i k)))
  isplitl [HB]; · iexact HB
  isplitl [Hb]; · iexact Hb
  iexact HM

theorem loop7 :
    (iprop(bigSep (Finset.range (pan i)) (Bef c arg2 arg3 arg4 arg7 arg8 (i 0).val f2 f3 f4 f7 f8) ∗ MB c i arg2 arg3 arg4 arg7 arg8 arg11 f2 f3 f4 f7 f8 0 0) : sProp 𝕄)
      ⊢ wp frame (wpE (defs₀ (F := F)) 𝒱₀ c none) Set.univ (Scf.Loop.for (k1_t7_loop i) (k1_t7_ok i) () (k1_t7_body i arg1 harg1 arg2 harg2 arg3 harg3 arg4 harg4 arg5 harg5 arg6 harg6 arg7 harg7 arg8 harg8 arg9 harg9 arg10 harg10 arg11)) fun _ =>
        MB c i arg2 arg3 arg4 arg7 arg8 arg11 f2 f3 f4 f7 f8 (3 * pan i) 0 := by
  iintro ⟨HB, HM⟩
  iapply (Scf.wp_for frame (wpE (defs₀ (F := F)) 𝒱₀ c none) Set.univ _ _ _ (k1_t7_ok i) () _
    (fun k _ => iprop(bigSep (Finset.Ico k (pan i)) (Bef c arg2 arg3 arg4 arg7 arg8 (i 0).val f2 f3 f4 f7 f8) ∗ MB c i arg2 arg3 arg4 arg7 arg8 arg11 f2 f3 f4 f7 f8 (3 * k) 0))
    (fun k _ => trip7 c i arg1 harg1 arg2 harg2 arg3 harg3 arg4 harg4 arg5 harg5 arg6 harg6 arg7 harg7 arg8 harg8 arg9 harg9 arg10 harg10 arg11 f2 f3 f4 f7 f8 k))
  isplitl [HB HM]
  · isplitl [HB]
    · rw [← Finset.range_eq_Ico]; iexact HB
    iexact HM
  iintro %_ ⟨-, HM⟩
  rw [← trips7 i]
  iexact HM

theorem loop9 :
    (iprop(MB c i arg2 arg3 arg4 arg7 arg8 arg11 f2 f3 f4 f7 f8 (3 * pan i) 0 ∗ ∃ W, owes (c : Thread nD τ) (0 : CellTallies nD τ sig Unit) W) : sProp 𝕄)
      ⊢ wp frame (wpE (defs₀ (F := F)) 𝒱₀ c none) Set.univ (Scf.Loop.for (k1_t9_loop i) (k1_t9_ok i) () (k1_t9_body i arg1 harg1 arg2 harg2 arg3 harg3 arg4 harg4 arg5 harg5 arg6 harg6 arg7 harg7 arg8 harg8 arg9 harg9 arg10 harg10 arg11)) fun _ =>
        iprop(MB c i arg2 arg3 arg4 arg7 arg8 arg11 f2 f3 f4 f7 f8 (3 * pan i) (Transfers.sumTo (crd arg7 arg8 (pan i)) (3 * pan i)) ∗ ∃ W, owes (c : Thread nD τ) (0 : CellTallies nD τ sig Unit) W) := by
  iintro H
  iapply (Scf.wp_for frame (wpE (defs₀ (F := F)) 𝒱₀ c none) Set.univ _ _ _ (k1_t9_ok i) () _
    (fun k _ => iprop(MB c i arg2 arg3 arg4 arg7 arg8 arg11 f2 f3 f4 f7 f8 (3 * pan i) (Transfers.sumTo (crd arg7 arg8 (pan i)) (3 * k)) ∗ ∃ W, owes (c : Thread nD τ) (0 : CellTallies nD τ sig Unit) W))
    (fun k _ => by
      rw [body9_eq]
      exact wp_waitAt c arg2 arg3 arg4 arg7 arg8 arg11.sem (i 0).val (pan i) f2 f3 f4 f7 f8 k.val ((trips9 i) ▸ k.isLt) _ _ _ _ _ _))
  isplitl [H]
  · iexact H
  iintro %_ H
  have e : Transfers.sumTo (crd arg7 arg8 (pan i)) (3 * pan i) = Transfers.sumTo (crd arg7 arg8 (pan i)) (3 * (k1_t9_loop i).trips) := by rw [trips9 i]
  rw [e]
  iexact H

theorem loop8 (P : sProp 𝕄) :
    P ⊢ wp frame (wpE (defs₀ (F := F)) 𝒱₀ c none) Set.univ (Scf.Loop.for (k1_t8_loop i) (k1_t8_ok i) () (k1_t8_body i arg1 harg1 arg2 harg2 arg3 harg3 arg4 harg4 arg5 harg5 arg6 harg6 arg7 harg7 arg8 harg8 arg9 harg9 arg10 harg10 arg11)) fun _ => P := by
  iintro H
  iapply (Scf.wp_for frame (wpE (defs₀ (F := F)) 𝒱₀ c none) Set.univ _ _ _ (k1_t8_ok i) () _
    (fun k _ => P) (fun k _ => absurd k.isLt (by have e := trips8 i; unfold Scf.Loop.trips at e; omega)))
  isplitl [H]
  · iexact H
  iintro %_ H
  iexact H

theorem loop10 (P : sProp 𝕄) :
    P ⊢ wp frame (wpE (defs₀ (F := F)) 𝒱₀ c none) Set.univ (Scf.Loop.for (k1_t10_loop i) (k1_t10_ok i) () (k1_t10_body i arg1 harg1 arg2 harg2 arg3 harg3 arg4 harg4 arg5 harg5 arg6 harg6 arg7 harg7 arg8 harg8 arg9 harg9 arg10 harg10 arg11)) fun _ => P := by
  iintro H
  iapply (Scf.wp_for frame (wpE (defs₀ (F := F)) 𝒱₀ c none) Set.univ _ _ _ (k1_t10_ok i) () _
    (fun k _ => P) (fun k _ => absurd k.isLt (by have e := trips10 i; unfold Scf.Loop.trips at e; omega)))
  isplitl [H]
  · iexact H
  iintro %_ H
  iexact H

theorem fetch_run {β : Type} (R : sProp 𝕄) (k : P₀ F β) (Q' : β → sProp 𝕄)
    (h : (iprop(R ∗ owns (c : Thread nD τ) arg2 fullShare (arg2.view.read (Elt F) f2) ∗ owns (c : Thread nD τ) arg3 fullShare (arg3.view.read (Elt F) f3)
        ∗ owns (c : Thread nD τ) arg4 fullShare (arg4.view.read (Elt F) f4)
        ∗ owns (c : Thread nD τ) arg7 fullShare (slabs (i 0).val (pan i) (arg2.view.read (Elt F) f2) (arg3.view.read (Elt F) f3) (arg7.view.read (Elt F) f7))
        ∗ owns (c : Thread nD τ) arg8 fullShare (scal (i 0).val (pan i) (arg4.view.read (Elt F) f4) (arg8.view.read (Elt F) f8))
        ∗ semVal ((c : Thread nD τ), SemLoc.dma arg11.sem) 0 ∗ ∃ W, owes (c : Thread nD τ) (0 : CellTallies nD τ sig Unit) W) : sProp 𝕄) ⊢ wp frame (wpE (defs₀ (F := F)) 𝒱₀ c none) Set.univ k Q') :
    (iprop(R ∗ Rst c arg2 arg3 arg4 arg7 arg8 (i 0).val (pan i) f2 f3 f4 f7 f8 ∗ (∃ W, owes (c : Thread nD τ) (0 : CellTallies nD τ sig Unit) W)
        ∗ bigSep (Finset.range (pan i)) (Bef c arg2 arg3 arg4 arg7 arg8 (i 0).val f2 f3 f4 f7 f8) ∗ MB c i arg2 arg3 arg4 arg7 arg8 arg11 f2 f3 f4 f7 f8 0 0) : sProp 𝕄)
      ⊢ wp frame (wpE (defs₀ (F := F)) 𝒱₀ c none) Set.univ (Scf.Loop.for (k1_t7_loop i) (k1_t7_ok i) () (k1_t7_body i arg1 harg1 arg2 harg2 arg3 harg3 arg4 harg4 arg5 harg5 arg6 harg6 arg7 harg7 arg8 harg8 arg9 harg9 arg10 harg10 arg11) >>= fun _ =>
Scf.Loop.for (k1_t8_loop i) (k1_t8_ok i) () (k1_t8_body i arg1 harg1 arg2 harg2 arg3 harg3 arg4 harg4 arg5 harg5 arg6 harg6 arg7 harg7 arg8 harg8 arg9 harg9 arg10 harg10 arg11) >>= fun _ =>
Scf.Loop.for (k1_t9_loop i) (k1_t9_ok i) () (k1_t9_body i arg1 harg1 arg2 harg2 arg3 harg3 arg4 harg4 arg5 harg5 arg6 harg6 arg7 harg7 arg8 harg8 arg9 harg9 arg10 harg10 arg11) >>= fun _ =>
Scf.Loop.for (k1_t10_loop i) (k1_t10_ok i) () (k1_t10_body i arg1 harg1 arg2 harg2 arg3 harg3 arg4 harg4 arg5 harg5 arg6 harg6 arg7 harg7 arg8 harg8 arg9 harg9 arg10 harg10 arg11) >>= fun _ => k) Q' := by
  have hA : (iprop(R ∗ Rst c arg2 arg3 arg4 arg7 arg8 (i 0).val (pan i) f2 f3 f4 f7 f8 ∗ (∃ W, owes (c : Thread nD τ) (0 : CellTallies nD τ sig Unit) W)
        ∗ bigSep (Finset.range (pan i)) (Bef c arg2 arg3 arg4 arg7 arg8 (i 0).val f2 f3 f4 f7 f8) ∗ MB c i arg2 arg3 arg4 arg7 arg8 arg11 f2 f3 f4 f7 f8 0 0) : sProp 𝕄)
      ⊢ iprop((R ∗ Rst c arg2 arg3 arg4 arg7 arg8 (i 0).val (pan i) f2 f3 f4 f7 f8 ∗ ∃ W, owes (c : Thread nD τ) (0 : CellTallies nD τ sig Unit) W)
        ∗ bigSep (Finset.range (pan i)) (Bef c arg2 arg3 arg4 arg7 arg8 (i 0).val f2 f3 f4 f7 f8) ∗ MB c i arg2 arg3 arg4 arg7 arg8 arg11 f2 f3 f4 f7 f8 0 0) := by
    iintro ⟨HR, Hr, HO, HB, HM⟩
    isplitl [HR Hr HO]
    · isplitl [HR]; · iexact HR
      isplitl [Hr]; · iexact Hr
      iexact HO
    isplitl [HB]; · iexact HB
    iexact HM
  have hB : (iprop((R ∗ Rst c arg2 arg3 arg4 arg7 arg8 (i 0).val (pan i) f2 f3 f4 f7 f8 ∗ ∃ W, owes (c : Thread nD τ) (0 : CellTallies nD τ sig Unit) W) ∗ MB c i arg2 arg3 arg4 arg7 arg8 arg11 f2 f3 f4 f7 f8 (3 * pan i) 0) : sProp 𝕄)
      ⊢ iprop((R ∗ Rst c arg2 arg3 arg4 arg7 arg8 (i 0).val (pan i) f2 f3 f4 f7 f8) ∗ MB c i arg2 arg3 arg4 arg7 arg8 arg11 f2 f3 f4 f7 f8 (3 * pan i) 0 ∗ ∃ W, owes (c : Thread nD τ) (0 : CellTallies nD τ sig Unit) W) := by
    iintro ⟨⟨HR, Hr, HO⟩, HM⟩
    isplitl [HR Hr]
    · isplitl [HR]; · iexact HR
      iexact Hr
    isplitl [HM]; · iexact HM
    iexact HO
  refine hA.trans (seq c (beside c (loop7 c i arg1 harg1 arg2 harg2 arg3 harg3 arg4 harg4 arg5 harg5 arg6 harg6 arg7 harg7 arg8 harg8 arg9 harg9 arg10 harg10 arg11 f2 f3 f4 f7 f8)) (seq c (loop8 c i arg1 harg1 arg2 harg2 arg3 harg3 arg4 harg4 arg5 harg5 arg6 harg6 arg7 harg7 arg8 harg8 arg9 harg9 arg10 harg10 arg11 _)
    (seq c (hB.trans (beside c (loop9 c i arg1 harg1 arg2 harg2 arg3 harg3 arg4 harg4 arg5 harg5 arg6 harg6 arg7 harg7 arg8 harg8 arg9 harg9 arg10 harg10 arg11 f2 f3 f4 f7 f8))) (seq c (loop10 c i arg1 harg1 arg2 harg2 arg3 harg3 arg4 harg4 arg5 harg5 arg6 harg6 arg7 harg7 arg8 harg8 arg9 harg9 arg10 harg10 arg11 _) ?_))))
  iintro ⟨⟨HR, Hr⟩, HM, HO⟩
  imod (Transfers.mixedBatch_collect' (Lvl := ℕ) EC (c : Thread nD τ) (crd_pos arg7 arg8 (pan i))) $$ HM with ⟨HD, HS⟩
  ihave Hall := (close_all c arg2 arg3 arg4 arg7 arg8 (i 0).val (pan i) f2 f3 f4 f7 f8 (pan_le i) (pan_in i)) $$ [HD Hr]
  · isplitl [HD]; · iexact HD
    iexact Hr
  icases Hall with ⟨H2, H3, H4, H7, H8⟩
  iapply h
  unfold owns
  isplitl [HR]; · iexact HR
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H7]; · iexists new7 c arg2 arg3 arg7 (i 0).val (pan i) f2 f3 f7; isplitr; · ipureintro; exact View.read_write_univ _ _
                  iexact H7
  isplitl [H8]; · iexists new8 c arg4 arg8 (i 0).val (pan i) f4 f8; isplitr; · ipureintro; exact View.read_write_univ _ _
                  iexact H8
  isplitl [HS]; · iexact HS
  iexact HO

/-- What the copies leave: the arrays as they were, the two buffers filled. -/
theorem fetch {β : Type} (Q : S545x11008.Idx → Elt F .i32) (Tl : S8x11008.Idx → Elt F .i32) (Sc : S128x11008.Idx → Elt F .bf16)
    (X7 : S4416x128.Idx → Elt F .i32) (X8 : S8x128x128.Idx → Elt F .bf16) (R : sProp 𝕄) (k : P₀ F β) (Q' : β → sProp 𝕄)
    (h : (iprop(R ∗ owns (c : Thread nD τ) arg2 fullShare Q ∗ owns (c : Thread nD τ) arg3 fullShare Tl ∗ owns (c : Thread nD τ) arg4 fullShare Sc
        ∗ owns (c : Thread nD τ) arg7 fullShare (slabs (i 0).val (pan i) Q Tl X7) ∗ owns (c : Thread nD τ) arg8 fullShare (scal (i 0).val (pan i) Sc X8)
        ∗ semVal ((c : Thread nD τ), SemLoc.dma arg11.sem) 0 ∗ ∃ W, owes (c : Thread nD τ) (0 : CellTallies nD τ sig Unit) W) : sProp 𝕄) ⊢ wp frame (wpE (defs₀ (F := F)) 𝒱₀ c none) Set.univ k Q') :
    (iprop(R ∗ owns (c : Thread nD τ) arg2 fullShare Q ∗ owns (c : Thread nD τ) arg3 fullShare Tl ∗ owns (c : Thread nD τ) arg4 fullShare Sc
        ∗ owns (c : Thread nD τ) arg7 fullShare X7 ∗ owns (c : Thread nD τ) arg8 fullShare X8
        ∗ semVal ((c : Thread nD τ), SemLoc.dma arg11.sem) 0 ∗ ∃ W, owes (c : Thread nD τ) (0 : CellTallies nD τ sig Unit) W) : sProp 𝕄)
      ⊢ wp frame (wpE (defs₀ (F := F)) 𝒱₀ c none) Set.univ (Scf.Loop.for (k1_t7_loop i) (k1_t7_ok i) () (k1_t7_body i arg1 harg1 arg2 harg2 arg3 harg3 arg4 harg4 arg5 harg5 arg6 harg6 arg7 harg7 arg8 harg8 arg9 harg9 arg10 harg10 arg11) >>= fun _ =>
Scf.Loop.for (k1_t8_loop i) (k1_t8_ok i) () (k1_t8_body i arg1 harg1 arg2 harg2 arg3 harg3 arg4 harg4 arg5 harg5 arg6 harg6 arg7 harg7 arg8 harg8 arg9 harg9 arg10 harg10 arg11) >>= fun _ =>
Scf.Loop.for (k1_t9_loop i) (k1_t9_ok i) () (k1_t9_body i arg1 harg1 arg2 harg2 arg3 harg3 arg4 harg4 arg5 harg5 arg6 harg6 arg7 harg7 arg8 harg8 arg9 harg9 arg10 harg10 arg11) >>= fun _ =>
Scf.Loop.for (k1_t10_loop i) (k1_t10_ok i) () (k1_t10_body i arg1 harg1 arg2 harg2 arg3 harg3 arg4 harg4 arg5 harg5 arg6 harg6 arg7 harg7 arg8 harg8 arg9 harg9 arg10 harg10 arg11) >>= fun _ => k) Q' := by
  unfold owns
  iintro ⟨HR, ⟨%f2, %h2, H2⟩, ⟨%f3, %h3, H3⟩, ⟨%f4, %h4, H4⟩, ⟨%f7, %h7, H7⟩, ⟨%f8, %h8, H8⟩, HS, HO⟩
  subst h2 h3 h4 h7 h8
  imod (Transfers.mixedBatch_alloc' (Lvl := ℕ) EC (c : Thread nD τ) () (crd arg7 arg8 (pan i))
    (DelF c arg2 arg3 arg4 arg7 arg8 (i 0).val (pan i) f2 f3 f4 f7 f8) (sm := SemLoc.dma arg11.sem) (E := Set.univ)) $$ HS with HM
  ihave Hall := (open_all c arg2 arg3 arg4 arg7 arg8 (i 0).val (pan i) f2 f3 f4 f7 f8 (pan_le i) (pan_in i)) $$ [H2 H3 H4 H7 H8]
  · isplitl [H2]; · iexact H2
    isplitl [H3]; · iexact H3
    isplitl [H4]; · iexact H4
    isplitl [H7]; · iexact H7
    iexact H8
  icases Hall with ⟨HB, Hrst⟩
  iapply (fetch_run c i arg1 harg1 arg2 harg2 arg3 harg3 arg4 harg4 arg5 harg5 arg6 harg6 arg7 harg7 arg8 harg8 arg9 harg9 arg10 harg10 arg11 f2 f3 f4 f7 f8 R k Q' h)
  isplitl [HR]; · iexact HR
  isplitl [Hrst]; · iexact Hrst
  isplitl [HO]; · iexact HO
  isplitl [HB]; · iexact HB
  iexact HM

end

end Cert.Proof

end
-- ==== Proof.Entries.lean ====
/-
  What the table's words say: the places they name are inside the buffers.
-/
module

public import proofs.«01_k».proof.Proof.Table

@[expose] public section

namespace Cert.Proof

open Cert.Kernel Cert.Kernel.Gen
open Idealize.ShloMosaic

/-- Every entry names places inside the buffers. -/
theorem entry_ok : ∀ r : Fin 4096, k1_chk193 (entry r.val) := by decide +kernel

/-- The rows an entry names. -/
theorem entry_rows : ∀ r : Fin 4096, k1_off410 (entry r.val) = ![w0Of r.val, 0] ∧ k1_off411 (entry r.val) = ![w0Of r.val + strOf r.val, 0]
    ∧ k1_off412 (entry r.val) = ![r.val / 32 * 8, 0] ∧ w0Of r.val + strOf r.val < 545 := by decide +kernel

end Cert.Proof

end
-- ==== Proof.Dequant.lean ====
/-
  The dequantising call's body in full: the table on the first block, the copies, the scales widened and spread, and the main loop.
-/
module

public import proofs.«01_k».proof.Proof.Fetch
public import proofs.«01_k».proof.Proof.Entries
public import Idealize.ShloMosaic.Lib.MixedBatch
public import Idealize.ShloMosaic.Lib.ReshapeSlab
public import Idealize.ShloMosaic.Lib.Ring
public import Idealize.SL.BI.BigOpNat

@[expose] public section

noncomputable section

namespace Cert.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ### The scales, widened and spread -/

theorem p128x : ∀ a, 0 < S128x128.size a := by decide
theorem p8x : ∀ a, 0 < S8x128x128.size a := by decide

/-- The scale buffer's slab `u`, widened. -/
def slab (X8 : S8x128x128.Idx → Elt F .bf16) (u : ℕ) : S128x128.Idx → Elt F .f32 :=
  k1_pay40 (F := F) fun x => X8 (at2 p8x ![u, (x 1).val, (x 2).val])
/-- Row `8 * g + u` is row `g` of slab `u`. -/
def wScale (X8 : S8x128x128.Idx → Elt F .bf16) : S1024x128.Idx → Elt F .f32 := fun y =>
  slab X8 ((y 0).val % 8) (at2 p128x ![(y 0).val / 8, (y 1).val])
def Spread (X8 : S8x128x128.Idx → Elt F .bf16) (u : ℕ) (X9 : S1024x128.Idx → Elt F .f32) : Prop :=
  ∀ y, (y 0).val % 8 < u → X9 y = wScale X8 y

section Spread

variable (c : Dev nD) {arg8 : Memref sig .tc .vmem S8x128x128 .bf16} {arg9 : Memref sig .tc .vmem S1024x128 .f32}

/-- Reading a slab; the buffer read before it is written over is not used. -/
def readStep (arg8 : Memref sig .tc .vmem S8x128x128 .bf16) (arg9 : Memref sig .tc .vmem S1024x128 .f32)
    (o8 : Fin 3 → ℕ) (i8 : ∀ a, o8 a + S1x128x128.size a ≤ S8x128x128.size a) (r9 : LoadRect S1024x128) (h9 : arg9.view.LoadsAt r9) :
    P₀ F (FVec F S128x128 .f32) := do
  let v : Vec F S1x128x128 .bf16 ← Prog.lift (.load arg8 (Rect.unit (s := S8x128x128) o8 S1x128x128.size i8).toLoadRect (View.loadsAt_vmem h_S1x128x128))
  let _ ← Prog.lift (.load arg9 r9 h9)
  pure (k1_pay40 v)

def writeStep (arg9 : Memref sig .tc .vmem S1024x128 .f32) (o9 : Fin 2 → ℕ)
    (i9 : ∀ a, S128x128.size a = 0 ∨ o9 a + (![8, 1] : Fin 2 → ℕ) a * (S128x128.size a - 1) < S1024x128.size a) (v : FVec F S128x128 .f32) : P₀ F Unit := do
  Prog.lift (.store arg9 ⟨(⟨o9, S128x128.size, ![8, 1], i9⟩ : LoadRect S1024x128), spos_8_1⟩ v Finset.univ (View.stores_vmem_bits_univ h_S128x128 rfl) (.inl rfl))
  pure ()

/-- What the spreading holds. -/
def sp (arg8 : Memref sig .tc .vmem S8x128x128 .bf16) (arg9 : Memref sig .tc .vmem S1024x128 .f32) (X8 : S8x128x128.Idx → Elt F .bf16) (u : ℕ) : sProp 𝕄 :=
  iprop(owns (c : Thread nD τ) arg8 fullShare X8 ∗ ownsSat (c : Thread nD τ) arg9 fullShare (Spread X8 u))

theorem wp_readStep (X8 : S8x128x128.Idx → Elt F .bf16) (u u' : ℕ) (hu : u < 8) {o8 i8 r9 h9} (h : o8 = ![u, 0, 0]) :
    (sp c arg8 arg9 X8 u' : sProp 𝕄) ⊢ wp frame (wpE (defs₀ (F := F)) 𝒱₀ c none) Set.univ (readStep (F := F) arg8 arg9 o8 i8 r9 h9) fun v => iprop(⌜v = slab X8 u⌝ ∗ sp c arg8 arg9 X8 u') := by
  subst h
  unfold sp readStep
  simp only [Prog.lift, Prog.bind_op, Prog.bind_ret]
  iintro ⟨H8, H9⟩
  ihave H9 := (ownsSat_elim (c : Thread nD τ) arg9 fullShare) $$ H9
  icases H9 with ⟨%X9, %hX, H9⟩
  iapply (load_owns c (fun x : S1x128x128.Idx => X8 (at2 p8x ![u, (x 1).val, (x 2).val])) (fun x => congrArg X8 (idx_at2 p8x _ _ x fun a => by
    have h0 : (x 0).val < 1 := (x 0).isLt
    fin_cases a
    · show u + 1 * (x 0).val = u; omega
    · exact (Nat.zero_add _).trans (Nat.one_mul _)
    · exact (Nat.zero_add _).trans (Nat.one_mul _)))) $$ H8
  iintro H8
  iapply (load_owns c (fun x => X9 (r9.idx x)) (fun x => rfl)) $$ H9
  iintro H9
  rw [wp_pure]
  imodintro
  isplitr
  · ipureintro; rfl
  isplitl [H8]; · iexact H8
  iapply (ownsSat_intro (c : Thread nD τ) arg9 fullShare hX)
  iexact H9

theorem spread_put (X8 : S8x128x128.Idx → Elt F .bf16) (u : ℕ) (hu : u < 8) (X9 : S1024x128.Idx → Elt F .f32) (hX : Spread X8 u X9)
    (i9 : ∀ a, S128x128.size a = 0 ∨ (![u, 0] : Fin 2 → ℕ) a + (![8, 1] : Fin 2 → ℕ) a * (S128x128.size a - 1) < S1024x128.size a) :
    Spread X8 (u + 1) (put (⟨(⟨![u, 0], S128x128.size, ![8, 1], i9⟩ : LoadRect S1024x128), spos_8_1⟩ : Rect S1024x128) (slab X8 u) X9) := by
  intro y hy
  have hy0 : (y 0).val < 1024 := (y 0).isLt
  have hy1 : (y 1).val < 128 := (y 1).isLt
  by_cases h : (y 0).val % 8 = u
  · have e : (⟨(⟨![u, 0], S128x128.size, ![8, 1], i9⟩ : LoadRect S1024x128), spos_8_1⟩ : Rect S1024x128).emb (at2 p128x ![(y 0).val / 8, (y 1).val]) = y := by
      funext a; apply Fin.ext; fin_cases a
      · show u + 8 * ((y 0).val / 8 % 128) = (y 0).val; omega
      · show 0 + 1 * ((y 1).val % 128) = (y 1).val; omega
    have e2 := put_emb (⟨(⟨![u, 0], S128x128.size, ![8, 1], i9⟩ : LoadRect S1024x128), spos_8_1⟩ : Rect S1024x128) (slab X8 u) X9 (at2 p128x ![(y 0).val / 8, (y 1).val])
    rw [e] at e2
    rw [e2]; unfold wScale; rw [h]
  · rw [put_of_not]
    · exact hX y (by omega)
    · intro x hx
      have := congrArg (fun z : S1024x128.Idx => (z 0).val) hx
      have h2 : u + 8 * (x 0).val = (y 0).val := this
      omega

theorem wp_writeStep (X8 : S8x128x128.Idx → Elt F .bf16) (u : ℕ) (hu : u < 8) {o9 i9 v} (h : o9 = ![u, 0]) (hv : v = slab X8 u) :
    (sp c arg8 arg9 X8 u : sProp 𝕄) ⊢ wp frame (wpE (defs₀ (F := F)) 𝒱₀ c none) Set.univ (writeStep (F := F) arg9 o9 i9 v) fun _ => sp c arg8 arg9 X8 (u + 1) := by
  subst h hv
  unfold sp writeStep
  simp only [Prog.lift, Prog.bind_op, Prog.bind_ret]
  iintro ⟨H8, H9⟩
  ihave H9 := (ownsSat_elim (c : Thread nD τ) arg9 fullShare) $$ H9
  icases H9 with ⟨%X9, %hX, H9⟩
  iapply (store_owns c) $$ H9
  iintro H9
  rw [wp_pure]
  imodintro
  isplitl [H8]; · iexact H8
  iapply (ownsSat_intro (c : Thread nD τ) arg9 fullShare (spread_put X8 u hu X9 hX i9))
  iexact H9

/-- One whole step. -/
theorem wp_both {β : Type} (X8 : S8x128x128.Idx → Elt F .bf16) (u : ℕ) (hu : u < 8) {o8 i8 r9 h9 o9 i9} (ho8 : o8 = ![u, 0, 0]) (ho9 : o9 = ![u, 0])
    {R : sProp 𝕄} {k : P₀ F β} {Q : β → sProp 𝕄} (h : (iprop(R ∗ sp c arg8 arg9 X8 (u + 1)) : sProp 𝕄) ⊢ wp frame (wpE (defs₀ (F := F)) 𝒱₀ c none) Set.univ k Q) :
    (iprop(R ∗ sp c arg8 arg9 X8 u) : sProp 𝕄) ⊢ wp frame (wpE (defs₀ (F := F)) 𝒱₀ c none) Set.univ (readStep (F := F) arg8 arg9 o8 i8 r9 h9 >>= fun v => writeStep arg9 o9 i9 v >>= fun _ => k) Q := by
  rw [wp_bind]
  refine (beside c (wp_readStep c X8 u u hu ho8)).trans (wp_mono frame _ Set.univ fun v => ?_)
  iintro ⟨HR, %hv, H⟩
  iapply (seq c (beside c (R := R) (wp_writeStep c X8 u hu ho9 hv)) h)
  isplitl [HR]; · iexact HR
  iexact H

end Spread

/-! ### The value of a block -/

/-- One element of the weight matrix: the code in the two words `a`, `b` by the table's word `e`, times the scale `s`. -/
def cell (e a b : BitVec 32) (s : Elt F .f32) : Elt F .f32 :=
  k1_pay7 (k1_pay5 (F := F) e (fun _ => a) (fun _ => b)) (fun _ => s) (k1_pay6 (F := F) e) (at2 p8 ![0, 0])

theorem cast_self {s : Shape} {α : Type} (v : s.Idx → α) (h : s.ShapeCasts s) : shapeCast s v h = v :=
  funext fun i => congrArg v (Shape.reshapeEquiv_self _ i)

theorem rowPay_cell (X7 : S4416x128.Idx → Elt F .i32) (X9 : S1024x128.Idx → Elt F .f32) (e : BitVec 32) (x : S8x128.Idx) :
    rowPay X7 X9 e x = cell (F := F) e (X7 (at2 p4416 ![k1_off410 e 0 + 552 * (x 0).val, (x 1).val]))
      (X7 (at2 p4416 ![k1_off411 e 0 + 552 * (x 0).val, (x 1).val])) (X9 (at2 p1024 ![k1_off412 e 0 + (x 0).val, (x 1).val])) := by
  unfold rowPay cell k1_pay7
  dsimp only
  rw [cast_self, cast_self]
  rfl

/-- The word of row `w` in column `j` of the packed matrix, whose last rows are `Tl`. -/
def word (Q : S545x11008.Idx → Elt F .i32) (Tl : S8x11008.Idx → Elt F .i32) (w j : ℕ) : BitVec 32 :=
  if w < 544 then Q (at2 p545 ![w, j]) else Tl (at2 p8w ![w - 544, j])

/-- The scale of group `g` in column `j`, widened. -/
def widen (v : Elt F .bf16) : Elt F .f32 := k1_pay40 (F := F) (fun _ => v) (at2 p128x ![0, 0])

theorem slab_at (X8 : S8x128x128.Idx → Elt F .bf16) (u : ℕ) {g l : ℕ} (hg : g < 128) (hl : l < 128) :
    slab X8 u (at2 p128x ![g, l]) = widen (X8 (at2 p8x ![u, g, l])) := by
  unfold slab widen k1_pay40
  dsimp only
  rw [cast_self, cast_self]
  obtain ⟨-, e1, e2⟩ := squeezed (at2 p128x ![g, l]) num8
  have d0 : (at2 p128x ![g, l] (0 : Fin 2)).val = g := Nat.mod_eq_of_lt hg
  have d1 : (at2 p128x ![g, l] (1 : Fin 2)).val = l := Nat.mod_eq_of_lt hl
  rw [d0] at e1
  rw [d1] at e2
  have e : (![u, (Shape.reshapeEquiv num8 (at2 p128x ![g, l]) 1).val, (Shape.reshapeEquiv num8 (at2 p128x ![g, l]) 2).val] : Fin 3 → ℕ) = ![u, g, l] := by
    rw [e1, e2]
  exact congrArg (fun z : Fin 3 → ℕ => FloatOps.extf (F := F) .f32 bitsLt_bf16_f32 (X8 (at2 p8x z))) e

/-- The table's word for column `p`. -/
def tab (X : S4096.Idx → BitVec 32) (p : ℕ) : BitVec 32 :=
  open Classical in if h : ∃ r : ℕ, r < 4096 ∧ (X (ix r)).toNat = p then entry h.choose else 0#32

/-- Element `(p, j)` of the weight matrix. -/
def wAt (X : S4096.Idx → BitVec 32) (Q : S545x11008.Idx → Elt F .i32) (Tl : S8x11008.Idx → Elt F .i32) (Sc : S128x11008.Idx → Elt F .bf16)
    (p j : ℕ) : Elt F .bf16 :=
  tr (cell (F := F) (tab X p) (word Q Tl (k1_off410 (tab X p) 0) j) (word Q Tl (k1_off411 (tab X p) 0) j)
    (widen (Sc (at2 p128 ![k1_off412 (tab X p) 0 / 8, j]))))

/-- The block holds the weight matrix, as far as it is inside the array. -/
def BlkOk (T : ℕ) (X : S4096.Idx → BitVec 32) (Q : S545x11008.Idx → Elt F .i32) (Tl : S8x11008.Idx → Elt F .i32)
    (Sc : S128x11008.Idx → Elt F .bf16) (X5 : S4096x1024.Idx → Elt F .bf16) : Prop :=
  ∀ y, 1024 * T + (y 1).val < 11008 → X5 y = wAt X Q Tl Sc (y 0).val (1024 * T + (y 1).val)

section

variable {X : S4096.Idx → BitVec 32} (hlt : ∀ r < 4096, (X (ix r)).toNat < 4096)
  (hinj : ∀ r < 4096, ∀ r' < 4096, (X (ix r)).toNat = (X (ix r')).toNat → r = r')
  (hsur : ∀ p < 4096, ∃ r < 4096, (X (ix r)).toNat = p)

include hsur in
theorem tab_entry {p : ℕ} (hp : p < 4096) : ∃ r < 4096, (X (ix r)).toNat = p ∧ tab X p = entry r := by
  obtain ⟨r0, h0, h1⟩ := hsur p hp
  have h : ∃ r : ℕ, r < 4096 ∧ (X (ix r)).toNat = p := ⟨r0, h0, h1⟩
  refine ⟨h.choose, h.choose_spec.1, h.choose_spec.2, ?_⟩
  unfold tab; rw [dif_pos h]

include hsur in
theorem agree_tab {Tb : S4096.Idx → BitVec 32} (hT : Agree X entry 4096 Tb) {p : ℕ} (hp : p < 4096) : Tb (ix p) = tab X p := by
  obtain ⟨r, hr, h1, h2⟩ := tab_entry hsur hp
  rw [h2, ← h1]; exact hT r hr

include hsur in
theorem blk_ok {Tb : S4096.Idx → BitVec 32} (hT : Agree X entry 4096 Tb) (Q : S545x11008.Idx → Elt F .i32) (Tl : S8x11008.Idx → Elt F .i32)
    (Sc : S128x11008.Idx → Elt F .bf16) (T n : ℕ) (hTn : n = min 8 (86 - 8 * T)) (hT11 : T < 11)
    (X7 : S4416x128.Idx → Elt F .i32) (X8 : S8x128x128.Idx → Elt F .bf16) (X9 : S1024x128.Idx → Elt F .f32)
    (hX9 : Spread (scal T n Sc X8) 8 X9) (X5 : S4096x1024.Idx → Elt F .bf16) (h5 : Done Tb (slabs T n Q Tl X7) X9 256 0 X5) :
    BlkOk T X Q Tl Sc X5 := by
  intro y hy
  have hy0 : (y 0).val < 4096 := (y 0).isLt
  have hy1 : (y 1).val < 1024 := (y 1).isLt
  rw [h5 y (Or.inl (by omega))]
  unfold wBlk wAt
  obtain ⟨r, hr, h1, h2⟩ := tab_entry hsur hy0
  obtain ⟨e0, e1, e2, e3⟩ := entry_rows ⟨r, hr⟩
  dsimp only at e0 e1 e2 e3
  have hu : (y 1).val / 128 < n := by omega
  have hu8 : (y 1).val / 128 < 8 := by omega
  rw [agree_tab hsur hT hy0, rowPay_cell, h2, e0, e1, e2]
  have c0 : (at2 p8 ![(y 1).val / 128, (y 1).val % 128] (0 : Fin 2)).val = (y 1).val / 128 := by
    show (y 1).val / 128 % 8 = _; omega
  have c1 : (at2 p8 ![(y 1).val / 128, (y 1).val % 128] (1 : Fin 2)).val = (y 1).val % 128 := by
    show (y 1).val % 128 % 128 = _; omega
  rw [c0, c1]
  have key : ∀ w : ℕ, w < 552 → slabs T n Q Tl X7 (at2 p4416 ![w + 552 * ((y 1).val / 128), (y 1).val % 128]) = word Q Tl w (1024 * T + (y 1).val) := by
    intro w hw
    have d0 : (at2 p4416 ![w + 552 * ((y 1).val / 128), (y 1).val % 128] (0 : Fin 2)).val = w + 552 * ((y 1).val / 128) := by
      show (w + 552 * ((y 1).val / 128)) % 4416 = _; omega
    have d1 : (at2 p4416 ![w + 552 * ((y 1).val / 128), (y 1).val % 128] (1 : Fin 2)).val = (y 1).val % 128 := by
      show (y 1).val % 128 % 128 = _; omega
    unfold slabs word
    rw [d0, d1, if_pos (by omega), show (w + 552 * ((y 1).val / 128)) % 552 = w by omega, show (w + 552 * ((y 1).val / 128)) / 552 = (y 1).val / 128 by omega,
      show 128 * ((8 * T + (y 1).val / 128) % 86) + (y 1).val % 128 = 1024 * T + (y 1).val by omega]
  have h9 : X9 (at2 p1024 ![r / 32 * 8 + (y 1).val / 128, (y 1).val % 128]) = widen (Sc (at2 p128 ![r / 32 * 8 / 8, 1024 * T + (y 1).val])) := by
    have d0 : (at2 p1024 ![r / 32 * 8 + (y 1).val / 128, (y 1).val % 128] (0 : Fin 2)).val = r / 32 * 8 + (y 1).val / 128 := by
      show (r / 32 * 8 + (y 1).val / 128) % 1024 = _; omega
    have d1 : (at2 p1024 ![r / 32 * 8 + (y 1).val / 128, (y 1).val % 128] (1 : Fin 2)).val = (y 1).val % 128 := by
      show (y 1).val % 128 % 128 = _; omega
    rw [hX9 _ (by omega)]
    unfold wScale
    rw [d0, d1, show (r / 32 * 8 + (y 1).val / 128) % 8 = (y 1).val / 128 by omega, show (r / 32 * 8 + (y 1).val / 128) / 8 = r / 32 by omega,
      show r / 32 * 8 / 8 = r / 32 by omega]
    rw [slab_at _ _ (by omega) (by omega)]
    unfold scal
    have f0 : (at2 p8x ![(y 1).val / 128, r / 32, (y 1).val % 128] (0 : Fin 3)).val = (y 1).val / 128 := by
      show (y 1).val / 128 % 8 = _; omega
    have f1 : (at2 p8x ![(y 1).val / 128, r / 32, (y 1).val % 128] (1 : Fin 3)).val = r / 32 := by
      show r / 32 % 128 = _; omega
    have f2 : (at2 p8x ![(y 1).val / 128, r / 32, (y 1).val % 128] (2 : Fin 3)).val = (y 1).val % 128 := by
      show (y 1).val % 128 % 128 = _; omega
    rw [f0, f1, f2, if_pos hu, show 128 * ((8 * T + (y 1).val / 128) % 86) + (y 1).val % 128 = 1024 * T + (y 1).val by omega]
  have g0 : (![w0Of r, 0] : Fin 2 → ℕ) 0 = w0Of r := rfl
  have g1 : (![w0Of r + strOf r, 0] : Fin 2 → ℕ) 0 = w0Of r + strOf r := rfl
  have g2 : (![r / 32 * 8, 0] : Fin 2 → ℕ) 0 = r / 32 * 8 := rfl
  rw [g0, g1, g2, key _ (by omega), key _ (by omega), h9]

end

/-! ### The body -/

section

variable (c : Dev nD) (q : PosShare TreeShare) (i : grid1.Coords) (arg1 : Memref sig .tc .smem S4096 .i32) (harg1 : arg1.IsWhole) (arg2 : Memref sig .tc .hbm S545x11008 .i32) (harg2 : arg2.IsWhole) (arg3 : Memref sig .tc .hbm S8x11008 .i32) (harg3 : arg3.IsWhole) (arg4 : Memref sig .tc .hbm S128x11008 .bf16) (harg4 : arg4.IsWhole) (arg5 : Memref sig .tc .vmem S4096x1024 .bf16) (harg5 : arg5.IsWhole) (arg6 : Memref sig .tc .smem S4096 .i32) (harg6 : arg6.IsWhole) (arg7 : Memref sig .tc .vmem S4416x128 .i32) (harg7 : arg7.IsWhole) (arg8 : Memref sig .tc .vmem S8x128x128 .bf16) (harg8 : arg8.IsWhole) (arg9 : Memref sig .tc .vmem S1024x128 .f32) (harg9 : arg9.IsWhole) (arg10 : Memref sig .tc .vmem S136x128 .f32) (harg10 : arg10.IsWhole) (arg11 : DmaSems sig S_)

/-- The first part after the table. -/
def rest1 : P₀ F (FVec F S128x128 .f32) :=
    Scf.Loop.for (k1_t7_loop i) (k1_t7_ok i) () (k1_t7_body i arg1 harg1 arg2 harg2 arg3 harg3 arg4 harg4 arg5 harg5 arg6 harg6 arg7 harg7 arg8 harg8 arg9 harg9 arg10 harg10 arg11) >>= fun _ =>
    Scf.Loop.for (k1_t8_loop i) (k1_t8_ok i) () (k1_t8_body i arg1 harg1 arg2 harg2 arg3 harg3 arg4 harg4 arg5 harg5 arg6 harg6 arg7 harg7 arg8 harg8 arg9 harg9 arg10 harg10 arg11) >>= fun _ =>
    Scf.Loop.for (k1_t9_loop i) (k1_t9_ok i) () (k1_t9_body i arg1 harg1 arg2 harg2 arg3 harg3 arg4 harg4 arg5 harg5 arg6 harg6 arg7 harg7 arg8 harg8 arg9 harg9 arg10 harg10 arg11) >>= fun _ =>
    Scf.Loop.for (k1_t10_loop i) (k1_t10_ok i) () (k1_t10_body i arg1 harg1 arg2 harg2 arg3 harg3 arg4 harg4 arg5 harg5 arg6 harg6 arg7 harg7 arg8 harg8 arg9 harg9 arg10 harg10 arg11) >>= fun _ =>
    readStep arg8 arg9 ![0, 0, 0] inb_S8x128x128_S1x128x128_0_0_0 (⟨![0, 0], S128x128.size, ![8, 1], inb_S1024x128_S128x128_0_0_s_8_1⟩ : LoadRect S1024x128) (View.loadsAt_vmem h_S128x128) >>= fun v => writeStep arg9 ![0, 0] inb_S1024x128_S128x128_0_0_s_8_1 v >>= fun _ =>
    readStep arg8 arg9 ![1, 0, 0] inb_S8x128x128_S1x128x128_1_0_0 (⟨![1, 0], S128x128.size, ![8, 1], inb_S1024x128_S128x128_1_0_s_8_1⟩ : LoadRect S1024x128) (View.loadsAt_vmem h_S128x128)

set_option maxRecDepth 65536 in
theorem part61_pos (k1_h1 : k1_cond1 i = 1#1) : k1_part61_skel (F := F) i arg1 harg1 arg2 harg2 arg3 harg3 arg4 harg4 arg5 harg5 arg6 harg6 arg7 harg7 arg8 harg8 arg9 harg9 arg10 harg10 arg11 = (
    Scf.Loop.for k1_t1_loop (k1_t1_ok i k1_h1) () (k1_t1_body i arg1 harg1 arg2 harg2 arg3 harg3 arg4 harg4 arg5 harg5 arg6 harg6 arg7 harg7 arg8 harg8 arg9 harg9 arg10 harg10 arg11 k1_h1) >>= fun _ =>
    Scf.Loop.for k1_t2_loop (k1_t2_ok i k1_h1) () (k1_t2_body i arg1 harg1 arg2 harg2 arg3 harg3 arg4 harg4 arg5 harg5 arg6 harg6 arg7 harg7 arg8 harg8 arg9 harg9 arg10 harg10 arg11 k1_h1) >>= fun _ =>
    Scf.Loop.for k1_t3_loop (k1_t3_ok i k1_h1) () (k1_t3_body i arg1 harg1 arg2 harg2 arg3 harg3 arg4 harg4 arg5 harg5 arg6 harg6 arg7 harg7 arg8 harg8 arg9 harg9 arg10 harg10 arg11 k1_h1) >>= fun _ =>
    Scf.Loop.for k1_t4_loop (k1_t4_ok i k1_h1) () (k1_t4_body i arg1 harg1 arg2 harg2 arg3 harg3 arg4 harg4 arg5 harg5 arg6 harg6 arg7 harg7 arg8 harg8 arg9 harg9 arg10 harg10 arg11 k1_h1) >>= fun _ =>
    Scf.Loop.for k1_t5_loop (k1_t5_ok i k1_h1) () (k1_t5_body i arg1 harg1 arg2 harg2 arg3 harg3 arg4 harg4 arg5 harg5 arg6 harg6 arg7 harg7 arg8 harg8 arg9 harg9 arg10 harg10 arg11 k1_h1) >>= fun _ =>
    Scf.Loop.for k1_t6_loop (k1_t6_ok i k1_h1) () (k1_t6_body i arg1 harg1 arg2 harg2 arg3 harg3 arg4 harg4 arg5 harg5 arg6 harg6 arg7 harg7 arg8 harg8 arg9 harg9 arg10 harg10 arg11 k1_h1) >>= fun _ =>
    rest1 i arg1 harg1 arg2 harg2 arg3 harg3 arg4 harg4 arg5 harg5 arg6 harg6 arg7 harg7 arg8 harg8 arg9 harg9 arg10 harg10 arg11) := by
  unfold k1_part61_skel
  rw [dif_pos k1_h1]
  rfl

set_option maxRecDepth 65536 in
theorem part61_neg (k1_h1 : ¬ k1_cond1 i = 1#1) : k1_part61_skel (F := F) i arg1 harg1 arg2 harg2 arg3 harg3 arg4 harg4 arg5 harg5 arg6 harg6 arg7 harg7 arg8 harg8 arg9 harg9 arg10 harg10 arg11 = rest1 i arg1 harg1 arg2 harg2 arg3 harg3 arg4 harg4 arg5 harg5 arg6 harg6 arg7 harg7 arg8 harg8 arg9 harg9 arg10 harg10 arg11 := by
  unfold k1_part61_skel
  rw [dif_neg k1_h1]
  rfl

set_option maxRecDepth 65536 in
theorem part62_eq (w : FVec F S128x128 .f32) : k1_part62_skel (F := F) i arg1 harg1 arg2 harg2 arg3 harg3 arg4 harg4 arg5 harg5 arg6 harg6 arg7 harg7 arg8 harg8 arg9 harg9 arg10 harg10 arg11 w = (
    writeStep arg9 ![1, 0] inb_S1024x128_S128x128_1_0_s_8_1 w >>= fun _ =>
    readStep arg8 arg9 ![2, 0, 0] inb_S8x128x128_S1x128x128_2_0_0 (⟨![2, 0], S128x128.size, ![8, 1], inb_S1024x128_S128x128_2_0_s_8_1⟩ : LoadRect S1024x128) (View.loadsAt_vmem h_S128x128) >>= fun v => writeStep arg9 ![2, 0] inb_S1024x128_S128x128_2_0_s_8_1 v >>= fun _ =>
    readStep arg8 arg9 ![3, 0, 0] inb_S8x128x128_S1x128x128_3_0_0 (⟨![3, 0], S128x128.size, ![8, 1], inb_S1024x128_S128x128_3_0_s_8_1⟩ : LoadRect S1024x128) (View.loadsAt_vmem h_S128x128) >>= fun v => writeStep arg9 ![3, 0] inb_S1024x128_S128x128_3_0_s_8_1 v >>= fun _ =>
    readStep arg8 arg9 ![4, 0, 0] inb_S8x128x128_S1x128x128_4_0_0 (⟨![4, 0], S128x128.size, ![8, 1], inb_S1024x128_S128x128_4_0_s_8_1⟩ : LoadRect S1024x128) (View.loadsAt_vmem h_S128x128) >>= fun v => writeStep arg9 ![4, 0] inb_S1024x128_S128x128_4_0_s_8_1 v >>= fun _ =>
    readStep arg8 arg9 ![5, 0, 0] inb_S8x128x128_S1x128x128_5_0_0 (⟨![5, 0], S128x128.size, ![8, 1], inb_S1024x128_S128x128_5_0_s_8_1⟩ : LoadRect S1024x128) (View.loadsAt_vmem h_S128x128) >>= fun v => writeStep arg9 ![5, 0] inb_S1024x128_S128x128_5_0_s_8_1 v >>= fun _ =>
    readStep arg8 arg9 ![6, 0, 0] inb_S8x128x128_S1x128x128_6_0_0 (⟨![6, 0], S128x128.size, ![8, 1], inb_S1024x128_S128x128_6_0_s_8_1⟩ : LoadRect S1024x128) (View.loadsAt_vmem h_S128x128)) := rfl

/-- What remains after the second part. -/
def rest3 (w : FVec F S128x128 .f32) : P₀ F PUnit :=
    writeStep arg9 ![6, 0] inb_S1024x128_S128x128_6_0_s_8_1 w >>= fun _ =>
    readStep arg8 arg9 ![7, 0, 0] inb_S8x128x128_S1x128x128_7_0_0 (⟨![7, 0], S128x128.size, ![8, 1], inb_S1024x128_S128x128_7_0_s_8_1⟩ : LoadRect S1024x128) (View.loadsAt_vmem h_S128x128) >>= fun v => writeStep arg9 ![7, 0] inb_S1024x128_S128x128_7_0_s_8_1 v >>= fun _ =>
    Scf.Loop.for k1_t11_loop k1_t11_ok () (k1_t11_body i arg1 harg1 arg2 harg2 arg3 harg3 arg4 harg4 arg5 harg5 arg6 harg6 arg7 harg7 arg8 harg8 arg9 harg9 arg10 harg10 arg11) >>= fun _ => pure ⟨⟩

set_option maxRecDepth 65536 in
theorem dequant_eq : cc1_dequant (F := F) i arg1 harg1 arg2 harg2 arg3 harg3 arg4 harg4 arg5 harg5 arg6 harg6 arg7 harg7 arg8 harg8 arg9 harg9 arg10 harg10 arg11 =
    (k1_part61_skel i arg1 harg1 arg2 harg2 arg3 harg3 arg4 harg4 arg5 harg5 arg6 harg6 arg7 harg7 arg8 harg8 arg9 harg9 arg10 harg10 arg11 >>= fun v => k1_part62_skel i arg1 harg1 arg2 harg2 arg3 harg3 arg4 harg4 arg5 harg5 arg6 harg6 arg7 harg7 arg8 harg8 arg9 harg9 arg10 harg10 arg11 v >>= fun w => rest3 i arg1 harg1 arg2 harg2 arg3 harg3 arg4 harg4 arg5 harg5 arg6 harg6 arg7 harg7 arg8 harg8 arg9 harg9 arg10 harg10 arg11 w) := by
  rw [cc1_dequant_eq_skeleton]
  unfold cc1_dequant_skel
  rw [k1_part61_eq_skeleton, k1_part62_eq_skeleton]
  rfl

variable (X : S4096.Idx → BitVec 32) (Q : S545x11008.Idx → Elt F .i32) (Tl : S8x11008.Idx → Elt F .i32) (Sc : S128x11008.Idx → Elt F .bf16)

/-- What the spreading leaves alone. -/
def aside (X7 : S4416x128.Idx → Elt F .i32) : sProp 𝕄 :=
  iprop(owns (c : Thread nD τ) arg1 q X ∗ ownsSat (c : Thread nD τ) arg6 fullShare (Agree X entry 4096)
    ∗ ownsSat (c : Thread nD τ) arg5 fullShare (fun _ => True) ∗ ownsSat (c : Thread nD τ) arg10 fullShare (fun _ => True) ∗ (owns (c : Thread nD τ) arg2 fullShare Q ∗ owns (c : Thread nD τ) arg3 fullShare Tl ∗ owns (c : Thread nD τ) arg4 fullShare Sc) ∗ owns (c : Thread nD τ) arg7 fullShare X7
    ∗ semVal ((c : Thread nD τ), SemLoc.dma arg11.sem) 0 ∗ ∃ W, owes (c : Thread nD τ) (0 : CellTallies nD τ sig Unit) W)

/-- What the body takes: the table written already, except on the first block. -/
def takes : sProp 𝕄 :=
  iprop(owns (c : Thread nD τ) arg1 q X ∗ (owns (c : Thread nD τ) arg2 fullShare Q ∗ owns (c : Thread nD τ) arg3 fullShare Tl ∗ owns (c : Thread nD τ) arg4 fullShare Sc) ∗ ownsSat (c : Thread nD τ) arg5 fullShare (fun _ => True)
    ∗ ownsSat (c : Thread nD τ) arg6 fullShare (fun Tb => k1_cond1 i ≠ 1#1 → Agree X entry 4096 Tb)
    ∗ ownsSat (c : Thread nD τ) arg7 fullShare (fun _ => True) ∗ ownsSat (c : Thread nD τ) arg8 fullShare (fun _ => True) ∗ ownsSat (c : Thread nD τ) arg9 fullShare (fun _ => True) ∗ ownsSat (c : Thread nD τ) arg10 fullShare (fun _ => True)
    ∗ semVal ((c : Thread nD τ), SemLoc.dma arg11.sem) 0 ∗ ∃ W, owes (c : Thread nD τ) (0 : CellTallies nD τ sig Unit) W)

/-- What the body leaves. -/
def leaves : sProp 𝕄 :=
  iprop(owns (c : Thread nD τ) arg1 q X ∗ (owns (c : Thread nD τ) arg2 fullShare Q ∗ owns (c : Thread nD τ) arg3 fullShare Tl ∗ owns (c : Thread nD τ) arg4 fullShare Sc) ∗ ownsSat (c : Thread nD τ) arg5 fullShare (BlkOk (i 0).val X Q Tl Sc)
    ∗ ownsSat (c : Thread nD τ) arg6 fullShare (Agree X entry 4096)
    ∗ ownsSat (c : Thread nD τ) arg7 fullShare (fun _ => True) ∗ ownsSat (c : Thread nD τ) arg8 fullShare (fun _ => True) ∗ ownsSat (c : Thread nD τ) arg9 fullShare (fun _ => True) ∗ ownsSat (c : Thread nD τ) arg10 fullShare (fun _ => True)
    ∗ semVal ((c : Thread nD τ), SemLoc.dma arg11.sem) 0 ∗ ∃ W, owes (c : Thread nD τ) (0 : CellTallies nD τ sig Unit) W)

theorem rest1_tail (X7 : S4416x128.Idx → Elt F .i32) (X8 : S8x128x128.Idx → Elt F .bf16) :
    (iprop((owns (c : Thread nD τ) arg1 q X ∗ ownsSat (c : Thread nD τ) arg6 fullShare (Agree X entry 4096)
        ∗ ownsSat (c : Thread nD τ) arg5 fullShare (fun _ => True) ∗ ownsSat (c : Thread nD τ) arg9 fullShare (fun _ => True) ∗ ownsSat (c : Thread nD τ) arg10 fullShare (fun _ => True))
      ∗ owns (c : Thread nD τ) arg2 fullShare Q ∗ owns (c : Thread nD τ) arg3 fullShare Tl ∗ owns (c : Thread nD τ) arg4 fullShare Sc
      ∗ owns (c : Thread nD τ) arg7 fullShare (slabs (i 0).val (pan i) Q Tl X7) ∗ owns (c : Thread nD τ) arg8 fullShare (scal (i 0).val (pan i) Sc X8)
      ∗ semVal ((c : Thread nD τ), SemLoc.dma arg11.sem) 0 ∗ ∃ W, owes (c : Thread nD τ) (0 : CellTallies nD τ sig Unit) W) : sProp 𝕄)
      ⊢ wp frame (wpE (defs₀ (F := F)) 𝒱₀ c none) Set.univ (readStep arg8 arg9 ![0, 0, 0] inb_S8x128x128_S1x128x128_0_0_0 (⟨![0, 0], S128x128.size, ![8, 1], inb_S1024x128_S128x128_0_0_s_8_1⟩ : LoadRect S1024x128) (View.loadsAt_vmem h_S128x128) >>= fun v => writeStep arg9 ![0, 0] inb_S1024x128_S128x128_0_0_s_8_1 v >>= fun _ =>
    readStep arg8 arg9 ![1, 0, 0] inb_S8x128x128_S1x128x128_1_0_0 (⟨![1, 0], S128x128.size, ![8, 1], inb_S1024x128_S128x128_1_0_s_8_1⟩ : LoadRect S1024x128) (View.loadsAt_vmem h_S128x128)) fun v => iprop(∃ X7 X8,
        aside c q arg1 arg2 arg3 arg4 arg5 arg6 arg7 arg10 arg11 X Q Tl Sc (slabs (i 0).val (pan i) Q Tl X7)
        ∗ ⌜v = slab (scal (i 0).val (pan i) Sc X8) 1⌝ ∗ sp c arg8 arg9 (scal (i 0).val (pan i) Sc X8) 1) := by
  refine (show _ ⊢ iprop(aside c q arg1 arg2 arg3 arg4 arg5 arg6 arg7 arg10 arg11 X Q Tl Sc (slabs (i 0).val (pan i) Q Tl X7)
      ∗ sp c arg8 arg9 (scal (i 0).val (pan i) Sc X8) 0) from ?_).trans
    (wp_both c (scal (i 0).val (pan i) Sc X8) 0 (by decide) rfl rfl
      ((beside c (wp_readStep c (scal (i 0).val (pan i) Sc X8) 1 1 (by decide) rfl)).trans (wp_mono frame _ Set.univ fun v => ?_)))
  · unfold aside sp
    iintro ⟨⟨H1, H6, H5, H9, H10⟩, H2, H3, H4, H7, H8, HS, HO⟩
    isplitr [H8 H9]
    · isplitl [H1]; · iexact H1
      isplitl [H6]; · iexact H6
      isplitl [H5]; · iexact H5
      isplitl [H10]; · iexact H10
      isplitl [H2 H3 H4]
      · isplitl [H2]; · iexact H2
        isplitl [H3]; · iexact H3
        iexact H4
      isplitl [H7]; · iexact H7
      isplitl [HS]; · iexact HS
      iexact HO
    isplitl [H8]; · iexact H8
    iapply (ownsSat_mono (c : Thread nD τ) arg9 fullShare (fun X9 _ y hy => absurd hy (Nat.not_lt_zero _)))
    iexact H9
  · iintro ⟨HA, HV, HS⟩
    iexists X7, X8
    isplitl [HA]; · iexact HA
    isplitl [HV]; · iexact HV
    iexact HS

theorem wp_rest1 :
    (iprop((owns (c : Thread nD τ) arg1 q X ∗ ownsSat (c : Thread nD τ) arg6 fullShare (Agree X entry 4096))
      ∗ (owns (c : Thread nD τ) arg2 fullShare Q ∗ owns (c : Thread nD τ) arg3 fullShare Tl ∗ owns (c : Thread nD τ) arg4 fullShare Sc) ∗ ownsSat (c : Thread nD τ) arg5 fullShare (fun _ => True) ∗ ownsSat (c : Thread nD τ) arg7 fullShare (fun _ => True) ∗ ownsSat (c : Thread nD τ) arg8 fullShare (fun _ => True) ∗ ownsSat (c : Thread nD τ) arg9 fullShare (fun _ => True) ∗ ownsSat (c : Thread nD τ) arg10 fullShare (fun _ => True)
      ∗ semVal ((c : Thread nD τ), SemLoc.dma arg11.sem) 0 ∗ ∃ W, owes (c : Thread nD τ) (0 : CellTallies nD τ sig Unit) W) : sProp 𝕄)
      ⊢ wp frame (wpE (defs₀ (F := F)) 𝒱₀ c none) Set.univ (rest1 i arg1 harg1 arg2 harg2 arg3 harg3 arg4 harg4 arg5 harg5 arg6 harg6 arg7 harg7 arg8 harg8 arg9 harg9 arg10 harg10 arg11) fun v => iprop(∃ X7 X8,
        aside c q arg1 arg2 arg3 arg4 arg5 arg6 arg7 arg10 arg11 X Q Tl Sc (slabs (i 0).val (pan i) Q Tl X7)
        ∗ ⌜v = slab (scal (i 0).val (pan i) Sc X8) 1⌝ ∗ sp c arg8 arg9 (scal (i 0).val (pan i) Sc X8) 1) := by
  iintro ⟨⟨H1, H6⟩, ⟨H2, H3, H4⟩, H5, H7, H8, H9, H10, HS, HO⟩
  ihave H7 := (ownsSat_elim (c : Thread nD τ) arg7 fullShare) $$ H7
  icases H7 with ⟨%X7, -, H7⟩
  ihave H8 := (ownsSat_elim (c : Thread nD τ) arg8 fullShare) $$ H8
  icases H8 with ⟨%X8, -, H8⟩
  iapply (fetch c i arg1 harg1 arg2 harg2 arg3 harg3 arg4 harg4 arg5 harg5 arg6 harg6 arg7 harg7 arg8 harg8 arg9 harg9 arg10 harg10 arg11 Q Tl Sc X7 X8 (iprop(owns (c : Thread nD τ) arg1 q X ∗ ownsSat (c : Thread nD τ) arg6 fullShare (Agree X entry 4096)
    ∗ ownsSat (c : Thread nD τ) arg5 fullShare (fun _ => True) ∗ ownsSat (c : Thread nD τ) arg9 fullShare (fun _ => True) ∗ ownsSat (c : Thread nD τ) arg10 fullShare (fun _ => True))) (readStep arg8 arg9 ![0, 0, 0] inb_S8x128x128_S1x128x128_0_0_0 (⟨![0, 0], S128x128.size, ![8, 1], inb_S1024x128_S128x128_0_0_s_8_1⟩ : LoadRect S1024x128) (View.loadsAt_vmem h_S128x128) >>= fun v => writeStep arg9 ![0, 0] inb_S1024x128_S128x128_0_0_s_8_1 v >>= fun _ =>
    readStep arg8 arg9 ![1, 0, 0] inb_S8x128x128_S1x128x128_1_0_0 (⟨![1, 0], S128x128.size, ![8, 1], inb_S1024x128_S128x128_1_0_s_8_1⟩ : LoadRect S1024x128) (View.loadsAt_vmem h_S128x128)) _ (by apply rest1_tail))
  isplitl [H1 H6 H5 H9 H10]
  · isplitl [H1]; · iexact H1
    isplitl [H6]; · iexact H6
    isplitl [H5]; · iexact H5
    isplitl [H9]; · iexact H9
    iexact H10
  isplitl [H2]; · iexact H2
  isplitl [H3]; · iexact H3
  isplitl [H4]; · iexact H4
  isplitl [H7]; · iexact H7
  isplitl [H8]; · iexact H8
  isplitl [HS]; · iexact HS
  iexact HO

theorem wp_part62 (X7 : S4416x128.Idx → Elt F .i32) (X8 : S8x128x128.Idx → Elt F .bf16) (v : FVec F S128x128 .f32) (hv : v = slab X8 1) :
    (iprop(aside c q arg1 arg2 arg3 arg4 arg5 arg6 arg7 arg10 arg11 X Q Tl Sc X7 ∗ sp c arg8 arg9 X8 1) : sProp 𝕄)
      ⊢ wp frame (wpE (defs₀ (F := F)) 𝒱₀ c none) Set.univ (k1_part62_skel (F := F) i arg1 harg1 arg2 harg2 arg3 harg3 arg4 harg4 arg5 harg5 arg6 harg6 arg7 harg7 arg8 harg8 arg9 harg9 arg10 harg10 arg11 v) fun w => iprop(aside c q arg1 arg2 arg3 arg4 arg5 arg6 arg7 arg10 arg11 X Q Tl Sc X7 ∗ ⌜w = slab X8 6⌝ ∗ sp c arg8 arg9 X8 6) := by
  rw [part62_eq, wp_bind]
  refine (beside c (wp_writeStep c X8 1 (by decide) rfl hv)).trans (wp_mono frame _ Set.univ fun _ => ?_)
  refine wp_both c X8 2 (by decide) rfl rfl ?_
  refine wp_both c X8 3 (by decide) rfl rfl ?_
  refine wp_both c X8 4 (by decide) rfl rfl ?_
  refine wp_both c X8 5 (by decide) rfl rfl ?_
  exact beside c (wp_readStep c X8 6 6 (by decide) rfl)

theorem wp_rest3 (hT11 : (i 0).val < 11)
    (hsur : ∀ p, p < 4096 → ∃ r, r < 4096 ∧ (X (ix r)).toNat = p) (X7 : S4416x128.Idx → Elt F .i32) (X8 : S8x128x128.Idx → Elt F .bf16)
    (w : FVec F S128x128 .f32) (hw : w = slab (scal (i 0).val (pan i) Sc X8) 6) :
    (iprop(aside c q arg1 arg2 arg3 arg4 arg5 arg6 arg7 arg10 arg11 X Q Tl Sc (slabs (i 0).val (pan i) Q Tl X7)
      ∗ sp c arg8 arg9 (scal (i 0).val (pan i) Sc X8) 6) : sProp 𝕄)
      ⊢ wp frame (wpE (defs₀ (F := F)) 𝒱₀ c none) Set.univ (rest3 (F := F) i arg1 harg1 arg2 harg2 arg3 harg3 arg4 harg4 arg5 harg5 arg6 harg6 arg7 harg7 arg8 harg8 arg9 harg9 arg10 harg10 arg11 w) fun _ => leaves c q i arg1 arg2 arg3 arg4 arg5 arg6 arg7 arg8 arg9 arg10 arg11 X Q Tl Sc := by
  unfold rest3
  rw [wp_bind]
  refine (beside c (wp_writeStep c (scal (i 0).val (pan i) Sc X8) 6 (by decide) rfl hw)).trans (wp_mono frame _ Set.univ fun _ => ?_)
  refine wp_both c (scal (i 0).val (pan i) Sc X8) 7 (by decide) rfl rfl ?_
  rw [wp_bind]
  unfold aside sp
  iintro ⟨⟨H1, H6, H5, H10, HQ, H7, HS, HO⟩, H8, H9⟩
  ihave H6 := (ownsSat_elim (c : Thread nD τ) arg6 fullShare) $$ H6
  icases H6 with ⟨%Tb, %hTb, H6⟩
  ihave H9 := (ownsSat_elim (c : Thread nD τ) arg9 fullShare) $$ H9
  icases H9 with ⟨%X9, %hX9, H9⟩
  have hchk : ∀ r, r < 4096 → k1_chk193 (Tb (ix r)) := fun r hr => by
    rw [agree_tab hsur hTb hr]
    obtain ⟨r', hr', -, e⟩ := tab_entry hsur hr
    rw [e]; exact entry_ok ⟨r', hr'⟩
  ihave HW := (beside c (R := iprop(owns (c : Thread nD τ) arg1 q X ∗ (owns (c : Thread nD τ) arg2 fullShare Q ∗ owns (c : Thread nD τ) arg3 fullShare Tl ∗ owns (c : Thread nD τ) arg4 fullShare Sc) ∗ semVal ((c : Thread nD τ), SemLoc.dma arg11.sem) 0 ∗ (∃ W, owes (c : Thread nD τ) (0 : CellTallies nD τ sig Unit) W) ∗ owns (c : Thread nD τ) arg8 fullShare (scal (i 0).val (pan i) Sc X8)))
    (loop11 c i arg1 harg1 arg2 harg2 arg3 harg3 arg4 harg4 arg5 harg5 arg6 harg6 arg7 harg7 arg8 harg8 arg9 harg9 arg10 harg10 arg11 Tb (slabs (i 0).val (pan i) Q Tl X7) X9 hchk)) $$ [H1 H6 H5 H10 HQ H7 HS HO H8 H9]
  · unfold held
    isplitl [H1 HQ HS HO H8]
    · isplitl [H1]; · iexact H1
      isplitl [HQ]; · iexact HQ
      isplitl [HS]; · iexact HS
      isplitl [HO]; · iexact HO
      iexact H8
    isplitl [H6]; · iexact H6
    isplitl [H7]; · iexact H7
    isplitl [H9]; · iexact H9
    isplitl [H10]
    · iapply (ownsSat_mono (c : Thread nD τ) arg10 fullShare (fun X10 _ j hj => absurd hj (Nat.not_lt_zero j)))
      iexact H10
    iapply (ownsSat_mono (c : Thread nD τ) arg5 fullShare (fun X5 _ y hy => by rcases hy with hy | ⟨_, hy⟩ <;> exact absurd hy (by omega)))
    iexact H5
  iapply (wp_mono frame _ Set.univ fun _ => ?_) $$ HW
  rw [wp_pure]
  unfold held leaves
  iintro ⟨⟨H1, HQ, HS, HO, H8⟩, H6, H7, H9, H10, H5⟩
  imodintro
  isplitl [H1]; · iexact H1
  isplitl [HQ]; · iexact HQ
  isplitl [H5]
  · iapply (ownsSat_mono (c : Thread nD τ) arg5 fullShare (fun X5 h5 => blk_ok hsur hTb Q Tl Sc (i 0).val (pan i) rfl hT11 X7 X8 X9 hX9 X5 h5))
    iexact H5
  isplitl [H6]
  · iapply (ownsSat_intro (c : Thread nD τ) arg6 fullShare hTb); iexact H6
  isplitl [H7]
  · iapply (ownsSat_intro (c : Thread nD τ) arg7 fullShare trivial); iexact H7
  isplitl [H8]
  · iapply (ownsSat_intro (c : Thread nD τ) arg8 fullShare trivial); iexact H8
  isplitl [H9]
  · iapply (ownsSat_intro (c : Thread nD τ) arg9 fullShare trivial); iexact H9
  isplitl [H10]
  · iapply (ownsSat_mono (c : Thread nD τ) arg10 fullShare (fun _ _ => trivial)); iexact H10
  isplitl [HS]; · iexact HS
  iexact HO

/-- The table, written on the first block and kept afterwards, followed by the rest of the first
part. -/
theorem wp_part61 (hlt : ∀ r, r < 4096 → (X (ix r)).toNat < 4096)
    (hinj : ∀ r, r < 4096 → ∀ r', r' < 4096 → (X (ix r)).toNat = (X (ix r')).toNat → r = r') :
    (takes c q i arg1 arg2 arg3 arg4 arg5 arg6 arg7 arg8 arg9 arg10 arg11 X Q Tl Sc : sProp 𝕄)
      ⊢ wp frame (wpE (defs₀ (F := F)) 𝒱₀ c none) Set.univ (k1_part61_skel (F := F) i arg1 harg1 arg2 harg2 arg3 harg3 arg4 harg4 arg5 harg5 arg6 harg6 arg7 harg7 arg8 harg8 arg9 harg9 arg10 harg10 arg11) fun v => iprop(∃ X7 X8,
        aside c q arg1 arg2 arg3 arg4 arg5 arg6 arg7 arg10 arg11 X Q Tl Sc (slabs (i 0).val (pan i) Q Tl X7)
        ∗ ⌜v = slab (scal (i 0).val (pan i) Sc X8) 1⌝ ∗ sp c arg8 arg9 (scal (i 0).val (pan i) Sc X8) 1) := by
  refine BI.Entails.trans (show takes c q i arg1 arg2 arg3 arg4 arg5 arg6 arg7 arg8 arg9 arg10 arg11 X Q Tl Sc ⊢ (iprop((owns (c : Thread nD τ) arg2 fullShare Q ∗ owns (c : Thread nD τ) arg3 fullShare Tl ∗ owns (c : Thread nD τ) arg4 fullShare Sc ∗ ownsSat (c : Thread nD τ) arg5 fullShare (fun _ => True) ∗ ownsSat (c : Thread nD τ) arg7 fullShare (fun _ => True) ∗ ownsSat (c : Thread nD τ) arg8 fullShare (fun _ => True) ∗ ownsSat (c : Thread nD τ) arg9 fullShare (fun _ => True) ∗ ownsSat (c : Thread nD τ) arg10 fullShare (fun _ => True)
      ∗ semVal ((c : Thread nD τ), SemLoc.dma arg11.sem) 0 ∗ ∃ W, owes (c : Thread nD τ) (0 : CellTallies nD τ sig Unit) W)
      ∗ owns (c : Thread nD τ) arg1 q X ∗ ownsSat (c : Thread nD τ) arg6 fullShare (fun Tb => k1_cond1 i ≠ 1#1 → Agree X entry 4096 Tb)) : sProp 𝕄) from ?_) ?_
  · unfold takes
    iintro ⟨H1, ⟨H2, H3, H4⟩, H5, H6, H⟩
    isplitl [H2 H3 H4 H5 H]
    · isplitl [H2]; · iexact H2
      isplitl [H3]; · iexact H3
      isplitl [H4]; · iexact H4
      isplitl [H5]; · iexact H5
      iexact H
    isplitl [H1]; · iexact H1
    iexact H6
  have last := wp_rest1 c q i arg1 harg1 arg2 harg2 arg3 harg3 arg4 harg4 arg5 harg5 arg6 harg6 arg7 harg7 arg8 harg8 arg9 harg9 arg10 harg10 arg11 X Q Tl Sc
  have last : (iprop((owns (c : Thread nD τ) arg2 fullShare Q ∗ owns (c : Thread nD τ) arg3 fullShare Tl ∗ owns (c : Thread nD τ) arg4 fullShare Sc ∗ ownsSat (c : Thread nD τ) arg5 fullShare (fun _ => True) ∗ ownsSat (c : Thread nD τ) arg7 fullShare (fun _ => True) ∗ ownsSat (c : Thread nD τ) arg8 fullShare (fun _ => True) ∗ ownsSat (c : Thread nD τ) arg9 fullShare (fun _ => True) ∗ ownsSat (c : Thread nD τ) arg10 fullShare (fun _ => True)
      ∗ semVal ((c : Thread nD τ), SemLoc.dma arg11.sem) 0 ∗ ∃ W, owes (c : Thread nD τ) (0 : CellTallies nD τ sig Unit) W)
      ∗ owns (c : Thread nD τ) arg1 q X ∗ ownsSat (c : Thread nD τ) arg6 fullShare (Agree X entry 4096)) : sProp 𝕄) ⊢ wp frame (wpE (defs₀ (F := F)) 𝒱₀ c none) Set.univ (rest1 (F := F) i arg1 harg1 arg2 harg2 arg3 harg3 arg4 harg4 arg5 harg5 arg6 harg6 arg7 harg7 arg8 harg8 arg9 harg9 arg10 harg10 arg11) fun v => iprop(∃ X7 X8,
        aside c q arg1 arg2 arg3 arg4 arg5 arg6 arg7 arg10 arg11 X Q Tl Sc (slabs (i 0).val (pan i) Q Tl X7)
        ∗ ⌜v = slab (scal (i 0).val (pan i) Sc X8) 1⌝ ∗ sp c arg8 arg9 (scal (i 0).val (pan i) Sc X8) 1) := by
    refine BI.Entails.trans ?_ last
    show (_ : sProp 𝕄) ⊢ _
    iintro ⟨⟨H2, H3, H4, H⟩, H1, H6⟩
    isplitl [H1 H6]
    · isplitl [H1]; · iexact H1
      iexact H6
    isplitl [H2 H3 H4]
    · isplitl [H2]; · iexact H2
      isplitl [H3]; · iexact H3
      iexact H4
    iexact H
  by_cases k1_h1 : k1_cond1 i = 1#1
  · rw [part61_pos _ _ _ _ _ _ _ _ _ _ _ _ _ _ _ _ _ _ _ _ _ _ k1_h1]
    rw [wp_bind]
    refine BI.Entails.trans ?_ ((beside c (R := iprop(owns (c : Thread nD τ) arg2 fullShare Q ∗ owns (c : Thread nD τ) arg3 fullShare Tl ∗ owns (c : Thread nD τ) arg4 fullShare Sc ∗ ownsSat (c : Thread nD τ) arg5 fullShare (fun _ => True) ∗ ownsSat (c : Thread nD τ) arg7 fullShare (fun _ => True) ∗ ownsSat (c : Thread nD τ) arg8 fullShare (fun _ => True) ∗ ownsSat (c : Thread nD τ) arg9 fullShare (fun _ => True) ∗ ownsSat (c : Thread nD τ) arg10 fullShare (fun _ => True)
      ∗ semVal ((c : Thread nD τ), SemLoc.dma arg11.sem) 0 ∗ ∃ W, owes (c : Thread nD τ) (0 : CellTallies nD τ sig Unit) W)) (loop1 c q i arg1 harg1 arg2 harg2 arg3 harg3 arg4 harg4 arg5 harg5 arg6 harg6 arg7 harg7 arg8 harg8 arg9 harg9 arg10 harg10 arg11 k1_h1 hlt hinj)).trans (wp_mono frame _ Set.univ fun _ => ?_))
    · show (_ : sProp 𝕄) ⊢ _
      iintro ⟨HR, H1, H6⟩
      isplitl [HR]; · iexact HR
      isplitl [H1]; · iexact H1
      iapply (ownsSat_mono (c : Thread nD τ) arg6 fullShare (fun Tb _ r hr => absurd hr (Nat.not_lt_zero r))); iexact H6
    rw [wp_bind]
    refine (beside c (loop2 c q i arg1 harg1 arg2 harg2 arg3 harg3 arg4 harg4 arg5 harg5 arg6 harg6 arg7 harg7 arg8 harg8 arg9 harg9 arg10 harg10 arg11 k1_h1 hlt hinj)).trans (wp_mono frame _ Set.univ fun _ => ?_)
    rw [wp_bind]
    refine (beside c (loop3 c q i arg1 harg1 arg2 harg2 arg3 harg3 arg4 harg4 arg5 harg5 arg6 harg6 arg7 harg7 arg8 harg8 arg9 harg9 arg10 harg10 arg11 k1_h1 hlt hinj)).trans (wp_mono frame _ Set.univ fun _ => ?_)
    rw [wp_bind]
    refine (beside c (loop4 c q i arg1 harg1 arg2 harg2 arg3 harg3 arg4 harg4 arg5 harg5 arg6 harg6 arg7 harg7 arg8 harg8 arg9 harg9 arg10 harg10 arg11 k1_h1 hlt hinj)).trans (wp_mono frame _ Set.univ fun _ => ?_)
    rw [wp_bind]
    refine (beside c (loop5 c q i arg1 harg1 arg2 harg2 arg3 harg3 arg4 harg4 arg5 harg5 arg6 harg6 arg7 harg7 arg8 harg8 arg9 harg9 arg10 harg10 arg11 k1_h1 hlt hinj)).trans (wp_mono frame _ Set.univ fun _ => ?_)
    rw [wp_bind]
    refine (beside c (loop6 c q i arg1 harg1 arg2 harg2 arg3 harg3 arg4 harg4 arg5 harg5 arg6 harg6 arg7 harg7 arg8 harg8 arg9 harg9 arg10 harg10 arg11 k1_h1 hlt hinj)).trans (wp_mono frame _ Set.univ fun _ => ?_)
    exact last
  · rw [part61_neg _ _ _ _ _ _ _ _ _ _ _ _ _ _ _ _ _ _ _ _ _ _ k1_h1]
    refine BI.Entails.trans ?_ last
    show (_ : sProp 𝕄) ⊢ _
    iintro ⟨HR, H1, H6⟩
    isplitl [HR]; · iexact HR
    isplitl [H1]; · iexact H1
    iapply (ownsSat_mono (c : Thread nD τ) arg6 fullShare (Φ := fun Tb => k1_cond1 i ≠ 1#1 → Agree X entry 4096 Tb) (Ψ := Agree X entry 4096) (fun Tb h => h k1_h1)); iexact H6

/-- The whole body. -/
theorem wp_dequant (hT11 : (i 0).val < 11) (hlt : ∀ r, r < 4096 → (X (ix r)).toNat < 4096)
    (hinj : ∀ r, r < 4096 → ∀ r', r' < 4096 → (X (ix r)).toNat = (X (ix r')).toNat → r = r')
    (hsur : ∀ p, p < 4096 → ∃ r, r < 4096 ∧ (X (ix r)).toNat = p) :
    (takes c q i arg1 arg2 arg3 arg4 arg5 arg6 arg7 arg8 arg9 arg10 arg11 X Q Tl Sc : sProp 𝕄)
      ⊢ wp frame (wpE (defs₀ (F := F)) 𝒱₀ c none) Set.univ (cc1_dequant (F := F) i arg1 harg1 arg2 harg2 arg3 harg3 arg4 harg4 arg5 harg5 arg6 harg6 arg7 harg7 arg8 harg8 arg9 harg9 arg10 harg10 arg11) fun _ =>
        leaves c q i arg1 arg2 arg3 arg4 arg5 arg6 arg7 arg8 arg9 arg10 arg11 X Q Tl Sc := by
  rw [dequant_eq, wp_bind]
  refine (wp_part61 c q i arg1 harg1 arg2 harg2 arg3 harg3 arg4 harg4 arg5 harg5 arg6 harg6 arg7 harg7 arg8 harg8 arg9 harg9 arg10 harg10 arg11 X Q Tl Sc hlt hinj).trans (wp_mono frame _ Set.univ fun v => ?_)
  iintro ⟨%X7, %X8, HA, %hv, HS⟩
  rw [wp_bind]
  iapply ((wp_part62 c q i arg1 harg1 arg2 harg2 arg3 harg3 arg4 harg4 arg5 harg5 arg6 harg6 arg7 harg7 arg8 harg8 arg9 harg9 arg10 harg10 arg11 X Q Tl Sc (slabs (i 0).val (pan i) Q Tl X7) (scal (i 0).val (pan i) Sc X8) v hv).trans (wp_mono frame _ Set.univ fun w => ?_))
  rotate_left
  · isplitl [HA]; · iexact HA
    iexact HS
  iintro ⟨HA, %hw, HS⟩
  iapply (wp_rest3 c q i arg1 harg1 arg2 harg2 arg3 harg3 arg4 harg4 arg5 harg5 arg6 harg6 arg7 harg7 arg8 harg8 arg9 harg9 arg10 harg10 arg11 X Q Tl Sc hT11 hsur X7 X8 w hw)
  isplitl [HA]; · iexact HA
  iexact HS

end

end Cert.Proof

end
-- ==== Proof.Decode.lean ====
/-
  What each grid point of the decoding's region leaves in the staging buffer of the weight matrix, over any contents of the
  arrays at the region's entry in which the permutation is one: the block of the weight matrix, as far as it is inside the
  array. The permutation's table, written at the first point, and the three arrays that the body copies from by itself ride
  through the region.
-/
module

public import proofs.«01_k».proof.Proof.Data
public import proofs.«01_k».proof.Proof.Dequant
public import Idealize.ShloMosaic.Lib.Pipeline.ValueKit

@[expose] public section

noncomputable section

namespace Cert.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (Pipeline.UD sig nD τ) ℕ

variable (V : Vals F) (c : Dev nD)

/-- The buffer, whole, at contents nothing names. -/
def any (b : Ref sig .tc) : sProp 𝕄 := iprop(∃ f : Buf (Elt F) ((c : Thread nD τ).loc b), ((c : Thread nD τ).loc b) ↦{fullShare} f)

/-- The scoped buffers that the decoding does not touch. -/
def others : sProp 𝕄 := iprop(any c cc0_stg0_0 ∗ any c cc0_stg0_1 ∗ any c cc0_stg1_0 ∗ any c cc0_stg1_1 ∗ any c cc0_stg2_0 ∗ any c cc0_stg3_0 ∗ any c cc0_stg3_1 ∗ any c cc0_stg4_0 ∗ any c cc0_stg4_1 ∗ any c cc2_stg0_0 ∗ any c cc2_stg0_1 ∗ any c cc2_stg1_0 ∗ any c cc2_stg1_1 ∗ any c cc2_stg2_0 ∗ any c cc2_stg2_1)

/-- The scoped buffers that are no staging buffer of the decoding's region: those and its own five. -/
theorem rest1_split : (Pipeline.scopedRest (Ix := Unit) (Name := ℕ) (U := Pipeline.UD sig nD τ) (Lvl := ℕ) (Val := Elt F) spec1 c : sProp 𝕄)
    ⊣⊢ iprop(others c ∗ any c cc1_scratch0 ∗ any c cc1_scratch1 ∗ any c cc1_scratch2 ∗ any c cc1_scratch3 ∗ any c cc1_scratch4) := by
  rw [scopedRest1_eq]
  show iprop(any c cc0_stg0_0 ∗ any c cc0_stg0_1 ∗ any c cc0_stg1_0 ∗ any c cc0_stg1_1 ∗ any c cc0_stg2_0 ∗ any c cc0_stg3_0 ∗ any c cc0_stg3_1 ∗ any c cc0_stg4_0 ∗ any c cc0_stg4_1 ∗ any c cc1_scratch1 ∗ any c cc1_scratch2 ∗ any c cc1_scratch3 ∗ any c cc1_scratch4 ∗ any c cc2_stg0_0 ∗ any c cc2_stg0_1 ∗ any c cc2_stg1_0 ∗ any c cc2_stg1_1 ∗ any c cc2_stg2_0 ∗ any c cc2_stg2_1 ∗ any c cc1_scratch0) ⊣⊢ _
  unfold others
  constructor
  · iintro ⟨A0, A1, A2, A3, A4, A5, A6, A7, A8, A9, A10, A11, A12, A13, A14, A15, A16, A17, A18, A19⟩
    isplitl [A0 A1 A2 A3 A4 A5 A6 A7 A8 A13 A14 A15 A16 A17 A18]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A13]; · iexact A13
      isplitl [A14]; · iexact A14
      isplitl [A15]; · iexact A15
      isplitl [A16]; · iexact A16
      isplitl [A17]; · iexact A17
      iexact A18
    isplitl [A19]; · iexact A19
    isplitl [A9]; · iexact A9
    isplitl [A10]; · iexact A10
    isplitl [A11]; · iexact A11
    iexact A12
  · iintro ⟨⟨A0, A1, A2, A3, A4, A5, A6, A7, A8, A13, A14, A15, A16, A17, A18⟩, A19, A9, A10, A11, A12⟩
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    iexact A19

theorem any_sat (b : Ref sig .tc) : (any (F := F) c b : sProp 𝕄) ⊢ ownsSat (c : Thread nD τ) (Memref.whole b) fullShare (fun _ => True) := by
  unfold any
  show (_ : sProp 𝕄) ⊢ _
  iintro ⟨%f, H⟩
  iapply (ownsSat_intro (c : Thread nD τ) (Memref.whole b) fullShare (X := f) trivial)
  rw [owns_whole]
  iexact H

theorem sat_any (b : Ref sig .tc) (Φ : (b.ty.shape.Idx → Elt F b.ty.elt) → Prop) :
    (ownsSat (c : Thread nD τ) (Memref.whole b) fullShare Φ : sProp 𝕄) ⊢ any (F := F) c b := by
  refine (ownsSat_elim (c : Thread nD τ) (Memref.whole b) fullShare Φ).trans ?_
  unfold any
  show (_ : sProp 𝕄) ⊢ _
  iintro ⟨%f, -, H⟩
  iexists f
  rw [← owns_whole]
  iexact H

/-- The permutation, the packed words, their last rows and the scales at the region's entry. -/
abbrev pV : S4096.Idx → BitVec 32 := V c main_arg3
abbrev qV : S545x11008.Idx → Elt F .i32 := V c main_arg4
abbrev tV : S8x11008.Idx → Elt F .i32 := V c main_v5
abbrev sV : S128x11008.Idx → Elt F .bf16 := V c main_arg5

/-- The permutation is one. -/
structure Perm (X : S4096.Idx → BitVec 32) : Prop where
  lt : ∀ r, r < 4096 → (X (ix r)).toNat < 4096
  inj : ∀ r, r < 4096 → ∀ r', r' < 4096 → (X (ix r)).toNat = (X (ix r')).toNat → r = r'
  sur : ∀ p, p < 4096 → ∃ r, r < 4096 ∧ (X (ix r)).toNat = p

/-- The decoding's counter. -/
abbrev osem1 : Fin 1 → SemLoc sig := fun j => (![SemLoc.dma cc1_scratch5.sem] : Fin 1 → SemLoc sig) j
theorem ownSemFacts1 : Pipeline.OwnSemFacts spec1 osem1 := by decide
/-- The arrays that its body copies from. -/
abbrev H1 : Finset (Ref sig .tc) := {main_arg4, main_v5, main_arg5}

/-- What rides through the decoding's region: after the first point the table is written. -/
def Phi1 (k : ℕ) : sProp 𝕄 :=
  iprop(others c ∗ (∃ r, prngReg c r)
    ∗ (owns (c : Thread nD τ) (Memref.whole main_arg4) fullShare (qV V c) ∗ owns (c : Thread nD τ) (Memref.whole main_v5) fullShare (tV V c)
        ∗ owns (c : Thread nD τ) (Memref.whole main_arg5) fullShare (sV V c))
    ∗ ownsSat (c : Thread nD τ) (Memref.whole cc1_scratch0) fullShare (fun (Tb : S4096.Idx → BitVec 32) => k ≠ 0 → Agree (pV V c) entry 4096 Tb)
    ∗ ownsSat (c : Thread nD τ) (Memref.whole cc1_scratch1) fullShare (fun _ => True) ∗ ownsSat (c : Thread nD τ) (Memref.whole cc1_scratch2) fullShare (fun _ => True)
    ∗ ownsSat (c : Thread nD τ) (Memref.whole cc1_scratch3) fullShare (fun _ => True) ∗ ownsSat (c : Thread nD τ) (Memref.whole cc1_scratch4) fullShare (fun _ => True)
    ∗ semVal ((c : Thread nD τ), SemLoc.dma cc1_scratch5.sem) 0)

/-- A block of the weight matrix, a filler past the array's edge. -/
def blk1 (t : Fin cfg1.N) : S4096x1024.Idx → Elt F .bf16 := fun y =>
  if 1024 * t.val + (y 1).val < 11008 then wAt (pV V c) (qV V c) (tV V c) (sV V c) (y 0).val (1024 * t.val + (y 1).val) else Scalar.ofBits .bf16 0#16

/-- The permutation, in its staging buffer. -/
def pb1 (t : Fin cfg1.N) : S4096.Idx → BitVec 32 := (win1_0.blk t).view.read (Elt F) (V c main_arg3)

/-- The proof data of the decoding's region. -/
def dat1 : Dat τ (Elt F) Unit ℕ (Pipeline.UD sig nD τ) ℕ cfg1 c where
  A w := V c (Proc.devRef .tc (Pipeline.arrRef spec1 w))
  after w t := match w with
    | ⟨0, _⟩ => pb1 V c t
    | ⟨1, _⟩ => blk1 V c t
  Φ k := Phi1 V c k.val
  q _ := fullShare
  owed _ := 0

theorem coords1 : ∀ t : Fin cfg1.N, (grid1.coords t 0).val = t.val := by decide +kernel
theorem cond1 : ∀ t : Fin cfg1.N, k1_cond1 (grid1.coords t) ≠ 1#1 → t.val ≠ 0 := by decide +kernel
theorem xsize1 : ∀ t : Fin cfg1.N, 1024 * t.val + win1_1.xsize (grid1.coords t) 1 ≤ 11008 := by decide +kernel

theorem before1_0 (t : Fin cfg1.N) (d) : (dat1 V c).before 0 t d = pb1 V c t :=
  ((dat1 V c).before_in_eq_fetched 0 rfl (fun _ => rfl) (fun _ _ _ => rfl) (fun _ => rfl) t d).trans rfl

theorem defs₀_row1 (t : Fin cfg1.N) : defs₀ (F := F) .tc cfg1.body (cfg1.bodyArgs t (cfg1.slots t)) = bodyAt1 t := by
  unfold defs₀; rw [Defs.onTc_tc]

theorem i10p : ∀ t : Fin cfg1.N, win1_0.index t = ![0] := by decide +kernel

theorem pb1_eq (t : Fin cfg1.N) : pb1 V c t = pV V c := by
  funext y
  unfold pb1
  blk_simp
  congr 1
  blk_ext [i10p]

/-- A block that holds the weight matrix inside the array is its block there. -/
theorem cut_blk1 (t : Fin cfg1.N) {X5 : S4096x1024.Idx → Elt F .bf16} (h : BlkOk t.val (pV V c) (qV V c) (tV V c) (sV V c) X5) :
    (cfg1.win (1 : Fin 2)).cut (cfg1.grid.coords t) X5 = (cfg1.win (1 : Fin 2)).cut (cfg1.grid.coords t) ((dat1 V c).after 1 t) := by
  funext y
  show X5 (win1_1.xinj (grid1.coords t) y) = blk1 V c t (win1_1.xinj (grid1.coords t) y)
  have hy : 1024 * t.val + (win1_1.xinj (grid1.coords t) y 1).val < 11008 := by
    have h1 := xsize1 t
    have h2 : (y 1).val < win1_1.xsize (grid1.coords t) 1 := (y 1).isLt
    show 1024 * t.val + (y 1).val < 11008
    omega
  unfold blk1
  rw [if_pos hy]
  exact h _ hy

/-- The decoding's body at a point of its region; -/
theorem row1 (hp : Perm (pV V c)) (t : Fin cfg1.N) :
    iprop(Phi1 V c t.val ∗ (dat1 V c).owesAt () t.castSucc ∗ (∃ d, owns (c : Thread nD τ) (st1_0 t) fullShare ((dat1 V c).before 0 t d))
        ∗ (∃ d, owns (c : Thread nD τ) (st1_1 t) fullShare ((dat1 V c).before 1 t d)))
      ⊢ wp frame (wpE (defs₀ (F := F)) 𝒱₀ c none) Set.univ (bodyAt1 t) fun _ =>
        iprop(Phi1 V c (t.val + 1) ∗ (dat1 V c).owesAt () t.succ ∗ owns (c : Thread nD τ) (st1_0 t) fullShare (pb1 V c t)
        ∗ (∃ d, owns (c : Thread nD τ) (st1_1 t) fullShare ((cfg1.win (1 : Fin 2)).fill (cfg1.grid.coords t) d ((cfg1.win (1 : Fin 2)).cut (cfg1.grid.coords t) ((dat1 V c).after 1 t))))) := by
  have hT : (grid1.coords t 0).val < 11 := by
    rw [coords1]; exact lt_of_lt_of_eq t.isLt N_1
  have hin : (iprop(Phi1 V c t.val ∗ (dat1 V c).owesAt () t.castSucc ∗ (∃ d, owns (c : Thread nD τ) (st1_0 t) fullShare ((dat1 V c).before 0 t d))
        ∗ (∃ d, owns (c : Thread nD τ) (st1_1 t) fullShare ((dat1 V c).before 1 t d))) : sProp 𝕄)
      ⊢ iprop(takes c fullShare (grid1.coords t) (st1_0 t) (Memref.whole main_arg4) (Memref.whole main_v5) (Memref.whole main_arg5) (st1_1 t)
        (Memref.whole cc1_scratch0) (Memref.whole cc1_scratch1) (Memref.whole cc1_scratch2) (Memref.whole cc1_scratch3) (Memref.whole cc1_scratch4) cc1_scratch5
        (pV V c) (qV V c) (tV V c) (sV V c) ∗ (others c ∗ ∃ r, prngReg c r)) := by
    simp only [before1_0, pb1_eq]
    unfold Phi1 Dat.owesAt Pipeline.owesWithin takes
    iintro ⟨⟨HX, HP, HH, H6, H7, H8, H9, H10, HS⟩, ⟨%W, %hW, HO⟩, ⟨%d0, H0⟩, ⟨%d1, H1⟩⟩
    isplitr [HX HP]
    · isplitl [H0]; · iexact H0
      isplitl [HH]; · iexact HH
      isplitl [H1]
      · iapply (ownsSat_intro (c : Thread nD τ) (st1_1 t) fullShare (X := (dat1 V c).before 1 t d1) trivial)
        iexact H1
      isplitl [H6]
      · iapply (ownsSat_mono (c : Thread nD τ) (Memref.whole cc1_scratch0) fullShare (Φ := fun (Tb : S4096.Idx → BitVec 32) => t.val ≠ 0 → Agree (pV V c) entry 4096 Tb)
          (Ψ := fun (Tb : S4096.Idx → BitVec 32) => k1_cond1 (grid1.coords t) ≠ 1#1 → Agree (pV V c) entry 4096 Tb) fun X h hc => h (cond1 t hc))
        iexact H6
      isplitl [H7]; · iexact H7
      isplitl [H8]; · iexact H8
      isplitl [H9]; · iexact H9
      isplitl [H10]; · iexact H10
      isplitl [HS]; · iexact HS
      iexists W; iexact HO
    · isplitl [HX]; · iexact HX
      iexact HP
  rw [pb1_eq]
  refine hin.trans ((BI.sep_mono_l (wp_dequant c fullShare _ _ _ _ _ _ _ _ _ _ _ _ _ _ _ _ _ _ _ _ _ _ _ _ _ _ hT hp.lt hp.inj hp.sur)).trans
    ((wp_frame_r frame _ Set.univ).trans (wp_mono frame _ Set.univ fun _ => ?_)))
  unfold Phi1 Dat.owesAt Pipeline.owesWithin leaves
  iintro ⟨⟨H0, HH, H5, H6, H7, H8, H9, H10, HS, ⟨%W, HO⟩⟩, HX, HP⟩
  isplitr [H0 H5 HO]
  · isplitl [HX]; · iexact HX
    isplitl [HP]; · iexact HP
    isplitl [HH]; · iexact HH
    isplitl [H6]
    · iapply (ownsSat_mono (c : Thread nD τ) (Memref.whole cc1_scratch0) fullShare (Φ := Agree (pV V c) entry 4096)
        (Ψ := fun (Tb : S4096.Idx → BitVec 32) => t.val + 1 ≠ 0 → Agree (pV V c) entry 4096 Tb) fun X h _ => h)
      iexact H6
    isplitl [H7]; · iexact H7
    isplitl [H8]; · iexact H8
    isplitl [H9]; · iexact H9
    isplitl [H10]; · iexact H10
    iexact HS
  isplitl [HO]
  · iexists W
    isplitr; · ipureintro; exact fun _ _ => Or.inl trivial
    iexact HO
  isplitl [H0]; · iexact H0
  ihave H5 := (ownsSat_elim (c : Thread nD τ) (st1_1 t) fullShare (BlkOk (grid1.coords t 0).val (pV V c) (qV V c) (tV V c) (sV V c))) $$ H5
  icases H5 with ⟨%X5, %h5, H5⟩
  rw [coords1] at h5
  iexists X5
  rw [← cut_blk1 V c t h5, Window.fill_cut]
  iexact H5

/-- so the region keeps its proof data. -/
theorem body1 (hp : Perm (pV V c)) : BodyObligationLoose (dat1 V c) (defs₀ (F := F)) 𝒱₀ () Set.univ (fun _ => false) := fun t => by
  rw [bigSep_W1, bigSep_W1, defs₀_row1]
  exact triple_restated (row1 V c hp t) rfl .rfl fun _ => .rfl

end Cert.Proof

end
-- ==== Proof.Run.lean ====
/-
  The run of the whole program, at any float values: @main is a line of reshapes, the normalisation's region, two
  operations on the packed words, the decoding's region, the product's region, and a line of reshapes. From any memory with zero counters in which
  the permutation is one every weakly fair execution terminates, nothing faults,
  every final state holds the arguments as launched and every counter at zero; the second result holds the normalisation's
  first array, and the first result, when the product's contents are named, the product's array, each reshaped.
-/
module

public import proofs.«01_k».proof.Proof.Decode
public import proofs.«01_k».proof.Proof.Gen.Kernel.Regions
public import Idealize.ShloMosaic.Lib.Pipeline.RegionArraysF
public import Idealize.ShloMosaic.Lib.Pipeline.RegionsOwned

@[expose] public section

noncomputable section

namespace Cert.Proof

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose HostSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers between items -/

/-- After the first reshapes; -/
abbrev W1 : Vals F := fun c => V1 m c
/-- what the normalisation leaves in its results' arrays, -/
def hArr (c : Dev nD) : Buf (Elt F) ((c : Thread nD τ).loc main_v3_0) := (dat0 (W1 m) c).arrAt 3 cfg0.N
def nArr (c : Dev nD) : Buf (Elt F) ((c : Thread nD τ).loc main_v3_1) := (dat0 (W1 m) c).arrAt 4 cfg0.N
/-- the buffers after it; -/
def W2 : Vals F := fun c => Function.update (Function.update (W1 m c) main_v3_0 (hArr m c)) main_v3_1 (nArr m c)
theorem W2_v3_1 (c : Dev nD) : W2 m c main_v3_1 = nArr m c := Function.update_self ..
theorem W2_v3_0 (c : Dev nD) : W2 m c main_v3_0 = hArr m c := by
  unfold W2; rw [Function.update_of_ne (StableHlo.devRef_ne_of_ne (by decide))]; exact Function.update_self ..
theorem W2_of (c : Dev nD) (r : Ref sig .tc) (h0 : r ≠ main_v3_0) (h1 : r ≠ main_v3_1) : W2 m c r = W1 m c r := by
  unfold W2; rw [Function.update_of_ne (StableHlo.devRef_ne_of_ne h1), Function.update_of_ne (StableHlo.devRef_ne_of_ne h0)]

/-- the buffers after the last row of the packed words is cut out and padded; -/
abbrev W2' : Vals F := fun c => StableHlo.after hostOps1 (W2 m c)
abbrev W3 : Vals F := fun c => StableHlo.after hostOps1_1 (W2' m c)
/-- what the decoding leaves in its result's array, -/
def wArr (c : Dev nD) : Buf (Elt F) ((c : Thread nD τ).loc main_v6) := (dat1 (W3 m) c).arrAt 1 cfg1.N
/-- the buffers after it; -/
def W4 : Vals F := fun c => Function.update (W3 m c) main_v6 (wArr m c)
/-- what the product leaves in its result's array, where named. -/
def yArr (c : Dev nD) : Buf (Elt F) ((c : Thread nD τ).loc main_v7) := (dat2 (W4 m) c).arrAt 2 cfg2.N

theorem W3_of (c : Dev nD) (r : Ref sig .tc) (h1 : r ∉ hostOps1_W) (h2 : r ∉ hostOps1_1_W) : W3 m c r = W2 m c r :=
  (StableHlo.after_of_writes_sub hostOps1_1 _ hostOps1_1_writes h2).trans (StableHlo.after_of_writes_sub hostOps1 _ hostOps1_writes h1)
theorem W4_v6 (c : Dev nD) : W4 m c main_v6 = wArr m c := Function.update_self ..
theorem W4_of (c : Dev nD) (r : Ref sig .tc) (h : r ≠ main_v6) : W4 m c r = W3 m c r := by
  unfold W4; rw [Function.update_of_ne (StableHlo.devRef_ne_of_ne h)]
theorem W3_arg (c : Dev nD) (r : Ref sig .tc) (h1 : r ∉ hostOps1_W) (h2 : r ∉ hostOps1_1_W) (h30 : r ≠ main_v3_0) (h31 : r ≠ main_v3_1)
    (h0 : r ∉ hostOps0_W) : W3 m c r = m ((c : Thread nD τ).loc r) :=
  (W3_of m c r h1 h2).trans <| (W2_of m c r h30 h31).trans <| (V1_of m c r h0).trans rfl

/-! ## The regions' records -/

/-- The three regions' proof data. -/
def pdats : (p : Fin 3) → (c : Dev nD) → Dat τ (Elt F) Unit ℕ (Pipeline.UD sig nD τ) ℕ (cfgs p) c
  | ⟨0, _⟩ => fun c => dat0 (W1 m) c
  | ⟨1, _⟩ => fun c => dat1 (W3 m) c
  | ⟨2, _⟩ => fun c => dat2 (W4 m) c
  | ⟨_ + 3, h⟩ => absurd h (Nat.not_lt.2 (Nat.le_add_left _ _))

/-- The windows at unnamed contents. -/
def fg (b : Bool) : (p : Fin 3) → Fin (cfgs p).W → Bool
  | ⟨0, _⟩ => fun _ => false
  | ⟨1, _⟩ => fun _ => false
  | ⟨2, _⟩ => fgt2 b
  | ⟨_ + 3, h⟩ => absurd h (Nat.not_lt.2 (Nat.le_add_left _ _))

/-- Every semaphore cell of a TensorCore carries the one name, at level zero; no core owes another anything. -/
abbrev L : GSem nD τ sig → Finset Unit := fun g => if g.1.2 = .tc then {()} else ∅
abbrev lv : GSem nD τ sig → Unit → ℕ := fun _ _ => 0

theorem cut (p : Fin 3) : Pipeline.LevelCut (pcfgs (F := F)) adm () L lv p (fun _ => 0) (fun _ => 0) :=
  ⟨fun _ _ _ => by simp [L], fun _ _ _ => Nat.le_refl _, fun _ _ _ h => absurd h (Nat.lt_irrefl _)⟩

theorem mayWaits (c : Dev nD) : (levAts L lv : sProp 𝕄) ⊢ Transfers.MayWaits (c : Thread nD τ) () 0 :=
  Transfers.MayWaits.intro fun sm => by
    rw [MayWait_zero]; iintro -; iempintro

/-- The region's own semaphores: none. -/
abbrev osem : PEmpty → SemLoc sig := fun k => k.elim

/-- The buffers no window of region `p` stages. -/
abbrev rest (p : Fin 3) : Finset (DevRef τ sig) := Pipeline.ucRefs τ sig \ Pipeline.arrRefs (pcfgs (F := F) p).spec

/-- What rides beside the buffers. -/
abbrev R (c : Dev nD) : sProp 𝕄 := iprop((∃ r, prngReg c r) ∗ ∃ W, owes (c : Thread nD τ) (0 : CellTallies nD τ sig Unit) W)

theorem hbm_empty : Pipeline.hbmRefs (τ := τ) (∅ : Finset (Ref sig .tc)) = ∅ := Finset.map_empty _

/-- An array window's buffer is one of the region's arrays, the others are not. -/
theorem ne_of_rest (p : Fin 3) (w : Fin (pcfgs (F := F) p).W) {d : DevRef τ sig} (hd : d ∈ rest (F := F) p) :
    d ≠ Proc.devRef .tc (Pipeline.arrRef (pcfgs (F := F) p).spec w) := by
  rintro rfl
  exact (Finset.mem_sdiff.mp hd).2 (Finset.mem_map.mpr ⟨_, Finset.mem_image.mpr ⟨w, Finset.mem_univ _, rfl⟩, rfl⟩)

theorem out0 (c : Dev nD) (w : Fin 5) : (dat0 (W1 m) c).arrAt w cfg0.N = W2 m c (Proc.devRef .tc (Pipeline.arrRef spec0 w)) := by
  match w with
  | ⟨0, _⟩ => exact ((dat0 (W1 m) c).arrAt_in 0 rfl _).trans (W2_of m c main_v0 (by decide) (by decide)).symm
  | ⟨1, _⟩ => exact ((dat0 (W1 m) c).arrAt_in 1 rfl _).trans (W2_of m c main_v1 (by decide) (by decide)).symm
  | ⟨2, _⟩ => exact ((dat0 (W1 m) c).arrAt_in 2 rfl _).trans (W2_of m c main_v2 (by decide) (by decide)).symm
  | ⟨3, _⟩ => exact (W2_v3_0 m c).symm
  | ⟨4, _⟩ => exact (W2_v3_1 m c).symm

/-- The normalisation's record. -/
def reg0 (b : Bool) : RDat.RegionSeg (pcfgs (F := F)) adm (Pipeline.toRsF (pcfgs (F := F)) adm (pdats m) (fg b)) () defs₀ 𝒱₀ L lv 0 :=
  RDat.RegionSeg.ofHeldF (pcfgs (F := F)) adm (pdats m) () defs₀ 𝒱₀ L lv 0 (fun _ => 0) (fg b) () osem (Pipeline.OwnSemFacts.none _)
    ∅ ∅ (rest (F := F) 0) (by rw [hbm_empty]; exact Finset.empty_subset _) (by rw [hbm_empty]; exact Finset.empty_subset _) launch0.toP rfl
    (fun c => body0 (W1 m) c) (fun _ _ => rfl) (fun _ => rfl) (fun c => (pdats m 0 c).share_full fun _ => rfl)
    (fun c => mayWaits c) (W1 m) (fun c _ _ => W2 m c)
    (fun c A _ hA w => (hA w rfl).trans (out0 m c w))
    (fun _ _ _ b hb => absurd hb (Finset.notMem_empty b))
    (fun c A g d hd => by
      have hd' := (Finset.mem_sdiff.mp (Finset.mem_sdiff.mp hd).1).1
      show W2 m c d = W1 m c d
      have h3 : d ≠ Proc.devRef .tc main_v3_0 := ne_of_rest (F := F) 0 (3 : Fin 5) hd'
      have h4 : d ≠ Proc.devRef .tc main_v3_1 := ne_of_rest (F := F) 0 (4 : Fin 5) hd'
      unfold W2
      rw [Function.update_of_ne h4, Function.update_of_ne h3])
    (fun _ _ _ d hd => by rw [hbm_empty] at hd; exact absurd hd (Finset.notMem_empty d))
    (fun c => by
      show _ ⊢ Phi0 c
      unfold Phi0
      iintro ⟨Hr, Hp, -, -, -, -⟩
      isplitl [Hr]; · iexact Hr
      iexact Hp)
    (fun c => by
      show Phi0 c ⊢ _
      unfold Phi0
      rw [Pipeline.ownSems0_none, BI.bigSep_empty, BI.bigSep_empty]
      iintro ⟨Hr, Hp⟩
      isplitl [Hr]; · iexact Hr
      isplitl [Hp]; · iexact Hp
      isplitr; · iempintro
      isplitr <;> iempintro)
    (fun _ => 0) (cut 0) (fun _ => iprop(emp)) (fun c w => rfl)

theorem out1 (c : Dev nD) (w : Fin 2) : (dat1 (W3 m) c).arrAt w cfg1.N = W4 m c (Proc.devRef .tc (Pipeline.arrRef spec1 w)) := by
  match w with
  | ⟨0, _⟩ => exact ((dat1 (W3 m) c).arrAt_in 0 rfl _).trans (W4_of m c main_arg3 (by decide)).symm
  | ⟨1, _⟩ => exact (W4_v6 m c).symm

theorem own1 (c : Dev nD) : (Pipeline.ownSems0 osem1 c : sProp 𝕄) = semVal ((c : Thread nD τ), SemLoc.dma cc1_scratch5.sem) 0 := by
  rw [Pipeline.ownSems0_eq_of_list c osem1 [0] (by decide) (by decide)]; rfl

theorem held1 (c : Dev nD) : (bigSep H1 (fun b => ((c : Thread nD τ).loc b) ↦{fullShare} W3 m c b) : sProp 𝕄)
    = iprop(owns (c : Thread nD τ) (Memref.whole main_arg4) fullShare (qV (W3 m) c) ∗ owns (c : Thread nD τ) (Memref.whole main_v5) fullShare (tV (W3 m) c)
        ∗ owns (c : Thread nD τ) (Memref.whole main_arg5) fullShare (sV (W3 m) c)) := by
  rw [BI.bigSep_eq_bigSepL_of_eq [main_arg4, main_v5, main_arg5] (by decide) (by decide), owns_whole, owns_whole, owns_whole]; rfl

theorem hbm_sub1 : Pipeline.hbmRefs (τ := τ) H1 ⊆ rest (F := F) 1 :=
  show Pipeline.hbmRefs (τ := τ) H1 ⊆ Pipeline.ucRefs τ sig \ Pipeline.arrRefs spec1 from by decide

theorem perm1 (hP : ∀ c : Dev nD, Perm (m ((c : Thread nD τ).loc main_arg3))) (c : Dev nD) : Perm (pV (W3 m) c) := by
  show Perm (W3 m c main_arg3)
  rw [W3_arg m c main_arg3 (by decide) (by decide) (by decide) (by decide) (by decide)]
  exact hP c

/-- The decoding's record, if the permutation is one. -/
def reg1 (b : Bool) (hP : ∀ c : Dev nD, Perm (m ((c : Thread nD τ).loc main_arg3))) :
    RDat.RegionSeg (pcfgs (F := F)) adm (Pipeline.toRsF (pcfgs (F := F)) adm (pdats m) (fg b)) () defs₀ 𝒱₀ L lv 1 :=
  RDat.RegionSeg.ofHeldF (pcfgs (F := F)) adm (pdats m) () defs₀ 𝒱₀ L lv 1 (fun _ => 0) (fg b) () osem1 ownSemFacts1
    H1 ∅ (rest (F := F) 1) hbm_sub1 (by rw [hbm_empty]; exact Finset.empty_subset _) launch1.toP rfl
    (fun c => body1 (W3 m) c (perm1 m hP c)) (fun _ _ => rfl) (fun _ => rfl) (fun c => (pdats m 1 c).share_full fun _ => rfl)
    (fun c => mayWaits c) (W3 m) (fun c _ _ => W4 m c)
    (fun c A _ hA w => (hA w rfl).trans (out1 m c w))
    (fun _ _ _ b hb => absurd hb (Finset.notMem_empty b))
    (fun c A g d hd => by
      have hd' := (Finset.mem_sdiff.mp (Finset.mem_sdiff.mp hd).1).1
      show W4 m c d = W3 m c d
      unfold W4
      exact Function.update_of_ne (ne_of_rest (F := F) 1 (1 : Fin 2) hd') ..)
    (fun c A g d hd => by
      show W4 m c d = W3 m c d
      unfold W4
      exact Function.update_of_ne (by rintro rfl; exact absurd hd (by decide)) ..)
    (fun c => by
      show _ ⊢ Phi1 (W3 m) c 0
      unfold Phi1
      iintro ⟨Hr, Hp, HS, HH, -, -⟩
      ihave Hr := (rest1_split (F := F) c).1 $$ Hr
      icases Hr with ⟨HX, H6, H7, H8, H9, H10⟩
      isplitl [HX]; · iexact HX
      isplitl [Hp]; · iexact Hp
      isplitl [HH]; · rw [← held1]; iexact HH
      isplitl [H6]
      · iapply (ownsSat_mono (c : Thread nD τ) (Memref.whole cc1_scratch0) fullShare (Φ := fun (_ : S4096.Idx → BitVec 32) => True)
          (Ψ := fun (Tb : S4096.Idx → BitVec 32) => 0 ≠ 0 → Agree (pV (W3 m) c) entry 4096 Tb) fun X _ h => absurd rfl h)
        iapply (any_sat (F := F) c cc1_scratch0); iexact H6
      isplitl [H7]; · iapply (any_sat (F := F) c cc1_scratch1); iexact H7
      isplitl [H8]; · iapply (any_sat (F := F) c cc1_scratch2); iexact H8
      isplitl [H9]; · iapply (any_sat (F := F) c cc1_scratch3); iexact H9
      isplitl [H10]; · iapply (any_sat (F := F) c cc1_scratch4); iexact H10
      rw [← own1]; iexact HS)
    (fun c => by
      show Phi1 (W3 m) c cfg1.N ⊢ _
      unfold Phi1
      rw [BI.bigSep_empty, ← held1, ← own1]
      iintro ⟨HX, Hp, HH, H6, H7, H8, H9, H10, HS⟩
      isplitl [HX H6 H7 H8 H9 H10]
      · iapply (rest1_split (F := F) c).2
        isplitl [HX]; · iexact HX
        isplitl [H6]; · iapply (sat_any (F := F) c cc1_scratch0 _); iexact H6
        isplitl [H7]; · iapply (sat_any (F := F) c cc1_scratch1 _); iexact H7
        isplitl [H8]; · iapply (sat_any (F := F) c cc1_scratch2 _); iexact H8
        isplitl [H9]; · iapply (sat_any (F := F) c cc1_scratch3 _); iexact H9
        iapply (sat_any (F := F) c cc1_scratch4 _); iexact H10
      isplitl [Hp]; · iexact Hp
      isplitl [HS]; · iexact HS
      isplitl [HH]; · iexact HH
      iempintro)
    (fun _ => 0) (cut 1) (fun _ => iprop(emp)) (fun c w => rfl)

/-- The result's contents after the product: what the region leaves if unnamed, the named array otherwise. -/
abbrev yOf (b : Bool) (c : Dev nD) (A : Buf (Elt F) ((c : Thread nD τ).loc main_v7)) : Buf (Elt F) ((c : Thread nD τ).loc main_v7) :=
  match b with | true => A | false => yArr m c
abbrev W5 (b : Bool) (c : Dev nD) (A : Buf (Elt F) ((c : Thread nD τ).loc main_v7)) : Valuation τ sig (Elt F) :=
  Function.update (W4 m c) main_v7 (yOf m b c A)

theorem W5_of (b : Bool) (c : Dev nD) (A) (r : Ref sig .tc) (h : r ≠ main_v7) : W5 m b c A r = W4 m c r :=
  Function.update_of_ne (StableHlo.devRef_ne_of_ne h) ..

theorem out2 (b : Bool) (c : Dev nD) (A : (w : Fin cfg2.W) → Buf (Elt F) ((cfg2.win w).arr.view.loc (c : Thread nD τ)))
    (hA : ∀ w, fgt2 b w = false → A w = (dat2 (W4 m) c).arrAt w cfg2.N) (w : Fin 3) :
    A w = W5 m b c (A 2) (Proc.devRef .tc (Pipeline.arrRef spec2 w)) := by
  match w with
  | ⟨0, _⟩ => exact (hA 0 rfl).trans (((dat2 (W4 m) c).arrAt_in 0 rfl _).trans (W5_of m b c _ main_v3_1 (by decide)).symm)
  | ⟨1, _⟩ => exact (hA 1 rfl).trans (((dat2 (W4 m) c).arrAt_in 1 rfl _).trans (W5_of m b c _ main_v6 (by decide)).symm)
  | ⟨2, _⟩ =>
    refine Eq.trans ?_ (Function.update_self (Proc.devRef .tc main_v7) (yOf m b c (A 2)) (W4 m c)).symm
    cases b
    · exact hA 2 rfl
    · rfl

/-- The product's record, given its body's obligation. -/
def reg2 (b : Bool) (hb : ∀ c, BodyObligationLoose (dat2 (W4 m) c) (defs₀ (F := F)) 𝒱₀ () Set.univ (fgt2 b)) :
    RDat.RegionSeg (pcfgs (F := F)) adm (Pipeline.toRsF (pcfgs (F := F)) adm (pdats m) (fg b)) () defs₀ 𝒱₀ L lv 2 :=
  RDat.RegionSeg.ofHeldF (pcfgs (F := F)) adm (pdats m) () defs₀ 𝒱₀ L lv 2 (fun _ => 0) (fg b) () osem (Pipeline.OwnSemFacts.none _)
    ∅ ∅ (rest (F := F) 2) (by rw [hbm_empty]; exact Finset.empty_subset _) (by rw [hbm_empty]; exact Finset.empty_subset _) launch2.toP rfl
    hb (fun _ _ => rfl) (fun _ => rfl) (fun c => (pdats m 2 c).share_full fun _ => rfl)
    (fun c => mayWaits c) (W4 m) (fun c A _ => W5 m b c (A (2 : Fin 3)))
    (fun c A _ hA w => out2 m b c A hA w)
    (fun _ _ _ b hb => absurd hb (Finset.notMem_empty b))
    (fun c A g d hd => by
      have hd' := (Finset.mem_sdiff.mp (Finset.mem_sdiff.mp hd).1).1
      exact Function.update_of_ne (ne_of_rest (F := F) 2 (2 : Fin 3) hd') ..)
    (fun _ _ _ d hd => by rw [hbm_empty] at hd; exact absurd hd (Finset.notMem_empty d))
    (fun c => by
      show _ ⊢ Phi2 c
      unfold Phi2
      iintro ⟨Hr, Hp, -, -, -, -⟩
      isplitl [Hr]; · iexact Hr
      iexact Hp)
    (fun c => by
      show Phi2 c ⊢ _
      unfold Phi2
      rw [Pipeline.ownSems0_none, BI.bigSep_empty, BI.bigSep_empty]
      iintro ⟨Hr, Hp⟩
      isplitl [Hr]; · iexact Hr
      isplitl [Hp]; · iexact Hp
      isplitr; · iempintro
      isplitr <;> iempintro)
    (fun _ => 0) (cut 2) (fun _ => iprop(emp)) (fun c w => rfl)

/-! ## The launch -/

/-- The first reshapes, -/
def host0 : HostSeg (Ix := Unit) (Name := ℕ) (U := Pipeline.UD sig nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
/-- the two operations before the decoding, -/
def host1 : HostSeg (Ix := Unit) (Name := ℕ) (U := Pipeline.UD sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R
def host1' : HostSeg (Ix := Unit) (Name := ℕ) (U := Pipeline.UD sig nD τ) (Lvl := ℕ) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (W2' m) R
/-- and the last. -/
def host3 (b : Bool) : HostSeg (Ix := Unit) (Name := ℕ) (U := Pipeline.UD sig nD τ) (Lvl := ℕ) (pcfgs (F := F)) defs₀ 𝒱₀ L lv :=
  HostSeg.ofOpsEx (Γ := fun c => Buf (Elt F) ((c : Thread nD τ).loc main_v7)) _ _ _ _ _ (Pipeline.ucRefs τ sig) hostOps3
    (fun op h => Pipeline.sub_ucRefs op ((List.forall_iff_forall_mem.mp hostOps3_sub) op h))
    (fun op h => (List.forall_iff_forall_mem.mp hostOps3_fresh) op h) (fun c A => W5 m b c A) R

/-- @main's items. -/
abbrev segs (b : Bool) (hP : ∀ c : Dev nD, Perm (m ((c : Thread nD τ).loc main_arg3))) (hb : ∀ c, BodyObligationLoose (dat2 (W4 m) c) (defs₀ (F := F)) 𝒱₀ () Set.univ (fgt2 b)) :
    List (RDat.Seg (pcfgs (F := F)) adm (Pipeline.toRsF (pcfgs (F := F)) adm (pdats m) (fg b)) () defs₀ 𝒱₀ L lv) :=
  [.host (host0 m), .region (reg0 m b), .host (host1 m), .host (host1' m), .region (reg1 m b hP), .region (reg2 m b hb), .host (host3 m b)]

theorem arr_sub (p : Fin 3) : Pipeline.arrRefs (pcfgs (F := F) p).spec ⊆ Pipeline.ucRefs τ sig :=
  Pipeline.arrRefs_sub_ucRefs _ (match p with | ⟨0, _⟩ => winFacts0.arr_unscoped | ⟨1, _⟩ => winFacts1.arr_unscoped | ⟨2, _⟩ => winFacts2.arr_unscoped)

theorem enter (p : Fin 3) (c : Dev nD) (V : Valuation τ sig (Elt F)) :
    iprop(StableHlo.held (c : Thread nD τ) (Pipeline.ucRefs τ sig) V ∗ R c)
      ⊢ (iprop(StableHlo.held (c : Thread nD τ) (Pipeline.arrRefs (pcfgs (F := F) p).spec) V ∗ (∃ r, prngReg c r)
        ∗ (StableHlo.held (c : Thread nD τ) (rest (F := F) p) V ∗ emp) ∗ ∃ Wd, owes (c : Thread nD τ) (0 : CellTallies nD τ sig Unit) Wd) : sProp 𝕄) := by
  rw [StableHlo.held_sub_split (c : Thread nD τ) (arr_sub (F := F) p) V]
  iintro ⟨⟨Ha, Hr⟩, Hp, HO⟩
  isplitl [Ha]; · iexact Ha
  isplitl [Hp]; · iexact Hp
  isplitl [Hr]
  · isplitl [Hr]; · iexact Hr
    iempintro
  iexact HO

theorem leave (p : Fin 3) (c : Dev nD) (V : Valuation τ sig (Elt F)) :
    (iprop(StableHlo.held (c : Thread nD τ) (Pipeline.arrRefs (pcfgs (F := F) p).spec) V ∗ (∃ r, prngReg c r)
        ∗ (StableHlo.held (c : Thread nD τ) (rest (F := F) p) V ∗ emp) ∗ ∃ Wd, owes (c : Thread nD τ) (0 : CellTallies nD τ sig Unit) Wd) : sProp 𝕄)
      ⊢ iprop(StableHlo.held (c : Thread nD τ) (Pipeline.ucRefs τ sig) V ∗ R c) := by
  rw [StableHlo.held_sub_split (c : Thread nD τ) (arr_sub (F := F) p) V]
  iintro ⟨Ha, Hp, ⟨Hr, -⟩, HO⟩
  isplitl [Ha Hr]
  · isplitl [Ha]; · iexact Ha
    iexact Hr
  isplitl [Hp]; · iexact Hp
  iexact HO

theorem chain_mid (b : Bool) (c : Dev nD) : (reg0 m b).post c ⊢ iprop(StableHlo.held (c : Thread nD τ) (Pipeline.ucRefs τ sig) (W2 m c) ∗ R c) := by
  show iprop(∃ A g, _) ⊢ _
  iintro ⟨%A, %g, H⟩
  iapply (leave 0 c (W2 m c)); iexact H

theorem chain_dec (b : Bool) (hP) (c : Dev nD) : (reg1 m b hP).post c ⊢ iprop(StableHlo.held (c : Thread nD τ) (Pipeline.ucRefs τ sig) (W4 m c) ∗ R c) := by
  show iprop(∃ A g, _) ⊢ _
  iintro ⟨%A, %g, H⟩
  iapply (leave 1 c (W4 m c)); iexact H

theorem chain_end (b : Bool) (hb) (c : Dev nD) : (reg2 m b hb).post c
    ⊢ iprop((∃ A, StableHlo.held (c : Thread nD τ) (Pipeline.ucRefs τ sig) (W5 m b c A)) ∗ R c) := by
  show iprop(∃ A g, _) ⊢ _
  iintro ⟨%A, %g, H⟩
  ihave H := (leave 2 c (W5 m b c (A (2 : Fin 3)))) $$ H
  icases H with ⟨Hh, HR⟩
  isplitl [Hh]; · iexists _; iexact Hh
  iexact HR

/-- The buffers at the end. -/
abbrev W6 (b : Bool) (c : Dev nD) (A : Buf (Elt F) ((c : Thread nD τ).loc main_v7)) : Valuation τ sig (Elt F) := StableHlo.after hostOps3 (W5 m b c A)

theorem W6_of (b : Bool) (c : Dev nD) (A) (r : Ref sig .tc) (h : r ∉ hostOps3_W) (h7 : r ≠ main_v7) (h6 : r ≠ main_v6)
    (h1 : r ∉ hostOps1_W) (h2 : r ∉ hostOps1_1_W) (h30 : r ≠ main_v3_0) (h31 : r ≠ main_v3_1)
    (h0 : r ∉ hostOps0_W) : W6 m b c A r = m ((c : Thread nD τ).loc r) :=
  (StableHlo.after_of_writes_sub hostOps3 _ hostOps3_writes h).trans <| (W5_of m b c A r h7).trans <| (W4_of m c r h6).trans <| W3_arg m c r h1 h2 h30 h31 h0

/-- The second result at the end, -/
def hRes (c : Dev nD) : Buf (Elt F) ((c : Thread nD τ).loc main_v9) := shapeCast S4x2048x4096 (hArr m c) shapeCasts_S8192x4096_S4x2048x4096
/-- the first. -/
def yRes (c : Dev nD) : Buf (Elt F) ((c : Thread nD τ).loc main_v8) := shapeCast S4x2048x11008 (yArr m c) shapeCasts_S8192x11008_S4x2048x11008

theorem W6_v6 (b : Bool) (c : Dev nD) (A) : W6 m b c A main_v9 = hRes m c := by
  unfold W6
  after_results
  rw [W5_of m b c A main_v3_0 (by decide), W4_of m c main_v3_0 (by decide), W3_of m c main_v3_0 (by decide) (by decide), W2_v3_0]
  rfl

theorem W6_v5 (c : Dev nD) (A) : W6 m false c A main_v8 = yRes m c := by
  unfold W6
  after_results
  rw [show W5 m false c A (Proc.devRef .tc main_v7) = yArr m c from Function.update_self ..]
  rfl

/-- What is known of the final memory on core `c`. -/
def Post (b : Bool) (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5))
  ∧ s.mem ((c.tc : Thread nD τ).loc main_v9) = hRes m c
  ∧ (b = false → s.mem ((c.tc : Thread nD τ).loc main_v8) = yRes m c)

-- `θ_run_regions_kit_dev_sems`'s implicit arguments are found by unifying its conclusion with this one, which takes unfolding
-- plain definitions in a metavariable's type
set_option backward.isDefEq.respectTransparency.types false in
/-- The run. -/
theorem run (b : Bool) (hP : ∀ c : Dev nD, Perm (m ((c : Thread nD τ).loc main_arg3))) (hb : ∀ c, BodyObligationLoose (dat2 (W4 m) c) (defs₀ (F := F)) 𝒱₀ () Set.univ (fgt2 b)) :
    θ_run defs (onTc (τ := τ) (main (F := F))) ⟨m, fun _ => 0, ρ⟩ (fun r => (∀ c : Dev nD, Post m b c r.2) ∧ r.2.sem = fun _ => 0) := by
  refine RDat.θ_run_regions_kit_dev_sems (pcfgs (F := F)) adm (Pipeline.toRsF (pcfgs (F := F)) adm (pdats m) (fg b)) () cellOf_inj embL defs₀ 𝒱₀ L lv m ρ main
    (fun _ => segs m b hP hb)
    (fun c Q => by
      rewrite [main_chain c, RDat.Seg.run_eq_chain,
        show (segs m b hP hb).map RDat.Seg.prog = [
          StableHlo.seq hostOps0,
          Prog.lift (.customCall (Pipeline.entry 0) ()),
          StableHlo.seq hostOps1,
          StableHlo.seq hostOps1_1,
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, RDat.Seg.pipes_host, RDat.Seg.pipes_region, RDat.Seg.pipes_nil]; decide) (fun _ => 0)
    (fun g hg => if_neg hg) (fun _ => iprop(emp)) (initOf (Pipeline.cells cfgs cellOf_inj) (Pipeline.launchToks cfgs cellOf_inj), 1)
    (by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(∃ A, StableHlo.held (c : Thread nD τ) (Pipeline.ucRefs τ sig) (W6 m b c A)))
    (hch := fun c => ⟨.rfl, enter 0 c (W1 m c), chain_mid m b c, .rfl, enter 1 c (W3 m c), (chain_dec m b hP c).trans (enter 2 c (W4 m c)), chain_end m b hb c, ?_⟩)
    (hinit := ?_) (QY := fun c s => Post m b c s)
    (hfin := fun c s' => ?_) (hQ := fun _ h hz => ⟨h, funext fun g => hz g (.inr (regions_no_unscoped g.2))⟩)
  · show iprop((∃ A, StableHlo.held (c : Thread nD τ) (Pipeline.ucRefs τ sig) (W6 m b c A)) ∗ R c) ⊢ _
    iintro ⟨Hh, -, HO⟩
    isplitl [Hh]; · iexact Hh
    iexact HO
  · refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := Pipeline.UD sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · iintro ⟨⟨%A, Hh⟩, HSI⟩
    unfold StableHlo.held
    ihave Hr := (pointsTo_read_all (Pipeline.ucRefs τ sig) (fun b => ((c : Thread nD τ).1, b)) (W6 m b c A) s') $$ [Hh HSI]
    · isplitl [Hh] <;> iassumption
    icases Hr with ⟨%h, HSI⟩
    imodintro
    isplitr
    · ipureintro
      have hr := fun (r : Ref sig .tc) (hs : ¬ r.isScoped) => h (Proc.devRef .tc r) (Finset.mem_filter.mpr ⟨StableHlo.devRef_mem_tcRefs r, hs⟩)
      refine ⟨⟨?_, ?_, ?_, ?_, ?_, ?_⟩, ?_, fun e => ?_⟩
      · exact (hr main_arg0 (by decide)).trans (W6_of m b c A main_arg0 (by decide) (by decide) (by decide) (by decide) (by decide) (by decide) (by decide) (by decide))
      · exact (hr main_arg1 (by decide)).trans (W6_of m b c A main_arg1 (by decide) (by decide) (by decide) (by decide) (by decide) (by decide) (by decide) (by decide))
      · exact (hr main_arg2 (by decide)).trans (W6_of m b c A main_arg2 (by decide) (by decide) (by decide) (by decide) (by decide) (by decide) (by decide) (by decide))
      · exact (hr main_arg3 (by decide)).trans (W6_of m b c A main_arg3 (by decide) (by decide) (by decide) (by decide) (by decide) (by decide) (by decide) (by decide))
      · exact (hr main_arg4 (by decide)).trans (W6_of m b c A main_arg4 (by decide) (by decide) (by decide) (by decide) (by decide) (by decide) (by decide) (by decide))
      · exact (hr main_arg5 (by decide)).trans (W6_of m b c A main_arg5 (by decide) (by decide) (by decide) (by decide) (by decide) (by decide) (by decide) (by decide))
      · exact (hr main_v9 (by decide)).trans (W6_v6 m b c A)
      · subst e; exact (hr main_v8 (by decide)).trans (W6_v5 m c A)
    · iexact HSI

end Cert.Proof

end
-- ==== Proof.Value.lean ====
/-
  What the three regions leave in their arrays at the ideal instance, element by element: the sum of the two inputs, that sum
  scaled by the reciprocal root of its row's mean square and by the gain, and the product's sums over the 4096 columns. An
  element of the product needs one column of its right operand only, so the last column block, cut at the array's edge, is no
  exception.
-/
module

public import proofs.«01_k».proof.Proof.Run
public import Idealize.ShloMosaic.Lib.Pipeline.ValueKit
public import Idealize.ShloMosaic.Lib.Pointwise

@[expose] public section

noncomputable section

namespace Cert.Proof
open Cert.Kernel Cert.Kernel.Gen

open Idealize.ShloMosaic Idealize.ShloMosaic.TcCoe
open Idealize.ShloMosaic.Pipeline (Dat Cfg Window BodyObligationLoose)

set_option maxRecDepth 16384

/-! ## Which block each point takes -/

theorem i00 : ∀ t : Fin cfg0.N, win0_0.index t = ![t.val, 0] := by decide +kernel
theorem i01 : ∀ t : Fin cfg0.N, win0_1.index t = ![t.val, 0] := by decide +kernel
theorem i02 : ∀ t : Fin cfg0.N, win0_2.index t = ![0, 0] := by decide +kernel
theorem i03 : ∀ t : Fin cfg0.N, win0_3.index t = ![t.val, 0] := by decide +kernel
theorem i04 : ∀ t : Fin cfg0.N, win0_4.index t = ![t.val, 0] := by decide +kernel
theorem i20 : ∀ t : Fin cfg2.N, win2_0.index t = ![t.val % 8, 0] := by decide +kernel
theorem i21 : ∀ t : Fin cfg2.N, win2_1.index t = ![0, t.val / 8] := by decide +kernel
theorem i22 : ∀ t : Fin cfg2.N, win2_2.index t = ![t.val % 8, t.val / 8] := by decide +kernel

theorem xs2 : ∀ t : Fin cfg2.N, win2_1.xsize (grid2.coords t) 0 = 4096 ∧ win2_1.xsize (grid2.coords t) 1 = win2_2.xsize (grid2.coords t) 1 := by decide +kernel

variable (V : Vals Ideal) (c : Dev nD)

/-- The column block inside the array's edge, whatever fills it out. -/
theorem wb2_apply (t : Fin cfg2.N) (d) (y : (win2_2.xblock (grid2.coords t)).Idx) (k : Fin 4096) :
    wb2 V c t d (ix2 k (win2_2.xinj (grid2.coords t) y 1)) = V c main_v6 (ix2 k ((win2_2.blk t).view.emb y 1)) := by
  unfold wb2 Window.fill
  rw [dif_pos]
  · unfold wx2
    blk_simp
    congr 1
    blk_ext [i21, i22]
  · rw [Window.moved_iff]
    intro a
    match a with
    | 0 => rw [(xs2 t).1]; exact k.isLt
    | 1 => rw [(xs2 t).2]; exact (y 1).isLt

/-! ## The payloads at an index -/

abbrev A8 : Type := Vec Ideal S8192x4096 .bf16

/-- The sum of the two inputs, the normalised rows, and the product, at an index. -/
def hVal (x r : A8) : A8 := fun j => x j + r j
def nVal (x r : A8) (g : Vec Ideal S1x4096 .f32) : A8 := fun j =>
  hVal x r j * Ideal.rsqrt (Ideal.div (∑ k : Fin 4096, hVal x r (ix2 (j 0) k) * hVal x r (ix2 (j 0) k))
              (Ideal.ofBits FTy.f32 1166016512#32) + Ideal.ofBits FTy.f32 897988541#32) * g (ix2 0 (j 1))
def yVal (n : A8) (w : Vec Ideal S4096x11008 .bf16) : Vec Ideal S8192x11008 .bf16 := fun j => ∑ k : Fin 4096, n (ix2 (j 0) k) * w (ix2 k (j 1))

theorem mm_apply (n : Vec Ideal S1024x4096 .bf16) (w : Vec Ideal S4096x1024 .bf16) (j : S1024x1024.Idx) :
   k2_pay1 (F := Ideal) n w j = ∑ k : Fin 4096, n (ix2 (j 0) k) * w (ix2 k (j 1)) := by
  pointwise [k2_pay1]

theorem h_apply (x r : Vec Ideal S256x4096 .bf16) (j : S256x4096.Idx) :
   k0_pay1 (F := Ideal) x r j = x j + r j := by
  pointwise [k0_pay1]

theorem n_apply (x r : Vec Ideal S256x4096 .bf16) (g : Vec Ideal S1x4096 .f32) (j : S256x4096.Idx) :
   k0_pay2 (F := Ideal) x r g j = (x j + r j) *
        Ideal.rsqrt (Ideal.div (∑ k : Fin 4096, (x (ix2 (j 0) k) + r (ix2 (j 0) k)) * (x (ix2 (j 0) k) + r (ix2 (j 0) k)))
              (Ideal.ofBits FTy.f32 1166016512#32) + Ideal.ofBits FTy.f32 897988541#32) * g (ix2 0 (j 1)) := by
  pointwise [k0_pay2, k0_pay1]

/-! ## The arrays -/

/-- What is written back of the product's block does not depend on what fills the column block out. -/
theorem hloc (t : Fin cfg2.N) (d) : (cfg2.win (2 : Fin 3)).cut (cfg2.grid.coords t) (k2_pay1 (nb2 V c t) (wb2 V c t d))
      = (cfg2.win (2 : Fin 3)).cut (cfg2.grid.coords t) ((dat2 V c).after 2 t) := by
  funext y
  show k2_pay1 (nb2 V c t) (wb2 V c t d) (win2_2.xinj (grid2.coords t) y) = k2_pay1 (nb2 V c t) (wb2 V c t junk) (win2_2.xinj (grid2.coords t) y)
  rw [mm_apply, mm_apply]
  simp only [wb2_apply]

theorem arr_y : (dat2 V c).arrAt 2 cfg2.N = yVal (V c main_v3_1) (V c main_v6) := by
  refine (dat2 V c).arrAt_eq_of_covers 2 _ (by decide +kernel) fun t hf y => ?_
  show k2_pay1 (nb2 V c t) (wb2 V c t junk) (win2_2.xinj (grid2.coords t) y) = _
  rw [mm_apply]
  simp only [wb2_apply]
  unfold yVal nb2
  blk_simp
  refine Finset.sum_congr rfl fun k _ => ?_
  congr 2
  blk_ext [i20, i22]

theorem i11 : ∀ t : Fin cfg1.N, win1_1.index t = ![0, t.val] := by decide +kernel

theorem arr_w : (dat1 V c).arrAt 1 cfg1.N = fun j => wAt (pV V c) (qV V c) (tV V c) (sV V c) (j 0).val (j 1).val := by
  refine (dat1 V c).arrAt_eq_of_covers 1 _ (by decide +kernel) fun t hf y => ?_
  show blk1 V c t (win1_1.xinj (grid1.coords t) y) = wAt (pV V c) (qV V c) (tV V c) (sV V c) ((win1_1.blk t).view.emb y 0).val ((win1_1.blk t).view.emb y 1).val
  have hy : 1024 * t.val + (win1_1.xinj (grid1.coords t) y 1).val < 11008 := by
    have h1 := xsize1 t
    have h2 : (y 1).val < win1_1.xsize (grid1.coords t) 1 := (y 1).isLt
    show 1024 * t.val + (y 1).val < 11008
    omega
  unfold blk1
  rw [if_pos hy]
  have e0 : ((win1_1.blk t).view.emb y 0).val = (y 0).val := by
    blk_simp [i11]
  have e1 : ((win1_1.blk t).view.emb y 1).val = 1024 * t.val + (y 1).val := by
    blk_simp [i11]
    omega
  rw [e0, e1]

theorem arr_h : (dat0 V c).arrAt 3 cfg0.N = hVal (V c main_v0) (V c main_v1) := by
  refine (dat0 V c).arrAt_eq_of_covers 3 _ (by decide +kernel) fun t hf y => ?_
  blk_simp
  show k0_pay1 (xb0 V c t) (rb0 V c t) y = _
  rw [h_apply]
  unfold hVal xb0 rb0
  blk_simp
  congr 2 <;> blk_ext [i00, i01, i03]

theorem arr_n : (dat0 V c).arrAt 4 cfg0.N = nVal (V c main_v0) (V c main_v1) (V c main_v2) := by
  refine (dat0 V c).arrAt_eq_of_covers 4 _ (by decide +kernel) fun t hf y => ?_
  blk_simp
  show k0_pay2 (xb0 V c t) (rb0 V c t) (gb0 V c t) y = _
  rw [n_apply]
  have ex : ∀ k : Fin 4096, xb0 V c t (ix2 (y 0) k) = V c main_v0 (ix2 ((win0_4.blk t).view.emb y 0) k) := fun k => by
    unfold xb0; blk_simp; congr 1; blk_ext [i00, i04]
  have er : ∀ k : Fin 4096, rb0 V c t (ix2 (y 0) k) = V c main_v1 (ix2 ((win0_4.blk t).view.emb y 0) k) := fun k => by
    unfold rb0; blk_simp; congr 1; blk_ext [i01, i04]
  have ex' : xb0 V c t y = V c main_v0 ((win0_4.blk t).view.emb y) := by
    unfold xb0; blk_simp; congr 1; blk_ext [i00, i04]
  have er' : rb0 V c t y = V c main_v1 ((win0_4.blk t).view.emb y) := by
    unfold rb0; blk_simp; congr 1; blk_ext [i01, i04]
  have eg : gb0 V c t (ix2 0 (y 1)) = V c main_v2 (ix2 0 ((win0_4.blk t).view.emb y 1)) := by
    unfold gb0; blk_simp; congr 1; blk_ext [i02, i04]
  simp only [ex, er, ex', er', eg]
  rfl

end Cert.Proof

end
-- ==== Proof.Codes.lean ====
/-
  The code of a packed row, two ways. The packed words of a bit width are one stream of bits; the code of a row is the run of
  `b` bits at `n`. Reading bit after bit and putting each in its place gives the word that reading the word with the first bit
  and the word with the last one, shifting, joining and masking gives.
-/
module

public import proofs.«01_k».proof.Proof.Value

@[expose] public section

noncomputable section

namespace Cert.Proof

open Idealize.ShloMosaic Idealize.ShloMosaic.TcCoe

/-! ### Words -/

/-- The bit at place `n` of the stream of words `W`. -/
def bitAt (W : ℕ → BitVec 32) (n : ℕ) : BitVec 32 := (W (n / 32) >>> (n % 32)) &&& 1#32

/-- The bits `f 0 … f k`, each in its place. -/
def orBits (f : ℕ → BitVec 32) : ℕ → BitVec 32
  | 0 => f 0
  | k + 1 => orBits f k ||| (f (k + 1) <<< (k + 1))

/-- The code in the words `a` and `b`: from bit `s` of the first on, `w` bits. -/
def joinBits (a b : BitVec 32) (s w : ℕ) : BitVec 32 := ((a >>> s) ||| ((b <<< 1) <<< (31 - s))) &&& BitVec.ofNat 32 (2 ^ w - 1)

theorem getLsbD_orBits (X : ℕ → BitVec 32) : ∀ k, k < 32 → ∀ i, (orBits (fun n => X n &&& 1#32) k).getLsbD i = (decide (i ≤ k) && (X i).getLsbD 0)
  | 0, _, i => by
    show ((X 0) &&& 1#32).getLsbD i = _
    rcases i with _ | i <;> simp
  | k + 1, hk, i => by
    show (orBits (fun n => X n &&& 1#32) k ||| ((X (k + 1) &&& 1#32) <<< (k + 1))).getLsbD i = _
    rw [BitVec.getLsbD_or, getLsbD_orBits X k (by omega) i, BitVec.getLsbD_shiftLeft]
    by_cases h : i ≤ k
    · simp [h, show i < k + 1 by omega, show i ≤ k + 1 by omega]
    · by_cases h' : i = k + 1
      · subst h'
        simp [show k + 1 < 32 from hk]
      · have : ¬ i ≤ k + 1 := by omega
        obtain ⟨d, hd⟩ : ∃ d, i - (k + 1) = d + 1 := ⟨i - (k + 1) - 1, by omega⟩
        simp [h, this, hd]

theorem getLsbD_mask (w i : ℕ) (hw : w ≤ 32) : (BitVec.ofNat 32 (2 ^ w - 1)).getLsbD i = decide (i < w) := by
  rw [BitVec.getLsbD_ofNat, Nat.testBit_two_pow_sub_one]
  by_cases h : i < w
  · simp [h, show i < 32 by omega]
  · simp [h]

/-- Bit after bit, or the two words joined: one code. -/
theorem joinBits_eq (W : ℕ → BitVec 32) (n w : ℕ) (hw : 0 < w) (hw8 : w ≤ 8) :
    joinBits (W (n / 32)) (W (n / 32 + if 32 < n % 32 + w then 1 else 0)) (n % 32) w = orBits (fun k => bitAt W (n + k)) (w - 1) := by
  refine BitVec.eq_of_getLsbD_eq fun i hi => ?_
  rw [show (fun k => bitAt W (n + k)) = (fun k => (fun k => W ((n + k) / 32) >>> ((n + k) % 32)) k &&& 1#32) from rfl,
    getLsbD_orBits _ _ (by omega)]
  unfold joinBits
  rw [BitVec.getLsbD_and, getLsbD_mask _ _ (by omega), BitVec.getLsbD_or, BitVec.getLsbD_ushiftRight, BitVec.getLsbD_shiftLeft, BitVec.getLsbD_shiftLeft,
    BitVec.getLsbD_ushiftRight]
  by_cases h : i < w
  · have h1 : i ≤ w - 1 := by omega
    by_cases hs : n % 32 + i < 32
    · have e1 : (n + i) / 32 = n / 32 := by omega
      have e2 : (n + i) % 32 = n % 32 + i := by omega
      have : (!decide (i < 31 - n % 32) && !decide (i - (31 - n % 32) < 1)) = false := by
        simp only [Bool.and_eq_false_iff, Bool.not_eq_false', decide_eq_true_eq]; omega
      simp [h, h1, e1, e2]
      intro _ h2 _ h3; omega
    · have e1 : (n + i) / 32 = n / 32 + 1 := by omega
      have e2 : (n + i) % 32 = i - (31 - n % 32) - 1 := by omega
      have h3 : 32 < n % 32 + w := by omega
      have h4 : (W (n / 32)).getLsbD (n % 32 + i) = false := BitVec.getLsbD_of_ge _ _ (by omega)
      rw [if_pos h3, e1, e2, h4]
      have a1 : i < 32 := by omega
      have a2 : ¬ i < 31 - n % 32 := by omega
      have a3 : i - (31 - n % 32) < 32 := by omega
      have a4 : ¬ i - (31 - n % 32) < 1 := by omega
      simp only [h, h1, a1, a2, a3, a4]; simp
  · have h1 : ¬ i ≤ w - 1 := by omega
    simp [h, h1]

theorem orBits_lt (W : ℕ → BitVec 32) (n w : ℕ) (hw : 0 < w) (hw8 : w ≤ 8) : (orBits (fun k => bitAt W (n + k)) (w - 1)).toNat < 2 ^ w := by
  rw [← joinBits_eq W n w hw hw8]
  unfold joinBits
  rw [BitVec.toNat_and]
  have : (BitVec.ofNat 32 (2 ^ w - 1)).toNat ≤ 2 ^ w - 1 := by rw [BitVec.toNat_ofNat]; exact Nat.mod_le _ _
  have h2 : 0 < 2 ^ w := Nat.two_pow_pos w
  exact lt_of_le_of_lt Nat.and_le_right (by omega)

/-! ### A row's code in the kernel -/

open Cert.Kernel Cert.Kernel.Gen

set_option maxRecDepth 100000 in
theorem entry_fields : ∀ r : Fin 4096,
    Scalar.andi (Scalar.shrsi (entry r) 11#32) 31#32 = BitVec.ofNat 32 (sOf r)
    ∧ Scalar.subi 31#32 (BitVec.ofNat 32 (sOf r)) = BitVec.ofNat 32 (31 - sOf r)
    ∧ Scalar.shli 1#32 (Scalar.subi (Scalar.andi (Scalar.shrsi (entry r) 16#32) 15#32) 1#32) = BitVec.ofNat 32 (2 ^ (bitsOf r - 1))
    ∧ Scalar.subi (Scalar.addi (BitVec.ofNat 32 (2 ^ (bitsOf r - 1))) (BitVec.ofNat 32 (2 ^ (bitsOf r - 1)))) 1#32 = BitVec.ofNat 32 (2 ^ bitsOf r - 1)
    ∧ sOf r < 32 ∧ 0 < bitsOf r ∧ bitsOf r ≤ 8 ∧ r / 32 < 128 ∧ k1_off412 (entry r) 0 / 8 = r / 32 := by
  decide +kernel

theorem code_eq (r : Fin 4096) (a b : BitVec 32) (j : S8x128.Idx) :
    k1_pay5 (F := Ideal) (entry r) (fun _ => a) (fun _ => b) j = joinBits a b (sOf r) (bitsOf r) := by
  obtain ⟨h1, h2, h3, h4, h5, -⟩ := entry_fields r
  unfold k1_pay5
  simp only [h1, h2, h3, h4]
  show (IntOp.shrui .vector a (BitVec.ofNat 32 (sOf r)) ||| IntOp.shli .vector (IntOp.shli .vector b 1#32) (BitVec.ofNat 32 (31 - sOf r))) &&& BitVec.ofNat 32 (2 ^ bitsOf r - 1) = _
  unfold IntOp.shrui IntOp.shli joinBits
  have e1 : (BitVec.ofNat 32 (sOf r)).toNat = sOf r := by rw [BitVec.toNat_ofNat]; omega
  have e2 : (BitVec.ofNat 32 (31 - sOf r)).toNat = 31 - sOf r := by rw [BitVec.toNat_ofNat]; omega
  have e3 : (1#32).toNat = 1 := rfl
  rw [if_pos (by omega), if_pos (by omega), if_pos (by omega), BitVec.ushiftRight_eq', BitVec.shiftLeft_eq', BitVec.shiftLeft_eq', e1, e2, e3]

theorem zp_eq (r : Fin 4096) (j : S8x128.Idx) : k1_pay6 (F := Ideal) (entry r) j = BitVec.ofNat 32 (2 ^ (bitsOf r - 1)) := by
  unfold k1_pay6
  exact (entry_fields r).2.2.1

theorem tr_eq (v : Ideal .f32) : tr (F := Ideal) v = v := by pointwise [tr, k1_pay2]
theorem widen_eq (v : Ideal .bf16) : widen (F := Ideal) v = v := by pointwise [widen, k1_pay40]

/-- A signed difference with the middle of the range is the difference of the numbers. -/
theorem toInt_sub_mid (x : BitVec 32) (w : ℕ) (hw : 0 < w) (hw8 : w ≤ 8) (hx : x.toNat < 2 ^ w) :
    (x - BitVec.ofNat 32 (2 ^ (w - 1))).toInt = (x.toNat : ℤ) - (2 ^ (w - 1) : ℕ) := by
  have hz : 2 ^ w = 2 * 2 ^ (w - 1) := by rw [← pow_succ']; congr 1; omega
  have hz8 : 2 ^ (w - 1) ≤ 2 ^ 7 := Nat.pow_le_pow_right (by omega) (by omega)
  rw [BitVec.toInt_eq_toNat_cond, BitVec.toNat_sub, BitVec.toNat_ofNat]
  generalize 2 ^ (w - 1) = z at *
  generalize x.toNat = y at *
  rw [Nat.mod_eq_of_lt (show z < 2 ^ 32 by omega)]
  split <;> omega

/-- A cell of the dequantised weights: the code's distance from the middle, scaled. -/
theorem cell_eq (r : Fin 4096) (a b : BitVec 32) (s : Ideal .f32) :
    cell (F := Ideal) (entry r) a b s = (((((joinBits a b (sOf r) (bitsOf r)) - BitVec.ofNat 32 (2 ^ (bitsOf r - 1))).toInt : ℝ) : EReal)) * s := by
  rw [← code_eq r a b (at2 p8 ![0, 0]), ← zp_eq r (at2 p8 ![0, 0])]
  pointwise [cell, k1_pay7]
  rfl

end Cert.Proof

end
-- ==== Proof.RefCodes.lean ====
/-
  The reference's weights, read element by element. Its decoded codes are cut out of the packed words bit by bit, put together
  and brought to their distance from the middle of their range; row by row they stand in the packed matrix's order.
-/
module

public import proofs.«01_k».proof.Proof.Codes
public import proofs.«01_k».proof.Proof.Gen.ReferenceIdeal.Run

@[expose] public section

noncomputable section

namespace Cert.Proof

open Idealize.ShloMosaic Idealize.ShloMosaic.TcCoe
open Cert.ReferenceIdeal Cert.ReferenceIdeal.Gen

/-- Column `j` of the packed matrix, from row `o` on. -/
def colAt (q : S545x11008.Idx → BitVec 32) (o j w : ℕ) : BitVec 32 := q (at2 p545 ![o + w, j])

theorem bit_eq (q : S545x11008.Idx → BitVec 32) (o n j : ℕ) (y : S545x11008.Idx) (h0 : (y 0).val = o + n / 32) (h1 : (y 1).val = j) :
    IntOp.andi (IntOp.shrui ArithUnit.host (q y) (BitVec.ofNat 32 (n % 32))) 1#32 = bitAt (colAt q o j) n := by
  have e : (BitVec.ofNat 32 (n % 32)).toNat = n % 32 := by rw [BitVec.toNat_ofNat]; omega
  unfold bitAt colAt
  rw [at2_of p545 _ y (fun a => by
    match a with
    | 0 => exact h0
    | 1 => exact h1)]
  unfold IntOp.shrui
  rw [if_pos (by omega), BitVec.ushiftRight_eq', e]
  rfl

theorem shl_1 (x : BitVec 32) : IntOp.shli ArithUnit.host x 1#32 = x <<< 1 := rfl
theorem shl_2 (x : BitVec 32) : IntOp.shli ArithUnit.host x 2#32 = x <<< 2 := rfl
theorem shl_3 (x : BitVec 32) : IntOp.shli ArithUnit.host x 3#32 = x <<< 3 := rfl
theorem shl_4 (x : BitVec 32) : IntOp.shli ArithUnit.host x 4#32 = x <<< 4 := rfl
theorem shl_5 (x : BitVec 32) : IntOp.shli ArithUnit.host x 5#32 = x <<< 5 := rfl
theorem shl_6 (x : BitVec 32) : IntOp.shli ArithUnit.host x 6#32 = x <<< 6 := rfl
theorem shl_7 (x : BitVec 32) : IntOp.shli ArithUnit.host x 7#32 = x <<< 7 := rfl

/-! ### The rows of 8 bits -/

def bits8 (q : S545x11008.Idx → BitVec 32) : S160x8x11008.Idx → BitVec 32 :=
  shapeCast _ (andi (Host.shrui (broadcastInDim S40x32x11008 ![0, 1, 2] bcast_S40x1x11008_S40x32x11008_0_1_2 (broadcastInDim S40x1x11008 ![0, 2] bcast_S40x11008_S40x1x11008_0_2 (extractStridedSlice S40x11008 ![0, 0] q slices_S545x11008_S40x11008_0_0))) (broadcastInDim S40x32x11008 ![0, 1, 2] bcast_S1x32x1_S40x32x11008_0_1_2 (broadcastInDim S1x32x1 ![1] bcast_S32_S1x32x1_1 (iotaInDim S32 32 0)))) (broadcastInDim S40x32x11008 ![] bcast_S_S40x32x11008 (constantI S_ 32 1#32))) shapeCasts_S40x32x11008_S160x8x11008

theorem bits8_at (q : S545x11008.Idx → BitVec 32) (i : S160x8x11008.Idx) :
    bits8 q i = bitAt (colAt q 0 (i 2).val) ((i 0).val * 8 + (i 1).val) := by
  have h0 : (i 0).val < 160 := (i 0).isLt
  have h1 : (i 1).val < 8 := (i 1).isLt
  have hw : ((i 0).val * 8 + (i 1).val) / 32 < 40 := by omega
  have hs : ((i 0).val * 8 + (i 1).val) % 32 < 32 := by omega
  unfold bits8
  refine (Idealize.ShloMosaic.shapeCast_apply _ _ i (ix3 (⟨((i 0).val * 8 + (i 1).val) / 32, hw⟩ : Fin 40) (⟨((i 0).val * 8 + (i 1).val) % 32, hs⟩ : Fin 32) (i 2)) ?_).trans ?_
  · rw [Shape.rowMajor_val_three, Shape.rowMajor_val_three]
    show (((i 0).val * 8 + (i 1).val) / 32 * 32 + ((i 0).val * 8 + (i 1).val) % 32) * 11008 + (i 2).val = ((i 0).val * 8 + (i 1).val) * 11008 + (i 2).val
    rw [Nat.div_add_mod']
  pointwise
  exact bit_eq q 0 _ _ _ (Nat.zero_add _).symm rfl

def codes8 (q : S545x11008.Idx → BitVec 32) : FVec Ideal S160x11008 .bf16 :=
  subf (uitofp .bf16 (ori (ori (ori (ori (ori (ori (ori (shapeCast _ (extractStridedSlice S160x1x11008 ![0, 0, 0] (bits8 q) slices_S160x8x11008_S160x1x11008_0_0_0) shapeCasts_S160x1x11008_S160x11008) (Host.shli (shapeCast _ (extractStridedSlice S160x1x11008 ![0, 1, 0] (bits8 q) slices_S160x8x11008_S160x1x11008_0_1_0) shapeCasts_S160x1x11008_S160x11008) (broadcastInDim S160x11008 ![] bcast_S_S160x11008 (constantI S_ 32 1#32)))) (Host.shli (shapeCast _ (extractStridedSlice S160x1x11008 ![0, 2, 0] (bits8 q) slices_S160x8x11008_S160x1x11008_0_2_0) shapeCasts_S160x1x11008_S160x11008) (broadcastInDim S160x11008 ![] bcast_S_S160x11008 (constantI S_ 32 2#32)))) (Host.shli (shapeCast _ (extractStridedSlice S160x1x11008 ![0, 3, 0] (bits8 q) slices_S160x8x11008_S160x1x11008_0_3_0) shapeCasts_S160x1x11008_S160x11008) (broadcastInDim S160x11008 ![] bcast_S_S160x11008 (constantI S_ 32 3#32)))) (Host.shli (shapeCast _ (extractStridedSlice S160x1x11008 ![0, 4, 0] (bits8 q) slices_S160x8x11008_S160x1x11008_0_4_0) shapeCasts_S160x1x11008_S160x11008) (broadcastInDim S160x11008 ![] bcast_S_S160x11008 (constantI S_ 32 4#32)))) (Host.shli (shapeCast _ (extractStridedSlice S160x1x11008 ![0, 5, 0] (bits8 q) slices_S160x8x11008_S160x1x11008_0_5_0) shapeCasts_S160x1x11008_S160x11008) (broadcastInDim S160x11008 ![] bcast_S_S160x11008 (constantI S_ 32 5#32)))) (Host.shli (shapeCast _ (extractStridedSlice S160x1x11008 ![0, 6, 0] (bits8 q) slices_S160x8x11008_S160x1x11008_0_6_0) shapeCasts_S160x1x11008_S160x11008) (broadcastInDim S160x11008 ![] bcast_S_S160x11008 (constantI S_ 32 6#32)))) (Host.shli (shapeCast _ (extractStridedSlice S160x1x11008 ![0, 7, 0] (bits8 q) slices_S160x8x11008_S160x1x11008_0_7_0) shapeCasts_S160x1x11008_S160x11008) (broadcastInDim S160x11008 ![] bcast_S_S160x11008 (constantI S_ 32 7#32))))) (broadcastInDim S160x11008 ![] bcast_S_S160x11008 (constant S_ .bf16 0x4300#16))

theorem codes8_at (q : S545x11008.Idx → BitVec 32) (i : S160x11008.Idx) :
    codes8 q i = (((orBits (fun k => bitAt (colAt q 0 (i 1).val) ((i 0).val * 8 + k)) (8 - 1)).toNat : ℝ) : EReal) - Ideal.ofBits .bf16 0x4300#16 := by
  unfold codes8
  pointwise
  simp only [bits8_at, shl_1, shl_2, shl_3, shl_4, shl_5, shl_6, shl_7]
  rfl

theorem codes8_val (q : S545x11008.Idx → BitVec 32) (i : S160x11008.Idx) (r j : ℕ) (h0 : (i 0).val = r) (h1 : (i 1).val = j) :
    codes8 q i = (((orBits (fun k => bitAt (colAt q 0 j) (r * 8 + k)) (8 - 1)).toNat : ℝ) : EReal) - Ideal.ofBits .bf16 0x4300#16 := by
  subst h0 h1
  exact codes8_at q i

/-! ### The rows of 6 bits -/

def bits6 (q : S545x11008.Idx → BitVec 32) : S480x6x11008.Idx → BitVec 32 :=
  shapeCast _ (andi (Host.shrui (broadcastInDim S90x32x11008 ![0, 1, 2] bcast_S90x1x11008_S90x32x11008_0_1_2 (broadcastInDim S90x1x11008 ![0, 2] bcast_S90x11008_S90x1x11008_0_2 (extractStridedSlice S90x11008 ![40, 0] q slices_S545x11008_S90x11008_40_0))) (broadcastInDim S90x32x11008 ![0, 1, 2] bcast_S1x32x1_S90x32x11008_0_1_2 (broadcastInDim S1x32x1 ![1] bcast_S32_S1x32x1_1 (iotaInDim S32 32 0)))) (broadcastInDim S90x32x11008 ![] bcast_S_S90x32x11008 (constantI S_ 32 1#32))) shapeCasts_S90x32x11008_S480x6x11008

theorem bits6_at (q : S545x11008.Idx → BitVec 32) (i : S480x6x11008.Idx) :
    bits6 q i = bitAt (colAt q 40 (i 2).val) ((i 0).val * 6 + (i 1).val) := by
  have h0 : (i 0).val < 480 := (i 0).isLt
  have h1 : (i 1).val < 6 := (i 1).isLt
  have hw : ((i 0).val * 6 + (i 1).val) / 32 < 90 := by omega
  have hs : ((i 0).val * 6 + (i 1).val) % 32 < 32 := by omega
  unfold bits6
  refine (Idealize.ShloMosaic.shapeCast_apply _ _ i (ix3 (⟨((i 0).val * 6 + (i 1).val) / 32, hw⟩ : Fin 90) (⟨((i 0).val * 6 + (i 1).val) % 32, hs⟩ : Fin 32) (i 2)) ?_).trans ?_
  · rw [Shape.rowMajor_val_three, Shape.rowMajor_val_three]
    show (((i 0).val * 6 + (i 1).val) / 32 * 32 + ((i 0).val * 6 + (i 1).val) % 32) * 11008 + (i 2).val = ((i 0).val * 6 + (i 1).val) * 11008 + (i 2).val
    rw [Nat.div_add_mod']
  pointwise
  exact bit_eq q 40 _ _ _ rfl rfl

def codes6 (q : S545x11008.Idx → BitVec 32) : FVec Ideal S480x11008 .bf16 :=
  subf (uitofp .bf16 (ori (ori (ori (ori (ori (shapeCast _ (extractStridedSlice S480x1x11008 ![0, 0, 0] (bits6 q) slices_S480x6x11008_S480x1x11008_0_0_0) shapeCasts_S480x1x11008_S480x11008) (Host.shli (shapeCast _ (extractStridedSlice S480x1x11008 ![0, 1, 0] (bits6 q) slices_S480x6x11008_S480x1x11008_0_1_0) shapeCasts_S480x1x11008_S480x11008) (broadcastInDim S480x11008 ![] bcast_S_S480x11008 (constantI S_ 32 1#32)))) (Host.shli (shapeCast _ (extractStridedSlice S480x1x11008 ![0, 2, 0] (bits6 q) slices_S480x6x11008_S480x1x11008_0_2_0) shapeCasts_S480x1x11008_S480x11008) (broadcastInDim S480x11008 ![] bcast_S_S480x11008 (constantI S_ 32 2#32)))) (Host.shli (shapeCast _ (extractStridedSlice S480x1x11008 ![0, 3, 0] (bits6 q) slices_S480x6x11008_S480x1x11008_0_3_0) shapeCasts_S480x1x11008_S480x11008) (broadcastInDim S480x11008 ![] bcast_S_S480x11008 (constantI S_ 32 3#32)))) (Host.shli (shapeCast _ (extractStridedSlice S480x1x11008 ![0, 4, 0] (bits6 q) slices_S480x6x11008_S480x1x11008_0_4_0) shapeCasts_S480x1x11008_S480x11008) (broadcastInDim S480x11008 ![] bcast_S_S480x11008 (constantI S_ 32 4#32)))) (Host.shli (shapeCast _ (extractStridedSlice S480x1x11008 ![0, 5, 0] (bits6 q) slices_S480x6x11008_S480x1x11008_0_5_0) shapeCasts_S480x1x11008_S480x11008) (broadcastInDim S480x11008 ![] bcast_S_S480x11008 (constantI S_ 32 5#32))))) (broadcastInDim S480x11008 ![] bcast_S_S480x11008 (constant S_ .bf16 0x4200#16))

theorem codes6_at (q : S545x11008.Idx → BitVec 32) (i : S480x11008.Idx) :
    codes6 q i = (((orBits (fun k => bitAt (colAt q 40 (i 1).val) ((i 0).val * 6 + k)) (6 - 1)).toNat : ℝ) : EReal) - Ideal.ofBits .bf16 0x4200#16 := by
  unfold codes6
  pointwise
  simp only [bits6_at, shl_1, shl_2, shl_3, shl_4, shl_5, shl_6, shl_7]
  rfl

theorem codes6_val (q : S545x11008.Idx → BitVec 32) (i : S480x11008.Idx) (r j : ℕ) (h0 : (i 0).val = r) (h1 : (i 1).val = j) :
    codes6 q i = (((orBits (fun k => bitAt (colAt q 40 j) (r * 6 + k)) (6 - 1)).toNat : ℝ) : EReal) - Ideal.ofBits .bf16 0x4200#16 := by
  subst h0 h1
  exact codes6_at q i

/-! ### The rows of 5 bits -/

def bits5 (q : S545x11008.Idx → BitVec 32) : S864x5x11008.Idx → BitVec 32 :=
  shapeCast _ (andi (Host.shrui (broadcastInDim S135x32x11008 ![0, 1, 2] bcast_S135x1x11008_S135x32x11008_0_1_2 (broadcastInDim S135x1x11008 ![0, 2] bcast_S135x11008_S135x1x11008_0_2 (extractStridedSlice S135x11008 ![130, 0] q slices_S545x11008_S135x11008_130_0))) (broadcastInDim S135x32x11008 ![0, 1, 2] bcast_S1x32x1_S135x32x11008_0_1_2 (broadcastInDim S1x32x1 ![1] bcast_S32_S1x32x1_1 (iotaInDim S32 32 0)))) (broadcastInDim S135x32x11008 ![] bcast_S_S135x32x11008 (constantI S_ 32 1#32))) shapeCasts_S135x32x11008_S864x5x11008

theorem bits5_at (q : S545x11008.Idx → BitVec 32) (i : S864x5x11008.Idx) :
    bits5 q i = bitAt (colAt q 130 (i 2).val) ((i 0).val * 5 + (i 1).val) := by
  have h0 : (i 0).val < 864 := (i 0).isLt
  have h1 : (i 1).val < 5 := (i 1).isLt
  have hw : ((i 0).val * 5 + (i 1).val) / 32 < 135 := by omega
  have hs : ((i 0).val * 5 + (i 1).val) % 32 < 32 := by omega
  unfold bits5
  refine (Idealize.ShloMosaic.shapeCast_apply _ _ i (ix3 (⟨((i 0).val * 5 + (i 1).val) / 32, hw⟩ : Fin 135) (⟨((i 0).val * 5 + (i 1).val) % 32, hs⟩ : Fin 32) (i 2)) ?_).trans ?_
  · rw [Shape.rowMajor_val_three, Shape.rowMajor_val_three]
    show (((i 0).val * 5 + (i 1).val) / 32 * 32 + ((i 0).val * 5 + (i 1).val) % 32) * 11008 + (i 2).val = ((i 0).val * 5 + (i 1).val) * 11008 + (i 2).val
    rw [Nat.div_add_mod']
  pointwise
  exact bit_eq q 130 _ _ _ rfl rfl

def codes5 (q : S545x11008.Idx → BitVec 32) : FVec Ideal S864x11008 .bf16 :=
  subf (uitofp .bf16 (ori (ori (ori (ori (shapeCast _ (extractStridedSlice S864x1x11008 ![0, 0, 0] (bits5 q) slices_S864x5x11008_S864x1x11008_0_0_0) shapeCasts_S864x1x11008_S864x11008) (Host.shli (shapeCast _ (extractStridedSlice S864x1x11008 ![0, 1, 0] (bits5 q) slices_S864x5x11008_S864x1x11008_0_1_0) shapeCasts_S864x1x11008_S864x11008) (broadcastInDim S864x11008 ![] bcast_S_S864x11008 (constantI S_ 32 1#32)))) (Host.shli (shapeCast _ (extractStridedSlice S864x1x11008 ![0, 2, 0] (bits5 q) slices_S864x5x11008_S864x1x11008_0_2_0) shapeCasts_S864x1x11008_S864x11008) (broadcastInDim S864x11008 ![] bcast_S_S864x11008 (constantI S_ 32 2#32)))) (Host.shli (shapeCast _ (extractStridedSlice S864x1x11008 ![0, 3, 0] (bits5 q) slices_S864x5x11008_S864x1x11008_0_3_0) shapeCasts_S864x1x11008_S864x11008) (broadcastInDim S864x11008 ![] bcast_S_S864x11008 (constantI S_ 32 3#32)))) (Host.shli (shapeCast _ (extractStridedSlice S864x1x11008 ![0, 4, 0] (bits5 q) slices_S864x5x11008_S864x1x11008_0_4_0) shapeCasts_S864x1x11008_S864x11008) (broadcastInDim S864x11008 ![] bcast_S_S864x11008 (constantI S_ 32 4#32))))) (broadcastInDim S864x11008 ![] bcast_S_S864x11008 (constant S_ .bf16 0x4180#16))

theorem codes5_at (q : S545x11008.Idx → BitVec 32) (i : S864x11008.Idx) :
    codes5 q i = (((orBits (fun k => bitAt (colAt q 130 (i 1).val) ((i 0).val * 5 + k)) (5 - 1)).toNat : ℝ) : EReal) - Ideal.ofBits .bf16 0x4180#16 := by
  unfold codes5
  pointwise
  simp only [bits5_at, shl_1, shl_2, shl_3, shl_4, shl_5, shl_6, shl_7]
  rfl

theorem codes5_val (q : S545x11008.Idx → BitVec 32) (i : S864x11008.Idx) (r j : ℕ) (h0 : (i 0).val = r) (h1 : (i 1).val = j) :
    codes5 q i = (((orBits (fun k => bitAt (colAt q 130 j) (r * 5 + k)) (5 - 1)).toNat : ℝ) : EReal) - Ideal.ofBits .bf16 0x4180#16 := by
  subst h0 h1
  exact codes5_at q i

/-! ### The rows of 4 bits -/

def bits4 (q : S545x11008.Idx → BitVec 32) : S1472x4x11008.Idx → BitVec 32 :=
  shapeCast _ (andi (Host.shrui (broadcastInDim S184x32x11008 ![0, 1, 2] bcast_S184x1x11008_S184x32x11008_0_1_2 (broadcastInDim S184x1x11008 ![0, 2] bcast_S184x11008_S184x1x11008_0_2 (extractStridedSlice S184x11008 ![265, 0] q slices_S545x11008_S184x11008_265_0))) (broadcastInDim S184x32x11008 ![0, 1, 2] bcast_S1x32x1_S184x32x11008_0_1_2 (broadcastInDim S1x32x1 ![1] bcast_S32_S1x32x1_1 (iotaInDim S32 32 0)))) (broadcastInDim S184x32x11008 ![] bcast_S_S184x32x11008 (constantI S_ 32 1#32))) shapeCasts_S184x32x11008_S1472x4x11008

theorem bits4_at (q : S545x11008.Idx → BitVec 32) (i : S1472x4x11008.Idx) :
    bits4 q i = bitAt (colAt q 265 (i 2).val) ((i 0).val * 4 + (i 1).val) := by
  have h0 : (i 0).val < 1472 := (i 0).isLt
  have h1 : (i 1).val < 4 := (i 1).isLt
  have hw : ((i 0).val * 4 + (i 1).val) / 32 < 184 := by omega
  have hs : ((i 0).val * 4 + (i 1).val) % 32 < 32 := by omega
  unfold bits4
  refine (Idealize.ShloMosaic.shapeCast_apply _ _ i (ix3 (⟨((i 0).val * 4 + (i 1).val) / 32, hw⟩ : Fin 184) (⟨((i 0).val * 4 + (i 1).val) % 32, hs⟩ : Fin 32) (i 2)) ?_).trans ?_
  · rw [Shape.rowMajor_val_three, Shape.rowMajor_val_three]
    show (((i 0).val * 4 + (i 1).val) / 32 * 32 + ((i 0).val * 4 + (i 1).val) % 32) * 11008 + (i 2).val = ((i 0).val * 4 + (i 1).val) * 11008 + (i 2).val
    rw [Nat.div_add_mod']
  pointwise
  exact bit_eq q 265 _ _ _ rfl rfl

def codes4 (q : S545x11008.Idx → BitVec 32) : FVec Ideal S1472x11008 .bf16 :=
  subf (uitofp .bf16 (ori (ori (ori (shapeCast _ (extractStridedSlice S1472x1x11008 ![0, 0, 0] (bits4 q) slices_S1472x4x11008_S1472x1x11008_0_0_0) shapeCasts_S1472x1x11008_S1472x11008) (Host.shli (shapeCast _ (extractStridedSlice S1472x1x11008 ![0, 1, 0] (bits4 q) slices_S1472x4x11008_S1472x1x11008_0_1_0) shapeCasts_S1472x1x11008_S1472x11008) (broadcastInDim S1472x11008 ![] bcast_S_S1472x11008 (constantI S_ 32 1#32)))) (Host.shli (shapeCast _ (extractStridedSlice S1472x1x11008 ![0, 2, 0] (bits4 q) slices_S1472x4x11008_S1472x1x11008_0_2_0) shapeCasts_S1472x1x11008_S1472x11008) (broadcastInDim S1472x11008 ![] bcast_S_S1472x11008 (constantI S_ 32 2#32)))) (Host.shli (shapeCast _ (extractStridedSlice S1472x1x11008 ![0, 3, 0] (bits4 q) slices_S1472x4x11008_S1472x1x11008_0_3_0) shapeCasts_S1472x1x11008_S1472x11008) (broadcastInDim S1472x11008 ![] bcast_S_S1472x11008 (constantI S_ 32 3#32))))) (broadcastInDim S1472x11008 ![] bcast_S_S1472x11008 (constant S_ .bf16 0x4100#16))

theorem codes4_at (q : S545x11008.Idx → BitVec 32) (i : S1472x11008.Idx) :
    codes4 q i = (((orBits (fun k => bitAt (colAt q 265 (i 1).val) ((i 0).val * 4 + k)) (4 - 1)).toNat : ℝ) : EReal) - Ideal.ofBits .bf16 0x4100#16 := by
  unfold codes4
  pointwise
  simp only [bits4_at, shl_1, shl_2, shl_3, shl_4, shl_5, shl_6, shl_7]
  rfl

theorem codes4_val (q : S545x11008.Idx → BitVec 32) (i : S1472x11008.Idx) (r j : ℕ) (h0 : (i 0).val = r) (h1 : (i 1).val = j) :
    codes4 q i = (((orBits (fun k => bitAt (colAt q 265 j) (r * 4 + k)) (4 - 1)).toNat : ℝ) : EReal) - Ideal.ofBits .bf16 0x4100#16 := by
  subst h0 h1
  exact codes4_at q i

/-! ### The rows of 3 bits -/

def bits3 (q : S545x11008.Idx → BitVec 32) : S832x3x11008.Idx → BitVec 32 :=
  shapeCast _ (andi (Host.shrui (broadcastInDim S78x32x11008 ![0, 1, 2] bcast_S78x1x11008_S78x32x11008_0_1_2 (broadcastInDim S78x1x11008 ![0, 2] bcast_S78x11008_S78x1x11008_0_2 (extractStridedSlice S78x11008 ![449, 0] q slices_S545x11008_S78x11008_449_0))) (broadcastInDim S78x32x11008 ![0, 1, 2] bcast_S1x32x1_S78x32x11008_0_1_2 (broadcastInDim S1x32x1 ![1] bcast_S32_S1x32x1_1 (iotaInDim S32 32 0)))) (broadcastInDim S78x32x11008 ![] bcast_S_S78x32x11008 (constantI S_ 32 1#32))) shapeCasts_S78x32x11008_S832x3x11008

theorem bits3_at (q : S545x11008.Idx → BitVec 32) (i : S832x3x11008.Idx) :
    bits3 q i = bitAt (colAt q 449 (i 2).val) ((i 0).val * 3 + (i 1).val) := by
  have h0 : (i 0).val < 832 := (i 0).isLt
  have h1 : (i 1).val < 3 := (i 1).isLt
  have hw : ((i 0).val * 3 + (i 1).val) / 32 < 78 := by omega
  have hs : ((i 0).val * 3 + (i 1).val) % 32 < 32 := by omega
  unfold bits3
  refine (Idealize.ShloMosaic.shapeCast_apply _ _ i (ix3 (⟨((i 0).val * 3 + (i 1).val) / 32, hw⟩ : Fin 78) (⟨((i 0).val * 3 + (i 1).val) % 32, hs⟩ : Fin 32) (i 2)) ?_).trans ?_
  · rw [Shape.rowMajor_val_three, Shape.rowMajor_val_three]
    show (((i 0).val * 3 + (i 1).val) / 32 * 32 + ((i 0).val * 3 + (i 1).val) % 32) * 11008 + (i 2).val = ((i 0).val * 3 + (i 1).val) * 11008 + (i 2).val
    rw [Nat.div_add_mod']
  pointwise
  exact bit_eq q 449 _ _ _ rfl rfl

def codes3 (q : S545x11008.Idx → BitVec 32) : FVec Ideal S832x11008 .bf16 :=
  subf (uitofp .bf16 (ori (ori (shapeCast _ (extractStridedSlice S832x1x11008 ![0, 0, 0] (bits3 q) slices_S832x3x11008_S832x1x11008_0_0_0) shapeCasts_S832x1x11008_S832x11008) (Host.shli (shapeCast _ (extractStridedSlice S832x1x11008 ![0, 1, 0] (bits3 q) slices_S832x3x11008_S832x1x11008_0_1_0) shapeCasts_S832x1x11008_S832x11008) (broadcastInDim S832x11008 ![] bcast_S_S832x11008 (constantI S_ 32 1#32)))) (Host.shli (shapeCast _ (extractStridedSlice S832x1x11008 ![0, 2, 0] (bits3 q) slices_S832x3x11008_S832x1x11008_0_2_0) shapeCasts_S832x1x11008_S832x11008) (broadcastInDim S832x11008 ![] bcast_S_S832x11008 (constantI S_ 32 2#32))))) (broadcastInDim S832x11008 ![] bcast_S_S832x11008 (constant S_ .bf16 0x4080#16))

theorem codes3_at (q : S545x11008.Idx → BitVec 32) (i : S832x11008.Idx) :
    codes3 q i = (((orBits (fun k => bitAt (colAt q 449 (i 1).val) ((i 0).val * 3 + k)) (3 - 1)).toNat : ℝ) : EReal) - Ideal.ofBits .bf16 0x4080#16 := by
  unfold codes3
  pointwise
  simp only [bits3_at, shl_1, shl_2, shl_3, shl_4, shl_5, shl_6, shl_7]
  rfl

theorem codes3_val (q : S545x11008.Idx → BitVec 32) (i : S832x11008.Idx) (r j : ℕ) (h0 : (i 0).val = r) (h1 : (i 1).val = j) :
    codes3 q i = (((orBits (fun k => bitAt (colAt q 449 j) (r * 3 + k)) (3 - 1)).toNat : ℝ) : EReal) - Ideal.ofBits .bf16 0x4080#16 := by
  subst h0 h1
  exact codes3_at q i

/-! ### The rows of 2 bits -/

def bits2 (q : S545x11008.Idx → BitVec 32) : S288x2x11008.Idx → BitVec 32 :=
  shapeCast _ (andi (Host.shrui (broadcastInDim S18x32x11008 ![0, 1, 2] bcast_S18x1x11008_S18x32x11008_0_1_2 (broadcastInDim S18x1x11008 ![0, 2] bcast_S18x11008_S18x1x11008_0_2 (extractStridedSlice S18x11008 ![527, 0] q slices_S545x11008_S18x11008_527_0))) (broadcastInDim S18x32x11008 ![0, 1, 2] bcast_S1x32x1_S18x32x11008_0_1_2 (broadcastInDim S1x32x1 ![1] bcast_S32_S1x32x1_1 (iotaInDim S32 32 0)))) (broadcastInDim S18x32x11008 ![] bcast_S_S18x32x11008 (constantI S_ 32 1#32))) shapeCasts_S18x32x11008_S288x2x11008

theorem bits2_at (q : S545x11008.Idx → BitVec 32) (i : S288x2x11008.Idx) :
    bits2 q i = bitAt (colAt q 527 (i 2).val) ((i 0).val * 2 + (i 1).val) := by
  have h0 : (i 0).val < 288 := (i 0).isLt
  have h1 : (i 1).val < 2 := (i 1).isLt
  have hw : ((i 0).val * 2 + (i 1).val) / 32 < 18 := by omega
  have hs : ((i 0).val * 2 + (i 1).val) % 32 < 32 := by omega
  unfold bits2
  refine (Idealize.ShloMosaic.shapeCast_apply _ _ i (ix3 (⟨((i 0).val * 2 + (i 1).val) / 32, hw⟩ : Fin 18) (⟨((i 0).val * 2 + (i 1).val) % 32, hs⟩ : Fin 32) (i 2)) ?_).trans ?_
  · rw [Shape.rowMajor_val_three, Shape.rowMajor_val_three]
    show (((i 0).val * 2 + (i 1).val) / 32 * 32 + ((i 0).val * 2 + (i 1).val) % 32) * 11008 + (i 2).val = ((i 0).val * 2 + (i 1).val) * 11008 + (i 2).val
    rw [Nat.div_add_mod']
  pointwise
  exact bit_eq q 527 _ _ _ rfl rfl

def codes2 (q : S545x11008.Idx → BitVec 32) : FVec Ideal S288x11008 .bf16 :=
  subf (uitofp .bf16 (ori (shapeCast _ (extractStridedSlice S288x1x11008 ![0, 0, 0] (bits2 q) slices_S288x2x11008_S288x1x11008_0_0_0) shapeCasts_S288x1x11008_S288x11008) (Host.shli (shapeCast _ (extractStridedSlice S288x1x11008 ![0, 1, 0] (bits2 q) slices_S288x2x11008_S288x1x11008_0_1_0) shapeCasts_S288x1x11008_S288x11008) (broadcastInDim S288x11008 ![] bcast_S_S288x11008 (constantI S_ 32 1#32))))) (broadcastInDim S288x11008 ![] bcast_S_S288x11008 (constant S_ .bf16 0x4000#16))

theorem codes2_at (q : S545x11008.Idx → BitVec 32) (i : S288x11008.Idx) :
    codes2 q i = (((orBits (fun k => bitAt (colAt q 527 (i 1).val) ((i 0).val * 2 + k)) (2 - 1)).toNat : ℝ) : EReal) - Ideal.ofBits .bf16 0x4000#16 := by
  unfold codes2
  pointwise
  simp only [bits2_at, shl_1, shl_2, shl_3, shl_4, shl_5, shl_6, shl_7]
  rfl

theorem codes2_val (q : S545x11008.Idx → BitVec 32) (i : S288x11008.Idx) (r j : ℕ) (h0 : (i 0).val = r) (h1 : (i 1).val = j) :
    codes2 q i = (((orBits (fun k => bitAt (colAt q 527 j) (r * 2 + k)) (2 - 1)).toNat : ℝ) : EReal) - Ideal.ofBits .bf16 0x4000#16 := by
  subst h0 h1
  exact codes2_at q i

/-! ### All rows -/

/-- The decoded codes, in the packed matrix's row order. -/
def refCodes (q : S545x11008.Idx → BitVec 32) : FVec Ideal S4096x11008 .bf16 :=
  concatenate S4096x11008 0 [⟨S160x11008, codes8 q⟩, ⟨S480x11008, codes6 q⟩, ⟨S864x11008, codes5 q⟩, ⟨S1472x11008, codes4 q⟩, ⟨S832x11008, codes3 q⟩, ⟨S288x11008, codes2 q⟩] concatenates_S160x11008_S480x11008_S864x11008_S1472x11008_S832x11008_S288x11008_S4096x11008_d0

theorem mid8 : Ideal.ofBits .bf16 0x4300#16 = (((2 ^ (8 - 1) : ℕ) : ℝ) : EReal) := by
  simp [Ideal.ofBits, Ideal.ieee, -EReal.coe_mul]

theorem mid6 : Ideal.ofBits .bf16 0x4200#16 = (((2 ^ (6 - 1) : ℕ) : ℝ) : EReal) := by
  simp [Ideal.ofBits, Ideal.ieee, -EReal.coe_mul]; norm_num

theorem mid5 : Ideal.ofBits .bf16 0x4180#16 = (((2 ^ (5 - 1) : ℕ) : ℝ) : EReal) := by
  simp [Ideal.ofBits, Ideal.ieee, -EReal.coe_mul]; norm_num

theorem mid4 : Ideal.ofBits .bf16 0x4100#16 = (((2 ^ (4 - 1) : ℕ) : ℝ) : EReal) := by
  simp [Ideal.ofBits, Ideal.ieee, -EReal.coe_mul]; norm_num

theorem mid3 : Ideal.ofBits .bf16 0x4080#16 = (((2 ^ (3 - 1) : ℕ) : ℝ) : EReal) := by
  simp [Ideal.ofBits, Ideal.ieee, -EReal.coe_mul]; norm_num

theorem mid2 : Ideal.ofBits .bf16 0x4000#16 = (((2 ^ (2 - 1) : ℕ) : ℝ) : EReal) := by
  simp [Ideal.ofBits, Ideal.ieee, -EReal.coe_mul]; norm_num

theorem refCodes_at (q : S545x11008.Idx → BitVec 32) (y : S4096x11008.Idx) :
    refCodes q y = (((orBits (fun k => bitAt (colAt q (wordOf (y 0).val) (y 1).val) (((y 0).val - rowOf (y 0).val) * bitsOf (y 0).val + k)) (bitsOf (y 0).val - 1)).toNat : ℝ) : EReal)
      - (((2 ^ (bitsOf (y 0).val - 1) : ℕ) : ℝ) : EReal) := by
  have hlt : (y 0).val < 4096 := (y 0).isLt
  pointwise [refCodes]

  by_cases h0 : (y 0).val < 160
  · rw [dif_pos h0]
    have e1 : bitsOf (y 0).val = 8 := by unfold bitsOf; (repeat' split) <;> omega
    have e2 : (y 0).val - rowOf (y 0).val = (y 0).val := by unfold rowOf; (repeat' split) <;> omega
    have e3 : wordOf (y 0).val = 0 := by unfold wordOf; (repeat' split) <;> omega
    rw [e1, e2, e3, ← mid8]
    exact codes8_val q _ ((y 0).val) (y 1).val rfl rfl
  rw [dif_neg h0]
  by_cases h1 : (y 0).val - 160 < 480
  · rw [dif_pos h1]
    have e1 : bitsOf (y 0).val = 6 := by unfold bitsOf; (repeat' split) <;> omega
    have e2 : (y 0).val - rowOf (y 0).val = (y 0).val - 160 := by unfold rowOf; (repeat' split) <;> omega
    have e3 : wordOf (y 0).val = 40 := by unfold wordOf; (repeat' split) <;> omega
    rw [e1, e2, e3, ← mid6]
    exact codes6_val q _ ((y 0).val - 160) (y 1).val rfl rfl
  rw [dif_neg h1]
  by_cases h2 : (y 0).val - 160 - 480 < 864
  · rw [dif_pos h2]
    have e1 : bitsOf (y 0).val = 5 := by unfold bitsOf; (repeat' split) <;> omega
    have e2 : (y 0).val - rowOf (y 0).val = (y 0).val - 160 - 480 := by unfold rowOf; (repeat' split) <;> omega
    have e3 : wordOf (y 0).val = 130 := by unfold wordOf; (repeat' split) <;> omega
    rw [e1, e2, e3, ← mid5]
    exact codes5_val q _ ((y 0).val - 160 - 480) (y 1).val rfl rfl
  rw [dif_neg h2]
  by_cases h3 : (y 0).val - 160 - 480 - 864 < 1472
  · rw [dif_pos h3]
    have e1 : bitsOf (y 0).val = 4 := by unfold bitsOf; (repeat' split) <;> omega
    have e2 : (y 0).val - rowOf (y 0).val = (y 0).val - 160 - 480 - 864 := by unfold rowOf; (repeat' split) <;> omega
    have e3 : wordOf (y 0).val = 265 := by unfold wordOf; (repeat' split) <;> omega
    rw [e1, e2, e3, ← mid4]
    exact codes4_val q _ ((y 0).val - 160 - 480 - 864) (y 1).val rfl rfl
  rw [dif_neg h3]
  by_cases h4 : (y 0).val - 160 - 480 - 864 - 1472 < 832
  · rw [dif_pos h4]
    have e1 : bitsOf (y 0).val = 3 := by unfold bitsOf; (repeat' split) <;> omega
    have e2 : (y 0).val - rowOf (y 0).val = (y 0).val - 160 - 480 - 864 - 1472 := by unfold rowOf; (repeat' split) <;> omega
    have e3 : wordOf (y 0).val = 449 := by unfold wordOf; (repeat' split) <;> omega
    rw [e1, e2, e3, ← mid3]
    exact codes3_val q _ ((y 0).val - 160 - 480 - 864 - 1472) (y 1).val rfl rfl
  rw [dif_neg h4]
  have e1 : bitsOf (y 0).val = 2 := by unfold bitsOf; (repeat' split) <;> omega
  have e2 : (y 0).val - rowOf (y 0).val = (y 0).val - 160 - 480 - 864 - 1472 - 832 := by unfold rowOf; (repeat' split) <;> omega
  have e3 : wordOf (y 0).val = 527 := by unfold wordOf; (repeat' split) <;> omega
  rw [e1, e2, e3, ← mid2]
  exact codes2_val q _ ((y 0).val - 160 - 480 - 864 - 1472 - 832) (y 1).val rfl rfl

end Cert.Proof

end
-- ==== Proof.Weights.lean ====
/-
  The kernel's weight matrix and the reference's: the kernel puts packed row `r` at row `perm r` and multiplies with the
  normalised rows as they are; the reference keeps the packed order and gathers the normalised rows by `perm`.
-/
module

public import proofs.«01_k».proof.Proof.RefCodes

@[expose] public section

noncomputable section

namespace Cert.Proof

open Idealize.ShloMosaic Idealize.ShloMosaic.TcCoe

set_option maxRecDepth 16384

/-! ### The kernel's weights -/

/-- Row `p` of the kernel's weights, where `p` is the place of packed row `r`. -/
theorem wAt_entry (X : Cert.Kernel.S4096.Idx → BitVec 32) (q : Cert.Kernel.S545x11008.Idx → BitVec 32) (Tl : Cert.Kernel.S8x11008.Idx → BitVec 32)
    (Sc : FVec Ideal Cert.Kernel.S128x11008 .bf16) (hT : ∀ w j, w < 545 → word (F := Ideal) q Tl w j = q (at2 p545 ![w, j])) (r : Fin 4096) (p : ℕ)
    (j : Fin 11008) (ht : tab X p = entry r) :
    wAt (F := Ideal) X q Tl Sc p j.val = refCodes q (ix2 r j) * Sc (at2 p128 ![r.val / 32, j.val]) := by
  obtain ⟨e1, e2, -, hw⟩ := entry_rows r
  obtain ⟨-, -, -, -, -, hb, hb8, -, e3⟩ := entry_fields r
  have a1 : Cert.Kernel.k1_off410 (entry r.val) 0 = w0Of r.val := congrFun e1 0
  have a2 : Cert.Kernel.k1_off411 (entry r.val) 0 = w0Of r.val + strOf r.val := congrFun e2 0
  unfold wAt
  rw [ht, a1, a2, e3, tr_eq, widen_eq, cell_eq, hT _ _ (by omega), hT _ _ hw]
  have hJ := joinBits_eq (colAt q (wordOf r.val) j.val) ((r.val - rowOf r.val) * bitsOf r.val) (bitsOf r.val) hb hb8
  have hJ' : joinBits (q (at2 p545 ![w0Of r.val, j.val])) (q (at2 p545 ![w0Of r.val + strOf r.val, j.val])) (sOf r.val) (bitsOf r.val)
      = orBits (fun k => bitAt (colAt q (wordOf r.val) j.val) ((r.val - rowOf r.val) * bitsOf r.val + k)) (bitsOf r.val - 1) := by
    rw [← hJ]
    unfold colAt w0Of strOf sOf
    rw [Nat.add_assoc]
  rw [hJ', toInt_sub_mid _ _ hb hb8 (orBits_lt _ _ _ hb hb8), refCodes_at]
  push_cast
  rfl

/-! ### The reference's gather -/

open Cert.ReferenceIdeal Cert.ReferenceIdeal.Gen

theorem gather_at (N : FVec Ideal S4x2048x4096 .bf16) (P : S4096.Idx → BitVec 32) (y : S4x2048x4096.Idx) (h : (P (ix (y 2).val)).toNat < 4096) :
    Host.gather gather_S4x2048x4096_S4096x1_S4x2048x4096_01_2_n_n_2_1_420481 N (broadcastInDim S4096x1 ![0] bcast_S4096_S4096x1_0 P) y
      = N (ix3 (y 0) (y 1) (⟨(P (ix (y 2).val)).toNat, h⟩ : Fin 4096)) := by
  unfold Host.gather
  congr 1
  funext a
  refine Fin.ext ?_
  show gather_S4x2048x4096_S4096x1_S4x2048x4096_01_2_n_n_2_1_420481.start y _ a + gather_S4x2048x4096_S4096x1_S4x2048x4096_01_2_n_n_2_1_420481.batchCoord y a
    + gather_S4x2048x4096_S4096x1_S4x2048x4096_01_2_n_n_2_1_420481.offCoord y a = _
  rw [GatherDims.batchCoord_eq_zero _ _ _ List.not_mem_nil]
  match a with
  | 0 =>
    unfold GatherDims.start
    rw [dif_neg (by decide)]
    unfold GatherDims.offCoord
    rw [dif_pos (by decide)]
    simp only [Nat.zero_add]
    rfl
  | 1 =>
    unfold GatherDims.start
    rw [dif_neg (by decide)]
    unfold GatherDims.offCoord
    rw [dif_pos (by decide)]
    simp only [Nat.zero_add]
    rfl
  | 2 =>
    rw [GatherDims.offCoord_eq_zero _ _ _ (fun h => ((GatherDims.mem_sKept _ _).mp h).1 (List.mem_singleton.mpr rfl))]
    unfold GatherDims.start
    rw [dif_pos (show (2 : Fin 3) ∈ gather_S4x2048x4096_S4096x1_S4x2048x4096_01_2_n_n_2_1_420481.startIndexMap from List.mem_singleton.mpr rfl)]
    have hsi : gather_S4x2048x4096_S4096x1_S4x2048x4096_01_2_n_n_2_1_420481.siIdx y
        ⟨List.idxOf (2 : Fin 3) gather_S4x2048x4096_S4096x1_S4x2048x4096_01_2_n_n_2_1_420481.startIndexMap,
          List.idxOf_lt_length_iff.2 (List.mem_singleton.mpr rfl)⟩ = (ix2 (y 2) (0 : Fin 1) : S4096x1.Idx) := by
      funext b; refine Fin.ext ?_
      match b with
      | 0 => rfl
      | 1 => rfl
    rw [hsi]
    have hP : broadcastInDim S4096x1 ![0] bcast_S4096_S4096x1_0 P (ix2 (y 2) (0 : Fin 1) : S4096x1.Idx) = P (ix (y 2).val) := by
      pointwise
      refine congrArg P (funext fun a => Fin.ext ?_)
      match a with
      | 0 => exact (Nat.mod_eq_of_lt (y 2).isLt).symm
    rw [hP]
    show min (P (ix (y 2).val)).toInt.toNat 4095 + 0 + 0 = (P (ix (y 2).val)).toNat
    have hi : (P (ix (y 2).val)).toInt = ((P (ix (y 2).val)).toNat : ℤ) := by
      rw [BitVec.toInt_eq_toNat_cond, if_pos (by omega)]
    rw [hi, Int.toNat_natCast]; omega

theorem dot_at (N : FVec Ideal S4x2048x4096 .bf16) (W : FVec Ideal S4096x11008 .bf16) (y : S4x2048x11008.Idx) :
    (Host.dotGeneral dot_S4x2048x4096_S4096x11008_S4x2048x11008_2_0_01_1_n_n none N W : FVec Ideal S4x2048x11008 .f32) y
      = ∑ k : Fin 4096, N (ix3 (y 0) (y 1) k) * W (ix2 k (y 2)) := by
  pointwise

/-- The reference's weights. -/
def refW (q : S545x11008.Idx → BitVec 32) (Sc : FVec Ideal S128x11008 .bf16) : FVec Ideal S4096x11008 .bf16 :=
  mulf (refCodes q) (shapeCast _ (broadcastInDim S128x32x11008 ![0, 2] bcast_S128x11008_S128x32x11008_0_2 Sc) shapeCasts_S128x32x11008_S4096x11008)

theorem refW_at (q : S545x11008.Idx → BitVec 32) (Sc : FVec Ideal S128x11008 .bf16) (r : Fin 4096) (j : Fin 11008) :
    refW q Sc (ix2 r j) = refCodes q (ix2 r j) * Sc (at2 p128 ![r.val / 32, j.val]) := by
  pointwise [refW]
  rw [at2_of p128 ![r.val / 32, j.val] (ix2 (⟨r.val / 32, by omega⟩ : Fin 128) j) (fun a => by
    match a with
    | 0 => rfl
    | 1 => rfl)]

end Cert.Proof

end
-- ==== Proof.Equation.lean ====
/-
  The kernel's results at the ideal instance are the reference's, element by element: the reshapes between 4 × 2048 rows and
  8192 rows name the same elements, and the product's sums run over the same terms, in the order of the columns of the
  normalised rows in the kernel, in the order of the packed rows in the reference.
-/
module

public import proofs.«01_k».proof.Proof.Weights

@[expose] public section

noncomputable section

namespace Cert.Proof

open Idealize.ShloMosaic Idealize.ShloMosaic.TcCoe

set_option maxRecDepth 16384

section Reference

open Cert.ReferenceIdeal Cert.ReferenceIdeal.Gen

variable (x r : FVec Ideal S4x2048x4096 .bf16) (g : FVec Ideal S4096 .f32)

/-- The reference's second result, as its operations compose it; -/
def refH : FVec Ideal S4x2048x4096 .bf16 := truncf .bf16 (addf (extf .f32 x bitsLt_bf16_f32) (extf .f32 r bitsLt_bf16_f32)) bitsLt_bf16_f32

/-- its normalised rows; -/
def refN : FVec Ideal S4x2048x4096 .bf16 := (truncf .bf16 (mulf (mulf (extf .f32 (refH x r) bitsLt_bf16_f32) (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf (extf .f32 (refH x r) bitsLt_bf16_f32) (extf .f32 (refH x r) bitsLt_bf16_f32)) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 g))) bitsLt_bf16_f32)

/-- rows times weights, rounded; -/
def refDot (N : FVec Ideal S4x2048x4096 .bf16) (W : FVec Ideal S4096x11008 .bf16) : FVec Ideal S4x2048x11008 .bf16 :=
  truncf .bf16 (Host.dotGeneral dot_S4x2048x4096_S4096x11008_S4x2048x11008_2_0_01_1_n_n none N W : FVec Ideal S4x2048x11008 .f32) bitsLt_bf16_f32

/-- and its first result. -/
def refY (P : S4096.Idx → BitVec 32) (q : S545x11008.Idx → BitVec 32) (Sc : FVec Ideal S128x11008 .bf16) : FVec Ideal S4x2048x11008 .bf16 :=
  refDot (Host.gather gather_S4x2048x4096_S4096x1_S4x2048x4096_01_2_n_n_2_1_420481 (refN x r g) (broadcastInDim S4096x1 ![0] bcast_S4096_S4096x1_0 P)) (refW q Sc)

/-- Gathered rows times the weights in packed order are the rows times the weights put in place. -/
theorem dot_perm (N : FVec Ideal S4x2048x4096 .bf16) (P : S4096.Idx → BitVec 32) (hP : Perm P) (q : S545x11008.Idx → BitVec 32)
    (Tl : Cert.Kernel.S8x11008.Idx → BitVec 32) (Sc : FVec Ideal S128x11008 .bf16)
    (hT : ∀ w j, w < 545 → word (F := Ideal) q Tl w j = q (at2 p545 ![w, j])) :
    refDot N (fun j => wAt (F := Ideal) P q Tl Sc (j 0).val (j 1).val)
      = refDot (Host.gather gather_S4x2048x4096_S4096x1_S4x2048x4096_01_2_n_n_2_1_420481 N (broadcastInDim S4096x1 ![0] bcast_S4096_S4096x1_0 P)) (refW q Sc) := by
  unfold refDot
  refine congrArg (fun v : FVec Ideal S4x2048x11008 .f32 => truncf .bf16 v bitsLt_bf16_f32) (funext fun y => ?_)
  rw [dot_at, dot_at]
  let σ : Fin 4096 → Fin 4096 := fun k => ⟨(P (ix k.val)).toNat, hP.lt k.val k.isLt⟩
  have hσ : Function.Injective σ := fun a b h => Fin.ext (hP.inj a.val a.isLt b.val b.isLt (congrArg (fun f : Fin 4096 => f.val) h))
  have hb : Function.Bijective σ := Finite.injective_iff_bijective.mp hσ
  refine (Function.Bijective.sum_comp hb (fun k : Fin 4096 => N (ix3 (y 0) (y 1) k) * (fun j : S4096x11008.Idx => wAt (F := Ideal) P q Tl Sc (j 0).val (j 1).val) (ix2 k (y 2)))).symm.trans ?_
  refine Finset.sum_congr rfl fun k _ => ?_
  obtain ⟨r', hr', hr, ht⟩ := tab_entry (X := P) hP.sur (σ k).isLt
  have hk : r' = k.val := hP.inj r' hr' k.val k.isLt hr
  subst hk
  have e1 : Host.gather gather_S4x2048x4096_S4096x1_S4x2048x4096_01_2_n_n_2_1_420481 N (broadcastInDim S4096x1 ![0] bcast_S4096_S4096x1_0 P) (ix3 (y 0) (y 1) k)
      = N (ix3 (y 0) (y 1) (σ k)) := gather_at N P (ix3 (y 0) (y 1) k) (hP.lt k.val k.isLt)
  have e2 : wAt (F := Ideal) P q Tl Sc (σ k).val (y 2).val = refW q Sc (ix2 k (y 2)) :=
    (wAt_entry P q Tl Sc hT k (σ k).val (y 2) ht).trans (refW_at q Sc k (y 2)).symm
  exact (congrArg (N (ix3 (y 0) (y 1) (σ k)) * ·) e2).trans (congrArg (· * refW q Sc (ix2 k (y 2))) e1.symm)

open Cert.ReferenceIdeal.Value Idealize.ShloMosaic.StableHlo

/-- The codes in the reference's run are these, -/
theorem codes_run (m' : (ℓ : Loc Cert.ReferenceIdeal.nD Cert.ReferenceIdeal.τ Cert.ReferenceIdeal.sig) → Buf (Elt Ideal) ℓ) (c : Dev Cert.ReferenceIdeal.nD) :
    res_main_v219 (launchContents m' c) = refCodes (m' ((c.tc : Thread Cert.ReferenceIdeal.nD Cert.ReferenceIdeal.τ).loc main_arg4)) := by
  unfold res_main_v219 res_main_v28 res_main_v78 res_main_v118 res_main_v153 res_main_v183 res_main_v208
  unfold refCodes codes8 codes6 codes5 codes4 codes3 codes2 bits8 bits6 bits5 bits4 bits3 bits2
  rfl

/-- and the widened sums. -/
theorem sums_run (m' : (ℓ : Loc Cert.ReferenceIdeal.nD Cert.ReferenceIdeal.τ Cert.ReferenceIdeal.sig) → Buf (Elt Ideal) ℓ) (c : Dev Cert.ReferenceIdeal.nD) :
    res_main_v4 (launchContents m' c) = extf .f32 (refH (m' ((c.tc : Thread Cert.ReferenceIdeal.nD Cert.ReferenceIdeal.τ).loc main_arg0))
      (m' ((c.tc : Thread Cert.ReferenceIdeal.nD Cert.ReferenceIdeal.τ).loc main_arg1))) bitsLt_bf16_f32 := by
  unfold res_main_v4 refH
  rfl

end Reference

open Cert.Kernel Cert.Kernel.Gen

theorem h_eq (x r : FVec Ideal S4x2048x4096 .bf16) :
    shapeCast S4x2048x4096 (hVal (shapeCast S8192x4096 x shapeCasts_S4x2048x4096_S8192x4096) (shapeCast S8192x4096 r shapeCasts_S4x2048x4096_S8192x4096)) shapeCasts_S8192x4096_S4x2048x4096
      = refH x r := by
  funext j
  pointwise [hVal, refH]

theorem y_eq (x r : FVec Ideal S4x2048x4096 .bf16) (g : FVec Ideal S4096 .f32) (w : FVec Ideal S4096x11008 .bf16) :
    shapeCast S4x2048x11008 (yVal (nVal (shapeCast S8192x4096 x shapeCasts_S4x2048x4096_S8192x4096)
        (shapeCast S8192x4096 r shapeCasts_S4x2048x4096_S8192x4096) (shapeCast S1x4096 g shapeCasts_S4096_S1x4096)) w) shapeCasts_S8192x11008_S4x2048x11008
      = refDot (refN x r g) w := by
  funext j
  pointwise [yVal, nVal, hVal, refDot, refN, refH]

variable (m : (ℓ : Loc nD τ sig) → Buf (Elt Ideal) ℓ) (c : Dev nD)

theorem W1_v0 : W1 m c main_v0 = shapeCast S8192x4096 (m ((c : Thread nD τ).loc main_arg0)) shapeCasts_S4x2048x4096_S8192x4096 := by
  show StableHlo.after hostOps0 (V0 m c) main_v0 = _
  after_results; rfl
theorem W1_v1 : W1 m c main_v1 = shapeCast S8192x4096 (m ((c : Thread nD τ).loc main_arg1)) shapeCasts_S4x2048x4096_S8192x4096 := by
  show StableHlo.after hostOps0 (V0 m c) main_v1 = _
  after_results; rfl
theorem W1_v2 : W1 m c main_v2 = shapeCast S1x4096 (m ((c : Thread nD τ).loc main_arg2)) shapeCasts_S4096_S1x4096 := by
  show StableHlo.after hostOps0 (V0 m c) main_v2 = _
  after_results; rfl

/-- The last packed row, padded to eight. -/
def tail (q : S545x11008.Idx → BitVec 32) : S8x11008.Idx → BitVec 32 :=
  pad S8x11008 ![0, 0] ![7, 0] ![0, 0] (extractStridedSlice S1x11008 ![544, 0] q slices_S545x11008_S1x11008_544_0) (constantI S_ 32 0#32) pads_S1x11008_S8x11008_070_000 h_S_

theorem tail_at (q : S545x11008.Idx → BitVec 32) (j : ℕ) : tail q (at2 p8w ![0, j]) = q (at2 p545 ![544, j]) := by
  pointwise [tail]
  rw [dif_pos (show (at2 p8w ![0, j] 0).val < 1 from Nat.one_pos)]
  refine congrArg q (funext fun a => ?_)
  match a with
  | 0 => rfl
  | 1 => rfl

theorem word_tail (q : S545x11008.Idx → BitVec 32) (w j : ℕ) (hw : w < 545) : word (F := Ideal) q (tail q) w j = q (at2 p545 ![w, j]) := by
  unfold word
  split
  · rfl
  · obtain rfl : w = 544 := by omega
    exact tail_at q j

theorem W3_v5 : W3 m c main_v5 = tail (m ((c : Thread nD τ).loc main_arg4)) := by
  unfold W3
  after_results
  rw [show W2 m c (Proc.devRef .tc main_arg4) = m ((c : Thread nD τ).loc main_arg4) from
    (W2_of m c main_arg4 (by decide) (by decide)).trans ((V1_of m c main_arg4 (by decide)).trans rfl)]
  rfl

/-- The kernel's second result is the reference's, -/
theorem hRes_eq : hRes m c = refH (m ((c : Thread nD τ).loc main_arg0)) (m ((c : Thread nD τ).loc main_arg1)) := by
  unfold hRes hArr
  rw [arr_h, W1_v0, W1_v1]
  exact h_eq _ _

/-- and its first is the reference's. -/
theorem yRes_eq (hP : Perm (m ((c : Thread nD τ).loc main_arg3))) : yRes m c = refY (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  unfold yRes yArr
  rw [arr_y, W4_of m c main_v3_1 (by decide), W3_of m c main_v3_1 (by decide) (by decide), W2_v3_1, W4_v6]
  unfold nArr wArr
  rw [arr_n, arr_w, W1_v0, W1_v1, W1_v2]
  unfold pV qV tV sV
  rw [W3_v5, W3_arg m c main_arg3 (by decide) (by decide) (by decide) (by decide) (by decide),
    W3_arg m c main_arg4 (by decide) (by decide) (by decide) (by decide) (by decide),
    W3_arg m c main_arg5 (by decide) (by decide) (by decide) (by decide) (by decide)]
  refine (y_eq _ _ _ _).trans ?_
  exact dot_perm _ _ hP _ _ _ fun w j hw => word_tail _ w j hw

end Cert.Proof

end
-- ==== Proof.lean ====
/-
  The proof of `Cert.Claim` (proofs.«01_k».proof.Defs). The two kernel programs are printed with one text: the run theorem
  (Proof/Run.lean) is proved once over any float values, and carried over. At bit patterns it is taken with the product's
  contents unnamed; at the ideal instance with every result named, and the results are the reference's (Proof/Equation.lean).
  The precondition, that the index vector sorts to 0, 1, 2, …, says that it is a permutation.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Equation
public import Idealize.ShloMosaic.Lib.SortFacts
public import Idealize.ShloMosaic.Lib.Tactic
public import Idealize.ShloMosaic.Adequacy
public import Idealize.ShloMosaic.Init

@[expose] public section

noncomputable section

namespace Cert.Proof

open Idealize.ShloMosaic Idealize.ShloMosaic.TcCoe Idealize.SL.Sem

/-! ## One text, two programs -/

section Same

attribute [local instance] Cert.Kernel.Gen.facts Cert.KernelIdeal.Gen.facts

variable {F : FTy → Type} [FloatOps F]

theorem defs₀_eq : Cert.KernelIdeal.defs₀ (F := F) = Cert.Kernel.defs₀ (F := F) := by
  unfold Cert.KernelIdeal.defs₀ Cert.Kernel.defs₀
  refine congrArg Defs.onTc (funext fun l => funext fun a => ?_)
  match l, a with
  | 0, (t, s) => rfl
  | 1, (t, s) => sl_kernel_rfl
  | 2, (t, s) => rfl
theorem defs_eq : Cert.KernelIdeal.defs (F := F) = Cert.Kernel.defs (F := F) := by
  unfold Cert.KernelIdeal.defs Cert.Kernel.defs
  rw [defs₀_eq]; rfl
theorem main_eq : Cert.KernelIdeal.main (F := F) = Cert.Kernel.main (F := F) := by
  sl_kernel_rfl

end Same

/-! ## The precondition -/

/-- The precondition holds: the class it takes as an instance has no fields. -/
theorem pre_facts : Cert.Pre_perm_is_permutation.Facts := ⟨⟩

/-- An index vector that sorts to 0, 1, 2, … is a permutation. -/
theorem perm_of_pre {F : FTy → Type} [FloatOps F] [Cert.Pre_perm_is_permutation.Facts] (a0 a1 : FVec F Cert.Pre_perm_is_permutation.S4x2048x4096 .bf16)
    (a2 : FVec F Cert.Pre_perm_is_permutation.S4096 .f32) (P : Cert.Kernel.S4096.Idx → BitVec 32) (a4 : IVec Cert.Pre_perm_is_permutation.S545x11008 32)
    (a5 : FVec F Cert.Pre_perm_is_permutation.S128x11008 .bf16)
    (h : Cert.Pre_perm_is_permutation.fn (F := F) a0 a1 a2 P a4 a5 = fun _ => 1#1) : Perm P := by
  have hs : ∀ j, Host.sort ⟨1, ![4096]⟩ 0 Cert.Pre_perm_is_permutation.comparator_i32_d0 P j = iotaInDim ⟨1, ![4096]⟩ 32 0 j := by
    intro j
    have e : IntOp.cmpi .eq (Host.sort ⟨1, ![4096]⟩ 0 Cert.Pre_perm_is_permutation.comparator_i32_d0 P j) (iotaInDim ⟨1, ![4096]⟩ 32 0 j) = 1#1 := congrFun h j
    by_contra hn
    generalize Host.sort ⟨1, ![4096]⟩ 0 Cert.Pre_perm_is_permutation.comparator_i32_d0 P j = u at e hn
    generalize iotaInDim ⟨1, ![4096]⟩ 32 0 j = w at e hn
    simp [IntOp.cmpi, beq_eq_false_iff_ne.mpr hn] at e
  have hinj := injective_toNat_of_sort_eq_iota (n := 4096) (w := 32) (by norm_num) _ P hs
  let σ := sortedFrom (fun k k' : Fin 4096 => Cert.Pre_perm_is_permutation.comparator_i32_d0 (P (Shape.Idx.ofFin k)) (P (Shape.Idx.ofFin k')) == 1#1)
  have hσ : ∀ k : Fin 4096, (P (Shape.Idx.ofFin (σ k))).toNat = k.val := by
    intro k
    have e := hs (Shape.Idx.ofFin k)
    rw [Host.sort_rank1] at e
    have e' : P (Shape.Idx.ofFin (σ k)) = BitVec.ofNat 32 k.val := by simpa [iotaInDim] using e
    rw [e', BitVec.toNat_ofNat]
    exact Nat.mod_eq_of_lt (by have := k.isLt; omega)
  have hix : ∀ k : Fin 4096, (Shape.Idx.ofFin k : (⟨1, ![4096]⟩ : Shape).Idx) = ix k.val := by
    intro k; funext a; refine Fin.ext ?_
    rw [Subsingleton.elim a (0 : Fin 1)]
    exact (Nat.mod_eq_of_lt k.isLt).symm
  refine ⟨fun r hr => ?_, fun r hr r' hr' e => ?_, fun p hp => ⟨(σ ⟨p, hp⟩).val, (σ ⟨p, hp⟩).isLt, ?_⟩⟩
  · obtain ⟨k, hk⟩ := sortedFrom_surjective (fun k k' : Fin 4096 => Cert.Pre_perm_is_permutation.comparator_i32_d0 (P (Shape.Idx.ofFin k)) (P (Shape.Idx.ofFin k')) == 1#1) ⟨r, hr⟩
    have := hσ k
    rw [show σ k = ⟨r, hr⟩ from hk, hix] at this
    rw [this]; exact k.isLt
  · have := congrFun (hinj (a₁ := ix r) (a₂ := ix r') e) (0 : Fin 1)
    have e2 : r % 4096 = r' % 4096 := congrArg (fun f : Fin 4096 => f.val) this
    rwa [Nat.mod_eq_of_lt hr, Nat.mod_eq_of_lt hr'] at e2
  · rw [← hix]; exact hσ ⟨p, hp⟩

/-! ## The claims -/

section Claims

attribute [local instance] pre_facts

theorem frame_kernel : Cert.quiescent_Kernel (hKernel := Cert.Kernel.Gen.facts) := fun m ρ hm =>
  (θ_run Cert.Kernel.defs _ _).mono (fun _ h => ⟨fun c => (h.1 c).1, h.2⟩)
    (run (F := Bits) m ρ true (fun c => perm_of_pre _ _ _ _ _ _ (hm c)) fun c => body2_forget _ c)

/-- The ideal program's run, every result named. -/
theorem run_ideal (m : (ℓ : Loc Cert.Kernel.nD Cert.Kernel.τ Cert.Kernel.sig) → Buf (Elt Ideal) ℓ) (ρ : Dev Cert.Kernel.nD → PrngReg)
    (hP : ∀ c : Dev Cert.Kernel.nD, Perm (m ((c : Thread Cert.Kernel.nD Cert.Kernel.τ).loc Cert.Kernel.main_arg3))) :
    θ_run (Cert.KernelIdeal.defs (F := Ideal)) (onTc (τ := Cert.KernelIdeal.τ) (Cert.KernelIdeal.main (F := Ideal))) ⟨m, fun _ => 0, ρ⟩
      (fun r => (∀ c : Dev Cert.Kernel.nD, Post m false c r.2) ∧ r.2.sem = fun _ => 0) := by
  have h := run (F := Ideal) m ρ false hP fun c => body2_exact _ c (hloc _ c)
  rw [← defs_eq, ← main_eq] at h
  exact h

theorem frame_ideal : Cert.quiescent_KernelIdeal (hKernelIdeal := Cert.KernelIdeal.Gen.facts) := fun m ρ hm =>
  (θ_run Cert.KernelIdeal.defs _ _).mono (fun _ h => ⟨fun c => (h.1 c).1, h.2⟩)
    (run_ideal m ρ fun c => perm_of_pre _ _ _ _ _ _ (hm c))

theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_pre : Cert.quiescent_ReferenceIdeal_pre_perm_is_permutation (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal (hKernelIdeal := Cert.KernelIdeal.Gen.facts)
    (hReferenceIdeal := Cert.ReferenceIdeal.Gen.facts) := by
  intro m ρ m' ρ' hpre hm
  have hP : ∀ c : Dev Cert.Kernel.nD, Perm (m ((c : Thread Cert.Kernel.nD Cert.Kernel.τ).loc Cert.Kernel.main_arg3)) :=
    fun c => perm_of_pre _ _ _ _ _ _ (hpre c)
  refine ⟨fun c => yRes m c, fun c => hRes m c, ?_, ?_⟩
  · exact (θ_run Cert.KernelIdeal.defs _ _).mono (fun _ h c => ⟨(h.1 c).2.2 rfl, (h.1 c).2.1, (h.1 c).1⟩) (run_ideal m ρ hP)
  · refine (θ_run Cert.ReferenceIdeal.defs _ _).mono (fun r h c => ⟨?_, ?_, (h c).2.2⟩) (Cert.ReferenceIdeal.Value.run (F := Ideal) m' ρ')
    · refine (h c).1.trans ?_
      rw [codes_run, sums_run]
      show refY (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
      rw [(hm c).1, (hm c).2.1, (hm c).2.2.1, (hm c).2.2.2.1, (hm c).2.2.2.2.1, (hm c).2.2.2.2.2]
      exact (yRes_eq m c (hP c)).symm
    · refine (h c).2.1.trans ?_
      show refH (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
      rw [(hm c).1, (hm c).2.1]
      exact (hRes_eq m c).symm

/-- Everything claimed. -/
theorem claim : Cert.Claim :=
  ⟨Cert.Kernel.Gen.facts, Cert.KernelIdeal.Gen.facts, Cert.ReferenceIdeal.Gen.facts, pre_facts,
    frame_kernel, frame_ideal, frame_reference, frame_reference_pre, trivial, algebraic⟩

end Claims

end Cert.Proof

end
